-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Forward (m : (ℓ : Loc Cert.Forward.nD Cert.Forward.τ Cert.Forward.sig) → Buf (Elt Bits) ℓ) : Prop :=
  True

def Pre_ForwardIdeal (m : (ℓ : Loc Cert.ForwardIdeal.nD Cert.ForwardIdeal.τ Cert.ForwardIdeal.sig) → Buf (Elt Ideal) ℓ) : Prop :=
  True

def Pre_ForwardIdeal_finite_fwd [hPre_finite_fwd : Cert.Pre_finite_fwd.Facts] (m : (ℓ : Loc Cert.ForwardIdeal.nD Cert.ForwardIdeal.τ Cert.ForwardIdeal.sig) → Buf (Elt Ideal) ℓ) : Prop :=
  ∀ c : Dev Cert.ForwardIdeal.nD,
    (Cert.Pre_finite_fwd.fn (F := Ideal) (m ((c.tc : Thread Cert.ForwardIdeal.nD Cert.ForwardIdeal.τ).loc Cert.ForwardIdeal.main_arg0)) (m ((c.tc : Thread Cert.ForwardIdeal.nD Cert.ForwardIdeal.τ).loc Cert.ForwardIdeal.main_arg1)) (m ((c.tc : Thread Cert.ForwardIdeal.nD Cert.ForwardIdeal.τ).loc Cert.ForwardIdeal.main_arg2)) (m ((c.tc : Thread Cert.ForwardIdeal.nD Cert.ForwardIdeal.τ).loc Cert.ForwardIdeal.main_arg3)) (m ((c.tc : Thread Cert.ForwardIdeal.nD Cert.ForwardIdeal.τ).loc Cert.ForwardIdeal.main_arg4))) = (fun _ => 1#1)

def Pre_ForwardReferenceIdeal (m : (ℓ : Loc Cert.ForwardReferenceIdeal.nD Cert.ForwardReferenceIdeal.τ Cert.ForwardReferenceIdeal.sig) → Buf (Elt Ideal) ℓ) : Prop :=
  True

def Pre_ForwardReferenceIdeal_finite_fwd [hPre_finite_fwd : Cert.Pre_finite_fwd.Facts] (m : (ℓ : Loc Cert.ForwardReferenceIdeal.nD Cert.ForwardReferenceIdeal.τ Cert.ForwardReferenceIdeal.sig) → Buf (Elt Ideal) ℓ) : Prop :=
  ∀ c : Dev Cert.ForwardReferenceIdeal.nD,
    (Cert.Pre_finite_fwd.fn (F := Ideal) (m ((c.tc : Thread Cert.ForwardReferenceIdeal.nD Cert.ForwardReferenceIdeal.τ).loc Cert.ForwardReferenceIdeal.main_arg0)) (m ((c.tc : Thread Cert.ForwardReferenceIdeal.nD Cert.ForwardReferenceIdeal.τ).loc Cert.ForwardReferenceIdeal.main_arg1)) (m ((c.tc : Thread Cert.ForwardReferenceIdeal.nD Cert.ForwardReferenceIdeal.τ).loc Cert.ForwardReferenceIdeal.main_arg2)) (m ((c.tc : Thread Cert.ForwardReferenceIdeal.nD Cert.ForwardReferenceIdeal.τ).loc Cert.ForwardReferenceIdeal.main_arg3)) (m ((c.tc : Thread Cert.ForwardReferenceIdeal.nD Cert.ForwardReferenceIdeal.τ).loc Cert.ForwardReferenceIdeal.main_arg4))) = (fun _ => 1#1)

def Pre_GradFf2 (m : (ℓ : Loc Cert.GradFf2.nD Cert.GradFf2.τ Cert.GradFf2.sig) → Buf (Elt Bits) ℓ) : Prop :=
  True

def Pre_GradFf2Ideal (m : (ℓ : Loc Cert.GradFf2Ideal.nD Cert.GradFf2Ideal.τ Cert.GradFf2Ideal.sig) → Buf (Elt Ideal) ℓ) : Prop :=
  True

def Pre_Ff2ReferenceIdeal (m : (ℓ : Loc Cert.Ff2ReferenceIdeal.nD Cert.Ff2ReferenceIdeal.τ Cert.Ff2ReferenceIdeal.sig) → Buf (Elt Ideal) ℓ) : Prop :=
  True

def Pre_GradFf1 (m : (ℓ : Loc Cert.GradFf1.nD Cert.GradFf1.τ Cert.GradFf1.sig) → Buf (Elt Bits) ℓ) : Prop :=
  True

def Pre_GradFf1Ideal (m : (ℓ : Loc Cert.GradFf1Ideal.nD Cert.GradFf1Ideal.τ Cert.GradFf1Ideal.sig) → Buf (Elt Ideal) ℓ) : Prop :=
  True

def Pre_Ff1ReferenceIdeal (m : (ℓ : Loc Cert.Ff1ReferenceIdeal.nD Cert.Ff1ReferenceIdeal.τ Cert.Ff1ReferenceIdeal.sig) → Buf (Elt Ideal) ℓ) : Prop :=
  True

def Pre_GradIn (m : (ℓ : Loc Cert.GradIn.nD Cert.GradIn.τ Cert.GradIn.sig) → Buf (Elt Bits) ℓ) : Prop :=
  True

def Pre_GradInIdeal (m : (ℓ : Loc Cert.GradInIdeal.nD Cert.GradInIdeal.τ Cert.GradInIdeal.sig) → Buf (Elt Ideal) ℓ) : Prop :=
  True

def Pre_InReferenceIdeal (m : (ℓ : Loc Cert.InReferenceIdeal.nD Cert.InReferenceIdeal.τ Cert.InReferenceIdeal.sig) → Buf (Elt Ideal) ℓ) : Prop :=
  True

def Pre_GradOut (m : (ℓ : Loc Cert.GradOut.nD Cert.GradOut.τ Cert.GradOut.sig) → Buf (Elt Bits) ℓ) : Prop :=
  True

def Pre_GradOutIdeal (m : (ℓ : Loc Cert.GradOutIdeal.nD Cert.GradOutIdeal.τ Cert.GradOutIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_GradGate (m : (ℓ : Loc Cert.GradGate.nD Cert.GradGate.τ Cert.GradGate.sig) → Buf (Elt Bits) ℓ) : Prop :=
  True

def Pre_GradGateIdeal (m : (ℓ : Loc Cert.GradGateIdeal.nD Cert.GradGateIdeal.τ Cert.GradGateIdeal.sig) → Buf (Elt Ideal) ℓ) : Prop :=
  True

def Pre_GateReferenceIdeal (m : (ℓ : Loc Cert.GateReferenceIdeal.nD Cert.GateReferenceIdeal.τ Cert.GateReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Forward [hForward : Cert.Forward.Facts] : Prop :=
  ∀ (m : (ℓ : Loc Cert.Forward.nD Cert.Forward.τ Cert.Forward.sig) → Buf (Elt Bits) ℓ) (g : Dev Cert.Forward.nD → PrngReg), Pre_Forward m →
    θ_run (Cert.Forward.defs (F := Bits)) (onTc (τ := Cert.Forward.τ) (Cert.Forward.main (F := Bits))) ⟨m, fun _ => 0, g⟩ (fun r => (∀ c : Dev Cert.Forward.nD,
      r.2.mem ((c.tc : Thread Cert.Forward.nD Cert.Forward.τ).loc Cert.Forward.main_arg0) = m ((c.tc : Thread Cert.Forward.nD Cert.Forward.τ).loc Cert.Forward.main_arg0)
      ∧ r.2.mem ((c.tc : Thread Cert.Forward.nD Cert.Forward.τ).loc Cert.Forward.main_arg1) = m ((c.tc : Thread Cert.Forward.nD Cert.Forward.τ).loc Cert.Forward.main_arg1)
      ∧ r.2.mem ((c.tc : Thread Cert.Forward.nD Cert.Forward.τ).loc Cert.Forward.main_arg2) = m ((c.tc : Thread Cert.Forward.nD Cert.Forward.τ).loc Cert.Forward.main_arg2)
      ∧ r.2.mem ((c.tc : Thread Cert.Forward.nD Cert.Forward.τ).loc Cert.Forward.main_arg3) = m ((c.tc : Thread Cert.Forward.nD Cert.Forward.τ).loc Cert.Forward.main_arg3)
      ∧ r.2.mem ((c.tc : Thread Cert.Forward.nD Cert.Forward.τ).loc Cert.Forward.main_arg4) = m ((c.tc : Thread Cert.Forward.nD Cert.Forward.τ).loc Cert.Forward.main_arg4))
      ∧ r.2.sem = fun _ => 0)

def quiescent_ForwardIdeal [hForwardIdeal : Cert.ForwardIdeal.Facts] : Prop :=
  ∀ (m : (ℓ : Loc Cert.ForwardIdeal.nD Cert.ForwardIdeal.τ Cert.ForwardIdeal.sig) → Buf (Elt Ideal) ℓ) (g : Dev Cert.ForwardIdeal.nD → PrngReg), Pre_ForwardIdeal m →
    θ_run (Cert.ForwardIdeal.defs (F := Ideal)) (onTc (τ := Cert.ForwardIdeal.τ) (Cert.ForwardIdeal.main (F := Ideal))) ⟨m, fun _ => 0, g⟩ (fun r => (∀ c : Dev Cert.ForwardIdeal.nD,
      r.2.mem ((c.tc : Thread Cert.ForwardIdeal.nD Cert.ForwardIdeal.τ).loc Cert.ForwardIdeal.main_arg0) = m ((c.tc : Thread Cert.ForwardIdeal.nD Cert.ForwardIdeal.τ).loc Cert.ForwardIdeal.main_arg0)
      ∧ r.2.mem ((c.tc : Thread Cert.ForwardIdeal.nD Cert.ForwardIdeal.τ).loc Cert.ForwardIdeal.main_arg1) = m ((c.tc : Thread Cert.ForwardIdeal.nD Cert.ForwardIdeal.τ).loc Cert.ForwardIdeal.main_arg1)
      ∧ r.2.mem ((c.tc : Thread Cert.ForwardIdeal.nD Cert.ForwardIdeal.τ).loc Cert.ForwardIdeal.main_arg2) = m ((c.tc : Thread Cert.ForwardIdeal.nD Cert.ForwardIdeal.τ).loc Cert.ForwardIdeal.main_arg2)
      ∧ r.2.mem ((c.tc : Thread Cert.ForwardIdeal.nD Cert.ForwardIdeal.τ).loc Cert.ForwardIdeal.main_arg3) = m ((c.tc : Thread Cert.ForwardIdeal.nD Cert.ForwardIdeal.τ).loc Cert.ForwardIdeal.main_arg3)
      ∧ r.2.mem ((c.tc : Thread Cert.ForwardIdeal.nD Cert.ForwardIdeal.τ).loc Cert.ForwardIdeal.main_arg4) = m ((c.tc : Thread Cert.ForwardIdeal.nD Cert.ForwardIdeal.τ).loc Cert.ForwardIdeal.main_arg4))
      ∧ r.2.sem = fun _ => 0)

def quiescent_ForwardIdeal_pre_finite_fwd [hForwardIdeal : Cert.ForwardIdeal.Facts] [hPre_finite_fwd : Cert.Pre_finite_fwd.Facts] : Prop :=
  ∀ (m : (ℓ : Loc Cert.ForwardIdeal.nD Cert.ForwardIdeal.τ Cert.ForwardIdeal.sig) → Buf (Elt Ideal) ℓ) (g : Dev Cert.ForwardIdeal.nD → PrngReg), Pre_ForwardIdeal_finite_fwd m →
    θ_run (Cert.ForwardIdeal.defs (F := Ideal)) (onTc (τ := Cert.ForwardIdeal.τ) (Cert.ForwardIdeal.main (F := Ideal))) ⟨m, fun _ => 0, g⟩ (fun r => (∀ c : Dev Cert.ForwardIdeal.nD,
      r.2.mem ((c.tc : Thread Cert.ForwardIdeal.nD Cert.ForwardIdeal.τ).loc Cert.ForwardIdeal.main_arg0) = m ((c.tc : Thread Cert.ForwardIdeal.nD Cert.ForwardIdeal.τ).loc Cert.ForwardIdeal.main_arg0)
      ∧ r.2.mem ((c.tc : Thread Cert.ForwardIdeal.nD Cert.ForwardIdeal.τ).loc Cert.ForwardIdeal.main_arg1) = m ((c.tc : Thread Cert.ForwardIdeal.nD Cert.ForwardIdeal.τ).loc Cert.ForwardIdeal.main_arg1)
      ∧ r.2.mem ((c.tc : Thread Cert.ForwardIdeal.nD Cert.ForwardIdeal.τ).loc Cert.ForwardIdeal.main_arg2) = m ((c.tc : Thread Cert.ForwardIdeal.nD Cert.ForwardIdeal.τ).loc Cert.ForwardIdeal.main_arg2)
      ∧ r.2.mem ((c.tc : Thread Cert.ForwardIdeal.nD Cert.ForwardIdeal.τ).loc Cert.ForwardIdeal.main_arg3) = m ((c.tc : Thread Cert.ForwardIdeal.nD Cert.ForwardIdeal.τ).loc Cert.ForwardIdeal.main_arg3)
      ∧ r.2.mem ((c.tc : Thread Cert.ForwardIdeal.nD Cert.ForwardIdeal.τ).loc Cert.ForwardIdeal.main_arg4) = m ((c.tc : Thread Cert.ForwardIdeal.nD Cert.ForwardIdeal.τ).loc Cert.ForwardIdeal.main_arg4))
      ∧ r.2.sem = fun _ => 0)

def quiescent_ForwardReferenceIdeal [hForwardReferenceIdeal : Cert.ForwardReferenceIdeal.Facts] : Prop :=
  ∀ (m : (ℓ : Loc Cert.ForwardReferenceIdeal.nD Cert.ForwardReferenceIdeal.τ Cert.ForwardReferenceIdeal.sig) → Buf (Elt Ideal) ℓ) (g : Dev Cert.ForwardReferenceIdeal.nD → PrngReg), Pre_ForwardReferenceIdeal m →
    θ_run (Cert.ForwardReferenceIdeal.defs (F := Ideal)) (onTc (τ := Cert.ForwardReferenceIdeal.τ) (Cert.ForwardReferenceIdeal.main (F := Ideal))) ⟨m, fun _ => 0, g⟩ (fun r => (∀ c : Dev Cert.ForwardReferenceIdeal.nD,
      r.2.mem ((c.tc : Thread Cert.ForwardReferenceIdeal.nD Cert.ForwardReferenceIdeal.τ).loc Cert.ForwardReferenceIdeal.main_arg0) = m ((c.tc : Thread Cert.ForwardReferenceIdeal.nD Cert.ForwardReferenceIdeal.τ).loc Cert.ForwardReferenceIdeal.main_arg0)
      ∧ r.2.mem ((c.tc : Thread Cert.ForwardReferenceIdeal.nD Cert.ForwardReferenceIdeal.τ).loc Cert.ForwardReferenceIdeal.main_arg1) = m ((c.tc : Thread Cert.ForwardReferenceIdeal.nD Cert.ForwardReferenceIdeal.τ).loc Cert.ForwardReferenceIdeal.main_arg1)
      ∧ r.2.mem ((c.tc : Thread Cert.ForwardReferenceIdeal.nD Cert.ForwardReferenceIdeal.τ).loc Cert.ForwardReferenceIdeal.main_arg2) = m ((c.tc : Thread Cert.ForwardReferenceIdeal.nD Cert.ForwardReferenceIdeal.τ).loc Cert.ForwardReferenceIdeal.main_arg2)
      ∧ r.2.mem ((c.tc : Thread Cert.ForwardReferenceIdeal.nD Cert.ForwardReferenceIdeal.τ).loc Cert.ForwardReferenceIdeal.main_arg3) = m ((c.tc : Thread Cert.ForwardReferenceIdeal.nD Cert.ForwardReferenceIdeal.τ).loc Cert.ForwardReferenceIdeal.main_arg3)
      ∧ r.2.mem ((c.tc : Thread Cert.ForwardReferenceIdeal.nD Cert.ForwardReferenceIdeal.τ).loc Cert.ForwardReferenceIdeal.main_arg4) = m ((c.tc : Thread Cert.ForwardReferenceIdeal.nD Cert.ForwardReferenceIdeal.τ).loc Cert.ForwardReferenceIdeal.main_arg4))
      ∧ r.2.sem = fun _ => 0)

def quiescent_ForwardReferenceIdeal_pre_finite_fwd [hForwardReferenceIdeal : Cert.ForwardReferenceIdeal.Facts] [hPre_finite_fwd : Cert.Pre_finite_fwd.Facts] : Prop :=
  ∀ (m : (ℓ : Loc Cert.ForwardReferenceIdeal.nD Cert.ForwardReferenceIdeal.τ Cert.ForwardReferenceIdeal.sig) → Buf (Elt Ideal) ℓ) (g : Dev Cert.ForwardReferenceIdeal.nD → PrngReg), Pre_ForwardReferenceIdeal_finite_fwd m →
    θ_run (Cert.ForwardReferenceIdeal.defs (F := Ideal)) (onTc (τ := Cert.ForwardReferenceIdeal.τ) (Cert.ForwardReferenceIdeal.main (F := Ideal))) ⟨m, fun _ => 0, g⟩ (fun r => (∀ c : Dev Cert.ForwardReferenceIdeal.nD,
      r.2.mem ((c.tc : Thread Cert.ForwardReferenceIdeal.nD Cert.ForwardReferenceIdeal.τ).loc Cert.ForwardReferenceIdeal.main_arg0) = m ((c.tc : Thread Cert.ForwardReferenceIdeal.nD Cert.ForwardReferenceIdeal.τ).loc Cert.ForwardReferenceIdeal.main_arg0)
      ∧ r.2.mem ((c.tc : Thread Cert.ForwardReferenceIdeal.nD Cert.ForwardReferenceIdeal.τ).loc Cert.ForwardReferenceIdeal.main_arg1) = m ((c.tc : Thread Cert.ForwardReferenceIdeal.nD Cert.ForwardReferenceIdeal.τ).loc Cert.ForwardReferenceIdeal.main_arg1)
      ∧ r.2.mem ((c.tc : Thread Cert.ForwardReferenceIdeal.nD Cert.ForwardReferenceIdeal.τ).loc Cert.ForwardReferenceIdeal.main_arg2) = m ((c.tc : Thread Cert.ForwardReferenceIdeal.nD Cert.ForwardReferenceIdeal.τ).loc Cert.ForwardReferenceIdeal.main_arg2)
      ∧ r.2.mem ((c.tc : Thread Cert.ForwardReferenceIdeal.nD Cert.ForwardReferenceIdeal.τ).loc Cert.ForwardReferenceIdeal.main_arg3) = m ((c.tc : Thread Cert.ForwardReferenceIdeal.nD Cert.ForwardReferenceIdeal.τ).loc Cert.ForwardReferenceIdeal.main_arg3)
      ∧ r.2.mem ((c.tc : Thread Cert.ForwardReferenceIdeal.nD Cert.ForwardReferenceIdeal.τ).loc Cert.ForwardReferenceIdeal.main_arg4) = m ((c.tc : Thread Cert.ForwardReferenceIdeal.nD Cert.ForwardReferenceIdeal.τ).loc Cert.ForwardReferenceIdeal.main_arg4))
      ∧ r.2.sem = fun _ => 0)

def quiescent_GradFf2 [hGradFf2 : Cert.GradFf2.Facts] : Prop :=
  ∀ (m : (ℓ : Loc Cert.GradFf2.nD Cert.GradFf2.τ Cert.GradFf2.sig) → Buf (Elt Bits) ℓ) (g : Dev Cert.GradFf2.nD → PrngReg), Pre_GradFf2 m →
    θ_run (Cert.GradFf2.defs (F := Bits)) (onTc (τ := Cert.GradFf2.τ) (Cert.GradFf2.main (F := Bits))) ⟨m, fun _ => 0, g⟩ (fun r => (∀ c : Dev Cert.GradFf2.nD,
      r.2.mem ((c.tc : Thread Cert.GradFf2.nD Cert.GradFf2.τ).loc Cert.GradFf2.main_arg0) = m ((c.tc : Thread Cert.GradFf2.nD Cert.GradFf2.τ).loc Cert.GradFf2.main_arg0)
      ∧ r.2.mem ((c.tc : Thread Cert.GradFf2.nD Cert.GradFf2.τ).loc Cert.GradFf2.main_arg1) = m ((c.tc : Thread Cert.GradFf2.nD Cert.GradFf2.τ).loc Cert.GradFf2.main_arg1))
      ∧ r.2.sem = fun _ => 0)

def quiescent_GradFf2Ideal [hGradFf2Ideal : Cert.GradFf2Ideal.Facts] : Prop :=
  ∀ (m : (ℓ : Loc Cert.GradFf2Ideal.nD Cert.GradFf2Ideal.τ Cert.GradFf2Ideal.sig) → Buf (Elt Ideal) ℓ) (g : Dev Cert.GradFf2Ideal.nD → PrngReg), Pre_GradFf2Ideal m →
    θ_run (Cert.GradFf2Ideal.defs (F := Ideal)) (onTc (τ := Cert.GradFf2Ideal.τ) (Cert.GradFf2Ideal.main (F := Ideal))) ⟨m, fun _ => 0, g⟩ (fun r => (∀ c : Dev Cert.GradFf2Ideal.nD,
      r.2.mem ((c.tc : Thread Cert.GradFf2Ideal.nD Cert.GradFf2Ideal.τ).loc Cert.GradFf2Ideal.main_arg0) = m ((c.tc : Thread Cert.GradFf2Ideal.nD Cert.GradFf2Ideal.τ).loc Cert.GradFf2Ideal.main_arg0)
      ∧ r.2.mem ((c.tc : Thread Cert.GradFf2Ideal.nD Cert.GradFf2Ideal.τ).loc Cert.GradFf2Ideal.main_arg1) = m ((c.tc : Thread Cert.GradFf2Ideal.nD Cert.GradFf2Ideal.τ).loc Cert.GradFf2Ideal.main_arg1))
      ∧ r.2.sem = fun _ => 0)

def quiescent_Ff2ReferenceIdeal [hFf2ReferenceIdeal : Cert.Ff2ReferenceIdeal.Facts] : Prop :=
  ∀ (m : (ℓ : Loc Cert.Ff2ReferenceIdeal.nD Cert.Ff2ReferenceIdeal.τ Cert.Ff2ReferenceIdeal.sig) → Buf (Elt Ideal) ℓ) (g : Dev Cert.Ff2ReferenceIdeal.nD → PrngReg), Pre_Ff2ReferenceIdeal m →
    θ_run (Cert.Ff2ReferenceIdeal.defs (F := Ideal)) (onTc (τ := Cert.Ff2ReferenceIdeal.τ) (Cert.Ff2ReferenceIdeal.main (F := Ideal))) ⟨m, fun _ => 0, g⟩ (fun r => (∀ c : Dev Cert.Ff2ReferenceIdeal.nD,
      r.2.mem ((c.tc : Thread Cert.Ff2ReferenceIdeal.nD Cert.Ff2ReferenceIdeal.τ).loc Cert.Ff2ReferenceIdeal.main_arg0) = m ((c.tc : Thread Cert.Ff2ReferenceIdeal.nD Cert.Ff2ReferenceIdeal.τ).loc Cert.Ff2ReferenceIdeal.main_arg0)
      ∧ r.2.mem ((c.tc : Thread Cert.Ff2ReferenceIdeal.nD Cert.Ff2ReferenceIdeal.τ).loc Cert.Ff2ReferenceIdeal.main_arg1) = m ((c.tc : Thread Cert.Ff2ReferenceIdeal.nD Cert.Ff2ReferenceIdeal.τ).loc Cert.Ff2ReferenceIdeal.main_arg1))
      ∧ r.2.sem = fun _ => 0)

def quiescent_GradFf1 [hGradFf1 : Cert.GradFf1.Facts] : Prop :=
  ∀ (m : (ℓ : Loc Cert.GradFf1.nD Cert.GradFf1.τ Cert.GradFf1.sig) → Buf (Elt Bits) ℓ) (g : Dev Cert.GradFf1.nD → PrngReg), Pre_GradFf1 m →
    θ_run (Cert.GradFf1.defs (F := Bits)) (onTc (τ := Cert.GradFf1.τ) (Cert.GradFf1.main (F := Bits))) ⟨m, fun _ => 0, g⟩ (fun r => (∀ c : Dev Cert.GradFf1.nD,
      r.2.mem ((c.tc : Thread Cert.GradFf1.nD Cert.GradFf1.τ).loc Cert.GradFf1.main_arg0) = m ((c.tc : Thread Cert.GradFf1.nD Cert.GradFf1.τ).loc Cert.GradFf1.main_arg0)
      ∧ r.2.mem ((c.tc : Thread Cert.GradFf1.nD Cert.GradFf1.τ).loc Cert.GradFf1.main_arg1) = m ((c.tc : Thread Cert.GradFf1.nD Cert.GradFf1.τ).loc Cert.GradFf1.main_arg1))
      ∧ r.2.sem = fun _ => 0)

def quiescent_GradFf1Ideal [hGradFf1Ideal : Cert.GradFf1Ideal.Facts] : Prop :=
  ∀ (m : (ℓ : Loc Cert.GradFf1Ideal.nD Cert.GradFf1Ideal.τ Cert.GradFf1Ideal.sig) → Buf (Elt Ideal) ℓ) (g : Dev Cert.GradFf1Ideal.nD → PrngReg), Pre_GradFf1Ideal m →
    θ_run (Cert.GradFf1Ideal.defs (F := Ideal)) (onTc (τ := Cert.GradFf1Ideal.τ) (Cert.GradFf1Ideal.main (F := Ideal))) ⟨m, fun _ => 0, g⟩ (fun r => (∀ c : Dev Cert.GradFf1Ideal.nD,
      r.2.mem ((c.tc : Thread Cert.GradFf1Ideal.nD Cert.GradFf1Ideal.τ).loc Cert.GradFf1Ideal.main_arg0) = m ((c.tc : Thread Cert.GradFf1Ideal.nD Cert.GradFf1Ideal.τ).loc Cert.GradFf1Ideal.main_arg0)
      ∧ r.2.mem ((c.tc : Thread Cert.GradFf1Ideal.nD Cert.GradFf1Ideal.τ).loc Cert.GradFf1Ideal.main_arg1) = m ((c.tc : Thread Cert.GradFf1Ideal.nD Cert.GradFf1Ideal.τ).loc Cert.GradFf1Ideal.main_arg1))
      ∧ r.2.sem = fun _ => 0)

def quiescent_Ff1ReferenceIdeal [hFf1ReferenceIdeal : Cert.Ff1ReferenceIdeal.Facts] : Prop :=
  ∀ (m : (ℓ : Loc Cert.Ff1ReferenceIdeal.nD Cert.Ff1ReferenceIdeal.τ Cert.Ff1ReferenceIdeal.sig) → Buf (Elt Ideal) ℓ) (g : Dev Cert.Ff1ReferenceIdeal.nD → PrngReg), Pre_Ff1ReferenceIdeal m →
    θ_run (Cert.Ff1ReferenceIdeal.defs (F := Ideal)) (onTc (τ := Cert.Ff1ReferenceIdeal.τ) (Cert.Ff1ReferenceIdeal.main (F := Ideal))) ⟨m, fun _ => 0, g⟩ (fun r => (∀ c : Dev Cert.Ff1ReferenceIdeal.nD,
      r.2.mem ((c.tc : Thread Cert.Ff1ReferenceIdeal.nD Cert.Ff1ReferenceIdeal.τ).loc Cert.Ff1ReferenceIdeal.main_arg0) = m ((c.tc : Thread Cert.Ff1ReferenceIdeal.nD Cert.Ff1ReferenceIdeal.τ).loc Cert.Ff1ReferenceIdeal.main_arg0)
      ∧ r.2.mem ((c.tc : Thread Cert.Ff1ReferenceIdeal.nD Cert.Ff1ReferenceIdeal.τ).loc Cert.Ff1ReferenceIdeal.main_arg1) = m ((c.tc : Thread Cert.Ff1ReferenceIdeal.nD Cert.Ff1ReferenceIdeal.τ).loc Cert.Ff1ReferenceIdeal.main_arg1))
      ∧ r.2.sem = fun _ => 0)

def quiescent_GradIn [hGradIn : Cert.GradIn.Facts] : Prop :=
  ∀ (m : (ℓ : Loc Cert.GradIn.nD Cert.GradIn.τ Cert.GradIn.sig) → Buf (Elt Bits) ℓ) (g : Dev Cert.GradIn.nD → PrngReg), Pre_GradIn m →
    θ_run (Cert.GradIn.defs (F := Bits)) (onTc (τ := Cert.GradIn.τ) (Cert.GradIn.main (F := Bits))) ⟨m, fun _ => 0, g⟩ (fun r => (∀ c : Dev Cert.GradIn.nD,
      r.2.mem ((c.tc : Thread Cert.GradIn.nD Cert.GradIn.τ).loc Cert.GradIn.main_arg0) = m ((c.tc : Thread Cert.GradIn.nD Cert.GradIn.τ).loc Cert.GradIn.main_arg0)
      ∧ r.2.mem ((c.tc : Thread Cert.GradIn.nD Cert.GradIn.τ).loc Cert.GradIn.main_arg1) = m ((c.tc : Thread Cert.GradIn.nD Cert.GradIn.τ).loc Cert.GradIn.main_arg1))
      ∧ r.2.sem = fun _ => 0)

def quiescent_GradInIdeal [hGradInIdeal : Cert.GradInIdeal.Facts] : Prop :=
  ∀ (m : (ℓ : Loc Cert.GradInIdeal.nD Cert.GradInIdeal.τ Cert.GradInIdeal.sig) → Buf (Elt Ideal) ℓ) (g : Dev Cert.GradInIdeal.nD → PrngReg), Pre_GradInIdeal m →
    θ_run (Cert.GradInIdeal.defs (F := Ideal)) (onTc (τ := Cert.GradInIdeal.τ) (Cert.GradInIdeal.main (F := Ideal))) ⟨m, fun _ => 0, g⟩ (fun r => (∀ c : Dev Cert.GradInIdeal.nD,
      r.2.mem ((c.tc : Thread Cert.GradInIdeal.nD Cert.GradInIdeal.τ).loc Cert.GradInIdeal.main_arg0) = m ((c.tc : Thread Cert.GradInIdeal.nD Cert.GradInIdeal.τ).loc Cert.GradInIdeal.main_arg0)
      ∧ r.2.mem ((c.tc : Thread Cert.GradInIdeal.nD Cert.GradInIdeal.τ).loc Cert.GradInIdeal.main_arg1) = m ((c.tc : Thread Cert.GradInIdeal.nD Cert.GradInIdeal.τ).loc Cert.GradInIdeal.main_arg1))
      ∧ r.2.sem = fun _ => 0)

def quiescent_InReferenceIdeal [hInReferenceIdeal : Cert.InReferenceIdeal.Facts] : Prop :=
  ∀ (m : (ℓ : Loc Cert.InReferenceIdeal.nD Cert.InReferenceIdeal.τ Cert.InReferenceIdeal.sig) → Buf (Elt Ideal) ℓ) (g : Dev Cert.InReferenceIdeal.nD → PrngReg), Pre_InReferenceIdeal m →
    θ_run (Cert.InReferenceIdeal.defs (F := Ideal)) (onTc (τ := Cert.InReferenceIdeal.τ) (Cert.InReferenceIdeal.main (F := Ideal))) ⟨m, fun _ => 0, g⟩ (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1))
      ∧ r.2.sem = fun _ => 0)

def quiescent_GradOut [hGradOut : Cert.GradOut.Facts] : Prop :=
  ∀ (m : (ℓ : Loc Cert.GradOut.nD Cert.GradOut.τ Cert.GradOut.sig) → Buf (Elt Bits) ℓ) (g : Dev Cert.GradOut.nD → PrngReg), Pre_GradOut m →
    θ_run (Cert.GradOut.defs (F := Bits)) (onTc (τ := Cert.GradOut.τ) (Cert.GradOut.main (F := Bits))) ⟨m, fun _ => 0, g⟩ (fun r => (∀ c : Dev Cert.GradOut.nD,
      r.2.mem ((c.tc : Thread Cert.GradOut.nD Cert.GradOut.τ).loc Cert.GradOut.main_arg0) = m ((c.tc : Thread Cert.GradOut.nD Cert.GradOut.τ).loc Cert.GradOut.main_arg0)
      ∧ r.2.mem ((c.tc : Thread Cert.GradOut.nD Cert.GradOut.τ).loc Cert.GradOut.main_arg1) = m ((c.tc : Thread Cert.GradOut.nD Cert.GradOut.τ).loc Cert.GradOut.main_arg1))
      ∧ r.2.sem = fun _ => 0)

def quiescent_GradOutIdeal [hGradOutIdeal : Cert.GradOutIdeal.Facts] : Prop :=
  ∀ (m : (ℓ : Loc Cert.GradOutIdeal.nD Cert.GradOutIdeal.τ Cert.GradOutIdeal.sig) → Buf (Elt Ideal) ℓ) (g : Dev Cert.GradOutIdeal.nD → PrngReg), Pre_GradOutIdeal m →
    θ_run (Cert.GradOutIdeal.defs (F := Ideal)) (onTc (τ := Cert.GradOutIdeal.τ) (Cert.GradOutIdeal.main (F := Ideal))) ⟨m, fun _ => 0, g⟩ (fun r => (∀ c : Dev Cert.GradOutIdeal.nD,
      r.2.mem ((c.tc : Thread Cert.GradOutIdeal.nD Cert.GradOutIdeal.τ).loc Cert.GradOutIdeal.main_arg0) = m ((c.tc : Thread Cert.GradOutIdeal.nD Cert.GradOutIdeal.τ).loc Cert.GradOutIdeal.main_arg0)
      ∧ r.2.mem ((c.tc : Thread Cert.GradOutIdeal.nD Cert.GradOutIdeal.τ).loc Cert.GradOutIdeal.main_arg1) = m ((c.tc : Thread Cert.GradOutIdeal.nD Cert.GradOutIdeal.τ).loc Cert.GradOutIdeal.main_arg1))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7))
      ∧ r.2.sem = fun _ => 0)

def quiescent_GradGate [hGradGate : Cert.GradGate.Facts] : Prop :=
  ∀ (m : (ℓ : Loc Cert.GradGate.nD Cert.GradGate.τ Cert.GradGate.sig) → Buf (Elt Bits) ℓ) (g : Dev Cert.GradGate.nD → PrngReg), Pre_GradGate m →
    θ_run (Cert.GradGate.defs (F := Bits)) (onTc (τ := Cert.GradGate.τ) (Cert.GradGate.main (F := Bits))) ⟨m, fun _ => 0, g⟩ (fun r => (∀ c : Dev Cert.GradGate.nD,
      r.2.mem ((c.tc : Thread Cert.GradGate.nD Cert.GradGate.τ).loc Cert.GradGate.main_arg0) = m ((c.tc : Thread Cert.GradGate.nD Cert.GradGate.τ).loc Cert.GradGate.main_arg0)
      ∧ r.2.mem ((c.tc : Thread Cert.GradGate.nD Cert.GradGate.τ).loc Cert.GradGate.main_arg1) = m ((c.tc : Thread Cert.GradGate.nD Cert.GradGate.τ).loc Cert.GradGate.main_arg1))
      ∧ r.2.sem = fun _ => 0)

def quiescent_GradGateIdeal [hGradGateIdeal : Cert.GradGateIdeal.Facts] : Prop :=
  ∀ (m : (ℓ : Loc Cert.GradGateIdeal.nD Cert.GradGateIdeal.τ Cert.GradGateIdeal.sig) → Buf (Elt Ideal) ℓ) (g : Dev Cert.GradGateIdeal.nD → PrngReg), Pre_GradGateIdeal m →
    θ_run (Cert.GradGateIdeal.defs (F := Ideal)) (onTc (τ := Cert.GradGateIdeal.τ) (Cert.GradGateIdeal.main (F := Ideal))) ⟨m, fun _ => 0, g⟩ (fun r => (∀ c : Dev Cert.GradGateIdeal.nD,
      r.2.mem ((c.tc : Thread Cert.GradGateIdeal.nD Cert.GradGateIdeal.τ).loc Cert.GradGateIdeal.main_arg0) = m ((c.tc : Thread Cert.GradGateIdeal.nD Cert.GradGateIdeal.τ).loc Cert.GradGateIdeal.main_arg0)
      ∧ r.2.mem ((c.tc : Thread Cert.GradGateIdeal.nD Cert.GradGateIdeal.τ).loc Cert.GradGateIdeal.main_arg1) = m ((c.tc : Thread Cert.GradGateIdeal.nD Cert.GradGateIdeal.τ).loc Cert.GradGateIdeal.main_arg1))
      ∧ r.2.sem = fun _ => 0)

def quiescent_GateReferenceIdeal [hGateReferenceIdeal : Cert.GateReferenceIdeal.Facts] : Prop :=
  ∀ (m : (ℓ : Loc Cert.GateReferenceIdeal.nD Cert.GateReferenceIdeal.τ Cert.GateReferenceIdeal.sig) → Buf (Elt Ideal) ℓ) (g : Dev Cert.GateReferenceIdeal.nD → PrngReg), Pre_GateReferenceIdeal m →
    θ_run (Cert.GateReferenceIdeal.defs (F := Ideal)) (onTc (τ := Cert.GateReferenceIdeal.τ) (Cert.GateReferenceIdeal.main (F := Ideal))) ⟨m, fun _ => 0, g⟩ (fun r => (∀ c : Dev Cert.GateReferenceIdeal.nD,
      r.2.mem ((c.tc : Thread Cert.GateReferenceIdeal.nD Cert.GateReferenceIdeal.τ).loc Cert.GateReferenceIdeal.main_arg0) = m ((c.tc : Thread Cert.GateReferenceIdeal.nD Cert.GateReferenceIdeal.τ).loc Cert.GateReferenceIdeal.main_arg0)
      ∧ r.2.mem ((c.tc : Thread Cert.GateReferenceIdeal.nD Cert.GateReferenceIdeal.τ).loc Cert.GateReferenceIdeal.main_arg1) = m ((c.tc : Thread Cert.GateReferenceIdeal.nD Cert.GateReferenceIdeal.τ).loc Cert.GateReferenceIdeal.main_arg1))
      ∧ r.2.sem = fun _ => 0)

def preserves_Kernel_KernelIdeal : Prop :=
  IdealRules.named_const.Statement Cert.KernelIdeal.κ "ln_2" .f32 0x3F317218#32 ((Real.log 2 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v74)) (v1 : (c : Dev Cert.KernelIdeal.nD) → Buf (Elt Ideal) ((c.tc : Thread Cert.KernelIdeal.nD Cert.KernelIdeal.τ).loc Cert.KernelIdeal.main_v75)) (v2 : (c : Dev Cert.KernelIdeal.nD) → Buf (Elt Ideal) ((c.tc : Thread Cert.KernelIdeal.nD Cert.KernelIdeal.τ).loc Cert.KernelIdeal.main_v76)) (v3 : (c : Dev Cert.KernelIdeal.nD) → Buf (Elt Ideal) ((c.tc : Thread Cert.KernelIdeal.nD Cert.KernelIdeal.τ).loc Cert.KernelIdeal.main_v78)) (v4 : (c : Dev Cert.KernelIdeal.nD) → Buf (Elt Ideal) ((c.tc : Thread Cert.KernelIdeal.nD Cert.KernelIdeal.τ).loc Cert.KernelIdeal.main_v79)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v74) = v0 c
          ∧ r.2.mem ((c.tc : Thread Cert.KernelIdeal.nD Cert.KernelIdeal.τ).loc Cert.KernelIdeal.main_v75) = v1 c
          ∧ r.2.mem ((c.tc : Thread Cert.KernelIdeal.nD Cert.KernelIdeal.τ).loc Cert.KernelIdeal.main_v76) = v2 c
          ∧ r.2.mem ((c.tc : Thread Cert.KernelIdeal.nD Cert.KernelIdeal.τ).loc Cert.KernelIdeal.main_v78) = v3 c
          ∧ r.2.mem ((c.tc : Thread Cert.KernelIdeal.nD Cert.KernelIdeal.τ).loc Cert.KernelIdeal.main_v79) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_v64) = v1 c
          ∧ r.2.mem ((c.tc : Thread Cert.ReferenceIdeal.nD Cert.ReferenceIdeal.τ).loc Cert.ReferenceIdeal.main_v67) = v2 c
          ∧ r.2.mem ((c.tc : Thread Cert.ReferenceIdeal.nD Cert.ReferenceIdeal.τ).loc Cert.ReferenceIdeal.main_v65) = v3 c
          ∧ r.2.mem ((c.tc : Thread Cert.ReferenceIdeal.nD Cert.ReferenceIdeal.τ).loc Cert.ReferenceIdeal.main_v46) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Forward_ForwardIdeal : Prop :=
  True

def algebraic_ForwardIdeal_ForwardReferenceIdeal_pre_finite_fwd [hForwardIdeal : Cert.ForwardIdeal.Facts] [hForwardReferenceIdeal : Cert.ForwardReferenceIdeal.Facts] [hPre_finite_fwd : Cert.Pre_finite_fwd.Facts] : Prop :=
  ∀ (m : (ℓ : Loc Cert.ForwardIdeal.nD Cert.ForwardIdeal.τ Cert.ForwardIdeal.sig) → Buf (Elt Ideal) ℓ) (g : Dev Cert.ForwardIdeal.nD → PrngReg)
    (m' : (ℓ : Loc Cert.ForwardReferenceIdeal.nD Cert.ForwardReferenceIdeal.τ Cert.ForwardReferenceIdeal.sig) → Buf (Elt Ideal) ℓ) (g' : Dev Cert.ForwardReferenceIdeal.nD → PrngReg), Pre_ForwardIdeal_finite_fwd m →
    (∀ c : Dev Cert.ForwardIdeal.nD,
      m' ((c.tc : Thread Cert.ForwardReferenceIdeal.nD Cert.ForwardReferenceIdeal.τ).loc Cert.ForwardReferenceIdeal.main_arg0) = m ((c.tc : Thread Cert.ForwardIdeal.nD Cert.ForwardIdeal.τ).loc Cert.ForwardIdeal.main_arg0)
      ∧ m' ((c.tc : Thread Cert.ForwardReferenceIdeal.nD Cert.ForwardReferenceIdeal.τ).loc Cert.ForwardReferenceIdeal.main_arg1) = m ((c.tc : Thread Cert.ForwardIdeal.nD Cert.ForwardIdeal.τ).loc Cert.ForwardIdeal.main_arg1)
      ∧ m' ((c.tc : Thread Cert.ForwardReferenceIdeal.nD Cert.ForwardReferenceIdeal.τ).loc Cert.ForwardReferenceIdeal.main_arg2) = m ((c.tc : Thread Cert.ForwardIdeal.nD Cert.ForwardIdeal.τ).loc Cert.ForwardIdeal.main_arg2)
      ∧ m' ((c.tc : Thread Cert.ForwardReferenceIdeal.nD Cert.ForwardReferenceIdeal.τ).loc Cert.ForwardReferenceIdeal.main_arg3) = m ((c.tc : Thread Cert.ForwardIdeal.nD Cert.ForwardIdeal.τ).loc Cert.ForwardIdeal.main_arg3)
      ∧ m' ((c.tc : Thread Cert.ForwardReferenceIdeal.nD Cert.ForwardReferenceIdeal.τ).loc Cert.ForwardReferenceIdeal.main_arg4) = m ((c.tc : Thread Cert.ForwardIdeal.nD Cert.ForwardIdeal.τ).loc Cert.ForwardIdeal.main_arg4)) →
    ∃ (v0 : (c : Dev Cert.ForwardIdeal.nD) → Buf (Elt Ideal) ((c.tc : Thread Cert.ForwardIdeal.nD Cert.ForwardIdeal.τ).loc Cert.ForwardIdeal.main_v26)) (v1 : (c : Dev Cert.ForwardIdeal.nD) → Buf (Elt Ideal) ((c.tc : Thread Cert.ForwardIdeal.nD Cert.ForwardIdeal.τ).loc Cert.ForwardIdeal.main_v27)),
      θ_run (Cert.ForwardIdeal.defs (F := Ideal)) (onTc (τ := Cert.ForwardIdeal.τ) (Cert.ForwardIdeal.main (F := Ideal))) ⟨m, fun _ => 0, g⟩ (fun r => ∀ c : Dev Cert.ForwardIdeal.nD,
          r.2.mem ((c.tc : Thread Cert.ForwardIdeal.nD Cert.ForwardIdeal.τ).loc Cert.ForwardIdeal.main_v26) = v0 c
          ∧ r.2.mem ((c.tc : Thread Cert.ForwardIdeal.nD Cert.ForwardIdeal.τ).loc Cert.ForwardIdeal.main_v27) = v1 c
          ∧ r.2.mem ((c.tc : Thread Cert.ForwardIdeal.nD Cert.ForwardIdeal.τ).loc Cert.ForwardIdeal.main_arg0) = m ((c.tc : Thread Cert.ForwardIdeal.nD Cert.ForwardIdeal.τ).loc Cert.ForwardIdeal.main_arg0)
          ∧ r.2.mem ((c.tc : Thread Cert.ForwardIdeal.nD Cert.ForwardIdeal.τ).loc Cert.ForwardIdeal.main_arg1) = m ((c.tc : Thread Cert.ForwardIdeal.nD Cert.ForwardIdeal.τ).loc Cert.ForwardIdeal.main_arg1)
          ∧ r.2.mem ((c.tc : Thread Cert.ForwardIdeal.nD Cert.ForwardIdeal.τ).loc Cert.ForwardIdeal.main_arg2) = m ((c.tc : Thread Cert.ForwardIdeal.nD Cert.ForwardIdeal.τ).loc Cert.ForwardIdeal.main_arg2)
          ∧ r.2.mem ((c.tc : Thread Cert.ForwardIdeal.nD Cert.ForwardIdeal.τ).loc Cert.ForwardIdeal.main_arg3) = m ((c.tc : Thread Cert.ForwardIdeal.nD Cert.ForwardIdeal.τ).loc Cert.ForwardIdeal.main_arg3)
          ∧ r.2.mem ((c.tc : Thread Cert.ForwardIdeal.nD Cert.ForwardIdeal.τ).loc Cert.ForwardIdeal.main_arg4) = m ((c.tc : Thread Cert.ForwardIdeal.nD Cert.ForwardIdeal.τ).loc Cert.ForwardIdeal.main_arg4))
      ∧ θ_run (Cert.ForwardReferenceIdeal.defs (F := Ideal)) (onTc (τ := Cert.ForwardReferenceIdeal.τ) (Cert.ForwardReferenceIdeal.main (F := Ideal))) ⟨m', fun _ => 0, g'⟩ (fun r => ∀ c : Dev Cert.ForwardReferenceIdeal.nD,
          r.2.mem ((c.tc : Thread Cert.ForwardReferenceIdeal.nD Cert.ForwardReferenceIdeal.τ).loc Cert.ForwardReferenceIdeal.main_v33) = v0 c
          ∧ r.2.mem ((c.tc : Thread Cert.ForwardReferenceIdeal.nD Cert.ForwardReferenceIdeal.τ).loc Cert.ForwardReferenceIdeal.main_v36) = v1 c
          ∧ r.2.mem ((c.tc : Thread Cert.ForwardReferenceIdeal.nD Cert.ForwardReferenceIdeal.τ).loc Cert.ForwardReferenceIdeal.main_arg0) = m' ((c.tc : Thread Cert.ForwardReferenceIdeal.nD Cert.ForwardReferenceIdeal.τ).loc Cert.ForwardReferenceIdeal.main_arg0)
          ∧ r.2.mem ((c.tc : Thread Cert.ForwardReferenceIdeal.nD Cert.ForwardReferenceIdeal.τ).loc Cert.ForwardReferenceIdeal.main_arg1) = m' ((c.tc : Thread Cert.ForwardReferenceIdeal.nD Cert.ForwardReferenceIdeal.τ).loc Cert.ForwardReferenceIdeal.main_arg1)
          ∧ r.2.mem ((c.tc : Thread Cert.ForwardReferenceIdeal.nD Cert.ForwardReferenceIdeal.τ).loc Cert.ForwardReferenceIdeal.main_arg2) = m' ((c.tc : Thread Cert.ForwardReferenceIdeal.nD Cert.ForwardReferenceIdeal.τ).loc Cert.ForwardReferenceIdeal.main_arg2)
          ∧ r.2.mem ((c.tc : Thread Cert.ForwardReferenceIdeal.nD Cert.ForwardReferenceIdeal.τ).loc Cert.ForwardReferenceIdeal.main_arg3) = m' ((c.tc : Thread Cert.ForwardReferenceIdeal.nD Cert.ForwardReferenceIdeal.τ).loc Cert.ForwardReferenceIdeal.main_arg3)
          ∧ r.2.mem ((c.tc : Thread Cert.ForwardReferenceIdeal.nD Cert.ForwardReferenceIdeal.τ).loc Cert.ForwardReferenceIdeal.main_arg4) = m' ((c.tc : Thread Cert.ForwardReferenceIdeal.nD Cert.ForwardReferenceIdeal.τ).loc Cert.ForwardReferenceIdeal.main_arg4))

def preserves_GradFf2_GradFf2Ideal : Prop :=
  True

def algebraic_GradFf2Ideal_Ff2ReferenceIdeal [hGradFf2Ideal : Cert.GradFf2Ideal.Facts] [hFf2ReferenceIdeal : Cert.Ff2ReferenceIdeal.Facts] : Prop :=
  ∀ (m : (ℓ : Loc Cert.GradFf2Ideal.nD Cert.GradFf2Ideal.τ Cert.GradFf2Ideal.sig) → Buf (Elt Ideal) ℓ) (g : Dev Cert.GradFf2Ideal.nD → PrngReg)
    (m' : (ℓ : Loc Cert.Ff2ReferenceIdeal.nD Cert.Ff2ReferenceIdeal.τ Cert.Ff2ReferenceIdeal.sig) → Buf (Elt Ideal) ℓ) (g' : Dev Cert.Ff2ReferenceIdeal.nD → PrngReg), Pre_GradFf2Ideal m →
    (∀ c : Dev Cert.GradFf2Ideal.nD,
      m' ((c.tc : Thread Cert.Ff2ReferenceIdeal.nD Cert.Ff2ReferenceIdeal.τ).loc Cert.Ff2ReferenceIdeal.main_arg0) = m ((c.tc : Thread Cert.GradFf2Ideal.nD Cert.GradFf2Ideal.τ).loc Cert.GradFf2Ideal.main_arg0)
      ∧ m' ((c.tc : Thread Cert.Ff2ReferenceIdeal.nD Cert.Ff2ReferenceIdeal.τ).loc Cert.Ff2ReferenceIdeal.main_arg1) = m ((c.tc : Thread Cert.GradFf2Ideal.nD Cert.GradFf2Ideal.τ).loc Cert.GradFf2Ideal.main_arg1)) →
    ∃ (v0 : (c : Dev Cert.GradFf2Ideal.nD) → Buf (Elt Ideal) ((c.tc : Thread Cert.GradFf2Ideal.nD Cert.GradFf2Ideal.τ).loc Cert.GradFf2Ideal.main_v4_0)) (v1 : (c : Dev Cert.GradFf2Ideal.nD) → Buf (Elt Ideal) ((c.tc : Thread Cert.GradFf2Ideal.nD Cert.GradFf2Ideal.τ).loc Cert.GradFf2Ideal.main_v4_1)),
      θ_run (Cert.GradFf2Ideal.defs (F := Ideal)) (onTc (τ := Cert.GradFf2Ideal.τ) (Cert.GradFf2Ideal.main (F := Ideal))) ⟨m, fun _ => 0, g⟩ (fun r => ∀ c : Dev Cert.GradFf2Ideal.nD,
          r.2.mem ((c.tc : Thread Cert.GradFf2Ideal.nD Cert.GradFf2Ideal.τ).loc Cert.GradFf2Ideal.main_v4_0) = v0 c
          ∧ r.2.mem ((c.tc : Thread Cert.GradFf2Ideal.nD Cert.GradFf2Ideal.τ).loc Cert.GradFf2Ideal.main_v4_1) = v1 c
          ∧ r.2.mem ((c.tc : Thread Cert.GradFf2Ideal.nD Cert.GradFf2Ideal.τ).loc Cert.GradFf2Ideal.main_arg0) = m ((c.tc : Thread Cert.GradFf2Ideal.nD Cert.GradFf2Ideal.τ).loc Cert.GradFf2Ideal.main_arg0)
          ∧ r.2.mem ((c.tc : Thread Cert.GradFf2Ideal.nD Cert.GradFf2Ideal.τ).loc Cert.GradFf2Ideal.main_arg1) = m ((c.tc : Thread Cert.GradFf2Ideal.nD Cert.GradFf2Ideal.τ).loc Cert.GradFf2Ideal.main_arg1))
      ∧ θ_run (Cert.Ff2ReferenceIdeal.defs (F := Ideal)) (onTc (τ := Cert.Ff2ReferenceIdeal.τ) (Cert.Ff2ReferenceIdeal.main (F := Ideal))) ⟨m', fun _ => 0, g'⟩ (fun r => ∀ c : Dev Cert.Ff2ReferenceIdeal.nD,
          r.2.mem ((c.tc : Thread Cert.Ff2ReferenceIdeal.nD Cert.Ff2ReferenceIdeal.τ).loc Cert.Ff2ReferenceIdeal.main_v5) = v0 c
          ∧ r.2.mem ((c.tc : Thread Cert.Ff2ReferenceIdeal.nD Cert.Ff2ReferenceIdeal.τ).loc Cert.Ff2ReferenceIdeal.main_v6) = v1 c
          ∧ r.2.mem ((c.tc : Thread Cert.Ff2ReferenceIdeal.nD Cert.Ff2ReferenceIdeal.τ).loc Cert.Ff2ReferenceIdeal.main_arg0) = m' ((c.tc : Thread Cert.Ff2ReferenceIdeal.nD Cert.Ff2ReferenceIdeal.τ).loc Cert.Ff2ReferenceIdeal.main_arg0)
          ∧ r.2.mem ((c.tc : Thread Cert.Ff2ReferenceIdeal.nD Cert.Ff2ReferenceIdeal.τ).loc Cert.Ff2ReferenceIdeal.main_arg1) = m' ((c.tc : Thread Cert.Ff2ReferenceIdeal.nD Cert.Ff2ReferenceIdeal.τ).loc Cert.Ff2ReferenceIdeal.main_arg1))

def preserves_GradFf1_GradFf1Ideal : Prop :=
  True

def algebraic_GradFf1Ideal_Ff1ReferenceIdeal [hGradFf1Ideal : Cert.GradFf1Ideal.Facts] [hFf1ReferenceIdeal : Cert.Ff1ReferenceIdeal.Facts] : Prop :=
  ∀ (m : (ℓ : Loc Cert.GradFf1Ideal.nD Cert.GradFf1Ideal.τ Cert.GradFf1Ideal.sig) → Buf (Elt Ideal) ℓ) (g : Dev Cert.GradFf1Ideal.nD → PrngReg)
    (m' : (ℓ : Loc Cert.Ff1ReferenceIdeal.nD Cert.Ff1ReferenceIdeal.τ Cert.Ff1ReferenceIdeal.sig) → Buf (Elt Ideal) ℓ) (g' : Dev Cert.Ff1ReferenceIdeal.nD → PrngReg), Pre_GradFf1Ideal m →
    (∀ c : Dev Cert.GradFf1Ideal.nD,
      m' ((c.tc : Thread Cert.Ff1ReferenceIdeal.nD Cert.Ff1ReferenceIdeal.τ).loc Cert.Ff1ReferenceIdeal.main_arg0) = m ((c.tc : Thread Cert.GradFf1Ideal.nD Cert.GradFf1Ideal.τ).loc Cert.GradFf1Ideal.main_arg0)
      ∧ m' ((c.tc : Thread Cert.Ff1ReferenceIdeal.nD Cert.Ff1ReferenceIdeal.τ).loc Cert.Ff1ReferenceIdeal.main_arg1) = m ((c.tc : Thread Cert.GradFf1Ideal.nD Cert.GradFf1Ideal.τ).loc Cert.GradFf1Ideal.main_arg1)) →
    ∃ (v0 : (c : Dev Cert.GradFf1Ideal.nD) → Buf (Elt Ideal) ((c.tc : Thread Cert.GradFf1Ideal.nD Cert.GradFf1Ideal.τ).loc Cert.GradFf1Ideal.main_v2_0)) (v1 : (c : Dev Cert.GradFf1Ideal.nD) → Buf (Elt Ideal) ((c.tc : Thread Cert.GradFf1Ideal.nD Cert.GradFf1Ideal.τ).loc Cert.GradFf1Ideal.main_v2_1)),
      θ_run (Cert.GradFf1Ideal.defs (F := Ideal)) (onTc (τ := Cert.GradFf1Ideal.τ) (Cert.GradFf1Ideal.main (F := Ideal))) ⟨m, fun _ => 0, g⟩ (fun r => ∀ c : Dev Cert.GradFf1Ideal.nD,
          r.2.mem ((c.tc : Thread Cert.GradFf1Ideal.nD Cert.GradFf1Ideal.τ).loc Cert.GradFf1Ideal.main_v2_0) = v0 c
          ∧ r.2.mem ((c.tc : Thread Cert.GradFf1Ideal.nD Cert.GradFf1Ideal.τ).loc Cert.GradFf1Ideal.main_v2_1) = v1 c
          ∧ r.2.mem ((c.tc : Thread Cert.GradFf1Ideal.nD Cert.GradFf1Ideal.τ).loc Cert.GradFf1Ideal.main_arg0) = m ((c.tc : Thread Cert.GradFf1Ideal.nD Cert.GradFf1Ideal.τ).loc Cert.GradFf1Ideal.main_arg0)
          ∧ r.2.mem ((c.tc : Thread Cert.GradFf1Ideal.nD Cert.GradFf1Ideal.τ).loc Cert.GradFf1Ideal.main_arg1) = m ((c.tc : Thread Cert.GradFf1Ideal.nD Cert.GradFf1Ideal.τ).loc Cert.GradFf1Ideal.main_arg1))
      ∧ θ_run (Cert.Ff1ReferenceIdeal.defs (F := Ideal)) (onTc (τ := Cert.Ff1ReferenceIdeal.τ) (Cert.Ff1ReferenceIdeal.main (F := Ideal))) ⟨m', fun _ => 0, g'⟩ (fun r => ∀ c : Dev Cert.Ff1ReferenceIdeal.nD,
          r.2.mem ((c.tc : Thread Cert.Ff1ReferenceIdeal.nD Cert.Ff1ReferenceIdeal.τ).loc Cert.Ff1ReferenceIdeal.main_v5) = v0 c
          ∧ r.2.mem ((c.tc : Thread Cert.Ff1ReferenceIdeal.nD Cert.Ff1ReferenceIdeal.τ).loc Cert.Ff1ReferenceIdeal.main_v6) = v1 c
          ∧ r.2.mem ((c.tc : Thread Cert.Ff1ReferenceIdeal.nD Cert.Ff1ReferenceIdeal.τ).loc Cert.Ff1ReferenceIdeal.main_arg0) = m' ((c.tc : Thread Cert.Ff1ReferenceIdeal.nD Cert.Ff1ReferenceIdeal.τ).loc Cert.Ff1ReferenceIdeal.main_arg0)
          ∧ r.2.mem ((c.tc : Thread Cert.Ff1ReferenceIdeal.nD Cert.Ff1ReferenceIdeal.τ).loc Cert.Ff1ReferenceIdeal.main_arg1) = m' ((c.tc : Thread Cert.Ff1ReferenceIdeal.nD Cert.Ff1ReferenceIdeal.τ).loc Cert.Ff1ReferenceIdeal.main_arg1))

def preserves_GradIn_GradInIdeal : Prop :=
  True

def algebraic_GradInIdeal_InReferenceIdeal [hGradInIdeal : Cert.GradInIdeal.Facts] [hInReferenceIdeal : Cert.InReferenceIdeal.Facts] : Prop :=
  ∀ (m : (ℓ : Loc Cert.GradInIdeal.nD Cert.GradInIdeal.τ Cert.GradInIdeal.sig) → Buf (Elt Ideal) ℓ) (g : Dev Cert.GradInIdeal.nD → PrngReg)
    (m' : (ℓ : Loc Cert.InReferenceIdeal.nD Cert.InReferenceIdeal.τ Cert.InReferenceIdeal.sig) → Buf (Elt Ideal) ℓ) (g' : Dev Cert.InReferenceIdeal.nD → PrngReg), Pre_GradInIdeal m →
    (∀ c : Dev Cert.GradInIdeal.nD,
      m' ((c.tc : Thread Cert.InReferenceIdeal.nD Cert.InReferenceIdeal.τ).loc Cert.InReferenceIdeal.main_arg0) = m ((c.tc : Thread Cert.GradInIdeal.nD Cert.GradInIdeal.τ).loc Cert.GradInIdeal.main_arg0)
      ∧ m' ((c.tc : Thread Cert.InReferenceIdeal.nD Cert.InReferenceIdeal.τ).loc Cert.InReferenceIdeal.main_arg1) = m ((c.tc : Thread Cert.GradInIdeal.nD Cert.GradInIdeal.τ).loc Cert.GradInIdeal.main_arg1)) →
    ∃ (v0 : (c : Dev Cert.GradInIdeal.nD) → Buf (Elt Ideal) ((c.tc : Thread Cert.GradInIdeal.nD Cert.GradInIdeal.τ).loc Cert.GradInIdeal.main_v2)),
      θ_run (Cert.GradInIdeal.defs (F := Ideal)) (onTc (τ := Cert.GradInIdeal.τ) (Cert.GradInIdeal.main (F := Ideal))) ⟨m, fun _ => 0, g⟩ (fun r => ∀ c : Dev Cert.GradInIdeal.nD,
          r.2.mem ((c.tc : Thread Cert.GradInIdeal.nD Cert.GradInIdeal.τ).loc Cert.GradInIdeal.main_v2) = v0 c
          ∧ r.2.mem ((c.tc : Thread Cert.GradInIdeal.nD Cert.GradInIdeal.τ).loc Cert.GradInIdeal.main_arg0) = m ((c.tc : Thread Cert.GradInIdeal.nD Cert.GradInIdeal.τ).loc Cert.GradInIdeal.main_arg0)
          ∧ r.2.mem ((c.tc : Thread Cert.GradInIdeal.nD Cert.GradInIdeal.τ).loc Cert.GradInIdeal.main_arg1) = m ((c.tc : Thread Cert.GradInIdeal.nD Cert.GradInIdeal.τ).loc Cert.GradInIdeal.main_arg1))
      ∧ θ_run (Cert.InReferenceIdeal.defs (F := Ideal)) (onTc (τ := Cert.InReferenceIdeal.τ) (Cert.InReferenceIdeal.main (F := Ideal))) ⟨m', fun _ => 0, g'⟩ (fun r => ∀ c : Dev Cert.InReferenceIdeal.nD,
          r.2.mem ((c.tc : Thread Cert.InReferenceIdeal.nD Cert.InReferenceIdeal.τ).loc Cert.InReferenceIdeal.main_v3) = v0 c
          ∧ r.2.mem ((c.tc : Thread Cert.InReferenceIdeal.nD Cert.InReferenceIdeal.τ).loc Cert.InReferenceIdeal.main_arg0) = m' ((c.tc : Thread Cert.InReferenceIdeal.nD Cert.InReferenceIdeal.τ).loc Cert.InReferenceIdeal.main_arg0)
          ∧ r.2.mem ((c.tc : Thread Cert.InReferenceIdeal.nD Cert.InReferenceIdeal.τ).loc Cert.InReferenceIdeal.main_arg1) = m' ((c.tc : Thread Cert.InReferenceIdeal.nD Cert.InReferenceIdeal.τ).loc Cert.InReferenceIdeal.main_arg1))

def preserves_GradOut_GradOutIdeal : Prop :=
  True

def algebraic_GradOutIdeal_OutReferenceIdeal [hGradOutIdeal : Cert.GradOutIdeal.Facts] [hOutReferenceIdeal : Cert.OutReferenceIdeal.Facts] : Prop :=
  ∀ (m : (ℓ : Loc Cert.GradOutIdeal.nD Cert.GradOutIdeal.τ Cert.GradOutIdeal.sig) → Buf (Elt Ideal) ℓ) (g : Dev Cert.GradOutIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_GradOutIdeal m →
    (∀ c : Dev Cert.GradOutIdeal.nD,
      m' ((c.tc : Thread Cert.OutReferenceIdeal.nD Cert.OutReferenceIdeal.τ).loc Cert.OutReferenceIdeal.main_arg0) = m ((c.tc : Thread Cert.GradOutIdeal.nD Cert.GradOutIdeal.τ).loc Cert.GradOutIdeal.main_arg0)
      ∧ m' ((c.tc : Thread Cert.OutReferenceIdeal.nD Cert.OutReferenceIdeal.τ).loc Cert.OutReferenceIdeal.main_arg1) = m ((c.tc : Thread Cert.GradOutIdeal.nD Cert.GradOutIdeal.τ).loc Cert.GradOutIdeal.main_arg1)) →
    ∃ (v0 : (c : Dev Cert.GradOutIdeal.nD) → Buf (Elt Ideal) ((c.tc : Thread Cert.GradOutIdeal.nD Cert.GradOutIdeal.τ).loc Cert.GradOutIdeal.main_v2_0)) (v1 : (c : Dev Cert.GradOutIdeal.nD) → Buf (Elt Ideal) ((c.tc : Thread Cert.GradOutIdeal.nD Cert.GradOutIdeal.τ).loc Cert.GradOutIdeal.main_v2_1)),
      θ_run (Cert.GradOutIdeal.defs (F := Ideal)) (onTc (τ := Cert.GradOutIdeal.τ) (Cert.GradOutIdeal.main (F := Ideal))) ⟨m, fun _ => 0, g⟩ (fun r => ∀ c : Dev Cert.GradOutIdeal.nD,
          r.2.mem ((c.tc : Thread Cert.GradOutIdeal.nD Cert.GradOutIdeal.τ).loc Cert.GradOutIdeal.main_v2_0) = v0 c
          ∧ r.2.mem ((c.tc : Thread Cert.GradOutIdeal.nD Cert.GradOutIdeal.τ).loc Cert.GradOutIdeal.main_v2_1) = v1 c
          ∧ r.2.mem ((c.tc : Thread Cert.GradOutIdeal.nD Cert.GradOutIdeal.τ).loc Cert.GradOutIdeal.main_arg0) = m ((c.tc : Thread Cert.GradOutIdeal.nD Cert.GradOutIdeal.τ).loc Cert.GradOutIdeal.main_arg0)
          ∧ r.2.mem ((c.tc : Thread Cert.GradOutIdeal.nD Cert.GradOutIdeal.τ).loc Cert.GradOutIdeal.main_arg1) = m ((c.tc : Thread Cert.GradOutIdeal.nD Cert.GradOutIdeal.τ).loc Cert.GradOutIdeal.main_arg1))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v3) = v0 c
          ∧ r.2.mem ((c.tc : Thread Cert.OutReferenceIdeal.nD Cert.OutReferenceIdeal.τ).loc Cert.OutReferenceIdeal.main_v4) = v1 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)
      ∧ m' ((c.tc : Thread Cert.MergeReferenceIdeal.nD Cert.MergeReferenceIdeal.τ).loc Cert.MergeReferenceIdeal.main_arg7) = m ((c.tc : Thread Cert.MergeIdeal.nD Cert.MergeIdeal.τ).loc Cert.MergeIdeal.main_arg7)) →
    ∃ (v0 : (c : Dev Cert.MergeIdeal.nD) → Buf (Elt Ideal) ((c.tc : Thread Cert.MergeIdeal.nD Cert.MergeIdeal.τ).loc Cert.MergeIdeal.main_v15_0)) (v1 : (c : Dev Cert.MergeIdeal.nD) → Buf (Elt Ideal) ((c.tc : Thread Cert.MergeIdeal.nD Cert.MergeIdeal.τ).loc Cert.MergeIdeal.main_v15_1)) (v2 : (c : Dev Cert.MergeIdeal.nD) → Buf (Elt Ideal) ((c.tc : Thread Cert.MergeIdeal.nD Cert.MergeIdeal.τ).loc Cert.MergeIdeal.main_v15_2)) (v3 : (c : Dev Cert.MergeIdeal.nD) → Buf (Elt Ideal) ((c.tc : Thread Cert.MergeIdeal.nD Cert.MergeIdeal.τ).loc Cert.MergeIdeal.main_v15_3)) (v4 : (c : Dev Cert.MergeIdeal.nD) → Buf (Elt Ideal) ((c.tc : Thread Cert.MergeIdeal.nD Cert.MergeIdeal.τ).loc Cert.MergeIdeal.main_v15_4)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v15_0) = v0 c
          ∧ r.2.mem ((c.tc : Thread Cert.MergeIdeal.nD Cert.MergeIdeal.τ).loc Cert.MergeIdeal.main_v15_1) = v1 c
          ∧ r.2.mem ((c.tc : Thread Cert.MergeIdeal.nD Cert.MergeIdeal.τ).loc Cert.MergeIdeal.main_v15_2) = v2 c
          ∧ r.2.mem ((c.tc : Thread Cert.MergeIdeal.nD Cert.MergeIdeal.τ).loc Cert.MergeIdeal.main_v15_3) = v3 c
          ∧ r.2.mem ((c.tc : Thread Cert.MergeIdeal.nD Cert.MergeIdeal.τ).loc Cert.MergeIdeal.main_v15_4) = v4 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v22) = v0 c
          ∧ r.2.mem ((c.tc : Thread Cert.MergeReferenceIdeal.nD Cert.MergeReferenceIdeal.τ).loc Cert.MergeReferenceIdeal.main_v23) = v1 c
          ∧ r.2.mem ((c.tc : Thread Cert.MergeReferenceIdeal.nD Cert.MergeReferenceIdeal.τ).loc Cert.MergeReferenceIdeal.main_v24) = v2 c
          ∧ r.2.mem ((c.tc : Thread Cert.MergeReferenceIdeal.nD Cert.MergeReferenceIdeal.τ).loc Cert.MergeReferenceIdeal.main_v7) = v3 c
          ∧ r.2.mem ((c.tc : Thread Cert.MergeReferenceIdeal.nD Cert.MergeReferenceIdeal.τ).loc Cert.MergeReferenceIdeal.main_v21) = v4 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7))

def preserves_GradGate_GradGateIdeal : Prop :=
  True

def algebraic_GradGateIdeal_GateReferenceIdeal [hGradGateIdeal : Cert.GradGateIdeal.Facts] [hGateReferenceIdeal : Cert.GateReferenceIdeal.Facts] : Prop :=
  ∀ (m : (ℓ : Loc Cert.GradGateIdeal.nD Cert.GradGateIdeal.τ Cert.GradGateIdeal.sig) → Buf (Elt Ideal) ℓ) (g : Dev Cert.GradGateIdeal.nD → PrngReg)
    (m' : (ℓ : Loc Cert.GateReferenceIdeal.nD Cert.GateReferenceIdeal.τ Cert.GateReferenceIdeal.sig) → Buf (Elt Ideal) ℓ) (g' : Dev Cert.GateReferenceIdeal.nD → PrngReg), Pre_GradGateIdeal m →
    (∀ c : Dev Cert.GradGateIdeal.nD,
      m' ((c.tc : Thread Cert.GateReferenceIdeal.nD Cert.GateReferenceIdeal.τ).loc Cert.GateReferenceIdeal.main_arg0) = m ((c.tc : Thread Cert.GradGateIdeal.nD Cert.GradGateIdeal.τ).loc Cert.GradGateIdeal.main_arg0)
      ∧ m' ((c.tc : Thread Cert.GateReferenceIdeal.nD Cert.GateReferenceIdeal.τ).loc Cert.GateReferenceIdeal.main_arg1) = m ((c.tc : Thread Cert.GradGateIdeal.nD Cert.GradGateIdeal.τ).loc Cert.GradGateIdeal.main_arg1)) →
    ∃ (v0 : (c : Dev Cert.GradGateIdeal.nD) → Buf (Elt Ideal) ((c.tc : Thread Cert.GradGateIdeal.nD Cert.GradGateIdeal.τ).loc Cert.GradGateIdeal.main_v2_0)) (v1 : (c : Dev Cert.GradGateIdeal.nD) → Buf (Elt Ideal) ((c.tc : Thread Cert.GradGateIdeal.nD Cert.GradGateIdeal.τ).loc Cert.GradGateIdeal.main_v2_1)),
      θ_run (Cert.GradGateIdeal.defs (F := Ideal)) (onTc (τ := Cert.GradGateIdeal.τ) (Cert.GradGateIdeal.main (F := Ideal))) ⟨m, fun _ => 0, g⟩ (fun r => ∀ c : Dev Cert.GradGateIdeal.nD,
          r.2.mem ((c.tc : Thread Cert.GradGateIdeal.nD Cert.GradGateIdeal.τ).loc Cert.GradGateIdeal.main_v2_0) = v0 c
          ∧ r.2.mem ((c.tc : Thread Cert.GradGateIdeal.nD Cert.GradGateIdeal.τ).loc Cert.GradGateIdeal.main_v2_1) = v1 c
          ∧ r.2.mem ((c.tc : Thread Cert.GradGateIdeal.nD Cert.GradGateIdeal.τ).loc Cert.GradGateIdeal.main_arg0) = m ((c.tc : Thread Cert.GradGateIdeal.nD Cert.GradGateIdeal.τ).loc Cert.GradGateIdeal.main_arg0)
          ∧ r.2.mem ((c.tc : Thread Cert.GradGateIdeal.nD Cert.GradGateIdeal.τ).loc Cert.GradGateIdeal.main_arg1) = m ((c.tc : Thread Cert.GradGateIdeal.nD Cert.GradGateIdeal.τ).loc Cert.GradGateIdeal.main_arg1))
      ∧ θ_run (Cert.GateReferenceIdeal.defs (F := Ideal)) (onTc (τ := Cert.GateReferenceIdeal.τ) (Cert.GateReferenceIdeal.main (F := Ideal))) ⟨m', fun _ => 0, g'⟩ (fun r => ∀ c : Dev Cert.GateReferenceIdeal.nD,
          r.2.mem ((c.tc : Thread Cert.GateReferenceIdeal.nD Cert.GateReferenceIdeal.τ).loc Cert.GateReferenceIdeal.main_v3) = v0 c
          ∧ r.2.mem ((c.tc : Thread Cert.GateReferenceIdeal.nD Cert.GateReferenceIdeal.τ).loc Cert.GateReferenceIdeal.main_v4) = v1 c
          ∧ r.2.mem ((c.tc : Thread Cert.GateReferenceIdeal.nD Cert.GateReferenceIdeal.τ).loc Cert.GateReferenceIdeal.main_arg0) = m' ((c.tc : Thread Cert.GateReferenceIdeal.nD Cert.GateReferenceIdeal.τ).loc Cert.GateReferenceIdeal.main_arg0)
          ∧ r.2.mem ((c.tc : Thread Cert.GateReferenceIdeal.nD Cert.GateReferenceIdeal.τ).loc Cert.GateReferenceIdeal.main_arg1) = m' ((c.tc : Thread Cert.GateReferenceIdeal.nD Cert.GateReferenceIdeal.τ).loc Cert.GateReferenceIdeal.main_arg1))

def Claim : Prop :=
  ∃ (hKernel : Cert.Kernel.Facts) (hKernelIdeal : Cert.KernelIdeal.Facts) (hReferenceIdeal : Cert.ReferenceIdeal.Facts) (hForward : Cert.Forward.Facts) (hForwardIdeal : Cert.ForwardIdeal.Facts) (hForwardReferenceIdeal : Cert.ForwardReferenceIdeal.Facts) (hGradFf2 : Cert.GradFf2.Facts) (hGradFf2Ideal : Cert.GradFf2Ideal.Facts) (hFf2ReferenceIdeal : Cert.Ff2ReferenceIdeal.Facts) (hGradFf1 : Cert.GradFf1.Facts) (hGradFf1Ideal : Cert.GradFf1Ideal.Facts) (hFf1ReferenceIdeal : Cert.Ff1ReferenceIdeal.Facts) (hGradIn : Cert.GradIn.Facts) (hGradInIdeal : Cert.GradInIdeal.Facts) (hInReferenceIdeal : Cert.InReferenceIdeal.Facts) (hGradOut : Cert.GradOut.Facts) (hGradOutIdeal : Cert.GradOutIdeal.Facts) (hOutReferenceIdeal : Cert.OutReferenceIdeal.Facts) (hMerge : Cert.Merge.Facts) (hMergeIdeal : Cert.MergeIdeal.Facts) (hMergeReferenceIdeal : Cert.MergeReferenceIdeal.Facts) (hGradGate : Cert.GradGate.Facts) (hGradGateIdeal : Cert.GradGateIdeal.Facts) (hGateReferenceIdeal : Cert.GateReferenceIdeal.Facts) (hPre_finite : Cert.Pre_finite.Facts) (hPre_finite_fwd : Cert.Pre_finite_fwd.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Forward (hForward := hForward)
    ∧ quiescent_ForwardIdeal (hForwardIdeal := hForwardIdeal)
    ∧ quiescent_ForwardIdeal_pre_finite_fwd (hForwardIdeal := hForwardIdeal) (hPre_finite_fwd := hPre_finite_fwd)
    ∧ quiescent_ForwardReferenceIdeal (hForwardReferenceIdeal := hForwardReferenceIdeal)
    ∧ quiescent_ForwardReferenceIdeal_pre_finite_fwd (hForwardReferenceIdeal := hForwardReferenceIdeal) (hPre_finite_fwd := hPre_finite_fwd)
    ∧ quiescent_GradFf2 (hGradFf2 := hGradFf2)
    ∧ quiescent_GradFf2Ideal (hGradFf2Ideal := hGradFf2Ideal)
    ∧ quiescent_Ff2ReferenceIdeal (hFf2ReferenceIdeal := hFf2ReferenceIdeal)
    ∧ quiescent_GradFf1 (hGradFf1 := hGradFf1)
    ∧ quiescent_GradFf1Ideal (hGradFf1Ideal := hGradFf1Ideal)
    ∧ quiescent_Ff1ReferenceIdeal (hFf1ReferenceIdeal := hFf1ReferenceIdeal)
    ∧ quiescent_GradIn (hGradIn := hGradIn)
    ∧ quiescent_GradInIdeal (hGradInIdeal := hGradInIdeal)
    ∧ quiescent_InReferenceIdeal (hInReferenceIdeal := hInReferenceIdeal)
    ∧ quiescent_GradOut (hGradOut := hGradOut)
    ∧ quiescent_GradOutIdeal (hGradOutIdeal := hGradOutIdeal)
    ∧ quiescent_OutReferenceIdeal (hOutReferenceIdeal := hOutReferenceIdeal)
    ∧ quiescent_Merge (hMerge := hMerge)
    ∧ quiescent_MergeIdeal (hMergeIdeal := hMergeIdeal)
    ∧ quiescent_MergeReferenceIdeal (hMergeReferenceIdeal := hMergeReferenceIdeal)
    ∧ quiescent_GradGate (hGradGate := hGradGate)
    ∧ quiescent_GradGateIdeal (hGradGateIdeal := hGradGateIdeal)
    ∧ quiescent_GateReferenceIdeal (hGateReferenceIdeal := hGateReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Forward_ForwardIdeal
    ∧ algebraic_ForwardIdeal_ForwardReferenceIdeal_pre_finite_fwd (hForwardIdeal := hForwardIdeal) (hForwardReferenceIdeal := hForwardReferenceIdeal) (hPre_finite_fwd := hPre_finite_fwd)
    ∧ preserves_GradFf2_GradFf2Ideal
    ∧ algebraic_GradFf2Ideal_Ff2ReferenceIdeal (hGradFf2Ideal := hGradFf2Ideal) (hFf2ReferenceIdeal := hFf2ReferenceIdeal)
    ∧ preserves_GradFf1_GradFf1Ideal
    ∧ algebraic_GradFf1Ideal_Ff1ReferenceIdeal (hGradFf1Ideal := hGradFf1Ideal) (hFf1ReferenceIdeal := hFf1ReferenceIdeal)
    ∧ preserves_GradIn_GradInIdeal
    ∧ algebraic_GradInIdeal_InReferenceIdeal (hGradInIdeal := hGradInIdeal) (hInReferenceIdeal := hInReferenceIdeal)
    ∧ preserves_GradOut_GradOutIdeal
    ∧ algebraic_GradOutIdeal_OutReferenceIdeal (hGradOutIdeal := hGradOutIdeal) (hOutReferenceIdeal := hOutReferenceIdeal)
    ∧ preserves_Merge_MergeIdeal
    ∧ algebraic_MergeIdeal_MergeReferenceIdeal (hMergeIdeal := hMergeIdeal) (hMergeReferenceIdeal := hMergeReferenceIdeal)
    ∧ preserves_GradGate_GradGateIdeal
    ∧ algebraic_GradGateIdeal_GateReferenceIdeal (hGradGateIdeal := hGradGateIdeal) (hGateReferenceIdeal := hGateReferenceIdeal)
-- ==== Pre_finite.lean ====
abbrev S1x16384x8x64 : Shape := ⟨4, ![1, 16384, 8, 64]⟩
abbrev S1x16384x8x32 : Shape := ⟨4, ![1, 16384, 8, 32]⟩
abbrev S1x16384x32 : Shape := ⟨3, ![1, 16384, 32]⟩
abbrev S_ : Shape := ⟨0, ![]⟩

class Facts : Prop where
  bcast_S_S1x16384x8x64 : S_.BroadcastsInDim S1x16384x8x64 (![] : Fin 0 → Fin S1x16384x8x64.rank)
  reducesTo_S1x16384x8x64_S_d0_1_2_3 : S1x16384x8x64.ReducesTo [0, 1, 2, 3] S_
  h_S_ : 0 < S_.numel
  bcast_S_S1x16384x8x32 : S_.BroadcastsInDim S1x16384x8x32 (![] : Fin 0 → Fin S1x16384x8x32.rank)
  reducesTo_S1x16384x8x32_S_d0_1_2_3 : S1x16384x8x32.ReducesTo [0, 1, 2, 3] S_
  bcast_S_S1x16384x32 : S_.BroadcastsInDim S1x16384x32 (![] : Fin 0 → Fin S1x16384x32.rank)
  reducesTo_S1x16384x32_S_d0_1_2 : S1x16384x32.ReducesTo [0, 1, 2] S_

variable [Facts]

def fn_part1 {F : FTy → Type} [FloatOps F] (main_arg4 : FVec F S1x16384x8x64 .f32) (main_arg5 : FVec F S1x16384x8x64 .f32) (main_v3 : IVec S_ 1) (main_v7 : IVec S_ 1) (main_v11 : IVec S_ 1) (main_v15 : IVec S_ 1) : IVec S_ 1 :=
  let main_v16 : FVec F S1x16384x8x64 .f32 := Host.absf main_arg4
  let main_cst_6 : FVec F S_ .f32 := constant S_ .f32 0x7F800000#32
  let main_v17 : FVec F S1x16384x8x64 .f32 := broadcastInDim S1x16384x8x64 ![] bcast_S_S1x16384x8x64 main_cst_6
  let main_v18 : IVec S1x16384x8x64 1 := cmpf .olt main_v16 main_v17
  let main_c_7 : IVec S_ 1 := constantI S_ 1 1#1
  let main_v19 : IVec S_ 1 := (fun x v => Host.reduce IntOp.andi x v reducesTo_S1x16384x8x64_S_d0_1_2_3 h_S_) main_v18 main_c_7
  let main_v20 : FVec F S1x16384x8x64 .f32 := Host.absf main_arg5
  let main_cst_8 : FVec F S_ .f32 := constant S_ .f32 0x7F800000#32
  let main_v21 : FVec F S1x16384x8x64 .f32 := broadcastInDim S1x16384x8x64 ![] bcast_S_S1x16384x8x64 main_cst_8
  let main_v22 : IVec S1x16384x8x64 1 := cmpf .olt main_v20 main_v21
  let main_c_9 : IVec S_ 1 := constantI S_ 1 1#1
  let main_v23 : IVec S_ 1 := (fun x v => Host.reduce IntOp.andi x v reducesTo_S1x16384x8x64_S_d0_1_2_3 h_S_) main_v22 main_c_9
  let main_v24 : IVec S_ 1 := andi main_v3 main_v7
  let main_v25 : IVec S_ 1 := andi main_v24 main_v11
  let main_v26 : IVec S_ 1 := andi main_v25 main_v15
  let main_v27 : IVec S_ 1 := andi main_v26 main_v19
  let main_v28 : IVec S_ 1 := andi main_v27 main_v23
  main_v28

def fn {F : FTy → Type} [FloatOps F] (main_arg0 : FVec F S1x16384x8x64 .f32) (main_arg1 : FVec F S1x16384x8x32 .f32) (main_arg2 : FVec F S1x16384x8x64 .f32) (main_arg3 : FVec F S1x16384x32 .f32) (main_arg4 : FVec F S1x16384x8x64 .f32) (main_arg5 : FVec F S1x16384x8x64 .f32) : IVec S_ 1 :=
  let main_v0 : FVec F S1x16384x8x64 .f32 := Host.absf main_arg0
  let main_cst : FVec F S_ .f32 := constant S_ .f32 0x7F800000#32
  let main_v1 : FVec F S1x16384x8x64 .f32 := broadcastInDim S1x16384x8x64 ![] bcast_S_S1x16384x8x64 main_cst
  let main_v2 : IVec S1x16384x8x64 1 := cmpf .olt main_v0 main_v1
  let main_c : IVec S_ 1 := constantI S_ 1 1#1
  let main_v3 : IVec S_ 1 := (fun x v => Host.reduce IntOp.andi x v reducesTo_S1x16384x8x64_S_d0_1_2_3 h_S_) main_v2 main_c
  let main_v4 : FVec F S1x16384x8x32 .f32 := Host.absf main_arg1
  let main_cst_0 : FVec F S_ .f32 := constant S_ .f32 0x7F800000#32
  let main_v5 : FVec F S1x16384x8x32 .f32 := broadcastInDim S1x16384x8x32 ![] bcast_S_S1x16384x8x32 main_cst_0
  let main_v6 : IVec S1x16384x8x32 1 := cmpf .olt main_v4 main_v5
  let main_c_1 : IVec S_ 1 := constantI S_ 1 1#1
  let main_v7 : IVec S_ 1 := (fun x v => Host.reduce IntOp.andi x v reducesTo_S1x16384x8x32_S_d0_1_2_3 h_S_) main_v6 main_c_1
  let main_v8 : FVec F S1x16384x8x64 .f32 := Host.absf main_arg2
  let main_cst_2 : FVec F S_ .f32 := constant S_ .f32 0x7F800000#32
  let main_v9 : FVec F S1x16384x8x64 .f32 := broadcastInDim S1x16384x8x64 ![] bcast_S_S1x16384x8x64 main_cst_2
  let main_v10 : IVec S1x16384x8x64 1 := cmpf .olt main_v8 main_v9
  let main_c_3 : IVec S_ 1 := constantI S_ 1 1#1
  let main_v11 : IVec S_ 1 := (fun x v => Host.reduce IntOp.andi x v reducesTo_S1x16384x8x64_S_d0_1_2_3 h_S_) main_v10 main_c_3
  let main_v12 : FVec F S1x16384x32 .f32 := Host.absf main_arg3
  let main_cst_4 : FVec F S_ .f32 := constant S_ .f32 0x7F800000#32
  let main_v13 : FVec F S1x16384x32 .f32 := broadcastInDim S1x16384x32 ![] bcast_S_S1x16384x32 main_cst_4
  let main_v14 : IVec S1x16384x32 1 := cmpf .olt main_v12 main_v13
  let main_c_5 : IVec S_ 1 := constantI S_ 1 1#1
  let main_v15 : IVec S_ 1 := (fun x v => Host.reduce IntOp.andi x v reducesTo_S1x16384x32_S_d0_1_2 h_S_) main_v14 main_c_5
  fn_part1 (F := F) main_arg4 main_arg5 main_v3 main_v7 main_v11 main_v15
-- ==== Pre_finite_fwd.lean ====
abbrev S1x16384x8x64 : Shape := ⟨4, ![1, 16384, 8, 64]⟩
abbrev S1x16384x8x32 : Shape := ⟨4, ![1, 16384, 8, 32]⟩
abbrev S1x16384x32 : Shape := ⟨3, ![1, 16384, 32]⟩
abbrev S_ : Shape := ⟨0, ![]⟩

class Facts : Prop where
  bcast_S_S1x16384x8x64 : S_.BroadcastsInDim S1x16384x8x64 (![] : Fin 0 → Fin S1x16384x8x64.rank)
  reducesTo_S1x16384x8x64_S_d0_1_2_3 : S1x16384x8x64.ReducesTo [0, 1, 2, 3] S_
  h_S_ : 0 < S_.numel
  bcast_S_S1x16384x8x32 : S_.BroadcastsInDim S1x16384x8x32 (![] : Fin 0 → Fin S1x16384x8x32.rank)
  reducesTo_S1x16384x8x32_S_d0_1_2_3 : S1x16384x8x32.ReducesTo [0, 1, 2, 3] S_
  bcast_S_S1x16384x32 : S_.BroadcastsInDim S1x16384x32 (![] : Fin 0 → Fin S1x16384x32.rank)
  reducesTo_S1x16384x32_S_d0_1_2 : S1x16384x32.ReducesTo [0, 1, 2] S_

variable [Facts]

def fn_part1 {F : FTy → Type} [FloatOps F] (main_arg4 : FVec F S1x16384x8x64 .f32) (main_v3 : IVec S_ 1) (main_v7 : IVec S_ 1) (main_v11 : IVec S_ 1) (main_v15 : IVec S_ 1) : IVec S_ 1 :=
  let main_v16 : FVec F S1x16384x8x64 .f32 := Host.absf main_arg4
  let main_cst_6 : FVec F S_ .f32 := constant S_ .f32 0x7F800000#32
  let main_v17 : FVec F S1x16384x8x64 .f32 := broadcastInDim S1x16384x8x64 ![] bcast_S_S1x16384x8x64 main_cst_6
  let main_v18 : IVec S1x16384x8x64 1 := cmpf .olt main_v16 main_v17
  let main_c_7 : IVec S_ 1 := constantI S_ 1 1#1
  let main_v19 : IVec S_ 1 := (fun x v => Host.reduce IntOp.andi x v reducesTo_S1x16384x8x64_S_d0_1_2_3 h_S_) main_v18 main_c_7
  let main_v20 : IVec S_ 1 := andi main_v3 main_v7
  let main_v21 : IVec S_ 1 := andi main_v20 main_v11
  let main_v22 : IVec S_ 1 := andi main_v21 main_v15
  let main_v23 : IVec S_ 1 := andi main_v22 main_v19
  main_v23

def fn {F : FTy → Type} [FloatOps F] (main_arg0 : FVec F S1x16384x8x64 .f32) (main_arg1 : FVec F S1x16384x8x32 .f32) (main_arg2 : FVec F S1x16384x8x64 .f32) (main_arg3 : FVec F S1x16384x32 .f32) (main_arg4 : FVec F S1x16384x8x64 .f32) : IVec S_ 1 :=
  let main_v0 : FVec F S1x16384x8x64 .f32 := Host.absf main_arg0
  let main_cst : FVec F S_ .f32 := constant S_ .f32 0x7F800000#32
  let main_v1 : FVec F S1x16384x8x64 .f32 := broadcastInDim S1x16384x8x64 ![] bcast_S_S1x16384x8x64 main_cst
  let main_v2 : IVec S1x16384x8x64 1 := cmpf .olt main_v0 main_v1
  let main_c : IVec S_ 1 := constantI S_ 1 1#1
  let main_v3 : IVec S_ 1 := (fun x v => Host.reduce IntOp.andi x v reducesTo_S1x16384x8x64_S_d0_1_2_3 h_S_) main_v2 main_c
  let main_v4 : FVec F S1x16384x8x32 .f32 := Host.absf main_arg1
  let main_cst_0 : FVec F S_ .f32 := constant S_ .f32 0x7F800000#32
  let main_v5 : FVec F S1x16384x8x32 .f32 := broadcastInDim S1x16384x8x32 ![] bcast_S_S1x16384x8x32 main_cst_0
  let main_v6 : IVec S1x16384x8x32 1 := cmpf .olt main_v4 main_v5
  let main_c_1 : IVec S_ 1 := constantI S_ 1 1#1
  let main_v7 : IVec S_ 1 := (fun x v => Host.reduce IntOp.andi x v reducesTo_S1x16384x8x32_S_d0_1_2_3 h_S_) main_v6 main_c_1
  let main_v8 : FVec F S1x16384x8x64 .f32 := Host.absf main_arg2
  let main_cst_2 : FVec F S_ .f32 := constant S_ .f32 0x7F800000#32
  let main_v9 : FVec F S1x16384x8x64 .f32 := broadcastInDim S1x16384x8x64 ![] bcast_S_S1x16384x8x64 main_cst_2
  let main_v10 : IVec S1x16384x8x64 1 := cmpf .olt main_v8 main_v9
  let main_c_3 : IVec S_ 1 := constantI S_ 1 1#1
  let main_v11 : IVec S_ 1 := (fun x v => Host.reduce IntOp.andi x v reducesTo_S1x16384x8x64_S_d0_1_2_3 h_S_) main_v10 main_c_3
  let main_v12 : FVec F S1x16384x32 .f32 := Host.absf main_arg3
  let main_cst_4 : FVec F S_ .f32 := constant S_ .f32 0x7F800000#32
  let main_v13 : FVec F S1x16384x32 .f32 := broadcastInDim S1x16384x32 ![] bcast_S_S1x16384x32 main_cst_4
  let main_v14 : IVec S1x16384x32 1 := cmpf .olt main_v12 main_v13
  let main_c_5 : IVec S_ 1 := constantI S_ 1 1#1
  let main_v15 : IVec S_ 1 := (fun x v => Host.reduce IntOp.andi x v reducesTo_S1x16384x32_S_d0_1_2 h_S_) main_v14 main_c_5
  fn_part1 (F := F) main_arg4 main_v3 main_v7 main_v11 main_v15
-- ==== Kernel.lean ====
abbrev S1x16384x8x64 : Shape := ⟨4, ![1, 16384, 8, 64]⟩
abbrev S1x16384x8x32 : Shape := ⟨4, ![1, 16384, 8, 32]⟩
abbrev S1x16384x32 : Shape := ⟨3, ![1, 16384, 32]⟩
abbrev S1x8x16384x16384 : Shape := ⟨4, ![1, 8, 16384, 16384]⟩
abbrev S1x16384x16384x8 : Shape := ⟨4, ![1, 16384, 16384, 8]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S_ : Shape := ⟨0, ![]⟩
abbrev S1x8x16384 : Shape := ⟨3, ![1, 8, 16384]⟩
abbrev S1x8x16384x1 : Shape := ⟨4, ![1, 8, 16384, 1]⟩
abbrev S1x8x64x16384 : Shape := ⟨4, ![1, 8, 64, 16384]⟩
abbrev S8x32x1x512 : Shape := ⟨4, ![8, 32, 1, 512]⟩
abbrev S1x16384x8 : Shape := ⟨3, ![1, 16384, 8]⟩
abbrev S16384x8 : Shape := ⟨2, ![16384, 8]⟩
abbrev S8x16384 : Shape := ⟨2, ![8, 16384]⟩
abbrev S1x16384x8x128 : Shape := ⟨4, ![1, 16384, 8, 128]⟩
abbrev S16384x8x128 : Shape := ⟨3, ![16384, 8, 128]⟩
abbrev S8x16384x128 : Shape := ⟨3, ![8, 16384, 128]⟩
abbrev S1x16384x1x32 : Shape := ⟨4, ![1, 16384, 1, 32]⟩
abbrev S8x32x512x128 : Shape := ⟨4, ![8, 32, 512, 128]⟩
abbrev S8x32x128x512 : Shape := ⟨4, ![8, 32, 128, 512]⟩
abbrev S1x16384x8x1 : Shape := ⟨4, ![1, 16384, 8, 1]⟩
abbrev S1x16384x8x63 : Shape := ⟨4, ![1, 16384, 8, 63]⟩
abbrev S1x16384x128 : Shape := ⟨3, ![1, 16384, 128]⟩
abbrev S1x1024x128 : Shape := ⟨3, ![1, 1024, 128]⟩
abbrev S1x2x128x512 : Shape := ⟨4, ![1, 2, 128, 512]⟩
abbrev S1x32x1x512 : Shape := ⟨4, ![1, 32, 1, 512]⟩
abbrev S1x32x128x512 : Shape := ⟨4, ![1, 32, 128, 512]⟩
abbrev S32x128x512 : Shape := ⟨3, ![32, 128, 512]⟩
abbrev S1x512x128 : Shape := ⟨3, ![1, 512, 128]⟩
abbrev S512x128 : Shape := ⟨2, ![512, 128]⟩
abbrev S512x512 : Shape := ⟨2, ![512, 512]⟩
abbrev S1x1x1x512 : Shape := ⟨4, ![1, 1, 1, 512]⟩
abbrev S1x512 : Shape := ⟨2, ![1, 512]⟩
abbrev S1x1x128x512 : Shape := ⟨4, ![1, 1, 128, 512]⟩
abbrev S128x512 : Shape := ⟨2, ![128, 512]⟩
abbrev S32x512x8x128 : Shape := ⟨4, ![32, 512, 8, 128]⟩

abbrev nBuf : Space → Nat
  | .hbm => 105
  | .vmem => 20
  | .smem => 0
  | _ => 0

abbrev bufTy : (tb : Table) → Fin (tcTables nBuf tb) → BufTy
  | .hbm, ⟨0, _⟩ => ⟨S1x16384x8x64, .f32⟩
  | .hbm, ⟨1, _⟩ => ⟨S1x16384x8x32, .f32⟩
  | .hbm, ⟨2, _⟩ => ⟨S1x16384x8x64, .f32⟩
  | .hbm, ⟨3, _⟩ => ⟨S1x16384x32, .f32⟩
  | .hbm, ⟨4, _⟩ => ⟨S1x16384x8x64, .f32⟩
  | .hbm, ⟨5, _⟩ => ⟨S1x16384x8x64, .f32⟩
  | .hbm, ⟨6, _⟩ => ⟨S1x8x16384x16384, .f32⟩
  | .hbm, ⟨7, _⟩ => ⟨S1x16384x16384x8, .f32⟩
  | .hbm, ⟨8, _⟩ => ⟨S1x8x16384x16384, .f32⟩
  | .hbm, ⟨9, _⟩ => ⟨S1x8x16384x16384, .f32⟩
  | .hbm, ⟨10, _⟩ => ⟨S16384, .i32⟩
  | .hbm, ⟨11, _⟩ => ⟨S1x16384, .i32⟩
  | .hbm, ⟨12, _⟩ => ⟨S16384x1, .i32⟩
  | .hbm, ⟨13, _⟩ => ⟨S16384x16384, .i32⟩
  | .hbm, ⟨14, _⟩ => ⟨S16384x16384, .i32⟩
  | .hbm, ⟨15, _⟩ => ⟨S16384x16384, .i1⟩
  | .hbm, ⟨16, _⟩ => ⟨S_, .f32⟩
  | .hbm, ⟨17, _⟩ => ⟨S1x8x16384x16384, .f32⟩
  | .hbm, ⟨18, _⟩ => ⟨S1x8x16384x16384, .f32⟩
  | .hbm, ⟨19, _⟩ => ⟨S_, .f32⟩
  | .hbm, ⟨20, _⟩ => ⟨S_, .f32⟩
  | .hbm, ⟨21, _⟩ => ⟨S1x8x16384x16384, .i1⟩
  | .hbm, ⟨22, _⟩ => ⟨S1x8x16384x16384, .f32⟩
  | .hbm, ⟨23, _⟩ => ⟨S1x8x16384x16384, .f32⟩
  | .hbm, ⟨24, _⟩ => ⟨S_, .f32⟩
  | .hbm, ⟨25, _⟩ => ⟨S1x8x16384, .f32⟩
  | .hbm, ⟨26, _⟩ => ⟨S1x8x16384x1, .f32⟩
  | .hbm, ⟨27, _⟩ => ⟨S1x8x16384x16384, .f32⟩
  | .hbm, ⟨28, _⟩ => ⟨S1x8x16384x16384, .f32⟩
  | .hbm, ⟨29, _⟩ => ⟨S1x8x16384x16384, .f32⟩
  | .hbm, ⟨30, _⟩ => ⟨S_, .f32⟩
  | .hbm, ⟨31, _⟩ => ⟨S1x8x16384, .f32⟩
  | .hbm, ⟨32, _⟩ => ⟨S1x8x16384x1, .f32⟩
  | .hbm, ⟨33, _⟩ => ⟨S1x8x16384x16384, .f32⟩
  | .hbm, ⟨34, _⟩ => ⟨S1x8x16384x16384, .f32⟩
  | .hbm, ⟨35, _⟩ => ⟨S1x8x64x16384, .f32⟩
  | .hbm, ⟨36, _⟩ => ⟨S1x16384x8x64, .f32⟩
  | .hbm, ⟨37, _⟩ => ⟨S_, .f32⟩
  | .hbm, ⟨38, _⟩ => ⟨S_, .f32⟩
  | .hbm, ⟨39, _⟩ => ⟨S1x8x16384x1, .f32⟩
  | .hbm, ⟨40, _⟩ => ⟨S1x8x16384x1, .f32⟩
  | .hbm, ⟨41, _⟩ => ⟨S1x8x16384x1, .f32⟩
  | .hbm, ⟨42, _⟩ => ⟨S1x8x16384x1, .f32⟩
  | .hbm, ⟨43, _⟩ => ⟨S8x32x1x512, .f32⟩
  | .hbm, ⟨44, _⟩ => ⟨S1x16384x8x64, .f32⟩
  | .hbm, ⟨45, _⟩ => ⟨S_, .f32⟩
  | .hbm, ⟨46, _⟩ => ⟨S1x16384x8, .f32⟩
  | .hbm, ⟨47, _⟩ => ⟨S16384x8, .f32⟩
  | .hbm, ⟨48, _⟩ => ⟨S8x16384, .f32⟩
  | .hbm, ⟨49, _⟩ => ⟨S8x32x1x512, .f32⟩
  | .hbm, ⟨50, _⟩ => ⟨S_, .f32⟩
  | .hbm, ⟨51, _⟩ => ⟨S1x16384x8x32, .f32⟩
  | .hbm, ⟨52, _⟩ => ⟨S1x16384x8x128, .f32⟩
  | .hbm, ⟨53, _⟩ => ⟨S16384x8x128, .f32⟩
  | .hbm, ⟨54, _⟩ => ⟨S8x16384x128, .f32⟩
  | .hbm, ⟨55, _⟩ => ⟨S_, .f32⟩
  | .hbm, ⟨56, _⟩ => ⟨S_, .f32⟩
  | .hbm, ⟨57, _⟩ => ⟨S8x16384x128, .f32⟩
  | .hbm, ⟨58, _⟩ => ⟨S8x16384x128, .f32⟩
  | .hbm, ⟨59, _⟩ => ⟨S8x16384x128, .bf16⟩
  | .hbm, ⟨60, _⟩ => ⟨S1x16384x1x32, .f32⟩
  | .hbm, ⟨61, _⟩ => ⟨S1x16384x8x32, .f32⟩
  | .hbm, ⟨62, _⟩ => ⟨S_, .f32⟩
  | .hbm, ⟨63, _⟩ => ⟨S1x16384x8x32, .f32⟩
  | .hbm, ⟨64, _⟩ => ⟨S1x16384x8x128, .f32⟩
  | .hbm, ⟨65, _⟩ => ⟨S16384x8x128, .f32⟩
  | .hbm, ⟨66, _⟩ => ⟨S8x16384x128, .f32⟩
  | .hbm, ⟨67, _⟩ => ⟨S8x16384x128, .bf16⟩
  | .hbm, ⟨68, _⟩ => ⟨S8x32x512x128, .bf16⟩
  | .hbm, ⟨69, _⟩ => ⟨S8x32x128x512, .bf16⟩
  | .hbm, ⟨70, _⟩ => ⟨S_, .f32⟩
  | .hbm, ⟨71, _⟩ => ⟨S1x16384x8x1, .f32⟩
  | .hbm, ⟨72, _⟩ => ⟨S_, .f32⟩
  | .hbm, ⟨73, _⟩ => ⟨S1x16384x8x63, .f32⟩
  | .hbm, ⟨74, _⟩ => ⟨S1x16384x8x128, .f32⟩
  | .hbm, ⟨75, _⟩ => ⟨S16384x8x128, .f32⟩
  | .hbm, ⟨76, _⟩ => ⟨S8x16384x128, .f32⟩
  | .hbm, ⟨77, _⟩ => ⟨S8x16384x128, .bf16⟩
  | .hbm, ⟨78, _⟩ => ⟨S_, .f32⟩
  | .hbm, ⟨79, _⟩ => ⟨S1x16384x8x64, .f32⟩
  | .hbm, ⟨80, _⟩ => ⟨S1x16384x8x128, .f32⟩
  | .hbm, ⟨81, _⟩ => ⟨S16384x8x128, .f32⟩
  | .hbm, ⟨82, _⟩ => ⟨S8x16384x128, .f32⟩
  | .hbm, ⟨83, _⟩ => ⟨S8x16384x128, .bf16⟩
  | .hbm, ⟨84, _⟩ => ⟨S8x32x128x512, .f32⟩
  | .hbm, ⟨85, _⟩ => ⟨S8x16384x128, .bf16⟩
  | .hbm, ⟨86, _⟩ => ⟨S8x16384x128, .bf16⟩
  | .hbm, ⟨87, _⟩ => ⟨S32x512x8x128, .f32⟩
  | .hbm, ⟨88, _⟩ => ⟨S1x16384x8x128, .f32⟩
  | .hbm, ⟨89, _⟩ => ⟨S_, .f32⟩
  | .hbm, ⟨90, _⟩ => ⟨S1x16384x8x128, .f32⟩
  | .hbm, ⟨91, _⟩ => ⟨S1x16384x8x128, .f32⟩
  | .hbm, ⟨92, _⟩ => ⟨S16384x8x128, .bf16⟩
  | .hbm, ⟨93, _⟩ => ⟨S1x16384x8x128, .bf16⟩
  | .hbm, ⟨94, _⟩ => ⟨S1x16384x8x128, .f32⟩
  | .hbm, ⟨95, _⟩ => ⟨S16384x8x128, .bf16⟩
  | .hbm, ⟨96, _⟩ => ⟨S1x16384x8x128, .bf16⟩
  | .hbm, ⟨97, _⟩ => ⟨S1x16384x8x128, .f32⟩
  | .hbm, ⟨98, _⟩ => ⟨S1x16384x8x64, .f32⟩
  | .hbm, ⟨99, _⟩ => ⟨S1x16384x8x32, .f32⟩
  | .hbm, ⟨100, _⟩ => ⟨S1x16384x8x64, .f32⟩
  | .hbm, ⟨101, _⟩ => ⟨S1x16384x8x32, .f32⟩
  | .hbm, ⟨102, _⟩ => ⟨S_, .f32⟩
  | .hbm, ⟨103, _⟩ => ⟨S1x16384x32, .f32⟩
  | .hbm, ⟨104, _⟩ => ⟨S1x16384x8x64, .f32⟩
  | .local _ .vmem, ⟨0, _⟩ => ⟨S1x16384x128, .bf16⟩
  | .local _ .vmem, ⟨1, _⟩ => ⟨S1x16384x128, .bf16⟩
  | .local _ .vmem, ⟨2, _⟩ => ⟨S1x1024x128, .bf16⟩
  | .local _ .vmem, ⟨3, _⟩ => ⟨S1x1024x128, .bf16⟩
  | .local _ .vmem, ⟨4, _⟩ => ⟨S1x2x128x512, .bf16⟩
  | .local _ .vmem, ⟨5, _⟩ => ⟨S1x2x128x512, .bf16⟩
  | .local _ .vmem, ⟨6, _⟩ => ⟨S1x1024x128, .bf16⟩
  | .local _ .vmem, ⟨7, _⟩ => ⟨S1x1024x128, .bf16⟩
  | .local _ .vmem, ⟨8, _⟩ => ⟨S1x16384x128, .bf16⟩
  | .local _ .vmem, ⟨9, _⟩ => ⟨S1x16384x128, .bf16⟩
  | .local _ .vmem, ⟨10, _⟩ => ⟨S1x32x1x512, .f32⟩
  | .local _ .vmem, ⟨11, _⟩ => ⟨S1x32x1x512, .f32⟩
  | .local _ .vmem, ⟨12, _⟩ => ⟨S1x32x1x512, .f32⟩
  | .local _ .vmem, ⟨13, _⟩ => ⟨S1x32x1x512, .f32⟩
  | .local _ .vmem, ⟨14, _⟩ => ⟨S1x32x128x512, .f32⟩
  | .local _ .vmem, ⟨15, _⟩ => ⟨S1x32x128x512, .f32⟩
  | .local _ .vmem, ⟨16, _⟩ => ⟨S1x1024x128, .bf16⟩
  | .local _ .vmem, ⟨17, _⟩ => ⟨S1x1024x128, .bf16⟩
  | .local _ .vmem, ⟨18, _⟩ => ⟨S1x1024x128, .bf16⟩
  | .local _ .vmem, ⟨19, _⟩ => ⟨S1x1024x128, .bf16⟩
  | _, _ => ⟨S1x16384x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_4 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_5 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_6 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_7 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_8 : Ref sig .tc := ⟨.hbm, 70, rfl⟩
abbrev main_v52 : Ref sig .tc := ⟨.hbm, 71, rfl⟩
abbrev main_cst_9 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_10 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63_0 : Ref sig .tc := ⟨.hbm, 84, rfl⟩
abbrev main_v63_1 : Ref sig .tc := ⟨.hbm, 85, rfl⟩
abbrev main_v63_2 : Ref sig .tc := ⟨.hbm, 86, rfl⟩
abbrev main_v64 : Ref sig .tc := ⟨.hbm, 87, rfl⟩
abbrev main_v65 : Ref sig .tc := ⟨.hbm, 88, rfl⟩
abbrev main_cst_11 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_cst_12 : Ref sig .tc := ⟨.hbm, 102, rfl⟩
abbrev main_v78 : Ref sig .tc := ⟨.hbm, 103, rfl⟩
abbrev main_v79 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![8, 16], ![false, false]⟩

def k0_mult1 (i : grid0.Coords) : BitVec 32 :=
  let c2_i32 : BitVec 32 := 2#32
  let arg1 : BitVec 32 := BitVec.ofNat 32 (i 1).val
  let v12 : BitVec 32 := Scalar.muli c2_i32 arg1
  let c0_i32_11 : BitVec 32 := 0#32
  let v13 : BitVec 32 := Scalar.addi v12 c0_i32_11
  let c512_i32 : BitVec 32 := 512#32
  let v14 : BitVec 32 := Scalar.muli v13 c512_i32
  v14
def k0_off1 (i : grid0.Coords) (c0_i32_11 : BitVec 32) : Fin 3 → Nat :=
  let c0_12 : Index := 0#32
  let c2_i32 : BitVec 32 := 2#32
  let arg1 : BitVec 32 := BitVec.ofNat 32 (i 1).val
  let v12 : BitVec 32 := Scalar.muli c2_i32 arg1
  let v13 : BitVec 32 := Scalar.addi v12 c0_i32_11
  let c512_i32 : BitVec 32 := 512#32
  let v14 : BitVec 32 := Scalar.muli v13 c512_i32
  let v15 : BitVec 32 := v14
  let v16 : Index := Scalar.indexCast v15
  let c0_13 : Index := 0#32
  ![0, v16.toNat, 0]
def k0_off2 (i : grid0.Coords) (c0_i32_11 : BitVec 32) : Fin 4 → Nat :=
  let c0_17 : Index := 0#32
  let c2_i32 : BitVec 32 := 2#32
  let arg1 : BitVec 32 := BitVec.ofNat 32 (i 1).val
  let v12 : BitVec 32 := Scalar.muli c2_i32 arg1
  let v13 : BitVec 32 := Scalar.addi v12 c0_i32_11
  let v23 : Index := Scalar.indexCast v13
  let c0_18 : Index := 0#32
  let c0_19 : Index := 0#32
  ![0, v23.toNat, 0, 0]
def k0_off3 (i : grid0.Coords) (c0_i32_11 : BitVec 32) : Fin 4 → Nat :=
  let c0_32 : Index := 0#32
  let c2_i32 : BitVec 32 := 2#32
  let arg1 : BitVec 32 := BitVec.ofNat 32 (i 1).val
  let v12 : BitVec 32 := Scalar.muli c2_i32 arg1
  let v13 : BitVec 32 := Scalar.addi v12 c0_i32_11
  let v50 : Index := Scalar.indexCast v13
  let c0_33 : Index := 0#32
  let c0_34 : Index := 0#32
  ![0, v50.toNat, 0, 0]
def k0_mult2 (i : grid0.Coords) : BitVec 32 :=
  let c2_i32_38 : BitVec 32 := 2#32
  let arg1 : BitVec 32 := BitVec.ofNat 32 (i 1).val
  let v58 : BitVec 32 := Scalar.muli c2_i32_38 arg1
  let c1_i32 : BitVec 32 := 1#32
  let v59 : BitVec 32 := Scalar.addi v58 c1_i32
  let c512_i32_39 : BitVec 32 := 512#32
  let v60 : BitVec 32 := Scalar.muli v59 c512_i32_39
  v60
def k0_mult3 (i : grid0.Coords) : BitVec 32 :=
  let c2_i32_38 : BitVec 32 := 2#32
  let arg1 : BitVec 32 := BitVec.ofNat 32 (i 1).val
  let v58 : BitVec 32 := Scalar.muli c2_i32_38 arg1
  let c1_i32 : BitVec 32 := 1#32
  let v59 : BitVec 32 := Scalar.addi v58 c1_i32
  let c512_i32_59 : BitVec 32 := 512#32
  let v91 : BitVec 32 := Scalar.muli v59 c512_i32_59
  v91
def k0_cond2 (i : grid0.Coords) : BitVec 1 :=
  let c32_i32 : BitVec 32 := 32#32
  let c2_i32_86 : BitVec 32 := 2#32
  let arg1 : BitVec 32 := BitVec.ofNat 32 (i 1).val
  let c1_i32_85 : BitVec 32 := 1#32
  let v136 : BitVec 32 := Scalar.addi arg1 c1_i32_85
  let v137 : BitVec 32 := Scalar.muli c2_i32_86 v136
  let v138 : BitVec 32 := Scalar.subi c32_i32 v137
  let c0_i32_88 : BitVec 32 := 0#32
  let v140 : BitVec 1 := Scalar.cmpi .sgt v138 c0_i32_88
  let v141 : BitVec 32 := Scalar.extui v140
  let c0_i32_89 : BitVec 32 := 0#32
  let v142 : BitVec 1 := Scalar.cmpi .slt v138 c0_i32_89
  let v143 : BitVec 32 := Scalar.extui v142
  let v144 : BitVec 32 := Scalar.subi v141 v143
  let c2_i32_87 : BitVec 32 := 2#32
  let c0_i32_90 : BitVec 32 := 0#32
  let v145 : BitVec 1 := Scalar.cmpi .sgt c2_i32_87 c0_i32_90
  let v146 : BitVec 32 := Scalar.extui v145
  let c0_i32_91 : BitVec 32 := 0#32
  let v147 : BitVec 1 := Scalar.cmpi .slt c2_i32_87 c0_i32_91
  let v148 : BitVec 32 := Scalar.extui v147
  let v149 : BitVec 32 := Scalar.subi v146 v148
  let v150 : BitVec 1 := Scalar.cmpi .ne v144 v149
  let v151 : BitVec 32 := Scalar.remsi v138 c2_i32_87
  let c0_i32_92 : BitVec 32 := 0#32
  let v152 : BitVec 1 := Scalar.cmpi .ne v151 c0_i32_92
  let v153 : BitVec 1 := Scalar.andi v150 v152
  let v139 : BitVec 32 := Scalar.divsi v138 c2_i32_87
  let c1_i32_93 : BitVec 32 := 1#32
  let v154 : BitVec 32 := Scalar.subi v139 c1_i32_93
  let v155 : BitVec 32 := Scalar.select v153 v154 v139
  let c2_i32_94 : BitVec 32 := 2#32
  let c0_i32_95 : BitVec 32 := 0#32
  let v156 : BitVec 1 := Scalar.cmpi .eq c2_i32_94 c0_i32_95
  let c1_i32_96 : BitVec 32 := 1#32
  let v157 : BitVec 32 := Scalar.select v156 c1_i32_96 c2_i32_94
  let v158 : BitVec 32 := Scalar.remsi v155 v157
  let c0_i32_98 : BitVec 32 := 0#32
  let v160 : BitVec 1 := Scalar.cmpi .slt v158 c0_i32_98
  let c0_i32_99 : BitVec 32 := 0#32
  let v161 : BitVec 1 := Scalar.cmpi .slt v157 c0_i32_99
  let v162 : BitVec 1 := Scalar.xori v160 v161
  let c0_i32_97 : BitVec 32 := 0#32
  let v159 : BitVec 1 := Scalar.cmpi .ne v158 c0_i32_97
  let v163 : BitVec 1 := Scalar.andi v162 v159
  let v164 : BitVec 32 := Scalar.addi v158 v157
  let v165 : BitVec 32 := Scalar.select v163 v164 v158
  let c1_i32_100 : BitVec 32 := 1#32
  let v166 : BitVec 1 := Scalar.cmpi .eq v165 c1_i32_100
  let v167 : BitVec 32 := Scalar.extui v166
  let c0_i32_101 : BitVec 32 := 0#32
  let v168 : BitVec 1 := Scalar.cmpi .ne v167 c0_i32_101
  v168

def k0_mult4 (i : grid0.Coords) : BitVec 32 :=
  let c2_i32_134 : BitVec 32 := 2#32
  let c2_i32_86 : BitVec 32 := 2#32
  let arg1 : BitVec 32 := BitVec.ofNat 32 (i 1).val
  let c1_i32_85 : BitVec 32 := 1#32
  let v136 : BitVec 32 := Scalar.addi arg1 c1_i32_85
  let v137 : BitVec 32 := Scalar.muli c2_i32_86 v136
  let c0_i32_128 : BitVec 32 := 0#32
  let v217 : BitVec 1 := Scalar.cmpi .sgt v137 c0_i32_128
  let v218 : BitVec 32 := Scalar.extui v217
  let c0_i32_129 : BitVec 32 := 0#32
  let v219 : BitVec 1 := Scalar.cmpi .slt v137 c0_i32_129
  let v220 : BitVec 32 := Scalar.extui v219
  let v221 : BitVec 32 := Scalar.subi v218 v220
  let c2_i32_127 : BitVec 32 := 2#32
  let c0_i32_130 : BitVec 32 := 0#32
  let v222 : BitVec 1 := Scalar.cmpi .sgt c2_i32_127 c0_i32_130
  let v223 : BitVec 32 := Scalar.extui v222
  let c0_i32_131 : BitVec 32 := 0#32
  let v224 : BitVec 1 := Scalar.cmpi .slt c2_i32_127 c0_i32_131
  let v225 : BitVec 32 := Scalar.extui v224
  let v226 : BitVec 32 := Scalar.subi v223 v225
  let v227 : BitVec 1 := Scalar.cmpi .ne v221 v226
  let v228 : BitVec 32 := Scalar.remsi v137 c2_i32_127
  let c0_i32_132 : BitVec 32 := 0#32
  let v229 : BitVec 1 := Scalar.cmpi .ne v228 c0_i32_132
  let v230 : BitVec 1 := Scalar.andi v227 v229
  let v216 : BitVec 32 := Scalar.divsi v137 c2_i32_127
  let c1_i32_133 : BitVec 32 := 1#32
  let v231 : BitVec 32 := Scalar.subi v216 c1_i32_133
  let v232 : BitVec 32 := Scalar.select v230 v231 v216
  let v233 : BitVec 32 := Scalar.muli c2_i32_134 v232
  let c0_i32_135 : BitVec 32 := 0#32
  let v234 : BitVec 32 := Scalar.addi v233 c0_i32_135
  let c512_i32_136 : BitVec 32 := 512#32
  let v235 : BitVec 32 := Scalar.muli v234 c512_i32_136
  v235
def k0_off4 (i : grid0.Coords) (c0_i32_135 : BitVec 32) : Fin 3 → Nat :=
  let c0_137 : Index := 0#32
  let c2_i32_134 : BitVec 32 := 2#32
  let c2_i32_86 : BitVec 32 := 2#32
  let arg1 : BitVec 32 := BitVec.ofNat 32 (i 1).val
  let c1_i32_85 : BitVec 32 := 1#32
  let v136 : BitVec 32 := Scalar.addi arg1 c1_i32_85
  let v137 : BitVec 32 := Scalar.muli c2_i32_86 v136
  let c0_i32_128 : BitVec 32 := 0#32
  let v217 : BitVec 1 := Scalar.cmpi .sgt v137 c0_i32_128
  let v218 : BitVec 32 := Scalar.extui v217
  let c0_i32_129 : BitVec 32 := 0#32
  let v219 : BitVec 1 := Scalar.cmpi .slt v137 c0_i32_129
  let v220 : BitVec 32 := Scalar.extui v219
  let v221 : BitVec 32 := Scalar.subi v218 v220
  let c2_i32_127 : BitVec 32 := 2#32
  let c0_i32_130 : BitVec 32 := 0#32
  let v222 : BitVec 1 := Scalar.cmpi .sgt c2_i32_127 c0_i32_130
  let v223 : BitVec 32 := Scalar.extui v222
  let c0_i32_131 : BitVec 32 := 0#32
  let v224 : BitVec 1 := Scalar.cmpi .slt c2_i32_127 c0_i32_131
  let v225 : BitVec 32 := Scalar.extui v224
  let v226 : BitVec 32 := Scalar.subi v223 v225
  let v227 : BitVec 1 := Scalar.cmpi .ne v221 v226
  let v228 : BitVec 32 := Scalar.remsi v137 c2_i32_127
  let c0_i32_132 : BitVec 32 := 0#32
  let v229 : BitVec 1 := Scalar.cmpi .ne v228 c0_i32_132
  let v230 : BitVec 1 := Scalar.andi v227 v229
  let v216 : BitVec 32 := Scalar.divsi v137 c2_i32_127
  let c1_i32_133 : BitVec 32 := 1#32
  let v231 : BitVec 32 := Scalar.subi v216 c1_i32_133
  let v232 : BitVec 32 := Scalar.select v230 v231 v216
  let v233 : BitVec 32 := Scalar.muli c2_i32_134 v232
  let v234 : BitVec 32 := Scalar.addi v233 c0_i32_135
  let c512_i32_136 : BitVec 32 := 512#32
  let v235 : BitVec 32 := Scalar.muli v234 c512_i32_136
  let v236 : BitVec 32 := v235
  let v237 : Index := Scalar.indexCast v236
  let c0_138 : Index := 0#32
  ![0, v237.toNat, 0]
def k0_off5 (i : grid0.Coords) (c0_i32_135 : BitVec 32) : Fin 4 → Nat :=
  let c0_142 : Index := 0#32
  let c2_i32_134 : BitVec 32 := 2#32
  let c2_i32_86 : BitVec 32 := 2#32
  let arg1 : BitVec 32 := BitVec.ofNat 32 (i 1).val
  let c1_i32_85 : BitVec 32 := 1#32
  let v136 : BitVec 32 := Scalar.addi arg1 c1_i32_85
  let v137 : BitVec 32 := Scalar.muli c2_i32_86 v136
  let c0_i32_128 : BitVec 32 := 0#32
  let v217 : BitVec 1 := Scalar.cmpi .sgt v137 c0_i32_128
  let v218 : BitVec 32 := Scalar.extui v217
  let c0_i32_129 : BitVec 32 := 0#32
  let v219 : BitVec 1 := Scalar.cmpi .slt v137 c0_i32_129
  let v220 : BitVec 32 := Scalar.extui v219
  let v221 : BitVec 32 := Scalar.subi v218 v220
  let c2_i32_127 : BitVec 32 := 2#32
  let c0_i32_130 : BitVec 32 := 0#32
  let v222 : BitVec 1 := Scalar.cmpi .sgt c2_i32_127 c0_i32_130
  let v223 : BitVec 32 := Scalar.extui v222
  let c0_i32_131 : BitVec 32 := 0#32
  let v224 : BitVec 1 := Scalar.cmpi .slt c2_i32_127 c0_i32_131
  let v225 : BitVec 32 := Scalar.extui v224
  let v226 : BitVec 32 := Scalar.subi v223 v225
  let v227 : BitVec 1 := Scalar.cmpi .ne v221 v226
  let v228 : BitVec 32 := Scalar.remsi v137 c2_i32_127
  let c0_i32_132 : BitVec 32 := 0#32
  let v229 : BitVec 1 := Scalar.cmpi .ne v228 c0_i32_132
  let v230 : BitVec 1 := Scalar.andi v227 v229
  let v216 : BitVec 32 := Scalar.divsi v137 c2_i32_127
  let c1_i32_133 : BitVec 32 := 1#32
  let v231 : BitVec 32 := Scalar.subi v216 c1_i32_133
  let v232 : BitVec 32 := Scalar.select v230 v231 v216
  let v233 : BitVec 32 := Scalar.muli c2_i32_134 v232
  let v234 : BitVec 32 := Scalar.addi v233 c0_i32_135
  let v244 : Index := Scalar.indexCast v234
  let c0_143 : Index := 0#32
  let c0_144 : Index := 0#32
  ![0, v244.toNat, 0, 0]
def k0_mult5 (i : grid0.Coords) : BitVec 32 :=
  let c2_i32_134 : BitVec 32 := 2#32
  let c2_i32_86 : BitVec 32 := 2#32
  let arg1 : BitVec 32 := BitVec.ofNat 32 (i 1).val
  let c1_i32_85 : BitVec 32 := 1#32
  let v136 : BitVec 32 := Scalar.addi arg1 c1_i32_85
  let v137 : BitVec 32 := Scalar.muli c2_i32_86 v136
  let c0_i32_128 : BitVec 32 := 0#32
  let v217 : BitVec 1 := Scalar.cmpi .sgt v137 c0_i32_128
  let v218 : BitVec 32 := Scalar.extui v217
  let c0_i32_129 : BitVec 32 := 0#32
  let v219 : BitVec 1 := Scalar.cmpi .slt v137 c0_i32_129
  let v220 : BitVec 32 := Scalar.extui v219
  let v221 : BitVec 32 := Scalar.subi v218 v220
  let c2_i32_127 : BitVec 32 := 2#32
  let c0_i32_130 : BitVec 32 := 0#32
  let v222 : BitVec 1 := Scalar.cmpi .sgt c2_i32_127 c0_i32_130
  let v223 : BitVec 32 := Scalar.extui v222
  let c0_i32_131 : BitVec 32 := 0#32
  let v224 : BitVec 1 := Scalar.cmpi .slt c2_i32_127 c0_i32_131
  let v225 : BitVec 32 := Scalar.extui v224
  let v226 : BitVec 32 := Scalar.subi v223 v225
  let v227 : BitVec 1 := Scalar.cmpi .ne v221 v226
  let v228 : BitVec 32 := Scalar.remsi v137 c2_i32_127
  let c0_i32_132 : BitVec 32 := 0#32
  let v229 : BitVec 1 := Scalar.cmpi .ne v228 c0_i32_132
  let v230 : BitVec 1 := Scalar.andi v227 v229
  let v216 : BitVec 32 := Scalar.divsi v137 c2_i32_127
  let c1_i32_133 : BitVec 32 := 1#32
  let v231 : BitVec 32 := Scalar.subi v216 c1_i32_133
  let v232 : BitVec 32 := Scalar.select v230 v231 v216
  let v233 : BitVec 32 := Scalar.muli c2_i32_134 v232
  let c0_i32_135 : BitVec 32 := 0#32
  let v234 : BitVec 32 := Scalar.addi v233 c0_i32_135
  let c512_i32_156 : BitVec 32 := 512#32
  let v266 : BitVec 32 := Scalar.muli v234 c512_i32_156
  v266
def k0_off6 (i : grid0.Coords) (c0_i32_135 : BitVec 32) : Fin 4 → Nat :=
  let c0_176 : Index := 0#32
  let c2_i32_134 : BitVec 32 := 2#32
  let c2_i32_86 : BitVec 32 := 2#32
  let arg1 : BitVec 32 := BitVec.ofNat 32 (i 1).val
  let c1_i32_85 : BitVec 32 := 1#32
  let v136 : BitVec 32 := Scalar.addi arg1 c1_i32_85
  let v137 : BitVec 32 := Scalar.muli c2_i32_86 v136
  let c0_i32_128 : BitVec 32 := 0#32
  let v217 : BitVec 1 := Scalar.cmpi .sgt v137 c0_i32_128
  let v218 : BitVec 32 := Scalar.extui v217
  let c0_i32_129 : BitVec 32 := 0#32
  let v219 : BitVec 1 := Scalar.cmpi .slt v137 c0_i32_129
  let v220 : BitVec 32 := Scalar.extui v219
  let v221 : BitVec 32 := Scalar.subi v218 v220
  let c2_i32_127 : BitVec 32 := 2#32
  let c0_i32_130 : BitVec 32 := 0#32
  let v222 : BitVec 1 := Scalar.cmpi .sgt c2_i32_127 c0_i32_130
  let v223 : BitVec 32 := Scalar.extui v222
  let c0_i32_131 : BitVec 32 := 0#32
  let v224 : BitVec 1 := Scalar.cmpi .slt c2_i32_127 c0_i32_131
  let v225 : BitVec 32 := Scalar.extui v224
  let v226 : BitVec 32 := Scalar.subi v223 v225
  let v227 : BitVec 1 := Scalar.cmpi .ne v221 v226
  let v228 : BitVec 32 := Scalar.remsi v137 c2_i32_127
  let c0_i32_132 : BitVec 32 := 0#32
  let v229 : BitVec 1 := Scalar.cmpi .ne v228 c0_i32_132
  let v230 : BitVec 1 := Scalar.andi v227 v229
  let v216 : BitVec 32 := Scalar.divsi v137 c2_i32_127
  let c1_i32_133 : BitVec 32 := 1#32
  let v231 : BitVec 32 := Scalar.subi v216 c1_i32_133
  let v232 : BitVec 32 := Scalar.select v230 v231 v216
  let v233 : BitVec 32 := Scalar.muli c2_i32_134 v232
  let v234 : BitVec 32 := Scalar.addi v233 c0_i32_135
  let v298 : Index := Scalar.indexCast v234
  let c0_177 : Index := 0#32
  let c0_178 : Index := 0#32
  ![0, v298.toNat, 0, 0]
def k0_mult6 (i : grid0.Coords) : BitVec 32 :=
  let c2_i32_182 : BitVec 32 := 2#32
  let c2_i32_86 : BitVec 32 := 2#32
  let arg1 : BitVec 32 := BitVec.ofNat 32 (i 1).val
  let c1_i32_85 : BitVec 32 := 1#32
  let v136 : BitVec 32 := Scalar.addi arg1 c1_i32_85
  let v137 : BitVec 32 := Scalar.muli c2_i32_86 v136
  let c0_i32_128 : BitVec 32 := 0#32
  let v217 : BitVec 1 := Scalar.cmpi .sgt v137 c0_i32_128
  let v218 : BitVec 32 := Scalar.extui v217
  let c0_i32_129 : BitVec 32 := 0#32
  let v219 : BitVec 1 := Scalar.cmpi .slt v137 c0_i32_129
  let v220 : BitVec 32 := Scalar.extui v219
  let v221 : BitVec 32 := Scalar.subi v218 v220
  let c2_i32_127 : BitVec 32 := 2#32
  let c0_i32_130 : BitVec 32 := 0#32
  let v222 : BitVec 1 := Scalar.cmpi .sgt c2_i32_127 c0_i32_130
  let v223 : BitVec 32 := Scalar.extui v222
  let c0_i32_131 : BitVec 32 := 0#32
  let v224 : BitVec 1 := Scalar.cmpi .slt c2_i32_127 c0_i32_131
  let v225 : BitVec 32 := Scalar.extui v224
  let v226 : BitVec 32 := Scalar.subi v223 v225
  let v227 : BitVec 1 := Scalar.cmpi .ne v221 v226
  let v228 : BitVec 32 := Scalar.remsi v137 c2_i32_127
  let c0_i32_132 : BitVec 32 := 0#32
  let v229 : BitVec 1 := Scalar.cmpi .ne v228 c0_i32_132
  let v230 : BitVec 1 := Scalar.andi v227 v229
  let v216 : BitVec 32 := Scalar.divsi v137 c2_i32_127
  let c1_i32_133 : BitVec 32 := 1#32
  let v231 : BitVec 32 := Scalar.subi v216 c1_i32_133
  let v232 : BitVec 32 := Scalar.select v230 v231 v216
  let v306 : BitVec 32 := Scalar.muli c2_i32_182 v232
  let c1_i32_183 : BitVec 32 := 1#32
  let v307 : BitVec 32 := Scalar.addi v306 c1_i32_183
  let c512_i32_184 : BitVec 32 := 512#32
  let v308 : BitVec 32 := Scalar.muli v307 c512_i32_184
  v308
def k0_mult7 (i : grid0.Coords) : BitVec 32 :=
  let c2_i32_182 : BitVec 32 := 2#32
  let c2_i32_86 : BitVec 32 := 2#32
  let arg1 : BitVec 32 := BitVec.ofNat 32 (i 1).val
  let c1_i32_85 : BitVec 32 := 1#32
  let v136 : BitVec 32 := Scalar.addi arg1 c1_i32_85
  let v137 : BitVec 32 := Scalar.muli c2_i32_86 v136
  let c0_i32_128 : BitVec 32 := 0#32
  let v217 : BitVec 1 := Scalar.cmpi .sgt v137 c0_i32_128
  let v218 : BitVec 32 := Scalar.extui v217
  let c0_i32_129 : BitVec 32 := 0#32
  let v219 : BitVec 1 := Scalar.cmpi .slt v137 c0_i32_129
  let v220 : BitVec 32 := Scalar.extui v219
  let v221 : BitVec 32 := Scalar.subi v218 v220
  let c2_i32_127 : BitVec 32 := 2#32
  let c0_i32_130 : BitVec 32 := 0#32
  let v222 : BitVec 1 := Scalar.cmpi .sgt c2_i32_127 c0_i32_130
  let v223 : BitVec 32 := Scalar.extui v222
  let c0_i32_131 : BitVec 32 := 0#32
  let v224 : BitVec 1 := Scalar.cmpi .slt c2_i32_127 c0_i32_131
  let v225 : BitVec 32 := Scalar.extui v224
  let v226 : BitVec 32 := Scalar.subi v223 v225
  let v227 : BitVec 1 := Scalar.cmpi .ne v221 v226
  let v228 : BitVec 32 := Scalar.remsi v137 c2_i32_127
  let c0_i32_132 : BitVec 32 := 0#32
  let v229 : BitVec 1 := Scalar.cmpi .ne v228 c0_i32_132
  let v230 : BitVec 1 := Scalar.andi v227 v229
  let v216 : BitVec 32 := Scalar.divsi v137 c2_i32_127
  let c1_i32_133 : BitVec 32 := 1#32
  let v231 : BitVec 32 := Scalar.subi v216 c1_i32_133
  let v232 : BitVec 32 := Scalar.select v230 v231 v216
  let v306 : BitVec 32 := Scalar.muli c2_i32_182 v232
  let c1_i32_183 : BitVec 32 := 1#32
  let v307 : BitVec 32 := Scalar.addi v306 c1_i32_183
  let c512_i32_204 : BitVec 32 := 512#32
  let v339 : BitVec 32 := Scalar.muli v307 c512_i32_204
  v339
@[reducible] def k0_t1_loop (i : grid0.Coords) : Scf.Loop 32 :=
  let c2_i32_86 : BitVec 32 := 2#32
  let arg1 : BitVec 32 := BitVec.ofNat 32 (i 1).val
  let c1_i32_85 : BitVec 32 := 1#32
  let v136 : BitVec 32 := Scalar.addi arg1 c1_i32_85
  let v137 : BitVec 32 := Scalar.muli c2_i32_86 v136
  let c32_i32 : BitVec 32 := 32#32
  let v138 : BitVec 32 := Scalar.subi c32_i32 v137
  let c0_i32_88 : BitVec 32 := 0#32
  let v140 : BitVec 1 := Scalar.cmpi .sgt v138 c0_i32_88
  let v141 : BitVec 32 := Scalar.extui v140
  let c0_i32_89 : BitVec 32 := 0#32
  let v142 : BitVec 1 := Scalar.cmpi .slt v138 c0_i32_89
  let v143 : BitVec 32 := Scalar.extui v142
  let v144 : BitVec 32 := Scalar.subi v141 v143
  let c2_i32_87 : BitVec 32 := 2#32
  let c0_i32_90 : BitVec 32 := 0#32
  let v145 : BitVec 1 := Scalar.cmpi .sgt c2_i32_87 c0_i32_90
  let v146 : BitVec 32 := Scalar.extui v145
  let c0_i32_91 : BitVec 32 := 0#32
  let v147 : BitVec 1 := Scalar.cmpi .slt c2_i32_87 c0_i32_91
  let v148 : BitVec 32 := Scalar.extui v147
  let v149 : BitVec 32 := Scalar.subi v146 v148
  let v150 : BitVec 1 := Scalar.cmpi .ne v144 v149
  let v151 : BitVec 32 := Scalar.remsi v138 c2_i32_87
  let c0_i32_92 : BitVec 32 := 0#32
  let v152 : BitVec 1 := Scalar.cmpi .ne v151 c0_i32_92
  let v153 : BitVec 1 := Scalar.andi v150 v152
  let v139 : BitVec 32 := Scalar.divsi v138 c2_i32_87
  let c1_i32_93 : BitVec 32 := 1#32
  let v154 : BitVec 32 := Scalar.subi v139 c1_i32_93
  let v155 : BitVec 32 := Scalar.select v153 v154 v139
  let c2_i32_94 : BitVec 32 := 2#32
  let c0_i32_95 : BitVec 32 := 0#32
  let v156 : BitVec 1 := Scalar.cmpi .eq c2_i32_94 c0_i32_95
  let c1_i32_96 : BitVec 32 := 1#32
  let v157 : BitVec 32 := Scalar.select v156 c1_i32_96 c2_i32_94
  let v158 : BitVec 32 := Scalar.remsi v155 v157
  let c0_i32_98 : BitVec 32 := 0#32
  let v160 : BitVec 1 := Scalar.cmpi .slt v158 c0_i32_98
  let c0_i32_99 : BitVec 32 := 0#32
  let v161 : BitVec 1 := Scalar.cmpi .slt v157 c0_i32_99
  let v162 : BitVec 1 := Scalar.xori v160 v161
  let c0_i32_97 : BitVec 32 := 0#32
  let v159 : BitVec 1 := Scalar.cmpi .ne v158 c0_i32_97
  let v163 : BitVec 1 := Scalar.andi v162 v159
  let v164 : BitVec 32 := Scalar.addi v158 v157
  let v165 : BitVec 32 := Scalar.select v163 v164 v158
  let c1_i32_100 : BitVec 32 := 1#32
  let v166 : BitVec 1 := Scalar.cmpi .eq v165 c1_i32_100
  let c2_i32_102 : BitVec 32 := 2#32
  let c0_i32_103 : BitVec 32 := 0#32
  let v170 : BitVec 32 := Scalar.select v166 c2_i32_102 c0_i32_103
  let v171 : BitVec 32 := Scalar.addi v137 v170
  let c0_i32_104 : BitVec 32 := 0#32
  let v173 : BitVec 1 := Scalar.cmpi .sgt v171 c0_i32_104
  let v174 : BitVec 32 := Scalar.extui v173
  let c0_i32_105 : BitVec 32 := 0#32
  let v175 : BitVec 1 := Scalar.cmpi .slt v171 c0_i32_105
  let v176 : BitVec 32 := Scalar.extui v175
  let v177 : BitVec 32 := Scalar.subi v174 v176
  let c4_i32 : BitVec 32 := 4#32
  let c0_i32_106 : BitVec 32 := 0#32
  let v178 : BitVec 1 := Scalar.cmpi .sgt c4_i32 c0_i32_106
  let v179 : BitVec 32 := Scalar.extui v178
  let c0_i32_107 : BitVec 32 := 0#32
  let v180 : BitVec 1 := Scalar.cmpi .slt c4_i32 c0_i32_107
  let v181 : BitVec 32 := Scalar.extui v180
  let v182 : BitVec 32 := Scalar.subi v179 v181
  let v183 : BitVec 1 := Scalar.cmpi .ne v177 v182
  let v184 : BitVec 32 := Scalar.remsi v171 c4_i32
  let c0_i32_108 : BitVec 32 := 0#32
  let v185 : BitVec 1 := Scalar.cmpi .ne v184 c0_i32_108
  let v186 : BitVec 1 := Scalar.andi v183 v185
  let v172 : BitVec 32 := Scalar.divsi v171 c4_i32
  let c1_i32_109 : BitVec 32 := 1#32
  let v187 : BitVec 32 := Scalar.subi v172 c1_i32_109
  let v188 : BitVec 32 := Scalar.select v186 v187 v172
  let c8_i32 : BitVec 32 := 8#32
  let v189 : BitVec 32 := Scalar.subi c8_i32 v188
  let c1_i32_110 : BitVec 32 := 1#32
  let v191 : BitVec 32 := Scalar.divsi v189 c1_i32_110
  let v192 : BitVec 32 := Scalar.muli v191 c1_i32_110
  let v193 : BitVec 32 := Scalar.addi v188 v192
  let c1_i32_111 : BitVec 32 := 1#32
  ⟨v188, v193, c1_i32_111⟩
def k0_mult8 (i : grid0.Coords) (k0_t1 : Fin (k0_t1_loop i).trips) : BitVec 32 :=
  let c4_i32_127 : BitVec 32 := 4#32
  let c2_i32_86 : BitVec 32 := 2#32
  let arg1 : BitVec 32 := BitVec.ofNat 32 (i 1).val
  let c1_i32_85 : BitVec 32 := 1#32
  let v136 : BitVec 32 := Scalar.addi arg1 c1_i32_85
  let v137 : BitVec 32 := Scalar.muli c2_i32_86 v136
  let c32_i32 : BitVec 32 := 32#32
  let v138 : BitVec 32 := Scalar.subi c32_i32 v137
  let c0_i32_88 : BitVec 32 := 0#32
  let v140 : BitVec 1 := Scalar.cmpi .sgt v138 c0_i32_88
  let v141 : BitVec 32 := Scalar.extui v140
  let c0_i32_89 : BitVec 32 := 0#32
  let v142 : BitVec 1 := Scalar.cmpi .slt v138 c0_i32_89
  let v143 : BitVec 32 := Scalar.extui v142
  let v144 : BitVec 32 := Scalar.subi v141 v143
  let c2_i32_87 : BitVec 32 := 2#32
  let c0_i32_90 : BitVec 32 := 0#32
  let v145 : BitVec 1 := Scalar.cmpi .sgt c2_i32_87 c0_i32_90
  let v146 : BitVec 32 := Scalar.extui v145
  let c0_i32_91 : BitVec 32 := 0#32
  let v147 : BitVec 1 := Scalar.cmpi .slt c2_i32_87 c0_i32_91
  let v148 : BitVec 32 := Scalar.extui v147
  let v149 : BitVec 32 := Scalar.subi v146 v148
  let v150 : BitVec 1 := Scalar.cmpi .ne v144 v149
  let v151 : BitVec 32 := Scalar.remsi v138 c2_i32_87
  let c0_i32_92 : BitVec 32 := 0#32
  let v152 : BitVec 1 := Scalar.cmpi .ne v151 c0_i32_92
  let v153 : BitVec 1 := Scalar.andi v150 v152
  let v139 : BitVec 32 := Scalar.divsi v138 c2_i32_87
  let c1_i32_93 : BitVec 32 := 1#32
  let v154 : BitVec 32 := Scalar.subi v139 c1_i32_93
  let v155 : BitVec 32 := Scalar.select v153 v154 v139
  let c2_i32_94 : BitVec 32 := 2#32
  let c0_i32_95 : BitVec 32 := 0#32
  let v156 : BitVec 1 := Scalar.cmpi .eq c2_i32_94 c0_i32_95
  let c1_i32_96 : BitVec 32 := 1#32
  let v157 : BitVec 32 := Scalar.select v156 c1_i32_96 c2_i32_94
  let v158 : BitVec 32 := Scalar.remsi v155 v157
  let c0_i32_98 : BitVec 32 := 0#32
  let v160 : BitVec 1 := Scalar.cmpi .slt v158 c0_i32_98
  let c0_i32_99 : BitVec 32 := 0#32
  let v161 : BitVec 1 := Scalar.cmpi .slt v157 c0_i32_99
  let v162 : BitVec 1 := Scalar.xori v160 v161
  let c0_i32_97 : BitVec 32 := 0#32
  let v159 : BitVec 1 := Scalar.cmpi .ne v158 c0_i32_97
  let v163 : BitVec 1 := Scalar.andi v162 v159
  let v164 : BitVec 32 := Scalar.addi v158 v157
  let v165 : BitVec 32 := Scalar.select v163 v164 v158
  let c1_i32_100 : BitVec 32 := 1#32
  let v166 : BitVec 1 := Scalar.cmpi .eq v165 c1_i32_100
  let c2_i32_102 : BitVec 32 := 2#32
  let c0_i32_103 : BitVec 32 := 0#32
  let v170 : BitVec 32 := Scalar.select v166 c2_i32_102 c0_i32_103
  let v171 : BitVec 32 := Scalar.addi v137 v170
  let c0_i32_104 : BitVec 32 := 0#32
  let v173 : BitVec 1 := Scalar.cmpi .sgt v171 c0_i32_104
  let v174 : BitVec 32 := Scalar.extui v173
  let c0_i32_105 : BitVec 32 := 0#32
  let v175 : BitVec 1 := Scalar.cmpi .slt v171 c0_i32_105
  let v176 : BitVec 32 := Scalar.extui v175
  let v177 : BitVec 32 := Scalar.subi v174 v176
  let c4_i32 : BitVec 32 := 4#32
  let c0_i32_106 : BitVec 32 := 0#32
  let v178 : BitVec 1 := Scalar.cmpi .sgt c4_i32 c0_i32_106
  let v179 : BitVec 32 := Scalar.extui v178
  let c0_i32_107 : BitVec 32 := 0#32
  let v180 : BitVec 1 := Scalar.cmpi .slt c4_i32 c0_i32_107
  let v181 : BitVec 32 := Scalar.extui v180
  let v182 : BitVec 32 := Scalar.subi v179 v181
  let v183 : BitVec 1 := Scalar.cmpi .ne v177 v182
  let v184 : BitVec 32 := Scalar.remsi v171 c4_i32
  let c0_i32_108 : BitVec 32 := 0#32
  let v185 : BitVec 1 := Scalar.cmpi .ne v184 c0_i32_108
  let v186 : BitVec 1 := Scalar.andi v183 v185
  let v172 : BitVec 32 := Scalar.divsi v171 c4_i32
  let c1_i32_109 : BitVec 32 := 1#32
  let v187 : BitVec 32 := Scalar.subi v172 c1_i32_109
  let v188 : BitVec 32 := Scalar.select v186 v187 v172
  let c1_i32_111 : BitVec 32 := 1#32
  let arg12 : BitVec 32 := Scf.iv v188 c1_i32_111 k0_t1
  let v216 : BitVec 32 := Scalar.muli c4_i32_127 arg12
  let c0_i32_128 : BitVec 32 := 0#32
  let v217 : BitVec 32 := Scalar.addi v216 c0_i32_128
  let c512_i32_129 : BitVec 32 := 512#32
  let v218 : BitVec 32 := Scalar.muli v217 c512_i32_129
  v218
def k0_off7 (i : grid0.Coords) (k0_t1 : Fin (k0_t1_loop i).trips) (c0_i32_128 : BitVec 32) : Fin 3 → Nat :=
  let c0_130 : Index := 0#32
  let c4_i32_127 : BitVec 32 := 4#32
  let c2_i32_86 : BitVec 32 := 2#32
  let arg1 : BitVec 32 := BitVec.ofNat 32 (i 1).val
  let c1_i32_85 : BitVec 32 := 1#32
  let v136 : BitVec 32 := Scalar.addi arg1 c1_i32_85
  let v137 : BitVec 32 := Scalar.muli c2_i32_86 v136
  let c32_i32 : BitVec 32 := 32#32
  let v138 : BitVec 32 := Scalar.subi c32_i32 v137
  let c0_i32_88 : BitVec 32 := 0#32
  let v140 : BitVec 1 := Scalar.cmpi .sgt v138 c0_i32_88
  let v141 : BitVec 32 := Scalar.extui v140
  let c0_i32_89 : BitVec 32 := 0#32
  let v142 : BitVec 1 := Scalar.cmpi .slt v138 c0_i32_89
  let v143 : BitVec 32 := Scalar.extui v142
  let v144 : BitVec 32 := Scalar.subi v141 v143
  let c2_i32_87 : BitVec 32 := 2#32
  let c0_i32_90 : BitVec 32 := 0#32
  let v145 : BitVec 1 := Scalar.cmpi .sgt c2_i32_87 c0_i32_90
  let v146 : BitVec 32 := Scalar.extui v145
  let c0_i32_91 : BitVec 32 := 0#32
  let v147 : BitVec 1 := Scalar.cmpi .slt c2_i32_87 c0_i32_91
  let v148 : BitVec 32 := Scalar.extui v147
  let v149 : BitVec 32 := Scalar.subi v146 v148
  let v150 : BitVec 1 := Scalar.cmpi .ne v144 v149
  let v151 : BitVec 32 := Scalar.remsi v138 c2_i32_87
  let c0_i32_92 : BitVec 32 := 0#32
  let v152 : BitVec 1 := Scalar.cmpi .ne v151 c0_i32_92
  let v153 : BitVec 1 := Scalar.andi v150 v152
  let v139 : BitVec 32 := Scalar.divsi v138 c2_i32_87
  let c1_i32_93 : BitVec 32 := 1#32
  let v154 : BitVec 32 := Scalar.subi v139 c1_i32_93
  let v155 : BitVec 32 := Scalar.select v153 v154 v139
  let c2_i32_94 : BitVec 32 := 2#32
  let c0_i32_95 : BitVec 32 := 0#32
  let v156 : BitVec 1 := Scalar.cmpi .eq c2_i32_94 c0_i32_95
  let c1_i32_96 : BitVec 32 := 1#32
  let v157 : BitVec 32 := Scalar.select v156 c1_i32_96 c2_i32_94
  let v158 : BitVec 32 := Scalar.remsi v155 v157
  let c0_i32_98 : BitVec 32 := 0#32
  let v160 : BitVec 1 := Scalar.cmpi .slt v158 c0_i32_98
  let c0_i32_99 : BitVec 32 := 0#32
  let v161 : BitVec 1 := Scalar.cmpi .slt v157 c0_i32_99
  let v162 : BitVec 1 := Scalar.xori v160 v161
  let c0_i32_97 : BitVec 32 := 0#32
  let v159 : BitVec 1 := Scalar.cmpi .ne v158 c0_i32_97
  let v163 : BitVec 1 := Scalar.andi v162 v159
  let v164 : BitVec 32 := Scalar.addi v158 v157
  let v165 : BitVec 32 := Scalar.select v163 v164 v158
  let c1_i32_100 : BitVec 32 := 1#32
  let v166 : BitVec 1 := Scalar.cmpi .eq v165 c1_i32_100
  let c2_i32_102 : BitVec 32 := 2#32
  let c0_i32_103 : BitVec 32 := 0#32
  let v170 : BitVec 32 := Scalar.select v166 c2_i32_102 c0_i32_103
  let v171 : BitVec 32 := Scalar.addi v137 v170
  let c0_i32_104 : BitVec 32 := 0#32
  let v173 : BitVec 1 := Scalar.cmpi .sgt v171 c0_i32_104
  let v174 : BitVec 32 := Scalar.extui v173
  let c0_i32_105 : BitVec 32 := 0#32
  let v175 : BitVec 1 := Scalar.cmpi .slt v171 c0_i32_105
  let v176 : BitVec 32 := Scalar.extui v175
  let v177 : BitVec 32 := Scalar.subi v174 v176
  let c4_i32 : BitVec 32 := 4#32
  let c0_i32_106 : BitVec 32 := 0#32
  let v178 : BitVec 1 := Scalar.cmpi .sgt c4_i32 c0_i32_106
  let v179 : BitVec 32 := Scalar.extui v178
  let c0_i32_107 : BitVec 32 := 0#32
  let v180 : BitVec 1 := Scalar.cmpi .slt c4_i32 c0_i32_107
  let v181 : BitVec 32 := Scalar.extui v180
  let v182 : BitVec 32 := Scalar.subi v179 v181
  let v183 : BitVec 1 := Scalar.cmpi .ne v177 v182
  let v184 : BitVec 32 := Scalar.remsi v171 c4_i32
  let c0_i32_108 : BitVec 32 := 0#32
  let v185 : BitVec 1 := Scalar.cmpi .ne v184 c0_i32_108
  let v186 : BitVec 1 := Scalar.andi v183 v185
  let v172 : BitVec 32 := Scalar.divsi v171 c4_i32
  let c1_i32_109 : BitVec 32 := 1#32
  let v187 : BitVec 32 := Scalar.subi v172 c1_i32_109
  let v188 : BitVec 32 := Scalar.select v186 v187 v172
  let c1_i32_111 : BitVec 32 := 1#32
  let arg12 : BitVec 32 := Scf.iv v188 c1_i32_111 k0_t1
  let v216 : BitVec 32 := Scalar.muli c4_i32_127 arg12
  let v217 : BitVec 32 := Scalar.addi v216 c0_i32_128
  let c512_i32_129 : BitVec 32 := 512#32
  let v218 : BitVec 32 := Scalar.muli v217 c512_i32_129
  let v219 : BitVec 32 := v218
  let v220 : Index := Scalar.indexCast v219
  let c0_131 : Index := 0#32
  ![0, v220.toNat, 0]
def k0_off8 (i : grid0.Coords) (k0_t1 : Fin (k0_t1_loop i).trips) (c0_i32_128 : BitVec 32) : Fin 4 → Nat :=
  let c0_135 : Index := 0#32
  let c4_i32_127 : BitVec 32 := 4#32
  let c2_i32_86 : BitVec 32 := 2#32
  let arg1 : BitVec 32 := BitVec.ofNat 32 (i 1).val
  let c1_i32_85 : BitVec 32 := 1#32
  let v136 : BitVec 32 := Scalar.addi arg1 c1_i32_85
  let v137 : BitVec 32 := Scalar.muli c2_i32_86 v136
  let c32_i32 : BitVec 32 := 32#32
  let v138 : BitVec 32 := Scalar.subi c32_i32 v137
  let c0_i32_88 : BitVec 32 := 0#32
  let v140 : BitVec 1 := Scalar.cmpi .sgt v138 c0_i32_88
  let v141 : BitVec 32 := Scalar.extui v140
  let c0_i32_89 : BitVec 32 := 0#32
  let v142 : BitVec 1 := Scalar.cmpi .slt v138 c0_i32_89
  let v143 : BitVec 32 := Scalar.extui v142
  let v144 : BitVec 32 := Scalar.subi v141 v143
  let c2_i32_87 : BitVec 32 := 2#32
  let c0_i32_90 : BitVec 32 := 0#32
  let v145 : BitVec 1 := Scalar.cmpi .sgt c2_i32_87 c0_i32_90
  let v146 : BitVec 32 := Scalar.extui v145
  let c0_i32_91 : BitVec 32 := 0#32
  let v147 : BitVec 1 := Scalar.cmpi .slt c2_i32_87 c0_i32_91
  let v148 : BitVec 32 := Scalar.extui v147
  let v149 : BitVec 32 := Scalar.subi v146 v148
  let v150 : BitVec 1 := Scalar.cmpi .ne v144 v149
  let v151 : BitVec 32 := Scalar.remsi v138 c2_i32_87
  let c0_i32_92 : BitVec 32 := 0#32
  let v152 : BitVec 1 := Scalar.cmpi .ne v151 c0_i32_92
  let v153 : BitVec 1 := Scalar.andi v150 v152
  let v139 : BitVec 32 := Scalar.divsi v138 c2_i32_87
  let c1_i32_93 : BitVec 32 := 1#32
  let v154 : BitVec 32 := Scalar.subi v139 c1_i32_93
  let v155 : BitVec 32 := Scalar.select v153 v154 v139
  let c2_i32_94 : BitVec 32 := 2#32
  let c0_i32_95 : BitVec 32 := 0#32
  let v156 : BitVec 1 := Scalar.cmpi .eq c2_i32_94 c0_i32_95
  let c1_i32_96 : BitVec 32 := 1#32
  let v157 : BitVec 32 := Scalar.select v156 c1_i32_96 c2_i32_94
  let v158 : BitVec 32 := Scalar.remsi v155 v157
  let c0_i32_98 : BitVec 32 := 0#32
  let v160 : BitVec 1 := Scalar.cmpi .slt v158 c0_i32_98
  let c0_i32_99 : BitVec 32 := 0#32
  let v161 : BitVec 1 := Scalar.cmpi .slt v157 c0_i32_99
  let v162 : BitVec 1 := Scalar.xori v160 v161
  let c0_i32_97 : BitVec 32 := 0#32
  let v159 : BitVec 1 := Scalar.cmpi .ne v158 c0_i32_97
  let v163 : BitVec 1 := Scalar.andi v162 v159
  let v164 : BitVec 32 := Scalar.addi v158 v157
  let v165 : BitVec 32 := Scalar.select v163 v164 v158
  let c1_i32_100 : BitVec 32 := 1#32
  let v166 : BitVec 1 := Scalar.cmpi .eq v165 c1_i32_100
  let c2_i32_102 : BitVec 32 := 2#32
  let c0_i32_103 : BitVec 32 := 0#32
  let v170 : BitVec 32 := Scalar.select v166 c2_i32_102 c0_i32_103
  let v171 : BitVec 32 := Scalar.addi v137 v170
  let c0_i32_104 : BitVec 32 := 0#32
  let v173 : BitVec 1 := Scalar.cmpi .sgt v171 c0_i32_104
  let v174 : BitVec 32 := Scalar.extui v173
  let c0_i32_105 : BitVec 32 := 0#32
  let v175 : BitVec 1 := Scalar.cmpi .slt v171 c0_i32_105
  let v176 : BitVec 32 := Scalar.extui v175
  let v177 : BitVec 32 := Scalar.subi v174 v176
  let c4_i32 : BitVec 32 := 4#32
  let c0_i32_106 : BitVec 32 := 0#32
  let v178 : BitVec 1 := Scalar.cmpi .sgt c4_i32 c0_i32_106
  let v179 : BitVec 32 := Scalar.extui v178
  let c0_i32_107 : BitVec 32 := 0#32
  let v180 : BitVec 1 := Scalar.cmpi .slt c4_i32 c0_i32_107
  let v181 : BitVec 32 := Scalar.extui v180
  let v182 : BitVec 32 := Scalar.subi v179 v181
  let v183 : BitVec 1 := Scalar.cmpi .ne v177 v182
  let v184 : BitVec 32 := Scalar.remsi v171 c4_i32
  let c0_i32_108 : BitVec 32 := 0#32
  let v185 : BitVec 1 := Scalar.cmpi .ne v184 c0_i32_108
  let v186 : BitVec 1 := Scalar.andi v183 v185
  let v172 : BitVec 32 := Scalar.divsi v171 c4_i32
  let c1_i32_109 : BitVec 32 := 1#32
  let v187 : BitVec 32 := Scalar.subi v172 c1_i32_109
  let v188 : BitVec 32 := Scalar.select v186 v187 v172
  let c1_i32_111 : BitVec 32 := 1#32
  let arg12 : BitVec 32 := Scf.iv v188 c1_i32_111 k0_t1
  let v216 : BitVec 32 := Scalar.muli c4_i32_127 arg12
  let v217 : BitVec 32 := Scalar.addi v216 c0_i32_128
  let v227 : Index := Scalar.indexCast v217
  let c0_136 : Index := 0#32
  let c0_137 : Index := 0#32
  ![0, v227.toNat, 0, 0]
def k0_mult9 (i : grid0.Coords) (k0_t1 : Fin (k0_t1_loop i).trips) : BitVec 32 :=
  let c4_i32_127 : BitVec 32 := 4#32
  let c2_i32_86 : BitVec 32 := 2#32
  let arg1 : BitVec 32 := BitVec.ofNat 32 (i 1).val
  let c1_i32_85 : BitVec 32 := 1#32
  let v136 : BitVec 32 := Scalar.addi arg1 c1_i32_85
  let v137 : BitVec 32 := Scalar.muli c2_i32_86 v136
  let c32_i32 : BitVec 32 := 32#32
  let v138 : BitVec 32 := Scalar.subi c32_i32 v137
  let c0_i32_88 : BitVec 32 := 0#32
  let v140 : BitVec 1 := Scalar.cmpi .sgt v138 c0_i32_88
  let v141 : BitVec 32 := Scalar.extui v140
  let c0_i32_89 : BitVec 32 := 0#32
  let v142 : BitVec 1 := Scalar.cmpi .slt v138 c0_i32_89
  let v143 : BitVec 32 := Scalar.extui v142
  let v144 : BitVec 32 := Scalar.subi v141 v143
  let c2_i32_87 : BitVec 32 := 2#32
  let c0_i32_90 : BitVec 32 := 0#32
  let v145 : BitVec 1 := Scalar.cmpi .sgt c2_i32_87 c0_i32_90
  let v146 : BitVec 32 := Scalar.extui v145
  let c0_i32_91 : BitVec 32 := 0#32
  let v147 : BitVec 1 := Scalar.cmpi .slt c2_i32_87 c0_i32_91
  let v148 : BitVec 32 := Scalar.extui v147
  let v149 : BitVec 32 := Scalar.subi v146 v148
  let v150 : BitVec 1 := Scalar.cmpi .ne v144 v149
  let v151 : BitVec 32 := Scalar.remsi v138 c2_i32_87
  let c0_i32_92 : BitVec 32 := 0#32
  let v152 : BitVec 1 := Scalar.cmpi .ne v151 c0_i32_92
  let v153 : BitVec 1 := Scalar.andi v150 v152
  let v139 : BitVec 32 := Scalar.divsi v138 c2_i32_87
  let c1_i32_93 : BitVec 32 := 1#32
  let v154 : BitVec 32 := Scalar.subi v139 c1_i32_93
  let v155 : BitVec 32 := Scalar.select v153 v154 v139
  let c2_i32_94 : BitVec 32 := 2#32
  let c0_i32_95 : BitVec 32 := 0#32
  let v156 : BitVec 1 := Scalar.cmpi .eq c2_i32_94 c0_i32_95
  let c1_i32_96 : BitVec 32 := 1#32
  let v157 : BitVec 32 := Scalar.select v156 c1_i32_96 c2_i32_94
  let v158 : BitVec 32 := Scalar.remsi v155 v157
  let c0_i32_98 : BitVec 32 := 0#32
  let v160 : BitVec 1 := Scalar.cmpi .slt v158 c0_i32_98
  let c0_i32_99 : BitVec 32 := 0#32
  let v161 : BitVec 1 := Scalar.cmpi .slt v157 c0_i32_99
  let v162 : BitVec 1 := Scalar.xori v160 v161
  let c0_i32_97 : BitVec 32 := 0#32
  let v159 : BitVec 1 := Scalar.cmpi .ne v158 c0_i32_97
  let v163 : BitVec 1 := Scalar.andi v162 v159
  let v164 : BitVec 32 := Scalar.addi v158 v157
  let v165 : BitVec 32 := Scalar.select v163 v164 v158
  let c1_i32_100 : BitVec 32 := 1#32
  let v166 : BitVec 1 := Scalar.cmpi .eq v165 c1_i32_100
  let c2_i32_102 : BitVec 32 := 2#32
  let c0_i32_103 : BitVec 32 := 0#32
  let v170 : BitVec 32 := Scalar.select v166 c2_i32_102 c0_i32_103
  let v171 : BitVec 32 := Scalar.addi v137 v170
  let c0_i32_104 : BitVec 32 := 0#32
  let v173 : BitVec 1 := Scalar.cmpi .sgt v171 c0_i32_104
  let v174 : BitVec 32 := Scalar.extui v173
  let c0_i32_105 : BitVec 32 := 0#32
  let v175 : BitVec 1 := Scalar.cmpi .slt v171 c0_i32_105
  let v176 : BitVec 32 := Scalar.extui v175
  let v177 : BitVec 32 := Scalar.subi v174 v176
  let c4_i32 : BitVec 32 := 4#32
  let c0_i32_106 : BitVec 32 := 0#32
  let v178 : BitVec 1 := Scalar.cmpi .sgt c4_i32 c0_i32_106
  let v179 : BitVec 32 := Scalar.extui v178
  let c0_i32_107 : BitVec 32 := 0#32
  let v180 : BitVec 1 := Scalar.cmpi .slt c4_i32 c0_i32_107
  let v181 : BitVec 32 := Scalar.extui v180
  let v182 : BitVec 32 := Scalar.subi v179 v181
  let v183 : BitVec 1 := Scalar.cmpi .ne v177 v182
  let v184 : BitVec 32 := Scalar.remsi v171 c4_i32
  let c0_i32_108 : BitVec 32 := 0#32
  let v185 : BitVec 1 := Scalar.cmpi .ne v184 c0_i32_108
  let v186 : BitVec 1 := Scalar.andi v183 v185
  let v172 : BitVec 32 := Scalar.divsi v171 c4_i32
  let c1_i32_109 : BitVec 32 := 1#32
  let v187 : BitVec 32 := Scalar.subi v172 c1_i32_109
  let v188 : BitVec 32 := Scalar.select v186 v187 v172
  let c1_i32_111 : BitVec 32 := 1#32
  let arg12 : BitVec 32 := Scf.iv v188 c1_i32_111 k0_t1
  let v216 : BitVec 32 := Scalar.muli c4_i32_127 arg12
  let c0_i32_128 : BitVec 32 := 0#32
  let v217 : BitVec 32 := Scalar.addi v216 c0_i32_128
  let c512_i32_149 : BitVec 32 := 512#32
  let v249 : BitVec 32 := Scalar.muli v217 c512_i32_149
  v249
def k0_off9 (i : grid0.Coords) (k0_t1 : Fin (k0_t1_loop i).trips) (c0_i32_128 : BitVec 32) : Fin 4 → Nat :=
  let c0_169 : Index := 0#32
  let c4_i32_127 : BitVec 32 := 4#32
  let c2_i32_86 : BitVec 32 := 2#32
  let arg1 : BitVec 32 := BitVec.ofNat 32 (i 1).val
  let c1_i32_85 : BitVec 32 := 1#32
  let v136 : BitVec 32 := Scalar.addi arg1 c1_i32_85
  let v137 : BitVec 32 := Scalar.muli c2_i32_86 v136
  let c32_i32 : BitVec 32 := 32#32
  let v138 : BitVec 32 := Scalar.subi c32_i32 v137
  let c0_i32_88 : BitVec 32 := 0#32
  let v140 : BitVec 1 := Scalar.cmpi .sgt v138 c0_i32_88
  let v141 : BitVec 32 := Scalar.extui v140
  let c0_i32_89 : BitVec 32 := 0#32
  let v142 : BitVec 1 := Scalar.cmpi .slt v138 c0_i32_89
  let v143 : BitVec 32 := Scalar.extui v142
  let v144 : BitVec 32 := Scalar.subi v141 v143
  let c2_i32_87 : BitVec 32 := 2#32
  let c0_i32_90 : BitVec 32 := 0#32
  let v145 : BitVec 1 := Scalar.cmpi .sgt c2_i32_87 c0_i32_90
  let v146 : BitVec 32 := Scalar.extui v145
  let c0_i32_91 : BitVec 32 := 0#32
  let v147 : BitVec 1 := Scalar.cmpi .slt c2_i32_87 c0_i32_91
  let v148 : BitVec 32 := Scalar.extui v147
  let v149 : BitVec 32 := Scalar.subi v146 v148
  let v150 : BitVec 1 := Scalar.cmpi .ne v144 v149
  let v151 : BitVec 32 := Scalar.remsi v138 c2_i32_87
  let c0_i32_92 : BitVec 32 := 0#32
  let v152 : BitVec 1 := Scalar.cmpi .ne v151 c0_i32_92
  let v153 : BitVec 1 := Scalar.andi v150 v152
  let v139 : BitVec 32 := Scalar.divsi v138 c2_i32_87
  let c1_i32_93 : BitVec 32 := 1#32
  let v154 : BitVec 32 := Scalar.subi v139 c1_i32_93
  let v155 : BitVec 32 := Scalar.select v153 v154 v139
  let c2_i32_94 : BitVec 32 := 2#32
  let c0_i32_95 : BitVec 32 := 0#32
  let v156 : BitVec 1 := Scalar.cmpi .eq c2_i32_94 c0_i32_95
  let c1_i32_96 : BitVec 32 := 1#32
  let v157 : BitVec 32 := Scalar.select v156 c1_i32_96 c2_i32_94
  let v158 : BitVec 32 := Scalar.remsi v155 v157
  let c0_i32_98 : BitVec 32 := 0#32
  let v160 : BitVec 1 := Scalar.cmpi .slt v158 c0_i32_98
  let c0_i32_99 : BitVec 32 := 0#32
  let v161 : BitVec 1 := Scalar.cmpi .slt v157 c0_i32_99
  let v162 : BitVec 1 := Scalar.xori v160 v161
  let c0_i32_97 : BitVec 32 := 0#32
  let v159 : BitVec 1 := Scalar.cmpi .ne v158 c0_i32_97
  let v163 : BitVec 1 := Scalar.andi v162 v159
  let v164 : BitVec 32 := Scalar.addi v158 v157
  let v165 : BitVec 32 := Scalar.select v163 v164 v158
  let c1_i32_100 : BitVec 32 := 1#32
  let v166 : BitVec 1 := Scalar.cmpi .eq v165 c1_i32_100
  let c2_i32_102 : BitVec 32 := 2#32
  let c0_i32_103 : BitVec 32 := 0#32
  let v170 : BitVec 32 := Scalar.select v166 c2_i32_102 c0_i32_103
  let v171 : BitVec 32 := Scalar.addi v137 v170
  let c0_i32_104 : BitVec 32 := 0#32
  let v173 : BitVec 1 := Scalar.cmpi .sgt v171 c0_i32_104
  let v174 : BitVec 32 := Scalar.extui v173
  let c0_i32_105 : BitVec 32 := 0#32
  let v175 : BitVec 1 := Scalar.cmpi .slt v171 c0_i32_105
  let v176 : BitVec 32 := Scalar.extui v175
  let v177 : BitVec 32 := Scalar.subi v174 v176
  let c4_i32 : BitVec 32 := 4#32
  let c0_i32_106 : BitVec 32 := 0#32
  let v178 : BitVec 1 := Scalar.cmpi .sgt c4_i32 c0_i32_106
  let v179 : BitVec 32 := Scalar.extui v178
  let c0_i32_107 : BitVec 32 := 0#32
  let v180 : BitVec 1 := Scalar.cmpi .slt c4_i32 c0_i32_107
  let v181 : BitVec 32 := Scalar.extui v180
  let v182 : BitVec 32 := Scalar.subi v179 v181
  let v183 : BitVec 1 := Scalar.cmpi .ne v177 v182
  let v184 : BitVec 32 := Scalar.remsi v171 c4_i32
  let c0_i32_108 : BitVec 32 := 0#32
  let v185 : BitVec 1 := Scalar.cmpi .ne v184 c0_i32_108
  let v186 : BitVec 1 := Scalar.andi v183 v185
  let v172 : BitVec 32 := Scalar.divsi v171 c4_i32
  let c1_i32_109 : BitVec 32 := 1#32
  let v187 : BitVec 32 := Scalar.subi v172 c1_i32_109
  let v188 : BitVec 32 := Scalar.select v186 v187 v172
  let c1_i32_111 : BitVec 32 := 1#32
  let arg12 : BitVec 32 := Scf.iv v188 c1_i32_111 k0_t1
  let v216 : BitVec 32 := Scalar.muli c4_i32_127 arg12
  let v217 : BitVec 32 := Scalar.addi v216 c0_i32_128
  let v281 : Index := Scalar.indexCast v217
  let c0_170 : Index := 0#32
  let c0_171 : Index := 0#32
  ![0, v281.toNat, 0, 0]
def k0_mult10 (i : grid0.Coords) (k0_t1 : Fin (k0_t1_loop i).trips) : BitVec 32 :=
  let c4_i32_175 : BitVec 32 := 4#32
  let c2_i32_86 : BitVec 32 := 2#32
  let arg1 : BitVec 32 := BitVec.ofNat 32 (i 1).val
  let c1_i32_85 : BitVec 32 := 1#32
  let v136 : BitVec 32 := Scalar.addi arg1 c1_i32_85
  let v137 : BitVec 32 := Scalar.muli c2_i32_86 v136
  let c32_i32 : BitVec 32 := 32#32
  let v138 : BitVec 32 := Scalar.subi c32_i32 v137
  let c0_i32_88 : BitVec 32 := 0#32
  let v140 : BitVec 1 := Scalar.cmpi .sgt v138 c0_i32_88
  let v141 : BitVec 32 := Scalar.extui v140
  let c0_i32_89 : BitVec 32 := 0#32
  let v142 : BitVec 1 := Scalar.cmpi .slt v138 c0_i32_89
  let v143 : BitVec 32 := Scalar.extui v142
  let v144 : BitVec 32 := Scalar.subi v141 v143
  let c2_i32_87 : BitVec 32 := 2#32
  let c0_i32_90 : BitVec 32 := 0#32
  let v145 : BitVec 1 := Scalar.cmpi .sgt c2_i32_87 c0_i32_90
  let v146 : BitVec 32 := Scalar.extui v145
  let c0_i32_91 : BitVec 32 := 0#32
  let v147 : BitVec 1 := Scalar.cmpi .slt c2_i32_87 c0_i32_91
  let v148 : BitVec 32 := Scalar.extui v147
  let v149 : BitVec 32 := Scalar.subi v146 v148
  let v150 : BitVec 1 := Scalar.cmpi .ne v144 v149
  let v151 : BitVec 32 := Scalar.remsi v138 c2_i32_87
  let c0_i32_92 : BitVec 32 := 0#32
  let v152 : BitVec 1 := Scalar.cmpi .ne v151 c0_i32_92
  let v153 : BitVec 1 := Scalar.andi v150 v152
  let v139 : BitVec 32 := Scalar.divsi v138 c2_i32_87
  let c1_i32_93 : BitVec 32 := 1#32
  let v154 : BitVec 32 := Scalar.subi v139 c1_i32_93
  let v155 : BitVec 32 := Scalar.select v153 v154 v139
  let c2_i32_94 : BitVec 32 := 2#32
  let c0_i32_95 : BitVec 32 := 0#32
  let v156 : BitVec 1 := Scalar.cmpi .eq c2_i32_94 c0_i32_95
  let c1_i32_96 : BitVec 32 := 1#32
  let v157 : BitVec 32 := Scalar.select v156 c1_i32_96 c2_i32_94
  let v158 : BitVec 32 := Scalar.remsi v155 v157
  let c0_i32_98 : BitVec 32 := 0#32
  let v160 : BitVec 1 := Scalar.cmpi .slt v158 c0_i32_98
  let c0_i32_99 : BitVec 32 := 0#32
  let v161 : BitVec 1 := Scalar.cmpi .slt v157 c0_i32_99
  let v162 : BitVec 1 := Scalar.xori v160 v161
  let c0_i32_97 : BitVec 32 := 0#32
  let v159 : BitVec 1 := Scalar.cmpi .ne v158 c0_i32_97
  let v163 : BitVec 1 := Scalar.andi v162 v159
  let v164 : BitVec 32 := Scalar.addi v158 v157
  let v165 : BitVec 32 := Scalar.select v163 v164 v158
  let c1_i32_100 : BitVec 32 := 1#32
  let v166 : BitVec 1 := Scalar.cmpi .eq v165 c1_i32_100
  let c2_i32_102 : BitVec 32 := 2#32
  let c0_i32_103 : BitVec 32 := 0#32
  let v170 : BitVec 32 := Scalar.select v166 c2_i32_102 c0_i32_103
  let v171 : BitVec 32 := Scalar.addi v137 v170
  let c0_i32_104 : BitVec 32 := 0#32
  let v173 : BitVec 1 := Scalar.cmpi .sgt v171 c0_i32_104
  let v174 : BitVec 32 := Scalar.extui v173
  let c0_i32_105 : BitVec 32 := 0#32
  let v175 : BitVec 1 := Scalar.cmpi .slt v171 c0_i32_105
  let v176 : BitVec 32 := Scalar.extui v175
  let v177 : BitVec 32 := Scalar.subi v174 v176
  let c4_i32 : BitVec 32 := 4#32
  let c0_i32_106 : BitVec 32 := 0#32
  let v178 : BitVec 1 := Scalar.cmpi .sgt c4_i32 c0_i32_106
  let v179 : BitVec 32 := Scalar.extui v178
  let c0_i32_107 : BitVec 32 := 0#32
  let v180 : BitVec 1 := Scalar.cmpi .slt c4_i32 c0_i32_107
  let v181 : BitVec 32 := Scalar.extui v180
  let v182 : BitVec 32 := Scalar.subi v179 v181
  let v183 : BitVec 1 := Scalar.cmpi .ne v177 v182
  let v184 : BitVec 32 := Scalar.remsi v171 c4_i32
  let c0_i32_108 : BitVec 32 := 0#32
  let v185 : BitVec 1 := Scalar.cmpi .ne v184 c0_i32_108
  let v186 : BitVec 1 := Scalar.andi v183 v185
  let v172 : BitVec 32 := Scalar.divsi v171 c4_i32
  let c1_i32_109 : BitVec 32 := 1#32
  let v187 : BitVec 32 := Scalar.subi v172 c1_i32_109
  let v188 : BitVec 32 := Scalar.select v186 v187 v172
  let c1_i32_111 : BitVec 32 := 1#32
  let arg12 : BitVec 32 := Scf.iv v188 c1_i32_111 k0_t1
  let v289 : BitVec 32 := Scalar.muli c4_i32_175 arg12
  let c1_i32_176 : BitVec 32 := 1#32
  let v290 : BitVec 32 := Scalar.addi v289 c1_i32_176
  let c512_i32_177 : BitVec 32 := 512#32
  let v291 : BitVec 32 := Scalar.muli v290 c512_i32_177
  v291
def k0_mult11 (i : grid0.Coords) (k0_t1 : Fin (k0_t1_loop i).trips) : BitVec 32 :=
  let c4_i32_175 : BitVec 32 := 4#32
  let c2_i32_86 : BitVec 32 := 2#32
  let arg1 : BitVec 32 := BitVec.ofNat 32 (i 1).val
  let c1_i32_85 : BitVec 32 := 1#32
  let v136 : BitVec 32 := Scalar.addi arg1 c1_i32_85
  let v137 : BitVec 32 := Scalar.muli c2_i32_86 v136
  let c32_i32 : BitVec 32 := 32#32
  let v138 : BitVec 32 := Scalar.subi c32_i32 v137
  let c0_i32_88 : BitVec 32 := 0#32
  let v140 : BitVec 1 := Scalar.cmpi .sgt v138 c0_i32_88
  let v141 : BitVec 32 := Scalar.extui v140
  let c0_i32_89 : BitVec 32 := 0#32
  let v142 : BitVec 1 := Scalar.cmpi .slt v138 c0_i32_89
  let v143 : BitVec 32 := Scalar.extui v142
  let v144 : BitVec 32 := Scalar.subi v141 v143
  let c2_i32_87 : BitVec 32 := 2#32
  let c0_i32_90 : BitVec 32 := 0#32
  let v145 : BitVec 1 := Scalar.cmpi .sgt c2_i32_87 c0_i32_90
  let v146 : BitVec 32 := Scalar.extui v145
  let c0_i32_91 : BitVec 32 := 0#32
  let v147 : BitVec 1 := Scalar.cmpi .slt c2_i32_87 c0_i32_91
  let v148 : BitVec 32 := Scalar.extui v147
  let v149 : BitVec 32 := Scalar.subi v146 v148
  let v150 : BitVec 1 := Scalar.cmpi .ne v144 v149
  let v151 : BitVec 32 := Scalar.remsi v138 c2_i32_87
  let c0_i32_92 : BitVec 32 := 0#32
  let v152 : BitVec 1 := Scalar.cmpi .ne v151 c0_i32_92
  let v153 : BitVec 1 := Scalar.andi v150 v152
  let v139 : BitVec 32 := Scalar.divsi v138 c2_i32_87
  let c1_i32_93 : BitVec 32 := 1#32
  let v154 : BitVec 32 := Scalar.subi v139 c1_i32_93
  let v155 : BitVec 32 := Scalar.select v153 v154 v139
  let c2_i32_94 : BitVec 32 := 2#32
  let c0_i32_95 : BitVec 32 := 0#32
  let v156 : BitVec 1 := Scalar.cmpi .eq c2_i32_94 c0_i32_95
  let c1_i32_96 : BitVec 32 := 1#32
  let v157 : BitVec 32 := Scalar.select v156 c1_i32_96 c2_i32_94
  let v158 : BitVec 32 := Scalar.remsi v155 v157
  let c0_i32_98 : BitVec 32 := 0#32
  let v160 : BitVec 1 := Scalar.cmpi .slt v158 c0_i32_98
  let c0_i32_99 : BitVec 32 := 0#32
  let v161 : BitVec 1 := Scalar.cmpi .slt v157 c0_i32_99
  let v162 : BitVec 1 := Scalar.xori v160 v161
  let c0_i32_97 : BitVec 32 := 0#32
  let v159 : BitVec 1 := Scalar.cmpi .ne v158 c0_i32_97
  let v163 : BitVec 1 := Scalar.andi v162 v159
  let v164 : BitVec 32 := Scalar.addi v158 v157
  let v165 : BitVec 32 := Scalar.select v163 v164 v158
  let c1_i32_100 : BitVec 32 := 1#32
  let v166 : BitVec 1 := Scalar.cmpi .eq v165 c1_i32_100
  let c2_i32_102 : BitVec 32 := 2#32
  let c0_i32_103 : BitVec 32 := 0#32
  let v170 : BitVec 32 := Scalar.select v166 c2_i32_102 c0_i32_103
  let v171 : BitVec 32 := Scalar.addi v137 v170
  let c0_i32_104 : BitVec 32 := 0#32
  let v173 : BitVec 1 := Scalar.cmpi .sgt v171 c0_i32_104
  let v174 : BitVec 32 := Scalar.extui v173
  let c0_i32_105 : BitVec 32 := 0#32
  let v175 : BitVec 1 := Scalar.cmpi .slt v171 c0_i32_105
  let v176 : BitVec 32 := Scalar.extui v175
  let v177 : BitVec 32 := Scalar.subi v174 v176
  let c4_i32 : BitVec 32 := 4#32
  let c0_i32_106 : BitVec 32 := 0#32
  let v178 : BitVec 1 := Scalar.cmpi .sgt c4_i32 c0_i32_106
  let v179 : BitVec 32 := Scalar.extui v178
  let c0_i32_107 : BitVec 32 := 0#32
  let v180 : BitVec 1 := Scalar.cmpi .slt c4_i32 c0_i32_107
  let v181 : BitVec 32 := Scalar.extui v180
  let v182 : BitVec 32 := Scalar.subi v179 v181
  let v183 : BitVec 1 := Scalar.cmpi .ne v177 v182
  let v184 : BitVec 32 := Scalar.remsi v171 c4_i32
  let c0_i32_108 : BitVec 32 := 0#32
  let v185 : BitVec 1 := Scalar.cmpi .ne v184 c0_i32_108
  let v186 : BitVec 1 := Scalar.andi v183 v185
  let v172 : BitVec 32 := Scalar.divsi v171 c4_i32
  let c1_i32_109 : BitVec 32 := 1#32
  let v187 : BitVec 32 := Scalar.subi v172 c1_i32_109
  let v188 : BitVec 32 := Scalar.select v186 v187 v172
  let c1_i32_111 : BitVec 32 := 1#32
  let arg12 : BitVec 32 := Scf.iv v188 c1_i32_111 k0_t1
  let v289 : BitVec 32 := Scalar.muli c4_i32_175 arg12
  let c1_i32_176 : BitVec 32 := 1#32
  let v290 : BitVec 32 := Scalar.addi v289 c1_i32_176
  let c512_i32_197 : BitVec 32 := 512#32
  let v322 : BitVec 32 := Scalar.muli v290 c512_i32_197
  v322
def k0_mult12 (i : grid0.Coords) (k0_t1 : Fin (k0_t1_loop i).trips) : BitVec 32 :=
  let c4_i32_223 : BitVec 32 := 4#32
  let c2_i32_86 : BitVec 32 := 2#32
  let arg1 : BitVec 32 := BitVec.ofNat 32 (i 1).val
  let c1_i32_85 : BitVec 32 := 1#32
  let v136 : BitVec 32 := Scalar.addi arg1 c1_i32_85
  let v137 : BitVec 32 := Scalar.muli c2_i32_86 v136
  let c32_i32 : BitVec 32 := 32#32
  let v138 : BitVec 32 := Scalar.subi c32_i32 v137
  let c0_i32_88 : BitVec 32 := 0#32
  let v140 : BitVec 1 := Scalar.cmpi .sgt v138 c0_i32_88
  let v141 : BitVec 32 := Scalar.extui v140
  let c0_i32_89 : BitVec 32 := 0#32
  let v142 : BitVec 1 := Scalar.cmpi .slt v138 c0_i32_89
  let v143 : BitVec 32 := Scalar.extui v142
  let v144 : BitVec 32 := Scalar.subi v141 v143
  let c2_i32_87 : BitVec 32 := 2#32
  let c0_i32_90 : BitVec 32 := 0#32
  let v145 : BitVec 1 := Scalar.cmpi .sgt c2_i32_87 c0_i32_90
  let v146 : BitVec 32 := Scalar.extui v145
  let c0_i32_91 : BitVec 32 := 0#32
  let v147 : BitVec 1 := Scalar.cmpi .slt c2_i32_87 c0_i32_91
  let v148 : BitVec 32 := Scalar.extui v147
  let v149 : BitVec 32 := Scalar.subi v146 v148
  let v150 : BitVec 1 := Scalar.cmpi .ne v144 v149
  let v151 : BitVec 32 := Scalar.remsi v138 c2_i32_87
  let c0_i32_92 : BitVec 32 := 0#32
  let v152 : BitVec 1 := Scalar.cmpi .ne v151 c0_i32_92
  let v153 : BitVec 1 := Scalar.andi v150 v152
  let v139 : BitVec 32 := Scalar.divsi v138 c2_i32_87
  let c1_i32_93 : BitVec 32 := 1#32
  let v154 : BitVec 32 := Scalar.subi v139 c1_i32_93
  let v155 : BitVec 32 := Scalar.select v153 v154 v139
  let c2_i32_94 : BitVec 32 := 2#32
  let c0_i32_95 : BitVec 32 := 0#32
  let v156 : BitVec 1 := Scalar.cmpi .eq c2_i32_94 c0_i32_95
  let c1_i32_96 : BitVec 32 := 1#32
  let v157 : BitVec 32 := Scalar.select v156 c1_i32_96 c2_i32_94
  let v158 : BitVec 32 := Scalar.remsi v155 v157
  let c0_i32_98 : BitVec 32 := 0#32
  let v160 : BitVec 1 := Scalar.cmpi .slt v158 c0_i32_98
  let c0_i32_99 : BitVec 32 := 0#32
  let v161 : BitVec 1 := Scalar.cmpi .slt v157 c0_i32_99
  let v162 : BitVec 1 := Scalar.xori v160 v161
  let c0_i32_97 : BitVec 32 := 0#32
  let v159 : BitVec 1 := Scalar.cmpi .ne v158 c0_i32_97
  let v163 : BitVec 1 := Scalar.andi v162 v159
  let v164 : BitVec 32 := Scalar.addi v158 v157
  let v165 : BitVec 32 := Scalar.select v163 v164 v158
  let c1_i32_100 : BitVec 32 := 1#32
  let v166 : BitVec 1 := Scalar.cmpi .eq v165 c1_i32_100
  let c2_i32_102 : BitVec 32 := 2#32
  let c0_i32_103 : BitVec 32 := 0#32
  let v170 : BitVec 32 := Scalar.select v166 c2_i32_102 c0_i32_103
  let v171 : BitVec 32 := Scalar.addi v137 v170
  let c0_i32_104 : BitVec 32 := 0#32
  let v173 : BitVec 1 := Scalar.cmpi .sgt v171 c0_i32_104
  let v174 : BitVec 32 := Scalar.extui v173
  let c0_i32_105 : BitVec 32 := 0#32
  let v175 : BitVec 1 := Scalar.cmpi .slt v171 c0_i32_105
  let v176 : BitVec 32 := Scalar.extui v175
  let v177 : BitVec 32 := Scalar.subi v174 v176
  let c4_i32 : BitVec 32 := 4#32
  let c0_i32_106 : BitVec 32 := 0#32
  let v178 : BitVec 1 := Scalar.cmpi .sgt c4_i32 c0_i32_106
  let v179 : BitVec 32 := Scalar.extui v178
  let c0_i32_107 : BitVec 32 := 0#32
  let v180 : BitVec 1 := Scalar.cmpi .slt c4_i32 c0_i32_107
  let v181 : BitVec 32 := Scalar.extui v180
  let v182 : BitVec 32 := Scalar.subi v179 v181
  let v183 : BitVec 1 := Scalar.cmpi .ne v177 v182
  let v184 : BitVec 32 := Scalar.remsi v171 c4_i32
  let c0_i32_108 : BitVec 32 := 0#32
  let v185 : BitVec 1 := Scalar.cmpi .ne v184 c0_i32_108
  let v186 : BitVec 1 := Scalar.andi v183 v185
  let v172 : BitVec 32 := Scalar.divsi v171 c4_i32
  let c1_i32_109 : BitVec 32 := 1#32
  let v187 : BitVec 32 := Scalar.subi v172 c1_i32_109
  let v188 : BitVec 32 := Scalar.select v186 v187 v172
  let c1_i32_111 : BitVec 32 := 1#32
  let arg12 : BitVec 32 := Scf.iv v188 c1_i32_111 k0_t1
  let v362 : BitVec 32 := Scalar.muli c4_i32_223 arg12
  let c2_i32_224 : BitVec 32 := 2#32
  let v363 : BitVec 32 := Scalar.addi v362 c2_i32_224
  let c512_i32_225 : BitVec 32 := 512#32
  let v364 : BitVec 32 := Scalar.muli v363 c512_i32_225
  v364
def k0_mult13 (i : grid0.Coords) (k0_t1 : Fin (k0_t1_loop i).trips) : BitVec 32 :=
  let c4_i32_223 : BitVec 32 := 4#32
  let c2_i32_86 : BitVec 32 := 2#32
  let arg1 : BitVec 32 := BitVec.ofNat 32 (i 1).val
  let c1_i32_85 : BitVec 32 := 1#32
  let v136 : BitVec 32 := Scalar.addi arg1 c1_i32_85
  let v137 : BitVec 32 := Scalar.muli c2_i32_86 v136
  let c32_i32 : BitVec 32 := 32#32
  let v138 : BitVec 32 := Scalar.subi c32_i32 v137
  let c0_i32_88 : BitVec 32 := 0#32
  let v140 : BitVec 1 := Scalar.cmpi .sgt v138 c0_i32_88
  let v141 : BitVec 32 := Scalar.extui v140
  let c0_i32_89 : BitVec 32 := 0#32
  let v142 : BitVec 1 := Scalar.cmpi .slt v138 c0_i32_89
  let v143 : BitVec 32 := Scalar.extui v142
  let v144 : BitVec 32 := Scalar.subi v141 v143
  let c2_i32_87 : BitVec 32 := 2#32
  let c0_i32_90 : BitVec 32 := 0#32
  let v145 : BitVec 1 := Scalar.cmpi .sgt c2_i32_87 c0_i32_90
  let v146 : BitVec 32 := Scalar.extui v145
  let c0_i32_91 : BitVec 32 := 0#32
  let v147 : BitVec 1 := Scalar.cmpi .slt c2_i32_87 c0_i32_91
  let v148 : BitVec 32 := Scalar.extui v147
  let v149 : BitVec 32 := Scalar.subi v146 v148
  let v150 : BitVec 1 := Scalar.cmpi .ne v144 v149
  let v151 : BitVec 32 := Scalar.remsi v138 c2_i32_87
  let c0_i32_92 : BitVec 32 := 0#32
  let v152 : BitVec 1 := Scalar.cmpi .ne v151 c0_i32_92
  let v153 : BitVec 1 := Scalar.andi v150 v152
  let v139 : BitVec 32 := Scalar.divsi v138 c2_i32_87
  let c1_i32_93 : BitVec 32 := 1#32
  let v154 : BitVec 32 := Scalar.subi v139 c1_i32_93
  let v155 : BitVec 32 := Scalar.select v153 v154 v139
  let c2_i32_94 : BitVec 32 := 2#32
  let c0_i32_95 : BitVec 32 := 0#32
  let v156 : BitVec 1 := Scalar.cmpi .eq c2_i32_94 c0_i32_95
  let c1_i32_96 : BitVec 32 := 1#32
  let v157 : BitVec 32 := Scalar.select v156 c1_i32_96 c2_i32_94
  let v158 : BitVec 32 := Scalar.remsi v155 v157
  let c0_i32_98 : BitVec 32 := 0#32
  let v160 : BitVec 1 := Scalar.cmpi .slt v158 c0_i32_98
  let c0_i32_99 : BitVec 32 := 0#32
  let v161 : BitVec 1 := Scalar.cmpi .slt v157 c0_i32_99
  let v162 : BitVec 1 := Scalar.xori v160 v161
  let c0_i32_97 : BitVec 32 := 0#32
  let v159 : BitVec 1 := Scalar.cmpi .ne v158 c0_i32_97
  let v163 : BitVec 1 := Scalar.andi v162 v159
  let v164 : BitVec 32 := Scalar.addi v158 v157
  let v165 : BitVec 32 := Scalar.select v163 v164 v158
  let c1_i32_100 : BitVec 32 := 1#32
  let v166 : BitVec 1 := Scalar.cmpi .eq v165 c1_i32_100
  let c2_i32_102 : BitVec 32 := 2#32
  let c0_i32_103 : BitVec 32 := 0#32
  let v170 : BitVec 32 := Scalar.select v166 c2_i32_102 c0_i32_103
  let v171 : BitVec 32 := Scalar.addi v137 v170
  let c0_i32_104 : BitVec 32 := 0#32
  let v173 : BitVec 1 := Scalar.cmpi .sgt v171 c0_i32_104
  let v174 : BitVec 32 := Scalar.extui v173
  let c0_i32_105 : BitVec 32 := 0#32
  let v175 : BitVec 1 := Scalar.cmpi .slt v171 c0_i32_105
  let v176 : BitVec 32 := Scalar.extui v175
  let v177 : BitVec 32 := Scalar.subi v174 v176
  let c4_i32 : BitVec 32 := 4#32
  let c0_i32_106 : BitVec 32 := 0#32
  let v178 : BitVec 1 := Scalar.cmpi .sgt c4_i32 c0_i32_106
  let v179 : BitVec 32 := Scalar.extui v178
  let c0_i32_107 : BitVec 32 := 0#32
  let v180 : BitVec 1 := Scalar.cmpi .slt c4_i32 c0_i32_107
  let v181 : BitVec 32 := Scalar.extui v180
  let v182 : BitVec 32 := Scalar.subi v179 v181
  let v183 : BitVec 1 := Scalar.cmpi .ne v177 v182
  let v184 : BitVec 32 := Scalar.remsi v171 c4_i32
  let c0_i32_108 : BitVec 32 := 0#32
  let v185 : BitVec 1 := Scalar.cmpi .ne v184 c0_i32_108
  let v186 : BitVec 1 := Scalar.andi v183 v185
  let v172 : BitVec 32 := Scalar.divsi v171 c4_i32
  let c1_i32_109 : BitVec 32 := 1#32
  let v187 : BitVec 32 := Scalar.subi v172 c1_i32_109
  let v188 : BitVec 32 := Scalar.select v186 v187 v172
  let c1_i32_111 : BitVec 32 := 1#32
  let arg12 : BitVec 32 := Scf.iv v188 c1_i32_111 k0_t1
  let v362 : BitVec 32 := Scalar.muli c4_i32_223 arg12
  let c2_i32_224 : BitVec 32 := 2#32
  let v363 : BitVec 32 := Scalar.addi v362 c2_i32_224
  let c512_i32_245 : BitVec 32 := 512#32
  let v395 : BitVec 32 := Scalar.muli v363 c512_i32_245
  v395
def k0_mult14 (i : grid0.Coords) (k0_t1 : Fin (k0_t1_loop i).trips) : BitVec 32 :=
  let c4_i32_271 : BitVec 32 := 4#32
  let c2_i32_86 : BitVec 32 := 2#32
  let arg1 : BitVec 32 := BitVec.ofNat 32 (i 1).val
  let c1_i32_85 : BitVec 32 := 1#32
  let v136 : BitVec 32 := Scalar.addi arg1 c1_i32_85
  let v137 : BitVec 32 := Scalar.muli c2_i32_86 v136
  let c32_i32 : BitVec 32 := 32#32
  let v138 : BitVec 32 := Scalar.subi c32_i32 v137
  let c0_i32_88 : BitVec 32 := 0#32
  let v140 : BitVec 1 := Scalar.cmpi .sgt v138 c0_i32_88
  let v141 : BitVec 32 := Scalar.extui v140
  let c0_i32_89 : BitVec 32 := 0#32
  let v142 : BitVec 1 := Scalar.cmpi .slt v138 c0_i32_89
  let v143 : BitVec 32 := Scalar.extui v142
  let v144 : BitVec 32 := Scalar.subi v141 v143
  let c2_i32_87 : BitVec 32 := 2#32
  let c0_i32_90 : BitVec 32 := 0#32
  let v145 : BitVec 1 := Scalar.cmpi .sgt c2_i32_87 c0_i32_90
  let v146 : BitVec 32 := Scalar.extui v145
  let c0_i32_91 : BitVec 32 := 0#32
  let v147 : BitVec 1 := Scalar.cmpi .slt c2_i32_87 c0_i32_91
  let v148 : BitVec 32 := Scalar.extui v147
  let v149 : BitVec 32 := Scalar.subi v146 v148
  let v150 : BitVec 1 := Scalar.cmpi .ne v144 v149
  let v151 : BitVec 32 := Scalar.remsi v138 c2_i32_87
  let c0_i32_92 : BitVec 32 := 0#32
  let v152 : BitVec 1 := Scalar.cmpi .ne v151 c0_i32_92
  let v153 : BitVec 1 := Scalar.andi v150 v152
  let v139 : BitVec 32 := Scalar.divsi v138 c2_i32_87
  let c1_i32_93 : BitVec 32 := 1#32
  let v154 : BitVec 32 := Scalar.subi v139 c1_i32_93
  let v155 : BitVec 32 := Scalar.select v153 v154 v139
  let c2_i32_94 : BitVec 32 := 2#32
  let c0_i32_95 : BitVec 32 := 0#32
  let v156 : BitVec 1 := Scalar.cmpi .eq c2_i32_94 c0_i32_95
  let c1_i32_96 : BitVec 32 := 1#32
  let v157 : BitVec 32 := Scalar.select v156 c1_i32_96 c2_i32_94
  let v158 : BitVec 32 := Scalar.remsi v155 v157
  let c0_i32_98 : BitVec 32 := 0#32
  let v160 : BitVec 1 := Scalar.cmpi .slt v158 c0_i32_98
  let c0_i32_99 : BitVec 32 := 0#32
  let v161 : BitVec 1 := Scalar.cmpi .slt v157 c0_i32_99
  let v162 : BitVec 1 := Scalar.xori v160 v161
  let c0_i32_97 : BitVec 32 := 0#32
  let v159 : BitVec 1 := Scalar.cmpi .ne v158 c0_i32_97
  let v163 : BitVec 1 := Scalar.andi v162 v159
  let v164 : BitVec 32 := Scalar.addi v158 v157
  let v165 : BitVec 32 := Scalar.select v163 v164 v158
  let c1_i32_100 : BitVec 32 := 1#32
  let v166 : BitVec 1 := Scalar.cmpi .eq v165 c1_i32_100
  let c2_i32_102 : BitVec 32 := 2#32
  let c0_i32_103 : BitVec 32 := 0#32
  let v170 : BitVec 32 := Scalar.select v166 c2_i32_102 c0_i32_103
  let v171 : BitVec 32 := Scalar.addi v137 v170
  let c0_i32_104 : BitVec 32 := 0#32
  let v173 : BitVec 1 := Scalar.cmpi .sgt v171 c0_i32_104
  let v174 : BitVec 32 := Scalar.extui v173
  let c0_i32_105 : BitVec 32 := 0#32
  let v175 : BitVec 1 := Scalar.cmpi .slt v171 c0_i32_105
  let v176 : BitVec 32 := Scalar.extui v175
  let v177 : BitVec 32 := Scalar.subi v174 v176
  let c4_i32 : BitVec 32 := 4#32
  let c0_i32_106 : BitVec 32 := 0#32
  let v178 : BitVec 1 := Scalar.cmpi .sgt c4_i32 c0_i32_106
  let v179 : BitVec 32 := Scalar.extui v178
  let c0_i32_107 : BitVec 32 := 0#32
  let v180 : BitVec 1 := Scalar.cmpi .slt c4_i32 c0_i32_107
  let v181 : BitVec 32 := Scalar.extui v180
  let v182 : BitVec 32 := Scalar.subi v179 v181
  let v183 : BitVec 1 := Scalar.cmpi .ne v177 v182
  let v184 : BitVec 32 := Scalar.remsi v171 c4_i32
  let c0_i32_108 : BitVec 32 := 0#32
  let v185 : BitVec 1 := Scalar.cmpi .ne v184 c0_i32_108
  let v186 : BitVec 1 := Scalar.andi v183 v185
  let v172 : BitVec 32 := Scalar.divsi v171 c4_i32
  let c1_i32_109 : BitVec 32 := 1#32
  let v187 : BitVec 32 := Scalar.subi v172 c1_i32_109
  let v188 : BitVec 32 := Scalar.select v186 v187 v172
  let c1_i32_111 : BitVec 32 := 1#32
  let arg12 : BitVec 32 := Scf.iv v188 c1_i32_111 k0_t1
  let v435 : BitVec 32 := Scalar.muli c4_i32_271 arg12
  let c3_i32 : BitVec 32 := 3#32
  let v436 : BitVec 32 := Scalar.addi v435 c3_i32
  let c512_i32_272 : BitVec 32 := 512#32
  let v437 : BitVec 32 := Scalar.muli v436 c512_i32_272
  v437
def k0_mult15 (i : grid0.Coords) (k0_t1 : Fin (k0_t1_loop i).trips) : BitVec 32 :=
  let c4_i32_271 : BitVec 32 := 4#32
  let c2_i32_86 : BitVec 32 := 2#32
  let arg1 : BitVec 32 := BitVec.ofNat 32 (i 1).val
  let c1_i32_85 : BitVec 32 := 1#32
  let v136 : BitVec 32 := Scalar.addi arg1 c1_i32_85
  let v137 : BitVec 32 := Scalar.muli c2_i32_86 v136
  let c32_i32 : BitVec 32 := 32#32
  let v138 : BitVec 32 := Scalar.subi c32_i32 v137
  let c0_i32_88 : BitVec 32 := 0#32
  let v140 : BitVec 1 := Scalar.cmpi .sgt v138 c0_i32_88
  let v141 : BitVec 32 := Scalar.extui v140
  let c0_i32_89 : BitVec 32 := 0#32
  let v142 : BitVec 1 := Scalar.cmpi .slt v138 c0_i32_89
  let v143 : BitVec 32 := Scalar.extui v142
  let v144 : BitVec 32 := Scalar.subi v141 v143
  let c2_i32_87 : BitVec 32 := 2#32
  let c0_i32_90 : BitVec 32 := 0#32
  let v145 : BitVec 1 := Scalar.cmpi .sgt c2_i32_87 c0_i32_90
  let v146 : BitVec 32 := Scalar.extui v145
  let c0_i32_91 : BitVec 32 := 0#32
  let v147 : BitVec 1 := Scalar.cmpi .slt c2_i32_87 c0_i32_91
  let v148 : BitVec 32 := Scalar.extui v147
  let v149 : BitVec 32 := Scalar.subi v146 v148
  let v150 : BitVec 1 := Scalar.cmpi .ne v144 v149
  let v151 : BitVec 32 := Scalar.remsi v138 c2_i32_87
  let c0_i32_92 : BitVec 32 := 0#32
  let v152 : BitVec 1 := Scalar.cmpi .ne v151 c0_i32_92
  let v153 : BitVec 1 := Scalar.andi v150 v152
  let v139 : BitVec 32 := Scalar.divsi v138 c2_i32_87
  let c1_i32_93 : BitVec 32 := 1#32
  let v154 : BitVec 32 := Scalar.subi v139 c1_i32_93
  let v155 : BitVec 32 := Scalar.select v153 v154 v139
  let c2_i32_94 : BitVec 32 := 2#32
  let c0_i32_95 : BitVec 32 := 0#32
  let v156 : BitVec 1 := Scalar.cmpi .eq c2_i32_94 c0_i32_95
  let c1_i32_96 : BitVec 32 := 1#32
  let v157 : BitVec 32 := Scalar.select v156 c1_i32_96 c2_i32_94
  let v158 : BitVec 32 := Scalar.remsi v155 v157
  let c0_i32_98 : BitVec 32 := 0#32
  let v160 : BitVec 1 := Scalar.cmpi .slt v158 c0_i32_98
  let c0_i32_99 : BitVec 32 := 0#32
  let v161 : BitVec 1 := Scalar.cmpi .slt v157 c0_i32_99
  let v162 : BitVec 1 := Scalar.xori v160 v161
  let c0_i32_97 : BitVec 32 := 0#32
  let v159 : BitVec 1 := Scalar.cmpi .ne v158 c0_i32_97
  let v163 : BitVec 1 := Scalar.andi v162 v159
  let v164 : BitVec 32 := Scalar.addi v158 v157
  let v165 : BitVec 32 := Scalar.select v163 v164 v158
  let c1_i32_100 : BitVec 32 := 1#32
  let v166 : BitVec 1 := Scalar.cmpi .eq v165 c1_i32_100
  let c2_i32_102 : BitVec 32 := 2#32
  let c0_i32_103 : BitVec 32 := 0#32
  let v170 : BitVec 32 := Scalar.select v166 c2_i32_102 c0_i32_103
  let v171 : BitVec 32 := Scalar.addi v137 v170
  let c0_i32_104 : BitVec 32 := 0#32
  let v173 : BitVec 1 := Scalar.cmpi .sgt v171 c0_i32_104
  let v174 : BitVec 32 := Scalar.extui v173
  let c0_i32_105 : BitVec 32 := 0#32
  let v175 : BitVec 1 := Scalar.cmpi .slt v171 c0_i32_105
  let v176 : BitVec 32 := Scalar.extui v175
  let v177 : BitVec 32 := Scalar.subi v174 v176
  let c4_i32 : BitVec 32 := 4#32
  let c0_i32_106 : BitVec 32 := 0#32
  let v178 : BitVec 1 := Scalar.cmpi .sgt c4_i32 c0_i32_106
  let v179 : BitVec 32 := Scalar.extui v178
  let c0_i32_107 : BitVec 32 := 0#32
  let v180 : BitVec 1 := Scalar.cmpi .slt c4_i32 c0_i32_107
  let v181 : BitVec 32 := Scalar.extui v180
  let v182 : BitVec 32 := Scalar.subi v179 v181
  let v183 : BitVec 1 := Scalar.cmpi .ne v177 v182
  let v184 : BitVec 32 := Scalar.remsi v171 c4_i32
  let c0_i32_108 : BitVec 32 := 0#32
  let v185 : BitVec 1 := Scalar.cmpi .ne v184 c0_i32_108
  let v186 : BitVec 1 := Scalar.andi v183 v185
  let v172 : BitVec 32 := Scalar.divsi v171 c4_i32
  let c1_i32_109 : BitVec 32 := 1#32
  let v187 : BitVec 32 := Scalar.subi v172 c1_i32_109
  let v188 : BitVec 32 := Scalar.select v186 v187 v172
  let c1_i32_111 : BitVec 32 := 1#32
  let arg12 : BitVec 32 := Scf.iv v188 c1_i32_111 k0_t1
  let v435 : BitVec 32 := Scalar.muli c4_i32_271 arg12
  let c3_i32 : BitVec 32 := 3#32
  let v436 : BitVec 32 := Scalar.addi v435 c3_i32
  let c512_i32_292 : BitVec 32 := 512#32
  let v468 : BitVec 32 := Scalar.muli v436 c512_i32_292
  v468
@[reducible] def k0_t2_loop (i : grid0.Coords) : Scf.Loop 32 :=
  let c2_i32_86 : BitVec 32 := 2#32
  let arg1 : BitVec 32 := BitVec.ofNat 32 (i 1).val
  let c1_i32_85 : BitVec 32 := 1#32
  let v136 : BitVec 32 := Scalar.addi arg1 c1_i32_85
  let v137 : BitVec 32 := Scalar.muli c2_i32_86 v136
  let c32_i32 : BitVec 32 := 32#32
  let v138 : BitVec 32 := Scalar.subi c32_i32 v137
  let c0_i32_88 : BitVec 32 := 0#32
  let v140 : BitVec 1 := Scalar.cmpi .sgt v138 c0_i32_88
  let v141 : BitVec 32 := Scalar.extui v140
  let c0_i32_89 : BitVec 32 := 0#32
  let v142 : BitVec 1 := Scalar.cmpi .slt v138 c0_i32_89
  let v143 : BitVec 32 := Scalar.extui v142
  let v144 : BitVec 32 := Scalar.subi v141 v143
  let c2_i32_87 : BitVec 32 := 2#32
  let c0_i32_90 : BitVec 32 := 0#32
  let v145 : BitVec 1 := Scalar.cmpi .sgt c2_i32_87 c0_i32_90
  let v146 : BitVec 32 := Scalar.extui v145
  let c0_i32_91 : BitVec 32 := 0#32
  let v147 : BitVec 1 := Scalar.cmpi .slt c2_i32_87 c0_i32_91
  let v148 : BitVec 32 := Scalar.extui v147
  let v149 : BitVec 32 := Scalar.subi v146 v148
  let v150 : BitVec 1 := Scalar.cmpi .ne v144 v149
  let v151 : BitVec 32 := Scalar.remsi v138 c2_i32_87
  let c0_i32_92 : BitVec 32 := 0#32
  let v152 : BitVec 1 := Scalar.cmpi .ne v151 c0_i32_92
  let v153 : BitVec 1 := Scalar.andi v150 v152
  let v139 : BitVec 32 := Scalar.divsi v138 c2_i32_87
  let c1_i32_93 : BitVec 32 := 1#32
  let v154 : BitVec 32 := Scalar.subi v139 c1_i32_93
  let v155 : BitVec 32 := Scalar.select v153 v154 v139
  let c2_i32_94 : BitVec 32 := 2#32
  let c0_i32_95 : BitVec 32 := 0#32
  let v156 : BitVec 1 := Scalar.cmpi .eq c2_i32_94 c0_i32_95
  let c1_i32_96 : BitVec 32 := 1#32
  let v157 : BitVec 32 := Scalar.select v156 c1_i32_96 c2_i32_94
  let v158 : BitVec 32 := Scalar.remsi v155 v157
  let c0_i32_98 : BitVec 32 := 0#32
  let v160 : BitVec 1 := Scalar.cmpi .slt v158 c0_i32_98
  let c0_i32_99 : BitVec 32 := 0#32
  let v161 : BitVec 1 := Scalar.cmpi .slt v157 c0_i32_99
  let v162 : BitVec 1 := Scalar.xori v160 v161
  let c0_i32_97 : BitVec 32 := 0#32
  let v159 : BitVec 1 := Scalar.cmpi .ne v158 c0_i32_97
  let v163 : BitVec 1 := Scalar.andi v162 v159
  let v164 : BitVec 32 := Scalar.addi v158 v157
  let v165 : BitVec 32 := Scalar.select v163 v164 v158
  let c1_i32_100 : BitVec 32 := 1#32
  let v166 : BitVec 1 := Scalar.cmpi .eq v165 c1_i32_100
  let c2_i32_102 : BitVec 32 := 2#32
  let c0_i32_103 : BitVec 32 := 0#32
  let v170 : BitVec 32 := Scalar.select v166 c2_i32_102 c0_i32_103
  let v171 : BitVec 32 := Scalar.addi v137 v170
  let c0_i32_104 : BitVec 32 := 0#32
  let v173 : BitVec 1 := Scalar.cmpi .sgt v171 c0_i32_104
  let v174 : BitVec 32 := Scalar.extui v173
  let c0_i32_105 : BitVec 32 := 0#32
  let v175 : BitVec 1 := Scalar.cmpi .slt v171 c0_i32_105
  let v176 : BitVec 32 := Scalar.extui v175
  let v177 : BitVec 32 := Scalar.subi v174 v176
  let c4_i32 : BitVec 32 := 4#32
  let c0_i32_106 : BitVec 32 := 0#32
  let v178 : BitVec 1 := Scalar.cmpi .sgt c4_i32 c0_i32_106
  let v179 : BitVec 32 := Scalar.extui v178
  let c0_i32_107 : BitVec 32 := 0#32
  let v180 : BitVec 1 := Scalar.cmpi .slt c4_i32 c0_i32_107
  let v181 : BitVec 32 := Scalar.extui v180
  let v182 : BitVec 32 := Scalar.subi v179 v181
  let v183 : BitVec 1 := Scalar.cmpi .ne v177 v182
  let v184 : BitVec 32 := Scalar.remsi v171 c4_i32
  let c0_i32_108 : BitVec 32 := 0#32
  let v185 : BitVec 1 := Scalar.cmpi .ne v184 c0_i32_108
  let v186 : BitVec 1 := Scalar.andi v183 v185
  let v172 : BitVec 32 := Scalar.divsi v171 c4_i32
  let c1_i32_109 : BitVec 32 := 1#32
  let v187 : BitVec 32 := Scalar.subi v172 c1_i32_109
  let v188 : BitVec 32 := Scalar.select v186 v187 v172
  let c8_i32 : BitVec 32 := 8#32
  let v189 : BitVec 32 := Scalar.subi c8_i32 v188
  let c1_i32_110 : BitVec 32 := 1#32
  let v191 : BitVec 32 := Scalar.divsi v189 c1_i32_110
  let v192 : BitVec 32 := Scalar.muli v191 c1_i32_110
  let v193 : BitVec 32 := Scalar.addi v188 v192
  let v190 : BitVec 32 := Scalar.addi v188 v189
  let c1_i32_112 : BitVec 32 := 1#32
  ⟨v193, v190, c1_i32_112⟩
def k0_mult16 (i : grid0.Coords) (k0_t2 : Fin (k0_t2_loop i).trips) : BitVec 32 :=
  let c4_i32_127 : BitVec 32 := 4#32
  let c2_i32_86 : BitVec 32 := 2#32
  let arg1 : BitVec 32 := BitVec.ofNat 32 (i 1).val
  let c1_i32_85 : BitVec 32 := 1#32
  let v136 : BitVec 32 := Scalar.addi arg1 c1_i32_85
  let v137 : BitVec 32 := Scalar.muli c2_i32_86 v136
  let c32_i32 : BitVec 32 := 32#32
  let v138 : BitVec 32 := Scalar.subi c32_i32 v137
  let c0_i32_88 : BitVec 32 := 0#32
  let v140 : BitVec 1 := Scalar.cmpi .sgt v138 c0_i32_88
  let v141 : BitVec 32 := Scalar.extui v140
  let c0_i32_89 : BitVec 32 := 0#32
  let v142 : BitVec 1 := Scalar.cmpi .slt v138 c0_i32_89
  let v143 : BitVec 32 := Scalar.extui v142
  let v144 : BitVec 32 := Scalar.subi v141 v143
  let c2_i32_87 : BitVec 32 := 2#32
  let c0_i32_90 : BitVec 32 := 0#32
  let v145 : BitVec 1 := Scalar.cmpi .sgt c2_i32_87 c0_i32_90
  let v146 : BitVec 32 := Scalar.extui v145
  let c0_i32_91 : BitVec 32 := 0#32
  let v147 : BitVec 1 := Scalar.cmpi .slt c2_i32_87 c0_i32_91
  let v148 : BitVec 32 := Scalar.extui v147
  let v149 : BitVec 32 := Scalar.subi v146 v148
  let v150 : BitVec 1 := Scalar.cmpi .ne v144 v149
  let v151 : BitVec 32 := Scalar.remsi v138 c2_i32_87
  let c0_i32_92 : BitVec 32 := 0#32
  let v152 : BitVec 1 := Scalar.cmpi .ne v151 c0_i32_92
  let v153 : BitVec 1 := Scalar.andi v150 v152
  let v139 : BitVec 32 := Scalar.divsi v138 c2_i32_87
  let c1_i32_93 : BitVec 32 := 1#32
  let v154 : BitVec 32 := Scalar.subi v139 c1_i32_93
  let v155 : BitVec 32 := Scalar.select v153 v154 v139
  let c2_i32_94 : BitVec 32 := 2#32
  let c0_i32_95 : BitVec 32 := 0#32
  let v156 : BitVec 1 := Scalar.cmpi .eq c2_i32_94 c0_i32_95
  let c1_i32_96 : BitVec 32 := 1#32
  let v157 : BitVec 32 := Scalar.select v156 c1_i32_96 c2_i32_94
  let v158 : BitVec 32 := Scalar.remsi v155 v157
  let c0_i32_98 : BitVec 32 := 0#32
  let v160 : BitVec 1 := Scalar.cmpi .slt v158 c0_i32_98
  let c0_i32_99 : BitVec 32 := 0#32
  let v161 : BitVec 1 := Scalar.cmpi .slt v157 c0_i32_99
  let v162 : BitVec 1 := Scalar.xori v160 v161
  let c0_i32_97 : BitVec 32 := 0#32
  let v159 : BitVec 1 := Scalar.cmpi .ne v158 c0_i32_97
  let v163 : BitVec 1 := Scalar.andi v162 v159
  let v164 : BitVec 32 := Scalar.addi v158 v157
  let v165 : BitVec 32 := Scalar.select v163 v164 v158
  let c1_i32_100 : BitVec 32 := 1#32
  let v166 : BitVec 1 := Scalar.cmpi .eq v165 c1_i32_100
  let c2_i32_102 : BitVec 32 := 2#32
  let c0_i32_103 : BitVec 32 := 0#32
  let v170 : BitVec 32 := Scalar.select v166 c2_i32_102 c0_i32_103
  let v171 : BitVec 32 := Scalar.addi v137 v170
  let c0_i32_104 : BitVec 32 := 0#32
  let v173 : BitVec 1 := Scalar.cmpi .sgt v171 c0_i32_104
  let v174 : BitVec 32 := Scalar.extui v173
  let c0_i32_105 : BitVec 32 := 0#32
  let v175 : BitVec 1 := Scalar.cmpi .slt v171 c0_i32_105
  let v176 : BitVec 32 := Scalar.extui v175
  let v177 : BitVec 32 := Scalar.subi v174 v176
  let c4_i32 : BitVec 32 := 4#32
  let c0_i32_106 : BitVec 32 := 0#32
  let v178 : BitVec 1 := Scalar.cmpi .sgt c4_i32 c0_i32_106
  let v179 : BitVec 32 := Scalar.extui v178
  let c0_i32_107 : BitVec 32 := 0#32
  let v180 : BitVec 1 := Scalar.cmpi .slt c4_i32 c0_i32_107
  let v181 : BitVec 32 := Scalar.extui v180
  let v182 : BitVec 32 := Scalar.subi v179 v181
  let v183 : BitVec 1 := Scalar.cmpi .ne v177 v182
  let v184 : BitVec 32 := Scalar.remsi v171 c4_i32
  let c0_i32_108 : BitVec 32 := 0#32
  let v185 : BitVec 1 := Scalar.cmpi .ne v184 c0_i32_108
  let v186 : BitVec 1 := Scalar.andi v183 v185
  let v172 : BitVec 32 := Scalar.divsi v171 c4_i32
  let c1_i32_109 : BitVec 32 := 1#32
  let v187 : BitVec 32 := Scalar.subi v172 c1_i32_109
  let v188 : BitVec 32 := Scalar.select v186 v187 v172
  let c8_i32 : BitVec 32 := 8#32
  let v189 : BitVec 32 := Scalar.subi c8_i32 v188
  let c1_i32_110 : BitVec 32 := 1#32
  let v191 : BitVec 32 := Scalar.divsi v189 c1_i32_110
  let v192 : BitVec 32 := Scalar.muli v191 c1_i32_110
  let v193 : BitVec 32 := Scalar.addi v188 v192
  let c1_i32_112 : BitVec 32 := 1#32
  let arg12 : BitVec 32 := Scf.iv v193 c1_i32_112 k0_t2
  let v216 : BitVec 32 := Scalar.muli c4_i32_127 arg12
  let c0_i32_128 : BitVec 32 := 0#32
  let v217 : BitVec 32 := Scalar.addi v216 c0_i32_128
  let c512_i32_129 : BitVec 32 := 512#32
  let v218 : BitVec 32 := Scalar.muli v217 c512_i32_129
  v218
def k0_off10 (i : grid0.Coords) (k0_t2 : Fin (k0_t2_loop i).trips) (c0_i32_128 : BitVec 32) : Fin 3 → Nat :=
  let c0_130 : Index := 0#32
  let c4_i32_127 : BitVec 32 := 4#32
  let c2_i32_86 : BitVec 32 := 2#32
  let arg1 : BitVec 32 := BitVec.ofNat 32 (i 1).val
  let c1_i32_85 : BitVec 32 := 1#32
  let v136 : BitVec 32 := Scalar.addi arg1 c1_i32_85
  let v137 : BitVec 32 := Scalar.muli c2_i32_86 v136
  let c32_i32 : BitVec 32 := 32#32
  let v138 : BitVec 32 := Scalar.subi c32_i32 v137
  let c0_i32_88 : BitVec 32 := 0#32
  let v140 : BitVec 1 := Scalar.cmpi .sgt v138 c0_i32_88
  let v141 : BitVec 32 := Scalar.extui v140
  let c0_i32_89 : BitVec 32 := 0#32
  let v142 : BitVec 1 := Scalar.cmpi .slt v138 c0_i32_89
  let v143 : BitVec 32 := Scalar.extui v142
  let v144 : BitVec 32 := Scalar.subi v141 v143
  let c2_i32_87 : BitVec 32 := 2#32
  let c0_i32_90 : BitVec 32 := 0#32
  let v145 : BitVec 1 := Scalar.cmpi .sgt c2_i32_87 c0_i32_90
  let v146 : BitVec 32 := Scalar.extui v145
  let c0_i32_91 : BitVec 32 := 0#32
  let v147 : BitVec 1 := Scalar.cmpi .slt c2_i32_87 c0_i32_91
  let v148 : BitVec 32 := Scalar.extui v147
  let v149 : BitVec 32 := Scalar.subi v146 v148
  let v150 : BitVec 1 := Scalar.cmpi .ne v144 v149
  let v151 : BitVec 32 := Scalar.remsi v138 c2_i32_87
  let c0_i32_92 : BitVec 32 := 0#32
  let v152 : BitVec 1 := Scalar.cmpi .ne v151 c0_i32_92
  let v153 : BitVec 1 := Scalar.andi v150 v152
  let v139 : BitVec 32 := Scalar.divsi v138 c2_i32_87
  let c1_i32_93 : BitVec 32 := 1#32
  let v154 : BitVec 32 := Scalar.subi v139 c1_i32_93
  let v155 : BitVec 32 := Scalar.select v153 v154 v139
  let c2_i32_94 : BitVec 32 := 2#32
  let c0_i32_95 : BitVec 32 := 0#32
  let v156 : BitVec 1 := Scalar.cmpi .eq c2_i32_94 c0_i32_95
  let c1_i32_96 : BitVec 32 := 1#32
  let v157 : BitVec 32 := Scalar.select v156 c1_i32_96 c2_i32_94
  let v158 : BitVec 32 := Scalar.remsi v155 v157
  let c0_i32_98 : BitVec 32 := 0#32
  let v160 : BitVec 1 := Scalar.cmpi .slt v158 c0_i32_98
  let c0_i32_99 : BitVec 32 := 0#32
  let v161 : BitVec 1 := Scalar.cmpi .slt v157 c0_i32_99
  let v162 : BitVec 1 := Scalar.xori v160 v161
  let c0_i32_97 : BitVec 32 := 0#32
  let v159 : BitVec 1 := Scalar.cmpi .ne v158 c0_i32_97
  let v163 : BitVec 1 := Scalar.andi v162 v159
  let v164 : BitVec 32 := Scalar.addi v158 v157
  let v165 : BitVec 32 := Scalar.select v163 v164 v158
  let c1_i32_100 : BitVec 32 := 1#32
  let v166 : BitVec 1 := Scalar.cmpi .eq v165 c1_i32_100
  let c2_i32_102 : BitVec 32 := 2#32
  let c0_i32_103 : BitVec 32 := 0#32
  let v170 : BitVec 32 := Scalar.select v166 c2_i32_102 c0_i32_103
  let v171 : BitVec 32 := Scalar.addi v137 v170
  let c0_i32_104 : BitVec 32 := 0#32
  let v173 : BitVec 1 := Scalar.cmpi .sgt v171 c0_i32_104
  let v174 : BitVec 32 := Scalar.extui v173
  let c0_i32_105 : BitVec 32 := 0#32
  let v175 : BitVec 1 := Scalar.cmpi .slt v171 c0_i32_105
  let v176 : BitVec 32 := Scalar.extui v175
  let v177 : BitVec 32 := Scalar.subi v174 v176
  let c4_i32 : BitVec 32 := 4#32
  let c0_i32_106 : BitVec 32 := 0#32
  let v178 : BitVec 1 := Scalar.cmpi .sgt c4_i32 c0_i32_106
  let v179 : BitVec 32 := Scalar.extui v178
  let c0_i32_107 : BitVec 32 := 0#32
  let v180 : BitVec 1 := Scalar.cmpi .slt c4_i32 c0_i32_107
  let v181 : BitVec 32 := Scalar.extui v180
  let v182 : BitVec 32 := Scalar.subi v179 v181
  let v183 : BitVec 1 := Scalar.cmpi .ne v177 v182
  let v184 : BitVec 32 := Scalar.remsi v171 c4_i32
  let c0_i32_108 : BitVec 32 := 0#32
  let v185 : BitVec 1 := Scalar.cmpi .ne v184 c0_i32_108
  let v186 : BitVec 1 := Scalar.andi v183 v185
  let v172 : BitVec 32 := Scalar.divsi v171 c4_i32
  let c1_i32_109 : BitVec 32 := 1#32
  let v187 : BitVec 32 := Scalar.subi v172 c1_i32_109
  let v188 : BitVec 32 := Scalar.select v186 v187 v172
  let c8_i32 : BitVec 32 := 8#32
  let v189 : BitVec 32 := Scalar.subi c8_i32 v188
  let c1_i32_110 : BitVec 32 := 1#32
  let v191 : BitVec 32 := Scalar.divsi v189 c1_i32_110
  let v192 : BitVec 32 := Scalar.muli v191 c1_i32_110
  let v193 : BitVec 32 := Scalar.addi v188 v192
  let c1_i32_112 : BitVec 32 := 1#32
  let arg12 : BitVec 32 := Scf.iv v193 c1_i32_112 k0_t2
  let v216 : BitVec 32 := Scalar.muli c4_i32_127 arg12
  let v217 : BitVec 32 := Scalar.addi v216 c0_i32_128
  let c512_i32_129 : BitVec 32 := 512#32
  let v218 : BitVec 32 := Scalar.muli v217 c512_i32_129
  let v219 : BitVec 32 := v218
  let v220 : Index := Scalar.indexCast v219
  let c0_131 : Index := 0#32
  ![0, v220.toNat, 0]
def k0_off11 (i : grid0.Coords) (k0_t2 : Fin (k0_t2_loop i).trips) (c0_i32_128 : BitVec 32) : Fin 4 → Nat :=
  let c0_135 : Index := 0#32
  let c4_i32_127 : BitVec 32 := 4#32
  let c2_i32_86 : BitVec 32 := 2#32
  let arg1 : BitVec 32 := BitVec.ofNat 32 (i 1).val
  let c1_i32_85 : BitVec 32 := 1#32
  let v136 : BitVec 32 := Scalar.addi arg1 c1_i32_85
  let v137 : BitVec 32 := Scalar.muli c2_i32_86 v136
  let c32_i32 : BitVec 32 := 32#32
  let v138 : BitVec 32 := Scalar.subi c32_i32 v137
  let c0_i32_88 : BitVec 32 := 0#32
  let v140 : BitVec 1 := Scalar.cmpi .sgt v138 c0_i32_88
  let v141 : BitVec 32 := Scalar.extui v140
  let c0_i32_89 : BitVec 32 := 0#32
  let v142 : BitVec 1 := Scalar.cmpi .slt v138 c0_i32_89
  let v143 : BitVec 32 := Scalar.extui v142
  let v144 : BitVec 32 := Scalar.subi v141 v143
  let c2_i32_87 : BitVec 32 := 2#32
  let c0_i32_90 : BitVec 32 := 0#32
  let v145 : BitVec 1 := Scalar.cmpi .sgt c2_i32_87 c0_i32_90
  let v146 : BitVec 32 := Scalar.extui v145
  let c0_i32_91 : BitVec 32 := 0#32
  let v147 : BitVec 1 := Scalar.cmpi .slt c2_i32_87 c0_i32_91
  let v148 : BitVec 32 := Scalar.extui v147
  let v149 : BitVec 32 := Scalar.subi v146 v148
  let v150 : BitVec 1 := Scalar.cmpi .ne v144 v149
  let v151 : BitVec 32 := Scalar.remsi v138 c2_i32_87
  let c0_i32_92 : BitVec 32 := 0#32
  let v152 : BitVec 1 := Scalar.cmpi .ne v151 c0_i32_92
  let v153 : BitVec 1 := Scalar.andi v150 v152
  let v139 : BitVec 32 := Scalar.divsi v138 c2_i32_87
  let c1_i32_93 : BitVec 32 := 1#32
  let v154 : BitVec 32 := Scalar.subi v139 c1_i32_93
  let v155 : BitVec 32 := Scalar.select v153 v154 v139
  let c2_i32_94 : BitVec 32 := 2#32
  let c0_i32_95 : BitVec 32 := 0#32
  let v156 : BitVec 1 := Scalar.cmpi .eq c2_i32_94 c0_i32_95
  let c1_i32_96 : BitVec 32 := 1#32
  let v157 : BitVec 32 := Scalar.select v156 c1_i32_96 c2_i32_94
  let v158 : BitVec 32 := Scalar.remsi v155 v157
  let c0_i32_98 : BitVec 32 := 0#32
  let v160 : BitVec 1 := Scalar.cmpi .slt v158 c0_i32_98
  let c0_i32_99 : BitVec 32 := 0#32
  let v161 : BitVec 1 := Scalar.cmpi .slt v157 c0_i32_99
  let v162 : BitVec 1 := Scalar.xori v160 v161
  let c0_i32_97 : BitVec 32 := 0#32
  let v159 : BitVec 1 := Scalar.cmpi .ne v158 c0_i32_97
  let v163 : BitVec 1 := Scalar.andi v162 v159
  let v164 : BitVec 32 := Scalar.addi v158 v157
  let v165 : BitVec 32 := Scalar.select v163 v164 v158
  let c1_i32_100 : BitVec 32 := 1#32
  let v166 : BitVec 1 := Scalar.cmpi .eq v165 c1_i32_100
  let c2_i32_102 : BitVec 32 := 2#32
  let c0_i32_103 : BitVec 32 := 0#32
  let v170 : BitVec 32 := Scalar.select v166 c2_i32_102 c0_i32_103
  let v171 : BitVec 32 := Scalar.addi v137 v170
  let c0_i32_104 : BitVec 32 := 0#32
  let v173 : BitVec 1 := Scalar.cmpi .sgt v171 c0_i32_104
  let v174 : BitVec 32 := Scalar.extui v173
  let c0_i32_105 : BitVec 32 := 0#32
  let v175 : BitVec 1 := Scalar.cmpi .slt v171 c0_i32_105
  let v176 : BitVec 32 := Scalar.extui v175
  let v177 : BitVec 32 := Scalar.subi v174 v176
  let c4_i32 : BitVec 32 := 4#32
  let c0_i32_106 : BitVec 32 := 0#32
  let v178 : BitVec 1 := Scalar.cmpi .sgt c4_i32 c0_i32_106
  let v179 : BitVec 32 := Scalar.extui v178
  let c0_i32_107 : BitVec 32 := 0#32
  let v180 : BitVec 1 := Scalar.cmpi .slt c4_i32 c0_i32_107
  let v181 : BitVec 32 := Scalar.extui v180
  let v182 : BitVec 32 := Scalar.subi v179 v181
  let v183 : BitVec 1 := Scalar.cmpi .ne v177 v182
  let v184 : BitVec 32 := Scalar.remsi v171 c4_i32
  let c0_i32_108 : BitVec 32 := 0#32
  let v185 : BitVec 1 := Scalar.cmpi .ne v184 c0_i32_108
  let v186 : BitVec 1 := Scalar.andi v183 v185
  let v172 : BitVec 32 := Scalar.divsi v171 c4_i32
  let c1_i32_109 : BitVec 32 := 1#32
  let v187 : BitVec 32 := Scalar.subi v172 c1_i32_109
  let v188 : BitVec 32 := Scalar.select v186 v187 v172
  let c8_i32 : BitVec 32 := 8#32
  let v189 : BitVec 32 := Scalar.subi c8_i32 v188
  let c1_i32_110 : BitVec 32 := 1#32
  let v191 : BitVec 32 := Scalar.divsi v189 c1_i32_110
  let v192 : BitVec 32 := Scalar.muli v191 c1_i32_110
  let v193 : BitVec 32 := Scalar.addi v188 v192
  let c1_i32_112 : BitVec 32 := 1#32
  let arg12 : BitVec 32 := Scf.iv v193 c1_i32_112 k0_t2
  let v216 : BitVec 32 := Scalar.muli c4_i32_127 arg12
  let v217 : BitVec 32 := Scalar.addi v216 c0_i32_128
  let v227 : Index := Scalar.indexCast v217
  let c0_136 : Index := 0#32
  let c0_137 : Index := 0#32
  ![0, v227.toNat, 0, 0]
def k0_mult17 (i : grid0.Coords) (k0_t2 : Fin (k0_t2_loop i).trips) : BitVec 32 :=
  let c4_i32_127 : BitVec 32 := 4#32
  let c2_i32_86 : BitVec 32 := 2#32
  let arg1 : BitVec 32 := BitVec.ofNat 32 (i 1).val
  let c1_i32_85 : BitVec 32 := 1#32
  let v136 : BitVec 32 := Scalar.addi arg1 c1_i32_85
  let v137 : BitVec 32 := Scalar.muli c2_i32_86 v136
  let c32_i32 : BitVec 32 := 32#32
  let v138 : BitVec 32 := Scalar.subi c32_i32 v137
  let c0_i32_88 : BitVec 32 := 0#32
  let v140 : BitVec 1 := Scalar.cmpi .sgt v138 c0_i32_88
  let v141 : BitVec 32 := Scalar.extui v140
  let c0_i32_89 : BitVec 32 := 0#32
  let v142 : BitVec 1 := Scalar.cmpi .slt v138 c0_i32_89
  let v143 : BitVec 32 := Scalar.extui v142
  let v144 : BitVec 32 := Scalar.subi v141 v143
  let c2_i32_87 : BitVec 32 := 2#32
  let c0_i32_90 : BitVec 32 := 0#32
  let v145 : BitVec 1 := Scalar.cmpi .sgt c2_i32_87 c0_i32_90
  let v146 : BitVec 32 := Scalar.extui v145
  let c0_i32_91 : BitVec 32 := 0#32
  let v147 : BitVec 1 := Scalar.cmpi .slt c2_i32_87 c0_i32_91
  let v148 : BitVec 32 := Scalar.extui v147
  let v149 : BitVec 32 := Scalar.subi v146 v148
  let v150 : BitVec 1 := Scalar.cmpi .ne v144 v149
  let v151 : BitVec 32 := Scalar.remsi v138 c2_i32_87
  let c0_i32_92 : BitVec 32 := 0#32
  let v152 : BitVec 1 := Scalar.cmpi .ne v151 c0_i32_92
  let v153 : BitVec 1 := Scalar.andi v150 v152
  let v139 : BitVec 32 := Scalar.divsi v138 c2_i32_87
  let c1_i32_93 : BitVec 32 := 1#32
  let v154 : BitVec 32 := Scalar.subi v139 c1_i32_93
  let v155 : BitVec 32 := Scalar.select v153 v154 v139
  let c2_i32_94 : BitVec 32 := 2#32
  let c0_i32_95 : BitVec 32 := 0#32
  let v156 : BitVec 1 := Scalar.cmpi .eq c2_i32_94 c0_i32_95
  let c1_i32_96 : BitVec 32 := 1#32
  let v157 : BitVec 32 := Scalar.select v156 c1_i32_96 c2_i32_94
  let v158 : BitVec 32 := Scalar.remsi v155 v157
  let c0_i32_98 : BitVec 32 := 0#32
  let v160 : BitVec 1 := Scalar.cmpi .slt v158 c0_i32_98
  let c0_i32_99 : BitVec 32 := 0#32
  let v161 : BitVec 1 := Scalar.cmpi .slt v157 c0_i32_99
  let v162 : BitVec 1 := Scalar.xori v160 v161
  let c0_i32_97 : BitVec 32 := 0#32
  let v159 : BitVec 1 := Scalar.cmpi .ne v158 c0_i32_97
  let v163 : BitVec 1 := Scalar.andi v162 v159
  let v164 : BitVec 32 := Scalar.addi v158 v157
  let v165 : BitVec 32 := Scalar.select v163 v164 v158
  let c1_i32_100 : BitVec 32 := 1#32
  let v166 : BitVec 1 := Scalar.cmpi .eq v165 c1_i32_100
  let c2_i32_102 : BitVec 32 := 2#32
  let c0_i32_103 : BitVec 32 := 0#32
  let v170 : BitVec 32 := Scalar.select v166 c2_i32_102 c0_i32_103
  let v171 : BitVec 32 := Scalar.addi v137 v170
  let c0_i32_104 : BitVec 32 := 0#32
  let v173 : BitVec 1 := Scalar.cmpi .sgt v171 c0_i32_104
  let v174 : BitVec 32 := Scalar.extui v173
  let c0_i32_105 : BitVec 32 := 0#32
  let v175 : BitVec 1 := Scalar.cmpi .slt v171 c0_i32_105
  let v176 : BitVec 32 := Scalar.extui v175
  let v177 : BitVec 32 := Scalar.subi v174 v176
  let c4_i32 : BitVec 32 := 4#32
  let c0_i32_106 : BitVec 32 := 0#32
  let v178 : BitVec 1 := Scalar.cmpi .sgt c4_i32 c0_i32_106
  let v179 : BitVec 32 := Scalar.extui v178
  let c0_i32_107 : BitVec 32 := 0#32
  let v180 : BitVec 1 := Scalar.cmpi .slt c4_i32 c0_i32_107
  let v181 : BitVec 32 := Scalar.extui v180
  let v182 : BitVec 32 := Scalar.subi v179 v181
  let v183 : BitVec 1 := Scalar.cmpi .ne v177 v182
  let v184 : BitVec 32 := Scalar.remsi v171 c4_i32
  let c0_i32_108 : BitVec 32 := 0#32
  let v185 : BitVec 1 := Scalar.cmpi .ne v184 c0_i32_108
  let v186 : BitVec 1 := Scalar.andi v183 v185
  let v172 : BitVec 32 := Scalar.divsi v171 c4_i32
  let c1_i32_109 : BitVec 32 := 1#32
  let v187 : BitVec 32 := Scalar.subi v172 c1_i32_109
  let v188 : BitVec 32 := Scalar.select v186 v187 v172
  let c8_i32 : BitVec 32 := 8#32
  let v189 : BitVec 32 := Scalar.subi c8_i32 v188
  let c1_i32_110 : BitVec 32 := 1#32
  let v191 : BitVec 32 := Scalar.divsi v189 c1_i32_110
  let v192 : BitVec 32 := Scalar.muli v191 c1_i32_110
  let v193 : BitVec 32 := Scalar.addi v188 v192
  let c1_i32_112 : BitVec 32 := 1#32
  let arg12 : BitVec 32 := Scf.iv v193 c1_i32_112 k0_t2
  let v216 : BitVec 32 := Scalar.muli c4_i32_127 arg12
  let c0_i32_128 : BitVec 32 := 0#32
  let v217 : BitVec 32 := Scalar.addi v216 c0_i32_128
  let c512_i32_149 : BitVec 32 := 512#32
  let v249 : BitVec 32 := Scalar.muli v217 c512_i32_149
  v249
def k0_off12 (i : grid0.Coords) (k0_t2 : Fin (k0_t2_loop i).trips) (c0_i32_128 : BitVec 32) : Fin 4 → Nat :=
  let c0_169 : Index := 0#32
  let c4_i32_127 : BitVec 32 := 4#32
  let c2_i32_86 : BitVec 32 := 2#32
  let arg1 : BitVec 32 := BitVec.ofNat 32 (i 1).val
  let c1_i32_85 : BitVec 32 := 1#32
  let v136 : BitVec 32 := Scalar.addi arg1 c1_i32_85
  let v137 : BitVec 32 := Scalar.muli c2_i32_86 v136
  let c32_i32 : BitVec 32 := 32#32
  let v138 : BitVec 32 := Scalar.subi c32_i32 v137
  let c0_i32_88 : BitVec 32 := 0#32
  let v140 : BitVec 1 := Scalar.cmpi .sgt v138 c0_i32_88
  let v141 : BitVec 32 := Scalar.extui v140
  let c0_i32_89 : BitVec 32 := 0#32
  let v142 : BitVec 1 := Scalar.cmpi .slt v138 c0_i32_89
  let v143 : BitVec 32 := Scalar.extui v142
  let v144 : BitVec 32 := Scalar.subi v141 v143
  let c2_i32_87 : BitVec 32 := 2#32
  let c0_i32_90 : BitVec 32 := 0#32
  let v145 : BitVec 1 := Scalar.cmpi .sgt c2_i32_87 c0_i32_90
  let v146 : BitVec 32 := Scalar.extui v145
  let c0_i32_91 : BitVec 32 := 0#32
  let v147 : BitVec 1 := Scalar.cmpi .slt c2_i32_87 c0_i32_91
  let v148 : BitVec 32 := Scalar.extui v147
  let v149 : BitVec 32 := Scalar.subi v146 v148
  let v150 : BitVec 1 := Scalar.cmpi .ne v144 v149
  let v151 : BitVec 32 := Scalar.remsi v138 c2_i32_87
  let c0_i32_92 : BitVec 32 := 0#32
  let v152 : BitVec 1 := Scalar.cmpi .ne v151 c0_i32_92
  let v153 : BitVec 1 := Scalar.andi v150 v152
  let v139 : BitVec 32 := Scalar.divsi v138 c2_i32_87
  let c1_i32_93 : BitVec 32 := 1#32
  let v154 : BitVec 32 := Scalar.subi v139 c1_i32_93
  let v155 : BitVec 32 := Scalar.select v153 v154 v139
  let c2_i32_94 : BitVec 32 := 2#32
  let c0_i32_95 : BitVec 32 := 0#32
  let v156 : BitVec 1 := Scalar.cmpi .eq c2_i32_94 c0_i32_95
  let c1_i32_96 : BitVec 32 := 1#32
  let v157 : BitVec 32 := Scalar.select v156 c1_i32_96 c2_i32_94
  let v158 : BitVec 32 := Scalar.remsi v155 v157
  let c0_i32_98 : BitVec 32 := 0#32
  let v160 : BitVec 1 := Scalar.cmpi .slt v158 c0_i32_98
  let c0_i32_99 : BitVec 32 := 0#32
  let v161 : BitVec 1 := Scalar.cmpi .slt v157 c0_i32_99
  let v162 : BitVec 1 := Scalar.xori v160 v161
  let c0_i32_97 : BitVec 32 := 0#32
  let v159 : BitVec 1 := Scalar.cmpi .ne v158 c0_i32_97
  let v163 : BitVec 1 := Scalar.andi v162 v159
  let v164 : BitVec 32 := Scalar.addi v158 v157
  let v165 : BitVec 32 := Scalar.select v163 v164 v158
  let c1_i32_100 : BitVec 32 := 1#32
  let v166 : BitVec 1 := Scalar.cmpi .eq v165 c1_i32_100
  let c2_i32_102 : BitVec 32 := 2#32
  let c0_i32_103 : BitVec 32 := 0#32
  let v170 : BitVec 32 := Scalar.select v166 c2_i32_102 c0_i32_103
  let v171 : BitVec 32 := Scalar.addi v137 v170
  let c0_i32_104 : BitVec 32 := 0#32
  let v173 : BitVec 1 := Scalar.cmpi .sgt v171 c0_i32_104
  let v174 : BitVec 32 := Scalar.extui v173
  let c0_i32_105 : BitVec 32 := 0#32
  let v175 : BitVec 1 := Scalar.cmpi .slt v171 c0_i32_105
  let v176 : BitVec 32 := Scalar.extui v175
  let v177 : BitVec 32 := Scalar.subi v174 v176
  let c4_i32 : BitVec 32 := 4#32
  let c0_i32_106 : BitVec 32 := 0#32
  let v178 : BitVec 1 := Scalar.cmpi .sgt c4_i32 c0_i32_106
  let v179 : BitVec 32 := Scalar.extui v178
  let c0_i32_107 : BitVec 32 := 0#32
  let v180 : BitVec 1 := Scalar.cmpi .slt c4_i32 c0_i32_107
  let v181 : BitVec 32 := Scalar.extui v180
  let v182 : BitVec 32 := Scalar.subi v179 v181
  let v183 : BitVec 1 := Scalar.cmpi .ne v177 v182
  let v184 : BitVec 32 := Scalar.remsi v171 c4_i32
  let c0_i32_108 : BitVec 32 := 0#32
  let v185 : BitVec 1 := Scalar.cmpi .ne v184 c0_i32_108
  let v186 : BitVec 1 := Scalar.andi v183 v185
  let v172 : BitVec 32 := Scalar.divsi v171 c4_i32
  let c1_i32_109 : BitVec 32 := 1#32
  let v187 : BitVec 32 := Scalar.subi v172 c1_i32_109
  let v188 : BitVec 32 := Scalar.select v186 v187 v172
  let c8_i32 : BitVec 32 := 8#32
  let v189 : BitVec 32 := Scalar.subi c8_i32 v188
  let c1_i32_110 : BitVec 32 := 1#32
  let v191 : BitVec 32 := Scalar.divsi v189 c1_i32_110
  let v192 : BitVec 32 := Scalar.muli v191 c1_i32_110
  let v193 : BitVec 32 := Scalar.addi v188 v192
  let c1_i32_112 : BitVec 32 := 1#32
  let arg12 : BitVec 32 := Scf.iv v193 c1_i32_112 k0_t2
  let v216 : BitVec 32 := Scalar.muli c4_i32_127 arg12
  let v217 : BitVec 32 := Scalar.addi v216 c0_i32_128
  let v281 : Index := Scalar.indexCast v217
  let c0_170 : Index := 0#32
  let c0_171 : Index := 0#32
  ![0, v281.toNat, 0, 0]
def k0_mult18 (i : grid0.Coords) (k0_t2 : Fin (k0_t2_loop i).trips) : BitVec 32 :=
  let c4_i32_175 : BitVec 32 := 4#32
  let c2_i32_86 : BitVec 32 := 2#32
  let arg1 : BitVec 32 := BitVec.ofNat 32 (i 1).val
  let c1_i32_85 : BitVec 32 := 1#32
  let v136 : BitVec 32 := Scalar.addi arg1 c1_i32_85
  let v137 : BitVec 32 := Scalar.muli c2_i32_86 v136
  let c32_i32 : BitVec 32 := 32#32
  let v138 : BitVec 32 := Scalar.subi c32_i32 v137
  let c0_i32_88 : BitVec 32 := 0#32
  let v140 : BitVec 1 := Scalar.cmpi .sgt v138 c0_i32_88
  let v141 : BitVec 32 := Scalar.extui v140
  let c0_i32_89 : BitVec 32 := 0#32
  let v142 : BitVec 1 := Scalar.cmpi .slt v138 c0_i32_89
  let v143 : BitVec 32 := Scalar.extui v142
  let v144 : BitVec 32 := Scalar.subi v141 v143
  let c2_i32_87 : BitVec 32 := 2#32
  let c0_i32_90 : BitVec 32 := 0#32
  let v145 : BitVec 1 := Scalar.cmpi .sgt c2_i32_87 c0_i32_90
  let v146 : BitVec 32 := Scalar.extui v145
  let c0_i32_91 : BitVec 32 := 0#32
  let v147 : BitVec 1 := Scalar.cmpi .slt c2_i32_87 c0_i32_91
  let v148 : BitVec 32 := Scalar.extui v147
  let v149 : BitVec 32 := Scalar.subi v146 v148
  let v150 : BitVec 1 := Scalar.cmpi .ne v144 v149
  let v151 : BitVec 32 := Scalar.remsi v138 c2_i32_87
  let c0_i32_92 : BitVec 32 := 0#32
  let v152 : BitVec 1 := Scalar.cmpi .ne v151 c0_i32_92
  let v153 : BitVec 1 := Scalar.andi v150 v152
  let v139 : BitVec 32 := Scalar.divsi v138 c2_i32_87
  let c1_i32_93 : BitVec 32 := 1#32
  let v154 : BitVec 32 := Scalar.subi v139 c1_i32_93
  let v155 : BitVec 32 := Scalar.select v153 v154 v139
  let c2_i32_94 : BitVec 32 := 2#32
  let c0_i32_95 : BitVec 32 := 0#32
  let v156 : BitVec 1 := Scalar.cmpi .eq c2_i32_94 c0_i32_95
  let c1_i32_96 : BitVec 32 := 1#32
  let v157 : BitVec 32 := Scalar.select v156 c1_i32_96 c2_i32_94
  let v158 : BitVec 32 := Scalar.remsi v155 v157
  let c0_i32_98 : BitVec 32 := 0#32
  let v160 : BitVec 1 := Scalar.cmpi .slt v158 c0_i32_98
  let c0_i32_99 : BitVec 32 := 0#32
  let v161 : BitVec 1 := Scalar.cmpi .slt v157 c0_i32_99
  let v162 : BitVec 1 := Scalar.xori v160 v161
  let c0_i32_97 : BitVec 32 := 0#32
  let v159 : BitVec 1 := Scalar.cmpi .ne v158 c0_i32_97
  let v163 : BitVec 1 := Scalar.andi v162 v159
  let v164 : BitVec 32 := Scalar.addi v158 v157
  let v165 : BitVec 32 := Scalar.select v163 v164 v158
  let c1_i32_100 : BitVec 32 := 1#32
  let v166 : BitVec 1 := Scalar.cmpi .eq v165 c1_i32_100
  let c2_i32_102 : BitVec 32 := 2#32
  let c0_i32_103 : BitVec 32 := 0#32
  let v170 : BitVec 32 := Scalar.select v166 c2_i32_102 c0_i32_103
  let v171 : BitVec 32 := Scalar.addi v137 v170
  let c0_i32_104 : BitVec 32 := 0#32
  let v173 : BitVec 1 := Scalar.cmpi .sgt v171 c0_i32_104
  let v174 : BitVec 32 := Scalar.extui v173
  let c0_i32_105 : BitVec 32 := 0#32
  let v175 : BitVec 1 := Scalar.cmpi .slt v171 c0_i32_105
  let v176 : BitVec 32 := Scalar.extui v175
  let v177 : BitVec 32 := Scalar.subi v174 v176
  let c4_i32 : BitVec 32 := 4#32
  let c0_i32_106 : BitVec 32 := 0#32
  let v178 : BitVec 1 := Scalar.cmpi .sgt c4_i32 c0_i32_106
  let v179 : BitVec 32 := Scalar.extui v178
  let c0_i32_107 : BitVec 32 := 0#32
  let v180 : BitVec 1 := Scalar.cmpi .slt c4_i32 c0_i32_107
  let v181 : BitVec 32 := Scalar.extui v180
  let v182 : BitVec 32 := Scalar.subi v179 v181
  let v183 : BitVec 1 := Scalar.cmpi .ne v177 v182
  let v184 : BitVec 32 := Scalar.remsi v171 c4_i32
  let c0_i32_108 : BitVec 32 := 0#32
  let v185 : BitVec 1 := Scalar.cmpi .ne v184 c0_i32_108
  let v186 : BitVec 1 := Scalar.andi v183 v185
  let v172 : BitVec 32 := Scalar.divsi v171 c4_i32
  let c1_i32_109 : BitVec 32 := 1#32
  let v187 : BitVec 32 := Scalar.subi v172 c1_i32_109
  let v188 : BitVec 32 := Scalar.select v186 v187 v172
  let c8_i32 : BitVec 32 := 8#32
  let v189 : BitVec 32 := Scalar.subi c8_i32 v188
  let c1_i32_110 : BitVec 32 := 1#32
  let v191 : BitVec 32 := Scalar.divsi v189 c1_i32_110
  let v192 : BitVec 32 := Scalar.muli v191 c1_i32_110
  let v193 : BitVec 32 := Scalar.addi v188 v192
  let c1_i32_112 : BitVec 32 := 1#32
  let arg12 : BitVec 32 := Scf.iv v193 c1_i32_112 k0_t2
  let v289 : BitVec 32 := Scalar.muli c4_i32_175 arg12
  let c1_i32_176 : BitVec 32 := 1#32
  let v290 : BitVec 32 := Scalar.addi v289 c1_i32_176
  let c512_i32_177 : BitVec 32 := 512#32
  let v291 : BitVec 32 := Scalar.muli v290 c512_i32_177
  v291
def k0_mult19 (i : grid0.Coords) (k0_t2 : Fin (k0_t2_loop i).trips) : BitVec 32 :=
  let c4_i32_175 : BitVec 32 := 4#32
  let c2_i32_86 : BitVec 32 := 2#32
  let arg1 : BitVec 32 := BitVec.ofNat 32 (i 1).val
  let c1_i32_85 : BitVec 32 := 1#32
  let v136 : BitVec 32 := Scalar.addi arg1 c1_i32_85
  let v137 : BitVec 32 := Scalar.muli c2_i32_86 v136
  let c32_i32 : BitVec 32 := 32#32
  let v138 : BitVec 32 := Scalar.subi c32_i32 v137
  let c0_i32_88 : BitVec 32 := 0#32
  let v140 : BitVec 1 := Scalar.cmpi .sgt v138 c0_i32_88
  let v141 : BitVec 32 := Scalar.extui v140
  let c0_i32_89 : BitVec 32 := 0#32
  let v142 : BitVec 1 := Scalar.cmpi .slt v138 c0_i32_89
  let v143 : BitVec 32 := Scalar.extui v142
  let v144 : BitVec 32 := Scalar.subi v141 v143
  let c2_i32_87 : BitVec 32 := 2#32
  let c0_i32_90 : BitVec 32 := 0#32
  let v145 : BitVec 1 := Scalar.cmpi .sgt c2_i32_87 c0_i32_90
  let v146 : BitVec 32 := Scalar.extui v145
  let c0_i32_91 : BitVec 32 := 0#32
  let v147 : BitVec 1 := Scalar.cmpi .slt c2_i32_87 c0_i32_91
  let v148 : BitVec 32 := Scalar.extui v147
  let v149 : BitVec 32 := Scalar.subi v146 v148
  let v150 : BitVec 1 := Scalar.cmpi .ne v144 v149
  let v151 : BitVec 32 := Scalar.remsi v138 c2_i32_87
  let c0_i32_92 : BitVec 32 := 0#32
  let v152 : BitVec 1 := Scalar.cmpi .ne v151 c0_i32_92
  let v153 : BitVec 1 := Scalar.andi v150 v152
  let v139 : BitVec 32 := Scalar.divsi v138 c2_i32_87
  let c1_i32_93 : BitVec 32 := 1#32
  let v154 : BitVec 32 := Scalar.subi v139 c1_i32_93
  let v155 : BitVec 32 := Scalar.select v153 v154 v139
  let c2_i32_94 : BitVec 32 := 2#32
  let c0_i32_95 : BitVec 32 := 0#32
  let v156 : BitVec 1 := Scalar.cmpi .eq c2_i32_94 c0_i32_95
  let c1_i32_96 : BitVec 32 := 1#32
  let v157 : BitVec 32 := Scalar.select v156 c1_i32_96 c2_i32_94
  let v158 : BitVec 32 := Scalar.remsi v155 v157
  let c0_i32_98 : BitVec 32 := 0#32
  let v160 : BitVec 1 := Scalar.cmpi .slt v158 c0_i32_98
  let c0_i32_99 : BitVec 32 := 0#32
  let v161 : BitVec 1 := Scalar.cmpi .slt v157 c0_i32_99
  let v162 : BitVec 1 := Scalar.xori v160 v161
  let c0_i32_97 : BitVec 32 := 0#32
  let v159 : BitVec 1 := Scalar.cmpi .ne v158 c0_i32_97
  let v163 : BitVec 1 := Scalar.andi v162 v159
  let v164 : BitVec 32 := Scalar.addi v158 v157
  let v165 : BitVec 32 := Scalar.select v163 v164 v158
  let c1_i32_100 : BitVec 32 := 1#32
  let v166 : BitVec 1 := Scalar.cmpi .eq v165 c1_i32_100
  let c2_i32_102 : BitVec 32 := 2#32
  let c0_i32_103 : BitVec 32 := 0#32
  let v170 : BitVec 32 := Scalar.select v166 c2_i32_102 c0_i32_103
  let v171 : BitVec 32 := Scalar.addi v137 v170
  let c0_i32_104 : BitVec 32 := 0#32
  let v173 : BitVec 1 := Scalar.cmpi .sgt v171 c0_i32_104
  let v174 : BitVec 32 := Scalar.extui v173
  let c0_i32_105 : BitVec 32 := 0#32
  let v175 : BitVec 1 := Scalar.cmpi .slt v171 c0_i32_105
  let v176 : BitVec 32 := Scalar.extui v175
  let v177 : BitVec 32 := Scalar.subi v174 v176
  let c4_i32 : BitVec 32 := 4#32
  let c0_i32_106 : BitVec 32 := 0#32
  let v178 : BitVec 1 := Scalar.cmpi .sgt c4_i32 c0_i32_106
  let v179 : BitVec 32 := Scalar.extui v178
  let c0_i32_107 : BitVec 32 := 0#32
  let v180 : BitVec 1 := Scalar.cmpi .slt c4_i32 c0_i32_107
  let v181 : BitVec 32 := Scalar.extui v180
  let v182 : BitVec 32 := Scalar.subi v179 v181
  let v183 : BitVec 1 := Scalar.cmpi .ne v177 v182
  let v184 : BitVec 32 := Scalar.remsi v171 c4_i32
  let c0_i32_108 : BitVec 32 := 0#32
  let v185 : BitVec 1 := Scalar.cmpi .ne v184 c0_i32_108
  let v186 : BitVec 1 := Scalar.andi v183 v185
  let v172 : BitVec 32 := Scalar.divsi v171 c4_i32
  let c1_i32_109 : BitVec 32 := 1#32
  let v187 : BitVec 32 := Scalar.subi v172 c1_i32_109
  let v188 : BitVec 32 := Scalar.select v186 v187 v172
  let c8_i32 : BitVec 32 := 8#32
  let v189 : BitVec 32 := Scalar.subi c8_i32 v188
  let c1_i32_110 : BitVec 32 := 1#32
  let v191 : BitVec 32 := Scalar.divsi v189 c1_i32_110
  let v192 : BitVec 32 := Scalar.muli v191 c1_i32_110
  let v193 : BitVec 32 := Scalar.addi v188 v192
  let c1_i32_112 : BitVec 32 := 1#32
  let arg12 : BitVec 32 := Scf.iv v193 c1_i32_112 k0_t2
  let v289 : BitVec 32 := Scalar.muli c4_i32_175 arg12
  let c1_i32_176 : BitVec 32 := 1#32
  let v290 : BitVec 32 := Scalar.addi v289 c1_i32_176
  let c512_i32_197 : BitVec 32 := 512#32
  let v322 : BitVec 32 := Scalar.muli v290 c512_i32_197
  v322
def k0_mult20 (i : grid0.Coords) (k0_t2 : Fin (k0_t2_loop i).trips) : BitVec 32 :=
  let c4_i32_223 : BitVec 32 := 4#32
  let c2_i32_86 : BitVec 32 := 2#32
  let arg1 : BitVec 32 := BitVec.ofNat 32 (i 1).val
  let c1_i32_85 : BitVec 32 := 1#32
  let v136 : BitVec 32 := Scalar.addi arg1 c1_i32_85
  let v137 : BitVec 32 := Scalar.muli c2_i32_86 v136
  let c32_i32 : BitVec 32 := 32#32
  let v138 : BitVec 32 := Scalar.subi c32_i32 v137
  let c0_i32_88 : BitVec 32 := 0#32
  let v140 : BitVec 1 := Scalar.cmpi .sgt v138 c0_i32_88
  let v141 : BitVec 32 := Scalar.extui v140
  let c0_i32_89 : BitVec 32 := 0#32
  let v142 : BitVec 1 := Scalar.cmpi .slt v138 c0_i32_89
  let v143 : BitVec 32 := Scalar.extui v142
  let v144 : BitVec 32 := Scalar.subi v141 v143
  let c2_i32_87 : BitVec 32 := 2#32
  let c0_i32_90 : BitVec 32 := 0#32
  let v145 : BitVec 1 := Scalar.cmpi .sgt c2_i32_87 c0_i32_90
  let v146 : BitVec 32 := Scalar.extui v145
  let c0_i32_91 : BitVec 32 := 0#32
  let v147 : BitVec 1 := Scalar.cmpi .slt c2_i32_87 c0_i32_91
  let v148 : BitVec 32 := Scalar.extui v147
  let v149 : BitVec 32 := Scalar.subi v146 v148
  let v150 : BitVec 1 := Scalar.cmpi .ne v144 v149
  let v151 : BitVec 32 := Scalar.remsi v138 c2_i32_87
  let c0_i32_92 : BitVec 32 := 0#32
  let v152 : BitVec 1 := Scalar.cmpi .ne v151 c0_i32_92
  let v153 : BitVec 1 := Scalar.andi v150 v152
  let v139 : BitVec 32 := Scalar.divsi v138 c2_i32_87
  let c1_i32_93 : BitVec 32 := 1#32
  let v154 : BitVec 32 := Scalar.subi v139 c1_i32_93
  let v155 : BitVec 32 := Scalar.select v153 v154 v139
  let c2_i32_94 : BitVec 32 := 2#32
  let c0_i32_95 : BitVec 32 := 0#32
  let v156 : BitVec 1 := Scalar.cmpi .eq c2_i32_94 c0_i32_95
  let c1_i32_96 : BitVec 32 := 1#32
  let v157 : BitVec 32 := Scalar.select v156 c1_i32_96 c2_i32_94
  let v158 : BitVec 32 := Scalar.remsi v155 v157
  let c0_i32_98 : BitVec 32 := 0#32
  let v160 : BitVec 1 := Scalar.cmpi .slt v158 c0_i32_98
  let c0_i32_99 : BitVec 32 := 0#32
  let v161 : BitVec 1 := Scalar.cmpi .slt v157 c0_i32_99
  let v162 : BitVec 1 := Scalar.xori v160 v161
  let c0_i32_97 : BitVec 32 := 0#32
  let v159 : BitVec 1 := Scalar.cmpi .ne v158 c0_i32_97
  let v163 : BitVec 1 := Scalar.andi v162 v159
  let v164 : BitVec 32 := Scalar.addi v158 v157
  let v165 : BitVec 32 := Scalar.select v163 v164 v158
  let c1_i32_100 : BitVec 32 := 1#32
  let v166 : BitVec 1 := Scalar.cmpi .eq v165 c1_i32_100
  let c2_i32_102 : BitVec 32 := 2#32
  let c0_i32_103 : BitVec 32 := 0#32
  let v170 : BitVec 32 := Scalar.select v166 c2_i32_102 c0_i32_103
  let v171 : BitVec 32 := Scalar.addi v137 v170
  let c0_i32_104 : BitVec 32 := 0#32
  let v173 : BitVec 1 := Scalar.cmpi .sgt v171 c0_i32_104
  let v174 : BitVec 32 := Scalar.extui v173
  let c0_i32_105 : BitVec 32 := 0#32
  let v175 : BitVec 1 := Scalar.cmpi .slt v171 c0_i32_105
  let v176 : BitVec 32 := Scalar.extui v175
  let v177 : BitVec 32 := Scalar.subi v174 v176
  let c4_i32 : BitVec 32 := 4#32
  let c0_i32_106 : BitVec 32 := 0#32
  let v178 : BitVec 1 := Scalar.cmpi .sgt c4_i32 c0_i32_106
  let v179 : BitVec 32 := Scalar.extui v178
  let c0_i32_107 : BitVec 32 := 0#32
  let v180 : BitVec 1 := Scalar.cmpi .slt c4_i32 c0_i32_107
  let v181 : BitVec 32 := Scalar.extui v180
  let v182 : BitVec 32 := Scalar.subi v179 v181
  let v183 : BitVec 1 := Scalar.cmpi .ne v177 v182
  let v184 : BitVec 32 := Scalar.remsi v171 c4_i32
  let c0_i32_108 : BitVec 32 := 0#32
  let v185 : BitVec 1 := Scalar.cmpi .ne v184 c0_i32_108
  let v186 : BitVec 1 := Scalar.andi v183 v185
  let v172 : BitVec 32 := Scalar.divsi v171 c4_i32
  let c1_i32_109 : BitVec 32 := 1#32
  let v187 : BitVec 32 := Scalar.subi v172 c1_i32_109
  let v188 : BitVec 32 := Scalar.select v186 v187 v172
  let c8_i32 : BitVec 32 := 8#32
  let v189 : BitVec 32 := Scalar.subi c8_i32 v188
  let c1_i32_110 : BitVec 32 := 1#32
  let v191 : BitVec 32 := Scalar.divsi v189 c1_i32_110
  let v192 : BitVec 32 := Scalar.muli v191 c1_i32_110
  let v193 : BitVec 32 := Scalar.addi v188 v192
  let c1_i32_112 : BitVec 32 := 1#32
  let arg12 : BitVec 32 := Scf.iv v193 c1_i32_112 k0_t2
  let v362 : BitVec 32 := Scalar.muli c4_i32_223 arg12
  let c2_i32_224 : BitVec 32 := 2#32
  let v363 : BitVec 32 := Scalar.addi v362 c2_i32_224
  let c512_i32_225 : BitVec 32 := 512#32
  let v364 : BitVec 32 := Scalar.muli v363 c512_i32_225
  v364
def k0_mult21 (i : grid0.Coords) (k0_t2 : Fin (k0_t2_loop i).trips) : BitVec 32 :=
  let c4_i32_223 : BitVec 32 := 4#32
  let c2_i32_86 : BitVec 32 := 2#32
  let arg1 : BitVec 32 := BitVec.ofNat 32 (i 1).val
  let c1_i32_85 : BitVec 32 := 1#32
  let v136 : BitVec 32 := Scalar.addi arg1 c1_i32_85
  let v137 : BitVec 32 := Scalar.muli c2_i32_86 v136
  let c32_i32 : BitVec 32 := 32#32
  let v138 : BitVec 32 := Scalar.subi c32_i32 v137
  let c0_i32_88 : BitVec 32 := 0#32
  let v140 : BitVec 1 := Scalar.cmpi .sgt v138 c0_i32_88
  let v141 : BitVec 32 := Scalar.extui v140
  let c0_i32_89 : BitVec 32 := 0#32
  let v142 : BitVec 1 := Scalar.cmpi .slt v138 c0_i32_89
  let v143 : BitVec 32 := Scalar.extui v142
  let v144 : BitVec 32 := Scalar.subi v141 v143
  let c2_i32_87 : BitVec 32 := 2#32
  let c0_i32_90 : BitVec 32 := 0#32
  let v145 : BitVec 1 := Scalar.cmpi .sgt c2_i32_87 c0_i32_90
  let v146 : BitVec 32 := Scalar.extui v145
  let c0_i32_91 : BitVec 32 := 0#32
  let v147 : BitVec 1 := Scalar.cmpi .slt c2_i32_87 c0_i32_91
  let v148 : BitVec 32 := Scalar.extui v147
  let v149 : BitVec 32 := Scalar.subi v146 v148
  let v150 : BitVec 1 := Scalar.cmpi .ne v144 v149
  let v151 : BitVec 32 := Scalar.remsi v138 c2_i32_87
  let c0_i32_92 : BitVec 32 := 0#32
  let v152 : BitVec 1 := Scalar.cmpi .ne v151 c0_i32_92
  let v153 : BitVec 1 := Scalar.andi v150 v152
  let v139 : BitVec 32 := Scalar.divsi v138 c2_i32_87
  let c1_i32_93 : BitVec 32 := 1#32
  let v154 : BitVec 32 := Scalar.subi v139 c1_i32_93
  let v155 : BitVec 32 := Scalar.select v153 v154 v139
  let c2_i32_94 : BitVec 32 := 2#32
  let c0_i32_95 : BitVec 32 := 0#32
  let v156 : BitVec 1 := Scalar.cmpi .eq c2_i32_94 c0_i32_95
  let c1_i32_96 : BitVec 32 := 1#32
  let v157 : BitVec 32 := Scalar.select v156 c1_i32_96 c2_i32_94
  let v158 : BitVec 32 := Scalar.remsi v155 v157
  let c0_i32_98 : BitVec 32 := 0#32
  let v160 : BitVec 1 := Scalar.cmpi .slt v158 c0_i32_98
  let c0_i32_99 : BitVec 32 := 0#32
  let v161 : BitVec 1 := Scalar.cmpi .slt v157 c0_i32_99
  let v162 : BitVec 1 := Scalar.xori v160 v161
  let c0_i32_97 : BitVec 32 := 0#32
  let v159 : BitVec 1 := Scalar.cmpi .ne v158 c0_i32_97
  let v163 : BitVec 1 := Scalar.andi v162 v159
  let v164 : BitVec 32 := Scalar.addi v158 v157
  let v165 : BitVec 32 := Scalar.select v163 v164 v158
  let c1_i32_100 : BitVec 32 := 1#32
  let v166 : BitVec 1 := Scalar.cmpi .eq v165 c1_i32_100
  let c2_i32_102 : BitVec 32 := 2#32
  let c0_i32_103 : BitVec 32 := 0#32
  let v170 : BitVec 32 := Scalar.select v166 c2_i32_102 c0_i32_103
  let v171 : BitVec 32 := Scalar.addi v137 v170
  let c0_i32_104 : BitVec 32 := 0#32
  let v173 : BitVec 1 := Scalar.cmpi .sgt v171 c0_i32_104
  let v174 : BitVec 32 := Scalar.extui v173
  let c0_i32_105 : BitVec 32 := 0#32
  let v175 : BitVec 1 := Scalar.cmpi .slt v171 c0_i32_105
  let v176 : BitVec 32 := Scalar.extui v175
  let v177 : BitVec 32 := Scalar.subi v174 v176
  let c4_i32 : BitVec 32 := 4#32
  let c0_i32_106 : BitVec 32 := 0#32
  let v178 : BitVec 1 := Scalar.cmpi .sgt c4_i32 c0_i32_106
  let v179 : BitVec 32 := Scalar.extui v178
  let c0_i32_107 : BitVec 32 := 0#32
  let v180 : BitVec 1 := Scalar.cmpi .slt c4_i32 c0_i32_107
  let v181 : BitVec 32 := Scalar.extui v180
  let v182 : BitVec 32 := Scalar.subi v179 v181
  let v183 : BitVec 1 := Scalar.cmpi .ne v177 v182
  let v184 : BitVec 32 := Scalar.remsi v171 c4_i32
  let c0_i32_108 : BitVec 32 := 0#32
  let v185 : BitVec 1 := Scalar.cmpi .ne v184 c0_i32_108
  let v186 : BitVec 1 := Scalar.andi v183 v185
  let v172 : BitVec 32 := Scalar.divsi v171 c4_i32
  let c1_i32_109 : BitVec 32 := 1#32
  let v187 : BitVec 32 := Scalar.subi v172 c1_i32_109
  let v188 : BitVec 32 := Scalar.select v186 v187 v172
  let c8_i32 : BitVec 32 := 8#32
  let v189 : BitVec 32 := Scalar.subi c8_i32 v188
  let c1_i32_110 : BitVec 32 := 1#32
  let v191 : BitVec 32 := Scalar.divsi v189 c1_i32_110
  let v192 : BitVec 32 := Scalar.muli v191 c1_i32_110
  let v193 : BitVec 32 := Scalar.addi v188 v192
  let c1_i32_112 : BitVec 32 := 1#32
  let arg12 : BitVec 32 := Scf.iv v193 c1_i32_112 k0_t2
  let v362 : BitVec 32 := Scalar.muli c4_i32_223 arg12
  let c2_i32_224 : BitVec 32 := 2#32
  let v363 : BitVec 32 := Scalar.addi v362 c2_i32_224
  let c512_i32_245 : BitVec 32 := 512#32
  let v395 : BitVec 32 := Scalar.muli v363 c512_i32_245
  v395
def k0_mult22 (i : grid0.Coords) (k0_t2 : Fin (k0_t2_loop i).trips) : BitVec 32 :=
  let c4_i32_271 : BitVec 32 := 4#32
  let c2_i32_86 : BitVec 32 := 2#32
  let arg1 : BitVec 32 := BitVec.ofNat 32 (i 1).val
  let c1_i32_85 : BitVec 32 := 1#32
  let v136 : BitVec 32 := Scalar.addi arg1 c1_i32_85
  let v137 : BitVec 32 := Scalar.muli c2_i32_86 v136
  let c32_i32 : BitVec 32 := 32#32
  let v138 : BitVec 32 := Scalar.subi c32_i32 v137
  let c0_i32_88 : BitVec 32 := 0#32
  let v140 : BitVec 1 := Scalar.cmpi .sgt v138 c0_i32_88
  let v141 : BitVec 32 := Scalar.extui v140
  let c0_i32_89 : BitVec 32 := 0#32
  let v142 : BitVec 1 := Scalar.cmpi .slt v138 c0_i32_89
  let v143 : BitVec 32 := Scalar.extui v142
  let v144 : BitVec 32 := Scalar.subi v141 v143
  let c2_i32_87 : BitVec 32 := 2#32
  let c0_i32_90 : BitVec 32 := 0#32
  let v145 : BitVec 1 := Scalar.cmpi .sgt c2_i32_87 c0_i32_90
  let v146 : BitVec 32 := Scalar.extui v145
  let c0_i32_91 : BitVec 32 := 0#32
  let v147 : BitVec 1 := Scalar.cmpi .slt c2_i32_87 c0_i32_91
  let v148 : BitVec 32 := Scalar.extui v147
  let v149 : BitVec 32 := Scalar.subi v146 v148
  let v150 : BitVec 1 := Scalar.cmpi .ne v144 v149
  let v151 : BitVec 32 := Scalar.remsi v138 c2_i32_87
  let c0_i32_92 : BitVec 32 := 0#32
  let v152 : BitVec 1 := Scalar.cmpi .ne v151 c0_i32_92
  let v153 : BitVec 1 := Scalar.andi v150 v152
  let v139 : BitVec 32 := Scalar.divsi v138 c2_i32_87
  let c1_i32_93 : BitVec 32 := 1#32
  let v154 : BitVec 32 := Scalar.subi v139 c1_i32_93
  let v155 : BitVec 32 := Scalar.select v153 v154 v139
  let c2_i32_94 : BitVec 32 := 2#32
  let c0_i32_95 : BitVec 32 := 0#32
  let v156 : BitVec 1 := Scalar.cmpi .eq c2_i32_94 c0_i32_95
  let c1_i32_96 : BitVec 32 := 1#32
  let v157 : BitVec 32 := Scalar.select v156 c1_i32_96 c2_i32_94
  let v158 : BitVec 32 := Scalar.remsi v155 v157
  let c0_i32_98 : BitVec 32 := 0#32
  let v160 : BitVec 1 := Scalar.cmpi .slt v158 c0_i32_98
  let c0_i32_99 : BitVec 32 := 0#32
  let v161 : BitVec 1 := Scalar.cmpi .slt v157 c0_i32_99
  let v162 : BitVec 1 := Scalar.xori v160 v161
  let c0_i32_97 : BitVec 32 := 0#32
  let v159 : BitVec 1 := Scalar.cmpi .ne v158 c0_i32_97
  let v163 : BitVec 1 := Scalar.andi v162 v159
  let v164 : BitVec 32 := Scalar.addi v158 v157
  let v165 : BitVec 32 := Scalar.select v163 v164 v158
  let c1_i32_100 : BitVec 32 := 1#32
  let v166 : BitVec 1 := Scalar.cmpi .eq v165 c1_i32_100
  let c2_i32_102 : BitVec 32 := 2#32
  let c0_i32_103 : BitVec 32 := 0#32
  let v170 : BitVec 32 := Scalar.select v166 c2_i32_102 c0_i32_103
  let v171 : BitVec 32 := Scalar.addi v137 v170
  let c0_i32_104 : BitVec 32 := 0#32
  let v173 : BitVec 1 := Scalar.cmpi .sgt v171 c0_i32_104
  let v174 : BitVec 32 := Scalar.extui v173
  let c0_i32_105 : BitVec 32 := 0#32
  let v175 : BitVec 1 := Scalar.cmpi .slt v171 c0_i32_105
  let v176 : BitVec 32 := Scalar.extui v175
  let v177 : BitVec 32 := Scalar.subi v174 v176
  let c4_i32 : BitVec 32 := 4#32
  let c0_i32_106 : BitVec 32 := 0#32
  let v178 : BitVec 1 := Scalar.cmpi .sgt c4_i32 c0_i32_106
  let v179 : BitVec 32 := Scalar.extui v178
  let c0_i32_107 : BitVec 32 := 0#32
  let v180 : BitVec 1 := Scalar.cmpi .slt c4_i32 c0_i32_107
  let v181 : BitVec 32 := Scalar.extui v180
  let v182 : BitVec 32 := Scalar.subi v179 v181
  let v183 : BitVec 1 := Scalar.cmpi .ne v177 v182
  let v184 : BitVec 32 := Scalar.remsi v171 c4_i32
  let c0_i32_108 : BitVec 32 := 0#32
  let v185 : BitVec 1 := Scalar.cmpi .ne v184 c0_i32_108
  let v186 : BitVec 1 := Scalar.andi v183 v185
  let v172 : BitVec 32 := Scalar.divsi v171 c4_i32
  let c1_i32_109 : BitVec 32 := 1#32
  let v187 : BitVec 32 := Scalar.subi v172 c1_i32_109
  let v188 : BitVec 32 := Scalar.select v186 v187 v172
  let c8_i32 : BitVec 32 := 8#32
  let v189 : BitVec 32 := Scalar.subi c8_i32 v188
  let c1_i32_110 : BitVec 32 := 1#32
  let v191 : BitVec 32 := Scalar.divsi v189 c1_i32_110
  let v192 : BitVec 32 := Scalar.muli v191 c1_i32_110
  let v193 : BitVec 32 := Scalar.addi v188 v192
  let c1_i32_112 : BitVec 32 := 1#32
  let arg12 : BitVec 32 := Scf.iv v193 c1_i32_112 k0_t2
  let v435 : BitVec 32 := Scalar.muli c4_i32_271 arg12
  let c3_i32 : BitVec 32 := 3#32
  let v436 : BitVec 32 := Scalar.addi v435 c3_i32
  let c512_i32_272 : BitVec 32 := 512#32
  let v437 : BitVec 32 := Scalar.muli v436 c512_i32_272
  v437
def k0_mult23 (i : grid0.Coords) (k0_t2 : Fin (k0_t2_loop i).trips) : BitVec 32 :=
  let c4_i32_271 : BitVec 32 := 4#32
  let c2_i32_86 : BitVec 32 := 2#32
  let arg1 : BitVec 32 := BitVec.ofNat 32 (i 1).val
  let c1_i32_85 : BitVec 32 := 1#32
  let v136 : BitVec 32 := Scalar.addi arg1 c1_i32_85
  let v137 : BitVec 32 := Scalar.muli c2_i32_86 v136
  let c32_i32 : BitVec 32 := 32#32
  let v138 : BitVec 32 := Scalar.subi c32_i32 v137
  let c0_i32_88 : BitVec 32 := 0#32
  let v140 : BitVec 1 := Scalar.cmpi .sgt v138 c0_i32_88
  let v141 : BitVec 32 := Scalar.extui v140
  let c0_i32_89 : BitVec 32 := 0#32
  let v142 : BitVec 1 := Scalar.cmpi .slt v138 c0_i32_89
  let v143 : BitVec 32 := Scalar.extui v142
  let v144 : BitVec 32 := Scalar.subi v141 v143
  let c2_i32_87 : BitVec 32 := 2#32
  let c0_i32_90 : BitVec 32 := 0#32
  let v145 : BitVec 1 := Scalar.cmpi .sgt c2_i32_87 c0_i32_90
  let v146 : BitVec 32 := Scalar.extui v145
  let c0_i32_91 : BitVec 32 := 0#32
  let v147 : BitVec 1 := Scalar.cmpi .slt c2_i32_87 c0_i32_91
  let v148 : BitVec 32 := Scalar.extui v147
  let v149 : BitVec 32 := Scalar.subi v146 v148
  let v150 : BitVec 1 := Scalar.cmpi .ne v144 v149
  let v151 : BitVec 32 := Scalar.remsi v138 c2_i32_87
  let c0_i32_92 : BitVec 32 := 0#32
  let v152 : BitVec 1 := Scalar.cmpi .ne v151 c0_i32_92
  let v153 : BitVec 1 := Scalar.andi v150 v152
  let v139 : BitVec 32 := Scalar.divsi v138 c2_i32_87
  let c1_i32_93 : BitVec 32 := 1#32
  let v154 : BitVec 32 := Scalar.subi v139 c1_i32_93
  let v155 : BitVec 32 := Scalar.select v153 v154 v139
  let c2_i32_94 : BitVec 32 := 2#32
  let c0_i32_95 : BitVec 32 := 0#32
  let v156 : BitVec 1 := Scalar.cmpi .eq c2_i32_94 c0_i32_95
  let c1_i32_96 : BitVec 32 := 1#32
  let v157 : BitVec 32 := Scalar.select v156 c1_i32_96 c2_i32_94
  let v158 : BitVec 32 := Scalar.remsi v155 v157
  let c0_i32_98 : BitVec 32 := 0#32
  let v160 : BitVec 1 := Scalar.cmpi .slt v158 c0_i32_98
  let c0_i32_99 : BitVec 32 := 0#32
  let v161 : BitVec 1 := Scalar.cmpi .slt v157 c0_i32_99
  let v162 : BitVec 1 := Scalar.xori v160 v161
  let c0_i32_97 : BitVec 32 := 0#32
  let v159 : BitVec 1 := Scalar.cmpi .ne v158 c0_i32_97
  let v163 : BitVec 1 := Scalar.andi v162 v159
  let v164 : BitVec 32 := Scalar.addi v158 v157
  let v165 : BitVec 32 := Scalar.select v163 v164 v158
  let c1_i32_100 : BitVec 32 := 1#32
  let v166 : BitVec 1 := Scalar.cmpi .eq v165 c1_i32_100
  let c2_i32_102 : BitVec 32 := 2#32
  let c0_i32_103 : BitVec 32 := 0#32
  let v170 : BitVec 32 := Scalar.select v166 c2_i32_102 c0_i32_103
  let v171 : BitVec 32 := Scalar.addi v137 v170
  let c0_i32_104 : BitVec 32 := 0#32
  let v173 : BitVec 1 := Scalar.cmpi .sgt v171 c0_i32_104
  let v174 : BitVec 32 := Scalar.extui v173
  let c0_i32_105 : BitVec 32 := 0#32
  let v175 : BitVec 1 := Scalar.cmpi .slt v171 c0_i32_105
  let v176 : BitVec 32 := Scalar.extui v175
  let v177 : BitVec 32 := Scalar.subi v174 v176
  let c4_i32 : BitVec 32 := 4#32
  let c0_i32_106 : BitVec 32 := 0#32
  let v178 : BitVec 1 := Scalar.cmpi .sgt c4_i32 c0_i32_106
  let v179 : BitVec 32 := Scalar.extui v178
  let c0_i32_107 : BitVec 32 := 0#32
  let v180 : BitVec 1 := Scalar.cmpi .slt c4_i32 c0_i32_107
  let v181 : BitVec 32 := Scalar.extui v180
  let v182 : BitVec 32 := Scalar.subi v179 v181
  let v183 : BitVec 1 := Scalar.cmpi .ne v177 v182
  let v184 : BitVec 32 := Scalar.remsi v171 c4_i32
  let c0_i32_108 : BitVec 32 := 0#32
  let v185 : BitVec 1 := Scalar.cmpi .ne v184 c0_i32_108
  let v186 : BitVec 1 := Scalar.andi v183 v185
  let v172 : BitVec 32 := Scalar.divsi v171 c4_i32
  let c1_i32_109 : BitVec 32 := 1#32
  let v187 : BitVec 32 := Scalar.subi v172 c1_i32_109
  let v188 : BitVec 32 := Scalar.select v186 v187 v172
  let c8_i32 : BitVec 32 := 8#32
  let v189 : BitVec 32 := Scalar.subi c8_i32 v188
  let c1_i32_110 : BitVec 32 := 1#32
  let v191 : BitVec 32 := Scalar.divsi v189 c1_i32_110
  let v192 : BitVec 32 := Scalar.muli v191 c1_i32_110
  let v193 : BitVec 32 := Scalar.addi v188 v192
  let c1_i32_112 : BitVec 32 := 1#32
  let arg12 : BitVec 32 := Scf.iv v193 c1_i32_112 k0_t2
  let v435 : BitVec 32 := Scalar.muli c4_i32_271 arg12
  let c3_i32 : BitVec 32 := 3#32
  let v436 : BitVec 32 := Scalar.addi v435 c3_i32
  let c512_i32_292 : BitVec 32 := 512#32
  let v468 : BitVec 32 := Scalar.muli v436 c512_i32_292
  v468
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x16384x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2x128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x16384x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x32x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x32x1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x32x128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1024x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1024x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== KernelIdeal.lean ====
variable {F : FTy → Type} [FloatOps F] [Named F]
def κ : String → Option EReal := fun
  | "ln_2" => some ((Real.log 2 : ℝ) : EReal)
  | _ => none
-- ==== ReferenceIdeal.lean ====
abbrev S1x16384x8x64 : Shape := ⟨4, ![1, 16384, 8, 64]⟩
abbrev S1x16384x8x32 : Shape := ⟨4, ![1, 16384, 8, 32]⟩
abbrev S1x16384x32 : Shape := ⟨3, ![1, 16384, 32]⟩
abbrev S1x8x16384x16384 : Shape := ⟨4, ![1, 8, 16384, 16384]⟩
abbrev S1x16384x16384x8 : Shape := ⟨4, ![1, 16384, 16384, 8]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S_ : Shape := ⟨0, ![]⟩
abbrev S1x8x16384 : Shape := ⟨3, ![1, 8, 16384]⟩
abbrev S1x8x16384x1 : Shape := ⟨4, ![1, 8, 16384, 1]⟩
abbrev S1x8x64x16384 : Shape := ⟨4, ![1, 8, 64, 16384]⟩
abbrev S8x16384 : Shape := ⟨2, ![8, 16384]⟩
abbrev S1x8x16384x64 : Shape := ⟨4, ![1, 8, 16384, 64]⟩

abbrev nBuf : Space → Nat
  | .hbm => 98
  | .vmem => 0
  | .smem => 0
  | _ => 0

abbrev bufTy : (tb : Table) → Fin (tcTables nBuf tb) → BufTy
  | .hbm, ⟨0, _⟩ => ⟨S1x16384x8x64, .f32⟩
  | .hbm, ⟨1, _⟩ => ⟨S1x16384x8x32, .f32⟩
  | .hbm, ⟨2, _⟩ => ⟨S1x16384x8x64, .f32⟩
  | .hbm, ⟨3, _⟩ => ⟨S1x16384x32, .f32⟩
  | .hbm, ⟨4, _⟩ => ⟨S1x16384x8x64, .f32⟩
  | .hbm, ⟨5, _⟩ => ⟨S1x16384x8x64, .f32⟩
  | .hbm, ⟨6, _⟩ => ⟨S1x8x16384x16384, .f32⟩
  | .hbm, ⟨7, _⟩ => ⟨S1x16384x16384x8, .f32⟩
  | .hbm, ⟨8, _⟩ => ⟨S1x8x16384x16384, .f32⟩
  | .hbm, ⟨9, _⟩ => ⟨S1x8x16384x16384, .f32⟩
  | .hbm, ⟨10, _⟩ => ⟨S16384, .i32⟩
  | .hbm, ⟨11, _⟩ => ⟨S1x16384, .i32⟩
  | .hbm, ⟨12, _⟩ => ⟨S16384x1, .i32⟩
  | .hbm, ⟨13, _⟩ => ⟨S16384x16384, .i32⟩
  | .hbm, ⟨14, _⟩ => ⟨S16384x16384, .i32⟩
  | .hbm, ⟨15, _⟩ => ⟨S16384x16384, .i1⟩
  | .hbm, ⟨16, _⟩ => ⟨S_, .f32⟩
  | .hbm, ⟨17, _⟩ => ⟨S1x8x16384x16384, .f32⟩
  | .hbm, ⟨18, _⟩ => ⟨S1x8x16384x16384, .f32⟩
  | .hbm, ⟨19, _⟩ => ⟨S_, .f32⟩
  | .hbm, ⟨20, _⟩ => ⟨S_, .f32⟩
  | .hbm, ⟨21, _⟩ => ⟨S1x8x16384x16384, .i1⟩
  | .hbm, ⟨22, _⟩ => ⟨S1x8x16384x16384, .f32⟩
  | .hbm, ⟨23, _⟩ => ⟨S1x8x16384x16384, .f32⟩
  | .hbm, ⟨24, _⟩ => ⟨S_, .f32⟩
  | .hbm, ⟨25, _⟩ => ⟨S1x8x16384x16384, .f32⟩
  | .hbm, ⟨26, _⟩ => ⟨S_, .f32⟩
  | .hbm, ⟨27, _⟩ => ⟨S1x8x16384, .f32⟩
  | .hbm, ⟨28, _⟩ => ⟨S1x8x16384x1, .f32⟩
  | .hbm, ⟨29, _⟩ => ⟨S1x8x16384x16384, .f32⟩
  | .hbm, ⟨30, _⟩ => ⟨S1x8x16384x16384, .i1⟩
  | .hbm, ⟨31, _⟩ => ⟨S1x8x16384x16384, .f32⟩
  | .hbm, ⟨32, _⟩ => ⟨S_, .f32⟩
  | .hbm, ⟨33, _⟩ => ⟨S1x8x16384, .f32⟩
  | .hbm, ⟨34, _⟩ => ⟨S_, .f32⟩
  | .hbm, ⟨35, _⟩ => ⟨S1x8x16384, .f32⟩
  | .hbm, ⟨36, _⟩ => ⟨S1x8x16384, .f32⟩
  | .hbm, ⟨37, _⟩ => ⟨S_, .f32⟩
  | .hbm, ⟨38, _⟩ => ⟨S1x8x16384, .f32⟩
  | .hbm, ⟨39, _⟩ => ⟨S1x8x16384, .i1⟩
  | .hbm, ⟨40, _⟩ => ⟨S_, .f32⟩
  | .hbm, ⟨41, _⟩ => ⟨S1x8x16384, .f32⟩
  | .hbm, ⟨42, _⟩ => ⟨S1x8x16384, .i1⟩
  | .hbm, ⟨43, _⟩ => ⟨S_, .f32⟩
  | .hbm, ⟨44, _⟩ => ⟨S1x8x16384, .f32⟩
  | .hbm, ⟨45, _⟩ => ⟨S_, .f32⟩
  | .hbm, ⟨46, _⟩ => ⟨S1x8x16384, .f32⟩
  | .hbm, ⟨47, _⟩ => ⟨S_, .f32⟩
  | .hbm, ⟨48, _⟩ => ⟨S1x8x16384, .f32⟩
  | .hbm, ⟨49, _⟩ => ⟨S1x8x16384, .f32⟩
  | .hbm, ⟨50, _⟩ => ⟨S1x8x16384, .f32⟩
  | .hbm, ⟨51, _⟩ => ⟨S1x8x16384x1, .f32⟩
  | .hbm, ⟨52, _⟩ => ⟨S1x8x16384x16384, .f32⟩
  | .hbm, ⟨53, _⟩ => ⟨S1x8x16384x16384, .f32⟩
  | .hbm, ⟨54, _⟩ => ⟨S1x8x16384x16384, .f32⟩
  | .hbm, ⟨55, _⟩ => ⟨S_, .f32⟩
  | .hbm, ⟨56, _⟩ => ⟨S1x8x16384, .f32⟩
  | .hbm, ⟨57, _⟩ => ⟨S1x8x16384x1, .f32⟩
  | .hbm, ⟨58, _⟩ => ⟨S1x8x16384x16384, .f32⟩
  | .hbm, ⟨59, _⟩ => ⟨S1x8x16384x16384, .f32⟩
  | .hbm, ⟨60, _⟩ => ⟨S1x8x16384x1, .f32⟩
  | .hbm, ⟨61, _⟩ => ⟨S_, .f32⟩
  | .hbm, ⟨62, _⟩ => ⟨S1x8x16384x1, .f32⟩
  | .hbm, ⟨63, _⟩ => ⟨S1x8x16384x1, .f32⟩
  | .hbm, ⟨64, _⟩ => ⟨S1x8x64x16384, .f32⟩
  | .hbm, ⟨65, _⟩ => ⟨S1x16384x8x64, .f32⟩
  | .hbm, ⟨66, _⟩ => ⟨S1x8x64x16384, .f32⟩
  | .hbm, ⟨67, _⟩ => ⟨S1x8x16384x16384, .f32⟩
  | .hbm, ⟨68, _⟩ => ⟨S1x8x64x16384, .f32⟩
  | .hbm, ⟨69, _⟩ => ⟨S1x16384x8x64, .f32⟩
  | .hbm, ⟨70, _⟩ => ⟨S1x8x16384x16384, .f32⟩
  | .hbm, ⟨71, _⟩ => ⟨S1x8x16384x16384, .f32⟩
  | .hbm, ⟨72, _⟩ => ⟨S1x8x16384x16384, .f32⟩
  | .hbm, ⟨73, _⟩ => ⟨S_, .f32⟩
  | .hbm, ⟨74, _⟩ => ⟨S1x8x16384, .f32⟩
  | .hbm, ⟨75, _⟩ => ⟨S1x8x16384x1, .f32⟩
  | .hbm, ⟨76, _⟩ => ⟨S1x8x16384x1, .f32⟩
  | .hbm, ⟨77, _⟩ => ⟨S1x8x16384x16384, .f32⟩
  | .hbm, ⟨78, _⟩ => ⟨S1x8x16384x16384, .f32⟩
  | .hbm, ⟨79, _⟩ => ⟨S_, .f32⟩
  | .hbm, ⟨80, _⟩ => ⟨S8x16384, .f32⟩
  | .hbm, ⟨81, _⟩ => ⟨S1x8x16384, .f32⟩
  | .hbm, ⟨82, _⟩ => ⟨S1x8x16384x16384, .f32⟩
  | .hbm, ⟨83, _⟩ => ⟨S1x8x16384x16384, .f32⟩
  | .hbm, ⟨84, _⟩ => ⟨S1x8x16384x16384, .f32⟩
  | .hbm, ⟨85, _⟩ => ⟨S_, .f32⟩
  | .hbm, ⟨86, _⟩ => ⟨S1x8x16384x16384, .f32⟩
  | .hbm, ⟨87, _⟩ => ⟨S1x8x16384x16384, .f32⟩
  | .hbm, ⟨88, _⟩ => ⟨S_, .f32⟩
  | .hbm, ⟨89, _⟩ => ⟨S1x8x16384x16384, .f32⟩
  | .hbm, ⟨90, _⟩ => ⟨S1x8x16384x16384, .f32⟩
  | .hbm, ⟨91, _⟩ => ⟨S1x16384x16384x8, .f32⟩
  | .hbm, ⟨92, _⟩ => ⟨S1x16384x8x32, .f32⟩
  | .hbm, ⟨93, _⟩ => ⟨S1x16384x32, .f32⟩
  | .hbm, ⟨94, _⟩ => ⟨S1x8x16384x64, .f32⟩
  | .hbm, ⟨95, _⟩ => ⟨S1x16384x8x64, .f32⟩
  | .hbm, ⟨96, _⟩ => ⟨S1x8x16384x64, .f32⟩
  | .hbm, ⟨97, _⟩ => ⟨S1x16384x8x64, .f32⟩
  | _, _ => ⟨S1x16384x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_call0_v0 : Ref sig .tc := ⟨.hbm, 20, rfl⟩
abbrev main_v12_1 : Ref sig .tc := ⟨.hbm, 21, rfl⟩
abbrev main_call0_v2 : Ref sig .tc := ⟨.hbm, 22, rfl⟩
abbrev main_v12_0 : Ref sig .tc := ⟨.hbm, 23, rfl⟩
abbrev main_call0_cst : Ref sig .tc := ⟨.hbm, 24, rfl⟩
abbrev main_v12_2 : Ref sig .tc := ⟨.hbm, 25, rfl⟩
abbrev main_cst_1 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_2 : Ref sig .tc := ⟨.hbm, 32, rfl⟩
abbrev main_v18 : Ref sig .tc := ⟨.hbm, 33, rfl⟩
abbrev main_cst_3 : Ref sig .tc := ⟨.hbm, 34, rfl⟩
abbrev main_v19 : Ref sig .tc := ⟨.hbm, 35, rfl⟩
abbrev main_v20 : Ref sig .tc := ⟨.hbm, 36, rfl⟩
abbrev main_cst_4 : Ref sig .tc := ⟨.hbm, 37, rfl⟩
abbrev main_v21 : Ref sig .tc := ⟨.hbm, 38, rfl⟩
abbrev main_v22 : Ref sig .tc := ⟨.hbm, 39, rfl⟩
abbrev main_cst_5 : Ref sig .tc := ⟨.hbm, 40, rfl⟩
abbrev main_v23 : Ref sig .tc := ⟨.hbm, 41, rfl⟩
abbrev main_v24 : Ref sig .tc := ⟨.hbm, 42, rfl⟩
abbrev main_cst_6 : Ref sig .tc := ⟨.hbm, 43, rfl⟩
abbrev main_v25 : Ref sig .tc := ⟨.hbm, 44, rfl⟩
abbrev main_cst_7 : Ref sig .tc := ⟨.hbm, 45, rfl⟩
abbrev main_v26 : Ref sig .tc := ⟨.hbm, 46, rfl⟩
abbrev main_cst_8 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_9 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_10 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_11 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_12 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_call1_cst : Ref sig .tc := ⟨.hbm, 85, rfl⟩
abbrev main_call1_v0 : Ref sig .tc := ⟨.hbm, 86, rfl⟩
abbrev main_v60 : Ref sig .tc := ⟨.hbm, 87, rfl⟩
abbrev main_cst_13 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩

abbrev nD : Nat := 1
abbrev τ : Topo := Topo.v7x

variable {F : FTy → Type} [FloatOps F]
-- ==== Forward.lean ====
abbrev S1x16384x8x64 : Shape := ⟨4, ![1, 16384, 8, 64]⟩
abbrev S1x16384x8x32 : Shape := ⟨4, ![1, 16384, 8, 32]⟩
abbrev S1x16384x32 : Shape := ⟨3, ![1, 16384, 32]⟩
abbrev S_ : Shape := ⟨0, ![]⟩
abbrev S1x16384x8x128 : Shape := ⟨4, ![1, 16384, 8, 128]⟩
abbrev S16384x8x128 : Shape := ⟨3, ![16384, 8, 128]⟩
abbrev S8x16384x128 : Shape := ⟨3, ![8, 16384, 128]⟩
abbrev S1x16384x1x32 : Shape := ⟨4, ![1, 16384, 1, 32]⟩
abbrev S1x16384x8x1 : Shape := ⟨4, ![1, 16384, 8, 1]⟩
abbrev S1x16384x8x63 : Shape := ⟨4, ![1, 16384, 8, 63]⟩
abbrev S8x32x1x512 : Shape := ⟨4, ![8, 32, 1, 512]⟩
abbrev S1x2048x128 : Shape := ⟨3, ![1, 2048, 128]⟩
abbrev S1x16384x128 : Shape := ⟨3, ![1, 16384, 128]⟩
abbrev S1x4x1x512 : Shape := ⟨4, ![1, 4, 1, 512]⟩
abbrev S1x512x128 : Shape := ⟨3, ![1, 512, 128]⟩
abbrev S512x128 : Shape := ⟨2, ![512, 128]⟩
abbrev S512x1 : Shape := ⟨2, ![512, 1]⟩
abbrev S512x512 : Shape := ⟨2, ![512, 512]⟩
abbrev S512 : Shape := ⟨1, ![512]⟩
abbrev S128x512 : Shape := ⟨2, ![128, 512]⟩
abbrev S1x512 : Shape := ⟨2, ![1, 512]⟩
abbrev S1x1x1x512 : Shape := ⟨4, ![1, 1, 1, 512]⟩
abbrev S1x8x16384 : Shape := ⟨3, ![1, 8, 16384]⟩

abbrev nBuf : Space → Nat
  | .hbm => 40
  | .vmem => 10
  | .smem => 0
  | _ => 0

abbrev bufTy : (tb : Table) → Fin (tcTables nBuf tb) → BufTy
  | .hbm, ⟨0, _⟩ => ⟨S1x16384x8x64, .f32⟩
  | .hbm, ⟨1, _⟩ => ⟨S1x16384x8x32, .f32⟩
  | .hbm, ⟨2, _⟩ => ⟨S1x16384x8x64, .f32⟩
  | .hbm, ⟨3, _⟩ => ⟨S1x16384x32, .f32⟩
  | .hbm, ⟨4, _⟩ => ⟨S1x16384x8x64, .f32⟩
  | .hbm, ⟨5, _⟩ => ⟨S_, .f32⟩
  | .hbm, ⟨6, _⟩ => ⟨S1x16384x8x32, .f32⟩
  | .hbm, ⟨7, _⟩ => ⟨S1x16384x8x128, .f32⟩
  | .hbm, ⟨8, _⟩ => ⟨S16384x8x128, .f32⟩
  | .hbm, ⟨9, _⟩ => ⟨S8x16384x128, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S8x16384x128, .f32⟩
  | .hbm, ⟨15, _⟩ => ⟨S8x16384x128, .f32⟩
  | .hbm, ⟨16, _⟩ => ⟨S8x16384x128, .bf16⟩
  | .hbm, ⟨17, _⟩ => ⟨S1x16384x1x32, .f32⟩
  | .hbm, ⟨18, _⟩ => ⟨S1x16384x8x32, .f32⟩
  | .hbm, ⟨19, _⟩ => ⟨S_, .f32⟩
  | .hbm, ⟨20, _⟩ => ⟨S1x16384x8x32, .f32⟩
  | .hbm, ⟨21, _⟩ => ⟨S1x16384x8x128, .f32⟩
  | .hbm, ⟨22, _⟩ => ⟨S16384x8x128, .f32⟩
  | .hbm, ⟨23, _⟩ => ⟨S8x16384x128, .f32⟩
  | .hbm, ⟨24, _⟩ => ⟨S8x16384x128, .bf16⟩
  | .hbm, ⟨25, _⟩ => ⟨S_, .f32⟩
  | .hbm, ⟨26, _⟩ => ⟨S1x16384x8x1, .f32⟩
  | .hbm, ⟨27, _⟩ => ⟨S_, .f32⟩
  | .hbm, ⟨28, _⟩ => ⟨S1x16384x8x63, .f32⟩
  | .hbm, ⟨29, _⟩ => ⟨S1x16384x8x128, .f32⟩
  | .hbm, ⟨30, _⟩ => ⟨S16384x8x128, .f32⟩
  | .hbm, ⟨31, _⟩ => ⟨S8x16384x128, .f32⟩
  | .hbm, ⟨32, _⟩ => ⟨S8x16384x128, .bf16⟩
  | .hbm, ⟨33, _⟩ => ⟨S8x16384x128, .bf16⟩
  | .hbm, ⟨34, _⟩ => ⟨S8x32x1x512, .f32⟩
  | .hbm, ⟨35, _⟩ => ⟨S16384x8x128, .bf16⟩
  | .hbm, ⟨36, _⟩ => ⟨S1x16384x8x128, .bf16⟩
  | .hbm, ⟨37, _⟩ => ⟨S1x16384x8x128, .f32⟩
  | .hbm, ⟨38, _⟩ => ⟨S1x16384x8x64, .f32⟩
  | .hbm, ⟨39, _⟩ => ⟨S1x8x16384, .f32⟩
  | .local _ .vmem, ⟨0, _⟩ => ⟨S1x2048x128, .bf16⟩
  | .local _ .vmem, ⟨1, _⟩ => ⟨S1x2048x128, .bf16⟩
  | .local _ .vmem, ⟨2, _⟩ => ⟨S1x16384x128, .bf16⟩
  | .local _ .vmem, ⟨3, _⟩ => ⟨S1x16384x128, .bf16⟩
  | .local _ .vmem, ⟨4, _⟩ => ⟨S1x16384x128, .bf16⟩
  | .local _ .vmem, ⟨5, _⟩ => ⟨S1x16384x128, .bf16⟩
  | .local _ .vmem, ⟨6, _⟩ => ⟨S1x2048x128, .bf16⟩
  | .local _ .vmem, ⟨7, _⟩ => ⟨S1x2048x128, .bf16⟩
  | .local _ .vmem, ⟨8, _⟩ => ⟨S1x4x1x512, .f32⟩
  | .local _ .vmem, ⟨9, _⟩ => ⟨S1x4x1x512, .f32⟩
  | _, _ => ⟨S1x16384x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22_0 : Ref sig .tc := ⟨.hbm, 33, rfl⟩
abbrev main_v22_1 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

@[reducible] def k0_t1_loop (i : grid0.Coords) : Scf.Loop 32 :=
  let c0_i32 : BitVec 32 := 0#32
  let arg1 : BitVec 32 := BitVec.ofNat 32 (i 1).val
  let v16 : BitVec 32 := Scalar.subi arg1 c0_i32
  let c1_i32 : BitVec 32 := 1#32
  let v18 : BitVec 32 := Scalar.divsi v16 c1_i32
  let v19 : BitVec 32 := Scalar.muli v18 c1_i32
  let v20 : BitVec 32 := Scalar.addi c0_i32 v19
  let c1_i32_15 : BitVec 32 := 1#32
  ⟨c0_i32, v20, c1_i32_15⟩
def k0_mult1 (i : grid0.Coords) (k0_t1 : Fin (k0_t1_loop i).trips) : BitVec 32 :=
  let c4_i32_146 : BitVec 32 := 4#32
  let c0_i32 : BitVec 32 := 0#32
  let c1_i32_15 : BitVec 32 := 1#32
  let arg7 : BitVec 32 := Scf.iv c0_i32 c1_i32_15 k0_t1
  let v359 : BitVec 32 := Scalar.muli c4_i32_146 arg7
  let c0_i32_147 : BitVec 32 := 0#32
  let v360 : BitVec 32 := Scalar.addi v359 c0_i32_147
  let c512_i32_148 : BitVec 32 := 512#32
  let v361 : BitVec 32 := Scalar.muli v360 c512_i32_148
  v361
def k0_off1 (i : grid0.Coords) (k0_t1 : Fin (k0_t1_loop i).trips) (c0_i32_147 : BitVec 32) : Fin 3 → Nat :=
  let c0_149 : Index := 0#32
  let c4_i32_146 : BitVec 32 := 4#32
  let c0_i32 : BitVec 32 := 0#32
  let c1_i32_15 : BitVec 32 := 1#32
  let arg7 : BitVec 32 := Scf.iv c0_i32 c1_i32_15 k0_t1
  let v359 : BitVec 32 := Scalar.muli c4_i32_146 arg7
  let v360 : BitVec 32 := Scalar.addi v359 c0_i32_147
  let c512_i32_148 : BitVec 32 := 512#32
  let v361 : BitVec 32 := Scalar.muli v360 c512_i32_148
  let v362 : BitVec 32 := v361
  let v363 : Index := Scalar.indexCast v362
  let c0_150 : Index := 0#32
  ![0, v363.toNat, 0]
def k0_mult2 (i : grid0.Coords) (k0_t1 : Fin (k0_t1_loop i).trips) : BitVec 32 :=
  let c4_i32_156 : BitVec 32 := 4#32
  let c0_i32 : BitVec 32 := 0#32
  let c1_i32_15 : BitVec 32 := 1#32
  let arg7 : BitVec 32 := Scf.iv c0_i32 c1_i32_15 k0_t1
  let v383 : BitVec 32 := Scalar.muli c4_i32_156 arg7
  let c0_i32_157 : BitVec 32 := 0#32
  let v384 : BitVec 32 := Scalar.addi v383 c0_i32_157
  let c512_i32_158 : BitVec 32 := 512#32
  let v385 : BitVec 32 := Scalar.muli v384 c512_i32_158
  v385
def k0_mult3 (i : grid0.Coords) (k0_t1 : Fin (k0_t1_loop i).trips) : BitVec 32 :=
  let c4_i32_166 : BitVec 32 := 4#32
  let c0_i32 : BitVec 32 := 0#32
  let c1_i32_15 : BitVec 32 := 1#32
  let arg7 : BitVec 32 := Scf.iv c0_i32 c1_i32_15 k0_t1
  let v407 : BitVec 32 := Scalar.muli c4_i32_166 arg7
  let c0_i32_167 : BitVec 32 := 0#32
  let v408 : BitVec 32 := Scalar.addi v407 c0_i32_167
  let c512_i32_168 : BitVec 32 := 512#32
  let v409 : BitVec 32 := Scalar.muli v408 c512_i32_168
  v409
def k0_mult4 (i : grid0.Coords) (k0_t1 : Fin (k0_t1_loop i).trips) : BitVec 32 :=
  let c4_i32_176 : BitVec 32 := 4#32
  let c0_i32 : BitVec 32 := 0#32
  let c1_i32_15 : BitVec 32 := 1#32
  let arg7 : BitVec 32 := Scf.iv c0_i32 c1_i32_15 k0_t1
  let v431 : BitVec 32 := Scalar.muli c4_i32_176 arg7
  let c0_i32_177 : BitVec 32 := 0#32
  let v432 : BitVec 32 := Scalar.addi v431 c0_i32_177
  let c512_i32_178 : BitVec 32 := 512#32
  let v433 : BitVec 32 := Scalar.muli v432 c512_i32_178
  v433
def k0_mult5 (i : grid0.Coords) (k0_t1 : Fin (k0_t1_loop i).trips) : BitVec 32 :=
  let c4_i32_186 : BitVec 32 := 4#32
  let c0_i32 : BitVec 32 := 0#32
  let c1_i32_15 : BitVec 32 := 1#32
  let arg7 : BitVec 32 := Scf.iv c0_i32 c1_i32_15 k0_t1
  let v455 : BitVec 32 := Scalar.muli c4_i32_186 arg7
  let c1_i32_187 : BitVec 32 := 1#32
  let v456 : BitVec 32 := Scalar.addi v455 c1_i32_187
  let c512_i32_188 : BitVec 32 := 512#32
  let v457 : BitVec 32 := Scalar.muli v456 c512_i32_188
  v457
def k0_mult6 (i : grid0.Coords) (k0_t1 : Fin (k0_t1_loop i).trips) : BitVec 32 :=
  let c4_i32_196 : BitVec 32 := 4#32
  let c0_i32 : BitVec 32 := 0#32
  let c1_i32_15 : BitVec 32 := 1#32
  let arg7 : BitVec 32 := Scf.iv c0_i32 c1_i32_15 k0_t1
  let v479 : BitVec 32 := Scalar.muli c4_i32_196 arg7
  let c1_i32_197 : BitVec 32 := 1#32
  let v480 : BitVec 32 := Scalar.addi v479 c1_i32_197
  let c512_i32_198 : BitVec 32 := 512#32
  let v481 : BitVec 32 := Scalar.muli v480 c512_i32_198
  v481
def k0_mult7 (i : grid0.Coords) (k0_t1 : Fin (k0_t1_loop i).trips) : BitVec 32 :=
  let c4_i32_206 : BitVec 32 := 4#32
  let c0_i32 : BitVec 32 := 0#32
  let c1_i32_15 : BitVec 32 := 1#32
  let arg7 : BitVec 32 := Scf.iv c0_i32 c1_i32_15 k0_t1
  let v503 : BitVec 32 := Scalar.muli c4_i32_206 arg7
  let c1_i32_207 : BitVec 32 := 1#32
  let v504 : BitVec 32 := Scalar.addi v503 c1_i32_207
  let c512_i32_208 : BitVec 32 := 512#32
  let v505 : BitVec 32 := Scalar.muli v504 c512_i32_208
  v505
def k0_mult8 (i : grid0.Coords) (k0_t1 : Fin (k0_t1_loop i).trips) : BitVec 32 :=
  let c4_i32_216 : BitVec 32 := 4#32
  let c0_i32 : BitVec 32 := 0#32
  let c1_i32_15 : BitVec 32 := 1#32
  let arg7 : BitVec 32 := Scf.iv c0_i32 c1_i32_15 k0_t1
  let v527 : BitVec 32 := Scalar.muli c4_i32_216 arg7
  let c1_i32_217 : BitVec 32 := 1#32
  let v528 : BitVec 32 := Scalar.addi v527 c1_i32_217
  let c512_i32_218 : BitVec 32 := 512#32
  let v529 : BitVec 32 := Scalar.muli v528 c512_i32_218
  v529
def k0_mult9 (i : grid0.Coords) (k0_t1 : Fin (k0_t1_loop i).trips) : BitVec 32 :=
  let c4_i32_226 : BitVec 32 := 4#32
  let c0_i32 : BitVec 32 := 0#32
  let c1_i32_15 : BitVec 32 := 1#32
  let arg7 : BitVec 32 := Scf.iv c0_i32 c1_i32_15 k0_t1
  let v551 : BitVec 32 := Scalar.muli c4_i32_226 arg7
  let c2_i32_227 : BitVec 32 := 2#32
  let v552 : BitVec 32 := Scalar.addi v551 c2_i32_227
  let c512_i32_228 : BitVec 32 := 512#32
  let v553 : BitVec 32 := Scalar.muli v552 c512_i32_228
  v553
def k0_mult10 (i : grid0.Coords) (k0_t1 : Fin (k0_t1_loop i).trips) : BitVec 32 :=
  let c4_i32_236 : BitVec 32 := 4#32
  let c0_i32 : BitVec 32 := 0#32
  let c1_i32_15 : BitVec 32 := 1#32
  let arg7 : BitVec 32 := Scf.iv c0_i32 c1_i32_15 k0_t1
  let v575 : BitVec 32 := Scalar.muli c4_i32_236 arg7
  let c2_i32_237 : BitVec 32 := 2#32
  let v576 : BitVec 32 := Scalar.addi v575 c2_i32_237
  let c512_i32_238 : BitVec 32 := 512#32
  let v577 : BitVec 32 := Scalar.muli v576 c512_i32_238
  v577
def k0_mult11 (i : grid0.Coords) (k0_t1 : Fin (k0_t1_loop i).trips) : BitVec 32 :=
  let c4_i32_246 : BitVec 32 := 4#32
  let c0_i32 : BitVec 32 := 0#32
  let c1_i32_15 : BitVec 32 := 1#32
  let arg7 : BitVec 32 := Scf.iv c0_i32 c1_i32_15 k0_t1
  let v599 : BitVec 32 := Scalar.muli c4_i32_246 arg7
  let c2_i32_247 : BitVec 32 := 2#32
  let v600 : BitVec 32 := Scalar.addi v599 c2_i32_247
  let c512_i32_248 : BitVec 32 := 512#32
  let v601 : BitVec 32 := Scalar.muli v600 c512_i32_248
  v601
def k0_mult12 (i : grid0.Coords) (k0_t1 : Fin (k0_t1_loop i).trips) : BitVec 32 :=
  let c4_i32_256 : BitVec 32 := 4#32
  let c0_i32 : BitVec 32 := 0#32
  let c1_i32_15 : BitVec 32 := 1#32
  let arg7 : BitVec 32 := Scf.iv c0_i32 c1_i32_15 k0_t1
  let v623 : BitVec 32 := Scalar.muli c4_i32_256 arg7
  let c2_i32_257 : BitVec 32 := 2#32
  let v624 : BitVec 32 := Scalar.addi v623 c2_i32_257
  let c512_i32_258 : BitVec 32 := 512#32
  let v625 : BitVec 32 := Scalar.muli v624 c512_i32_258
  v625
def k0_mult13 (i : grid0.Coords) (k0_t1 : Fin (k0_t1_loop i).trips) : BitVec 32 :=
  let c4_i32_266 : BitVec 32 := 4#32
  let c0_i32 : BitVec 32 := 0#32
  let c1_i32_15 : BitVec 32 := 1#32
  let arg7 : BitVec 32 := Scf.iv c0_i32 c1_i32_15 k0_t1
  let v647 : BitVec 32 := Scalar.muli c4_i32_266 arg7
  let c3_i32_267 : BitVec 32 := 3#32
  let v648 : BitVec 32 := Scalar.addi v647 c3_i32_267
  let c512_i32_268 : BitVec 32 := 512#32
  let v649 : BitVec 32 := Scalar.muli v648 c512_i32_268
  v649
def k0_mult14 (i : grid0.Coords) (k0_t1 : Fin (k0_t1_loop i).trips) : BitVec 32 :=
  let c4_i32_276 : BitVec 32 := 4#32
  let c0_i32 : BitVec 32 := 0#32
  let c1_i32_15 : BitVec 32 := 1#32
  let arg7 : BitVec 32 := Scf.iv c0_i32 c1_i32_15 k0_t1
  let v671 : BitVec 32 := Scalar.muli c4_i32_276 arg7
  let c3_i32_277 : BitVec 32 := 3#32
  let v672 : BitVec 32 := Scalar.addi v671 c3_i32_277
  let c512_i32_278 : BitVec 32 := 512#32
  let v673 : BitVec 32 := Scalar.muli v672 c512_i32_278
  v673
def k0_mult15 (i : grid0.Coords) (k0_t1 : Fin (k0_t1_loop i).trips) : BitVec 32 :=
  let c4_i32_286 : BitVec 32 := 4#32
  let c0_i32 : BitVec 32 := 0#32
  let c1_i32_15 : BitVec 32 := 1#32
  let arg7 : BitVec 32 := Scf.iv c0_i32 c1_i32_15 k0_t1
  let v695 : BitVec 32 := Scalar.muli c4_i32_286 arg7
  let c3_i32_287 : BitVec 32 := 3#32
  let v696 : BitVec 32 := Scalar.addi v695 c3_i32_287
  let c512_i32_288 : BitVec 32 := 512#32
  let v697 : BitVec 32 := Scalar.muli v696 c512_i32_288
  v697
def k0_mult16 (i : grid0.Coords) (k0_t1 : Fin (k0_t1_loop i).trips) : BitVec 32 :=
  let c4_i32_296 : BitVec 32 := 4#32
  let c0_i32 : BitVec 32 := 0#32
  let c1_i32_15 : BitVec 32 := 1#32
  let arg7 : BitVec 32 := Scf.iv c0_i32 c1_i32_15 k0_t1
  let v719 : BitVec 32 := Scalar.muli c4_i32_296 arg7
  let c3_i32_297 : BitVec 32 := 3#32
  let v720 : BitVec 32 := Scalar.addi v719 c3_i32_297
  let c512_i32_298 : BitVec 32 := 512#32
  let v721 : BitVec 32 := Scalar.muli v720 c512_i32_298
  v721
@[reducible] def k0_t2_loop (i : grid0.Coords) : Scf.Loop 32 :=
  let c0_i32 : BitVec 32 := 0#32
  let arg1 : BitVec 32 := BitVec.ofNat 32 (i 1).val
  let v16 : BitVec 32 := Scalar.subi arg1 c0_i32
  let c1_i32 : BitVec 32 := 1#32
  let v18 : BitVec 32 := Scalar.divsi v16 c1_i32
  let v19 : BitVec 32 := Scalar.muli v18 c1_i32
  let v20 : BitVec 32 := Scalar.addi c0_i32 v19
  let v17 : BitVec 32 := Scalar.addi c0_i32 v16
  let c1_i32_16 : BitVec 32 := 1#32
  ⟨v20, v17, c1_i32_16⟩
def k0_mult17 (i : grid0.Coords) (k0_t2 : Fin (k0_t2_loop i).trips) : BitVec 32 :=
  let c4_i32_146 : BitVec 32 := 4#32
  let c0_i32 : BitVec 32 := 0#32
  let arg1 : BitVec 32 := BitVec.ofNat 32 (i 1).val
  let v16 : BitVec 32 := Scalar.subi arg1 c0_i32
  let c1_i32 : BitVec 32 := 1#32
  let v18 : BitVec 32 := Scalar.divsi v16 c1_i32
  let v19 : BitVec 32 := Scalar.muli v18 c1_i32
  let v20 : BitVec 32 := Scalar.addi c0_i32 v19
  let c1_i32_16 : BitVec 32 := 1#32
  let arg7 : BitVec 32 := Scf.iv v20 c1_i32_16 k0_t2
  let v359 : BitVec 32 := Scalar.muli c4_i32_146 arg7
  let c0_i32_147 : BitVec 32 := 0#32
  let v360 : BitVec 32 := Scalar.addi v359 c0_i32_147
  let c512_i32_148 : BitVec 32 := 512#32
  let v361 : BitVec 32 := Scalar.muli v360 c512_i32_148
  v361
def k0_off2 (i : grid0.Coords) (k0_t2 : Fin (k0_t2_loop i).trips) (c0_i32_147 : BitVec 32) : Fin 3 → Nat :=
  let c0_149 : Index := 0#32
  let c4_i32_146 : BitVec 32 := 4#32
  let c0_i32 : BitVec 32 := 0#32
  let arg1 : BitVec 32 := BitVec.ofNat 32 (i 1).val
  let v16 : BitVec 32 := Scalar.subi arg1 c0_i32
  let c1_i32 : BitVec 32 := 1#32
  let v18 : BitVec 32 := Scalar.divsi v16 c1_i32
  let v19 : BitVec 32 := Scalar.muli v18 c1_i32
  let v20 : BitVec 32 := Scalar.addi c0_i32 v19
  let c1_i32_16 : BitVec 32 := 1#32
  let arg7 : BitVec 32 := Scf.iv v20 c1_i32_16 k0_t2
  let v359 : BitVec 32 := Scalar.muli c4_i32_146 arg7
  let v360 : BitVec 32 := Scalar.addi v359 c0_i32_147
  let c512_i32_148 : BitVec 32 := 512#32
  let v361 : BitVec 32 := Scalar.muli v360 c512_i32_148
  let v362 : BitVec 32 := v361
  let v363 : Index := Scalar.indexCast v362
  let c0_150 : Index := 0#32
  ![0, v363.toNat, 0]
def k0_mult18 (i : grid0.Coords) (k0_t2 : Fin (k0_t2_loop i).trips) : BitVec 32 :=
  let c4_i32_156 : BitVec 32 := 4#32
  let c0_i32 : BitVec 32 := 0#32
  let arg1 : BitVec 32 := BitVec.ofNat 32 (i 1).val
  let v16 : BitVec 32 := Scalar.subi arg1 c0_i32
  let c1_i32 : BitVec 32 := 1#32
  let v18 : BitVec 32 := Scalar.divsi v16 c1_i32
  let v19 : BitVec 32 := Scalar.muli v18 c1_i32
  let v20 : BitVec 32 := Scalar.addi c0_i32 v19
  let c1_i32_16 : BitVec 32 := 1#32
  let arg7 : BitVec 32 := Scf.iv v20 c1_i32_16 k0_t2
  let v383 : BitVec 32 := Scalar.muli c4_i32_156 arg7
  let c0_i32_157 : BitVec 32 := 0#32
  let v384 : BitVec 32 := Scalar.addi v383 c0_i32_157
  let c512_i32_158 : BitVec 32 := 512#32
  let v385 : BitVec 32 := Scalar.muli v384 c512_i32_158
  v385
def k0_mult19 (i : grid0.Coords) (k0_t2 : Fin (k0_t2_loop i).trips) : BitVec 32 :=
  let c4_i32_166 : BitVec 32 := 4#32
  let c0_i32 : BitVec 32 := 0#32
  let arg1 : BitVec 32 := BitVec.ofNat 32 (i 1).val
  let v16 : BitVec 32 := Scalar.subi arg1 c0_i32
  let c1_i32 : BitVec 32 := 1#32
  let v18 : BitVec 32 := Scalar.divsi v16 c1_i32
  let v19 : BitVec 32 := Scalar.muli v18 c1_i32
  let v20 : BitVec 32 := Scalar.addi c0_i32 v19
  let c1_i32_16 : BitVec 32 := 1#32
  let arg7 : BitVec 32 := Scf.iv v20 c1_i32_16 k0_t2
  let v407 : BitVec 32 := Scalar.muli c4_i32_166 arg7
  let c0_i32_167 : BitVec 32 := 0#32
  let v408 : BitVec 32 := Scalar.addi v407 c0_i32_167
  let c512_i32_168 : BitVec 32 := 512#32
  let v409 : BitVec 32 := Scalar.muli v408 c512_i32_168
  v409
def k0_mult20 (i : grid0.Coords) (k0_t2 : Fin (k0_t2_loop i).trips) : BitVec 32 :=
  let c4_i32_176 : BitVec 32 := 4#32
  let c0_i32 : BitVec 32 := 0#32
  let arg1 : BitVec 32 := BitVec.ofNat 32 (i 1).val
  let v16 : BitVec 32 := Scalar.subi arg1 c0_i32
  let c1_i32 : BitVec 32 := 1#32
  let v18 : BitVec 32 := Scalar.divsi v16 c1_i32
  let v19 : BitVec 32 := Scalar.muli v18 c1_i32
  let v20 : BitVec 32 := Scalar.addi c0_i32 v19
  let c1_i32_16 : BitVec 32 := 1#32
  let arg7 : BitVec 32 := Scf.iv v20 c1_i32_16 k0_t2
  let v431 : BitVec 32 := Scalar.muli c4_i32_176 arg7
  let c0_i32_177 : BitVec 32 := 0#32
  let v432 : BitVec 32 := Scalar.addi v431 c0_i32_177
  let c512_i32_178 : BitVec 32 := 512#32
  let v433 : BitVec 32 := Scalar.muli v432 c512_i32_178
  v433
def k0_mult21 (i : grid0.Coords) (k0_t2 : Fin (k0_t2_loop i).trips) : BitVec 32 :=
  let c4_i32_186 : BitVec 32 := 4#32
  let c0_i32 : BitVec 32 := 0#32
  let arg1 : BitVec 32 := BitVec.ofNat 32 (i 1).val
  let v16 : BitVec 32 := Scalar.subi arg1 c0_i32
  let c1_i32 : BitVec 32 := 1#32
  let v18 : BitVec 32 := Scalar.divsi v16 c1_i32
  let v19 : BitVec 32 := Scalar.muli v18 c1_i32
  let v20 : BitVec 32 := Scalar.addi c0_i32 v19
  let c1_i32_16 : BitVec 32 := 1#32
  let arg7 : BitVec 32 := Scf.iv v20 c1_i32_16 k0_t2
  let v455 : BitVec 32 := Scalar.muli c4_i32_186 arg7
  let c1_i32_187 : BitVec 32 := 1#32
  let v456 : BitVec 32 := Scalar.addi v455 c1_i32_187
  let c512_i32_188 : BitVec 32 := 512#32
  let v457 : BitVec 32 := Scalar.muli v456 c512_i32_188
  v457
def k0_mult22 (i : grid0.Coords) (k0_t2 : Fin (k0_t2_loop i).trips) : BitVec 32 :=
  let c4_i32_196 : BitVec 32 := 4#32
  let c0_i32 : BitVec 32 := 0#32
  let arg1 : BitVec 32 := BitVec.ofNat 32 (i 1).val
  let v16 : BitVec 32 := Scalar.subi arg1 c0_i32
  let c1_i32 : BitVec 32 := 1#32
  let v18 : BitVec 32 := Scalar.divsi v16 c1_i32
  let v19 : BitVec 32 := Scalar.muli v18 c1_i32
  let v20 : BitVec 32 := Scalar.addi c0_i32 v19
  let c1_i32_16 : BitVec 32 := 1#32
  let arg7 : BitVec 32 := Scf.iv v20 c1_i32_16 k0_t2
  let v479 : BitVec 32 := Scalar.muli c4_i32_196 arg7
  let c1_i32_197 : BitVec 32 := 1#32
  let v480 : BitVec 32 := Scalar.addi v479 c1_i32_197
  let c512_i32_198 : BitVec 32 := 512#32
  let v481 : BitVec 32 := Scalar.muli v480 c512_i32_198
  v481
def k0_mult23 (i : grid0.Coords) (k0_t2 : Fin (k0_t2_loop i).trips) : BitVec 32 :=
  let c4_i32_206 : BitVec 32 := 4#32
  let c0_i32 : BitVec 32 := 0#32
  let arg1 : BitVec 32 := BitVec.ofNat 32 (i 1).val
  let v16 : BitVec 32 := Scalar.subi arg1 c0_i32
  let c1_i32 : BitVec 32 := 1#32
  let v18 : BitVec 32 := Scalar.divsi v16 c1_i32
  let v19 : BitVec 32 := Scalar.muli v18 c1_i32
  let v20 : BitVec 32 := Scalar.addi c0_i32 v19
  let c1_i32_16 : BitVec 32 := 1#32
  let arg7 : BitVec 32 := Scf.iv v20 c1_i32_16 k0_t2
  let v503 : BitVec 32 := Scalar.muli c4_i32_206 arg7
  let c1_i32_207 : BitVec 32 := 1#32
  let v504 : BitVec 32 := Scalar.addi v503 c1_i32_207
  let c512_i32_208 : BitVec 32 := 512#32
  let v505 : BitVec 32 := Scalar.muli v504 c512_i32_208
  v505
def k0_mult24 (i : grid0.Coords) (k0_t2 : Fin (k0_t2_loop i).trips) : BitVec 32 :=
  let c4_i32_216 : BitVec 32 := 4#32
  let c0_i32 : BitVec 32 := 0#32
  let arg1 : BitVec 32 := BitVec.ofNat 32 (i 1).val
  let v16 : BitVec 32 := Scalar.subi arg1 c0_i32
  let c1_i32 : BitVec 32 := 1#32
  let v18 : BitVec 32 := Scalar.divsi v16 c1_i32
  let v19 : BitVec 32 := Scalar.muli v18 c1_i32
  let v20 : BitVec 32 := Scalar.addi c0_i32 v19
  let c1_i32_16 : BitVec 32 := 1#32
  let arg7 : BitVec 32 := Scf.iv v20 c1_i32_16 k0_t2
  let v527 : BitVec 32 := Scalar.muli c4_i32_216 arg7
  let c1_i32_217 : BitVec 32 := 1#32
  let v528 : BitVec 32 := Scalar.addi v527 c1_i32_217
  let c512_i32_218 : BitVec 32 := 512#32
  let v529 : BitVec 32 := Scalar.muli v528 c512_i32_218
  v529
def k0_mult25 (i : grid0.Coords) (k0_t2 : Fin (k0_t2_loop i).trips) : BitVec 32 :=
  let c4_i32_226 : BitVec 32 := 4#32
  let c0_i32 : BitVec 32 := 0#32
  let arg1 : BitVec 32 := BitVec.ofNat 32 (i 1).val
  let v16 : BitVec 32 := Scalar.subi arg1 c0_i32
  let c1_i32 : BitVec 32 := 1#32
  let v18 : BitVec 32 := Scalar.divsi v16 c1_i32
  let v19 : BitVec 32 := Scalar.muli v18 c1_i32
  let v20 : BitVec 32 := Scalar.addi c0_i32 v19
  let c1_i32_16 : BitVec 32 := 1#32
  let arg7 : BitVec 32 := Scf.iv v20 c1_i32_16 k0_t2
  let v551 : BitVec 32 := Scalar.muli c4_i32_226 arg7
  let c2_i32_227 : BitVec 32 := 2#32
  let v552 : BitVec 32 := Scalar.addi v551 c2_i32_227
  let c512_i32_228 : BitVec 32 := 512#32
  let v553 : BitVec 32 := Scalar.muli v552 c512_i32_228
  v553
def k0_mult26 (i : grid0.Coords) (k0_t2 : Fin (k0_t2_loop i).trips) : BitVec 32 :=
  let c4_i32_236 : BitVec 32 := 4#32
  let c0_i32 : BitVec 32 := 0#32
  let arg1 : BitVec 32 := BitVec.ofNat 32 (i 1).val
  let v16 : BitVec 32 := Scalar.subi arg1 c0_i32
  let c1_i32 : BitVec 32 := 1#32
  let v18 : BitVec 32 := Scalar.divsi v16 c1_i32
  let v19 : BitVec 32 := Scalar.muli v18 c1_i32
  let v20 : BitVec 32 := Scalar.addi c0_i32 v19
  let c1_i32_16 : BitVec 32 := 1#32
  let arg7 : BitVec 32 := Scf.iv v20 c1_i32_16 k0_t2
  let v575 : BitVec 32 := Scalar.muli c4_i32_236 arg7
  let c2_i32_237 : BitVec 32 := 2#32
  let v576 : BitVec 32 := Scalar.addi v575 c2_i32_237
  let c512_i32_238 : BitVec 32 := 512#32
  let v577 : BitVec 32 := Scalar.muli v576 c512_i32_238
  v577
def k0_mult27 (i : grid0.Coords) (k0_t2 : Fin (k0_t2_loop i).trips) : BitVec 32 :=
  let c4_i32_246 : BitVec 32 := 4#32
  let c0_i32 : BitVec 32 := 0#32
  let arg1 : BitVec 32 := BitVec.ofNat 32 (i 1).val
  let v16 : BitVec 32 := Scalar.subi arg1 c0_i32
  let c1_i32 : BitVec 32 := 1#32
  let v18 : BitVec 32 := Scalar.divsi v16 c1_i32
  let v19 : BitVec 32 := Scalar.muli v18 c1_i32
  let v20 : BitVec 32 := Scalar.addi c0_i32 v19
  let c1_i32_16 : BitVec 32 := 1#32
  let arg7 : BitVec 32 := Scf.iv v20 c1_i32_16 k0_t2
  let v599 : BitVec 32 := Scalar.muli c4_i32_246 arg7
  let c2_i32_247 : BitVec 32 := 2#32
  let v600 : BitVec 32 := Scalar.addi v599 c2_i32_247
  let c512_i32_248 : BitVec 32 := 512#32
  let v601 : BitVec 32 := Scalar.muli v600 c512_i32_248
  v601
def k0_mult28 (i : grid0.Coords) (k0_t2 : Fin (k0_t2_loop i).trips) : BitVec 32 :=
  let c4_i32_256 : BitVec 32 := 4#32
  let c0_i32 : BitVec 32 := 0#32
  let arg1 : BitVec 32 := BitVec.ofNat 32 (i 1).val
  let v16 : BitVec 32 := Scalar.subi arg1 c0_i32
  let c1_i32 : BitVec 32 := 1#32
  let v18 : BitVec 32 := Scalar.divsi v16 c1_i32
  let v19 : BitVec 32 := Scalar.muli v18 c1_i32
  let v20 : BitVec 32 := Scalar.addi c0_i32 v19
  let c1_i32_16 : BitVec 32 := 1#32
  let arg7 : BitVec 32 := Scf.iv v20 c1_i32_16 k0_t2
  let v623 : BitVec 32 := Scalar.muli c4_i32_256 arg7
  let c2_i32_257 : BitVec 32 := 2#32
  let v624 : BitVec 32 := Scalar.addi v623 c2_i32_257
  let c512_i32_258 : BitVec 32 := 512#32
  let v625 : BitVec 32 := Scalar.muli v624 c512_i32_258
  v625
def k0_mult29 (i : grid0.Coords) (k0_t2 : Fin (k0_t2_loop i).trips) : BitVec 32 :=
  let c4_i32_266 : BitVec 32 := 4#32
  let c0_i32 : BitVec 32 := 0#32
  let arg1 : BitVec 32 := BitVec.ofNat 32 (i 1).val
  let v16 : BitVec 32 := Scalar.subi arg1 c0_i32
  let c1_i32 : BitVec 32 := 1#32
  let v18 : BitVec 32 := Scalar.divsi v16 c1_i32
  let v19 : BitVec 32 := Scalar.muli v18 c1_i32
  let v20 : BitVec 32 := Scalar.addi c0_i32 v19
  let c1_i32_16 : BitVec 32 := 1#32
  let arg7 : BitVec 32 := Scf.iv v20 c1_i32_16 k0_t2
  let v647 : BitVec 32 := Scalar.muli c4_i32_266 arg7
  let c3_i32_267 : BitVec 32 := 3#32
  let v648 : BitVec 32 := Scalar.addi v647 c3_i32_267
  let c512_i32_268 : BitVec 32 := 512#32
  let v649 : BitVec 32 := Scalar.muli v648 c512_i32_268
  v649
def k0_mult30 (i : grid0.Coords) (k0_t2 : Fin (k0_t2_loop i).trips) : BitVec 32 :=
  let c4_i32_276 : BitVec 32 := 4#32
  let c0_i32 : BitVec 32 := 0#32
  let arg1 : BitVec 32 := BitVec.ofNat 32 (i 1).val
  let v16 : BitVec 32 := Scalar.subi arg1 c0_i32
  let c1_i32 : BitVec 32 := 1#32
  let v18 : BitVec 32 := Scalar.divsi v16 c1_i32
  let v19 : BitVec 32 := Scalar.muli v18 c1_i32
  let v20 : BitVec 32 := Scalar.addi c0_i32 v19
  let c1_i32_16 : BitVec 32 := 1#32
  let arg7 : BitVec 32 := Scf.iv v20 c1_i32_16 k0_t2
  let v671 : BitVec 32 := Scalar.muli c4_i32_276 arg7
  let c3_i32_277 : BitVec 32 := 3#32
  let v672 : BitVec 32 := Scalar.addi v671 c3_i32_277
  let c512_i32_278 : BitVec 32 := 512#32
  let v673 : BitVec 32 := Scalar.muli v672 c512_i32_278
  v673
def k0_mult31 (i : grid0.Coords) (k0_t2 : Fin (k0_t2_loop i).trips) : BitVec 32 :=
  let c4_i32_286 : BitVec 32 := 4#32
  let c0_i32 : BitVec 32 := 0#32
  let arg1 : BitVec 32 := BitVec.ofNat 32 (i 1).val
  let v16 : BitVec 32 := Scalar.subi arg1 c0_i32
  let c1_i32 : BitVec 32 := 1#32
  let v18 : BitVec 32 := Scalar.divsi v16 c1_i32
  let v19 : BitVec 32 := Scalar.muli v18 c1_i32
  let v20 : BitVec 32 := Scalar.addi c0_i32 v19
  let c1_i32_16 : BitVec 32 := 1#32
  let arg7 : BitVec 32 := Scf.iv v20 c1_i32_16 k0_t2
  let v695 : BitVec 32 := Scalar.muli c4_i32_286 arg7
  let c3_i32_287 : BitVec 32 := 3#32
  let v696 : BitVec 32 := Scalar.addi v695 c3_i32_287
  let c512_i32_288 : BitVec 32 := 512#32
  let v697 : BitVec 32 := Scalar.muli v696 c512_i32_288
  v697
def k0_mult32 (i : grid0.Coords) (k0_t2 : Fin (k0_t2_loop i).trips) : BitVec 32 :=
  let c4_i32_296 : BitVec 32 := 4#32
  let c0_i32 : BitVec 32 := 0#32
  let arg1 : BitVec 32 := BitVec.ofNat 32 (i 1).val
  let v16 : BitVec 32 := Scalar.subi arg1 c0_i32
  let c1_i32 : BitVec 32 := 1#32
  let v18 : BitVec 32 := Scalar.divsi v16 c1_i32
  let v19 : BitVec 32 := Scalar.muli v18 c1_i32
  let v20 : BitVec 32 := Scalar.addi c0_i32 v19
  let c1_i32_16 : BitVec 32 := 1#32
  let arg7 : BitVec 32 := Scf.iv v20 c1_i32_16 k0_t2
  let v719 : BitVec 32 := Scalar.muli c4_i32_296 arg7
  let c3_i32_297 : BitVec 32 := 3#32
  let v720 : BitVec 32 := Scalar.addi v719 c3_i32_297
  let c512_i32_298 : BitVec 32 := 512#32
  let v721 : BitVec 32 := Scalar.muli v720 c512_i32_298
  v721
def k0_mult33 (i : grid0.Coords) : BitVec 32 :=
  let c4_i32 : BitVec 32 := 4#32
  let arg1 : BitVec 32 := BitVec.ofNat 32 (i 1).val
  let v23 : BitVec 32 := Scalar.muli c4_i32 arg1
  let c0_i32_17 : BitVec 32 := 0#32
  let v24 : BitVec 32 := Scalar.addi v23 c0_i32_17
  let c512_i32 : BitVec 32 := 512#32
  let v25 : BitVec 32 := Scalar.muli v24 c512_i32
  v25
def k0_off3 (i : grid0.Coords) (c0_i32_17 : BitVec 32) : Fin 3 → Nat :=
  let c0_18 : Index := 0#32
  let c4_i32 : BitVec 32 := 4#32
  let arg1 : BitVec 32 := BitVec.ofNat 32 (i 1).val
  let v23 : BitVec 32 := Scalar.muli c4_i32 arg1
  let v24 : BitVec 32 := Scalar.addi v23 c0_i32_17
  let c512_i32 : BitVec 32 := 512#32
  let v25 : BitVec 32 := Scalar.muli v24 c512_i32
  let v26 : BitVec 32 := v25
  let v27 : Index := Scalar.indexCast v26
  let c0_19 : Index := 0#32
  ![0, v27.toNat, 0]
def k0_mult34 (i : grid0.Coords) : BitVec 32 :=
  let c4_i32_26 : BitVec 32 := 4#32
  let arg1 : BitVec 32 := BitVec.ofNat 32 (i 1).val
  let v52 : BitVec 32 := Scalar.muli c4_i32_26 arg1
  let c0_i32_27 : BitVec 32 := 0#32
  let v53 : BitVec 32 := Scalar.addi v52 c0_i32_27
  let c512_i32_28 : BitVec 32 := 512#32
  let v54 : BitVec 32 := Scalar.muli v53 c512_i32_28
  v54
def k0_mult35 (i : grid0.Coords) : BitVec 32 :=
  let c4_i32_36 : BitVec 32 := 4#32
  let arg1 : BitVec 32 := BitVec.ofNat 32 (i 1).val
  let v76 : BitVec 32 := Scalar.muli c4_i32_36 arg1
  let c0_i32_37 : BitVec 32 := 0#32
  let v77 : BitVec 32 := Scalar.addi v76 c0_i32_37
  let c512_i32_38 : BitVec 32 := 512#32
  let v78 : BitVec 32 := Scalar.muli v77 c512_i32_38
  v78
def k0_mult36 (i : grid0.Coords) : BitVec 32 :=
  let c4_i32_46 : BitVec 32 := 4#32
  let arg1 : BitVec 32 := BitVec.ofNat 32 (i 1).val
  let v100 : BitVec 32 := Scalar.muli c4_i32_46 arg1
  let c0_i32_47 : BitVec 32 := 0#32
  let v101 : BitVec 32 := Scalar.addi v100 c0_i32_47
  let c512_i32_48 : BitVec 32 := 512#32
  let v102 : BitVec 32 := Scalar.muli v101 c512_i32_48
  v102
def k0_mult37 (i : grid0.Coords) : BitVec 32 :=
  let c4_i32_56 : BitVec 32 := 4#32
  let arg1 : BitVec 32 := BitVec.ofNat 32 (i 1).val
  let v124 : BitVec 32 := Scalar.muli c4_i32_56 arg1
  let c1_i32_57 : BitVec 32 := 1#32
  let v125 : BitVec 32 := Scalar.addi v124 c1_i32_57
  let c512_i32_58 : BitVec 32 := 512#32
  let v126 : BitVec 32 := Scalar.muli v125 c512_i32_58
  v126
def k0_mult38 (i : grid0.Coords) : BitVec 32 :=
  let c4_i32_67 : BitVec 32 := 4#32
  let arg1 : BitVec 32 := BitVec.ofNat 32 (i 1).val
  let v153 : BitVec 32 := Scalar.muli c4_i32_67 arg1
  let c1_i32_68 : BitVec 32 := 1#32
  let v154 : BitVec 32 := Scalar.addi v153 c1_i32_68
  let c512_i32_69 : BitVec 32 := 512#32
  let v155 : BitVec 32 := Scalar.muli v154 c512_i32_69
  v155
def k0_mult39 (i : grid0.Coords) : BitVec 32 :=
  let c4_i32_77 : BitVec 32 := 4#32
  let arg1 : BitVec 32 := BitVec.ofNat 32 (i 1).val
  let v177 : BitVec 32 := Scalar.muli c4_i32_77 arg1
  let c1_i32_78 : BitVec 32 := 1#32
  let v178 : BitVec 32 := Scalar.addi v177 c1_i32_78
  let c512_i32_79 : BitVec 32 := 512#32
  let v179 : BitVec 32 := Scalar.muli v178 c512_i32_79
  v179
def k0_mult40 (i : grid0.Coords) : BitVec 32 :=
  let c4_i32_87 : BitVec 32 := 4#32
  let arg1 : BitVec 32 := BitVec.ofNat 32 (i 1).val
  let v201 : BitVec 32 := Scalar.muli c4_i32_87 arg1
  let c2_i32 : BitVec 32 := 2#32
  let v202 : BitVec 32 := Scalar.addi v201 c2_i32
  let c512_i32_88 : BitVec 32 := 512#32
  let v203 : BitVec 32 := Scalar.muli v202 c512_i32_88
  v203
def k0_mult41 (i : grid0.Coords) : BitVec 32 :=
  let c4_i32_97 : BitVec 32 := 4#32
  let arg1 : BitVec 32 := BitVec.ofNat 32 (i 1).val
  let v230 : BitVec 32 := Scalar.muli c4_i32_97 arg1
  let c2_i32_98 : BitVec 32 := 2#32
  let v231 : BitVec 32 := Scalar.addi v230 c2_i32_98
  let c512_i32_99 : BitVec 32 := 512#32
  let v232 : BitVec 32 := Scalar.muli v231 c512_i32_99
  v232
def k0_mult42 (i : grid0.Coords) : BitVec 32 :=
  let c4_i32_107 : BitVec 32 := 4#32
  let arg1 : BitVec 32 := BitVec.ofNat 32 (i 1).val
  let v254 : BitVec 32 := Scalar.muli c4_i32_107 arg1
  let c3_i32 : BitVec 32 := 3#32
  let v255 : BitVec 32 := Scalar.addi v254 c3_i32
  let c512_i32_108 : BitVec 32 := 512#32
  let v256 : BitVec 32 := Scalar.muli v255 c512_i32_108
  v256
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16384x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x16384x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ForwardReferenceIdeal.lean ====
abbrev S1x16384x8x64 : Shape := ⟨4, ![1, 16384, 8, 64]⟩
abbrev S1x16384x8x32 : Shape := ⟨4, ![1, 16384, 8, 32]⟩
abbrev S1x16384x32 : Shape := ⟨3, ![1, 16384, 32]⟩
abbrev S1x8x16384x16384 : Shape := ⟨4, ![1, 8, 16384, 16384]⟩
abbrev S1x16384x16384x8 : Shape := ⟨4, ![1, 16384, 16384, 8]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S_ : Shape := ⟨0, ![]⟩
abbrev S1x8x16384 : Shape := ⟨3, ![1, 8, 16384]⟩
abbrev S1x8x16384x1 : Shape := ⟨4, ![1, 8, 16384, 1]⟩
abbrev S1x8x64x16384 : Shape := ⟨4, ![1, 8, 64, 16384]⟩

abbrev nBuf : Space → Nat
  | .hbm => 53
  | .vmem => 0
  | .smem => 0
  | _ => 0

abbrev bufTy : (tb : Table) → Fin (tcTables nBuf tb) → BufTy
  | .hbm, ⟨0, _⟩ => ⟨S1x16384x8x64, .f32⟩
  | .hbm, ⟨1, _⟩ => ⟨S1x16384x8x32, .f32⟩
  | .hbm, ⟨2, _⟩ => ⟨S1x16384x8x64, .f32⟩
  | .hbm, ⟨3, _⟩ => ⟨S1x16384x32, .f32⟩
  | .hbm, ⟨4, _⟩ => ⟨S1x16384x8x64, .f32⟩
  | .hbm, ⟨5, _⟩ => ⟨S1x8x16384x16384, .f32⟩
  | .hbm, ⟨6, _⟩ => ⟨S1x16384x16384x8, .f32⟩
  | .hbm, ⟨7, _⟩ => ⟨S1x8x16384x16384, .f32⟩
  | .hbm, ⟨8, _⟩ => ⟨S1x8x16384x16384, .f32⟩
  | .hbm, ⟨9, _⟩ => ⟨S16384, .i32⟩
  | .hbm, ⟨10, _⟩ => ⟨S1x16384, .i32⟩
  | .hbm, ⟨11, _⟩ => ⟨S16384x1, .i32⟩
  | .hbm, ⟨12, _⟩ => ⟨S16384x16384, .i32⟩
  | .hbm, ⟨13, _⟩ => ⟨S16384x16384, .i32⟩
  | .hbm, ⟨14, _⟩ => ⟨S16384x16384, .i1⟩
  | .hbm, ⟨15, _⟩ => ⟨S_, .f32⟩
  | .hbm, ⟨16, _⟩ => ⟨S1x8x16384x16384, .f32⟩
  | .hbm, ⟨17, _⟩ => ⟨S1x8x16384x16384, .f32⟩
  | .hbm, ⟨18, _⟩ => ⟨S_, .f32⟩
  | .hbm, ⟨19, _⟩ => ⟨S_, .f32⟩
  | .hbm, ⟨20, _⟩ => ⟨S1x8x16384x16384, .i1⟩
  | .hbm, ⟨21, _⟩ => ⟨S1x8x16384x16384, .f32⟩
  | .hbm, ⟨22, _⟩ => ⟨S1x8x16384x16384, .f32⟩
  | .hbm, ⟨23, _⟩ => ⟨S_, .f32⟩
  | .hbm, ⟨24, _⟩ => ⟨S1x8x16384, .f32⟩
  | .hbm, ⟨25, _⟩ => ⟨S1x8x16384x1, .f32⟩
  | .hbm, ⟨26, _⟩ => ⟨S1x8x16384x16384, .f32⟩
  | .hbm, ⟨27, _⟩ => ⟨S1x8x16384x16384, .f32⟩
  | .hbm, ⟨28, _⟩ => ⟨S1x8x16384x16384, .f32⟩
  | .hbm, ⟨29, _⟩ => ⟨S_, .f32⟩
  | .hbm, ⟨30, _⟩ => ⟨S1x8x16384, .f32⟩
  | .hbm, ⟨31, _⟩ => ⟨S1x8x16384, .f32⟩
  | .hbm, ⟨32, _⟩ => ⟨S1x8x16384, .f32⟩
  | .hbm, ⟨33, _⟩ => ⟨S_, .f32⟩
  | .hbm, ⟨34, _⟩ => ⟨S1x8x16384, .f32⟩
  | .hbm, ⟨35, _⟩ => ⟨S_, .f32⟩
  | .hbm, ⟨36, _⟩ => ⟨S1x8x16384, .f32⟩
  | .hbm, ⟨37, _⟩ => ⟨S1x8x16384, .f32⟩
  | .hbm, ⟨38, _⟩ => ⟨S1x8x16384x1, .f32⟩
  | .hbm, ⟨39, _⟩ => ⟨S1x8x16384x16384, .f32⟩
  | .hbm, ⟨40, _⟩ => ⟨S1x8x16384x16384, .f32⟩
  | .hbm, ⟨41, _⟩ => ⟨S1x8x16384x16384, .f32⟩
  | .hbm, ⟨42, _⟩ => ⟨S_, .f32⟩
  | .hbm, ⟨43, _⟩ => ⟨S1x8x16384, .f32⟩
  | .hbm, ⟨44, _⟩ => ⟨S1x8x16384x1, .f32⟩
  | .hbm, ⟨45, _⟩ => ⟨S1x8x16384x16384, .f32⟩
  | .hbm, ⟨46, _⟩ => ⟨S1x8x16384x16384, .f32⟩
  | .hbm, ⟨47, _⟩ => ⟨S1x8x64x16384, .f32⟩
  | .hbm, ⟨48, _⟩ => ⟨S1x16384x8x64, .f32⟩
  | .hbm, ⟨49, _⟩ => ⟨S_, .f32⟩
  | .hbm, ⟨50, _⟩ => ⟨S_, .f32⟩
  | .hbm, ⟨51, _⟩ => ⟨S1x8x16384, .f32⟩
  | .hbm, ⟨52, _⟩ => ⟨S1x8x16384, .f32⟩
  | _, _ => ⟨S1x16384x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_5 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_6 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩

abbrev nD : Nat := 1
abbrev τ : Topo := Topo.v7x

variable {F : FTy → Type} [FloatOps F]
-- ==== GradFf2.lean ====
abbrev S16384x4096 : Shape := ⟨2, ![16384, 4096]⟩
abbrev S16384x1024 : Shape := ⟨2, ![16384, 1024]⟩
abbrev S_ : Shape := ⟨0, ![]⟩
abbrev S4096x1024 : Shape := ⟨2, ![4096, 1024]⟩
abbrev S2048x1024 : Shape := ⟨2, ![2048, 1024]⟩
abbrev S1024x1024 : Shape := ⟨2, ![1024, 1024]⟩

abbrev nBuf : Space → Nat
  | .hbm => 9
  | .vmem => 8
  | .smem => 0
  | _ => 0

abbrev bufTy : (tb : Table) → Fin (tcTables nBuf tb) → BufTy
  | .hbm, ⟨0, _⟩ => ⟨S16384x4096, .f32⟩
  | .hbm, ⟨1, _⟩ => ⟨S16384x1024, .f32⟩
  | .hbm, ⟨2, _⟩ => ⟨S_, .f32⟩
  | .hbm, ⟨3, _⟩ => ⟨S16384x4096, .f32⟩
  | .hbm, ⟨4, _⟩ => ⟨S16384x4096, .f32⟩
  | .hbm, ⟨5, _⟩ => ⟨S16384x4096, .bf16⟩
  | .hbm, ⟨6, _⟩ => ⟨S16384x1024, .bf16⟩
  | .hbm, ⟨7, _⟩ => ⟨S4096x1024, .f32⟩
  | .hbm, ⟨8, _⟩ => ⟨S4096x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 1, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Ff2ReferenceIdeal.lean ====
abbrev S16384x4096 : Shape := ⟨2, ![16384, 4096]⟩
abbrev S16384x1024 : Shape := ⟨2, ![16384, 1024]⟩
abbrev S_ : Shape := ⟨0, ![]⟩
abbrev S4096x1024 : Shape := ⟨2, ![4096, 1024]⟩
abbrev S1024x4096 : Shape := ⟨2, ![1024, 4096]⟩

abbrev nBuf : Space → Nat
  | .hbm => 12
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S16384x1024, .f32⟩
  | .hbm, ⟨2, _⟩ => ⟨S_, .f32⟩
  | .hbm, ⟨3, _⟩ => ⟨S4096x1024, .f32⟩
  | .hbm, ⟨4, _⟩ => ⟨S_, .f32⟩
  | .hbm, ⟨5, _⟩ => ⟨S16384x4096, .f32⟩
  | .hbm, ⟨6, _⟩ => ⟨S16384x4096, .f32⟩
  | .hbm, ⟨7, _⟩ => ⟨S16384x4096, .f32⟩
  | .hbm, ⟨8, _⟩ => ⟨S16384x1024, .f32⟩
  | .hbm, ⟨9, _⟩ => ⟨S1024x4096, .f32⟩
  | .hbm, ⟨10, _⟩ => ⟨S4096x1024, .f32⟩
  | .hbm, ⟨11, _⟩ => ⟨S4096x1024, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== GradFf1.lean ====
abbrev S16384x1024 : Shape := ⟨2, ![16384, 1024]⟩
abbrev S16384x4096 : Shape := ⟨2, ![16384, 4096]⟩
abbrev S8x1024x512 : Shape := ⟨3, ![8, 1024, 512]⟩
abbrev S2048x1024 : Shape := ⟨2, ![2048, 1024]⟩
abbrev S2x1024x512 : Shape := ⟨3, ![2, 1024, 512]⟩
abbrev S1024x1024 : Shape := ⟨2, ![1024, 1024]⟩
abbrev S1x1024x512 : Shape := ⟨3, ![1, 1024, 512]⟩
abbrev S1024x512 : Shape := ⟨2, ![1024, 512]⟩

abbrev nBuf : Space → Nat
  | .hbm => 6
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S16384x4096, .f32⟩
  | .hbm, ⟨2, _⟩ => ⟨S16384x1024, .bf16⟩
  | .hbm, ⟨3, _⟩ => ⟨S16384x4096, .bf16⟩
  | .hbm, ⟨4, _⟩ => ⟨S8x1024x512, .f32⟩
  | .hbm, ⟨5, _⟩ => ⟨S8x1024x512, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S2x1024x512, .f32⟩
  | .local _ .vmem, ⟨5, _⟩ => ⟨S2x1024x512, .f32⟩
  | .local _ .vmem, ⟨6, _⟩ => ⟨S2x1024x512, .bf16⟩
  | .local _ .vmem, ⟨7, _⟩ => ⟨S2x1024x512, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![1, 4, 8], ![false, false, false]⟩

def k0_cond2 (i : grid0.Coords) : BitVec 1 :=
  let arg2 : BitVec 32 := BitVec.ofNat 32 (i 2).val
  let c7_i32 : BitVec 32 := 7#32
  let v22 : BitVec 1 := Scalar.cmpi .eq arg2 c7_i32
  let v23 : BitVec 32 := Scalar.extui v22
  let c0_i32_15 : BitVec 32 := 0#32
  let v24 : BitVec 1 := Scalar.cmpi .ne v23 c0_i32_15
  v24

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Ff1ReferenceIdeal.lean ====
abbrev S16384x1024 : Shape := ⟨2, ![16384, 1024]⟩
abbrev S16384x4096 : Shape := ⟨2, ![16384, 4096]⟩
abbrev S_ : Shape := ⟨0, ![]⟩
abbrev S1024x4096 : Shape := ⟨2, ![1024, 4096]⟩
abbrev S4096x1024 : Shape := ⟨2, ![4096, 1024]⟩
abbrev S1024x8x512 : Shape := ⟨3, ![1024, 8, 512]⟩
abbrev S8x1024x512 : Shape := ⟨3, ![8, 1024, 512]⟩

abbrev nBuf : Space → Nat
  | .hbm => 10
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x4096, .f32⟩
  | .hbm, ⟨2, _⟩ => ⟨S_, .f32⟩
  | .hbm, ⟨3, _⟩ => ⟨S1024x4096, .f32⟩
  | .hbm, ⟨4, _⟩ => ⟨S16384x4096, .f32⟩
  | .hbm, ⟨5, _⟩ => ⟨S4096x1024, .f32⟩
  | .hbm, ⟨6, _⟩ => ⟨S1024x4096, .f32⟩
  | .hbm, ⟨7, _⟩ => ⟨S1024x8x512, .f32⟩
  | .hbm, ⟨8, _⟩ => ⟨S8x1024x512, .f32⟩
  | .hbm, ⟨9, _⟩ => ⟨S8x1024x512, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== GradIn.lean ====
abbrev S16384x1024 : Shape := ⟨2, ![16384, 1024]⟩
abbrev S16384x3328 : Shape := ⟨2, ![16384, 3328]⟩
abbrev S1024x3328 : Shape := ⟨2, ![1024, 3328]⟩
abbrev S2048x1024 : Shape := ⟨2, ![2048, 1024]⟩
abbrev S2048x1664 : Shape := ⟨2, ![2048, 1664]⟩
abbrev S1024x1664 : Shape := ⟨2, ![1024, 1664]⟩

abbrev nBuf : Space → Nat
  | .hbm => 5
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S16384x3328, .f32⟩
  | .hbm, ⟨2, _⟩ => ⟨S16384x1024, .bf16⟩
  | .hbm, ⟨3, _⟩ => ⟨S16384x3328, .bf16⟩
  | .hbm, ⟨4, _⟩ => ⟨S1024x3328, .f32⟩
  | .local _ .vmem, ⟨0, _⟩ => ⟨S2048x1024, .bf16⟩
  | .local _ .vmem, ⟨1, _⟩ => ⟨S2048x1024, .bf16⟩
  | .local _ .vmem, ⟨2, _⟩ => ⟨S2048x1664, .bf16⟩
  | .local _ .vmem, ⟨3, _⟩ => ⟨S2048x1664, .bf16⟩
  | .local _ .vmem, ⟨4, _⟩ => ⟨S1024x1664, .f32⟩
  | .local _ .vmem, ⟨5, _⟩ => ⟨S1024x1664, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1664 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1664 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InReferenceIdeal.lean ====
abbrev S16384x1024 : Shape := ⟨2, ![16384, 1024]⟩
abbrev S16384x3328 : Shape := ⟨2, ![16384, 3328]⟩
abbrev S_ : Shape := ⟨0, ![]⟩
abbrev S1024x3328 : Shape := ⟨2, ![1024, 3328]⟩
abbrev S3328x1024 : Shape := ⟨2, ![3328, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x3328, .f32⟩
  | .hbm, ⟨2, _⟩ => ⟨S_, .f32⟩
  | .hbm, ⟨3, _⟩ => ⟨S1024x3328, .f32⟩
  | .hbm, ⟨4, _⟩ => ⟨S16384x3328, .f32⟩
  | .hbm, ⟨5, _⟩ => ⟨S3328x1024, .f32⟩
  | .hbm, ⟨6, _⟩ => ⟨S1024x3328, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== GradOut.lean ====
abbrev S16384x1024 : Shape := ⟨2, ![16384, 1024]⟩
abbrev S1024x1024 : Shape := ⟨2, ![1024, 1024]⟩
abbrev S2048x1024 : Shape := ⟨2, ![2048, 1024]⟩

abbrev nBuf : Space → Nat
  | .hbm => 6
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .bf16⟩
  | .hbm, ⟨3, _⟩ => ⟨S16384x1024, .bf16⟩
  | .hbm, ⟨4, _⟩ => ⟨S1024x1024, .f32⟩
  | .hbm, ⟨5, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true, false]
-- ==== OutReferenceIdeal.lean ====
abbrev S16384x1024 : Shape := ⟨2, ![16384, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S_, .f32⟩
  | .hbm, ⟨3, _⟩ => ⟨S1024x1024, .f32⟩
  | .hbm, ⟨4, _⟩ => ⟨S16384x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Merge.lean ====
abbrev S16384x512 : Shape := ⟨2, ![16384, 512]⟩
abbrev S16384x2048 : Shape := ⟨2, ![16384, 2048]⟩
abbrev S16384x1024 : Shape := ⟨2, ![16384, 1024]⟩
abbrev S1024 : Shape := ⟨1, ![1024]⟩
abbrev S512x1024 : Shape := ⟨2, ![512, 1024]⟩
abbrev S1024x1024 : Shape := ⟨2, ![1024, 1024]⟩
abbrev S16384x8x64 : Shape := ⟨3, ![16384, 8, 64]⟩
abbrev S_ : Shape := ⟨0, ![]⟩
abbrev S16384x8x128 : Shape := ⟨3, ![16384, 8, 128]⟩
abbrev S8x64x1024 : Shape := ⟨3, ![8, 64, 1024]⟩
abbrev S8x128x1024 : Shape := ⟨3, ![8, 128, 1024]⟩
abbrev S8x16384x128 : Shape := ⟨3, ![8, 16384, 128]⟩
abbrev S1x1024 : Shape := ⟨2, ![1, 1024]⟩
abbrev S8x512x128 : Shape := ⟨3, ![8, 512, 128]⟩
abbrev S512x512 : Shape := ⟨2, ![512, 512]⟩
abbrev S512x2048 : Shape := ⟨2, ![512, 2048]⟩
abbrev S1x256x128 : Shape := ⟨3, ![1, 256, 128]⟩
abbrev S256x128 : Shape := ⟨2, ![256, 128]⟩
abbrev S256x1024 : Shape := ⟨2, ![256, 1024]⟩
abbrev S256x512 : Shape := ⟨2, ![256, 512]⟩
abbrev S256 : Shape := ⟨1, ![256]⟩
abbrev S256x1 : Shape := ⟨2, ![256, 1]⟩

abbrev nBuf : Space → Nat
  | .hbm => 30
  | .vmem => 22
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x2048, .f32⟩
  | .hbm, ⟨3, _⟩ => ⟨S16384x1024, .f32⟩
  | .hbm, ⟨4, _⟩ => ⟨S1024, .f32⟩
  | .hbm, ⟨5, _⟩ => ⟨S512x1024, .f32⟩
  | .hbm, ⟨6, _⟩ => ⟨S512x1024, .f32⟩
  | .hbm, ⟨7, _⟩ => ⟨S1024x1024, .f32⟩
  | .hbm, ⟨8, _⟩ => ⟨S16384x8x64, .f32⟩
  | .hbm, ⟨9, _⟩ => ⟨S_, .f32⟩
  | .hbm, ⟨10, _⟩ => ⟨S16384x8x64, .f32⟩
  | .hbm, ⟨11, _⟩ => ⟨S16384x8x128, .f32⟩
  | .hbm, ⟨12, _⟩ => ⟨S8x64x1024, .f32⟩
  | .hbm, ⟨13, _⟩ => ⟨S_, .f32⟩
  | .hbm, ⟨14, _⟩ => ⟨S8x64x1024, .f32⟩
  | .hbm, ⟨15, _⟩ => ⟨S8x128x1024, .f32⟩
  | .hbm, ⟨16, _⟩ => ⟨S8x16384x128, .f32⟩
  | .hbm, ⟨17, _⟩ => ⟨S8x16384x128, .bf16⟩
  | .hbm, ⟨18, _⟩ => ⟨S16384x512, .bf16⟩
  | .hbm, ⟨19, _⟩ => ⟨S16384x2048, .bf16⟩
  | .hbm, ⟨20, _⟩ => ⟨S1x1024, .f32⟩
  | .hbm, ⟨21, _⟩ => ⟨S1024x1024, .f32⟩
  | .hbm, ⟨22, _⟩ => ⟨S1024x1024, .bf16⟩
  | .hbm, ⟨23, _⟩ => ⟨S512x1024, .bf16⟩
  | .hbm, ⟨24, _⟩ => ⟨S1024x1024, .bf16⟩
  | .hbm, ⟨25, _⟩ => ⟨S16384x1024, .bf16⟩
  | .hbm, ⟨26, _⟩ => ⟨S16384x1024, .bf16⟩
  | .hbm, ⟨27, _⟩ => ⟨S16384x1024, .bf16⟩
  | .hbm, ⟨28, _⟩ => ⟨S16384x1024, .f32⟩
  | .hbm, ⟨29, _⟩ => ⟨S16384x1024, .f32⟩
  | .local _ .vmem, ⟨0, _⟩ => ⟨S8x512x128, .bf16⟩
  | .local _ .vmem, ⟨1, _⟩ => ⟨S8x512x128, .bf16⟩
  | .local _ .vmem, ⟨2, _⟩ => ⟨S512x512, .bf16⟩
  | .local _ .vmem, ⟨3, _⟩ => ⟨S512x512, .bf16⟩
  | .local _ .vmem, ⟨4, _⟩ => ⟨S512x2048, .bf16⟩
  | .local _ .vmem, ⟨5, _⟩ => ⟨S512x2048, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S1024x1024, .bf16⟩
  | .local _ .vmem, ⟨10, _⟩ => ⟨S512x1024, .bf16⟩
  | .local _ .vmem, ⟨11, _⟩ => ⟨S1024x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .f32⟩
  | .local _ .vmem, ⟨19, _⟩ => ⟨S512x1024, .f32⟩
  | .local _ .vmem, ⟨20, _⟩ => ⟨S512x1024, .f32⟩
  | .local _ .vmem, ⟨21, _⟩ => ⟨S512x1024, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15_0 : Ref sig .tc := ⟨.hbm, 25, rfl⟩
abbrev main_v15_1 : Ref sig .tc := ⟨.hbm, 26, rfl⟩
abbrev main_v15_2 : Ref sig .tc := ⟨.hbm, 27, rfl⟩
abbrev main_v15_3 : Ref sig .tc := ⟨.hbm, 28, rfl⟩
abbrev main_v15_4 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== MergeReferenceIdeal.lean ====
abbrev S16384x512 : Shape := ⟨2, ![16384, 512]⟩
abbrev S16384x2048 : Shape := ⟨2, ![16384, 2048]⟩
abbrev S16384x1024 : Shape := ⟨2, ![16384, 1024]⟩
abbrev S1024 : Shape := ⟨1, ![1024]⟩
abbrev S512x1024 : Shape := ⟨2, ![512, 1024]⟩
abbrev S1024x1024 : Shape := ⟨2, ![1024, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 36
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x2048, .f32⟩
  | .hbm, ⟨3, _⟩ => ⟨S16384x1024, .f32⟩
  | .hbm, ⟨4, _⟩ => ⟨S1024, .f32⟩
  | .hbm, ⟨5, _⟩ => ⟨S512x1024, .f32⟩
  | .hbm, ⟨6, _⟩ => ⟨S512x1024, .f32⟩
  | .hbm, ⟨7, _⟩ => ⟨S1024x1024, .f32⟩
  | .hbm, ⟨8, _⟩ => ⟨S16384x1024, .f32⟩
  | .hbm, ⟨9, _⟩ => ⟨S16384x1024, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S16384x1024, .f32⟩
  | .hbm, ⟨16, _⟩ => ⟨S16384x1024, .f32⟩
  | .hbm, ⟨17, _⟩ => ⟨S_, .f32⟩
  | .hbm, ⟨18, _⟩ => ⟨S16384, .f32⟩
  | .hbm, ⟨19, _⟩ => ⟨S16384x1, .f32⟩
  | .hbm, ⟨20, _⟩ => ⟨S_, .f32⟩
  | .hbm, ⟨21, _⟩ => ⟨S16384x1, .f32⟩
  | .hbm, ⟨22, _⟩ => ⟨S16384x1, .f32⟩
  | .hbm, ⟨23, _⟩ => ⟨S_, .f32⟩
  | .hbm, ⟨24, _⟩ => ⟨S16384x1, .f32⟩
  | .hbm, ⟨25, _⟩ => ⟨S16384x1, .f32⟩
  | .hbm, ⟨26, _⟩ => ⟨S16384x1, .f32⟩
  | .hbm, ⟨27, _⟩ => ⟨S16384x1024, .f32⟩
  | .hbm, ⟨28, _⟩ => ⟨S16384x1024, .f32⟩
  | .hbm, ⟨29, _⟩ => ⟨S1x1024, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S16384x1024, .bf16⟩
  | .hbm, ⟨34, _⟩ => ⟨S16384x1024, .bf16⟩
  | .hbm, ⟨35, _⟩ => ⟨S16384x1024, .bf16⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩

abbrev nD : Nat := 1
abbrev τ : Topo := Topo.v7x

variable {F : FTy → Type} [FloatOps F]
-- ==== GradGate.lean ====
abbrev S16384x1024 : Shape := ⟨2, ![16384, 1024]⟩
abbrev S1024x1024 : Shape := ⟨2, ![1024, 1024]⟩
abbrev S2048x1024 : Shape := ⟨2, ![2048, 1024]⟩

abbrev nBuf : Space → Nat
  | .hbm => 6
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .bf16⟩
  | .hbm, ⟨3, _⟩ => ⟨S16384x1024, .bf16⟩
  | .hbm, ⟨4, _⟩ => ⟨S1024x1024, .f32⟩
  | .hbm, ⟨5, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true, false]
-- ==== GateReferenceIdeal.lean ====
abbrev S16384x1024 : Shape := ⟨2, ![16384, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S_, .f32⟩
  | .hbm, ⟨3, _⟩ => ⟨S1024x1024, .f32⟩
  | .hbm, ⟨4, _⟩ => ⟨S16384x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Proof.KI.Offsets.lean ====
/-
  Where the body of the attention's backward call reads and writes: every offset it computes, in closed form over the
  grid point (the head and the pair of key tiles) and the loop's trip. The pair `j` owns key tiles `2j` and `2j + 1`.
  Query tiles `2j` and `2j + 1` are taken first, then, where it aligns the rest to four, `2j + 2` and `2j + 3`, then
  the loop takes four query tiles a trip from the multiple of four `4 (j/2 + 1)` up to the last. The second loop, the
  remainder of the first, makes no trip.
-/
module

public import proofs.«01_k».proof.Proof.Gen.KernelIdeal.Launch
public import Idealize.ShloMosaic.Lib.Exec

@[expose] public section

noncomputable section

namespace Cert.KernelIdeal.Hand

open Cert.KernelIdeal Cert.KernelIdeal.Gen
open Idealize.ShloMosaic

/-- The first query tile of trip `k` of the loop, at the point's pair of key tiles. -/
abbrev quad (i : grid0.Coords) (k : ℕ) : ℕ := 4 * ((i 1).val / 2 + 1 + k)

theorem trips_eq : ∀ i : grid0.Coords, (k0_t1_loop i).trips = 7 - (i 1).val / 2 := by decide +kernel

theorem cond2_iff : ∀ i : grid0.Coords, k0_cond2 i = 1#1 ↔ (i 1).val % 2 = 0 := by decide +kernel

theorem off1_eq : ∀ (i : grid0.Coords) (u : Fin 2),
    k0_off1 i (BitVec.ofNat 32 u.val) = ![0, 512 * (2 * (i 1).val + u.val), 0] := by decide +kernel
theorem off2_eq : ∀ (i : grid0.Coords) (u : Fin 2),
    k0_off2 i (BitVec.ofNat 32 u.val) = ![0, 2 * (i 1).val + u.val, 0, 0] := by decide +kernel
theorem off3_eq : ∀ (i : grid0.Coords) (u : Fin 2),
    k0_off3 i (BitVec.ofNat 32 u.val) = ![0, 2 * (i 1).val + u.val, 0, 0] := by decide +kernel
theorem off4_eq : ∀ (i : grid0.Coords) (u : Fin 2),
    k0_off4 i (BitVec.ofNat 32 u.val) = ![0, 512 * (2 * ((i 1).val + 1) + u.val), 0] := by decide +kernel
theorem off5_eq : ∀ (i : grid0.Coords) (u : Fin 2),
    k0_off5 i (BitVec.ofNat 32 u.val) = ![0, 2 * ((i 1).val + 1) + u.val, 0, 0] := by decide +kernel
theorem off6_eq : ∀ (i : grid0.Coords) (u : Fin 2),
    k0_off6 i (BitVec.ofNat 32 u.val) = ![0, 2 * ((i 1).val + 1) + u.val, 0, 0] := by decide +kernel
theorem off7_eq : ∀ (i : grid0.Coords) (k : Fin (k0_t1_loop i).trips) (u : Fin 4),
    k0_off7 i k (BitVec.ofNat 32 u.val) = ![0, 512 * (quad i k.val + u.val), 0] := by decide +kernel
theorem off8_eq : ∀ (i : grid0.Coords) (k : Fin (k0_t1_loop i).trips) (u : Fin 4),
    k0_off8 i k (BitVec.ofNat 32 u.val) = ![0, quad i k.val + u.val, 0, 0] := by decide +kernel
theorem off9_eq : ∀ (i : grid0.Coords) (k : Fin (k0_t1_loop i).trips) (u : Fin 4),
    k0_off9 i k (BitVec.ofNat 32 u.val) = ![0, quad i k.val + u.val, 0, 0] := by decide +kernel

/-! The closed forms of the offsets the body stores at, as the symbolic run looks them up. -/

instance (i : grid0.Coords) : ClosedOff (k0_off3 i 0#32) := ⟨![0, 2 * (i 1).val, 0, 0], off3_eq i 0⟩
instance (i : grid0.Coords) : ClosedOff (k0_off3 i 1#32) := ⟨![0, 2 * (i 1).val + 1, 0, 0], off3_eq i 1⟩
instance (i : grid0.Coords) : ClosedOff (k0_off6 i 0#32) := ⟨![0, 2 * ((i 1).val + 1), 0, 0], off6_eq i 0⟩
instance (i : grid0.Coords) : ClosedOff (k0_off6 i 1#32) := ⟨![0, 2 * ((i 1).val + 1) + 1, 0, 0], off6_eq i 1⟩
instance (i : grid0.Coords) (k : Fin (k0_t1_loop i).trips) : ClosedOff (k0_off9 i k 0#32) :=
  ⟨![0, 4 * ((i 1).val / 2 + 1 + k.val), 0, 0], off9_eq i k 0⟩
instance (i : grid0.Coords) (k : Fin (k0_t1_loop i).trips) : ClosedOff (k0_off9 i k 1#32) :=
  ⟨![0, 4 * ((i 1).val / 2 + 1 + k.val) + 1, 0, 0], off9_eq i k 1⟩
instance (i : grid0.Coords) (k : Fin (k0_t1_loop i).trips) : ClosedOff (k0_off9 i k 2#32) :=
  ⟨![0, 4 * ((i 1).val / 2 + 1 + k.val) + 2, 0, 0], off9_eq i k 2⟩
instance (i : grid0.Coords) (k : Fin (k0_t1_loop i).trips) : ClosedOff (k0_off9 i k 3#32) :=
  ⟨![0, 4 * ((i 1).val / 2 + 1 + k.val) + 3, 0, 0], off9_eq i k 3⟩

end Cert.KernelIdeal.Hand

end
-- ==== Proof.KI.Tile.lean ====
/-
  What the body of the attention's backward call computes, in plain terms and at any arithmetic. A grid point owns a
  head and a pair of key tiles (512 keys each, `A` and `B`) and takes the query tiles (512 queries each) one by one.
  Everything is held with keys down and queries across: the probabilities of a key tile against a query tile, their
  gradient, and from these what the two tiles add to the gradients of the values, the keys and the queries.
-/
module

public import proofs.«01_k».proof.Proof.KI.Offsets
public import Idealize.ShloMosaic.Lib.ValueIdxCore
public import Idealize.ShloMosaic.Lib.WritesUnit

@[expose] public section

set_option maxRecDepth 16384

noncomputable section

namespace Cert.KernelIdeal.Hand

open Cert.KernelIdeal Cert.KernelIdeal.Gen
open Idealize.ShloMosaic Idealize.ShloMosaic.TcCoe Idealize.ShloMosaic.ValueIdx

variable {F : FTy → Type} [FloatOps F] [Named F]

/-! ## One key tile against one query tile -/

/-- A tile of rows without its leading axis of one. -/
def rows (x : Vec F S1x512x128 .bf16) : FVec F S512x128 .bf16 := shapeCast S512x128 x shapeCasts_S1x512x128_S512x128

/-- A number per query, laid across the queries of every key. -/
def across (x : Vec F S1x1x1x512 .f32) : FVec F S512x512 .f32 :=
  broadcastTo S512x512 (shapeCast S1x512 x shapeCasts_S1x1x1x512_S1x512) broadcasts_S1x512_S512x512

/-- The products of the rows of `a` with the rows of `x`. -/
def pairs (a : FVec F S512x128 .bf16) (x : Vec F S1x512x128 .bf16) : FVec F S512x512 .f32 :=
  matmul dot_S512x128_S512x128_S512x512_1_1_0_0_n_n none a (rows x) (constant S512x512 .f32 0x00000000#32)

/-- The probabilities: two to the score less the query's logarithm of its sum. -/
def probs (k : FVec F S512x128 .bf16) (q : Vec F S1x512x128 .bf16) (ls : Vec F S1x1x1x512 .f32) : FVec F S512x512 .f32 :=
  exp2 (subf (pairs k q) (across ls))

/-- On the diagonal a key after the query has probability zero. -/
def masked (p : FVec F S512x512 .f32) : FVec F S512x512 .f32 :=
  select (cmpi .sle (iota .tc S512x512 32 [0] iota_S512x512_d0_w32) (iota .tc S512x512 32 [1] iota_S512x512_d1_w32)) p
    (broadcast S512x512 (Scalar.ofBits .f32 0x00000000#32))

/-- The gradient of the scores: the probabilities times (the gradient of the probabilities less its mean). -/
def dScore (p : FVec F S512x512 .f32) (v : FVec F S512x128 .bf16) (o : Vec F S1x512x128 .bf16) (de : Vec F S1x1x1x512 .f32) :
    FVec F S512x512 .bf16 :=
  truncf .bf16 (mulf p (subf (pairs v o) (across de))) bitsLt_bf16_f32

/-- The key rows' sum over the queries of `w` times the query's row, added to `acc`. -/
def addRows (acc : FVec F S512x128 .f32) (w : FVec F S512x512 .bf16) (x : Vec F S1x512x128 .bf16) : FVec F S512x128 .f32 :=
  addf acc (matmul dot_S512x512_S512x128_S512x128_1_0_0_1_n_n none w (rows x) (constant S512x128 .f32 0x00000000#32))

/-- What a key tile adds to the gradient of the queries (features down, queries across). -/
def partQ (t : Vec F S1x1x128x512 .bf16) (ds : FVec F S512x512 .bf16) : FVec F S128x512 .f32 :=
  matmul dot_S128x512_S512x512_S128x512_1_0_0_1_n_n none (shapeCast S128x512 t shapeCasts_S1x1x128x512_S128x512) ds
    (constant S128x512 .f32 0x00000000#32)

/-- The query gradient's tile with `x` added. -/
def addTile (old : Vec F S1x1x128x512 .f32) (x : FVec F S128x512 .f32) : Vec F S1x1x128x512 .f32 :=
  shapeCast S1x1x128x512 (addf (shapeCast S128x512 old shapeCasts_S1x1x128x512_S128x512) x) shapeCasts_S128x512_S1x1x128x512

/-! ## What a grid point holds -/

/-- The pair of key tiles: keys, values, and the keys with features down. -/
structure Keys (F : FTy → Type) where
  kA : FVec F S512x128 .bf16
  kB : FVec F S512x128 .bf16
  vA : FVec F S512x128 .bf16
  vB : FVec F S512x128 .bf16
  tA : Vec F S1x1x128x512 .bf16
  tB : Vec F S1x1x128x512 .bf16

/-- A query tile: the queries, the cotangent's rows, the logarithms of the sums, the means. -/
structure Query (F : FTy → Type) where
  q : Vec F S1x512x128 .bf16
  o : Vec F S1x512x128 .bf16
  ls : Vec F S1x1x1x512 .f32
  de : Vec F S1x1x1x512 .f32

/-- The running sums: the gradients of the keys and of the values of tile `A`, then of tile `B`. -/
abbrev Sums (F : FTy → Type) := FVec F S512x128 .f32 × FVec F S512x128 .f32 × FVec F S512x128 .f32 × FVec F S512x128 .f32

/-- A head's queries, cotangent, logarithms and means, whole. -/
structure Head (F : FTy → Type) where
  q : Vec F S1x16384x128 .bf16
  o : Vec F S1x16384x128 .bf16
  ls : Vec F S1x32x1x512 .f32
  de : Vec F S1x32x1x512 .f32

/-- The rows of query tile `j`. -/
def rowsAt (X : Vec F S1x16384x128 .bf16) (j : ℕ) : Vec F S1x512x128 .bf16 :=
  fun z => X (ix3 (z 0) ⟨(512 * j + (z 1).val) % 16384, Nat.mod_lt _ (by decide)⟩ (z 2))
/-- The numbers of query tile `j`. -/
def lineAt (X : Vec F S1x32x1x512 .f32) (j : ℕ) : Vec F S1x1x1x512 .f32 :=
  fun z => X (ix4 (z 0) ⟨j % 32, Nat.mod_lt _ (by decide)⟩ (z 2) (z 3))
/-- Query tile `j` of the query gradient. -/
def tileAt (X : Vec F S1x32x128x512 .f32) (j : ℕ) : Vec F S1x1x128x512 .f32 :=
  fun z => X (ix4 (z 0) ⟨j % 32, Nat.mod_lt _ (by decide)⟩ (z 2) (z 3))
/-- The query gradient with tile `j` replaced. -/
def putTile (X : Vec F S1x32x128x512 .f32) (j : ℕ) (w : Vec F S1x1x128x512 .f32) : Vec F S1x32x128x512 .f32 :=
  fun y => if (y 1).val = j % 32 then w (ix4 (y 0) 0 (y 2) (y 3)) else X y

/-- Key tile `u` of the pair, features down. -/
def colsAt (X : Vec F S1x2x128x512 .bf16) (u : ℕ) : Vec F S1x1x128x512 .bf16 :=
  fun z => X (ix4 (z 0) ⟨u % 2, Nat.mod_lt _ (by decide)⟩ (z 2) (z 3))

/-- Query tile `j` of a head. -/
def Head.tile (H : Head F) (j : ℕ) : Query F := ⟨rowsAt H.q j, rowsAt H.o j, lineAt H.ls j, lineAt H.de j⟩

/-! ## A step: both key tiles against one query tile -/

/-- The sums after a query tile whose probabilities are `pA` and `pB`. -/
def sumsOf (B : Keys F) (T : Query F) (pA pB : FVec F S512x512 .f32) (s : Sums F) : Sums F :=
  (addRows s.1 (dScore pA B.vA T.o T.de) T.q, addRows s.2.1 (truncf .bf16 pA bitsLt_bf16_f32) T.o,
    addRows s.2.2.1 (dScore pB B.vB T.o T.de) T.q, addRows s.2.2.2 (truncf .bf16 pB bitsLt_bf16_f32) T.o)

/-- What the pair adds to the query tile's gradient. -/
def bothQ (B : Keys F) (T : Query F) (pA pB : FVec F S512x512 .f32) : FVec F S128x512 .f32 :=
  addf (partQ B.tA (dScore pA B.vA T.o T.de)) (partQ B.tB (dScore pB B.vB T.o T.de))

/-- The sums and the query gradient after a query tile behind both key tiles. -/
def step (B : Keys F) (H : Head F) (j : ℕ) (s : Sums F × Vec F S1x32x128x512 .f32) : Sums F × Vec F S1x32x128x512 .f32 :=
  (sumsOf B (H.tile j) (probs B.kA (H.tile j).q (H.tile j).ls) (probs B.kB (H.tile j).q (H.tile j).ls) s.1,
    putTile s.2 j (addTile (tileAt s.2 j)
      (bothQ B (H.tile j) (probs B.kA (H.tile j).q (H.tile j).ls) (probs B.kB (H.tile j).q (H.tile j).ls))))

/-- `n` steps from query tile `j` on. -/
def steps (B : Keys F) (H : Head F) (j : ℕ) : ℕ → Sums F × Vec F S1x32x128x512 .f32 → Sums F × Vec F S1x32x128x512 .f32
  | 0, s => s
  | n + 1, s => step B H (j + n) (steps B H j n s)

theorem steps_zero (B : Keys F) (H : Head F) (j : ℕ) (s) : steps B H j 0 s = s := rfl
theorem steps_succ (B : Keys F) (H : Head F) (j n : ℕ) (s) : steps B H j (n + 1) s = step B H (j + n) (steps B H j n s) := rfl

theorem steps_add (B : Keys F) (H : Head F) (j a b : ℕ) (s) :
    steps B H j (a + b) s = steps B H (j + a) b (steps B H j a s) := by
  induction b with
  | zero => rfl
  | succ b ih => rw [← Nat.add_assoc, steps_succ, ih, steps_succ, Nat.add_assoc]

/-- The sums before any tile. -/
def zeros : FVec F S512x128 .f32 := broadcast S512x128 (Scalar.ofBits .f32 0x00000000#32)
/-- The query gradient before any tile. -/
def zerosQ : Vec F S1x32x128x512 .f32 :=
  shapeCast S1x32x128x512 (broadcast S32x128x512 (Scalar.ofBits (F := F) .f32 0x00000000#32)) shapeCasts_S32x128x512_S1x32x128x512

/-- The first query tile of pair `p`: tile `A` on its diagonal, tile `B` behind. -/
def first (B : Keys F) (H : Head F) (p : ℕ) (X : Vec F S1x32x128x512 .f32) : Sums F × Vec F S1x32x128x512 .f32 :=
  let T := H.tile (2 * p)
  let pA := masked (probs B.kA T.q T.ls)
  ((addRows zeros (dScore pA B.vA T.o T.de) T.q, addRows zeros (truncf .bf16 pA bitsLt_bf16_f32) T.o, zeros, zeros),
    putTile X (2 * p) (addTile (tileAt X (2 * p)) (partQ B.tA (dScore pA B.vA T.o T.de))))

/-- The second: tile `A` behind it, tile `B` on its diagonal. -/
def second (B : Keys F) (H : Head F) (p : ℕ) (s : Sums F × Vec F S1x32x128x512 .f32) : Sums F × Vec F S1x32x128x512 .f32 :=
  let T := H.tile (2 * p + 1)
  let pA := probs B.kA T.q T.ls
  let pB := masked (probs B.kB T.q T.ls)
  (sumsOf B T pA pB s.1, putTile s.2 (2 * p + 1) (addTile (tileAt s.2 (2 * p + 1)) (bothQ B T pA pB)))

/-- All the query tiles of pair `p`, the query gradient holding `X` at the start. -/
def whole (B : Keys F) (H : Head F) (p : ℕ) (X : Vec F S1x32x128x512 .f32) : Sums F × Vec F S1x32x128x512 .f32 :=
  steps B H (2 * p + 2) (30 - 2 * p) (second B H p (first B H p X))

/-! ## Tiles of the query gradient -/

theorem tileAt_putTile_ne (X : Vec F S1x32x128x512 .f32) (w) {j j' : ℕ} (h : j % 32 ≠ j' % 32) :
    tileAt (putTile X j' w) j = tileAt X j := by
  funext z; unfold tileAt putTile; rw [if_neg h]

theorem tileAt_putTile (X : Vec F S1x32x128x512 .f32) (w) (j : ℕ) : tileAt (putTile X j w) j = w := by
  funext z
  have h1 : z 1 = (0 : Fin 1) := Subsingleton.elim (α := Fin 1) _ _
  unfold tileAt putTile
  rw [if_pos rfl]
  congr 1
  rw [eq_ix4 z]
  funext a
  match a with
  | ⟨0, _⟩ => rfl
  | ⟨1, _⟩ => exact h1.symm
  | ⟨2, _⟩ => rfl
  | ⟨3, _⟩ => rfl

/-- The sums after a query tile behind both key tiles. -/
def sumsStep (B : Keys F) (T : Query F) (s : Sums F) : Sums F := sumsOf B T (probs B.kA T.q T.ls) (probs B.kB T.q T.ls) s
theorem sumsStep_dkA (B : Keys F) (T : Query F) (s : Sums F) :
    (sumsStep B T s).1 = addRows s.1 (dScore (probs B.kA T.q T.ls) B.vA T.o T.de) T.q := rfl
theorem sumsStep_dvA (B : Keys F) (T : Query F) (s : Sums F) :
    (sumsStep B T s).2.1 = addRows s.2.1 (truncf .bf16 (probs B.kA T.q T.ls) bitsLt_bf16_f32) T.o := rfl
theorem sumsStep_dkB (B : Keys F) (T : Query F) (s : Sums F) :
    (sumsStep B T s).2.2.1 = addRows s.2.2.1 (dScore (probs B.kB T.q T.ls) B.vB T.o T.de) T.q := rfl
theorem sumsStep_dvB (B : Keys F) (T : Query F) (s : Sums F) :
    (sumsStep B T s).2.2.2 = addRows s.2.2.2 (truncf .bf16 (probs B.kB T.q T.ls) bitsLt_bf16_f32) T.o := rfl
/-- What the pair adds to the gradient of a query tile behind both. -/
def bothStep (B : Keys F) (T : Query F) : FVec F S128x512 .f32 := bothQ B T (probs B.kA T.q T.ls) (probs B.kB T.q T.ls)

theorem steps_four_fst (B : Keys F) (H : Head F) (j : ℕ) (s : Sums F × Vec F S1x32x128x512 .f32) :
    (steps B H j 4 s).1 = sumsStep B (H.tile (j + 3)) (sumsStep B (H.tile (j + 2)) (sumsStep B (H.tile (j + 1))
      (sumsStep B (H.tile (j + 0)) s.1))) := rfl

/-- Four steps on the query gradient: each tile gains what the pair adds to it. -/
theorem steps_four_snd (B : Keys F) (H : Head F) (j : ℕ) (hj : j + 3 < 32) (s : Sums F × Vec F S1x32x128x512 .f32) :
    (steps B H j 4 s).2 = putTile (putTile (putTile (putTile s.2
      (j + 0) (addTile (tileAt s.2 (j + 0)) (bothStep B (H.tile (j + 0)))))
      (j + 1) (addTile (tileAt s.2 (j + 1)) (bothStep B (H.tile (j + 1)))))
      (j + 2) (addTile (tileAt s.2 (j + 2)) (bothStep B (H.tile (j + 2)))))
      (j + 3) (addTile (tileAt s.2 (j + 3)) (bothStep B (H.tile (j + 3)))) := by
  have h1 : (steps B H j 1 s).2 = putTile s.2 (j + 0) (addTile (tileAt s.2 (j + 0)) (bothStep B (H.tile (j + 0)))) := rfl
  have h2 : (steps B H j 2 s).2 = putTile (steps B H j 1 s).2 (j + 1)
    (addTile (tileAt (steps B H j 1 s).2 (j + 1)) (bothStep B (H.tile (j + 1)))) := rfl
  have h3 : (steps B H j 3 s).2 = putTile (steps B H j 2 s).2 (j + 2)
    (addTile (tileAt (steps B H j 2 s).2 (j + 2)) (bothStep B (H.tile (j + 2)))) := rfl
  have h4 : (steps B H j 4 s).2 = putTile (steps B H j 3 s).2 (j + 3)
    (addTile (tileAt (steps B H j 3 s).2 (j + 3)) (bothStep B (H.tile (j + 3)))) := rfl
  rw [h4, h3, h2, h1, tileAt_putTile_ne, tileAt_putTile_ne, tileAt_putTile_ne, tileAt_putTile_ne, tileAt_putTile_ne,
    tileAt_putTile_ne] <;> omega

theorem steps_two_fst (B : Keys F) (H : Head F) (j : ℕ) (s : Sums F × Vec F S1x32x128x512 .f32) :
    (steps B H j 2 s).1 = sumsStep B (H.tile (j + 1)) (sumsStep B (H.tile (j + 0)) s.1) := rfl

/-- Two steps on the query gradient. -/
theorem steps_two_snd (B : Keys F) (H : Head F) (j : ℕ) (hj : j + 1 < 32) (s : Sums F × Vec F S1x32x128x512 .f32) :
    (steps B H j 2 s).2 = putTile (putTile s.2
      (j + 0) (addTile (tileAt s.2 (j + 0)) (bothStep B (H.tile (j + 0)))))
      (j + 1) (addTile (tileAt s.2 (j + 1)) (bothStep B (H.tile (j + 1)))) := by
  have h1 : (steps B H j 1 s).2 = putTile s.2 (j + 0) (addTile (tileAt s.2 (j + 0)) (bothStep B (H.tile (j + 0)))) := rfl
  have h2 : (steps B H j 2 s).2 = putTile (steps B H j 1 s).2 (j + 1)
    (addTile (tileAt (steps B H j 1 s).2 (j + 1)) (bothStep B (H.tile (j + 1)))) := rfl
  rw [h2, h1, tileAt_putTile_ne]
  omega

/-! ## Loads and stores through a whole buffer -/

variable {sp : Space}

theorem readAt_rows (m : Memref sig .tc sp S1x16384x128 .bf16) (f : m.view.ty.Contents (Elt F)) {off : Fin 3 → ℕ} {j : ℕ}
    (hoff : off = ![0, 512 * j, 0]) (inb : ∀ a, off a + S1x512x128.size a ≤ S1x16384x128.size a) :
    m.view.readAt (Elt F) (Rect.unit (s := S1x16384x128) off S1x512x128.size inb).toLoadRect f = rowsAt (m.view.read (Elt F) f) j := by
  subst hoff
  funext z
  have hj : 512 * j + 512 ≤ 16384 := inb 1
  show m.view.read (Elt F) f _ = _
  unfold rowsAt
  congr 1
  funext a
  match a with
  | ⟨0, _⟩ => exact Subsingleton.elim (α := Fin 1) _ _
  | ⟨1, _⟩ =>
    apply Fin.ext
    have hz : (z 1).val < 512 := (z 1).isLt
    show 512 * j + 1 * (z 1).val = (512 * j + (z 1).val) % 16384
    omega
  | ⟨2, _⟩ =>
    apply Fin.ext
    show 0 + 1 * (z 2).val = (z 2).val
    omega

/-- The first or the second 512 rows of a pair. -/
def halfAt (X : Vec F S1x1024x128 .bf16) (u : ℕ) : Vec F S1x512x128 .bf16 :=
  fun z => X (ix3 (z 0) ⟨(512 * u + (z 1).val) % 1024, Nat.mod_lt _ (by decide)⟩ (z 2))

theorem readAt_half (m : Memref sig .tc sp S1x1024x128 .bf16) (f : m.view.ty.Contents (Elt F)) {off : Fin 3 → ℕ} {u : ℕ}
    (hoff : off = ![0, 512 * u, 0]) (inb : ∀ a, off a + S1x512x128.size a ≤ S1x1024x128.size a) :
    m.view.readAt (Elt F) (Rect.unit (s := S1x1024x128) off S1x512x128.size inb).toLoadRect f = halfAt (m.view.read (Elt F) f) u := by
  subst hoff
  funext z
  have hj : 512 * u + 512 ≤ 1024 := inb 1
  show m.view.read (Elt F) f _ = _
  unfold halfAt
  congr 1
  funext a
  match a with
  | ⟨0, _⟩ => exact Subsingleton.elim (α := Fin 1) _ _
  | ⟨1, _⟩ =>
    apply Fin.ext
    have hz : (z 1).val < 512 := (z 1).isLt
    show 512 * u + 1 * (z 1).val = (512 * u + (z 1).val) % 1024
    omega
  | ⟨2, _⟩ =>
    apply Fin.ext
    show 0 + 1 * (z 2).val = (z 2).val
    omega

theorem readAt_line (m : Memref sig .tc sp S1x32x1x512 .f32) (f : m.view.ty.Contents (Elt F)) {off : Fin 4 → ℕ} {j : ℕ}
    (hoff : off = ![0, j, 0, 0]) (inb : ∀ a, off a + S1x1x1x512.size a ≤ S1x32x1x512.size a) :
    m.view.readAt (Elt F) (Rect.unit (s := S1x32x1x512) off S1x1x1x512.size inb).toLoadRect f = lineAt (m.view.read (Elt F) f) j := by
  subst hoff
  funext z
  have hj : j + 1 ≤ 32 := inb 1
  show m.view.read (Elt F) f _ = _
  unfold lineAt
  congr 1
  funext a
  match a with
  | ⟨0, _⟩ => exact Subsingleton.elim (α := Fin 1) _ _
  | ⟨1, _⟩ =>
    apply Fin.ext
    have hz : (z 1).val < 1 := (z 1).isLt
    show j + 1 * (z 1).val = j % 32
    omega
  | ⟨2, _⟩ => exact Subsingleton.elim (α := Fin 1) _ _
  | ⟨3, _⟩ =>
    apply Fin.ext
    show 0 + 1 * (z 3).val = (z 3).val
    omega

theorem readAt_tile (m : Memref sig .tc sp S1x32x128x512 .f32) (f : m.view.ty.Contents (Elt F)) {off : Fin 4 → ℕ} {j : ℕ}
    (hoff : off = ![0, j, 0, 0]) (inb : ∀ a, off a + S1x1x128x512.size a ≤ S1x32x128x512.size a) :
    m.view.readAt (Elt F) (Rect.unit (s := S1x32x128x512) off S1x1x128x512.size inb).toLoadRect f = tileAt (m.view.read (Elt F) f) j := by
  subst hoff
  funext z
  have hj : j + 1 ≤ 32 := inb 1
  show m.view.read (Elt F) f _ = _
  unfold tileAt
  congr 1
  funext a
  match a with
  | ⟨0, _⟩ => exact Subsingleton.elim (α := Fin 1) _ _
  | ⟨1, _⟩ =>
    apply Fin.ext
    have hz : (z 1).val < 1 := (z 1).isLt
    show j + 1 * (z 1).val = j % 32
    omega
  | ⟨2, _⟩ =>
    apply Fin.ext
    show 0 + 1 * (z 2).val = (z 2).val
    omega
  | ⟨3, _⟩ =>
    apply Fin.ext
    show 0 + 1 * (z 3).val = (z 3).val
    omega

theorem readAt_cols (m : Memref sig .tc sp S1x2x128x512 .bf16) (f : m.view.ty.Contents (Elt F)) {off : Fin 4 → ℕ} {u : ℕ}
    (hoff : off = ![0, u, 0, 0]) (inb : ∀ a, off a + S1x1x128x512.size a ≤ S1x2x128x512.size a) :
    m.view.readAt (Elt F) (Rect.unit (s := S1x2x128x512) off S1x1x128x512.size inb).toLoadRect f = colsAt (m.view.read (Elt F) f) u := by
  subst hoff
  funext z
  have hj : u + 1 ≤ 2 := inb 1
  show m.view.read (Elt F) f _ = _
  unfold colsAt
  congr 1
  funext a
  match a with
  | ⟨0, _⟩ => exact Subsingleton.elim (α := Fin 1) _ _
  | ⟨1, _⟩ =>
    apply Fin.ext
    have hz : (z 1).val < 1 := (z 1).isLt
    show u + 1 * (z 1).val = u % 2
    omega
  | ⟨2, _⟩ =>
    apply Fin.ext
    show 0 + 1 * (z 2).val = (z 2).val
    omega
  | ⟨3, _⟩ =>
    apply Fin.ext
    show 0 + 1 * (z 3).val = (z 3).val
    omega

theorem read_put (m : Memref sig .tc sp S1x32x128x512 .f32) (f : m.view.ty.Contents (Elt F))
    (L : List (View.Piece (Elt F) S1x32x128x512 .f32)) {off : Fin 4 → ℕ} {j : ℕ}
    (hoff : off = ![0, j, 0, 0]) (inb : ∀ a, off a + S1x1x128x512.size a ≤ S1x32x128x512.size a)
    (w : (Rect.unit (s := S1x32x128x512) off S1x1x128x512.size inb).shape.Idx → Elt F .f32) :
    m.view.read (Elt F) (m.view.writes (Elt F) f (⟨Rect.unit (s := S1x32x128x512) off S1x1x128x512.size inb, w⟩ :: L))
      = putTile (m.view.read (Elt F) (m.view.writes (Elt F) f L)) j w := by
  have hj : j + 1 ≤ 32 := by have := inb 1; rw [hoff] at this; exact this
  funext y
  unfold putTile
  split
  case isTrue h =>
    refine View.read_writes_cons_unit_of_mem (v := m.view) (f := f) inb w L y (ix4 (y 0) (0 : Fin 1) (y 2) (y 3)) hoff ?_
    intro a
    match a with
    | ⟨0, _⟩ => show _ = 0 + _; rw [Nat.zero_add]; rfl
    | ⟨1, _⟩ => show (y 1).val = j + 0; omega
    | ⟨2, _⟩ => show _ = 0 + _; rw [Nat.zero_add]; rfl
    | ⟨3, _⟩ => show _ = 0 + _; rw [Nat.zero_add]; rfl
  case isFalse h =>
    refine View.read_writes_cons_unit_of_not_mem (v := m.view) (f := f) inb w L y hoff 1 ?_
    show (y 1).val < j ∨ j + 1 ≤ (y 1).val
    omega

end Cert.KernelIdeal.Hand

end
-- ==== Proof.KI.Trip.lean ====
/-
  One trip of the body's loop over query tiles: it takes four query tiles, each against both key tiles.
-/
module
public import proofs.«01_k».proof.Proof.KI.Tile
public import proofs.«01_k».proof.Proof.Gen.KernelIdeal.Loops
public import proofs.«01_k».proof.Proof.Gen.KernelIdeal.Frame
public import Idealize.ShloMosaic.Lib.LoopRemainder

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F] [Named F]

local notation "𝕄" => MT nD τ sig Unit (Elt F) ℕ (UR sig nD τ) ℕ

/-- The key tiles a trip holds. -/
abbrev keysOf (arg4 : Memref sig .tc .vmem S1x2x128x512 .bf16) (v4 v6 v8 v10 : FVec F S512x128 .bf16)
    (f4 : arg4.view.ty.Contents (Elt F)) : Keys F :=
  ⟨v4, v6, v8, v10, colsAt (arg4.view.read (Elt F) f4) 0, colsAt (arg4.view.read (Elt F) f4) 1⟩

/-- The head a trip holds. -/
abbrev headOf (arg2 arg6 : Memref sig .tc .vmem S1x16384x128 .bf16) (arg7 arg8 : Memref sig .tc .vmem S1x32x1x512 .f32)
    (f2 : arg2.view.ty.Contents (Elt F)) (f6 : arg6.view.ty.Contents (Elt F)) (f7 : arg7.view.ty.Contents (Elt F))
    (f8 : arg8.view.ty.Contents (Elt F)) : Head F :=
  ⟨arg2.view.read (Elt F) f2, arg6.view.read (Elt F) f6, arg7.view.read (Elt F) f7, arg8.view.read (Elt F) f8⟩

section Loads

variable (arg2 arg6 : Memref sig .tc .vmem S1x16384x128 .bf16) (arg4 : Memref sig .tc .vmem S1x2x128x512 .bf16)
  (arg7 arg8 : Memref sig .tc .vmem S1x32x1x512 .f32)
  (f2 : arg2.view.ty.Contents (Elt F)) (f4 : arg4.view.ty.Contents (Elt F)) (f6 : arg6.view.ty.Contents (Elt F))
  (f7 : arg7.view.ty.Contents (Elt F)) (f8 : arg8.view.ty.Contents (Elt F))

/-- The key tiles as the body loads them. -/
abbrev loadKeys (v4 v6 v8 v10 : FVec F S512x128 .bf16) : Keys F :=
  ⟨v4, v6, v8, v10,
    arg4.view.readAt (Elt F) (Rect.unit (s := S1x2x128x512) ![0, 0, 0, 0] S1x1x128x512.size
      inb_S1x2x128x512_S1x1x128x512_0_0_0_0).toLoadRect f4,
    arg4.view.readAt (Elt F) (Rect.unit (s := S1x2x128x512) ![0, 1, 0, 0] S1x1x128x512.size
      inb_S1x2x128x512_S1x1x128x512_0_1_0_0).toLoadRect f4⟩

theorem loadKeys_eq (v4 v6 v8 v10 : FVec F S512x128 .bf16) :
    loadKeys arg4 f4 v4 v6 v8 v10 = keysOf arg4 v4 v6 v8 v10 f4 := by
  unfold loadKeys
  rw [readAt_cols (u := 0) arg4 f4 rfl, readAt_cols (u := 1) arg4 f4 rfl]

/-- A query tile as the body loads it: rows at the offsets `r`, numbers at the offsets `l`. -/
abbrev loadQuery (r : Fin 3 → ℕ) (l : Fin 4 → ℕ) (hr : ∀ a, r a + S1x512x128.size a ≤ S1x16384x128.size a)
    (hl : ∀ a, l a + S1x1x1x512.size a ≤ S1x32x1x512.size a) : Query F :=
  ⟨arg2.view.readAt (Elt F) (Rect.unit (s := S1x16384x128) r S1x512x128.size hr).toLoadRect f2,
    arg6.view.readAt (Elt F) (Rect.unit (s := S1x16384x128) r S1x512x128.size hr).toLoadRect f6,
    arg7.view.readAt (Elt F) (Rect.unit (s := S1x32x1x512) l S1x1x1x512.size hl).toLoadRect f7,
    arg8.view.readAt (Elt F) (Rect.unit (s := S1x32x1x512) l S1x1x1x512.size hl).toLoadRect f8⟩

theorem loadQuery_eq {r : Fin 3 → ℕ} {l : Fin 4 → ℕ} {j : ℕ} (er : r = ![0, 512 * j, 0]) (el : l = ![0, j, 0, 0]) (hr hl) :
    loadQuery arg2 arg6 arg7 arg8 f2 f6 f7 f8 r l hr hl = (headOf arg2 arg6 arg7 arg8 f2 f6 f7 f8).tile j := by
  unfold loadQuery
  rw [readAt_rows arg2 f2 er, readAt_rows arg6 f6 er, readAt_line arg7 f7 el, readAt_line arg8 f8 el]
  rfl

end Loads

set_option maxHeartbeats 2000000 in
/-- A trip from sums `s` and a query gradient `f9`: four steps. -/
theorem trip (c : Dev nD) (i : grid0.Coords) (arg2 : Memref sig .tc .vmem S1x16384x128 .bf16) (harg2 : arg2.IsWhole) (arg3 : Memref sig .tc .vmem S1x1024x128 .bf16) (harg3 : arg3.IsWhole) (arg4 : Memref sig .tc .vmem S1x2x128x512 .bf16) (harg4 : arg4.IsWhole) (arg5 : Memref sig .tc .vmem S1x1024x128 .bf16) (harg5 : arg5.IsWhole) (arg6 : Memref sig .tc .vmem S1x16384x128 .bf16) (harg6 : arg6.IsWhole) (arg7 : Memref sig .tc .vmem S1x32x1x512 .f32) (harg7 : arg7.IsWhole) (arg8 : Memref sig .tc .vmem S1x32x1x512 .f32) (harg8 : arg8.IsWhole) (arg9 : Memref sig .tc .vmem S1x32x128x512 .f32) (harg9 : arg9.IsWhole) (arg10 : Memref sig .tc .vmem S1x1024x128 .bf16) (harg10 : arg10.IsWhole) (arg11 : Memref sig .tc .vmem S1x1024x128 .bf16) (harg11 : arg11.IsWhole) (v4 : FVec F S512x128 .bf16) (v6 : FVec F S512x128 .bf16) (v8 : FVec F S512x128 .bf16) (v10 : FVec F S512x128 .bf16) (v169_0 : FVec F S512x128 .f32) (v169_1 : FVec F S512x128 .f32) (v169_2 : FVec F S512x128 .f32) (v169_3 : FVec F S512x128 .f32) (v171 : BitVec 32) (c4_i32 : BitVec 32) (v172 : BitVec 32) (v177 : BitVec 32) (c0_i32_106 : BitVec 32) (v188 : BitVec 32)
    (f2 : arg2.view.ty.Contents (Elt F)) (f4 : arg4.view.ty.Contents (Elt F)) (f6 : arg6.view.ty.Contents (Elt F))
    (f7 : arg7.view.ty.Contents (Elt F)) (f8 : arg8.view.ty.Contents (Elt F)) (f9 : arg9.view.ty.Contents (Elt F))
    (k : Fin (k0_t1_loop i).trips) (s : Sums F)
    (Q : Sums F → sProp 𝕄)  :
    iprop((arg2.view.loc (c : Thread nD τ) ↦{fullShare} f2) ∗ (arg4.view.loc (c : Thread nD τ) ↦{fullShare} f4)
      ∗ (arg6.view.loc (c : Thread nD τ) ↦{fullShare} f6) ∗ (arg7.view.loc (c : Thread nD τ) ↦{fullShare} f7)
      ∗ (arg8.view.loc (c : Thread nD τ) ↦{fullShare} f8) ∗ (arg9.view.loc (c : Thread nD τ) ↦{fullShare} f9)
      ∗ (∀ g9 s', ⌜(s', arg9.view.read (Elt F) g9) = steps (keysOf arg4 v4 v6 v8 v10 f4) (headOf arg2 arg6 arg7 arg8 f2 f6 f7 f8)
            (quad i k) 4 (s, arg9.view.read (Elt F) f9)⌝
          -∗ (arg2.view.loc (c : Thread nD τ) ↦{fullShare} f2) -∗ (arg4.view.loc (c : Thread nD τ) ↦{fullShare} f4)
          -∗ (arg6.view.loc (c : Thread nD τ) ↦{fullShare} f6) -∗ (arg7.view.loc (c : Thread nD τ) ↦{fullShare} f7)
          -∗ (arg8.view.loc (c : Thread nD τ) ↦{fullShare} f8) -∗ (arg9.view.loc (c : Thread nD τ) ↦{fullShare} g9)
          -∗ Q s'))
    ⊢ wp frame (wpE (defs₀ (F := F)) Variants.none c none) Set.univ
        (k0_t1_body i arg2 harg2 arg3 harg3 arg4 harg4 arg5 harg5 arg6 harg6 arg7 harg7 arg8 harg8 arg9 harg9 arg10 harg10 arg11 harg11 v4 v6 v8 v10 v169_0 v169_1 v169_2 v169_3 v171 c4_i32 v172 v177 c0_i32_106 v188 k s) Q := by
  unfold k0_t1_body
  iintro ⟨H2, H4, H6, H7, H8, H9, HQ⟩
  obtain ⟨s1, s2, s3, s4⟩ := s
  sl_exec
  have ht : ∀ u : Fin 4, k0_off9 i k (BitVec.ofNat 32 u.val) = ![0, quad i k + u.val, 0, 0] := off9_eq i k
  have t0 : k0_off9 i k 0#32 = _ := ht 0
  have t1 : k0_off9 i k 1#32 = _ := ht 1
  have t2 : k0_off9 i k 2#32 = _ := ht 2
  have t3 : k0_off9 i k 3#32 = _ := ht 3
  have hq : quad i k + 3 < 32 := by
    have h := k.isLt
    have h' := trips_eq i
    unfold quad
    omega
  rw [wp_ret]; imodintro
  have e0 := loadQuery_eq arg2 arg6 arg7 arg8 f2 f6 f7 f8 (r := k0_off7 i k 0#32) (l := k0_off8 i k 0#32) (off7_eq i k 0)
    (off8_eq i k 0) (k0_off7_inb i k 0) (k0_off8_inb i k 0)
  have e1 := loadQuery_eq arg2 arg6 arg7 arg8 f2 f6 f7 f8 (r := k0_off7 i k 1#32) (l := k0_off8 i k 1#32) (off7_eq i k 1)
    (off8_eq i k 1) (k0_off7_inb i k 1) (k0_off8_inb i k 1)
  have e2 := loadQuery_eq arg2 arg6 arg7 arg8 f2 f6 f7 f8 (r := k0_off7 i k 2#32) (l := k0_off8 i k 2#32) (off7_eq i k 2)
    (off8_eq i k 2) (k0_off7_inb i k 2) (k0_off8_inb i k 2)
  have e3 := loadQuery_eq arg2 arg6 arg7 arg8 f2 f6 f7 f8 (r := k0_off7 i k 3#32) (l := k0_off8 i k 3#32) (off7_eq i k 3)
    (off8_eq i k 3) (k0_off7_inb i k 3) (k0_off8_inb i k 3)
  iapply HQ $$ %_ %(_, _, _, _) [] H2 H4 H6 H7 H8 H9
  ipureintro
  refine Prod.ext ?_ ?_
  · show (_, _, _, _) = _
    rw [steps_four_fst, ← loadKeys_eq]
    refine Eq.trans ?_ (congr (congrArg (sumsStep _) e3) (congr (congrArg (sumsStep _) e2)
      (congr (congrArg (sumsStep _) e1) (congr (congrArg (sumsStep _) e0) rfl))))
    refine Prod.ext ?_ (Prod.ext ?_ (Prod.ext ?_ ?_))
    · rw [sumsStep_dkA, sumsStep_dkA, sumsStep_dkA, sumsStep_dkA]; exact rfl
    · rw [sumsStep_dvA, sumsStep_dvA, sumsStep_dvA, sumsStep_dvA]; exact rfl
    · rw [sumsStep_dkB, sumsStep_dkB, sumsStep_dkB, sumsStep_dkB]; exact rfl
    · rw [sumsStep_dvB, sumsStep_dvB, sumsStep_dvB, sumsStep_dvB]; exact rfl
  have d0 := readAt_tile arg9 f9 (off := k0_off9 i k 0#32) (off9_eq i k 0) (k0_off9_inb i k 0)
  have d1 := readAt_tile arg9 f9 (off := k0_off9 i k 1#32) (off9_eq i k 1) (k0_off9_inb i k 1)
  have d2 := readAt_tile arg9 f9 (off := k0_off9 i k 2#32) (off9_eq i k 2) (k0_off9_inb i k 2)
  have d3 := readAt_tile arg9 f9 (off := k0_off9 i k 3#32) (off9_eq i k 3) (k0_off9_inb i k 3)
  rw [steps_four_snd _ _ _ hq, ← loadKeys_eq, read_put _ _ _ t3, read_put _ _ _ t2, read_put _ _ _ t1, read_put _ _ _ t0]
  refine congr (congrArg (fun X => putTile X _) (congr (congrArg (fun X => putTile X _) (congr (congrArg (fun X => putTile X _)
    (congrArg (putTile _ _) ?_)) ?_)) ?_)) ?_
  · refine Eq.trans ?_ (congr (congrArg addTile d0) (congrArg (bothStep (loadKeys arg4 f4 v4 v6 v8 v10)) e0))
    exact rfl
  · refine Eq.trans ?_ (congr (congrArg addTile d1) (congrArg (bothStep (loadKeys arg4 f4 v4 v6 v8 v10)) e1))
    exact rfl
  · refine Eq.trans ?_ (congr (congrArg addTile d2) (congrArg (bothStep (loadKeys arg4 f4 v4 v6 v8 v10)) e2))
    exact rfl
  · refine Eq.trans ?_ (congr (congrArg addTile d3) (congrArg (bothStep (loadKeys arg4 f4 v4 v6 v8 v10)) e3))
    exact rfl

end Cert.KernelIdeal.Hand
end
-- ==== Proof.KI.Parts.lean ====
/-
  The stages of the body of the attention's backward call at a grid point: the query gradient zeroed at a head's first
  point and the pair's tiles loaded, the two query tiles on the diagonal, the two that align the rest, and the loop
  with the stores of the results.
-/
module
public import proofs.«01_k».proof.Proof.KI.Trip
public import proofs.«01_k».proof.Proof.Gen.KernelIdeal.Loops
public import proofs.«01_k».proof.Proof.Gen.KernelIdeal.Frame
public import Idealize.ShloMosaic.Lib.LoopRemainder
public import Idealize.ShloMosaic.Lib.VecWindow

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F] [Named F]

local notation "𝕄" => MT nD τ sig Unit (Elt F) ℕ (UR sig nD τ) ℕ

variable (c : Dev nD) (i : grid0.Coords) (arg2 : Memref sig .tc .vmem S1x16384x128 .bf16) (harg2 : arg2.IsWhole)
  (arg3 : Memref sig .tc .vmem S1x1024x128 .bf16) (harg3 : arg3.IsWhole) (arg4 : Memref sig .tc .vmem S1x2x128x512 .bf16) (harg4 : arg4.IsWhole)
  (arg5 : Memref sig .tc .vmem S1x1024x128 .bf16) (harg5 : arg5.IsWhole) (arg6 : Memref sig .tc .vmem S1x16384x128 .bf16) (harg6 : arg6.IsWhole)
  (arg7 : Memref sig .tc .vmem S1x32x1x512 .f32) (harg7 : arg7.IsWhole) (arg8 : Memref sig .tc .vmem S1x32x1x512 .f32) (harg8 : arg8.IsWhole)
  (arg9 : Memref sig .tc .vmem S1x32x128x512 .f32) (harg9 : arg9.IsWhole) (arg10 : Memref sig .tc .vmem S1x1024x128 .bf16) (harg10 : arg10.IsWhole)
  (arg11 : Memref sig .tc .vmem S1x1024x128 .bf16) (harg11 : arg11.IsWhole)
  (f2 : arg2.view.ty.Contents (Elt F)) (f3 : arg3.view.ty.Contents (Elt F)) (f4 : arg4.view.ty.Contents (Elt F))
  (f5 : arg5.view.ty.Contents (Elt F)) (f6 : arg6.view.ty.Contents (Elt F)) (f7 : arg7.view.ty.Contents (Elt F))
  (f8 : arg8.view.ty.Contents (Elt F)) (f9 : arg9.view.ty.Contents (Elt F)) (f10 : arg10.view.ty.Contents (Elt F))
  (f11 : arg11.view.ty.Contents (Elt F))

theorem stage_init {β : Type} (κ : _ → Prog (TpuEff nD τ sig (Elt F) Λ₀ .tc) β) (Q : β → sProp 𝕄) :
    iprop((arg2.view.loc (c : Thread nD τ) ↦{fullShare} f2) ∗ (arg3.view.loc (c : Thread nD τ) ↦{fullShare} f3) ∗ (arg5.view.loc (c : Thread nD τ) ↦{fullShare} f5) ∗ (arg6.view.loc (c : Thread nD τ) ↦{fullShare} f6) ∗ (arg7.view.loc (c : Thread nD τ) ↦{fullShare} f7) ∗ (arg9.view.loc (c : Thread nD τ) ↦{fullShare} f9)
      ∗ (∀ g9 w, ⌜arg9.view.read (Elt F) g9 = if (i 1).val = 0 then zerosQ else arg9.view.read (Elt F) f9⌝ -∗
        (arg2.view.loc (c : Thread nD τ) ↦{fullShare} f2) -∗ (arg3.view.loc (c : Thread nD τ) ↦{fullShare} f3) -∗ (arg5.view.loc (c : Thread nD τ) ↦{fullShare} f5) -∗ (arg6.view.loc (c : Thread nD τ) ↦{fullShare} f6) -∗ (arg7.view.loc (c : Thread nD τ) ↦{fullShare} f7) -∗ (arg9.view.loc (c : Thread nD τ) ↦{fullShare} g9)
        -∗ wp frame (wpE (defs₀ (F := F)) Variants.none c none) Set.univ
          (κ ⟨BitVec.ofNat 32 (i 1).val, rows (halfAt (arg3.view.read (Elt F) f3) 0), rows (halfAt (arg3.view.read (Elt F) f3) 1),
            rows (halfAt (arg5.view.read (Elt F) f5) 0), rows (halfAt (arg5.view.read (Elt F) f5) 1), zeros, w,
            rows ((headOf arg2 arg6 arg7 arg8 f2 f6 f7 f8).tile (2 * (i 1).val)).q, rows ((headOf arg2 arg6 arg7 arg8 f2 f6 f7 f8).tile (2 * (i 1).val)).o,
            probs (rows (halfAt (arg3.view.read (Elt F) f3) 0)) ((headOf arg2 arg6 arg7 arg8 f2 f6 f7 f8).tile (2 * (i 1).val)).q ((headOf arg2 arg6 arg7 arg8 f2 f6 f7 f8).tile (2 * (i 1).val)).ls,
            iota .tc S512x512 32 [0] iota_S512x512_d0_w32, iota .tc S512x512 32 [1] iota_S512x512_d1_w32⟩) Q))
    ⊢ wp frame (wpE (defs₀ (F := F)) Variants.none c none) Set.univ
        (k0_part21 i arg2 harg2 arg3 harg3 arg4 harg4 arg5 harg5 arg6 harg6 arg7 harg7 arg8 harg8 arg9 harg9 arg10 harg10 arg11 harg11 >>= κ) Q := by
  rw [k0_part21_eq_skeleton]
  unfold k0_part21_skel
  iintro ⟨H2, H3, H5, H6, H7, H9, HQ⟩
  by_cases hz : (i 1).val = 0
  · have hc : (Scalar.cmpi .ne (Scalar.extui (Scalar.cmpi .eq (BitVec.ofNat 32 (i 1).val) 0#32) : BitVec 32) 0#32) = 1#1 := by
      rw [hz]; decide
    sl_exec
    rw [readAt_half arg3 f3 (u := 0) rfl, readAt_half arg3 f3 (u := 1) rfl, readAt_half arg5 f5 (u := 0) rfl,
      readAt_half arg5 f5 (u := 1) rfl, readAt_rows arg2 f2 (off := k0_off1 i 0#32) (off1_eq i 0),
      readAt_rows arg6 f6 (off := k0_off1 i 0#32) (off1_eq i 0), readAt_line arg7 f7 (off := k0_off2 i 0#32) (off2_eq i 0)]
    iapply HQ $$ %_ [] H2 H3 H5 H6 H7 H9
    ipureintro
    rw [if_pos hz]
    exact View.read_writes_full arg9.view f9 _ _ []
  · have hc : ¬ (Scalar.cmpi .ne (Scalar.extui (Scalar.cmpi .eq (BitVec.ofNat 32 (i 1).val) 0#32) : BitVec 32) 0#32) = 1#1 := by
      have h : ∀ p : Fin 16, p.val ≠ 0 → ¬ (Scalar.cmpi .ne (Scalar.extui (Scalar.cmpi .eq (BitVec.ofNat 32 p.val) 0#32) : BitVec 32) 0#32) = 1#1 := by
        decide
      exact h (i 1) hz
    sl_exec
    rw [readAt_half arg3 f3 (u := 0) rfl, readAt_half arg3 f3 (u := 1) rfl, readAt_half arg5 f5 (u := 0) rfl,
      readAt_half arg5 f5 (u := 1) rfl, readAt_rows arg2 f2 (off := k0_off1 i 0#32) (off1_eq i 0),
      readAt_rows arg6 f6 (off := k0_off1 i 0#32) (off1_eq i 0), readAt_line arg7 f7 (off := k0_off2 i 0#32) (off2_eq i 0)]
    iapply HQ $$ %_ [] H2 H3 H5 H6 H7 H9
    ipureintro
    rw [if_neg hz]

/-- The pair's first query tile: tile `A` on its diagonal. -/
theorem stage_first (p : FVec F S512x512 .f32) (v8 : FVec F S512x128 .bf16) (w v13 : BitVec 32) {β : Type} (κ : _ → Prog (TpuEff nD τ sig (Elt F) Λ₀ .tc) β) (Q : β → sProp 𝕄) :
    iprop((arg2.view.loc (c : Thread nD τ) ↦{fullShare} f2) ∗ (arg4.view.loc (c : Thread nD τ) ↦{fullShare} f4) ∗ (arg8.view.loc (c : Thread nD τ) ↦{fullShare} f8) ∗ (arg9.view.loc (c : Thread nD τ) ↦{fullShare} f9)
      ∗ (∀ g9 v, ⌜arg9.view.read (Elt F) g9 = putTile (arg9.view.read (Elt F) f9) (2 * (i 1).val) (addTile (tileAt (arg9.view.read (Elt F) f9) (2 * (i 1).val))
          (partQ (colsAt (arg4.view.read (Elt F) f4) 0) (dScore (masked p) v8 ((headOf arg2 arg6 arg7 arg8 f2 f6 f7 f8).tile (2 * (i 1).val)).o ((headOf arg2 arg6 arg7 arg8 f2 f6 f7 f8).tile (2 * (i 1).val)).de)))⌝ -∗
        (arg2.view.loc (c : Thread nD τ) ↦{fullShare} f2) -∗ (arg4.view.loc (c : Thread nD τ) ↦{fullShare} f4) -∗ (arg8.view.loc (c : Thread nD τ) ↦{fullShare} f8) -∗ (arg9.view.loc (c : Thread nD τ) ↦{fullShare} g9)
        -∗ wp frame (wpE (defs₀ (F := F)) Variants.none c none) Set.univ (κ ⟨addRows zeros (truncf .bf16 (masked p) bitsLt_bf16_f32) ((headOf arg2 arg6 arg7 arg8 f2 f6 f7 f8).tile (2 * (i 1).val)).o,
            addRows zeros (dScore (masked p) v8 ((headOf arg2 arg6 arg7 arg8 f2 f6 f7 f8).tile (2 * (i 1).val)).o ((headOf arg2 arg6 arg7 arg8 f2 f6 f7 f8).tile (2 * (i 1).val)).de) ((headOf arg2 arg6 arg7 arg8 f2 f6 f7 f8).tile (2 * (i 1).val)).q, v, rows ((headOf arg2 arg6 arg7 arg8 f2 f6 f7 f8).tile (2 * (i 1).val + 1)).q⟩) Q))
    ⊢ wp frame (wpE (defs₀ (F := F)) Variants.none c none) Set.univ (k0_part22 i arg2 harg2 arg3 harg3 arg4 harg4 arg5 harg5 arg6 harg6 arg7 harg7 arg8 harg8 arg9 harg9 arg10 harg10 arg11 harg11 w v8 zeros v13 (rows ((headOf arg2 arg6 arg7 arg8 f2 f6 f7 f8).tile (2 * (i 1).val)).q) (rows ((headOf arg2 arg6 arg7 arg8 f2 f6 f7 f8).tile (2 * (i 1).val)).o) p (iota .tc S512x512 32 [0] iota_S512x512_d0_w32) (iota .tc S512x512 32 [1] iota_S512x512_d1_w32) >>= κ) Q := by
  rw [k0_part22_eq_skeleton]
  unfold k0_part22_skel
  iintro ⟨H2, H4, H8, H9, HQ⟩
  sl_exec
  rw [readAt_line arg8 f8 (off := k0_off2 i 0#32) (off2_eq i 0), readAt_rows arg2 f2 (off := k0_off1 i 1#32) (off1_eq i 1)]
  iapply HQ $$ %_ %_ [] H2 H4 H8 H9
  ipureintro
  rw [read_put arg9 f9 [] (off := k0_off3 i 0#32) (off3_eq i 0), readAt_cols (u := 0) arg4 f4 rfl,
    readAt_tile arg9 f9 (off := k0_off3 i 0#32) (off3_eq i 0)]
  rfl

/-- The second query tile against tile `A`, which lies behind it. -/
theorem stage_behind (v4 v6 v8 : FVec F S512x128 .bf16) (v36 v46 : FVec F S512x128 .f32) (w : BitVec 32) {β : Type} (κ : _ → Prog (TpuEff nD τ sig (Elt F) Λ₀ .tc) β) (Q : β → sProp 𝕄) :
    iprop((arg2.view.loc (c : Thread nD τ) ↦{fullShare} f2) ∗ (arg4.view.loc (c : Thread nD τ) ↦{fullShare} f4) ∗ (arg6.view.loc (c : Thread nD τ) ↦{fullShare} f6) ∗ (arg7.view.loc (c : Thread nD τ) ↦{fullShare} f7) ∗ (arg8.view.loc (c : Thread nD τ) ↦{fullShare} f8)
      ∗ (
        (arg2.view.loc (c : Thread nD τ) ↦{fullShare} f2) -∗ (arg4.view.loc (c : Thread nD τ) ↦{fullShare} f4) -∗ (arg6.view.loc (c : Thread nD τ) ↦{fullShare} f6) -∗ (arg7.view.loc (c : Thread nD τ) ↦{fullShare} f7) -∗ (arg8.view.loc (c : Thread nD τ) ↦{fullShare} f8)
        -∗ wp frame (wpE (defs₀ (F := F)) Variants.none c none) Set.univ (κ ⟨addRows v36 (truncf .bf16 (probs v4 ((headOf arg2 arg6 arg7 arg8 f2 f6 f7 f8).tile (2 * (i 1).val + 1)).q ((headOf arg2 arg6 arg7 arg8 f2 f6 f7 f8).tile (2 * (i 1).val + 1)).ls) bitsLt_bf16_f32) ((headOf arg2 arg6 arg7 arg8 f2 f6 f7 f8).tile (2 * (i 1).val + 1)).o,
            addRows v46 (dScore (probs v4 ((headOf arg2 arg6 arg7 arg8 f2 f6 f7 f8).tile (2 * (i 1).val + 1)).q ((headOf arg2 arg6 arg7 arg8 f2 f6 f7 f8).tile (2 * (i 1).val + 1)).ls) v8 ((headOf arg2 arg6 arg7 arg8 f2 f6 f7 f8).tile (2 * (i 1).val + 1)).o ((headOf arg2 arg6 arg7 arg8 f2 f6 f7 f8).tile (2 * (i 1).val + 1)).de) ((headOf arg2 arg6 arg7 arg8 f2 f6 f7 f8).tile (2 * (i 1).val + 1)).q,
            partQ (colsAt (arg4.view.read (Elt F) f4) 0) (dScore (probs v4 ((headOf arg2 arg6 arg7 arg8 f2 f6 f7 f8).tile (2 * (i 1).val + 1)).q ((headOf arg2 arg6 arg7 arg8 f2 f6 f7 f8).tile (2 * (i 1).val + 1)).ls) v8 ((headOf arg2 arg6 arg7 arg8 f2 f6 f7 f8).tile (2 * (i 1).val + 1)).o ((headOf arg2 arg6 arg7 arg8 f2 f6 f7 f8).tile (2 * (i 1).val + 1)).de),
            rows ((headOf arg2 arg6 arg7 arg8 f2 f6 f7 f8).tile (2 * (i 1).val + 1)).q, rows ((headOf arg2 arg6 arg7 arg8 f2 f6 f7 f8).tile (2 * (i 1).val + 1)).o, pairs v6 ((headOf arg2 arg6 arg7 arg8 f2 f6 f7 f8).tile (2 * (i 1).val + 1)).q⟩) Q))
    ⊢ wp frame (wpE (defs₀ (F := F)) Variants.none c none) Set.univ (k0_part23 i arg2 harg2 arg3 harg3 arg4 harg4 arg5 harg5 arg6 harg6 arg7 harg7 arg8 harg8 arg9 harg9 arg10 harg10 arg11 harg11 v4 v6 v8 v36 v46 w (rows ((headOf arg2 arg6 arg7 arg8 f2 f6 f7 f8).tile (2 * (i 1).val + 1)).q) >>= κ) Q := by
  rw [k0_part23_eq_skeleton]
  unfold k0_part23_skel
  iintro ⟨H2, H4, H6, H7, H8, HQ⟩
  sl_exec
  rw [readAt_line arg8 f8 (off := k0_off2 i 1#32) (off2_eq i 1), readAt_line arg7 f7 (off := k0_off2 i 1#32) (off2_eq i 1),
    readAt_rows arg2 f2 (off := k0_off1 i 1#32) (off1_eq i 1), readAt_rows arg6 f6 (off := k0_off1 i 1#32) (off1_eq i 1),
    readAt_cols (u := 0) arg4 f4 rfl]
  iapply HQ $$ H2 H4 H6 H7 H8

/-- The second query tile against tile `B` on its diagonal. -/
theorem stage_second (v10 : FVec F S512x128 .bf16) (v90 : FVec F S128x512 .f32) (v99 : FVec F S512x512 .f32) (w w' : BitVec 32) {β : Type} (κ : _ → Prog (TpuEff nD τ sig (Elt F) Λ₀ .tc) β) (Q : β → sProp 𝕄) :
    iprop((arg4.view.loc (c : Thread nD τ) ↦{fullShare} f4) ∗ (arg7.view.loc (c : Thread nD τ) ↦{fullShare} f7) ∗ (arg8.view.loc (c : Thread nD τ) ↦{fullShare} f8) ∗ (arg9.view.loc (c : Thread nD τ) ↦{fullShare} f9)
      ∗ (∀ g9 v v', ⌜arg9.view.read (Elt F) g9 = putTile (arg9.view.read (Elt F) f9) (2 * (i 1).val + 1) (addTile (tileAt (arg9.view.read (Elt F) f9) (2 * (i 1).val + 1))
          (addf v90 (partQ (colsAt (arg4.view.read (Elt F) f4) 1) (dScore (masked (exp2 (subf v99 (across ((headOf arg2 arg6 arg7 arg8 f2 f6 f7 f8).tile (2 * (i 1).val + 1)).ls)))) v10 ((headOf arg2 arg6 arg7 arg8 f2 f6 f7 f8).tile (2 * (i 1).val + 1)).o ((headOf arg2 arg6 arg7 arg8 f2 f6 f7 f8).tile (2 * (i 1).val + 1)).de))))⌝ -∗
        (arg4.view.loc (c : Thread nD τ) ↦{fullShare} f4) -∗ (arg7.view.loc (c : Thread nD τ) ↦{fullShare} f7) -∗ (arg8.view.loc (c : Thread nD τ) ↦{fullShare} f8) -∗ (arg9.view.loc (c : Thread nD τ) ↦{fullShare} g9)
        -∗ wp frame (wpE (defs₀ (F := F)) Variants.none c none) Set.univ (κ ⟨addRows zeros (truncf .bf16 (masked (exp2 (subf v99 (across ((headOf arg2 arg6 arg7 arg8 f2 f6 f7 f8).tile (2 * (i 1).val + 1)).ls)))) bitsLt_bf16_f32) ((headOf arg2 arg6 arg7 arg8 f2 f6 f7 f8).tile (2 * (i 1).val + 1)).o,
            addRows zeros (dScore (masked (exp2 (subf v99 (across ((headOf arg2 arg6 arg7 arg8 f2 f6 f7 f8).tile (2 * (i 1).val + 1)).ls)))) v10 ((headOf arg2 arg6 arg7 arg8 f2 f6 f7 f8).tile (2 * (i 1).val + 1)).o ((headOf arg2 arg6 arg7 arg8 f2 f6 f7 f8).tile (2 * (i 1).val + 1)).de) ((headOf arg2 arg6 arg7 arg8 f2 f6 f7 f8).tile (2 * (i 1).val + 1)).q, v, v'⟩) Q))
    ⊢ wp frame (wpE (defs₀ (F := F)) Variants.none c none) Set.univ (k0_part24 i arg2 harg2 arg3 harg3 arg4 harg4 arg5 harg5 arg6 harg6 arg7 harg7 arg8 harg8 arg9 harg9 arg10 harg10 arg11 harg11 w v10 zeros w' v90 (rows ((headOf arg2 arg6 arg7 arg8 f2 f6 f7 f8).tile (2 * (i 1).val + 1)).q) (rows ((headOf arg2 arg6 arg7 arg8 f2 f6 f7 f8).tile (2 * (i 1).val + 1)).o) v99 >>= κ) Q := by
  rw [k0_part24_eq_skeleton]
  unfold k0_part24_skel
  iintro ⟨H4, H7, H8, H9, HQ⟩
  sl_exec
  rw [readAt_line arg8 f8 (off := k0_off2 i 1#32) (off2_eq i 1), readAt_line arg7 f7 (off := k0_off2 i 1#32) (off2_eq i 1)]
  iapply HQ $$ %_ %_ %_ [] H4 H7 H8 H9
  ipureintro
  rw [read_put arg9 f9 [] (off := k0_off3 i 1#32) (off3_eq i 1), readAt_cols (u := 1) arg4 f4 rfl,
    readAt_tile arg9 f9 (off := k0_off3 i 1#32) (off3_eq i 1)]
  rfl

end Cert.KernelIdeal.Hand
end
-- ==== Proof.KI.Rest.lean ====
/-
  The rest of the body at a grid point: the two query tiles that align the loop's start, the loop, and the stores of the
  key and value gradients.
-/
module
public import proofs.«01_k».proof.Proof.KI.Parts
public import proofs.«01_k».proof.Proof.Gen.KernelIdeal.Loops
public import proofs.«01_k».proof.Proof.Gen.KernelIdeal.Frame
public import Idealize.ShloMosaic.Lib.LoopRemainder
public import Idealize.ShloMosaic.Lib.VecWindow

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F] [Named F]

local notation "𝕄" => MT nD τ sig Unit (Elt F) ℕ (UR sig nD τ) ℕ

variable (c : Dev nD) (i : grid0.Coords) (arg2 : Memref sig .tc .vmem S1x16384x128 .bf16) (harg2 : arg2.IsWhole)
  (arg3 : Memref sig .tc .vmem S1x1024x128 .bf16) (harg3 : arg3.IsWhole) (arg4 : Memref sig .tc .vmem S1x2x128x512 .bf16) (harg4 : arg4.IsWhole)
  (arg5 : Memref sig .tc .vmem S1x1024x128 .bf16) (harg5 : arg5.IsWhole) (arg6 : Memref sig .tc .vmem S1x16384x128 .bf16) (harg6 : arg6.IsWhole)
  (arg7 : Memref sig .tc .vmem S1x32x1x512 .f32) (harg7 : arg7.IsWhole) (arg8 : Memref sig .tc .vmem S1x32x1x512 .f32) (harg8 : arg8.IsWhole)
  (arg9 : Memref sig .tc .vmem S1x32x128x512 .f32) (harg9 : arg9.IsWhole) (arg10 : Memref sig .tc .vmem S1x1024x128 .bf16) (harg10 : arg10.IsWhole)
  (arg11 : Memref sig .tc .vmem S1x1024x128 .bf16) (harg11 : arg11.IsWhole)
  (f2 : arg2.view.ty.Contents (Elt F)) (f3 : arg3.view.ty.Contents (Elt F)) (f4 : arg4.view.ty.Contents (Elt F))
  (f5 : arg5.view.ty.Contents (Elt F)) (f6 : arg6.view.ty.Contents (Elt F)) (f7 : arg7.view.ty.Contents (Elt F))
  (f8 : arg8.view.ty.Contents (Elt F)) (f9 : arg9.view.ty.Contents (Elt F)) (f10 : arg10.view.ty.Contents (Elt F))
  (f11 : arg11.view.ty.Contents (Elt F))

set_option maxHeartbeats 2000000 in
/-- At an even pair two query tiles come before the loop; at an odd pair none. -/
theorem stage_half (v4 v6 v8 v10 : FVec F S512x128 .bf16) (s : Sums F) (w w' : BitVec 32) {β : Type}
    (κ : _ → Prog (TpuEff nD τ sig (Elt F) Λ₀ .tc) β) (Q : β → sProp 𝕄) :
    iprop((arg2.view.loc (c : Thread nD τ) ↦{fullShare} f2) ∗ (arg4.view.loc (c : Thread nD τ) ↦{fullShare} f4) ∗ (arg6.view.loc (c : Thread nD τ) ↦{fullShare} f6) ∗ (arg7.view.loc (c : Thread nD τ) ↦{fullShare} f7) ∗ (arg8.view.loc (c : Thread nD τ) ↦{fullShare} f8) ∗ (arg9.view.loc (c : Thread nD τ) ↦{fullShare} f9)
      ∗ (∀ g9 s' w1 w2 w3, ⌜(s', arg9.view.read (Elt F) g9) = steps (keysOf arg4 v4 v6 v8 v10 f4) (headOf arg2 arg6 arg7 arg8 f2 f6 f7 f8) (2 * (i 1).val + 2)
          (if (i 1).val % 2 = 0 then 2 else 0) (s, arg9.view.read (Elt F) f9)⌝ -∗
        (arg2.view.loc (c : Thread nD τ) ↦{fullShare} f2) -∗ (arg4.view.loc (c : Thread nD τ) ↦{fullShare} f4) -∗ (arg6.view.loc (c : Thread nD τ) ↦{fullShare} f6) -∗ (arg7.view.loc (c : Thread nD τ) ↦{fullShare} f7) -∗ (arg8.view.loc (c : Thread nD τ) ↦{fullShare} f8) -∗ (arg9.view.loc (c : Thread nD τ) ↦{fullShare} g9)
        -∗ wp frame (wpE (defs₀ (F := F)) Variants.none c none) Set.univ
          (κ ⟨s'.1, s'.2.1, s'.2.2.1, s'.2.2.2, w1, 4#32, w2, w3, 0#32⟩) Q))
    ⊢ wp frame (wpE (defs₀ (F := F)) Variants.none c none) Set.univ
        (k0_part25 i arg2 harg2 arg3 harg3 arg4 harg4 arg5 harg5 arg6 harg6 arg7 harg7 arg8 harg8 arg9 harg9 arg10 harg10 arg11 harg11 v4 v6 v8 v10 s.2.1 s.1 s.2.2.2 s.2.2.1 w w' >>= κ) Q := by
  rw [k0_part25_eq_skeleton]
  unfold k0_part25_skel
  obtain ⟨s1, s2, s3, s4⟩ := s
  iintro ⟨H2, H4, H6, H7, H8, H9, HQ⟩
  by_cases hc : k0_cond2 i = 1#1
  · have hp := (cond2_iff i).1 hc
    have hb := (i 1).isLt
    sl_exec
    have t0 : k0_off6 i 0#32 = _ := off6_eq i 0
    have t1 : k0_off6 i 1#32 = _ := off6_eq i 1
    rw [if_pos hp]
    iapply HQ $$ %_ %(_, _, _, _) %_ %_ %_ [] H2 H4 H6 H7 H8 H9
    ipureintro
    have e0 := loadQuery_eq arg2 arg6 arg7 arg8 f2 f6 f7 f8 (r := k0_off4 i 0#32) (l := k0_off5 i 0#32) (off4_eq i 0)
      (off5_eq i 0) (k0_off4_inb i hc 0) (k0_off5_inb i hc 0)
    have e1 := loadQuery_eq arg2 arg6 arg7 arg8 f2 f6 f7 f8 (r := k0_off4 i 1#32) (l := k0_off5 i 1#32) (off4_eq i 1)
      (off5_eq i 1) (k0_off4_inb i hc 1) (k0_off5_inb i hc 1)
    have d0 := readAt_tile arg9 f9 (off := k0_off6 i 0#32) (off6_eq i 0) (k0_off6_inb i hc 0)
    have d1 := readAt_tile arg9 f9 (off := k0_off6 i 1#32) (off6_eq i 1) (k0_off6_inb i hc 1)
    have hq : 2 * (i 1).val + 2 + 1 < 32 := by
      have hb' : (i 1).val < 16 := hb
      omega
    have hj : 2 * (i 1).val + 2 = 2 * ((i 1).val + 1) := by omega
    refine Prod.ext ?_ ?_
    · rw [steps_two_fst, ← loadKeys_eq, hj]
      refine Eq.trans ?_ (congr (congrArg (sumsStep _) e1) (congr (congrArg (sumsStep _) e0) rfl))
      refine Prod.ext ?_ (Prod.ext ?_ (Prod.ext ?_ ?_))
      · rw [sumsStep_dkA, sumsStep_dkA]; exact rfl
      · rw [sumsStep_dvA, sumsStep_dvA]; exact rfl
      · rw [sumsStep_dkB, sumsStep_dkB]; exact rfl
      · rw [sumsStep_dvB, sumsStep_dvB]; exact rfl
    · rw [steps_two_snd _ _ _ hq, ← loadKeys_eq, read_put _ _ _ t1, read_put _ _ _ t0, hj]
      refine congr (congrArg (fun X => putTile X _) (congrArg (putTile _ _) ?_)) ?_
      · refine Eq.trans ?_ (congr (congrArg addTile d0) (congrArg (bothStep (loadKeys arg4 f4 v4 v6 v8 v10)) e0))
        exact rfl
      · refine Eq.trans ?_ (congr (congrArg addTile d1) (congrArg (bothStep (loadKeys arg4 f4 v4 v6 v8 v10)) e1))
        exact rfl
  · have hp : ¬ (i 1).val % 2 = 0 := fun h => hc ((cond2_iff i).2 h)
    sl_exec
    rw [if_neg hp]
    iapply HQ $$ %f9 %(s1, s2, s3, s4) %_ %_ %_ [] H2 H4 H6 H7 H8 H9
    ipureintro
    rfl

theorem trips2_eq : ∀ i : grid0.Coords, (k0_t2_loop i).trips = 0 := by decide +kernel

/-- What holds before trip `n` of the loop: the query gradient and the sums are those after `4 * n` steps. -/
def tailInv (v4 v6 v8 v10 : FVec F S512x128 .bf16) (s : Sums F) (n : ℕ) (acc : Sums F) : sProp 𝕄 :=
  iprop((arg2.view.loc (c : Thread nD τ) ↦{fullShare} f2) ∗ (arg4.view.loc (c : Thread nD τ) ↦{fullShare} f4) ∗ (arg6.view.loc (c : Thread nD τ) ↦{fullShare} f6) ∗ (arg7.view.loc (c : Thread nD τ) ↦{fullShare} f7) ∗ (arg8.view.loc (c : Thread nD τ) ↦{fullShare} f8) ∗ ∃ g9, ⌜(acc, arg9.view.read (Elt F) g9) = steps (keysOf arg4 v4 v6 v8 v10 f4) (headOf arg2 arg6 arg7 arg8 f2 f6 f7 f8) (quad i 0)
    (4 * n) (s, arg9.view.read (Elt F) f9)⌝ ∗ (arg9.view.loc (c : Thread nD τ) ↦{fullShare} g9))

/-- A trip keeps it. -/
theorem tailInv_step (v4 v6 v8 v10 : FVec F S512x128 .bf16) (s : Sums F) (v171 c4_i32 v172 v177 c0_i32_106 v : BitVec 32) (t : Sums F)
    (k : Fin (k0_t1_loop i).trips) (acc : Sums F) :
    tailInv c i arg2 arg4 arg6 arg7 arg8 arg9 f2 f4 f6 f7 f8 f9 v4 v6 v8 v10 s k.val acc
      ⊢ wp frame (wpE (defs₀ (F := F)) Variants.none c none) Set.univ
        (k0_t1_body i arg2 harg2 arg3 harg3 arg4 harg4 arg5 harg5 arg6 harg6 arg7 harg7 arg8 harg8 arg9 harg9 arg10 harg10 arg11 harg11 v4 v6 v8 v10 t.1 t.2.1 t.2.2.1 t.2.2.2 v171 c4_i32 v172 v177 c0_i32_106 v k acc)
        (tailInv c i arg2 arg4 arg6 arg7 arg8 arg9 f2 f4 f6 f7 f8 f9 v4 v6 v8 v10 s (k.val + 1)) := by
  unfold tailInv
  iintro ⟨H2, H4, H6, H7, H8, %g9, %hg, H9⟩
  iapply trip (c := c) (f2 := f2) (f4 := f4) (f6 := f6) (f7 := f7) (f8 := f8) (f9 := g9)
  iframe H2 H4 H6 H7 H8 H9
  iintro %g9' %s' %hg' H2 H4 H6 H7 H8 H9
  iframe H2 H4 H6 H7 H8
  iexists g9'
  iframe H9
  ipureintro
  have hq : quad i 0 + 4 * k.val = quad i k.val := by unfold quad; omega
  rw [Nat.mul_succ, steps_add, ← hg, hq]
  exact hg'

/-- The loop over the remaining query tiles and the stores of the results. -/
theorem stage_tail (v4 v6 v8 v10 : FVec F S512x128 .bf16) (s : Sums F) (v171 c4_i32 v172 v177 c0_i32_106 : BitVec 32) {β : Type}
    (κ : _ → Prog (TpuEff nD τ sig (Elt F) Λ₀ .tc) β) (Q : β → sProp 𝕄) :
    iprop((arg2.view.loc (c : Thread nD τ) ↦{fullShare} f2) ∗ (arg4.view.loc (c : Thread nD τ) ↦{fullShare} f4) ∗ (arg6.view.loc (c : Thread nD τ) ↦{fullShare} f6) ∗ (arg7.view.loc (c : Thread nD τ) ↦{fullShare} f7) ∗ (arg8.view.loc (c : Thread nD τ) ↦{fullShare} f8) ∗ (arg9.view.loc (c : Thread nD τ) ↦{fullShare} f9) ∗ (arg10.view.loc (c : Thread nD τ) ↦{fullShare} f10) ∗ (arg11.view.loc (c : Thread nD τ) ↦{fullShare} f11)
      ∗ (∀ g9 s' v, ⌜(s', arg9.view.read (Elt F) g9) = steps (keysOf arg4 v4 v6 v8 v10 f4) (headOf arg2 arg6 arg7 arg8 f2 f6 f7 f8) (quad i 0)
          (4 * (7 - (i 1).val / 2)) (s, arg9.view.read (Elt F) f9)⌝ -∗
        (arg2.view.loc (c : Thread nD τ) ↦{fullShare} f2) -∗ (arg4.view.loc (c : Thread nD τ) ↦{fullShare} f4) -∗ (arg6.view.loc (c : Thread nD τ) ↦{fullShare} f6) -∗ (arg7.view.loc (c : Thread nD τ) ↦{fullShare} f7) -∗ (arg8.view.loc (c : Thread nD τ) ↦{fullShare} f8) -∗ (arg9.view.loc (c : Thread nD τ) ↦{fullShare} g9)
        -∗ (arg10.view.loc (c : Thread nD τ) ↦{fullShare} arg10.view.writes (Elt F) f10
          [⟨Rect.unit (s := S1x1024x128) ![0, 512, 0] S1x512x128.size inb_S1x1024x128_S1x512x128_0_512_0, k0_pay186 s'.2.2.1⟩,
            ⟨Rect.unit (s := S1x1024x128) ![0, 0, 0] S1x512x128.size inb_S1x1024x128_S1x512x128_0_0_0, k0_pay184 s'.1⟩])
        -∗ (arg11.view.loc (c : Thread nD τ) ↦{fullShare} arg11.view.writes (Elt F) f11
          [⟨Rect.unit (s := S1x1024x128) ![0, 0, 0] S1x512x128.size inb_S1x1024x128_S1x512x128_0_0_0, k0_pay185 s'.2.1⟩])
        -∗ wp frame (wpE (defs₀ (F := F)) Variants.none c none) Set.univ (κ ⟨k0_pay187 s'.2.2.2, v⟩) Q))
    ⊢ wp frame (wpE (defs₀ (F := F)) Variants.none c none) Set.univ
        (k0_part26 i arg2 harg2 arg3 harg3 arg4 harg4 arg5 harg5 arg6 harg6 arg7 harg7 arg8 harg8 arg9 harg9 arg10 harg10 arg11 harg11 v4 v6 v8 v10 s.1 s.2.1 s.2.2.1 s.2.2.2 v171 c4_i32 v172 v177 c0_i32_106 >>= κ) Q := by
  rw [k0_part26_eq_skeleton]
  unfold k0_part26_skel
  rw [wp_bind]
  iintro ⟨H2, H4, H6, H7, H8, H9, H10, H11, HQ⟩
  obtain ⟨s1, s2, s3, s4⟩ := s
  sl_exec
  iapply (Scf.wp_for_bind frame (wpE (defs₀ (F := F)) Variants.none c none) Set.univ _ _ _ (k0_t1_ok i) (s1, s2, s3, s4) _
    (tailInv c i arg2 arg4 arg6 arg7 arg8 arg9 f2 f4 f6 f7 f8 f9 v4 v6 v8 v10 (s1, s2, s3, s4))
    (tailInv_step c i arg2 harg2 arg3 harg3 arg4 harg4 arg5 harg5 arg6 harg6 arg7 harg7 arg8 harg8 arg9 harg9 arg10 harg10 arg11 harg11
      f2 f4 f6 f7 f8 f9 v4 v6 v8 v10 (s1, s2, s3, s4) v171 c4_i32 v172 v177 c0_i32_106 _ (s1, s2, s3, s4))) $$ [H2 H4 H6 H7 H8 H9]
  · unfold tailInv
    iframe H2 H4 H6 H7 H8
    iexists f9
    iframe H9
    ipureintro
    rfl
  unfold tailInv
  iintro %acc ⟨H2, H4, H6, H7, H8, %g9, %hg, H9⟩
  obtain ⟨a1, a2, a3, a4⟩ := acc
  sl_exec
  have htr : Scf.trips (k0_t1_loop i).lb (k0_t1_loop i).ub (k0_t1_loop i).st = 7 - (i 1).val / 2 := trips_eq i
  iapply HQ $$ %g9 %(a1, a2, a3, a4) %_ [] H2 H4 H6 H7 H8 H9 H10 H11
  ipureintro
  rw [← htr]
  exact hg

end Cert.KernelIdeal.Hand
end
-- ==== Proof.KI.Body.lean ====
/-
  The body of the attention's backward call at a grid point, as a function of what its buffers hold: the point's pair of
  key tiles against every query tile from its own on.
-/
module
public import proofs.«01_k».proof.Proof.KI.Rest
public import proofs.«01_k».proof.Proof.Gen.KernelIdeal.Loops
public import proofs.«01_k».proof.Proof.Gen.KernelIdeal.Frame
public import Idealize.ShloMosaic.Lib.LoopRemainder
public import Idealize.ShloMosaic.Lib.VecWindow

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F] [Named F]

local notation "𝕄" => MT nD τ sig Unit (Elt F) ℕ (UR sig nD τ) ℕ

/-- The key side of a grid point, from its pair of keys, the pair's keys with the features down, and its values. -/
def pointKeys (x3 : Vec F S1x1024x128 .bf16) (x4 : Vec F S1x2x128x512 .bf16) (x5 : Vec F S1x1024x128 .bf16) : Keys F :=
  ⟨rows (halfAt x3 0), rows (halfAt x3 1), rows (halfAt x5 0), rows (halfAt x5 1), colsAt x4 0, colsAt x4 1⟩

/-- The sums and the query gradient after the body at pair `p`; a head's first pair starts from zero. -/
def point (B : Keys F) (H : Head F) (p : ℕ) (X : Vec F S1x32x128x512 .f32) : Sums F × Vec F S1x32x128x512 .f32 :=
  whole B H p (if p = 0 then zerosQ else X)

/-- Two tiles of 512 rows, one after the other. -/
def pairRows (a b : Vec F S1x512x128 .bf16) : Vec F S1x1024x128 .bf16 := fun y =>
  if h : (y 1).val < 512 then a (ix3 (y 0) ⟨(y 1).val, h⟩ (y 2))
  else b (ix3 (y 0) ⟨(y 1).val - 512, by have h1 : (y 1).val < 1024 := (y 1).isLt; omega⟩ (y 2))

/-- The key gradient the body writes. -/
def keysOut (s : Sums F) : Vec F S1x1024x128 .bf16 := pairRows (k0_pay184 s.1) (k0_pay186 s.2.2.1)
/-- The value gradient the body writes. -/
def valuesOut (s : Sums F) : Vec F S1x1024x128 .bf16 := pairRows (k0_pay185 s.2.1) (k0_pay1 (k0_pay187 s.2.2.2))

theorem read_pair {sp : Space} (m : Memref sig .tc sp S1x1024x128 .bf16) (f : m.view.ty.Contents (Elt F))
    (a b : Vec F S1x512x128 .bf16) :
    m.view.read (Elt F) (m.view.writes (Elt F) f
        [⟨Rect.unit (s := S1x1024x128) ![0, 512, 0] S1x512x128.size inb_S1x1024x128_S1x512x128_0_512_0, b⟩,
          ⟨Rect.unit (s := S1x1024x128) ![0, 0, 0] S1x512x128.size inb_S1x1024x128_S1x512x128_0_0_0, a⟩])
      = pairRows a b := by
  funext y
  have h1 : (y 1).val < 1024 := (y 1).isLt
  have h0 : (y 0).val < 1 := (y 0).isLt
  unfold pairRows
  split
  case isTrue h =>
    refine (View.read_writes_cons_unit_of_not_mem (v := m.view) (f := f) _ b _ y rfl 1 (Or.inl h)).trans ?_
    refine View.read_writes_cons_unit_of_mem (v := m.view) (f := f) _ a _ y (ix3 (y 0) ⟨(y 1).val, h⟩ (y 2)) rfl ?_
    intro x
    match x with
    | ⟨0, _⟩ => exact (Nat.zero_add _).symm
    | ⟨1, _⟩ => exact (Nat.zero_add _).symm
    | ⟨2, _⟩ => exact (Nat.zero_add _).symm
  case isFalse h =>
    refine View.read_writes_cons_unit_of_mem (v := m.view) (f := f) _ b _ y (ix3 (y 0) ⟨(y 1).val - 512, by omega⟩ (y 2)) rfl ?_
    intro x
    match x with
    | ⟨0, _⟩ => exact (Nat.zero_add _).symm
    | ⟨1, _⟩ => show (y 1).val = 512 + ((y 1).val - 512); omega
    | ⟨2, _⟩ => exact (Nat.zero_add _).symm

/-- The tiles before the loop and the loop's tiles are all the tiles from the pair's own on. -/
theorem half_loop (B : Keys F) (H : Head F) (p : ℕ) (hp : p < 16) (s : Sums F × Vec F S1x32x128x512 .f32) :
    steps B H (4 * (p / 2 + 1 + 0)) (4 * (7 - p / 2)) (steps B H (2 * p + 2) (if p % 2 = 0 then 2 else 0) s)
      = steps B H (2 * p + 2) (30 - 2 * p) s := by
  split
  · have e1 : 4 * (p / 2 + 1 + 0) = 2 * p + 2 + 2 := by omega
    have e2 : 30 - 2 * p = 2 + 4 * (7 - p / 2) := by omega
    rw [e1, e2, steps_add]
  · have e1 : 4 * (p / 2 + 1 + 0) = 2 * p + 2 := by omega
    have e2 : 30 - 2 * p = 4 * (7 - p / 2) := by omega
    rw [e1, e2, steps_zero]

variable (c : Dev nD) (i : grid0.Coords) (arg2 : Memref sig .tc .vmem S1x16384x128 .bf16) (harg2 : arg2.IsWhole)
  (arg3 : Memref sig .tc .vmem S1x1024x128 .bf16) (harg3 : arg3.IsWhole) (arg4 : Memref sig .tc .vmem S1x2x128x512 .bf16) (harg4 : arg4.IsWhole)
  (arg5 : Memref sig .tc .vmem S1x1024x128 .bf16) (harg5 : arg5.IsWhole) (arg6 : Memref sig .tc .vmem S1x16384x128 .bf16) (harg6 : arg6.IsWhole)
  (arg7 : Memref sig .tc .vmem S1x32x1x512 .f32) (harg7 : arg7.IsWhole) (arg8 : Memref sig .tc .vmem S1x32x1x512 .f32) (harg8 : arg8.IsWhole)
  (arg9 : Memref sig .tc .vmem S1x32x128x512 .f32) (harg9 : arg9.IsWhole) (arg10 : Memref sig .tc .vmem S1x1024x128 .bf16) (harg10 : arg10.IsWhole)
  (arg11 : Memref sig .tc .vmem S1x1024x128 .bf16) (harg11 : arg11.IsWhole)
  (f2 : arg2.view.ty.Contents (Elt F)) (f3 : arg3.view.ty.Contents (Elt F)) (f4 : arg4.view.ty.Contents (Elt F))
  (f5 : arg5.view.ty.Contents (Elt F)) (f6 : arg6.view.ty.Contents (Elt F)) (f7 : arg7.view.ty.Contents (Elt F))
  (f8 : arg8.view.ty.Contents (Elt F)) (f9 : arg9.view.ty.Contents (Elt F)) (f10 : arg10.view.ty.Contents (Elt F))
  (f11 : arg11.view.ty.Contents (Elt F))

set_option maxHeartbeats 1000000 in
theorem body_run (Q : PUnit → sProp 𝕄) :
    iprop((arg2.view.loc (c : Thread nD τ) ↦{fullShare} f2) ∗ (arg3.view.loc (c : Thread nD τ) ↦{fullShare} f3) ∗ (arg4.view.loc (c : Thread nD τ) ↦{fullShare} f4) ∗ (arg5.view.loc (c : Thread nD τ) ↦{fullShare} f5) ∗ (arg6.view.loc (c : Thread nD τ) ↦{fullShare} f6) ∗ (arg7.view.loc (c : Thread nD τ) ↦{fullShare} f7) ∗ (arg8.view.loc (c : Thread nD τ) ↦{fullShare} f8) ∗ (arg9.view.loc (c : Thread nD τ) ↦{fullShare} f9) ∗ (arg10.view.loc (c : Thread nD τ) ↦{fullShare} f10) ∗ (arg11.view.loc (c : Thread nD τ) ↦{fullShare} f11)
      ∗ (∀ g9 g10 g11, ⌜arg9.view.read (Elt F) g9 = (point (pointKeys (arg3.view.read (Elt F) f3) (arg4.view.read (Elt F) f4) (arg5.view.read (Elt F) f5)) (headOf arg2 arg6 arg7 arg8 f2 f6 f7 f8) (i 1).val (arg9.view.read (Elt F) f9)).2
          ∧ arg10.view.read (Elt F) g10 = keysOut (point (pointKeys (arg3.view.read (Elt F) f3) (arg4.view.read (Elt F) f4) (arg5.view.read (Elt F) f5)) (headOf arg2 arg6 arg7 arg8 f2 f6 f7 f8) (i 1).val (arg9.view.read (Elt F) f9)).1
          ∧ arg11.view.read (Elt F) g11 = valuesOut (point (pointKeys (arg3.view.read (Elt F) f3) (arg4.view.read (Elt F) f4) (arg5.view.read (Elt F) f5)) (headOf arg2 arg6 arg7 arg8 f2 f6 f7 f8) (i 1).val (arg9.view.read (Elt F) f9)).1⌝ -∗
        (arg2.view.loc (c : Thread nD τ) ↦{fullShare} f2) -∗ (arg3.view.loc (c : Thread nD τ) ↦{fullShare} f3) -∗ (arg4.view.loc (c : Thread nD τ) ↦{fullShare} f4) -∗ (arg5.view.loc (c : Thread nD τ) ↦{fullShare} f5) -∗ (arg6.view.loc (c : Thread nD τ) ↦{fullShare} f6) -∗ (arg7.view.loc (c : Thread nD τ) ↦{fullShare} f7) -∗ (arg8.view.loc (c : Thread nD τ) ↦{fullShare} f8) -∗ (arg9.view.loc (c : Thread nD τ) ↦{fullShare} g9) -∗ (arg10.view.loc (c : Thread nD τ) ↦{fullShare} g10) -∗ (arg11.view.loc (c : Thread nD τ) ↦{fullShare} g11) -∗ Q ⟨⟩))
    ⊢ wp frame (wpE (defs₀ (F := F)) Variants.none c none) Set.univ
        (cc0_attn_bwd i arg2 harg2 arg3 harg3 arg4 harg4 arg5 harg5 arg6 harg6 arg7 harg7 arg8 harg8 arg9 harg9 arg10 harg10 arg11 harg11) Q := by
  rw [cc0_attn_bwd_eq_skeleton]
  unfold cc0_attn_bwd_skel
  iintro ⟨H2, H3, H4, H5, H6, H7, H8, H9, H10, H11, HQ⟩
  iapply stage_init c i arg2 harg2 arg3 harg3 arg4 harg4 arg5 harg5 arg6 harg6 arg7 harg7 arg8 harg8 arg9 harg9 arg10 harg10 arg11 harg11 f2 f3 f5 f6 f7 f8 f9
  iframe H2 H3 H5 H6 H7 H9
  iintro %a9 %w0 %h0 H2 H3 H5 H6 H7 H9
  iapply stage_first c i arg2 harg2 arg3 harg3 arg4 harg4 arg5 harg5 arg6 harg6 arg7 harg7 arg8 harg8 arg9 harg9 arg10 harg10 arg11 harg11 f2 f4 f6 f7 f8 a9
  iframe H2 H4 H8 H9
  iintro %b9 %w1 %h1 H2 H4 H8 H9
  iapply stage_behind c i arg2 harg2 arg3 harg3 arg4 harg4 arg5 harg5 arg6 harg6 arg7 harg7 arg8 harg8 arg9 harg9 arg10 harg10 arg11 harg11 f2 f4 f6 f7 f8
  iframe H2 H4 H6 H7 H8
  iintro H2 H4 H6 H7 H8
  iapply stage_second c i arg2 harg2 arg3 harg3 arg4 harg4 arg5 harg5 arg6 harg6 arg7 harg7 arg8 harg8 arg9 harg9 arg10 harg10 arg11 harg11 f2 f4 f6 f7 f8 b9
  iframe H4 H7 H8 H9
  iintro %d9 %w2 %w3 %h2 H4 H7 H8 H9
  iapply stage_half c i arg2 harg2 arg3 harg3 arg4 harg4 arg5 harg5 arg6 harg6 arg7 harg7 arg8 harg8 arg9 harg9 arg10 harg10 arg11 harg11 f2 f4 f6 f7 f8 d9 (s := (second (pointKeys (arg3.view.read (Elt F) f3) (arg4.view.read (Elt F) f4) (arg5.view.read (Elt F) f5)) (headOf arg2 arg6 arg7 arg8 f2 f6 f7 f8) (i 1).val (first (pointKeys (arg3.view.read (Elt F) f3) (arg4.view.read (Elt F) f4) (arg5.view.read (Elt F) f5)) (headOf arg2 arg6 arg7 arg8 f2 f6 f7 f8) (i 1).val (arg9.view.read (Elt F) a9))).1)
  iframe H2 H4 H6 H7 H8 H9
  iintro %e9 %s1 %w4 %w5 %w6 %h3 H2 H4 H6 H7 H8 H9
  iapply stage_tail c i arg2 harg2 arg3 harg3 arg4 harg4 arg5 harg5 arg6 harg6 arg7 harg7 arg8 harg8 arg9 harg9 arg10 harg10 arg11 harg11 f2 f4 f6 f7 f8 e9 f10 f11 (s := s1)
  iframe H2 H4 H6 H7 H8 H9 H10 H11
  iintro %k9 %s2 %w7 %h4 H2 H4 H6 H7 H8 H9 H10 H11
  sl_exec
  rw [wp_ret]; imodintro
  have hp : (i 1).val < 16 := (i 1).isLt
  have hX : arg9.view.read (Elt F) d9 = (second (pointKeys (arg3.view.read (Elt F) f3) (arg4.view.read (Elt F) f4) (arg5.view.read (Elt F) f5)) (headOf arg2 arg6 arg7 arg8 f2 f6 f7 f8) (i 1).val (first (pointKeys (arg3.view.read (Elt F) f3) (arg4.view.read (Elt F) f4) (arg5.view.read (Elt F) f5)) (headOf arg2 arg6 arg7 arg8 f2 f6 f7 f8) (i 1).val (arg9.view.read (Elt F) a9))).2 := by
    rw [h2, h1]; rfl
  have hB : (pointKeys (arg3.view.read (Elt F) f3) (arg4.view.read (Elt F) f4) (arg5.view.read (Elt F) f5)) = keysOf arg4 (rows (halfAt (arg3.view.read (Elt F) f3) 0)) (rows (halfAt (arg3.view.read (Elt F) f3) 1))
      (rows (halfAt (arg5.view.read (Elt F) f5) 0)) (rows (halfAt (arg5.view.read (Elt F) f5) 1)) f4 := rfl
  have hall : (s2, arg9.view.read (Elt F) k9) = point (pointKeys (arg3.view.read (Elt F) f3) (arg4.view.read (Elt F) f4) (arg5.view.read (Elt F) f5)) (headOf arg2 arg6 arg7 arg8 f2 f6 f7 f8) (i 1).val (arg9.view.read (Elt F) f9) := by
    rw [h4, h3, ← hB, hX, Prod.mk.eta]
    refine (half_loop _ _ _ hp _).trans ?_
    rw [h0]
    rfl
  iapply HQ $$ %_ %_ %_ [] H2 H3 H4 H5 H6 H7 H8 H9 H10 H11
  ipureintro
  rw [← hall]
  exact ⟨rfl, read_pair _ _ _ _, read_pair _ _ _ _⟩

end Cert.KernelIdeal.Hand
end
-- ==== Proof.KI.Run.lean ====
/-
  The run of the program: the body at every grid point, the query gradient carried from point to point of a head, and
  the launch between the host's lines.
-/
module
public import proofs.«01_k».proof.Proof.KI.Body
public import proofs.«01_k».proof.Proof.Gen.KernelIdeal.Loops
public import proofs.«01_k».proof.Proof.Gen.KernelIdeal.Frame
public import Idealize.ShloMosaic.Lib.LoopRemainder
public import Idealize.ShloMosaic.Lib.VecWindow

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F] [Named F]

local notation "𝕄" => MT nD τ sig Unit (Elt F) ℕ (UR sig nD τ) ℕ

section Kernel
variable (c : Dev nD) (i : grid0.Coords) (arg2 : Memref sig .tc .vmem S1x16384x128 .bf16) (harg2 : arg2.IsWhole)
  (arg3 : Memref sig .tc .vmem S1x1024x128 .bf16) (harg3 : arg3.IsWhole) (arg4 : Memref sig .tc .vmem S1x2x128x512 .bf16) (harg4 : arg4.IsWhole)
  (arg5 : Memref sig .tc .vmem S1x1024x128 .bf16) (harg5 : arg5.IsWhole) (arg6 : Memref sig .tc .vmem S1x16384x128 .bf16) (harg6 : arg6.IsWhole)
  (arg7 : Memref sig .tc .vmem S1x32x1x512 .f32) (harg7 : arg7.IsWhole) (arg8 : Memref sig .tc .vmem S1x32x1x512 .f32) (harg8 : arg8.IsWhole)
  (arg9 : Memref sig .tc .vmem S1x32x128x512 .f32) (harg9 : arg9.IsWhole) (arg10 : Memref sig .tc .vmem S1x1024x128 .bf16) (harg10 : arg10.IsWhole)
  (arg11 : Memref sig .tc .vmem S1x1024x128 .bf16) (harg11 : arg11.IsWhole)

set_option maxHeartbeats 2000000 in
theorem body_owns (x2 : Vec F S1x16384x128 .bf16) (x3 : Vec F S1x1024x128 .bf16) (x4 : Vec F S1x2x128x512 .bf16) (x5 : Vec F S1x1024x128 .bf16) (x6 : Vec F S1x16384x128 .bf16) (x7 : Vec F S1x32x1x512 .f32) (x8 : Vec F S1x32x1x512 .f32) (x9 : Vec F S1x32x128x512 .f32) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9
        ∗ (∃ d, owns (c : Thread nD τ) arg10 fullShare d) ∗ (∃ d, owns (c : Thread nD τ) arg11 fullShare d)
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (point (pointKeys x3 x4 x5) ⟨x2, x6, x7, x8⟩ (i 1).val x9).2 ∗ owns (c : Thread nD τ) arg10 fullShare (keysOut (point (pointKeys x3 x4 x5) ⟨x2, x6, x7, x8⟩ (i 1).val x9).1) ∗ owns (c : Thread nD τ) arg11 fullShare (valuesOut (point (pointKeys x3 x4 x5) ⟨x2, x6, x7, x8⟩ (i 1).val x9).1)) -∗ K ⟨⟩))
      ⊢ wp frame (wpE (defs₀ (F := F)) Variants.none c none) Set.univ (cc0_attn_bwd i arg2 harg2 arg3 harg3 arg4 harg4 arg5 harg5 arg6 harg6 arg7 harg7 arg8 harg8 arg9 harg9 arg10 harg10 arg11 harg11) K := by
  unfold owns
  rw [harg2.set_eq_univ, harg3.set_eq_univ, harg4.set_eq_univ, harg5.set_eq_univ, harg6.set_eq_univ, harg7.set_eq_univ, harg8.set_eq_univ, harg9.set_eq_univ, harg10.set_eq_univ, harg11.set_eq_univ]
  iintro ⟨⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%d10, %f10, -, H10⟩, ⟨%d11, %f11, -, H11⟩, Hk⟩
  subst h2 h3 h4 h5 h6 h7 h8 h9
  iapply body_run c i arg2 harg2 arg3 harg3 arg4 harg4 arg5 harg5 arg6 harg6 arg7 harg7 arg8 harg8 arg9 harg9 arg10 harg10 arg11 harg11 f2 f3 f4 f5 f6 f7 f8 f9 f10 f11
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iintro %g9 %g10 %g11 %hg H2 H3 H4 H5 H6 H7 H8 H9 H10 H11
  obtain ⟨e9, e10, e11⟩ := hg
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists g9; isplitr; · ipureintro; exact e9
    iexact H9
  isplitl [H10]
  · iexists g10; isplitr; · ipureintro; exact e10
    iexact H10
  iexists g11; isplitr; · ipureintro; exact e11
  iexact H11

end Kernel

variable (m : (ℓ : Loc nD τ sig) → Buf (Elt F) ℓ) (ρ : Dev nD → PrngReg)

/-- The pair a grid point works on. -/
theorem pair_eq : ∀ t : Fin cfg0.N, ((grid0.coords t) 1).val = t.val % 16 := by decide +kernel

/-- The key side of point `t`. -/
def keysAt (c : Dev nD) (t : Fin cfg0.N) : Keys F := pointKeys (iblk m c 1 t) (iblk m c 2 t) (iblk m c 3 t)
/-- The head of point `t`. -/
def headAt (c : Dev nD) (t : Fin cfg0.N) : Head F := ⟨iblk m c 0 t, iblk m c 4 t, iblk m c 5 t, iblk m c 6 t⟩

/-- The query gradient as the first `n` points leave it. -/
def gradAt (c : Dev nD) : ℕ → Vec F S1x32x128x512 .f32
  | 0 => zerosQ
  | n + 1 => if h : n < cfg0.N then (point (keysAt m c ⟨n, h⟩) (headAt m c ⟨n, h⟩) (n % 16) (gradAt c n)).2 else gradAt c n

/-- What the body leaves at point `t`. -/
def pointAt (c : Dev nD) (t : Fin cfg0.N) : Sums F × Vec F S1x32x128x512 .f32 :=
  point (keysAt m c t) (headAt m c t) (t.val % 16) (gradAt m c t.val)

theorem gradAt_succ (c : Dev nD) (t : Fin cfg0.N) : gradAt m c (t.val + 1) = (pointAt m c t).2 := by
  rw [gradAt, dif_pos t.isLt]; rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (pointAt m c t).2
    | ⟨8, _⟩ => keysOut (pointAt m c t).1
    | ⟨9, _⟩ => valuesOut (pointAt m c t).1
  Φ _ := Pipeline.ΦA spec0 c
  q _ := fullShare
  owed _ := 0

theorem A_eq (c : Dev nD) (w : Fin cfg0.W) : (dats m 0 c).A w = V m c (Pipeline.arrRef spec0 w) := rfl
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = (pointAt m c t).2 := by dsimp only [dats]
theorem after_8 (c : Dev nD) (t : Fin cfg0.N) : (dats m 0 c).after 8 t = keysOut (pointAt m c t).1 := by dsimp only [dats]
theorem after_9 (c : Dev nD) (t : Fin cfg0.N) : (dats m 0 c).after 9 t = valuesOut (pointAt m c t).1 := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d

/-- The query gradient's buffer holds what the point before left, unless the point begins a head. -/
theorem before_7 (c : Dev nD) (t : Fin cfg0.N) (ht : t.val % 16 ≠ 0) (d) : (dats m 0 c).before 7 t d = gradAt m c t.val := by
  have h0 : t.val ≠ 0 := fun h => ht (by rw [h])
  have hf : (cfg0.win 7).flush ⟨t.val - 1, Nat.lt_of_le_of_lt (Nat.sub_le _ _) t.isLt⟩ = false :=
    Bool.eq_false_iff.mpr fun h => by
      have := (flush0_7 ⟨t.val - 1, Nat.lt_of_le_of_lt (Nat.sub_le _ _) t.isLt⟩).1 h
      dsimp only at this
      omega
  rw [Dat.before_out_kept (dats m 0 c) 7 rfl t h0 hf (fun _ => rfl) (fun _ _ => rfl), after_7, ← gradAt_succ]
  dsimp only
  congr 1
  omega

theorem point_before (c : Dev nD) (t : Fin cfg0.N) (d) :
    point (keysAt m c t) (headAt m c t) ((grid0.coords t) 1).val ((dats m 0 c).before 7 t d) = pointAt m c t := by
  unfold pointAt
  rw [pair_eq]
  by_cases ht : t.val % 16 = 0
  · unfold point; rw [if_pos ht, if_pos ht]
  · rw [before_7 m c t ht d]

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  rw [← point_before m c t d7]
  iapply (body_owns c (grid0.coords t) _ _ _ _ _ _ _ _ _ _ _ _ _ _ _ _ _ _ _ _ (iblk m c 0 t) (iblk m c 1 t) (iblk m c 2 t) (iblk m c 3 t) (iblk m c 4 t) (iblk m c 5 t)
    (iblk m c 6 t) ((dats m 0 c).before 7 t d7) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem body_obligation (c : Dev nD) : BodyObligation (dats (F := F) m 0 c) (defs₀ (F := F)) Variants.none () Set.univ := fun t => by
  rw [bigSep_W0, bigSep_W0]
  exact sound_body m c t

set_option backward.isDefEq.respectTransparency.types false in
/-- The program runs; its buffers end as the launch and the host's lines leave them, and every counter at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := fun _ _ => rfl) (hΦ := fun _ _ => rfl) (Q' := _) (hQ' := fun _ h => h)

/-- The arguments end as they began, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨((h.1 c).2 main_arg0 (Pipeline.mem_restRefs_of main_arg0 (by decide) (by decide))).trans (W_main_arg0 m (dats m) c),
    ((h.1 c).2 main_arg1 (Pipeline.mem_restRefs_of main_arg1 (by decide) (by decide))).trans (W_main_arg1 m (dats m) c),
    ((h.1 c).2 main_arg2 (Pipeline.mem_restRefs_of main_arg2 (by decide) (by decide))).trans (W_main_arg2 m (dats m) c),
    ((h.1 c).2 main_arg3 (Pipeline.mem_restRefs_of main_arg3 (by decide) (by decide))).trans (W_main_arg3 m (dats m) c),
    ((h.1 c).2 main_arg4 (Pipeline.mem_restRefs_of main_arg4 (by decide) (by decide))).trans (W_main_arg4 m (dats m) c),
    ((h.1 c).2 main_arg5 (Pipeline.mem_restRefs_of main_arg5 (by decide) (by decide))).trans (W_main_arg5 m (dats m) c)⟩, h.2⟩) (run_main m ρ)

end Cert.KernelIdeal.Hand
end
-- ==== Proof.V.Products.lean ====
/- The model's operations over the real numbers, read at an index: each product of tiles as a sum over the shared axis,
   and a number per query laid across the keys. -/
module

public import proofs.«01_k».proof.Proof.KI.Tile
public import Idealize.ShloMosaic.PureOps.Ideal
public import Idealize.ShloMosaic.PureOps.Ideal.Laws
public import Idealize.ShloMosaic.Lib.Pipeline.Value
public import Idealize.ShloMosaic.Lib.ValueIdx

@[expose] public section

noncomputable section

namespace Cert.KernelIdeal.Hand

open Cert.KernelIdeal Cert.KernelIdeal.Gen
open Idealize.ShloMosaic Idealize.ShloMosaic.TcCoe Idealize.ShloMosaic.ValueIdx

/-- A tile's row without the leading axis. -/
theorem rows_apply (x : Vec Ideal S1x512x128 .bf16) (r : Fin 512) (y : Fin 128) : rows x (ix2 r y) = x (ix3 0 r y) := by
  unfold rows
  refine shapeCast_apply x _ (ix2 r y) (ix3 0 r y) ?_
  rw [Shape.rowMajor_val_three, Shape.rowMajor_val_two]
  show (0 * 512 + r.val) * 128 + y.val = r.val * 128 + y.val
  omega

/-- The number of query `s`, at any key. -/
theorem across_apply (x : Vec Ideal S1x1x1x512 .f32) (r s : Fin 512) : across x (ix2 r s) = x (ix4 0 0 0 s) := by
  unfold across
  rw [broadcastTo_apply _ _ (ix2 r s) (ix2 0 s) ?_, shapeCast_apply x _ (ix2 0 s) (ix4 0 0 0 s) ?_]
  · rw [Shape.rowMajor_val_four, Shape.rowMajor_val_two]
    show ((0 * 1 + 0) * 1 + 0) * 512 + s.val = 0 * 512 + s.val
    omega
  · intro a
    match a with
    | ⟨0, _⟩ => rfl
    | ⟨1, _⟩ => rfl

/-- The product of a row of `a` with a row of `x`. -/
theorem pairs_apply (a : FVec Ideal S512x128 .bf16) (x : Vec Ideal S1x512x128 .bf16) (r s : Fin 512) :
    pairs a x (ix2 r s) = ∑ y : Fin 128, a (ix2 r y) * x (ix3 0 s y) := by
  unfold pairs
  simp only [Ideal.matmul_constant_zero_apply]
  rw [← Equiv.sum_comp (contrEquiv1 dot_S512x128_S512x128_S512x512_1_1_0_0_n_n 128 rfl rfl).symm]
  refine Finset.sum_congr rfl fun k _ => ?_
  have hk := contrEquiv1_symm_val dot_S512x128_S512x128_S512x512_1_1_0_0_n_n 128 rfl rfl k
  have el : dot_S512x128_S512x128_S512x512_1_1_0_0_n_n.lhsIdx (ix2 r s) ((contrEquiv1 dot_S512x128_S512x128_S512x512_1_1_0_0_n_n 128 rfl rfl).symm k) = ix2 r k :=
    funext fun a => Fin.ext (match a with
      | ⟨0, _⟩ => rfl
      | ⟨1, _⟩ => hk)
  have er : dot_S512x128_S512x128_S512x512_1_1_0_0_n_n.rhsIdx (ix2 r s) ((contrEquiv1 dot_S512x128_S512x128_S512x512_1_1_0_0_n_n 128 rfl rfl).symm k) = ix2 s k :=
    funext fun a => Fin.ext (match a with
      | ⟨0, _⟩ => rfl
      | ⟨1, _⟩ => hk)
  rw [el, er, rows_apply]

/-- A key row's sum over the queries, added to what was there. -/
theorem addRows_apply (acc : FVec Ideal S512x128 .f32) (w : FVec Ideal S512x512 .bf16) (x : Vec Ideal S1x512x128 .bf16)
    (r : Fin 512) (y : Fin 128) :
    addRows acc w x (ix2 r y) = acc (ix2 r y) + ∑ s : Fin 512, w (ix2 r s) * x (ix3 0 s y) := by
  unfold addRows
  simp only [addf_apply, Ideal.matmul_constant_zero_apply]
  rw [← Equiv.sum_comp (contrEquiv1 dot_S512x512_S512x128_S512x128_1_0_0_1_n_n 512 rfl rfl).symm]
  congr 1
  refine Finset.sum_congr rfl fun k _ => ?_
  have hk := contrEquiv1_symm_val dot_S512x512_S512x128_S512x128_1_0_0_1_n_n 512 rfl rfl k
  have el : dot_S512x512_S512x128_S512x128_1_0_0_1_n_n.lhsIdx (ix2 r y) ((contrEquiv1 dot_S512x512_S512x128_S512x128_1_0_0_1_n_n 512 rfl rfl).symm k) = ix2 r k :=
    funext fun a => Fin.ext (match a with
      | ⟨0, _⟩ => rfl
      | ⟨1, _⟩ => hk)
  have er : dot_S512x512_S512x128_S512x128_1_0_0_1_n_n.rhsIdx (ix2 r y) ((contrEquiv1 dot_S512x512_S512x128_S512x128_1_0_0_1_n_n 512 rfl rfl).symm k) = ix2 k y :=
    funext fun a => Fin.ext (match a with
      | ⟨0, _⟩ => hk
      | ⟨1, _⟩ => rfl)
  rw [el, er, rows_apply]

/-- A feature's sum over a key tile. -/
theorem partQ_apply (t : Vec Ideal S1x1x128x512 .bf16) (ds : FVec Ideal S512x512 .bf16) (y : Fin 128) (s : Fin 512) :
    partQ t ds (ix2 y s) = ∑ r : Fin 512, t (ix4 0 0 y r) * ds (ix2 r s) := by
  unfold partQ
  simp only [Ideal.matmul_constant_zero_apply]
  rw [← Equiv.sum_comp (contrEquiv1 dot_S128x512_S512x512_S128x512_1_0_0_1_n_n 512 rfl rfl).symm]
  refine Finset.sum_congr rfl fun k _ => ?_
  have hk := contrEquiv1_symm_val dot_S128x512_S512x512_S128x512_1_0_0_1_n_n 512 rfl rfl k
  have el : dot_S128x512_S512x512_S128x512_1_0_0_1_n_n.lhsIdx (ix2 y s) ((contrEquiv1 dot_S128x512_S512x512_S128x512_1_0_0_1_n_n 512 rfl rfl).symm k) = ix2 y k :=
    funext fun a => Fin.ext (match a with
      | ⟨0, _⟩ => rfl
      | ⟨1, _⟩ => hk)
  have er : dot_S128x512_S512x512_S128x512_1_0_0_1_n_n.rhsIdx (ix2 y s) ((contrEquiv1 dot_S128x512_S512x512_S128x512_1_0_0_1_n_n 512 rfl rfl).symm k) = ix2 k s :=
    funext fun a => Fin.ext (match a with
      | ⟨0, _⟩ => hk
      | ⟨1, _⟩ => rfl)
  rw [el, er]
  congr 1
  refine shapeCast_apply t _ (ix2 y k) (ix4 0 0 y k) ?_
  rw [Shape.rowMajor_val_four, Shape.rowMajor_val_two]
  show ((0 * 1 + 0) * 128 + y.val) * 512 + k.val = y.val * 512 + k.val
  omega

/-- The query gradient's tile with `x` added, at an index. -/
theorem addTile_apply (old : Vec Ideal S1x1x128x512 .f32) (x : FVec Ideal S128x512 .f32) (y : Fin 128) (s : Fin 512) :
    addTile old x (ix4 0 0 y s) = old (ix4 0 0 y s) + x (ix2 y s) := by
  unfold addTile
  rw [shapeCast_apply _ _ (ix4 0 0 y s) (ix2 y s) ?_, addf_apply, shapeCast_apply old _ (ix2 y s) (ix4 0 0 y s) ?_]
  · rw [Shape.rowMajor_val_four, Shape.rowMajor_val_two]
    show ((0 * 1 + 0) * 128 + y.val) * 512 + s.val = y.val * 512 + s.val
    omega
  · rw [Shape.rowMajor_val_two, Shape.rowMajor_val_four]
    show y.val * 512 + s.val = ((0 * 1 + 0) * 128 + y.val) * 512 + s.val
    omega

/-- The mask keeps the keys at or before the query. -/
theorem masked_apply (p : FVec Ideal S512x512 .f32) (r s : Fin 512) :
    masked p (ix2 r s) = if r.val ≤ s.val then p (ix2 r s) else 0 := by
  unfold masked
  rw [select_apply]
  have hc : cmpi .sle (iota .tc S512x512 32 [0] iota_S512x512_d0_w32) (iota .tc S512x512 32 [1] iota_S512x512_d1_w32) (ix2 r s)
      = if r.val ≤ s.val then 1#1 else 0#1 := by
    show IntOp.cmpi .sle _ _ = _
    rw [iota_single_apply, iota_single_apply]
    have hr := r.isLt
    have hs := s.isLt
    show IntOp.cmpi .sle (BitVec.ofNat 32 r.val) (BitVec.ofNat 32 s.val) = _
    unfold IntOp.cmpi
    have : (BitVec.ofNat 32 r.val).sle (BitVec.ofNat 32 s.val) = decide (r.val ≤ s.val) := by
      rw [BitVec.sle_eq_decide, BitVec.toInt_eq_toNat_of_lt, BitVec.toInt_eq_toNat_of_lt] <;> simp only [BitVec.toNat_ofNat]
      · simp only [decide_eq_decide]; omega
      · omega
      · omega
    simp only [this]
    by_cases h : r.val ≤ s.val <;> simp [h]
  rw [hc]
  by_cases h : r.val ≤ s.val
  · rw [if_pos h, if_pos h]; rfl
  · rw [if_neg h, if_neg h]
    show broadcast S512x512 (Scalar.ofBits (F := Ideal) .f32 0x00000000#32) (ix2 r s) = 0
    exact Ideal.ofBits_zero_f32

end Cert.KernelIdeal.Hand
end
-- ==== Proof.V.Sums.lean ====
/- The gradient of one head over the real numbers, rows by number: the probability of a key for a query, the gradient of
   a score, and the sums that the three gradients are. -/
module

public import Idealize.ShloMosaic.PureOps.Ideal
public import Mathlib.Algebra.BigOperators.Intervals

@[expose] public section

noncomputable section

namespace Cert.Attn

open Finset

/-- The sum of real numbers is their sum as extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [sum_insert ha, sum_insert ha, EReal.coe_add, ih]

/-- The same over the numbers below `n`. -/
theorem coe_sum_fin (n : ℕ) (f : ℕ → ℝ) : ∑ i : Fin n, ((f i.val : ℝ) : EReal) = ((∑ i ∈ range n, f i : ℝ) : EReal) := by
  rw [← Fin.sum_univ_eq_sum_range f n, coe_sum]

/-- A head: the queries (prescaled), the keys, the values and the cotangent, row by row, the logarithm of every query's
    sum (in base two), and the mean of the probabilities' gradient. -/
structure Rows where
  q : ℕ → ℕ → ℝ
  k : ℕ → ℕ → ℝ
  v : ℕ → ℕ → ℝ
  o : ℕ → ℕ → ℝ
  ls : ℕ → ℝ
  de : ℕ → ℝ

namespace Rows

variable (R : Rows)

/-- Two to the score less the logarithm. -/
def raw (i j : ℕ) : ℝ := (2 : ℝ) ^ (∑ x ∈ range 128, R.k j x * R.q i x - R.ls i)
/-- The probability of key `j` for query `i`; none for a later key. -/
def prob (i j : ℕ) : ℝ := if j ≤ i then R.raw i j else 0
/-- The gradient of the score. -/
def ds (i j : ℕ) : ℝ := R.prob i j * (∑ x ∈ range 128, R.v j x * R.o i x - R.de i)
/-- The gradient of key `j` from the queries below `n`. -/
def dk (n j x : ℕ) : ℝ := ∑ i ∈ range n, R.ds i j * R.q i x
/-- The gradient of value `j` from the queries below `n`. -/
def dv (n j x : ℕ) : ℝ := ∑ i ∈ range n, R.prob i j * R.o i x
/-- What the `n` keys from `a` on add to the gradient of query `i`. -/
def part (a n i x : ℕ) : ℝ := ∑ r ∈ range n, R.k (a + r) x * R.ds i (a + r)

theorem prob_of_le {i j : ℕ} (h : j ≤ i) : R.prob i j = R.raw i j := if_pos h
theorem prob_of_lt {i j : ℕ} (h : i < j) : R.prob i j = 0 := if_neg (by omega)
theorem ds_of_lt {i j : ℕ} (h : i < j) : R.ds i j = 0 := by unfold ds; rw [prob_of_lt R h, zero_mul]

/-- No query before a key reaches it. -/
theorem dk_zero {n j : ℕ} (h : n ≤ j) (x : ℕ) : R.dk n j x = 0 :=
  sum_eq_zero fun i hi => by rw [ds_of_lt R (by have := mem_range.1 hi; omega), zero_mul]
theorem dv_zero {n j : ℕ} (h : n ≤ j) (x : ℕ) : R.dv n j x = 0 :=
  sum_eq_zero fun i hi => by rw [prob_of_lt R (by have := mem_range.1 hi; omega), zero_mul]
theorem part_zero {a i : ℕ} (h : i < a) (n x : ℕ) : R.part a n i x = 0 :=
  sum_eq_zero fun r _ => by rw [ds_of_lt R (by omega), mul_zero]

theorem dk_add (n m j x : ℕ) : R.dk (n + m) j x = R.dk n j x + ∑ s ∈ range m, R.ds (n + s) j * R.q (n + s) x :=
  sum_range_add _ _ _
theorem dv_add (n m j x : ℕ) : R.dv (n + m) j x = R.dv n j x + ∑ s ∈ range m, R.prob (n + s) j * R.o (n + s) x :=
  sum_range_add _ _ _
theorem part_add (a n m i x : ℕ) : R.part a (n + m) i x = R.part a n i x + R.part (a + n) m i x := by
  unfold part; rw [sum_range_add]; simp only [Nat.add_assoc]

end Rows

end Cert.Attn
end
-- ==== Proof.V.Point.lean ====
/- What the body computes at a grid point over the real numbers: the running sums are the gradients of the pair's keys and
   values, and the query gradient gains the pair's part. -/
module

public import proofs.«01_k».proof.Proof.V.Products
public import proofs.«01_k».proof.Proof.V.Sums
public import proofs.«01_k».proof.Proof.KI.Body

@[expose] public section

noncomputable section

namespace Cert.KernelIdeal.Hand

open Cert.KernelIdeal Cert.KernelIdeal.Gen Cert.Attn Finset
open Idealize.ShloMosaic Idealize.ShloMosaic.TcCoe Idealize.ShloMosaic.ValueIdx

/-- The head's buffers hold the rows `R`. -/
structure IsHead (R : Rows) (H : Head Ideal) : Prop where
  q : ∀ (i : Fin 16384) (x : Fin 128), H.q (ix3 0 i x) = ((R.q i x : ℝ) : EReal)
  o : ∀ (i : Fin 16384) (x : Fin 128), H.o (ix3 0 i x) = ((R.o i x : ℝ) : EReal)
  ls : ∀ (a : Fin 32) (b : Fin 512), H.ls (ix4 0 a 0 b) = ((R.ls (512 * a + b) : ℝ) : EReal)
  de : ∀ (a : Fin 32) (b : Fin 512), H.de (ix4 0 a 0 b) = ((R.de (512 * a + b) : ℝ) : EReal)

/-- A tile of rows holds the rows of `f` from `a` on. -/
def IsRows (f : ℕ → ℕ → ℝ) (a : ℕ) (m : FVec Ideal S512x128 .bf16) : Prop :=
  ∀ (r : Fin 512) (x : Fin 128), m (ix2 r x) = ((f (a + r) x : ℝ) : EReal)
/-- The same with the features down. -/
def IsCols (f : ℕ → ℕ → ℝ) (a : ℕ) (m : Vec Ideal S1x1x128x512 .bf16) : Prop :=
  ∀ (x : Fin 128) (r : Fin 512), m (ix4 0 0 x r) = ((f (a + r) x : ℝ) : EReal)
/-- A running sum holds the rows of `f` from `a` on. -/
def IsSum (f : ℕ → ℕ → ℝ) (a : ℕ) (m : FVec Ideal S512x128 .f32) : Prop :=
  ∀ (r : Fin 512) (x : Fin 128), m (ix2 r x) = ((f (a + r) x : ℝ) : EReal)
/-- A tile holds a number for every key from `a` on and every query of tile `j`. -/
def IsTile (f : ℕ → ℕ → ℝ) (a j : ℕ) (m : S512x512.Idx → EReal) : Prop :=
  ∀ (r s : Fin 512), m (ix2 r s) = ((f (512 * j + s) (a + r) : ℝ) : EReal)

/-- The pair's buffers hold the rows of the two key tiles. -/
structure IsKeys (R : Rows) (p : ℕ) (B : Keys Ideal) : Prop where
  kA : IsRows R.k (1024 * p) B.kA
  kB : IsRows R.k (1024 * p + 512) B.kB
  vA : IsRows R.v (1024 * p) B.vA
  vB : IsRows R.v (1024 * p + 512) B.vB
  tA : IsCols R.k (1024 * p) B.tA
  tB : IsCols R.k (1024 * p + 512) B.tB

variable {R : Rows} {H : Head Ideal} {B : Keys Ideal} {p : ℕ}

section Tile
variable {j a : ℕ}

theorem IsHead.tile_q (hH : IsHead R H) (hj : j < 32) (s : Fin 512) (x : Fin 128) :
    (H.tile j).q (ix3 0 s x) = ((R.q (512 * j + s) x : ℝ) : EReal) := by
  have h := s.isLt
  refine (hH.q ⟨(512 * j + s.val) % 16384, Nat.mod_lt _ (by decide)⟩ x).trans ?_
  simp only [Nat.mod_eq_of_lt (show 512 * j + s.val < 16384 by omega)]
theorem IsHead.tile_o (hH : IsHead R H) (hj : j < 32) (s : Fin 512) (x : Fin 128) :
    (H.tile j).o (ix3 0 s x) = ((R.o (512 * j + s) x : ℝ) : EReal) := by
  have h := s.isLt
  refine (hH.o ⟨(512 * j + s.val) % 16384, Nat.mod_lt _ (by decide)⟩ x).trans ?_
  simp only [Nat.mod_eq_of_lt (show 512 * j + s.val < 16384 by omega)]
theorem IsHead.tile_ls (hH : IsHead R H) (hj : j < 32) (s : Fin 512) :
    (H.tile j).ls (ix4 0 0 0 s) = ((R.ls (512 * j + s) : ℝ) : EReal) := by
  refine (hH.ls ⟨j % 32, Nat.mod_lt _ (by decide)⟩ s).trans ?_
  simp only [Nat.mod_eq_of_lt hj]
theorem IsHead.tile_de (hH : IsHead R H) (hj : j < 32) (s : Fin 512) :
    (H.tile j).de (ix4 0 0 0 s) = ((R.de (512 * j + s) : ℝ) : EReal) := by
  refine (hH.de ⟨j % 32, Nat.mod_lt _ (by decide)⟩ s).trans ?_
  simp only [Nat.mod_eq_of_lt hj]

/-- The products of a tile's rows with the rows of a query tile. -/
theorem pairs_eq {f g : ℕ → ℕ → ℝ} {m : FVec Ideal S512x128 .bf16} {x : Vec Ideal S1x512x128 .bf16} (hm : IsRows f a m)
    (hx : ∀ (s : Fin 512) (y : Fin 128), x (ix3 0 s y) = ((g (512 * j + s) y : ℝ) : EReal)) (r s : Fin 512) :
    pairs m x (ix2 r s) = ((∑ y ∈ range 128, f (a + r) y * g (512 * j + s) y : ℝ) : EReal) := by
  rw [pairs_apply, ← coe_sum_fin]
  refine sum_congr rfl fun y _ => ?_
  rw [hm, hx, EReal.coe_mul]

theorem probs_eq (hH : IsHead R H) (hj : j < 32) {m : FVec Ideal S512x128 .bf16} (hm : IsRows R.k a m) :
    IsTile R.raw a j (probs m (H.tile j).q (H.tile j).ls) := fun r s => by
  show Ideal.exp2 (pairs m (H.tile j).q (ix2 r s) - across (H.tile j).ls (ix2 r s)) = _
  rw [pairs_eq hm (hH.tile_q hj), across_apply, hH.tile_ls hj, ← EReal.coe_sub, Ideal.exp2_coe]
  rfl

/-- Behind the key tile no query is masked. -/
theorem probs_behind (hH : IsHead R H) (hj : j < 32) {m : FVec Ideal S512x128 .bf16} (hm : IsRows R.k a m) (ha : a + 512 ≤ 512 * j) :
    IsTile R.prob a j (probs m (H.tile j).q (H.tile j).ls) := fun r s => by
  have hr := r.isLt
  rw [probs_eq hH hj hm, Rows.prob_of_le R (by omega)]

/-- On the diagonal the mask leaves the probabilities. -/
theorem probs_diagonal (hH : IsHead R H) (hj : j < 32) {m : FVec Ideal S512x128 .bf16} (hm : IsRows R.k a m) (ha : a = 512 * j) :
    IsTile R.prob a j (masked (probs m (H.tile j).q (H.tile j).ls)) := fun r s => by
  rw [masked_apply]
  by_cases h : r.val ≤ s.val
  · rw [if_pos h, probs_eq hH hj hm, Rows.prob_of_le R (by omega)]
  · rw [if_neg h, Rows.prob_of_lt R (by omega), EReal.coe_zero]

theorem dScore_eq (hH : IsHead R H) (hj : j < 32) {P : FVec Ideal S512x512 .f32} {v : FVec Ideal S512x128 .bf16}
    (hP : IsTile R.prob a j P) (hv : IsRows R.v a v) : IsTile R.ds a j (dScore P v (H.tile j).o (H.tile j).de) := fun r s => by
  show P (ix2 r s) * (pairs v (H.tile j).o (ix2 r s) - across (H.tile j).de (ix2 r s)) = _
  rw [hP, pairs_eq hv (hH.tile_o hj), across_apply, hH.tile_de hj, ← EReal.coe_sub, ← EReal.coe_mul]
  rfl

theorem addRows_eq {f g w : ℕ → ℕ → ℝ} {acc : FVec Ideal S512x128 .f32} {W : FVec Ideal S512x512 .bf16} {x : Vec Ideal S1x512x128 .bf16}
    (ha : IsSum f a acc) (hw : IsTile w a j W) (hx : ∀ (s : Fin 512) (y : Fin 128), x (ix3 0 s y) = ((g (512 * j + s) y : ℝ) : EReal)) :
    IsSum (fun k y => f k y + ∑ s ∈ range 512, w (512 * j + s) k * g (512 * j + s) y) a (addRows acc W x) := fun r y => by
  rw [addRows_apply, ha, EReal.coe_add, ← coe_sum_fin]
  refine congrArg _ (sum_congr rfl fun s _ => ?_)
  rw [hw, hx, EReal.coe_mul]

theorem partQ_eq {t : Vec Ideal S1x1x128x512 .bf16} {W : FVec Ideal S512x512 .bf16} (ht : IsCols R.k a t) (hw : IsTile R.ds a j W)
    (x : Fin 128) (s : Fin 512) : partQ t W (ix2 x s) = ((R.part a 512 (512 * j + s) x : ℝ) : EReal) := by
  rw [partQ_apply]
  unfold Rows.part
  rw [← coe_sum_fin]
  refine sum_congr rfl fun r _ => ?_
  rw [ht, hw, EReal.coe_mul]

end Tile

/-! ## The running sums and the query gradient, query tile by query tile -/

/-- The running sums over the query tiles below `J`. -/
structure SumsAt (R : Rows) (p J : ℕ) (s : Sums Ideal) : Prop where
  kA : IsSum (R.dk (512 * J)) (1024 * p) s.1
  vA : IsSum (R.dv (512 * J)) (1024 * p) s.2.1
  kB : IsSum (R.dk (512 * J)) (1024 * p + 512) s.2.2.1
  vB : IsSum (R.dv (512 * J)) (1024 * p + 512) s.2.2.2

/-- The query gradient: `Y`, and in the query tiles below `J` the pair's part too. -/
def GradAt (R : Rows) (p J : ℕ) (Y : ℕ → ℕ → ℝ) (X : Vec Ideal S1x32x128x512 .f32) : Prop :=
  ∀ (a : Fin 32) (x : Fin 128) (b : Fin 512), X (ix4 0 a x b)
    = ((Y (512 * a + b) x + (if a.val < J then R.part (1024 * p) 1024 (512 * a + b) x else 0) : ℝ) : EReal)

theorem zeros_apply (i : S512x128.Idx) : zeros (F := Ideal) i = ((0 : ℝ) : EReal) := Ideal.ofBits_zero_f32
theorem zerosQ_apply (i : S1x32x128x512.Idx) : zerosQ (F := Ideal) i = ((0 : ℝ) : EReal) := Ideal.ofBits_zero_f32

theorem zeros_dk {n a : ℕ} (h : n ≤ a) : IsSum (R.dk n) a zeros := fun r x => by
  rw [zeros_apply, Rows.dk_zero R (by omega)]
theorem zeros_dv {n a : ℕ} (h : n ≤ a) : IsSum (R.dv n) a zeros := fun r x => by
  rw [zeros_apply, Rows.dv_zero R (by omega)]

theorem addRows_dk (hH : IsHead R H) {J a : ℕ} (hJ : J < 32) {acc : FVec Ideal S512x128 .f32} {W : FVec Ideal S512x512 .bf16}
    (ha : IsSum (R.dk (512 * J)) a acc) (hw : IsTile R.ds a J W) : IsSum (R.dk (512 * (J + 1))) a (addRows acc W (H.tile J).q) := fun r x => by
  rw [addRows_eq ha hw (hH.tile_q hJ), Nat.mul_add, Nat.mul_one, Rows.dk_add]
theorem addRows_dv (hH : IsHead R H) {J a : ℕ} (hJ : J < 32) {acc : FVec Ideal S512x128 .f32} {W : FVec Ideal S512x512 .bf16}
    (ha : IsSum (R.dv (512 * J)) a acc) (hw : IsTile R.prob a J W) : IsSum (R.dv (512 * (J + 1))) a (addRows acc W (H.tile J).o) := fun r x => by
  rw [addRows_eq ha hw (hH.tile_o hJ), Nat.mul_add, Nat.mul_one, Rows.dv_add]

/-- One query tile more in all four sums. -/
theorem sumsOf_at (hH : IsHead R H) (hB : IsKeys R p B) {J : ℕ} (hJ : J < 32) {pA pB : FVec Ideal S512x512 .f32}
    (hA : IsTile R.prob (1024 * p) J pA) (hb : IsTile R.prob (1024 * p + 512) J pB) {s : Sums Ideal} (hs : SumsAt R p J s) :
    SumsAt R p (J + 1) (sumsOf B (H.tile J) pA pB s) :=
  ⟨addRows_dk hH hJ hs.kA (dScore_eq hH hJ hA hB.vA), addRows_dv hH hJ hs.vA hA,
    addRows_dk hH hJ hs.kB (dScore_eq hH hJ hb hB.vB), addRows_dv hH hJ hs.vB hb⟩

/-- What the pair adds to a query tile. -/
theorem bothQ_at (hH : IsHead R H) (hB : IsKeys R p B) {J : ℕ} (hJ : J < 32) {pA pB : FVec Ideal S512x512 .f32}
    (hA : IsTile R.prob (1024 * p) J pA) (hb : IsTile R.prob (1024 * p + 512) J pB) (x : Fin 128) (s : Fin 512) :
    bothQ B (H.tile J) pA pB (ix2 x s) = ((R.part (1024 * p) 1024 (512 * J + s) x : ℝ) : EReal) := by
  unfold bothQ
  rw [addf_apply, partQ_eq hB.tA (dScore_eq hH hJ hA hB.vA), partQ_eq hB.tB (dScore_eq hH hJ hb hB.vB), ← EReal.coe_add,
    ← Rows.part_add]

/-- The query tile with the pair's part added. -/
theorem putTile_at {Y : ℕ → ℕ → ℝ} {X : Vec Ideal S1x32x128x512 .f32} {J : ℕ} (hJ : J < 32) (hX : GradAt R p J Y X)
    {z : FVec Ideal S128x512 .f32} (hz : ∀ (x : Fin 128) (s : Fin 512), z (ix2 x s) = ((R.part (1024 * p) 1024 (512 * J + s) x : ℝ) : EReal)) :
    GradAt R p (J + 1) Y (putTile X J (addTile (tileAt X J) z)) := fun a x b => by
  unfold putTile
  by_cases h : a.val = J
  · have hm : ((ix4 0 a x b : S1x32x128x512.Idx) 1).val = J % 32 := by
      show a.val = J % 32
      omega
    rw [if_pos hm]
    refine (addTile_apply _ _ x b).trans ?_
    have ht : tileAt X J (ix4 0 0 x b) = X (ix4 0 a x b) := by
      unfold tileAt
      congr 1
      funext d
      match d with
      | ⟨0, _⟩ => rfl
      | ⟨1, _⟩ => exact Fin.ext (show J % 32 = a.val by omega)
      | ⟨2, _⟩ => rfl
      | ⟨3, _⟩ => rfl
    rw [ht, hX, hz, if_neg (by omega), if_pos (by omega), ← EReal.coe_add, add_zero, h]
  · have hm : ¬((ix4 0 a x b : S1x32x128x512.Idx) 1).val = J % 32 := by
      show ¬a.val = J % 32
      omega
    rw [if_neg hm, hX]
    by_cases h2 : a.val < J
    · rw [if_pos h2, if_pos (by omega)]
    · rw [if_neg h2, if_neg (by omega)]

/-- The steps behind the pair. -/
theorem steps_at (hH : IsHead R H) (hB : IsKeys R p B) {Y : ℕ → ℕ → ℝ} {J : ℕ} (hp : 2 * p + 2 ≤ J) {s : Sums Ideal × Vec Ideal S1x32x128x512 .f32}
    (hs : SumsAt R p J s.1) (hX : GradAt R p J Y s.2) :
    ∀ n, J + n ≤ 32 → SumsAt R p (J + n) (steps B H J n s).1 ∧ GradAt R p (J + n) Y (steps B H J n s).2 := by
  intro n
  induction n with
  | zero => exact fun _ => ⟨hs, hX⟩
  | succ n ih =>
    intro hn
    obtain ⟨h1, h2⟩ := ih (by omega)
    have hA := probs_behind (a := 1024 * p) (j := J + n) hH (by omega) hB.kA (by omega)
    have hb := probs_behind (a := 1024 * p + 512) (j := J + n) hH (by omega) hB.kB (by omega)
    exact ⟨sumsOf_at hH hB (by omega) hA hb h1, putTile_at (by omega) h2 (bothQ_at hH hB (by omega) hA hb)⟩

/-- All the query tiles of a pair. -/
theorem whole_at (hH : IsHead R H) (hB : IsKeys R p B) (hp : p < 16) {Y : ℕ → ℕ → ℝ} {X : Vec Ideal S1x32x128x512 .f32}
    (hX : ∀ (a : Fin 32) (x : Fin 128) (b : Fin 512), X (ix4 0 a x b) = ((Y (512 * a + b) x : ℝ) : EReal)) :
    SumsAt R p 32 (whole B H p X).1 ∧ GradAt R p 32 Y (whole B H p X).2 := by
  have h0 : GradAt R p (2 * p) Y X := fun a x b => by
    rw [hX]
    by_cases h : a.val < 2 * p
    · rw [if_pos h, Rows.part_zero R (by have := b.isLt; omega), add_zero]
    · rw [if_neg h, add_zero]
  have hA1 := probs_diagonal (a := 1024 * p) (j := 2 * p) hH (by omega) hB.kA (by omega)
  have hs1 : SumsAt R p (2 * p + 1) (first B H p X).1 :=
    ⟨addRows_dk hH (by omega) (zeros_dk (by omega)) (dScore_eq hH (by omega) hA1 hB.vA), addRows_dv hH (by omega) (zeros_dv (by omega)) hA1,
      zeros_dk (by omega), zeros_dv (by omega)⟩
  have hX1 : GradAt R p (2 * p + 1) Y (first B H p X).2 := putTile_at (by omega) h0 fun x s => by
    rw [partQ_eq hB.tA (dScore_eq hH (by omega) hA1 hB.vA), show (1024 : ℕ) = 512 + 512 from rfl, Rows.part_add,
      Rows.part_zero R (a := (512 + 512) * p + 512) (by have := s.isLt; omega), add_zero]
  have hA2 := probs_behind (a := 1024 * p) (j := 2 * p + 1) hH (by omega) hB.kA (by omega)
  have hB2 := probs_diagonal (a := 1024 * p + 512) (j := 2 * p + 1) hH (by omega) hB.kB (by omega)
  have hs2 : SumsAt R p (2 * p + 2) (second B H p (first B H p X)).1 := sumsOf_at hH hB (by omega) hA2 hB2 hs1
  have hX2 : GradAt R p (2 * p + 2) Y (second B H p (first B H p X)).2 :=
    putTile_at (by omega) hX1 (bothQ_at hH hB (by omega) hA2 hB2)
  have h := steps_at hH hB le_rfl hs2 hX2 (30 - 2 * p) (by omega)
  rw [show 2 * p + 2 + (30 - 2 * p) = 32 by omega] at h
  exact h

end Cert.KernelIdeal.Hand
end
-- ==== Proof.V.Blocks.lean ====
/- Where a grid point's blocks lie in the arrays: point `t` works on head `t / 16` and on pair `t % 16`. -/
module

public import proofs.«01_k».proof.Proof.KI.Run
public import proofs.«01_k».proof.Proof.V.Point
public import Idealize.ShloMosaic.Lib.Pipeline.ValueKit

@[expose] public section

set_option maxRecDepth 16384

noncomputable section

namespace Cert.KernelIdeal.Hand

open Cert.KernelIdeal Cert.KernelIdeal.Gen Cert.Attn
open Idealize.ShloMosaic hiding ix2 ix3 ix4
open Idealize.ShloMosaic.TcCoe Idealize.ShloMosaic.ValueIdx

variable (m : (ℓ : Loc nD τ sig) → Buf (Elt Ideal) ℓ)

/-- Where every window's block begins. -/
theorem idx_at : ∀ t : Fin cfg0.N,
    (win0_0.index t = ![t.val / 16, 0, 0] ∧ win0_1.index t = ![t.val / 16, t.val % 16, 0]
      ∧ win0_2.index t = ![t.val / 16, t.val % 16, 0, 0] ∧ win0_3.index t = ![t.val / 16, t.val % 16, 0]
      ∧ win0_4.index t = ![t.val / 16, 0, 0])
    ∧ (win0_5.index t = ![t.val / 16, 0, 0, 0] ∧ win0_6.index t = ![t.val / 16, 0, 0, 0]
      ∧ win0_7.index t = ![t.val / 16, 0, 0, 0] ∧ win0_8.index t = ![t.val / 16, t.val % 16, 0]
      ∧ win0_9.index t = ![t.val / 16, t.val % 16, 0]) :=
  (by decide +kernel : ∀ t : Fin grid0.N, _)

/-- The head of a grid point. -/
def headNo (t : Fin cfg0.N) : Fin 8 := ⟨t.val / 16, by have h : t.val < 128 := t.isLt; omega⟩
theorem headNo_val (t : Fin cfg0.N) : (headNo t).val = t.val / 16 := rfl

theorem at_zero {i n y z : ℕ} (hi : i = 0) (hy : y = z) : i * n + y = z := by rw [hi, hy, Nat.zero_mul, Nat.zero_add]
theorem at_head {i n y z : ℕ} (hi : i = z) (hn : n = 1) (hy : y = 0) : i * n + y = z := by rw [hi, hn, hy, Nat.mul_one, Nat.add_zero]
theorem at_block {i j n n' y z : ℕ} (hi : i = j) (hn : n = n') (hy : y = z) : i * n + y = n' * j + z := by
  rw [hi, hn, hy, Nat.mul_comm]

theorem iblk_0 (c : Dev nD) (t : Fin cfg0.N) (i : Fin 16384) (x : Fin 128) : iblk m c 0 t (ix3 0 i x) = V m c main_v42 (ix3 (headNo t) i x) := by
  have e := (idx_at t).1.1
  blk_simp [iblk]
  refine congrArg _ (funext fun d => Fin.ext ?_)
  match d with
  | ⟨0, _⟩ => refine (Pipeline.Window.rect_emb_val win0_0 t _ 0).trans ?_; rw [e]; exact at_head rfl rfl rfl
  | ⟨1, _⟩ => refine (Pipeline.Window.rect_emb_val win0_0 t _ 1).trans ?_; rw [e]; exact at_zero rfl rfl
  | ⟨2, _⟩ => refine (Pipeline.Window.rect_emb_val win0_0 t _ 2).trans ?_; rw [e]; exact at_zero rfl rfl
theorem iblk_1 (c : Dev nD) (t : Fin cfg0.N) (r : Fin 1024) (x : Fin 128) : iblk m c 1 t (ix3 0 r x) = V m c main_v49 (ix3 (headNo t) ⟨1024 * (t.val % 16) + r.val, by omega⟩ x) := by
  have e := (idx_at t).1.2.1
  blk_simp [iblk]
  refine congrArg _ (funext fun d => Fin.ext ?_)
  match d with
  | ⟨0, _⟩ => refine (Pipeline.Window.rect_emb_val win0_1 t _ 0).trans ?_; rw [e]; exact at_head rfl rfl rfl
  | ⟨1, _⟩ => refine (Pipeline.Window.rect_emb_val win0_1 t _ 1).trans ?_; rw [e]; exact at_block rfl rfl rfl
  | ⟨2, _⟩ => refine (Pipeline.Window.rect_emb_val win0_1 t _ 2).trans ?_; rw [e]; exact at_zero rfl rfl
theorem iblk_2 (c : Dev nD) (t : Fin cfg0.N) (u : Fin 2) (x : Fin 128) (r : Fin 512) : iblk m c 2 t (ix4 0 u x r) = V m c main_v51 (ix4 (headNo t) ⟨2 * (t.val % 16) + u.val, by omega⟩ x r) := by
  have e := (idx_at t).1.2.2.1
  blk_simp [iblk]
  refine congrArg _ (funext fun d => Fin.ext ?_)
  match d with
  | ⟨0, _⟩ => refine (Pipeline.Window.rect_emb_val win0_2 t _ 0).trans ?_; rw [e]; exact at_head rfl rfl rfl
  | ⟨1, _⟩ => refine (Pipeline.Window.rect_emb_val win0_2 t _ 1).trans ?_; rw [e]; exact at_block rfl rfl rfl
  | ⟨2, _⟩ => refine (Pipeline.Window.rect_emb_val win0_2 t _ 2).trans ?_; rw [e]; exact at_zero rfl rfl
  | ⟨3, _⟩ => refine (Pipeline.Window.rect_emb_val win0_2 t _ 3).trans ?_; rw [e]; exact at_zero rfl rfl
theorem iblk_3 (c : Dev nD) (t : Fin cfg0.N) (r : Fin 1024) (x : Fin 128) : iblk m c 3 t (ix3 0 r x) = V m c main_v57 (ix3 (headNo t) ⟨1024 * (t.val % 16) + r.val, by omega⟩ x) := by
  have e := (idx_at t).1.2.2.2.1
  blk_simp [iblk]
  refine congrArg _ (funext fun d => Fin.ext ?_)
  match d with
  | ⟨0, _⟩ => refine (Pipeline.Window.rect_emb_val win0_3 t _ 0).trans ?_; rw [e]; exact at_head rfl rfl rfl
  | ⟨1, _⟩ => refine (Pipeline.Window.rect_emb_val win0_3 t _ 1).trans ?_; rw [e]; exact at_block rfl rfl rfl
  | ⟨2, _⟩ => refine (Pipeline.Window.rect_emb_val win0_3 t _ 2).trans ?_; rw [e]; exact at_zero rfl rfl
theorem iblk_4 (c : Dev nD) (t : Fin cfg0.N) (i : Fin 16384) (x : Fin 128) : iblk m c 4 t (ix3 0 i x) = V m c main_v62 (ix3 (headNo t) i x) := by
  have e := (idx_at t).1.2.2.2.2
  blk_simp [iblk]
  refine congrArg _ (funext fun d => Fin.ext ?_)
  match d with
  | ⟨0, _⟩ => refine (Pipeline.Window.rect_emb_val win0_4 t _ 0).trans ?_; rw [e]; exact at_head rfl rfl rfl
  | ⟨1, _⟩ => refine (Pipeline.Window.rect_emb_val win0_4 t _ 1).trans ?_; rw [e]; exact at_zero rfl rfl
  | ⟨2, _⟩ => refine (Pipeline.Window.rect_emb_val win0_4 t _ 2).trans ?_; rw [e]; exact at_zero rfl rfl
theorem iblk_5 (c : Dev nD) (t : Fin cfg0.N) (a : Fin 32) (b : Fin 512) : iblk m c 5 t (ix4 0 a 0 b) = V m c main_v29 (ix4 (headNo t) a 0 b) := by
  have e := (idx_at t).2.1
  blk_simp [iblk]
  refine congrArg _ (funext fun d => Fin.ext ?_)
  match d with
  | ⟨0, _⟩ => refine (Pipeline.Window.rect_emb_val win0_5 t _ 0).trans ?_; rw [e]; exact at_head rfl rfl rfl
  | ⟨1, _⟩ => refine (Pipeline.Window.rect_emb_val win0_5 t _ 1).trans ?_; rw [e]; exact at_zero rfl rfl
  | ⟨2, _⟩ => refine (Pipeline.Window.rect_emb_val win0_5 t _ 2).trans ?_; rw [e]; exact at_zero rfl rfl
  | ⟨3, _⟩ => refine (Pipeline.Window.rect_emb_val win0_5 t _ 3).trans ?_; rw [e]; exact at_zero rfl rfl
theorem iblk_6 (c : Dev nD) (t : Fin cfg0.N) (a : Fin 32) (b : Fin 512) : iblk m c 6 t (ix4 0 a 0 b) = V m c main_v34 (ix4 (headNo t) a 0 b) := by
  have e := (idx_at t).2.2.1
  blk_simp [iblk]
  refine congrArg _ (funext fun d => Fin.ext ?_)
  match d with
  | ⟨0, _⟩ => refine (Pipeline.Window.rect_emb_val win0_6 t _ 0).trans ?_; rw [e]; exact at_head rfl rfl rfl
  | ⟨1, _⟩ => refine (Pipeline.Window.rect_emb_val win0_6 t _ 1).trans ?_; rw [e]; exact at_zero rfl rfl
  | ⟨2, _⟩ => refine (Pipeline.Window.rect_emb_val win0_6 t _ 2).trans ?_; rw [e]; exact at_zero rfl rfl
  | ⟨3, _⟩ => refine (Pipeline.Window.rect_emb_val win0_6 t _ 3).trans ?_; rw [e]; exact at_zero rfl rfl

end Cert.KernelIdeal.Hand
end
-- ==== Proof.V.Grid.lean ====
/- What the call leaves over the real numbers: the gradients of every head's queries, keys and values. -/
module

public import proofs.«01_k».proof.Proof.V.Blocks

@[expose] public section

set_option maxRecDepth 16384

noncomputable section

namespace Cert.KernelIdeal.Hand

open Cert.KernelIdeal Cert.KernelIdeal.Gen Cert.Attn
open Idealize.ShloMosaic hiding ix2 ix3 ix4
open Idealize.ShloMosaic.TcCoe Idealize.ShloMosaic.ValueIdx
open Idealize.ShloMosaic.Pipeline (Dat)

variable (m : (ℓ : Loc nD τ sig) → Buf (Elt Ideal) ℓ)

/-- The call's arrays hold the heads' rows `R` when it begins. -/
structure Entry (c : Dev nD) (R : ℕ → Rows) : Prop where
  q : ∀ (h : Fin 8) (i : Fin 16384) (x : Fin 128), V m c main_v42 (ix3 h i x) = (((R h).q i x : ℝ) : EReal)
  k : ∀ (h : Fin 8) (i : Fin 16384) (x : Fin 128), V m c main_v49 (ix3 h i x) = (((R h).k i x : ℝ) : EReal)
  t : ∀ (h : Fin 8) (a : Fin 32) (x : Fin 128) (b : Fin 512), V m c main_v51 (ix4 h a x b) = (((R h).k (512 * a + b) x : ℝ) : EReal)
  v : ∀ (h : Fin 8) (i : Fin 16384) (x : Fin 128), V m c main_v57 (ix3 h i x) = (((R h).v i x : ℝ) : EReal)
  o : ∀ (h : Fin 8) (i : Fin 16384) (x : Fin 128), V m c main_v62 (ix3 h i x) = (((R h).o i x : ℝ) : EReal)
  ls : ∀ (h : Fin 8) (a : Fin 32) (b : Fin 512), V m c main_v29 (ix4 h a 0 b) = (((R h).ls (512 * a + b) : ℝ) : EReal)
  de : ∀ (h : Fin 8) (a : Fin 32) (b : Fin 512), V m c main_v34 (ix4 h a 0 b) = (((R h).de (512 * a + b) : ℝ) : EReal)

variable {m} {c : Dev nD} {R : ℕ → Rows}

theorem head_q (t : Fin cfg0.N) (i : Fin 16384) (x : Fin 128) : (headAt m c t).q (ix3 0 i x) = V m c main_v42 (ix3 (headNo t) i x) :=
  iblk_0 m c t i x
theorem head_o (t : Fin cfg0.N) (i : Fin 16384) (x : Fin 128) : (headAt m c t).o (ix3 0 i x) = V m c main_v62 (ix3 (headNo t) i x) :=
  iblk_4 m c t i x
theorem head_ls (t : Fin cfg0.N) (a : Fin 32) (b : Fin 512) : (headAt m c t).ls (ix4 0 a 0 b) = V m c main_v29 (ix4 (headNo t) a 0 b) :=
  iblk_5 m c t a b
theorem head_de (t : Fin cfg0.N) (a : Fin 32) (b : Fin 512) : (headAt m c t).de (ix4 0 a 0 b) = V m c main_v34 (ix4 (headNo t) a 0 b) :=
  iblk_6 m c t a b

theorem head_at (hE : Entry m c R) (t : Fin cfg0.N) : IsHead (R (t.val / 16)) (headAt m c t) where
  q i x := by rw [head_q, hE.q, headNo_val]
  o i x := by rw [head_o, hE.o, headNo_val]
  ls a b := by rw [head_ls, hE.ls, headNo_val]
  de a b := by rw [head_de, hE.de, headNo_val]

/-- The pair's keys, keys with the features down, and values. -/
def pairK (m : (ℓ : Loc nD τ sig) → Buf (Elt Ideal) ℓ) (c : Dev nD) (t : Fin cfg0.N) : Vec Ideal S1x1024x128 .bf16 := iblk m c 1 t
def pairT (m : (ℓ : Loc nD τ sig) → Buf (Elt Ideal) ℓ) (c : Dev nD) (t : Fin cfg0.N) : Vec Ideal S1x2x128x512 .bf16 := iblk m c 2 t
def pairV (m : (ℓ : Loc nD τ sig) → Buf (Elt Ideal) ℓ) (c : Dev nD) (t : Fin cfg0.N) : Vec Ideal S1x1024x128 .bf16 := iblk m c 3 t
theorem keysAt_eq (t : Fin cfg0.N) : keysAt m c t = pointKeys (pairK m c t) (pairT m c t) (pairV m c t) := rfl
theorem pairK_apply (t : Fin cfg0.N) (r : Fin 1024) (x : Fin 128) : pairK m c t (ix3 0 r x)
    = V m c main_v49 (ix3 (headNo t) ⟨1024 * (t.val % 16) + r.val, by omega⟩ x) := iblk_1 m c t r x
theorem pairT_apply (t : Fin cfg0.N) (u : Fin 2) (x : Fin 128) (r : Fin 512) : pairT m c t (ix4 0 u x r)
    = V m c main_v51 (ix4 (headNo t) ⟨2 * (t.val % 16) + u.val, by omega⟩ x r) := iblk_2 m c t u x r
theorem pairV_apply (t : Fin cfg0.N) (r : Fin 1024) (x : Fin 128) : pairV m c t (ix3 0 r x)
    = V m c main_v57 (ix3 (headNo t) ⟨1024 * (t.val % 16) + r.val, by omega⟩ x) := iblk_3 m c t r x

/-- A tile of the pair's rows. -/
theorem half_rows {f : ℕ → ℕ → ℝ} {p : ℕ} {X : Vec Ideal S1x1024x128 .bf16} (u : ℕ) (hu : u < 2)
    (h : ∀ (r : Fin 1024) (x : Fin 128), X (ix3 0 r x) = ((f (1024 * p + r) x : ℝ) : EReal)) :
    IsRows f (1024 * p + 512 * u) (rows (halfAt X u)) := fun r x => by
  have hr := r.isLt
  rw [rows_apply]
  refine (h ⟨(512 * u + r.val) % 1024, Nat.mod_lt _ (by decide)⟩ x).trans ?_
  simp only [Nat.mod_eq_of_lt (show 512 * u + r.val < 1024 by omega), Nat.add_assoc]

/-- A tile of the pair with the features down. -/
theorem half_cols {f : ℕ → ℕ → ℝ} {p : ℕ} {X : Vec Ideal S1x2x128x512 .bf16} (u : ℕ) (hu : u < 2)
    (h : ∀ (a : Fin 2) (x : Fin 128) (b : Fin 512), X (ix4 0 a x b) = ((f (512 * (2 * p + a) + b) x : ℝ) : EReal)) :
    IsCols f (1024 * p + 512 * u) (colsAt X u) := fun x r => by
  refine (h ⟨u % 2, Nat.mod_lt _ (by decide)⟩ x r).trans ?_
  simp only [Nat.mod_eq_of_lt hu]
  congr 2
  omega

theorem keys_of {Q : Rows} {p : ℕ} {X Y : Vec Ideal S1x1024x128 .bf16} {T : Vec Ideal S1x2x128x512 .bf16}
    (h1 : ∀ (r : Fin 1024) (x : Fin 128), X (ix3 0 r x) = ((Q.k (1024 * p + r) x : ℝ) : EReal))
    (h2 : ∀ (a : Fin 2) (x : Fin 128) (b : Fin 512), T (ix4 0 a x b) = ((Q.k (512 * (2 * p + a) + b) x : ℝ) : EReal))
    (h3 : ∀ (r : Fin 1024) (x : Fin 128), Y (ix3 0 r x) = ((Q.v (1024 * p + r) x : ℝ) : EReal)) : IsKeys Q p (pointKeys X T Y) :=
  ⟨half_rows 0 (by decide) h1, half_rows 1 (by decide) h1, half_rows 0 (by decide) h3, half_rows 1 (by decide) h3,
    half_cols 0 (by decide) h2, half_cols 1 (by decide) h2⟩

theorem keys_at (hE : Entry m c R) (t : Fin cfg0.N) : IsKeys (R (t.val / 16)) (t.val % 16) (keysAt m c t) := by
  have h1 : ∀ (r : Fin 1024) (x : Fin 128), pairK m c t (ix3 0 r x) = (((R (t.val / 16)).k (1024 * (t.val % 16) + r) x : ℝ) : EReal) :=
    fun r x => by rw [pairK_apply, hE.k, headNo_val]
  have h3 : ∀ (r : Fin 1024) (x : Fin 128), pairV m c t (ix3 0 r x) = (((R (t.val / 16)).v (1024 * (t.val % 16) + r) x : ℝ) : EReal) :=
    fun r x => by rw [pairV_apply, hE.v, headNo_val]
  have h2 : ∀ (a : Fin 2) (x : Fin 128) (b : Fin 512), pairT m c t (ix4 0 a x b)
      = (((R (t.val / 16)).k (512 * (2 * (t.val % 16) + a) + b) x : ℝ) : EReal) :=
    fun a x b => by rw [pairT_apply, hE.t, headNo_val]
  exact (congrArg (IsKeys (R (t.val / 16)) (t.val % 16)) (keysAt_eq t)).mpr (keys_of h1 h2 h3)

/-- What a point leaves, from what it finds of the query gradient. -/
theorem point_of (hE : Entry m c R) (t : Fin cfg0.N)
    (hX : ∀ (a : Fin 32) (x : Fin 128) (b : Fin 512), (if t.val % 16 = 0 then zerosQ else gradAt m c t.val) (ix4 0 a x b)
      = (((R (t.val / 16)).part 0 (1024 * (t.val % 16)) (512 * a + b) x : ℝ) : EReal)) :
    SumsAt (R (t.val / 16)) (t.val % 16) 32 (pointAt m c t).1
      ∧ ∀ (a : Fin 32) (x : Fin 128) (b : Fin 512), (pointAt m c t).2 (ix4 0 a x b)
        = (((R (t.val / 16)).part 0 (1024 * (t.val % 16 + 1)) (512 * a + b) x : ℝ) : EReal) := by
  obtain ⟨h1, h2⟩ := whole_at (Y := (R (t.val / 16)).part 0 (1024 * (t.val % 16))) (head_at hE t) (keys_at hE t)
    (Nat.mod_lt _ (by decide)) hX
  refine ⟨h1, fun a x b => (h2 a x b).trans ?_⟩
  rw [if_pos a.isLt, Nat.mul_add, Nat.mul_one, Rows.part_add, Nat.zero_add]

/-- What point `16 h + p` leaves. -/
theorem point_at (hE : Entry m c R) (h : ℕ) (hh : h < 8) : ∀ (p : ℕ) (t : Fin cfg0.N), p < 16 → t.val = 16 * h + p →
    SumsAt (R (t.val / 16)) (t.val % 16) 32 (pointAt m c t).1
      ∧ ∀ (a : Fin 32) (x : Fin 128) (b : Fin 512), (pointAt m c t).2 (ix4 0 a x b)
        = (((R (t.val / 16)).part 0 (1024 * (t.val % 16 + 1)) (512 * a + b) x : ℝ) : EReal) := by
  intro p
  induction p with
  | zero =>
    intro t _ ht
    have h0 : t.val % 16 = 0 := by omega
    refine point_of hE t fun a x b => ?_
    rw [if_pos h0, zerosQ_apply, h0]
    unfold Rows.part
    rw [Nat.mul_zero, Finset.range_zero, Finset.sum_empty]
  | succ p ih =>
    intro t hp ht
    have hN : t.val < 128 := t.isLt
    have h0 : t.val % 16 ≠ 0 := by omega
    obtain ⟨-, h2⟩ := ih ⟨t.val - 1, by show t.val - 1 < 128; omega⟩ (by omega) (by show t.val - 1 = _; omega)
    refine point_of hE t fun a x b => ?_
    rw [if_neg h0]
    have e : gradAt m c t.val = (pointAt m c ⟨t.val - 1, by show t.val - 1 < 128; omega⟩).2 := by
      rw [← gradAt_succ]
      congr 1
      show t.val = t.val - 1 + 1
      omega
    rw [e, h2]
    have e1 : (t.val - 1) / 16 = t.val / 16 := by omega
    have e2 : (t.val - 1) % 16 + 1 = t.val % 16 := by omega
    show ((((R ((t.val - 1) / 16)).part 0 (1024 * ((t.val - 1) % 16 + 1)) (512 * a + b) x : ℝ)) : EReal) = _
    rw [e1, e2]

theorem point_sums (hE : Entry m c R) (t : Fin cfg0.N) : SumsAt (R (t.val / 16)) (t.val % 16) 32 (pointAt m c t).1 :=
  have hN : t.val < 128 := t.isLt
  (point_at hE (t.val / 16) (by omega) (t.val % 16) t (Nat.mod_lt _ (by decide)) (by omega)).1
theorem point_grad (hE : Entry m c R) (t : Fin cfg0.N) (a : Fin 32) (x : Fin 128) (b : Fin 512) : (pointAt m c t).2 (ix4 0 a x b)
    = (((R (t.val / 16)).part 0 (1024 * (t.val % 16 + 1)) (512 * a + b) x : ℝ) : EReal) :=
  have hN : t.val < 128 := t.isLt
  (point_at hE (t.val / 16) (by omega) (t.val % 16) t (Nat.mod_lt _ (by decide)) (by omega)).2 a x b

/-! ## What the body writes of the sums -/

theorem drop_apply (a : FVec Ideal S512x128 .bf16) (r : Fin 512) (x : Fin 128) :
    shapeCast S1x512x128 a shapeCasts_S512x128_S1x512x128 (ix3 0 r x) = a (ix2 r x) := by
  refine shapeCast_apply a _ (ix3 0 r x) (ix2 r x) ?_
  rw [Shape.rowMajor_val_three, Shape.rowMajor_val_two]
  show r.val * 128 + x.val = (0 * 512 + r.val) * 128 + x.val
  omega

theorem pay184_apply (s : FVec Ideal S512x128 .f32) (r : Fin 512) (x : Fin 128) :
    k0_pay184 s (ix3 0 r x) = s (ix2 r x) * ((Real.log 2 : ℝ) : EReal) := by
  unfold k0_pay184
  rw [drop_apply]
  rfl
theorem pay186_apply (s : FVec Ideal S512x128 .f32) (r : Fin 512) (x : Fin 128) :
    k0_pay186 s (ix3 0 r x) = s (ix2 r x) * ((Real.log 2 : ℝ) : EReal) := by
  unfold k0_pay186
  rw [drop_apply]
  rfl
theorem pay185_apply (s : FVec Ideal S512x128 .f32) (r : Fin 512) (x : Fin 128) : k0_pay185 s (ix3 0 r x) = s (ix2 r x) := drop_apply _ r x
theorem pay1_apply (s : FVec Ideal S512x128 .f32) (r : Fin 512) (x : Fin 128) : k0_pay1 (k0_pay187 s) (ix3 0 r x) = s (ix2 r x) := drop_apply _ r x

/-- Two tiles that hold the rows of one function hold the pair's rows. -/
theorem pairRows_at {f : ℕ → ℕ → ℝ} {p : ℕ} {a b : Vec Ideal S1x512x128 .bf16}
    (ha : ∀ (r : Fin 512) (x : Fin 128), a (ix3 0 r x) = ((f (1024 * p + r) x : ℝ) : EReal))
    (hb : ∀ (r : Fin 512) (x : Fin 128), b (ix3 0 r x) = ((f (1024 * p + 512 + r) x : ℝ) : EReal)) (r : Fin 1024) (x : Fin 128) :
    pairRows a b (ix3 0 r x) = ((f (1024 * p + r) x : ℝ) : EReal) := by
  unfold pairRows
  by_cases h : r.val < 512
  · exact (dif_pos h).trans (ha ⟨r.val, h⟩ x)
  · refine (dif_neg h).trans ((hb ⟨r.val - 512, by omega⟩ x).trans ?_)
    show ((f (1024 * p + 512 + (r.val - 512)) x : ℝ) : EReal) = _
    congr 2
    omega

theorem keysOut_at {Q : Rows} {p : ℕ} {s : Sums Ideal} (hs : SumsAt Q p 32 s) (r : Fin 1024) (x : Fin 128) :
    keysOut s (ix3 0 r x) = ((Q.dk 16384 (1024 * p + r) x * Real.log 2 : ℝ) : EReal) :=
  pairRows_at (f := fun j x => Q.dk 16384 j x * Real.log 2) (fun r x => by rw [pay184_apply, hs.kA, ← EReal.coe_mul])
    (fun r x => by rw [pay186_apply, hs.kB, ← EReal.coe_mul]) r x
theorem valuesOut_at {Q : Rows} {p : ℕ} {s : Sums Ideal} (hs : SumsAt Q p 32 s) (r : Fin 1024) (x : Fin 128) :
    valuesOut s (ix3 0 r x) = ((Q.dv 16384 (1024 * p + r) x : ℝ) : EReal) :=
  pairRows_at (f := Q.dv 16384) (fun r x => by rw [pay185_apply, hs.vA]) (fun r x => by rw [pay1_apply, hs.vB]) r x

end Cert.KernelIdeal.Hand
end
-- ==== Proof.V.Arrays.lean ====
/- The call's three result arrays over the real numbers. -/
module

public import proofs.«01_k».proof.Proof.V.Grid

@[expose] public section

set_option maxRecDepth 16384

noncomputable section

namespace Cert.KernelIdeal.Hand

open Cert.KernelIdeal Cert.KernelIdeal.Gen Cert.Attn
open Idealize.ShloMosaic hiding ix2 ix3 ix4
open Idealize.ShloMosaic.TcCoe Idealize.ShloMosaic.ValueIdx
open Idealize.ShloMosaic.Pipeline (Dat)

/-- The query gradient: features down, queries across, tile by tile. -/
def outQ (R : ℕ → Rows) : Vec Ideal S8x32x128x512 .f32 :=
  fun y => (((R (y 0).val).part 0 16384 (512 * (y 1).val + (y 3).val) (y 2).val : ℝ) : EReal)
/-- The key gradient. -/
def outK (R : ℕ → Rows) : Vec Ideal S8x16384x128 .bf16 := fun y => (((R (y 0).val).dk 16384 (y 1).val (y 2).val * Real.log 2 : ℝ) : EReal)
/-- The value gradient. -/
def outV (R : ℕ → Rows) : Vec Ideal S8x16384x128 .bf16 := fun y => (((R (y 0).val).dv 16384 (y 1).val (y 2).val : ℝ) : EReal)

theorem outQ_of {R : ℕ → Rows} {y : S8x32x128x512.Idx} {h : ℕ} (a : Fin 32) (x : Fin 128) (b : Fin 512) (h0 : (y 0).val = h)
    (h1 : (y 1).val = a.val) (h2 : (y 2).val = x.val) (h3 : (y 3).val = b.val) :
    outQ R y = (((R h).part 0 16384 (512 * a + b) x : ℝ) : EReal) := by
  unfold outQ; rw [h0, h1, h2, h3]
theorem outK_of {R : ℕ → Rows} {y : S8x16384x128.Idx} {h j : ℕ} (x : Fin 128) (h0 : (y 0).val = h)
    (h1 : (y 1).val = j) (h2 : (y 2).val = x.val) : outK R y = (((R h).dk 16384 j x * Real.log 2 : ℝ) : EReal) := by
  unfold outK; rw [h0, h1, h2]
theorem outV_of {R : ℕ → Rows} {y : S8x16384x128.Idx} {h j : ℕ} (x : Fin 128) (h0 : (y 0).val = h)
    (h1 : (y 1).val = j) (h2 : (y 2).val = x.val) : outV R y = (((R h).dv 16384 j x : ℝ) : EReal) := by
  unfold outV; rw [h0, h1, h2]

variable {m : (ℓ : Loc nD τ sig) → Buf (Elt Ideal) ℓ} {c : Dev nD} {R : ℕ → Rows}

theorem final_7 (hE : Entry m c R) : (dats m 0 c).arrAt 7 cfg0.N = outQ R := by
  refine Dat.arrAt_eq_of_covers (dats m 0 c) 7 (outQ R) (by decide +kernel) fun t ht y => ?_
  have e := (idx_at t).2.2.2.1
  have hm : t.val % 16 = 15 := (flush0_7 t).1 ht
  blk_simp
  rw [after_7]
  have hy : y = ix4 0 (y 1) (y 2) (y 3) := by
    funext d
    match d with
    | ⟨0, _⟩ => exact Subsingleton.elim (α := Fin 1) _ _
    | ⟨1, _⟩ => rfl
    | ⟨2, _⟩ => rfl
    | ⟨3, _⟩ => rfl
  have hg := point_grad hE t (y 1) (y 2) (y 3)
  refine Eq.trans ?_ (hg.trans ?_)
  · exact congrArg _ hy
  · rw [hm]
    refine (outQ_of (y 1) (y 2) (y 3) ?_ ?_ ?_ ?_).symm
    · refine (Pipeline.Window.rect_emb_val win0_7 t _ 0).trans ?_; rw [e]
      exact at_head rfl rfl (congrArg Fin.val (Subsingleton.elim (α := Fin 1) (y 0) 0))
    · refine (Pipeline.Window.rect_emb_val win0_7 t _ 1).trans ?_; rw [e]; exact at_zero rfl rfl
    · refine (Pipeline.Window.rect_emb_val win0_7 t _ 2).trans ?_; rw [e]; exact at_zero rfl rfl
    · refine (Pipeline.Window.rect_emb_val win0_7 t _ 3).trans ?_; rw [e]; exact at_zero rfl rfl

theorem final_8 (hE : Entry m c R) : (dats m 0 c).arrAt 8 cfg0.N = outK R := by
  refine Dat.arrAt_eq_of_covers (dats m 0 c) 8 (outK R) (by decide +kernel) fun t ht y => ?_
  have e := (idx_at t).2.2.2.2.1
  blk_simp
  rw [after_8]
  have hy : y = ix3 0 (y 1) (y 2) := by
    funext d
    match d with
    | ⟨0, _⟩ => exact Subsingleton.elim (α := Fin 1) _ _
    | ⟨1, _⟩ => rfl
    | ⟨2, _⟩ => rfl
  have hg := keysOut_at (point_sums hE t) (y 1) (y 2)
  refine Eq.trans ?_ (hg.trans ?_)
  · exact congrArg _ hy
  · refine (outK_of (y 2) ?_ ?_ ?_).symm
    · refine (Pipeline.Window.rect_emb_val win0_8 t _ 0).trans ?_; rw [e]
      exact at_head rfl rfl (congrArg Fin.val (Subsingleton.elim (α := Fin 1) (y 0) 0))
    · refine (Pipeline.Window.rect_emb_val win0_8 t _ 1).trans ?_; rw [e]; exact at_block rfl rfl rfl
    · refine (Pipeline.Window.rect_emb_val win0_8 t _ 2).trans ?_; rw [e]; exact at_zero rfl rfl

theorem final_9 (hE : Entry m c R) : (dats m 0 c).arrAt 9 cfg0.N = outV R := by
  refine Dat.arrAt_eq_of_covers (dats m 0 c) 9 (outV R) (by decide +kernel) fun t ht y => ?_
  have e := (idx_at t).2.2.2.2.2
  blk_simp
  rw [after_9]
  have hy : y = ix3 0 (y 1) (y 2) := by
    funext d
    match d with
    | ⟨0, _⟩ => exact Subsingleton.elim (α := Fin 1) _ _
    | ⟨1, _⟩ => rfl
    | ⟨2, _⟩ => rfl
  have hg := valuesOut_at (point_sums hE t) (y 1) (y 2)
  refine Eq.trans ?_ (hg.trans ?_)
  · exact congrArg _ hy
  · refine (outV_of (y 2) ?_ ?_ ?_).symm
    · refine (Pipeline.Window.rect_emb_val win0_9 t _ 0).trans ?_; rw [e]
      exact at_head rfl rfl (congrArg Fin.val (Subsingleton.elim (α := Fin 1) (y 0) 0))
    · refine (Pipeline.Window.rect_emb_val win0_9 t _ 1).trans ?_; rw [e]; exact at_block rfl rfl rfl
    · refine (Pipeline.Window.rect_emb_val win0_9 t _ 2).trans ?_; rw [e]; exact at_zero rfl rfl

end Cert.KernelIdeal.Hand
end
-- ==== Proof.V.Real.lean ====
/-
  The attention and its gradient on real numbers, as the reference writes them, and the rows a tile program is given for one
  head. The two agree: the rows' probabilities are the reference's, and so are the gradients of the scores.
-/
module

public import proofs.«01_k».proof.Proof.V.Sums
public import Mathlib.Analysis.SpecialFunctions.Pow.Real

@[expose] public section

noncomputable section

namespace Cert.Attn

open Finset

/-- The inputs as real numbers, by head, position and lane: queries, keys and values, the shared key lanes `kr`, the gradient
    `ct` of the output, the scale `c` of the scores, and the number `M` each query's scores are shifted by. -/
structure Data where
  qn : ℕ → ℕ → ℕ → ℝ
  qr : ℕ → ℕ → ℕ → ℝ
  kn : ℕ → ℕ → ℕ → ℝ
  kr : ℕ → ℕ → ℝ
  v : ℕ → ℕ → ℕ → ℝ
  ct : ℕ → ℕ → ℕ → ℝ
  c : ℝ
  M : ℕ → ℕ → ℝ

namespace Data

variable (D : Data)

/-- The scaled score of key `j` for query `i`. -/
def score (h i j : ℕ) : ℝ := (∑ x ∈ range 64, D.qn h i x * D.kn h j x + ∑ x ∈ range 32, D.kr j x * D.qr h i x) * D.c
/-- The exponential of the shifted score; none for a later key. -/
def e (h i j : ℕ) : ℝ := if j ≤ i then Real.exp (D.score h i j - D.M h i) else 0
/-- The sum of the exponentials of a query. -/
def l (h i : ℕ) : ℝ := ∑ j ∈ range 16384, D.e h i j
/-- The probability of key `j` for query `i`. -/
def P (h i j : ℕ) : ℝ := D.e h i j / D.l h i
/-- The attention's output. -/
def out (h i d : ℕ) : ℝ := ∑ j ∈ range 16384, D.v h j d * D.P h i j
/-- The gradient of the probabilities. -/
def dP (h i j : ℕ) : ℝ := ∑ d ∈ range 64, D.ct h i d * D.v h j d
/-- The gradient of the unscaled scores, as the reference derives it. -/
def dS (h i j : ℕ) : ℝ :=
  (if j ≤ i then
    (-(∑ r ∈ range 16384, D.dP h i r * (1 / (D.l h i * D.l h i)) * D.e h i r) + D.dP h i j / D.l h i) * D.e h i j
  else 0) * D.c

theorem e_nonneg (h i j : ℕ) : 0 ≤ D.e h i j := by
  unfold e; split
  · exact (Real.exp_pos _).le
  · exact le_rfl

theorem l_pos (h i : ℕ) : 0 < D.l h i := by
  refine sum_pos' (fun j _ => D.e_nonneg h i j) ⟨0, mem_range.mpr (by norm_num), ?_⟩
  rw [e, if_pos (Nat.zero_le i)]
  exact Real.exp_pos _

theorem log_two_ne : Real.log 2 ≠ 0 := (Real.log_pos (by norm_num)).ne'

/-- The rows the tile program is given for head `h`: 128 lanes, of which 64 come from the first inputs, 32 from the shared
    lanes, and the rest are zero; the queries carry the scale and the factor that turns powers of two into exponentials. -/
def rows (h : ℕ) : Rows where
  q i x := (if x < 64 then D.qn h i x else if x < 96 then D.qr h i (x - 64) else 0) * (D.c / Real.log 2)
  k j x := if x < 64 then D.kn h j x else if x < 96 then D.kr j (x - 64) else 0
  v j x := if x < 64 then D.v h j x else if x < 65 then 1 else 0
  o i x := if x < 64 then D.ct h i x else 0
  ls i := (D.M h i + Real.log (D.l h i)) / Real.log 2
  de i := ∑ d ∈ range 64, D.out h i d * D.ct h i d

/-- A sum over 128 lanes whose last 32 terms are zero. -/
theorem sum_lanes (f : ℕ → ℝ) (hf : ∀ x, 96 ≤ x → f x = 0) :
    ∑ x ∈ range 128, f x = ∑ x ∈ range 64, f x + ∑ x ∈ range 32, f (64 + x) := by
  rw [show 128 = 64 + 32 + 32 from rfl, sum_range_add, sum_range_add,
    sum_eq_zero (s := range 32) (f := fun x => f (64 + 32 + x)) (fun x _ => hf _ (by omega)), add_zero]

/-- The product of a query's and a key's rows is the score over the logarithm of two. -/
theorem rows_score (h i j : ℕ) :
    ∑ x ∈ range 128, (D.rows h).k j x * (D.rows h).q i x = D.score h i j / Real.log 2 := by
  have h1 : ∀ x ∈ range 64, (D.rows h).k j x * (D.rows h).q i x = D.qn h i x * D.kn h j x * (D.c / Real.log 2) := fun x hx => by
    have := mem_range.mp hx
    simp only [rows, if_pos this]; ring
  have h2 : ∀ x ∈ range 32,
      (D.rows h).k j (64 + x) * (D.rows h).q i (64 + x) = D.kr j x * D.qr h i x * (D.c / Real.log 2) := fun x hx => by
    have := mem_range.mp hx
    simp only [rows, if_neg (show ¬ 64 + x < 64 by omega), if_pos (show 64 + x < 96 by omega), Nat.add_sub_cancel_left]; ring
  rw [sum_lanes _ (fun x hx => by simp only [rows, if_neg (show ¬ x < 64 by omega), if_neg (show ¬ x < 96 by omega), zero_mul]),
    sum_congr rfl h1, sum_congr rfl h2, ← sum_mul, ← sum_mul, score]
  ring

/-- The rows' probabilities are the reference's. -/
theorem rows_prob (h i j : ℕ) : (D.rows h).prob i j = D.P h i j := by
  unfold Rows.prob P e
  split
  · have hl := D.l_pos h i
    unfold Rows.raw
    rw [rows_score, Real.rpow_def_of_pos (by norm_num)]
    rw [show Real.log 2 * (D.score h i j / Real.log 2 - (D.rows h).ls i)
        = D.score h i j - D.M h i - Real.log (D.l h i) from by
      show Real.log 2 * (D.score h i j / Real.log 2 - (D.M h i + Real.log (D.l h i)) / Real.log 2) = _
      have := log_two_ne
      field_simp
      ring]
    rw [Real.exp_sub, Real.exp_log hl]
  · rw [zero_div]

/-- The product of a query's gradient row and a value row is the gradient of the probability. -/
theorem rows_dP (h i j : ℕ) : ∑ x ∈ range 128, (D.rows h).v j x * (D.rows h).o i x = D.dP h i j := by
  rw [show 128 = 64 + 64 from rfl, sum_range_add,
    sum_eq_zero (s := range 64) (f := fun x => (D.rows h).v j (64 + x) * (D.rows h).o i (64 + x)) (fun x _ => by
      simp only [rows, if_neg (show ¬ 64 + x < 64 by omega), mul_zero]), add_zero]
  refine sum_congr rfl fun x hx => ?_
  simp only [rows, if_pos (mem_range.mp hx)]
  ring

/-- The output's product with its gradient is the mean of the gradients of the probabilities. -/
theorem rows_de (h i : ℕ) : (D.rows h).de i = ∑ r ∈ range 16384, D.dP h i r * D.P h i r := by
  show ∑ d ∈ range 64, D.out h i d * D.ct h i d = _
  simp only [out, dP, sum_mul]
  rw [sum_comm]
  exact sum_congr rfl fun r _ => sum_congr rfl fun d _ => by ring

/-- The rows' gradient of a score, scaled, is the reference's. -/
theorem rows_ds (h i j : ℕ) : (D.rows h).ds i j * D.c = D.dS h i j := by
  unfold Rows.ds dS
  rw [rows_dP, rows_de, rows_prob]
  refine congrArg (· * D.c) ?_
  have hl := (D.l_pos h i).ne'
  have hs : ∑ r ∈ range 16384, D.dP h i r * (1 / (D.l h i * D.l h i)) * D.e h i r
      = (∑ r ∈ range 16384, D.dP h i r * D.P h i r) / D.l h i := by
    rw [sum_div]
    refine sum_congr rfl fun r _ => ?_
    unfold P
    field_simp
  rw [hs]
  generalize ∑ r ∈ range 16384, D.dP h i r * D.P h i r = t
  split
  · unfold P
    field_simp
    ring
  · rename_i hj
    rw [P, e, if_neg hj, zero_div, zero_mul]

/-! ## The gradients -/

/-- The gradient of the queries' own lanes. -/
def gqn (h i x : ℕ) : ℝ := ∑ j ∈ range 16384, D.dS h i j * D.kn h j x
/-- The gradient of the queries' shared lanes. -/
def gqr (h i x : ℕ) : ℝ := ∑ j ∈ range 16384, D.dS h i j * D.kr j x
/-- The gradient of the keys' own lanes. -/
def gkn (h j x : ℕ) : ℝ := ∑ i ∈ range 16384, D.dS h i j * D.qn h i x
/-- The gradient of the shared key lanes, from one head. -/
def gkr (h j x : ℕ) : ℝ := ∑ i ∈ range 16384, D.dS h i j * D.qr h i x
/-- The gradient of the values. -/
def gv (h j x : ℕ) : ℝ := ∑ i ∈ range 16384, D.ct h i x * D.P h i j

theorem part_low (h i : ℕ) {x : ℕ} (hx : x < 64) : (D.rows h).part 0 16384 i x * D.c = D.gqn h i x := by
  unfold Rows.part gqn
  rw [sum_mul]
  refine sum_congr rfl fun j _ => ?_
  rw [← rows_ds, Nat.zero_add]
  simp only [rows, if_pos hx]
  ring

theorem part_high (h i : ℕ) {x : ℕ} (hx : x < 32) : (D.rows h).part 0 16384 i (64 + x) * D.c = D.gqr h i x := by
  unfold Rows.part gqr
  rw [sum_mul]
  refine sum_congr rfl fun j _ => ?_
  rw [← rows_ds, Nat.zero_add]
  simp only [rows, if_neg (show ¬ 64 + x < 64 by omega), if_pos (show 64 + x < 96 by omega), Nat.add_sub_cancel_left]
  ring

theorem dk_low (h j : ℕ) {x : ℕ} (hx : x < 64) : (D.rows h).dk 16384 j x * Real.log 2 = D.gkn h j x := by
  unfold Rows.dk gkn
  rw [sum_mul]
  refine sum_congr rfl fun i _ => ?_
  rw [← rows_ds]
  have hq : (D.rows h).q i x * Real.log 2 = D.qn h i x * D.c := by
    simp only [rows, if_pos hx]
    rw [mul_assoc, div_mul_cancel₀ _ log_two_ne]
  rw [mul_assoc, hq]
  ring

theorem dk_high (h j : ℕ) {x : ℕ} (hx : x < 32) : (D.rows h).dk 16384 j (64 + x) * Real.log 2 = D.gkr h j x := by
  unfold Rows.dk gkr
  rw [sum_mul]
  refine sum_congr rfl fun i _ => ?_
  rw [← rows_ds]
  have hq : (D.rows h).q i (64 + x) * Real.log 2 = D.qr h i x * D.c := by
    simp only [rows, if_neg (show ¬ 64 + x < 64 by omega), if_pos (show 64 + x < 96 by omega), Nat.add_sub_cancel_left]
    rw [mul_assoc, div_mul_cancel₀ _ log_two_ne]
  rw [mul_assoc, hq]
  ring

theorem dv_low (h j : ℕ) {x : ℕ} (hx : x < 64) : (D.rows h).dv 16384 j x = D.gv h j x := by
  unfold Rows.dv gv
  refine sum_congr rfl fun i _ => ?_
  rw [rows_prob]
  simp only [rows, if_pos hx]
  ring

end Data

end Cert.Attn

end
-- ==== Proof.V.Finite.lean ====
/-
  The numbers the programs' constants denote, and what the precondition says of the arguments: every element is a real number.
-/
module

public import proofs.«01_k».proof.Proof.Gen.Pre_finite
public import Idealize.ShloMosaic.PureOps.Ideal
public import Idealize.ShloMosaic.PureOps.Ideal.Laws
public import Idealize.ShloMosaic.Lib.ReduceAll
public import Idealize.ShloMosaic.Lib.ValueIdx

@[expose] public section

noncomputable section

namespace Cert.Attn

open Idealize.ShloMosaic

theorem bits_top : Ideal.ofBits .f32 0x7F800000#32 = ⊤ := by simp [Ideal.ofBits, Ideal.ieee]
theorem bits_bot : Ideal.ofBits .f32 0xFF800000#32 = ⊥ := by simp [Ideal.ofBits, Ideal.ieee]
/-- A positive pattern with a middling exponent denotes a real number. -/
theorem bits_real {b : BitVec 32} {e f : ℕ} (hs : b.extractLsb' 31 1 = 0#1) (he : (b.extractLsb' 23 8).toNat = e)
    (hf : (b.extractLsb' 0 23).toNat = f) (h0 : e ≠ 0) (h1 : e ≠ 255) :
    Ideal.ofBits .f32 b = (((2 ^ 23 + f : ℕ) : ℝ) * (2 : ℝ) ^ ((e : ℤ) - 150) : ℝ) := by
  have hb : ((e : ℤ) - 127 - 23) = (e : ℤ) - 150 := by ring
  simp only [Ideal.ofBits, Ideal.ieee, hs, he, hf]
  rw [if_neg (by norm_num; exact h1), if_neg h0]
  norm_num [hb]

theorem bits_one : Ideal.ofBits .f32 0x3F800000#32 = ((1 : ℝ) : EReal) := by
  rw [bits_real (e := 127) (f := 0) (by decide) (by decide) (by decide) (by decide) (by decide)]
  norm_num
theorem bits_two : Ideal.ofBits .f32 0x40000000#32 = ((2 : ℝ) : EReal) := by
  rw [bits_real (e := 128) (f := 0) (by decide) (by decide) (by decide) (by decide) (by decide)]
  norm_num

/-- The scale of the scores. -/
def scale : ℝ := (Ideal.ofBits .f32 0x3DD105EC#32).toReal

theorem bits_scale : Ideal.ofBits .f32 0x3DD105EC#32 = (scale : EReal) := by
  unfold scale
  rw [bits_real (e := 123) (f := 5309932) (by decide) (by decide) (by decide) (by decide) (by decide), EReal.toReal_coe]

/-- A number whose absolute value is below infinity is real. -/
theorem real_of_abs_lt (x : EReal) (h : Ideal.cmp .olt (max x (-x)) ⊤ = 1#1) : ((x.toReal : ℝ) : EReal) = x := by
  have h1 : max x (-x) < ⊤ := by
    by_contra hn
    simp [Ideal.cmp, hn] at h
  refine EReal.coe_toReal ?_ ?_
  · rintro rfl; simp at h1
  · rintro rfl; simp at h1

/-- An array whose elements all compare below infinity in absolute value holds real numbers. -/
theorem all_real {s : Shape} {axes : List (Fin s.rank)} {u v : Shape} {b : Fin u.rank → Fin s.rank}
    (x : FVec Ideal s .f32) (hb : u.BroadcastsInDim s b) (hr : s.ReducesTo axes v) (hv : 0 < v.numel) [Subsingleton v.Idx]
    (j : v.Idx) (init : v.Idx → BitVec 1)
    (h : Host.reduce IntOp.andi
      (cmpf .olt (Host.absf x) (broadcastInDim s b hb (constant (F := Ideal) u .f32 0x7F800000#32))) init hr hv j = 1#1)
    (i : s.Idx) : (((x i).toReal : ℝ) : EReal) = x i := by
  have := Host.reduce_andi_all _ _ _ _ _ h i
  refine real_of_abs_lt _ ?_
  rw [← bits_top]
  exact this

theorem andi_one {a b : BitVec 1} (h : IntOp.andi a b = 1#1) : a = 1#1 ∧ b = 1#1 := by
  revert h; revert a b; decide

end Cert.Attn

namespace Cert.Pre_finite

open Idealize.ShloMosaic Cert.Attn

instance : Subsingleton S_.Idx := ⟨fun a b => funext fun k => k.elim0⟩

/-- The precondition says that every element of every argument is a real number. -/
theorem real {x0 : FVec Ideal S1x16384x8x64 .f32} {x1 : FVec Ideal S1x16384x8x32 .f32} {x2 : FVec Ideal S1x16384x8x64 .f32}
    {x3 : FVec Ideal S1x16384x32 .f32} {x4 x5 : FVec Ideal S1x16384x8x64 .f32}
    (h : fn (F := Ideal) x0 x1 x2 x3 x4 x5 = fun _ => 1#1) :
    (∀ i, (((x0 i).toReal : ℝ) : EReal) = x0 i) ∧ (∀ i, (((x1 i).toReal : ℝ) : EReal) = x1 i)
      ∧ (∀ i, (((x2 i).toReal : ℝ) : EReal) = x2 i) ∧ (∀ i, (((x3 i).toReal : ℝ) : EReal) = x3 i)
      ∧ (∀ i, (((x4 i).toReal : ℝ) : EReal) = x4 i) ∧ (∀ i, (((x5 i).toReal : ℝ) : EReal) = x5 i) := by
  have h0 := congrFun h (Shape.Idx.first Facts.h_S_)
  obtain ⟨h0, h5⟩ := andi_one h0
  obtain ⟨h0, h4⟩ := andi_one h0
  obtain ⟨h0, h3⟩ := andi_one h0
  obtain ⟨h0, h2⟩ := andi_one h0
  obtain ⟨h0, h1⟩ := andi_one h0
  exact ⟨all_real _ _ _ _ _ _ h0, all_real _ _ _ _ _ _ h1, all_real _ _ _ _ _ _ h2, all_real _ _ _ _ _ _ h3,
    all_real _ _ _ _ _ _ h4, all_real _ _ _ _ _ _ h5⟩

end Cert.Pre_finite

end
-- ==== Proof.V.RefA.lean ====
/-
  The reference's forward pass read on real numbers: the scores, the mask, the exponentials, their sums and the probabilities.
-/
module

public import proofs.«01_k».proof.Proof.Gen.ReferenceIdeal.Read
public import proofs.«01_k».proof.Proof.V.Real
public import proofs.«01_k».proof.Proof.V.Finite

@[expose] public section

noncomputable section

namespace Cert.Attn

open Cert.ReferenceIdeal Cert.ReferenceIdeal.Gen Cert.ReferenceIdeal.Read
open Idealize.ShloMosaic Idealize.ShloMosaic.ValueIdx
open Finset (range)

/-- The arguments hold the real numbers of `D`, and the greatest masked score of a query is the number `D` shifts it by. -/
structure Args (x0 : FVec Ideal S1x16384x8x64 .f32) (x1 : FVec Ideal S1x16384x8x32 .f32) (x2 : FVec Ideal S1x16384x8x64 .f32)
    (x3 : FVec Ideal S1x16384x32 .f32) (x4 x5 : FVec Ideal S1x16384x8x64 .f32) (D : Data) : Prop where
  qn : ∀ (i : Fin 16384) (h : Fin 8) (x : Fin 64), x0 (ix4 0 i h x) = ((D.qn h i x : ℝ) : EReal)
  qr : ∀ (i : Fin 16384) (h : Fin 8) (x : Fin 32), x1 (ix4 0 i h x) = ((D.qr h i x : ℝ) : EReal)
  kn : ∀ (i : Fin 16384) (h : Fin 8) (x : Fin 64), x2 (ix4 0 i h x) = ((D.kn h i x : ℝ) : EReal)
  kr : ∀ (i : Fin 16384) (x : Fin 32), x3 (ix3 0 i x) = ((D.kr i x : ℝ) : EReal)
  v : ∀ (i : Fin 16384) (h : Fin 8) (x : Fin 64), x4 (ix4 0 i h x) = ((D.v h i x : ℝ) : EReal)
  ct : ∀ (i : Fin 16384) (h : Fin 8) (x : Fin 64), x5 (ix4 0 i h x) = ((D.ct h i x : ℝ) : EReal)
  c : D.c = scale
  M : ∀ (h : Fin 8) (i : Fin 16384), val_main_v13 (F := Ideal) x0 x1 x2 x3 (ix3 0 h i) = ((D.M h i : ℝ) : EReal)

/-- The mask keeps the keys up to the query. -/
theorem at_mask (h : Fin 8) (i j : Fin 16384) :
    val_main_v12_1 (F := Ideal) (ix4 0 h i j) = if j.val ≤ i.val then 1#1 else 0#1 := by
  rw [val_main_v12_1_apply, show idx_main_v12_1 (ix4 0 h i j) = ix2 i j from eq_ix2 _, val_main_v9_apply, val_main_v7_apply,
    val_main_v8_apply, val_main_v5_apply, val_main_v6_apply]
  show IntOp.cmpi .sle (BitVec.ofNat 32 j.val) (BitVec.ofNat 32 i.val) = _
  have hi := i.isLt
  have hj := j.isLt
  have hs : (BitVec.ofNat 32 j.val).sle (BitVec.ofNat 32 i.val) = decide (j.val ≤ i.val) := by
    rw [BitVec.sle_eq_decide, BitVec.toInt_eq_toNat_of_lt, BitVec.toInt_eq_toNat_of_lt] <;> simp only [BitVec.toNat_ofNat]
    · simp only [decide_eq_decide]; omega
    · omega
    · omega
  simp only [IntOp.cmpi, hs]
  by_cases hle : j.val ≤ i.val <;> simp [hle]

/-- A choice by the mask. -/
theorem select_mask (h : Fin 8) (i j : Fin 16384) (a b : EReal) :
    Scalar.select (val_main_v12_1 (F := Ideal) (ix4 0 h i j)) a b = if j.val ≤ i.val then a else b := by
  rw [at_mask]
  by_cases hle : j.val ≤ i.val
  · rw [if_pos hle, if_pos hle]; rfl
  · rw [if_neg hle, if_neg hle]; rfl

variable {x0 : FVec Ideal S1x16384x8x64 .f32} {x1 : FVec Ideal S1x16384x8x32 .f32} {x2 : FVec Ideal S1x16384x8x64 .f32}
  {x3 : FVec Ideal S1x16384x32 .f32} {x4 x5 : FVec Ideal S1x16384x8x64 .f32} {D : Data}

/-- The scaled scores, of arguments that hold real numbers. -/
theorem score_real
    (qn : ∀ (i : Fin 16384) (h : Fin 8) (x : Fin 64), x0 (ix4 0 i h x) = ((D.qn h i x : ℝ) : EReal))
    (qr : ∀ (i : Fin 16384) (h : Fin 8) (x : Fin 32), x1 (ix4 0 i h x) = ((D.qr h i x : ℝ) : EReal))
    (kn : ∀ (i : Fin 16384) (h : Fin 8) (x : Fin 64), x2 (ix4 0 i h x) = ((D.kn h i x : ℝ) : EReal))
    (kr : ∀ (i : Fin 16384) (x : Fin 32), x3 (ix3 0 i x) = ((D.kr i x : ℝ) : EReal)) (c : D.c = scale)
    (h : Fin 8) (i j : Fin 16384) :
    val_main_v11 (F := Ideal) x0 x1 x2 x3 (ix4 0 h i j) = ((D.score h i j : ℝ) : EReal) := by
  have hs : val_main_v10 (F := Ideal) (ix4 0 h i j) = (D.c : EReal) := by
    rw [val_main_v10_apply, val_main_cst_apply, c]
    exact bits_scale
  have h0 : val_main_v0 (F := Ideal) x0 x2 (ix4 0 h i j) = ((∑ x ∈ range 64, D.qn h i x * D.kn h j x : ℝ) : EReal) := by
    rw [val_main_v0_apply, ← coe_sum_fin]
    refine Finset.sum_congr rfl fun x _ => ?_
    rw [show lidx_main_v0 (ix4 0 h i j) x = ix4 0 i h x from eq_ix4 _, show ridx_main_v0 (ix4 0 h i j) x = ix4 0 j h x from eq_ix4 _, qn, kn,
      ← EReal.coe_mul]
  have h1 : val_main_v2 (F := Ideal) x1 x3 (ix4 0 h i j) = ((∑ x ∈ range 32, D.kr j x * D.qr h i x : ℝ) : EReal) := by
    rw [val_main_v2_apply, show idx_main_v2 (ix4 0 h i j) = ix4 0 j i h from eq_ix4 _, val_main_v1_apply, ← coe_sum_fin]
    refine Finset.sum_congr rfl fun x _ => ?_
    rw [show lidx_main_v1 (ix4 0 j i h) x = ix3 0 j x from eq_ix3 _, show ridx_main_v1 (ix4 0 j i h) x = ix4 0 i h x from eq_ix4 _, qr, kr,
      ← EReal.coe_mul]
  rw [val_main_v11_apply, val_main_v3_apply, h0, h1, hs]
  simp only [Ideal.mulf_def, Ideal.addf_def]
  rw [← EReal.coe_add, ← EReal.coe_mul]
  rfl

variable (A : Args x0 x1 x2 x3 x4 x5 D)
include A

theorem at_v11 (h : Fin 8) (i j : Fin 16384) :
    val_main_v11 (F := Ideal) x0 x1 x2 x3 (ix4 0 h i j) = ((D.score h i j : ℝ) : EReal) :=
  score_real A.qn A.qr A.kn A.kr A.c h i j

/-- The exponential of a masked score less the shift, whichever buffer the shift comes from. -/
theorem exp_at (h : Fin 8) (i j : Fin 16384) :
    Ideal.exp (val_main_v12_0 (F := Ideal) x0 x1 x2 x3 (ix4 0 h i j) - ((D.M h i : ℝ) : EReal)) = ((D.e h i j : ℝ) : EReal) := by
  rw [val_main_v12_0_apply, select_mask, at_v11 A]
  unfold Data.e
  by_cases hle : j.val ≤ i.val
  · rw [if_pos hle, if_pos hle, ← EReal.coe_sub, Ideal.exp_coe]
  · rw [if_neg hle, if_neg hle, val_main_call0_v2_apply]
    show Ideal.exp (Ideal.ofBits .f32 0xFF800000#32 - _) = _
    rw [bits_bot, EReal.bot_sub, Ideal.exp_bot, EReal.coe_zero]

theorem at_v33 (h : Fin 8) (i j : Fin 16384) :
    val_main_v33 (F := Ideal) x0 x1 x2 x3 (ix4 0 h i j) = ((D.e h i j : ℝ) : EReal) := by
  rw [← exp_at A, val_main_v33_apply, val_main_v32_apply, val_main_v31_apply,
    show idx_main_v31 (ix4 0 h i j) = ix4 0 h i 0 from eq_ix4 _, val_main_v30_apply,
    show idx_main_v30 (ix4 0 h i 0) = ix3 0 h i from eq_ix3 _, val_main_v20_apply, A.M, val_main_v19_apply]
  show Ideal.exp (_ - max (Ideal.ofBits .f32 0xFF800000#32) _) = _
  rw [bits_bot, max_eq_right bot_le]

theorem at_v34 (h : Fin 8) (i : Fin 16384) :
    val_main_v34 (F := Ideal) x0 x1 x2 x3 (ix3 0 h i) = ((D.l h i : ℝ) : EReal) := by
  rw [val_main_v34_apply, show val_main_cst_9 (F := Ideal) (Shape.Idx.first h_S_) = 0 from Ideal.ofBits_zero_f32, zero_add]
  unfold Data.l
  rw [← coe_sum_fin]
  refine Finset.sum_congr rfl fun j _ => ?_
  rw [show idx_main_v34 (ix3 0 h i) j = ix4 0 h i j from eq_ix4 _, at_v33 A]

theorem at_v35 (h : Fin 8) (i : Fin 16384) :
    val_main_v35 (F := Ideal) x0 x1 x2 x3 (ix4 0 h i 0) = ((D.l h i : ℝ) : EReal) := by
  rw [val_main_v35_apply, show idx_main_v35 (ix4 0 h i 0) = ix3 0 h i from eq_ix3 _, at_v34 A]

omit A in
/-- A quotient by a number that is not zero. -/
theorem div_real (a : ℝ) {b : ℝ} (hb : b ≠ 0) : Ideal.div (a : EReal) (b : EReal) = ((a / b : ℝ) : EReal) := by
  rw [Ideal.div_coe hb, ← EReal.coe_mul, mul_one_div]

theorem at_v37 (h : Fin 8) (i j : Fin 16384) :
    val_main_v37 (F := Ideal) x0 x1 x2 x3 (ix4 0 h i j) = ((D.P h i j : ℝ) : EReal) := by
  rw [val_main_v37_apply, val_main_v36_apply, show idx_main_v36 (ix4 0 h i j) = ix4 0 h i 0 from eq_ix4 _, at_v35 A, at_v33 A,
    Ideal.hostDivf_def]
  exact div_real _ (D.l_pos h i).ne'

theorem at_v41 (h : Fin 8) (x : Fin 64) (i : Fin 16384) :
    val_main_v41 (F := Ideal) x0 x1 x2 x3 x4 (ix4 0 h x i) = ((D.out h i x : ℝ) : EReal) := by
  rw [val_main_v41_apply]
  unfold Data.out
  rw [← coe_sum_fin]
  refine Finset.sum_congr rfl fun j _ => ?_
  rw [show lidx_main_v41 (ix4 0 h x i) j = ix4 0 j h x from eq_ix4 _, show ridx_main_v41 (ix4 0 h x i) j = ix4 0 h i j from eq_ix4 _, A.v,
    at_v37 A, ← EReal.coe_mul]

end Cert.Attn

end
-- ==== Proof.V.RefB.lean ====
/-
  The reference's gradients read on real numbers.
-/
module

public import proofs.«01_k».proof.Proof.V.RefA

@[expose] public section

noncomputable section

namespace Cert.Attn

open Cert.ReferenceIdeal Cert.ReferenceIdeal.Gen Cert.ReferenceIdeal.Read
open Idealize.ShloMosaic Idealize.ShloMosaic.ValueIdx
open Finset (range)

variable {x0 : FVec Ideal S1x16384x8x64 .f32} {x1 : FVec Ideal S1x16384x8x32 .f32} {x2 : FVec Ideal S1x16384x8x64 .f32}
  {x3 : FVec Ideal S1x16384x32 .f32} {x4 x5 : FVec Ideal S1x16384x8x64 .f32} {D : Data} (A : Args x0 x1 x2 x3 x4 x5 D)
include A

theorem at_v43 (h : Fin 8) (x : Fin 64) (i : Fin 16384) :
    val_main_v43 (F := Ideal) x5 (ix4 0 h x i) = ((D.ct h i x : ℝ) : EReal) := by
  rw [val_main_v43_apply, show idx_main_v43 (ix4 0 h x i) = ix4 0 i h x from eq_ix4 _, A.ct]

theorem at_v44 (h : Fin 8) (i j : Fin 16384) :
    val_main_v44 (F := Ideal) x4 x5 (ix4 0 h i j) = ((D.dP h i j : ℝ) : EReal) := by
  rw [val_main_v44_apply]
  unfold Data.dP
  rw [← coe_sum_fin]
  refine Finset.sum_congr rfl fun x _ => ?_
  rw [show lidx_main_v44 (ix4 0 h i j) x = ix4 0 h x i from eq_ix4 _, show ridx_main_v44 (ix4 0 h i j) x = ix4 0 j h x from eq_ix4 _, at_v43 A,
    A.v, ← EReal.coe_mul]

/-- The gradient of the values. -/
theorem at_v46 (j : Fin 16384) (h : Fin 8) (x : Fin 64) :
    val_main_v46 (F := Ideal) x0 x1 x2 x3 x5 (ix4 0 j h x) = ((D.gv h j x : ℝ) : EReal) := by
  rw [val_main_v46_apply, show idx_main_v46 (ix4 0 j h x) = ix4 0 h x j from eq_ix4 _, val_main_v45_apply]
  unfold Data.gv
  rw [← coe_sum_fin]
  refine Finset.sum_congr rfl fun i _ => ?_
  rw [show lidx_main_v45 (ix4 0 h x j) i = ix4 0 h x i from eq_ix4 _, show ridx_main_v45 (ix4 0 h x j) i = ix4 0 h i j from eq_ix4 _,
    at_v43 A, at_v37 A, ← EReal.coe_mul]

theorem at_v47 (h : Fin 8) (i j : Fin 16384) :
    val_main_v47 (F := Ideal) x0 x1 x2 x3 (ix4 0 h i j) = ((1 / (D.l h i * D.l h i) : ℝ) : EReal) := by
  have hl := (D.l_pos h i).ne'
  rw [val_main_v47_apply, show idx_main_v47 (ix4 0 h i j) = ix4 0 h i 0 from eq_ix4 _, val_main_v40_apply, val_main_v38_apply, at_v35 A,
    val_main_v39_apply, Ideal.hostDivf_def, Ideal.mulf_def, ← EReal.coe_mul,
    show val_main_cst_10 (F := Ideal) (idx_main_v39 (ix4 0 h i 0)) = ((1 : ℝ) : EReal) from bits_one]
  exact div_real _ (mul_ne_zero hl hl)

theorem at_v49 (h : Fin 8) (i j : Fin 16384) :
    val_main_v49 (F := Ideal) x0 x1 x2 x3 x4 x5 (ix4 0 h i j)
      = ((D.dP h i j * (1 / (D.l h i * D.l h i)) * D.e h i j : ℝ) : EReal) := by
  rw [val_main_v49_apply, val_main_v48_apply, at_v44 A, at_v47 A, at_v33 A]
  simp only [Ideal.mulf_def]
  rw [← EReal.coe_mul, ← EReal.coe_mul]

theorem at_v50 (h : Fin 8) (i : Fin 16384) :
    val_main_v50 (F := Ideal) x0 x1 x2 x3 x4 x5 (ix3 0 h i)
      = ((∑ r ∈ range 16384, D.dP h i r * (1 / (D.l h i * D.l h i)) * D.e h i r : ℝ) : EReal) := by
  rw [val_main_v50_apply, show val_main_cst_11 (F := Ideal) (Shape.Idx.first h_S_) = 0 from Ideal.ofBits_zero_f32, zero_add,
    ← coe_sum_fin]
  refine Finset.sum_congr rfl fun j _ => ?_
  rw [show idx_main_v50 (ix3 0 h i) j = ix4 0 h i j from eq_ix4 _, at_v49 A]

theorem at_v52 (h : Fin 8) (i : Fin 16384) :
    val_main_v52 (F := Ideal) x0 x1 x2 x3 x4 x5 (ix4 0 h i 0)
      = ((-(∑ r ∈ range 16384, D.dP h i r * (1 / (D.l h i * D.l h i)) * D.e h i r) : ℝ) : EReal) := by
  have hx : idx_main_v51 (ix4 0 h i 0) = ix3 0 h i := by
    rw [eq_ix3 (idx_main_v51 (ix4 0 h i 0))]
    have hh := h.isLt
    have hi := i.isLt
    have e1 : idx_main_v51 (ix4 0 h i 0) 1 = h := Fin.ext (by
      show (((0 * 8 + h.val) * 16384 + i.val) * 1 + 0) / 16384 % 8 = h.val
      omega)
    have e2 : idx_main_v51 (ix4 0 h i 0) 2 = i := Fin.ext (by
      show (((0 * 8 + h.val) * 16384 + i.val) * 1 + 0) % 16384 = i.val
      omega)
    rw [e1, e2]
    rfl
  rw [val_main_v52_apply, val_main_v51_apply, hx, at_v50 A, EReal.coe_neg]
  rfl

omit A in
/-- A sum over axes of extent one is the one entry. -/
theorem sum_unit (y : FVec Ideal S1x8x16384x1 .f32) (init : EReal) (h : Fin 8) (i : Fin 16384) :
    Ideal.hostReduceAdd reducesTo_S1x8x16384x1_S8x16384_d0_3 y init (ix2 h i) = init + y (ix4 0 h i 0) := by
  unfold Ideal.hostReduceAdd
  refine congrArg (init + ·) (Finset.sum_eq_single_of_mem (ix4 0 h i 0) ?_ ?_)
  · rw [Finset.mem_filter]
    exact ⟨Finset.mem_univ _, eq_ix2 _⟩
  · intro k hk hne
    refine absurd ?_ hne
    have hd := (Finset.mem_filter.mp hk).2
    have h1 : k 1 = h := congrFun hd 0
    have h2 : k 2 = i := congrFun hd 1
    rw [eq_ix4 k, ← h1, ← h2]
    have h0 : (k 0).val < 1 := (k 0).isLt
    have h3 : (k 3).val < 1 := (k 3).isLt
    have e0 : k 0 = (0 : Fin 1) := Fin.ext (by show (k 0).val = 0; omega)
    have e3 : k 3 = (0 : Fin 1) := Fin.ext (by show (k 3).val = 0; omega)
    rw [e0, e3]
    rfl

theorem at_v57 (h : Fin 8) (i j : Fin 16384) :
    val_main_v57 (F := Ideal) x0 x1 x2 x3 x4 x5 (ix4 0 h i j)
      = ((-(∑ r ∈ range 16384, D.dP h i r * (1 / (D.l h i * D.l h i)) * D.e h i r) : ℝ) : EReal) := by
  rw [val_main_v57_apply, show idx_main_v57 (ix4 0 h i j) = ix3 0 h i from eq_ix3 _, val_main_v56_apply,
    show idx_main_v56 (ix3 0 h i) = ix2 h i from eq_ix2 _]
  unfold val_main_v55
  simp only [Host.reduceAdd, Ideal.hostReduceAdd_def]
  rw [sum_unit, at_v52 A, show val_main_cst_12 (F := Ideal) (Shape.Idx.first h_S_) = 0 from Ideal.ofBits_zero_f32, zero_add]

theorem at_v54 (h : Fin 8) (i j : Fin 16384) :
    val_main_v54 (F := Ideal) x0 x1 x2 x3 x4 x5 (ix4 0 h i j) = ((D.dP h i j / D.l h i : ℝ) : EReal) := by
  rw [val_main_v54_apply, val_main_v53_apply, show idx_main_v53 (ix4 0 h i j) = ix4 0 h i 0 from eq_ix4 _, at_v35 A, at_v44 A,
    Ideal.hostDivf_def]
  exact div_real _ (D.l_pos h i).ne'

/-- The gradient of the unscaled scores. -/
theorem at_v62 (h : Fin 8) (i j : Fin 16384) :
    val_main_v62 (F := Ideal) x0 x1 x2 x3 x4 x5 (ix4 0 h i j) = ((D.dS h i j : ℝ) : EReal) := by
  rw [val_main_v62_apply, val_main_v60_apply, select_mask, val_main_v59_apply, val_main_v58_apply, at_v54 A, at_v57 A, at_v33 A,
    val_main_v61_apply, show val_main_cst_13 (F := Ideal) (idx_main_v61 (ix4 0 h i j)) = (D.c : EReal) from by
      rw [A.c]; exact bits_scale,
    val_main_call1_v0_apply, show ∀ k, val_main_call1_cst (F := Ideal) k = ((0 : ℝ) : EReal) from fun k => Ideal.ofBits_zero_f32]
  simp only [Ideal.mulf_def, Ideal.addf_def]
  rw [← EReal.coe_add, ← EReal.coe_mul]
  unfold Data.dS
  by_cases hle : j.val ≤ i.val
  · rw [if_pos hle, if_pos hle, ← EReal.coe_mul, add_comm (D.dP h i j / D.l h i)]
  · rw [if_neg hle, if_neg hle, ← EReal.coe_mul]

theorem at_v63 (j i : Fin 16384) (h : Fin 8) :
    val_main_v63 (F := Ideal) x0 x1 x2 x3 x4 x5 (ix4 0 j i h) = ((D.dS h i j : ℝ) : EReal) := by
  rw [val_main_v63_apply, show idx_main_v63 (ix4 0 j i h) = ix4 0 h i j from eq_ix4 _, at_v62 A]

/-- The gradient of the queries' own lanes. -/
theorem at_v69 (i : Fin 16384) (h : Fin 8) (x : Fin 64) :
    val_main_v69 (F := Ideal) x0 x1 x2 x3 x4 x5 (ix4 0 i h x) = ((D.gqn h i x : ℝ) : EReal) := by
  rw [val_main_v69_apply, show idx_main_v69 (ix4 0 i h x) = ix4 0 h i x from eq_ix4 _, val_main_v68_apply]
  unfold Data.gqn
  rw [← coe_sum_fin]
  refine Finset.sum_congr rfl fun j _ => ?_
  rw [show lidx_main_v68 (ix4 0 h i x) j = ix4 0 h i j from eq_ix4 _, show ridx_main_v68 (ix4 0 h i x) j = ix4 0 j h x from eq_ix4 _,
    at_v62 A, A.kn, ← EReal.coe_mul]

/-- The gradient of the keys' own lanes. -/
theorem at_v67 (j : Fin 16384) (h : Fin 8) (x : Fin 64) :
    val_main_v67 (F := Ideal) x0 x1 x2 x3 x4 x5 (ix4 0 j h x) = ((D.gkn h j x : ℝ) : EReal) := by
  rw [val_main_v67_apply, show idx_main_v67 (ix4 0 j h x) = ix4 0 h j x from eq_ix4 _, val_main_v66_apply]
  unfold Data.gkn
  rw [← coe_sum_fin]
  refine Finset.sum_congr rfl fun i _ => ?_
  rw [show lidx_main_v66 (ix4 0 h j x) i = ix4 0 h i j from eq_ix4 _, show ridx_main_v66 (ix4 0 h j x) i = ix4 0 i h x from eq_ix4 _,
    at_v62 A, A.qn, ← EReal.coe_mul]

/-- The gradient of the queries' shared lanes. -/
theorem at_v64 (i : Fin 16384) (h : Fin 8) (x : Fin 32) :
    val_main_v64 (F := Ideal) x0 x1 x2 x3 x4 x5 (ix4 0 i h x) = ((D.gqr h i x : ℝ) : EReal) := by
  rw [val_main_v64_apply]
  unfold Data.gqr
  rw [← coe_sum_fin]
  refine Finset.sum_congr rfl fun j _ => ?_
  rw [show lidx_main_v64 (ix4 0 i h x) j = ix4 0 j i h from eq_ix4 _, show ridx_main_v64 (ix4 0 i h x) j = ix3 0 j x from eq_ix3 _,
    at_v63 A, A.kr, ← EReal.coe_mul]

end Cert.Attn

end
-- ==== Proof.V.RefC.lean ====
/-
  The reference's gradient of the shared key lanes, a sum over queries and heads; and the real numbers that arguments satisfying
  the precondition hold.
-/
module

public import proofs.«01_k».proof.Proof.V.RefB

@[expose] public section

noncomputable section

namespace Cert.Attn

open Cert.ReferenceIdeal Cert.ReferenceIdeal.Gen Cert.ReferenceIdeal.Read
open Idealize.ShloMosaic Idealize.ShloMosaic.ValueIdx
open Finset (range)

/-- The product contracted over queries and heads. -/
abbrev dotHeads : DotDims S1x16384x16384x8 S1x16384x8x32 S1x16384x32 := dot_S1x16384x16384x8_S1x16384x8x32_S1x16384x32_23_12_1_3_0_0

/-- The contracted axes are the queries and the heads. -/
def pairIdx : Fin 16384 × Fin 8 ≃ dotHeads.contr.Idx where
  toFun p := fun a => match a with
    | ⟨0, _⟩ => p.1
    | ⟨1, _⟩ => p.2
  invFun k := (k ⟨0, by decide⟩, k ⟨1, by decide⟩)
  left_inv _ := rfl
  right_inv k := funext fun a => match a with
    | ⟨0, _⟩ => rfl
    | ⟨1, _⟩ => rfl

theorem lhs_heads (j : Fin 16384) (x : Fin 32) (i : Fin 16384) (h : Fin 8) :
    dotHeads.lhsIdx (ix3 0 j x) (pairIdx (i, h)) = ix4 0 j i h := by
  funext a
  match a with
  | ⟨0, _⟩ =>
    exact (dif_pos (show (0 : Fin 4) ∈ dotHeads.lhsBatch by decide)).trans rfl
  | ⟨1, _⟩ =>
    exact (dif_neg (show (1 : Fin 4) ∉ dotHeads.lhsBatch by decide)).trans ((dif_pos (show (1 : Fin 4) ∈ dotHeads.lhsNonContracting by decide)).trans rfl)
  | ⟨2, _⟩ =>
    exact (dif_neg (show (2 : Fin 4) ∉ dotHeads.lhsBatch by decide)).trans ((dif_neg (show (2 : Fin 4) ∉ dotHeads.lhsNonContracting by decide)).trans rfl)
  | ⟨3, _⟩ =>
    exact (dif_neg (show (3 : Fin 4) ∉ dotHeads.lhsBatch by decide)).trans ((dif_neg (show (3 : Fin 4) ∉ dotHeads.lhsNonContracting by decide)).trans rfl)

theorem rhs_heads (j : Fin 16384) (x : Fin 32) (i : Fin 16384) (h : Fin 8) :
    dotHeads.rhsIdx (ix3 0 j x) (pairIdx (i, h)) = ix4 0 i h x := by
  funext a
  match a with
  | ⟨0, _⟩ =>
    exact (dif_pos (show (0 : Fin 4) ∈ dotHeads.rhsBatch by decide)).trans rfl
  | ⟨1, _⟩ =>
    exact (dif_neg (show (1 : Fin 4) ∉ dotHeads.rhsBatch by decide)).trans ((dif_neg (show (1 : Fin 4) ∉ dotHeads.rhsNonContracting by decide)).trans rfl)
  | ⟨2, _⟩ =>
    exact (dif_neg (show (2 : Fin 4) ∉ dotHeads.rhsBatch by decide)).trans ((dif_neg (show (2 : Fin 4) ∉ dotHeads.rhsNonContracting by decide)).trans rfl)
  | ⟨3, _⟩ =>
    exact (dif_neg (show (3 : Fin 4) ∉ dotHeads.rhsBatch by decide)).trans ((dif_pos (show (3 : Fin 4) ∈ dotHeads.rhsNonContracting by decide)).trans rfl)

variable {x0 : FVec Ideal S1x16384x8x64 .f32} {x1 : FVec Ideal S1x16384x8x32 .f32} {x2 : FVec Ideal S1x16384x8x64 .f32}
  {x3 : FVec Ideal S1x16384x32 .f32} {x4 x5 : FVec Ideal S1x16384x8x64 .f32} {D : Data}

/-- The gradient of the shared key lanes: the heads' sum. -/
theorem at_v65 (A : Args x0 x1 x2 x3 x4 x5 D) (j : Fin 16384) (x : Fin 32) :
    val_main_v65 (F := Ideal) x0 x1 x2 x3 x4 x5 (ix3 0 j x) = ((∑ h ∈ range 8, D.gkr h j x : ℝ) : EReal) := by
  unfold val_main_v65
  simp only [Host.dotGeneral]
  rw [Ideal.dotGeneral_apply, ← Equiv.sum_comp pairIdx, Fintype.sum_prod_type, Finset.sum_comm, ← coe_sum_fin]
  refine Finset.sum_congr rfl fun h _ => ?_
  unfold Data.gkr
  rw [← coe_sum_fin]
  refine Finset.sum_congr rfl fun i _ => ?_
  rw [lhs_heads, rhs_heads, at_v63 A, A.qr, ← EReal.coe_mul]

/-! ## The greatest score -/

/-- A running maximum of numbers below infinity is below infinity. -/
theorem foldl_max_ne_top {ι : Type*} (f : ι → EReal) (hf : ∀ n, f n ≠ ⊤) :
    ∀ (l : List ι) (a : EReal), a ≠ ⊤ → l.foldl (fun r n => max r (f n)) a ≠ ⊤
  | [], _, ha => ha
  | n :: l, a, ha => foldl_max_ne_top f hf l _ (by
    show max a (f n) ≠ ⊤
    rcases max_choice a (f n) with h | h <;> rw [h]
    · exact ha
    · exact hf n)

/-- A running maximum is at least where it starts. -/
theorem le_foldl_max {ι : Type*} (f : ι → EReal) : ∀ (l : List ι) (a : EReal), a ≤ l.foldl (fun r n => max r (f n)) a
  | [], _ => le_rfl
  | n :: l, a => (le_max_left a (f n)).trans (le_foldl_max f l _)

/-- A running maximum is at least each of its numbers. -/
theorem mem_le_foldl_max {ι : Type*} (f : ι → EReal) {n : ι} :
    ∀ (l : List ι) (a : EReal), n ∈ l → f n ≤ l.foldl (fun r n => max r (f n)) a
  | b :: l, a, h => by
    rcases List.mem_cons.mp h with rfl | h
    · exact (le_max_right _ _).trans (le_foldl_max f l _)
    · exact mem_le_foldl_max f l _ h

/-- An index of the scores is a head, a query and a key. -/
theorem score_idx (k : S1x8x16384x16384.Idx) : ∃ (h : Fin 8) (i j : Fin 16384), k = ix4 0 h i j := by
  have h0 : k 0 = (0 : Fin 1) := Subsingleton.elim (α := Fin 1) _ _
  exact ⟨k 1, k 2, k 3, (eq_ix4 k).trans (by rw [h0]; rfl)⟩

/-- The greatest masked score of a query is a real number: each is below infinity, and the first key's is real. -/
theorem max_real
    (qn : ∀ (i : Fin 16384) (h : Fin 8) (x : Fin 64), x0 (ix4 0 i h x) = ((D.qn h i x : ℝ) : EReal))
    (qr : ∀ (i : Fin 16384) (h : Fin 8) (x : Fin 32), x1 (ix4 0 i h x) = ((D.qr h i x : ℝ) : EReal))
    (kn : ∀ (i : Fin 16384) (h : Fin 8) (x : Fin 64), x2 (ix4 0 i h x) = ((D.kn h i x : ℝ) : EReal))
    (kr : ∀ (i : Fin 16384) (x : Fin 32), x3 (ix3 0 i x) = ((D.kr i x : ℝ) : EReal)) (c : D.c = scale)
    (h : Fin 8) (i : Fin 16384) :
    (((val_main_v13 (F := Ideal) x0 x1 x2 x3 (ix3 0 h i)).toReal : ℝ) : EReal)
      = val_main_v13 (F := Ideal) x0 x1 x2 x3 (ix3 0 h i) := by
  have hval : ∀ (h : Fin 8) (i j : Fin 16384), val_main_v12_0 (F := Ideal) x0 x1 x2 x3 (ix4 0 h i j)
      = if j.val ≤ i.val then ((D.score h i j : ℝ) : EReal) else ⊥ := fun h i j => by
    rw [val_main_v12_0_apply, select_mask, score_real qn qr kn kr c, val_main_call0_v2_apply]
    exact congrArg _ bits_bot
  have htop : ∀ k, val_main_v12_0 (F := Ideal) x0 x1 x2 x3 k ≠ ⊤ := fun k => by
    obtain ⟨h, i, j, rfl⟩ := score_idx k
    rw [hval]
    split
    · exact EReal.coe_ne_top _
    · exact bot_ne_top
  have hred : val_main_v13 (F := Ideal) x0 x1 x2 x3 (ix3 0 h i)
      = ((List.finRange S1x8x16384x16384.numel).filter fun n =>
          reducesTo_S1x8x16384x16384_S1x8x16384_d3.drop (S1x8x16384x16384.rowMajor.symm n) = ix3 0 h i).foldl
        (fun r n => max r (val_main_v12_0 (F := Ideal) x0 x1 x2 x3 (S1x8x16384x16384.rowMajor.symm n)))
        (Ideal.ofBits .f32 0xFF800000#32) := rfl
  refine EReal.coe_toReal ?_ ?_
  · rw [hred]
    refine foldl_max_ne_top _ (fun n => htop _) _ _ ?_
    rw [bits_bot]
    exact bot_ne_top
  · rw [hred]
    have hm : S1x8x16384x16384.rowMajor (ix4 0 h i 0) ∈ (List.finRange S1x8x16384x16384.numel).filter fun n =>
        reducesTo_S1x8x16384x16384_S1x8x16384_d3.drop (S1x8x16384x16384.rowMajor.symm n) = ix3 0 h i := by
      rw [List.mem_filter]
      refine ⟨List.mem_finRange _, ?_⟩
      rw [Equiv.symm_apply_apply]
      exact decide_eq_true (eq_ix3 _)
    intro hb
    have hz : val_main_v12_0 (F := Ideal) x0 x1 x2 x3 (ix4 0 h i 0) ≤ ⊥ := by
      have hle := mem_le_foldl_max
        (fun n => val_main_v12_0 (F := Ideal) x0 x1 x2 x3 (S1x8x16384x16384.rowMajor.symm n)) _ (Ideal.ofBits .f32 0xFF800000#32) hm
      rw [hb] at hle
      have he := congrArg (val_main_v12_0 (F := Ideal) x0 x1 x2 x3) (Equiv.symm_apply_apply S1x8x16384x16384.rowMajor (ix4 0 h i 0))
      exact he ▸ hle
    rw [hval, if_pos (show (0 : Fin 16384).val ≤ i.val from Nat.zero_le _)] at hz
    exact EReal.coe_ne_bot _ (le_bot_iff.mp hz)

/-- The real numbers the arguments hold, by head, position and lane. -/
def dataOf (x0 : FVec Ideal S1x16384x8x64 .f32) (x1 : FVec Ideal S1x16384x8x32 .f32) (x2 : FVec Ideal S1x16384x8x64 .f32)
    (x3 : FVec Ideal S1x16384x32 .f32) (x4 x5 : FVec Ideal S1x16384x8x64 .f32) : Data where
  qn h i x := (x0 (ix4 0 (Fin.ofNat 16384 i) (Fin.ofNat 8 h) (Fin.ofNat 64 x))).toReal
  qr h i x := (x1 (ix4 0 (Fin.ofNat 16384 i) (Fin.ofNat 8 h) (Fin.ofNat 32 x))).toReal
  kn h i x := (x2 (ix4 0 (Fin.ofNat 16384 i) (Fin.ofNat 8 h) (Fin.ofNat 64 x))).toReal
  kr i x := (x3 (ix3 0 (Fin.ofNat 16384 i) (Fin.ofNat 32 x))).toReal
  v h i x := (x4 (ix4 0 (Fin.ofNat 16384 i) (Fin.ofNat 8 h) (Fin.ofNat 64 x))).toReal
  ct h i x := (x5 (ix4 0 (Fin.ofNat 16384 i) (Fin.ofNat 8 h) (Fin.ofNat 64 x))).toReal
  c := scale
  M h i := (val_main_v13 (F := Ideal) x0 x1 x2 x3 (ix3 0 (Fin.ofNat 8 h) (Fin.ofNat 16384 i))).toReal

/-- Arguments whose elements are all real numbers hold those numbers. -/
theorem args_real (h0 : ∀ i, (((x0 i).toReal : ℝ) : EReal) = x0 i) (h1 : ∀ i, (((x1 i).toReal : ℝ) : EReal) = x1 i)
    (h2 : ∀ i, (((x2 i).toReal : ℝ) : EReal) = x2 i) (h3 : ∀ i, (((x3 i).toReal : ℝ) : EReal) = x3 i)
    (h4 : ∀ i, (((x4 i).toReal : ℝ) : EReal) = x4 i) (h5 : ∀ i, (((x5 i).toReal : ℝ) : EReal) = x5 i) :
    Args x0 x1 x2 x3 x4 x5 (dataOf x0 x1 x2 x3 x4 x5) := by
  have qn : ∀ (i : Fin 16384) (h : Fin 8) (x : Fin 64),
      x0 (ix4 0 i h x) = (((dataOf x0 x1 x2 x3 x4 x5).qn h i x : ℝ) : EReal) := fun i h x => by
    simp only [dataOf, Fin.ofNat_val_eq_self]; exact (h0 _).symm
  have qr : ∀ (i : Fin 16384) (h : Fin 8) (x : Fin 32),
      x1 (ix4 0 i h x) = (((dataOf x0 x1 x2 x3 x4 x5).qr h i x : ℝ) : EReal) := fun i h x => by
    simp only [dataOf, Fin.ofNat_val_eq_self]; exact (h1 _).symm
  have kn : ∀ (i : Fin 16384) (h : Fin 8) (x : Fin 64),
      x2 (ix4 0 i h x) = (((dataOf x0 x1 x2 x3 x4 x5).kn h i x : ℝ) : EReal) := fun i h x => by
    simp only [dataOf, Fin.ofNat_val_eq_self]; exact (h2 _).symm
  have kr : ∀ (i : Fin 16384) (x : Fin 32),
      x3 (ix3 0 i x) = (((dataOf x0 x1 x2 x3 x4 x5).kr i x : ℝ) : EReal) := fun i x => by
    simp only [dataOf, Fin.ofNat_val_eq_self]; exact (h3 _).symm
  refine ⟨qn, qr, kn, kr, fun i h x => ?_, fun i h x => ?_, rfl, fun h i => ?_⟩
  · simp only [dataOf, Fin.ofNat_val_eq_self]; exact (h4 _).symm
  · simp only [dataOf, Fin.ofNat_val_eq_self]; exact (h5 _).symm
  · have e8 : Fin.ofNat 8 h.val = h := by simp only [Fin.ofNat_val_eq_self]
    have e16 : Fin.ofNat 16384 i.val = i := by simp only [Fin.ofNat_val_eq_self]
    have hM : (dataOf x0 x1 x2 x3 x4 x5).M h.val i.val = (val_main_v13 (F := Ideal) x0 x1 x2 x3 (ix3 0 h i)).toReal := by
      simp only [dataOf, e8, e16]
    rw [hM]
    exact (max_real qn qr kn kr rfl h i).symm

/-- Arguments that satisfy the precondition hold real numbers. -/
theorem args_of (h : Cert.Pre_finite.fn (F := Ideal) x0 x1 x2 x3 x4 x5 = fun _ => 1#1) :
    Args x0 x1 x2 x3 x4 x5 (dataOf x0 x1 x2 x3 x4 x5) := by
  obtain ⟨h0, h1, h2, h3, h4, h5⟩ := Cert.Pre_finite.real h
  exact args_real h0 h1 h2 h3 h4 h5

end Cert.Attn

end
-- ==== Proof.V.Layout.lean ====
/-
  How the rows a tile program is given are laid out: arrays of 64, 32 and other lanes set side by side to make 128, then split by
  head.
-/
module

public import proofs.«01_k».proof.Proof.V.Arrays
public import proofs.«01_k».proof.Proof.V.RefC

@[expose] public section

noncomputable section

namespace Cert.KernelIdeal.Hand

open Cert.KernelIdeal Cert.KernelIdeal.Gen Cert.Attn
open Idealize.ShloMosaic hiding ix2 ix3 ix4
open Idealize.ShloMosaic.TcCoe Idealize.ShloMosaic.ValueIdx

/-- An array by position and head, as one by head and position. -/
def byHead (X : FVec Ideal S1x16384x8x128 .f32) : FVec Ideal S8x16384x128 .f32 :=
  transpose S8x16384x128 [1, 0, 2] (fun i => shapeCast S16384x8x128 X shapeCasts_S1x16384x8x128_S16384x8x128 i)
    transposes_S16384x8x128_S8x16384x128_1_0_2

theorem byHead_apply (X : FVec Ideal S1x16384x8x128 .f32) (h : Fin 8) (i : Fin 16384) (x : Fin 128) :
    byHead X (ix3 h i x) = X (ix4 0 i h x) := by
  unfold byHead
  rw [transpose_apply [1, 0, 2] _ transposes_S16384x8x128_S8x16384x128_1_0_2 (ix3 h i x) (ix3 i h x) (fun b => match b with
    | ⟨0, _⟩ => rfl
    | ⟨1, _⟩ => rfl
    | ⟨2, _⟩ => rfl)]
  refine shapeCast_apply X shapeCasts_S1x16384x8x128_S16384x8x128 (ix3 i h x) (ix4 0 i h x) ?_
  rw [Shape.rowMajor_val_three, Shape.rowMajor_val_four]
  show ((0 * 16384 + i.val) * 8 + h.val) * 128 + x.val = (i.val * 8 + h.val) * 128 + x.val
  omega

section Pieces

variable {a b c : ℕ} (A : FVec Ideal ⟨4, ![1, 16384, 8, a]⟩ .f32) (B : FVec Ideal ⟨4, ![1, 16384, 8, b]⟩ .f32)
  (C : FVec Ideal ⟨4, ![1, 16384, 8, c]⟩ .f32)
  (hc : Shape.Concatenates [⟨4, ![1, 16384, 8, a]⟩, ⟨4, ![1, 16384, 8, b]⟩, ⟨4, ![1, 16384, 8, c]⟩] S1x16384x8x128 3)
  (i : Fin 16384) (h : Fin 8)

/-- Of three arrays side by side, a lane of the first. -/
theorem three_first (y : Fin a) (x : Fin 128) (hx : x.val = y.val) :
    concatenate S1x16384x8x128 3 [⟨_, A⟩, ⟨_, B⟩, ⟨_, C⟩] hc (ix4 0 i h x) = A (ix4 0 i h y) :=
  concatenate_apply_piece 3 [⟨_, A⟩, ⟨_, B⟩, ⟨_, C⟩] hc (ix4 0 i h x) 0 (by simp) _ A rfl rfl 0 rfl (ix4 0 i h y)
    (fun k hk => match k with
      | ⟨0, _⟩ => rfl
      | ⟨1, _⟩ => rfl
      | ⟨2, _⟩ => rfl
      | ⟨3, _⟩ => absurd rfl hk)
    (show 0 + y.val = x.val by omega)

/-- Of three arrays side by side, a lane of the second. -/
theorem three_second (y : Fin b) (x : Fin 128) (hx : x.val = a + y.val) :
    concatenate S1x16384x8x128 3 [⟨_, A⟩, ⟨_, B⟩, ⟨_, C⟩] hc (ix4 0 i h x) = B (ix4 0 i h y) :=
  concatenate_apply_piece 3 [⟨_, A⟩, ⟨_, B⟩, ⟨_, C⟩] hc (ix4 0 i h x) 1 (by simp) _ B rfl rfl a rfl (ix4 0 i h y)
    (fun k hk => match k with
      | ⟨0, _⟩ => rfl
      | ⟨1, _⟩ => rfl
      | ⟨2, _⟩ => rfl
      | ⟨3, _⟩ => absurd rfl hk)
    (show a + y.val = x.val by omega)

/-- Of three arrays side by side, a lane of the third. -/
theorem three_third (y : Fin c) (x : Fin 128) (hx : x.val = a + b + y.val) :
    concatenate S1x16384x8x128 3 [⟨_, A⟩, ⟨_, B⟩, ⟨_, C⟩] hc (ix4 0 i h x) = C (ix4 0 i h y) :=
  concatenate_apply_piece 3 [⟨_, A⟩, ⟨_, B⟩, ⟨_, C⟩] hc (ix4 0 i h x) 2 (by simp) _ C rfl rfl (a + b) rfl (ix4 0 i h y)
    (fun k hk => match k with
      | ⟨0, _⟩ => rfl
      | ⟨1, _⟩ => rfl
      | ⟨2, _⟩ => rfl
      | ⟨3, _⟩ => absurd rfl hk)
    (show a + b + y.val = x.val by omega)

end Pieces

variable {x0 : FVec Ideal S1x16384x8x64 .f32} {x1 : FVec Ideal S1x16384x8x32 .f32} {x2 : FVec Ideal S1x16384x8x64 .f32}
  {x3 : FVec Ideal S1x16384x32 .f32} {x4 x5 : FVec Ideal S1x16384x8x64 .f32} {D : Data}

/-- The zeros beside the 96 lanes. -/
abbrev zeros32 : FVec Ideal S1x16384x8x32 .f32 :=
  broadcastInDim S1x16384x8x32 ![] bcast_S_S1x16384x8x32 (constant (F := Ideal) S_ .f32 0#32)

theorem zeros32_apply (j : S1x16384x8x32.Idx) : zeros32 j = ((0 : ℝ) : EReal) := Ideal.ofBits_zero_f32

/-- The query lanes side by side. -/
def joinQ (x0 : FVec Ideal S1x16384x8x64 .f32) (x1 : FVec Ideal S1x16384x8x32 .f32) : FVec Ideal S1x16384x8x128 .f32 :=
  concatenate S1x16384x8x128 3 [⟨S1x16384x8x64, x0⟩, ⟨S1x16384x8x32, x1⟩, ⟨S1x16384x8x32, zeros32⟩]
    concatenates_S1x16384x8x64_S1x16384x8x32_S1x16384x8x32_S1x16384x8x128_d3

theorem joinQ_at (A : Args x0 x1 x2 x3 x4 x5 D) (i : Fin 16384) (h : Fin 8) (x : Fin 128) :
    joinQ x0 x1 (ix4 0 i h x)
      = ((if x.val < 64 then D.qn h i x else if x.val < 96 then D.qr h i (x - 64) else 0 : ℝ) : EReal) := by
  unfold joinQ
  by_cases h1 : x.val < 64
  · rw [if_pos h1, three_first x0 x1 zeros32 _ i h ⟨x.val, h1⟩ x rfl, A.qn]
  · rw [if_neg h1]
    by_cases h2 : x.val < 96
    · rw [if_pos h2, three_second x0 x1 zeros32 _ i h ⟨x.val - 64, by omega⟩ x (by show x.val = 64 + (x.val - 64); omega), A.qr]
    · have hx := x.isLt
      rw [if_neg h2, three_third x0 x1 zeros32 _ i h ⟨x.val - 96, by omega⟩ x (by show x.val = 64 + 32 + (x.val - 96); omega),
        zeros32_apply]

/-- The shared key lanes, given to every head. -/
abbrev shared (x3 : FVec Ideal S1x16384x32 .f32) : FVec Ideal S1x16384x8x32 .f32 :=
  broadcastInDim S1x16384x8x32 ![0, 1, 2, 3] bcast_S1x16384x1x32_S1x16384x8x32_0_1_2_3
    (broadcastInDim S1x16384x1x32 ![0, 1, 3] bcast_S1x16384x32_S1x16384x1x32_0_1_3 x3)

theorem shared_apply (i : Fin 16384) (h : Fin 8) (x : Fin 32) : shared x3 (ix4 0 i h x) = x3 (ix3 0 i x) := by
  unfold shared
  rw [broadcastInDim_apply _ bcast_S1x16384x1x32_S1x16384x8x32_0_1_2_3 _ (ix4 0 i h x) (ix4 0 i 0 x) (fun a => match a with
    | ⟨0, _⟩ => rfl
    | ⟨1, _⟩ => rfl
    | ⟨2, _⟩ => rfl
    | ⟨3, _⟩ => rfl)]
  exact broadcastInDim_apply _ bcast_S1x16384x32_S1x16384x1x32_0_1_3 x3 (ix4 0 i 0 x) (ix3 0 i x) (fun a => match a with
    | ⟨0, _⟩ => rfl
    | ⟨1, _⟩ => rfl
    | ⟨2, _⟩ => rfl)

/-- The key lanes side by side. -/
def joinK (x2 : FVec Ideal S1x16384x8x64 .f32) (x3 : FVec Ideal S1x16384x32 .f32) : FVec Ideal S1x16384x8x128 .f32 :=
  concatenate S1x16384x8x128 3 [⟨S1x16384x8x64, x2⟩, ⟨S1x16384x8x32, shared x3⟩, ⟨S1x16384x8x32, zeros32⟩]
    concatenates_S1x16384x8x64_S1x16384x8x32_S1x16384x8x32_S1x16384x8x128_d3

theorem joinK_at (A : Args x0 x1 x2 x3 x4 x5 D) (i : Fin 16384) (h : Fin 8) (x : Fin 128) :
    joinK x2 x3 (ix4 0 i h x) = (((D.rows h).k i x : ℝ) : EReal) := by
  show _ = ((if x.val < 64 then D.kn h i x else if x.val < 96 then D.kr i (x - 64) else 0 : ℝ) : EReal)
  unfold joinK
  by_cases h1 : x.val < 64
  · rw [if_pos h1, three_first x2 (shared x3) zeros32 _ i h ⟨x.val, h1⟩ x rfl, A.kn]
  · rw [if_neg h1]
    by_cases h2 : x.val < 96
    · rw [if_pos h2, three_second x2 (shared x3) zeros32 _ i h ⟨x.val - 64, by omega⟩ x (by show x.val = 64 + (x.val - 64); omega),
        shared_apply, A.kr]
    · have hx := x.isLt
      rw [if_neg h2, three_third x2 (shared x3) zeros32 _ i h ⟨x.val - 96, by omega⟩ x
        (by show x.val = 64 + 32 + (x.val - 96); omega), zeros32_apply]

/-- The value lanes, a lane of ones beside them, and zeros. -/
def joinV (x4 : FVec Ideal S1x16384x8x64 .f32) : FVec Ideal S1x16384x8x128 .f32 :=
  concatenate S1x16384x8x128 3 [⟨S1x16384x8x64, x4⟩,
    ⟨S1x16384x8x1, broadcastInDim S1x16384x8x1 ![] bcast_S_S1x16384x8x1 (constant (F := Ideal) S_ .f32 1065353216#32)⟩,
    ⟨S1x16384x8x63, broadcastInDim S1x16384x8x63 ![] bcast_S_S1x16384x8x63 (constant (F := Ideal) S_ .f32 0#32)⟩]
    concatenates_S1x16384x8x64_S1x16384x8x1_S1x16384x8x63_S1x16384x8x128_d3

theorem joinV_at (A : Args x0 x1 x2 x3 x4 x5 D) (i : Fin 16384) (h : Fin 8) (x : Fin 128) :
    joinV x4 (ix4 0 i h x) = (((D.rows h).v i x : ℝ) : EReal) := by
  show _ = ((if x.val < 64 then D.v h i x else if x.val < 65 then 1 else 0 : ℝ) : EReal)
  unfold joinV
  by_cases h1 : x.val < 64
  · rw [if_pos h1, three_first x4 _ _ _ i h ⟨x.val, h1⟩ x rfl, A.v]
  · rw [if_neg h1]
    by_cases h2 : x.val < 65
    · rw [if_pos h2, three_second x4 _ _ _ i h ⟨x.val - 64, by omega⟩ x (by show x.val = 64 + (x.val - 64); omega)]
      exact bits_one
    · have hx := x.isLt
      rw [if_neg h2, three_third x4 _ _ _ i h ⟨x.val - 65, by omega⟩ x (by show x.val = 64 + 1 + (x.val - 65); omega)]
      exact Ideal.ofBits_zero_f32

/-- The zeros beside the 64 lanes. -/
abbrev zeros64 : FVec Ideal S1x16384x8x64 .f32 :=
  broadcastInDim S1x16384x8x64 ![] bcast_S_S1x16384x8x64 (constant (F := Ideal) S_ .f32 0#32)

/-- The lanes of the output's gradient beside zeros. -/
def joinO (x5 : FVec Ideal S1x16384x8x64 .f32) : FVec Ideal S1x16384x8x128 .f32 :=
  concatenate S1x16384x8x128 3 [⟨S1x16384x8x64, x5⟩,
    ⟨S1x16384x8x64, zeros64⟩]
    concatenates_S1x16384x8x64_S1x16384x8x64_S1x16384x8x128_d3

theorem joinO_at (A : Args x0 x1 x2 x3 x4 x5 D) (i : Fin 16384) (h : Fin 8) (x : Fin 128) :
    joinO x5 (ix4 0 i h x) = (((D.rows h).o i x : ℝ) : EReal) := by
  show _ = ((if x.val < 64 then D.ct h i x else 0 : ℝ) : EReal)
  unfold joinO
  by_cases h1 : x.val < 64
  · rw [if_pos h1, concatenate_pair_apply_left 3 x5 zeros64 _ (ix4 0 i h x) rfl (ix4 0 i h ⟨x.val, h1⟩) (fun k => match k with
      | ⟨0, _⟩ => rfl
      | ⟨1, _⟩ => rfl
      | ⟨2, _⟩ => rfl
      | ⟨3, _⟩ => rfl), A.ct]
  · have hx := x.isLt
    rw [if_neg h1]
    refine (concatenate_pair_apply_right 3 x5 zeros64 _ (ix4 0 i h x) rfl rfl (ix4 0 i h ⟨x.val - 64, by omega⟩)
      (fun k hk => match k with
        | ⟨0, _⟩ => rfl
        | ⟨1, _⟩ => rfl
        | ⟨2, _⟩ => rfl
        | ⟨3, _⟩ => absurd rfl hk) ?_).trans Ideal.ofBits_zero_f32
    show x.val - 64 + 64 = x.val
    omega

end Cert.KernelIdeal.Hand

end
-- ==== Proof.V.Host.lean ====
/-
  What the host computes before the call, in terms of the arguments.
-/
module

public import proofs.«01_k».proof.Proof.V.Layout

@[expose] public section

set_option maxRecDepth 16384

noncomputable section

namespace Cert.KernelIdeal.Hand

open Cert.KernelIdeal Cert.KernelIdeal.Gen Cert.Attn
open Idealize.ShloMosaic hiding ix2 ix3 ix4
open Idealize.ShloMosaic.TcCoe Idealize.ShloMosaic.ValueIdx
open Cert.ReferenceIdeal.Read (val_main_v12_0 val_main_v13 val_main_v19 val_main_v20 val_main_v30 val_main_v31 val_main_v32
  val_main_v33 val_main_v34 val_main_v35 val_main_v36 val_main_v37 val_main_v41)

variable (m : (ℓ : Loc nD τ sig) → Buf (Elt Ideal) ℓ) (c : Dev nD)

/-- The six arguments. -/
abbrev arg0 : FVec Ideal S1x16384x8x64 .f32 := m (c.tc.loc main_arg0)
abbrev arg1 : FVec Ideal S1x16384x8x32 .f32 := m (c.tc.loc main_arg1)
abbrev arg2 : FVec Ideal S1x16384x8x64 .f32 := m (c.tc.loc main_arg2)
abbrev arg3 : FVec Ideal S1x16384x32 .f32 := m (c.tc.loc main_arg3)
abbrev arg4 : FVec Ideal S1x16384x8x64 .f32 := m (c.tc.loc main_arg4)
abbrev arg5 : FVec Ideal S1x16384x8x64 .f32 := m (c.tc.loc main_arg5)

/-- The factor on the query lanes: the scale of the scores, over the logarithm of two. -/
def factor : FVec Ideal S_ .f32 :=
  Host.divf (constant (F := Ideal) S_ .f32 1037108716#32) (Host.log (constant (F := Ideal) S_ .f32 1073741824#32))

theorem read_q : V m c main_v42
    = truncf (F := Ideal) .bf16 (mulf (byHead (joinQ (arg0 m c) (arg1 m c)))
        (broadcastInDim S8x16384x128 ![] bcast_S_S8x16384x128 factor)) bitsLt_bf16_f32 := by
  show StableHlo.after (List.flatten [hostOps0, hostOps0_1, hostOps0_2]) (fun b => m (c, b)) _ = _
  simp only [hostOps0, hostOps0_1, hostOps0_2, List.flatten_cons, List.flatten_nil, List.append_nil, List.cons_append,
    List.nil_append, StableHlo.TRef.unary, StableHlo.TRef.ternary, StableHlo.TRef.toBuf, StableHlo.TRef.ofBuf, cast_eq]
  after_results_simp
  dsimp only [Matrix.cons_val]
  simp only [↓ StableHlo.readResult, ↓ StableHlo.readPieces]
  rfl

theorem read_k : V m c main_v49 = truncf (F := Ideal) .bf16 (byHead (joinK (arg2 m c) (arg3 m c))) bitsLt_bf16_f32 := by
  show StableHlo.after (List.flatten [hostOps0, hostOps0_1, hostOps0_2]) (fun b => m (c, b)) _ = _
  simp only [hostOps0, hostOps0_1, hostOps0_2, List.flatten_cons, List.flatten_nil, List.append_nil, List.cons_append,
    List.nil_append, StableHlo.TRef.unary, StableHlo.TRef.ternary, StableHlo.TRef.toBuf, StableHlo.TRef.ofBuf, cast_eq]
  after_results_simp
  dsimp only [Matrix.cons_val]
  simp only [↓ StableHlo.readResult, ↓ StableHlo.readPieces]
  rfl

/-- The key rows, tile by tile, with the lanes down. -/
def turned (X : FVec Ideal S8x16384x128 .bf16) : FVec Ideal S8x32x128x512 .bf16 :=
  transpose S8x32x128x512 [0, 1, 3, 2] (fun i => shapeCast S8x32x512x128 X shapeCasts_S8x16384x128_S8x32x512x128 i)
    transposes_S8x32x512x128_S8x32x128x512_0_1_3_2

theorem read_t : V m c main_v51
    = turned (truncf (F := Ideal) .bf16 (byHead (joinK (arg2 m c) (arg3 m c))) bitsLt_bf16_f32) := by
  show StableHlo.after (List.flatten [hostOps0, hostOps0_1, hostOps0_2]) (fun b => m (c, b)) _ = _
  simp only [hostOps0, hostOps0_1, hostOps0_2, List.flatten_cons, List.flatten_nil, List.append_nil, List.cons_append,
    List.nil_append, StableHlo.TRef.unary, StableHlo.TRef.ternary, StableHlo.TRef.toBuf, StableHlo.TRef.ofBuf, cast_eq]
  after_results_simp
  dsimp only [Matrix.cons_val]
  simp only [↓ StableHlo.readResult, ↓ StableHlo.readPieces]
  rfl

theorem read_v : V m c main_v57 = truncf (F := Ideal) .bf16 (byHead (joinV (arg4 m c))) bitsLt_bf16_f32 := by
  show StableHlo.after (List.flatten [hostOps0, hostOps0_1, hostOps0_2]) (fun b => m (c, b)) _ = _
  simp only [hostOps0, hostOps0_1, hostOps0_2, List.flatten_cons, List.flatten_nil, List.append_nil, List.cons_append,
    List.nil_append, StableHlo.TRef.unary, StableHlo.TRef.ternary, StableHlo.TRef.toBuf, StableHlo.TRef.ofBuf, cast_eq]
  after_results_simp
  dsimp only [Matrix.cons_val]
  simp only [↓ StableHlo.readResult, ↓ StableHlo.readPieces]
  rfl

theorem read_o : V m c main_v62 = truncf (F := Ideal) .bf16 (byHead (joinO (arg5 m c))) bitsLt_bf16_f32 := by
  show StableHlo.after (List.flatten [hostOps0, hostOps0_1, hostOps0_2]) (fun b => m (c, b)) _ = _
  simp only [hostOps0, hostOps0_1, hostOps0_2, List.flatten_cons, List.flatten_nil, List.append_nil, List.cons_append,
    List.nil_append, StableHlo.TRef.unary, StableHlo.TRef.ternary, StableHlo.TRef.toBuf, StableHlo.TRef.ofBuf, cast_eq]
  after_results_simp
  simp only [↓ StableHlo.readResult, ↓ StableHlo.readPieces]
  rfl

variable (x0 : FVec Ideal S1x16384x8x64 .f32) (x1 : FVec Ideal S1x16384x8x32 .f32) (x2 : FVec Ideal S1x16384x8x64 .f32)
  (x3 : FVec Ideal S1x16384x32 .f32) (x4 x5 : FVec Ideal S1x16384x8x64 .f32)

/-- The largest score with minus infinity is the largest score. -/
theorem shift_eq : val_main_v20 (F := Ideal) x0 x1 x2 x3 = val_main_v13 (F := Ideal) x0 x1 x2 x3 := by
  funext i
  rw [Cert.ReferenceIdeal.Read.val_main_v20_apply, Cert.ReferenceIdeal.Read.val_main_v19_apply]
  generalize val_main_v13 (F := Ideal) x0 x1 x2 x3 i = y
  show max (Ideal.ofBits .f32 0xFF800000#32) y = y
  rw [bits_bot]
  exact max_eq_right bot_le

/-- One number to a row, in a row of its own. -/
abbrev col (X : FVec Ideal S1x8x16384 .f32) : FVec Ideal S1x8x16384x1 .f32 :=
  broadcastInDim S1x8x16384x1 ![0, 1, 2] bcast_S1x8x16384_S1x8x16384x1_0_1_2 X

/-- One number to a row, all along the row. -/
abbrev along (X : FVec Ideal S1x8x16384 .f32) : FVec Ideal S1x8x16384x16384 .f32 :=
  broadcastInDim S1x8x16384x16384 ![0, 1, 2, 3] bcast_S1x8x16384x1_S1x8x16384x16384_0_1_2_3 (col X)

/-- The exponentials of the scores, less the largest of the row. -/
def exps : FVec Ideal S1x8x16384x16384 .f32 :=
  Host.exp (subf (val_main_v12_0 (F := Ideal) x0 x1 x2 x3) (along (val_main_v13 (F := Ideal) x0 x1 x2 x3)))

theorem exps_eq : exps x0 x1 x2 x3 = val_main_v33 (F := Ideal) x0 x1 x2 x3 := by
  unfold val_main_v33 val_main_v32 val_main_v31 val_main_v30
  rw [shift_eq]
  rfl

/-- Their sum along a row. -/
def total (X : FVec Ideal S1x8x16384x16384 .f32) : FVec Ideal S1x8x16384 .f32 :=
  Host.reduceAdd X (constant (F := Ideal) S_ .f32 0#32) reducesTo_S1x8x16384x16384_S1x8x16384_d3 h_S_

theorem total_eq : total (val_main_v33 (F := Ideal) x0 x1 x2 x3) = val_main_v34 (F := Ideal) x0 x1 x2 x3 := rfl

/-- The logarithm of the sum, to the base two. -/
def logSum (M L : FVec Ideal S1x8x16384 .f32) : FVec Ideal S1x8x16384x1 .f32 :=
  Host.divf (addf (col M) (Host.log (col L)))
    (broadcastInDim S1x8x16384x1 ![] bcast_S_S1x8x16384x1 (Host.log (constant (F := Ideal) S_ .f32 1073741824#32)))

theorem read_ls : V m c main_v29
    = fun i => shapeCast S8x32x1x512 (logSum (val_main_v13 (F := Ideal) (arg0 m c) (arg1 m c) (arg2 m c) (arg3 m c))
        (total (exps (arg0 m c) (arg1 m c) (arg2 m c) (arg3 m c)))) shapeCasts_S1x8x16384x1_S8x32x1x512 i := by
  show StableHlo.after (List.flatten [hostOps0, hostOps0_1, hostOps0_2]) (fun b => m (c, b)) _ = _
  simp only [hostOps0, hostOps0_1, hostOps0_2, List.flatten_cons, List.flatten_nil, List.append_nil, List.cons_append,
    List.nil_append, StableHlo.TRef.unary, StableHlo.TRef.ternary, StableHlo.TRef.toBuf, StableHlo.TRef.ofBuf, cast_eq]
  after_results_simp
  rfl

/-- The output of the attention. -/
def output (X : FVec Ideal S1x8x16384x16384 .f32) (Z : FVec Ideal S1x16384x8x64 .f32) : FVec Ideal S1x8x64x16384 .f32 :=
  Host.dotGeneral dot_S1x16384x8x64_S1x8x16384x16384_S1x8x64x16384_1_3_3_2_02_01 none Z (Host.divf X (along (total X)))

theorem output_eq : output (val_main_v33 (F := Ideal) x0 x1 x2 x3) x4 = val_main_v41 (F := Ideal) x0 x1 x2 x3 x4 := rfl

/-- The output against its gradient, lane by lane summed. -/
def against (Y : FVec Ideal S1x8x64x16384 .f32) (Z : FVec Ideal S1x16384x8x64 .f32) : FVec Ideal S1x16384x8 .f32 :=
  Host.reduceAdd (mulf (transpose S1x16384x8x64 [0, 3, 1, 2] Y transposes_S1x8x64x16384_S1x16384x8x64_0_3_1_2) Z)
    (constant (F := Ideal) S_ .f32 0#32) reducesTo_S1x16384x8x64_S1x16384x8_d3 h_S_

/-- The same, by head and tile. -/
def byTile (X : FVec Ideal S1x16384x8 .f32) : FVec Ideal S8x32x1x512 .f32 :=
  fun i => shapeCast S8x32x1x512 (transpose S8x16384 [1, 0] (fun i => shapeCast S16384x8 X shapeCasts_S1x16384x8_S16384x8 i)
    transposes_S16384x8_S8x16384_1_0) shapeCasts_S8x16384_S8x32x1x512 i

theorem read_de : V m c main_v34
    = byTile (against (output (exps (arg0 m c) (arg1 m c) (arg2 m c) (arg3 m c)) (arg4 m c)) (arg5 m c)) := by
  show StableHlo.after (List.flatten [hostOps0, hostOps0_1, hostOps0_2]) (fun b => m (c, b)) _ = _
  simp only [hostOps0, hostOps0_1, hostOps0_2, List.flatten_cons, List.flatten_nil, List.append_nil, List.cons_append,
    List.nil_append, StableHlo.TRef.unary, StableHlo.TRef.ternary, StableHlo.TRef.toBuf, StableHlo.TRef.ofBuf, cast_eq]
  after_results_simp
  rfl

end Cert.KernelIdeal.Hand

end
-- ==== Proof.V.Entry.lean ====
/-
  The arrays the call is given, as rows of reals.
-/
module

public import proofs.«01_k».proof.Proof.V.Host

@[expose] public section

noncomputable section

namespace Cert.KernelIdeal.Hand

open Cert.KernelIdeal Cert.KernelIdeal.Gen Cert.Attn
open Idealize.ShloMosaic hiding ix2 ix3 ix4
open Idealize.ShloMosaic.TcCoe Idealize.ShloMosaic.ValueIdx
open Cert.ReferenceIdeal.Read (val_main_v13 val_main_v33 val_main_v34 val_main_v41)

variable {m : (ℓ : Loc nD τ sig) → Buf (Elt Ideal) ℓ} {c : Dev nD} {D : Data}
variable {x0 : FVec Ideal S1x16384x8x64 .f32} {x1 : FVec Ideal S1x16384x8x32 .f32} {x2 : FVec Ideal S1x16384x8x64 .f32}
  {x3 : FVec Ideal S1x16384x32 .f32} {x4 x5 : FVec Ideal S1x16384x8x64 .f32}

theorem log_two_pos : 0 < Real.log 2 := Real.log_pos one_lt_two

/-- The logarithm of a positive number. -/
theorem log_real {r : ℝ} (hr : 0 < r) : Ideal.log (r : EReal) = ((Real.log r : ℝ) : EReal) := by
  rw [Ideal.log_coe, if_neg (not_le.mpr hr)]

/-- The logarithm of the number two, as the host writes it. -/
theorem log_bits : Ideal.log (Ideal.ofBits .f32 1073741824#32) = ((Real.log 2 : ℝ) : EReal) := by
  rw [show Ideal.ofBits .f32 1073741824#32 = ((2 : ℝ) : EReal) from bits_two, log_real two_pos]

theorem factor_apply (j : S_.Idx) : factor j = ((scale / Real.log 2 : ℝ) : EReal) := by
  show Ideal.div (Ideal.ofBits .f32 1037108716#32) (Ideal.log (Ideal.ofBits .f32 1073741824#32)) = _
  rw [log_bits, show Ideal.ofBits .f32 1037108716#32 = (scale : EReal) from bits_scale]
  exact div_real _ log_two_pos.ne'

theorem col_apply (X : FVec Ideal S1x8x16384 .f32) (h : Fin 8) (i : Fin 16384) : col X (ix4 0 h i 0) = X (ix3 0 h i) :=
  broadcastInDim_apply _ bcast_S1x8x16384_S1x8x16384x1_0_1_2 X (ix4 0 h i 0) (ix3 0 h i) (fun a => match a with
    | ⟨0, _⟩ => rfl
    | ⟨1, _⟩ => rfl
    | ⟨2, _⟩ => rfl)

theorem logSum_apply {M L : FVec Ideal S1x8x16384 .f32} {h : Fin 8} {i : Fin 16384} {a b : ℝ} (hM : M (ix3 0 h i) = (a : EReal))
    (hL : L (ix3 0 h i) = (b : EReal)) (hb : 0 < b) :
    logSum M L (ix4 0 h i 0) = (((a + Real.log b) / Real.log 2 : ℝ) : EReal) := by
  show Ideal.div (col M (ix4 0 h i 0) + Ideal.log (col L (ix4 0 h i 0))) (Ideal.log (Ideal.ofBits .f32 1073741824#32)) = _
  rw [col_apply, col_apply, hM, hL, log_real hb, log_bits, ← EReal.coe_add]
  exact div_real _ log_two_pos.ne'

/-- Row 512 a + b. -/
def rowNo (a : Fin 32) (b : Fin 512) : Fin 16384 := ⟨512 * a.val + b.val, by omega⟩

theorem turned_apply (X : FVec Ideal S8x16384x128 .bf16) (h : Fin 8) (a : Fin 32) (x : Fin 128) (b : Fin 512) :
    turned X (ix4 h a x b) = X (ix3 h (rowNo a b) x) := by
  unfold turned
  rw [transpose_apply [0, 1, 3, 2] _ transposes_S8x32x512x128_S8x32x128x512_0_1_3_2 (ix4 h a x b) (ix4 h a b x) (fun b => match b with
    | ⟨0, _⟩ => rfl
    | ⟨1, _⟩ => rfl
    | ⟨2, _⟩ => rfl
    | ⟨3, _⟩ => rfl)]
  refine shapeCast_apply X shapeCasts_S8x16384x128_S8x32x512x128 (ix4 h a b x) (ix3 h (rowNo a b) x) ?_
  rw [Shape.rowMajor_val_three, Shape.rowMajor_val_four]
  show (h.val * 16384 + (512 * a.val + b.val)) * 128 + x.val = ((h.val * 32 + a.val) * 512 + b.val) * 128 + x.val
  omega

theorem tile_col (X : FVec Ideal S1x8x16384x1 .f32) (h : Fin 8) (a : Fin 32) (b : Fin 512) :
    shapeCast S8x32x1x512 X shapeCasts_S1x8x16384x1_S8x32x1x512 (ix4 h a 0 b) = X (ix4 0 h (rowNo a b) 0) := by
  refine shapeCast_apply X shapeCasts_S1x8x16384x1_S8x32x1x512 (ix4 h a 0 b) (ix4 0 h (rowNo a b) 0) ?_
  rw [Shape.rowMajor_val_four, Shape.rowMajor_val_four]
  show ((0 * 8 + h.val) * 16384 + (512 * a.val + b.val)) * 1 + 0 = ((h.val * 32 + a.val) * 1 + 0) * 512 + b.val
  omega

theorem byTile_apply (X : FVec Ideal S1x16384x8 .f32) (h : Fin 8) (a : Fin 32) (b : Fin 512) :
    byTile X (ix4 h a 0 b) = X (ix3 0 (rowNo a b) h) := by
  unfold byTile
  rw [shapeCast_apply _ shapeCasts_S8x16384_S8x32x1x512 (ix4 h a 0 b) (ix2 h (rowNo a b)) (by
    rw [Shape.rowMajor_val_two, Shape.rowMajor_val_four]
    show h.val * 16384 + (512 * a.val + b.val) = ((h.val * 32 + a.val) * 1 + 0) * 512 + b.val
    omega)]
  rw [transpose_apply [1, 0] _ transposes_S16384x8_S8x16384_1_0 (ix2 h (rowNo a b)) (ix2 (rowNo a b) h) (fun b => match b with
    | ⟨0, _⟩ => rfl
    | ⟨1, _⟩ => rfl)]
  refine shapeCast_apply X shapeCasts_S1x16384x8_S16384x8 (ix2 (rowNo a b) h) (ix3 0 (rowNo a b) h) ?_
  rw [Shape.rowMajor_val_two, Shape.rowMajor_val_three]
  show (0 * 16384 + (512 * a.val + b.val)) * 8 + h.val = (512 * a.val + b.val) * 8 + h.val
  omega

theorem against_apply {Y : FVec Ideal S1x8x64x16384 .f32} {Z : FVec Ideal S1x16384x8x64 .f32} {f g : ℕ → ℝ} {h : Fin 8} {i : Fin 16384}
    (hY : ∀ x : Fin 64, Y (ix4 0 h x i) = ((f x : ℝ) : EReal)) (hZ : ∀ x : Fin 64, Z (ix4 0 i h x) = ((g x : ℝ) : EReal)) :
    against Y Z (ix3 0 i h) = ((∑ x ∈ Finset.range 64, f x * g x : ℝ) : EReal) := by
  have hT (x : Fin 64) : transpose S1x16384x8x64 [0, 3, 1, 2] Y transposes_S1x8x64x16384_S1x16384x8x64_0_3_1_2 (ix4 0 i h x)
      = Y (ix4 0 h x i) :=
    transpose_apply [0, 3, 1, 2] _ transposes_S1x8x64x16384_S1x16384x8x64_0_3_1_2 (ix4 0 i h x) (ix4 0 h x i) (fun b => match b with
      | ⟨0, _⟩ => rfl
      | ⟨1, _⟩ => rfl
      | ⟨2, _⟩ => rfl
      | ⟨3, _⟩ => rfl)
  unfold against
  simp only [Host.reduceAdd, Ideal.hostReduceAdd_def]
  rw [Ideal.hostReduceAdd_single reducesTo_S1x16384x8x64_S1x16384x8_d3 (by decide), ← coe_sum_fin]
  refine (congrArg₂ (· + ·) Ideal.ofBits_zero_f32 (Finset.sum_congr rfl fun x _ => ?_)).trans (zero_add _)
  rw [EReal.coe_mul, ← hY x, ← hZ x, ← hT x]
  exact congrArg _ (ValueIdx.eq_ix4 _)

theorem narrow_byHead (X : FVec Ideal S1x16384x8x128 .f32) (h : Fin 8) (i : Fin 16384) (x : Fin 128) :
    truncf (F := Ideal) .bf16 (byHead X) bitsLt_bf16_f32 (ix3 h i x) = X (ix4 0 i h x) := by
  rw [truncf_apply, byHead_apply]

/-- Given arguments that are reals, so are the rows of the call. -/
theorem entry_of (A : Args (arg0 m c) (arg1 m c) (arg2 m c) (arg3 m c) (arg4 m c) (arg5 m c) D) : Entry m c (fun h => D.rows h) where
  q h i x := by
    rw [read_q]
    show byHead _ (ix3 h i x) * factor _ = _
    rw [byHead_apply, joinQ_at A, factor_apply, ← EReal.coe_mul]
    show _ = (((if x.val < 64 then D.qn h i x else if x.val < 96 then D.qr h i (x - 64) else 0) * (D.c / Real.log 2) : ℝ) : EReal)
    rw [A.c]
  k h i x := by
    rw [read_k]
    rw [narrow_byHead, joinK_at A]
  t h a x b := by
    rw [read_t, turned_apply]
    rw [narrow_byHead, joinK_at A]
    rfl
  v h i x := by
    rw [read_v]
    rw [narrow_byHead, joinV_at A]
  o h i x := by
    rw [read_o]
    rw [narrow_byHead, joinO_at A]
  ls h a b := by
    rw [read_ls, exps_eq, total_eq]
    refine (tile_col _ h a b).trans ?_
    exact logSum_apply (A.M h (rowNo a b)) (at_v34 A h (rowNo a b)) (D.l_pos h _)
  de h a b := by
    rw [read_de, exps_eq, output_eq, byTile_apply]
    exact against_apply (fun x => at_v41 A h x (rowNo a b)) (fun x => A.ct (rowNo a b) h x)

end Cert.KernelIdeal.Hand

end
-- ==== Proof.V.Tail.lean ====
/-
  What the host makes of the gradients the call leaves: the five results, equal to the reference's.
-/
module

public import proofs.«01_k».proof.Proof.V.Entry

@[expose] public section

set_option maxRecDepth 16384

noncomputable section

namespace Cert.KernelIdeal.Hand

open Cert.KernelIdeal Cert.KernelIdeal.Gen Cert.Attn
open Idealize.ShloMosaic hiding ix2 ix3 ix4 eq_ix3 eq_ix4
open Idealize.ShloMosaic.TcCoe Idealize.ShloMosaic.ValueIdx
open Cert.ReferenceIdeal.Read (val_main_v46 val_main_v64 val_main_v65 val_main_v67 val_main_v69)

/-- The first 64 lanes. -/
def first64 (X : FVec Ideal S1x16384x8x128 .f32) : FVec Ideal S1x16384x8x64 .f32 :=
  extractStridedSlice S1x16384x8x64 ![0, 0, 0, 0] X slices_S1x16384x8x128_S1x16384x8x64_0_0_0_0

/-- The 32 lanes after them. -/
def next32 (X : FVec Ideal S1x16384x8x128 .f32) : FVec Ideal S1x16384x8x32 .f32 :=
  extractStridedSlice S1x16384x8x32 ![0, 0, 0, 64] X slices_S1x16384x8x128_S1x16384x8x32_0_0_0_64

/-- The query gradient by position and head, times the scale. -/
def queryGrad (X : FVec Ideal S8x32x128x512 .f32) : FVec Ideal S1x16384x8x128 .f32 :=
  mulf (fun i => shapeCast S1x16384x8x128 (transpose S32x512x8x128 [1, 3, 0, 2] X transposes_S8x32x128x512_S32x512x8x128_1_3_0_2)
      shapeCasts_S32x512x8x128_S1x16384x8x128 i)
    (broadcastInDim S1x16384x8x128 ![] bcast_S_S1x16384x8x128 (constant (F := Ideal) S_ .f32 1037108716#32))

/-- The key and value gradients by position and head. -/
def keyGrad (X : FVec Ideal S8x16384x128 .bf16) : FVec Ideal S1x16384x8x128 .f32 :=
  extf (F := Ideal) .f32 (broadcastInDim S1x16384x8x128 ![1, 2, 3] bcast_S16384x8x128_S1x16384x8x128_1_2_3
    (transpose S16384x8x128 [1, 0, 2] X transposes_S8x16384x128_S16384x8x128_1_0_2)) bitsLt_bf16_f32

/-- The sum over the heads. -/
def sumHeads (X : FVec Ideal S1x16384x8x32 .f32) : FVec Ideal S1x16384x32 .f32 :=
  Host.reduceAdd X (constant (F := Ideal) S_ .f32 0#32) reducesTo_S1x16384x8x32_S1x16384x32_d2 h_S_

section Lines

variable (W : Valuation τ sig (Elt Ideal))

theorem line_74 : StableHlo.after (List.flatten [hostOps1]) W (Proc.devRef .tc main_v74)
    = first64 (queryGrad (W (Proc.devRef .tc main_v63_0))) := by
  simp only [hostOps1, List.flatten_cons, List.flatten_nil, List.append_nil, List.cons_append,
    List.nil_append, StableHlo.TRef.unary, StableHlo.TRef.ternary, StableHlo.TRef.toBuf, StableHlo.TRef.ofBuf, cast_eq]
  after_results_simp
  rfl

theorem line_75 : StableHlo.after (List.flatten [hostOps1]) W (Proc.devRef .tc main_v75)
    = next32 (queryGrad (W (Proc.devRef .tc main_v63_0))) := by
  simp only [hostOps1, List.flatten_cons, List.flatten_nil, List.append_nil, List.cons_append,
    List.nil_append, StableHlo.TRef.unary, StableHlo.TRef.ternary, StableHlo.TRef.toBuf, StableHlo.TRef.ofBuf, cast_eq]
  after_results_simp
  rfl

theorem line_76 : StableHlo.after (List.flatten [hostOps1]) W (Proc.devRef .tc main_v76)
    = first64 (keyGrad (W (Proc.devRef .tc main_v63_1))) := by
  simp only [hostOps1, List.flatten_cons, List.flatten_nil, List.append_nil, List.cons_append,
    List.nil_append, StableHlo.TRef.unary, StableHlo.TRef.ternary, StableHlo.TRef.toBuf, StableHlo.TRef.ofBuf, cast_eq]
  after_results_simp
  rfl

theorem line_78 : StableHlo.after (List.flatten [hostOps1]) W (Proc.devRef .tc main_v78)
    = sumHeads (next32 (keyGrad (W (Proc.devRef .tc main_v63_1)))) := by
  simp only [hostOps1, List.flatten_cons, List.flatten_nil, List.append_nil, List.cons_append,
    List.nil_append, StableHlo.TRef.unary, StableHlo.TRef.ternary, StableHlo.TRef.toBuf, StableHlo.TRef.ofBuf, cast_eq]
  after_results_simp
  rfl

theorem line_79 : StableHlo.after (List.flatten [hostOps1]) W (Proc.devRef .tc main_v79)
    = first64 (keyGrad (W (Proc.devRef .tc main_v63_2))) := by
  simp only [hostOps1, List.flatten_cons, List.flatten_nil, List.append_nil, List.cons_append,
    List.nil_append, StableHlo.TRef.unary, StableHlo.TRef.ternary, StableHlo.TRef.toBuf, StableHlo.TRef.ofBuf, cast_eq]
  after_results_simp
  rfl

end Lines

theorem first64_apply (X : FVec Ideal S1x16384x8x128 .f32) (i : Fin 16384) (h : Fin 8) (x : Fin 64) :
    first64 X (ix4 0 i h x) = X (ix4 0 i h ⟨x.val, by omega⟩) :=
  extractStridedSlice_apply _ X _ (ix4 0 i h x) (ix4 0 i h ⟨x.val, by omega⟩) (fun a => match a with
    | ⟨0, _⟩ => rfl
    | ⟨1, _⟩ => (Nat.zero_add _).symm
    | ⟨2, _⟩ => (Nat.zero_add _).symm
    | ⟨3, _⟩ => (Nat.zero_add _).symm)

theorem next32_apply (X : FVec Ideal S1x16384x8x128 .f32) (i : Fin 16384) (h : Fin 8) (x : Fin 32) :
    next32 X (ix4 0 i h x) = X (ix4 0 i h ⟨64 + x.val, by omega⟩) :=
  extractStridedSlice_apply _ X _ (ix4 0 i h x) (ix4 0 i h ⟨64 + x.val, by omega⟩) (fun a => match a with
    | ⟨0, _⟩ => rfl
    | ⟨1, _⟩ => (Nat.zero_add _).symm
    | ⟨2, _⟩ => (Nat.zero_add _).symm
    | ⟨3, _⟩ => rfl)

theorem keyGrad_apply (X : FVec Ideal S8x16384x128 .bf16) (i : Fin 16384) (h : Fin 8) (x : Fin 128) :
    keyGrad X (ix4 0 i h x) = X (ix3 h i x) := by
  unfold keyGrad
  rw [extf_apply, broadcastInDim_apply _ bcast_S16384x8x128_S1x16384x8x128_1_2_3 _ (ix4 0 i h x) (ix3 i h x) (fun a => match a with
    | ⟨0, _⟩ => rfl
    | ⟨1, _⟩ => rfl
    | ⟨2, _⟩ => rfl)]
  refine (transpose_apply [1, 0, 2] X transposes_S8x16384x128_S16384x8x128_1_0_2 (ix3 i h x) (ix3 h i x) (fun b => match b with
    | ⟨0, _⟩ => rfl
    | ⟨1, _⟩ => rfl
    | ⟨2, _⟩ => rfl))

theorem queryGrad_apply (X : FVec Ideal S8x32x128x512 .f32) (i : Fin 16384) (h : Fin 8) (x : Fin 128) :
    queryGrad X (ix4 0 i h x) = X (ix4 h ⟨i.val / 512, by omega⟩ x ⟨i.val % 512, by omega⟩) * (scale : EReal) := by
  unfold queryGrad
  rw [mulf_apply]
  refine congrArg₂ (· * ·) ?_ bits_scale
  rw [shapeCast_apply _ shapeCasts_S32x512x8x128_S1x16384x8x128 (ix4 0 i h x)
    (ix4 ⟨i.val / 512, by omega⟩ ⟨i.val % 512, by omega⟩ h x) (by
      rw [Shape.rowMajor_val_four, Shape.rowMajor_val_four]
      show ((i.val / 512 * 512 + i.val % 512) * 8 + h.val) * 128 + x.val = ((0 * 16384 + i.val) * 8 + h.val) * 128 + x.val
      omega)]
  exact transpose_apply [1, 3, 0, 2] X transposes_S8x32x128x512_S32x512x8x128_1_3_0_2 _ _ (fun b => match b with
    | ⟨0, _⟩ => rfl
    | ⟨1, _⟩ => rfl
    | ⟨2, _⟩ => rfl
    | ⟨3, _⟩ => rfl)

theorem sumHeads_apply {X : FVec Ideal S1x16384x8x32 .f32} {f : ℕ → ℝ} {i : Fin 16384} {x : Fin 32}
    (hX : ∀ h : Fin 8, X (ix4 0 i h x) = ((f h : ℝ) : EReal)) :
    sumHeads X (ix3 0 i x) = ((∑ h ∈ Finset.range 8, f h : ℝ) : EReal) := by
  unfold sumHeads
  simp only [Host.reduceAdd, Ideal.hostReduceAdd_def]
  rw [Ideal.hostReduceAdd_single reducesTo_S1x16384x8x32_S1x16384x32_d2 (by decide), ← coe_sum_fin]
  refine (congrArg₂ (· + ·) Ideal.ofBits_zero_f32 (Finset.sum_congr rfl fun h _ => ?_)).trans (zero_add _)
  rw [← hX h]
  exact congrArg _ (eq_ix4 _)

/-- Where the first axis has one place, an index is known by the others. -/
theorem only_four {a b c : ℕ} (j : (⟨4, ![1, a, b, c]⟩ : Shape).Idx) : j = ix4 0 (j 1) (j 2) (j 3) := by
  funext d
  match d with
  | ⟨0, _⟩ => exact Subsingleton.elim (α := Fin 1) _ _
  | ⟨1, _⟩ => rfl
  | ⟨2, _⟩ => rfl
  | ⟨3, _⟩ => rfl

theorem only_three {a b : ℕ} (j : (⟨3, ![1, a, b]⟩ : Shape).Idx) : j = ix3 0 (j 1) (j 2) := by
  funext d
  match d with
  | ⟨0, _⟩ => exact Subsingleton.elim (α := Fin 1) _ _
  | ⟨1, _⟩ => rfl
  | ⟨2, _⟩ => rfl

theorem outK_apply (R : ℕ → Rows) (h : Fin 8) (i : Fin 16384) (x : Fin 128) :
    outK R (ix3 h i x) = (((R h).dk 16384 i x * Real.log 2 : ℝ) : EReal) := by
  unfold outK
  rfl

theorem outV_apply (R : ℕ → Rows) (h : Fin 8) (i : Fin 16384) (x : Fin 128) :
    outV R (ix3 h i x) = (((R h).dv 16384 i x : ℝ) : EReal) := by
  unfold outV
  rfl

section Results

variable {x0 : FVec Ideal S1x16384x8x64 .f32} {x1 : FVec Ideal S1x16384x8x32 .f32} {x2 : FVec Ideal S1x16384x8x64 .f32}
  {x3 : FVec Ideal S1x16384x32 .f32} {x4 x5 : FVec Ideal S1x16384x8x64 .f32} {D : Data}
variable (A : Args x0 x1 x2 x3 x4 x5 D)
include A

theorem queryGrad_at (i : Fin 16384) (h : Fin 8) (x : Fin 128) :
    queryGrad (outQ fun h => D.rows h) (ix4 0 i h x) = (((D.rows h).part 0 16384 i x * D.c : ℝ) : EReal) := by
  rw [queryGrad_apply, A.c, EReal.coe_mul]
  show (((D.rows h).part 0 16384 (512 * (i.val / 512) + i.val % 512) x : ℝ) : EReal) * _ = _
  rw [Nat.div_add_mod]

theorem result_qn : first64 (queryGrad (outQ fun h => D.rows h)) = val_main_v69 (F := Ideal) x0 x1 x2 x3 x4 x5 := by
  funext j
  obtain ⟨i, h, x, rfl⟩ : ∃ (i : Fin 16384) (h : Fin 8) (x : Fin 64), j = ix4 0 i h x := ⟨j 1, j 2, j 3, only_four j⟩
  rw [first64_apply, queryGrad_at A, at_v69 A]
  exact congrArg _ (D.part_low h i x.isLt)

theorem result_qr : next32 (queryGrad (outQ fun h => D.rows h)) = val_main_v64 (F := Ideal) x0 x1 x2 x3 x4 x5 := by
  funext j
  obtain ⟨i, h, x, rfl⟩ : ∃ (i : Fin 16384) (h : Fin 8) (x : Fin 32), j = ix4 0 i h x := ⟨j 1, j 2, j 3, only_four j⟩
  rw [next32_apply, queryGrad_at A, at_v64 A]
  exact congrArg _ (D.part_high h i x.isLt)

theorem result_kn : first64 (keyGrad (outK fun h => D.rows h)) = val_main_v67 (F := Ideal) x0 x1 x2 x3 x4 x5 := by
  funext j
  obtain ⟨i, h, x, rfl⟩ : ∃ (i : Fin 16384) (h : Fin 8) (x : Fin 64), j = ix4 0 i h x := ⟨j 1, j 2, j 3, only_four j⟩
  rw [first64_apply, keyGrad_apply, outK_apply, at_v67 A]
  exact congrArg _ (D.dk_low h i x.isLt)

theorem result_kr : sumHeads (next32 (keyGrad (outK fun h => D.rows h))) = val_main_v65 (F := Ideal) x0 x1 x2 x3 x4 x5 := by
  funext j
  obtain ⟨i, x, rfl⟩ : ∃ (i : Fin 16384) (x : Fin 32), j = ix3 0 i x := ⟨j 1, j 2, only_three j⟩
  rw [at_v65 A]
  refine sumHeads_apply fun h => ?_
  rw [next32_apply, keyGrad_apply, outK_apply]
  exact congrArg _ (D.dk_high h i x.isLt)

theorem result_v : first64 (keyGrad (outV fun h => D.rows h)) = val_main_v46 (F := Ideal) x0 x1 x2 x3 x5 := by
  funext j
  obtain ⟨i, h, x, rfl⟩ : ∃ (i : Fin 16384) (h : Fin 8) (x : Fin 64), j = ix4 0 i h x := ⟨j 1, j 2, j 3, only_four j⟩
  rw [first64_apply, keyGrad_apply, outV_apply, at_v46 A]
  exact congrArg _ (D.dv_low h i x.isLt)

end Results

section Launch

variable {m : (ℓ : Loc nD τ sig) → Buf (Elt Ideal) ℓ} {c : Dev nD} {D : Data}

/-- The buffers as the call leaves them. -/
abbrev left (m : (ℓ : Loc nD τ sig) → Buf (Elt Ideal) ℓ) (c : Dev nD) : Valuation τ sig (Elt Ideal) :=
  Pipeline.withArrays spec0 c (V0 m c) fun w => (dats m 0 c).arrAt w cfg0.N

theorem arrays_injective : Function.Injective (Pipeline.arrRef spec0) := by decide

variable (A : Args (arg0 m c) (arg1 m c) (arg2 m c) (arg3 m c) (arg4 m c) (arg5 m c) D)
include A

theorem left_q : left m c (Proc.devRef .tc main_v63_0) = outQ fun h => D.rows h :=
  (Pipeline.withArrays_arr spec0 arrays_injective c (V0 m c) (fun w => (dats m 0 c).arrAt w cfg0.N) 7).trans (final_7 (entry_of A))
theorem left_k : left m c (Proc.devRef .tc main_v63_1) = outK fun h => D.rows h :=
  (Pipeline.withArrays_arr spec0 arrays_injective c (V0 m c) (fun w => (dats m 0 c).arrAt w cfg0.N) 8).trans (final_8 (entry_of A))
theorem left_v : left m c (Proc.devRef .tc main_v63_2) = outV fun h => D.rows h :=
  (Pipeline.withArrays_arr spec0 arrays_injective c (V0 m c) (fun w => (dats m 0 c).arrAt w cfg0.N) 9).trans (final_9 (entry_of A))

theorem end_74 : Pipeline.afterTail₀ cfgs (dats m) 0 (V0 m) [hostOps1] c main_v74
    = val_main_v69 (F := Ideal) (arg0 m c) (arg1 m c) (arg2 m c) (arg3 m c) (arg4 m c) (arg5 m c) :=
  (line_74 (left m c)).trans ((congrArg (fun X => first64 (queryGrad X)) (left_q A)).trans (result_qn A))
theorem end_75 : Pipeline.afterTail₀ cfgs (dats m) 0 (V0 m) [hostOps1] c main_v75
    = val_main_v64 (F := Ideal) (arg0 m c) (arg1 m c) (arg2 m c) (arg3 m c) (arg4 m c) (arg5 m c) :=
  (line_75 (left m c)).trans ((congrArg (fun X => next32 (queryGrad X)) (left_q A)).trans (result_qr A))
theorem end_76 : Pipeline.afterTail₀ cfgs (dats m) 0 (V0 m) [hostOps1] c main_v76
    = val_main_v67 (F := Ideal) (arg0 m c) (arg1 m c) (arg2 m c) (arg3 m c) (arg4 m c) (arg5 m c) :=
  (line_76 (left m c)).trans ((congrArg (fun X => first64 (keyGrad X)) (left_k A)).trans (result_kn A))
theorem end_78 : Pipeline.afterTail₀ cfgs (dats m) 0 (V0 m) [hostOps1] c main_v78
    = val_main_v65 (F := Ideal) (arg0 m c) (arg1 m c) (arg2 m c) (arg3 m c) (arg4 m c) (arg5 m c) :=
  (line_78 (left m c)).trans ((congrArg (fun X => sumHeads (next32 (keyGrad X))) (left_k A)).trans (result_kr A))
theorem end_79 : Pipeline.afterTail₀ cfgs (dats m) 0 (V0 m) [hostOps1] c main_v79
    = val_main_v46 (F := Ideal) (arg0 m c) (arg1 m c) (arg2 m c) (arg3 m c) (arg5 m c) :=
  (line_79 (left m c)).trans ((congrArg (fun X => first64 (keyGrad X)) (left_v A)).trans (result_v A))

end Launch

end Cert.KernelIdeal.Hand

end
-- ==== Proof.FI.Tile.lean ====
/-
  What the body of the attention's forward call computes, in plain terms and at any arithmetic. Every tile of 512 queries
  takes the tiles of 512 keys one by one and keeps, per query, the maximum of the scores met so far and the sum of the
  value rows weighted by two to the (score less that maximum).
-/
module

public import proofs.«01_k».proof.Proof.Gen.ForwardIdeal.Frame
public import Idealize.ShloMosaic.Lib.ValueIdxCore
public import Idealize.ShloMosaic.Lib.WritesUnit

@[expose] public section

set_option maxRecDepth 16384

noncomputable section

namespace Cert.ForwardIdeal.Hand

open Cert.ForwardIdeal Cert.ForwardIdeal.Gen
open Idealize.ShloMosaic Idealize.ShloMosaic.TcCoe Idealize.ShloMosaic.ValueIdx

variable {F : FTy → Type} [FloatOps F]

/-- The running maximum and the running sum of a tile of 512 queries. -/
abbrev State (F : FTy → Type) := FVec F S512x1 .f32 × FVec F S512x128 .f32

/-- A tile of rows without its leading axis of one. -/
def rows (x : Vec F S1x512x128 .bf16) : FVec F S512x128 .bf16 := shapeCast S512x128 x shapeCasts_S1x512x128_S512x128

/-- The scores: the products of the query rows with the key rows. -/
def raw (q k : Vec F S1x512x128 .bf16) : FVec F S512x512 .f32 :=
  matmul dot_S512x128_S512x128_S512x512_1_1_0_0_n_n none (rows q) (rows k) (constant S512x512 .f32 0x00000000#32)

/-- On the diagonal a key after the query has score minus infinity. -/
def masked (s : FVec F S512x512 .f32) : FVec F S512x512 .f32 :=
  select (cmpi .sle (iota .tc S512x512 32 [1] iota_S512x512_d1_w32) (iota .tc S512x512 32 [0] iota_S512x512_d0_w32)) s
    (broadcast S512x512 (Scalar.ofBits .f32 0xFF800000#32))

/-- The maximum met so far and in the scores `s`. -/
def top (m : FVec F S512x1 .f32) (s : FVec F S512x512 .f32) : FVec F S512x1 .f32 :=
  maximumf m (shapeCast S512x1 (multiReduction .maximumf [1] S512 s 0xFF800000#32 reduces_S512x512_S512 (.inl rfl) rfl)
    shapeCasts_S512_S512x1)

/-- Two to the score less the maximum. -/
def weights (m : FVec F S512x1 .f32) (s : FVec F S512x512 .f32) : FVec F S512x512 .bf16 :=
  exp2 (truncf .bf16 (subf s (broadcastTo S512x512 m broadcasts_S512x1_S512x512)) bitsLt_bf16_f32)

/-- The state after a tile of scores `s` and of value rows `v`. -/
def add (s : FVec F S512x512 .f32) (v : Vec F S1x512x128 .bf16) (t : State F) : State F :=
  (top t.1 s, addf (mulf (broadcastTo S512x128 (exp2 (subf t.1 (top t.1 s))) broadcasts_S512x1_S512x128) t.2)
    (matmul dot_S512x512_S512x128_S512x128_1_0_0_1_n_n none (weights (top t.1 s) s) (rows v)
      (constant S512x128 .f32 0x00000000#32)))

/-- The state before any tile. -/
def start : State F :=
  (broadcast S512x1 (Scalar.ofBits .f32 0xFF800000#32), broadcast S512x128 (Scalar.ofBits .f32 0x00000000#32))

/-- The rows of tile `j` of a head. -/
def rowsAt (X : Vec F S1x16384x128 .bf16) (j : ℕ) : Vec F S1x512x128 .bf16 :=
  fun z => X (ix3 (z 0) ⟨(512 * j + (z 1).val) % 16384, Nat.mod_lt _ (by decide)⟩ (z 2))

/-- The rows of tile `c` of a block of four. -/
def partAt (X : Vec F S1x2048x128 .bf16) (c : ℕ) : Vec F S1x512x128 .bf16 :=
  fun z => X (ix3 (z 0) ⟨(512 * c + (z 1).val) % 2048, Nat.mod_lt _ (by decide)⟩ (z 2))

/-- The state after the key tiles `j, j + 1, …, j + n - 1`, all of them before the queries. -/
def runFrom (q : Vec F S1x512x128 .bf16) (K V : Vec F S1x16384x128 .bf16) (j : ℕ) : ℕ → State F → State F
  | 0, t => t
  | n + 1, t => add (raw q (rowsAt K (j + n))) (rowsAt V (j + n)) (runFrom q K V j n t)

/-- The state of query tile `n` at its end: the key tiles before it, then its own. -/
def finish (q : Vec F S1x512x128 .bf16) (K V : Vec F S1x16384x128 .bf16) (n : ℕ) : State F :=
  add (masked (raw q (rowsAt K n))) (rowsAt V n) (runFrom q K V 0 n start)

theorem runFrom_add (q : Vec F S1x512x128 .bf16) (K V : Vec F S1x16384x128 .bf16) (j a b : ℕ) (t : State F) :
    runFrom q K V j (a + b) t = runFrom q K V (j + a) b (runFrom q K V j a t) := by
  induction b with
  | zero => rfl
  | succ b ih => rw [← Nat.add_assoc, runFrom, runFrom, ih, Nat.add_assoc j a b]

/-- The sum's lane of ones: the sum of the weights. -/
def norm (a : FVec F S512x128 .f32) : FVec F S512x1 .f32 := extractStridedSlice S512x1 ![0, 64] a slices_S512x128_o0_64_S512x1

/-- The output rows: the weighted sum over the sum of the weights. -/
def outRows (t : State F) : Vec F S1x512x128 .bf16 :=
  shapeCast S1x512x128 (truncf .bf16 (divf t.2 (broadcastTo S512x128 (norm t.2) broadcasts_S512x1_S512x128)) bitsLt_bf16_f32)
    shapeCasts_S512x128_S1x512x128

/-- The logarithms of the sums, to the base two. -/
def logs (t : State F) : FVec F S512x1 .f32 :=
  addf t.1 (divf (log (norm t.2)) (broadcast S512x1 (Scalar.log (Scalar.ofBits .f32 0x40000000#32))))

/-- The same laid along a row. -/
def outLine (t : State F) : Vec F S1x1x1x512 .f32 :=
  shapeCast S1x1x1x512 (extractStridedSlice S1x512 ![0, 0] (transpose S128x512 [1, 0] (broadcastTo S512x128
    (shapeCast S512x1 (logs t) shapeCasts_S512x1_S512x1) broadcasts_S512x1_S512x128) transposes_S512x128_p1_0_S128x512)
    slices_S128x512_o0_0_S1x512) shapeCasts_S1x512_S1x1x1x512

variable {sp : Space}

theorem readAt_rows (m : Memref sig .tc sp S1x16384x128 .bf16) (f : m.view.ty.Contents (Elt F)) {off : Fin 3 → ℕ} {j : ℕ}
    (hoff : off = ![0, 512 * j, 0]) (inb : ∀ a, off a + S1x512x128.size a ≤ S1x16384x128.size a) :
    m.view.readAt (Elt F) (Rect.unit (s := S1x16384x128) off S1x512x128.size inb).toLoadRect f = rowsAt (m.view.read (Elt F) f) j := by
  subst hoff
  funext z
  have hj : 512 * j + 512 ≤ 16384 := inb 1
  show m.view.read (Elt F) f _ = _
  unfold rowsAt
  congr 1
  funext a
  match a with
  | ⟨0, _⟩ => exact Subsingleton.elim (α := Fin 1) _ _
  | ⟨1, _⟩ =>
    apply Fin.ext
    have hz : (z 1).val < 512 := (z 1).isLt
    show 512 * j + 1 * (z 1).val = (512 * j + (z 1).val) % 16384
    omega
  | ⟨2, _⟩ =>
    apply Fin.ext
    show 0 + 1 * (z 2).val = (z 2).val
    omega

theorem readAt_part (m : Memref sig .tc sp S1x2048x128 .bf16) (f : m.view.ty.Contents (Elt F)) {off : Fin 3 → ℕ} {j : ℕ}
    (hoff : off = ![0, 512 * j, 0]) (inb : ∀ a, off a + S1x512x128.size a ≤ S1x2048x128.size a) :
    m.view.readAt (Elt F) (Rect.unit (s := S1x2048x128) off S1x512x128.size inb).toLoadRect f = partAt (m.view.read (Elt F) f) j := by
  subst hoff
  funext z
  have hj : 512 * j + 512 ≤ 2048 := inb 1
  show m.view.read (Elt F) f _ = _
  unfold partAt
  congr 1
  funext a
  match a with
  | ⟨0, _⟩ => exact Subsingleton.elim (α := Fin 1) _ _
  | ⟨1, _⟩ =>
    apply Fin.ext
    have hz : (z 1).val < 512 := (z 1).isLt
    show 512 * j + 1 * (z 1).val = (512 * j + (z 1).val) % 2048
    omega
  | ⟨2, _⟩ =>
    apply Fin.ext
    show 0 + 1 * (z 2).val = (z 2).val
    omega

end Cert.ForwardIdeal.Hand
end
-- ==== Proof.FI.Trip.lean ====
/-
  The body's loop: every trip takes four key tiles, for four query tiles.
-/
module

public import proofs.«01_k».proof.Proof.FI.Tile

@[expose] public section

set_option maxRecDepth 16384

noncomputable section

namespace Cert.ForwardIdeal.Hand

open Cert.ForwardIdeal Cert.ForwardIdeal.Gen
open Idealize.ShloMosaic Idealize.ShloMosaic.TcCoe Idealize.ShloMosaic.ValueIdx

variable {F : FTy → Type} [FloatOps F]

/-- The states of the four query tiles, as the loop carries them. -/
abbrev Flat (F : FTy → Type) := FVec F S512x1 .f32 × FVec F S512x128 .f32 × FVec F S512x1 .f32 × FVec F S512x128 .f32
  × FVec F S512x1 .f32 × FVec F S512x128 .f32 × FVec F S512x1 .f32 × FVec F S512x128 .f32

/-- The four states in one. -/
def join (a b c d : State F) : Flat F := (a.1, a.2, b.1, b.2, c.1, c.2, d.1, d.2)

variable (𝒱 : Variants) (c : Dev nD) (bd : Option 𝒱.V) (i : grid0.Coords)
  (arg2 : Memref sig .tc .vmem S1x2048x128 .bf16) (harg2 : arg2.IsWhole) (arg3 : Memref sig .tc .vmem S1x16384x128 .bf16) (harg3 : arg3.IsWhole)
  (arg4 : Memref sig .tc .vmem S1x16384x128 .bf16) (harg4 : arg4.IsWhole) (arg5 : Memref sig .tc .vmem S1x2048x128 .bf16) (harg5 : arg5.IsWhole)
  (arg6 : Memref sig .tc .vmem S1x4x1x512 .f32) (harg6 : arg6.IsWhole)
  (q0 q1 q2 q3 : Vec F S1x512x128 .bf16) (f3 : arg3.view.ty.Contents (Elt F)) (f4 : arg4.view.ty.Contents (Elt F))

/-- Key tile `u` of trip `k`. -/
abbrev keysIn (k : Fin (k0_t1_loop i).trips) (u : Fin 4) : Vec F S1x512x128 .bf16 :=
  arg3.view.readAt (Elt F) (Rect.unit (s := S1x16384x128) (k0_off1 i k (BitVec.ofNat 32 u.val)) S1x512x128.size (k0_off1_inb i k u)).toLoadRect f3
/-- Value tile `u` of trip `k`. -/
abbrev valuesIn (k : Fin (k0_t1_loop i).trips) (u : Fin 4) : Vec F S1x512x128 .bf16 :=
  arg4.view.readAt (Elt F) (Rect.unit (s := S1x16384x128) (k0_off1 i k (BitVec.ofNat 32 u.val)) S1x512x128.size (k0_off1_inb i k u)).toLoadRect f4

/-- One query tile's four steps of a trip. -/
def four (q : Vec F S1x512x128 .bf16) (k : Fin (k0_t1_loop i).trips) (t : State F) : State F :=
  add (raw q (keysIn i arg3 f3 k 3)) (valuesIn i arg4 f4 k 3) (add (raw q (keysIn i arg3 f3 k 2)) (valuesIn i arg4 f4 k 2)
    (add (raw q (keysIn i arg3 f3 k 1)) (valuesIn i arg4 f4 k 1) (add (raw q (keysIn i arg3 f3 k 0)) (valuesIn i arg4 f4 k 0) t)))

set_option maxHeartbeats 4000000 in
theorem trip_eq (k : Fin (k0_t1_loop i).trips) (a b d e : State F) :
    tripR_k0_t1 𝒱 c bd i arg2 harg2 arg3 harg3 arg4 harg4 arg5 harg5 arg6 harg6 q0 q1 q2 q3 f3 f4 k (join a b d e)
      = join (four i arg3 arg4 f3 f4 q0 k a) (four i arg3 arg4 f3 f4 q1 k b) (four i arg3 arg4 f3 f4 q2 k d) (four i arg3 arg4 f3 f4 q3 k e) := by
  unfold tripR_k0_t1 trip_k0_t1
  rfl

/-- The four steps are the key tiles from the trip's own first on. -/
theorem four_eq (q : Vec F S1x512x128 .bf16) (k : Fin (k0_t1_loop i).trips) (t : State F) :
    four i arg3 arg4 f3 f4 q k t = runFrom q (arg3.view.read (Elt F) f3) (arg4.view.read (Elt F) f4) (4 * k.val) 4 t := by
  have ho : ∀ u : Fin 4, k0_off1 i k (BitVec.ofNat 32 u.val) = ![0, 512 * (4 * k.val + u.val), 0] := fun u => by
    rw [k0_off1_eq]
    congr 2
    omega
  have hk : ∀ u : Fin 4, keysIn i arg3 f3 k u = rowsAt (arg3.view.read (Elt F) f3) (4 * k.val + u.val) :=
    fun u => readAt_rows arg3 f3 (ho u) (k0_off1_inb i k u)
  have hv : ∀ u : Fin 4, valuesIn i arg4 f4 k u = rowsAt (arg4.view.read (Elt F) f4) (4 * k.val + u.val) :=
    fun u => readAt_rows arg4 f4 (ho u) (k0_off1_inb i k u)
  unfold four
  rw [hk 0, hk 1, hk 2, hk 3, hv 0, hv 1, hv 2, hv 3]
  rfl

/-- The states before trip `n`. -/
theorem states_eq (n : ℕ) (hn : n ≤ (k0_t1_loop i).trips) :
    st_k0_t1 𝒱 c bd i arg2 harg2 arg3 harg3 arg4 harg4 arg5 harg5 arg6 harg6 q0 q1 q2 q3 f3 f4 (join start start start start) n
      = join (runFrom q0 (arg3.view.read (Elt F) f3) (arg4.view.read (Elt F) f4) 0 (4 * n) start)
          (runFrom q1 (arg3.view.read (Elt F) f3) (arg4.view.read (Elt F) f4) 0 (4 * n) start)
          (runFrom q2 (arg3.view.read (Elt F) f3) (arg4.view.read (Elt F) f4) 0 (4 * n) start)
          (runFrom q3 (arg3.view.read (Elt F) f3) (arg4.view.read (Elt F) f4) 0 (4 * n) start) := by
  induction n with
  | zero => rfl
  | succ n ih =>
    have h := st_k0_t1_succ 𝒱 c bd i arg2 harg2 arg3 harg3 arg4 harg4 arg5 harg5 arg6 harg6 q0 q1 q2 q3 f3 f4
      (join start start start start) ⟨n, hn⟩
    refine h.trans ?_
    rw [ih (Nat.le_of_succ_le hn), trip_eq, four_eq, four_eq, four_eq, four_eq, Nat.mul_succ]
    simp only [runFrom_add, Nat.zero_add]

end Cert.ForwardIdeal.Hand
end
-- ==== Proof.FI.Body.lean ====
/-
  The pieces the body leaves in its two outputs: for each of the four query tiles, its rows of the output, and the line of
  the logarithms of its sums.
-/
module

public import proofs.«01_k».proof.Proof.FI.Trip

@[expose] public section

set_option maxRecDepth 16384

noncomputable section

namespace Cert.ForwardIdeal.Hand

open Cert.ForwardIdeal Cert.ForwardIdeal.Gen
open Idealize.ShloMosaic Idealize.ShloMosaic.TcCoe Idealize.ShloMosaic.ValueIdx

variable {F : FTy → Type} [FloatOps F]

theorem trips_first : ∀ i : grid0.Coords, (k0_t1_loop i).trips = (i 1).val := by decide +kernel
theorem trips_second : ∀ i : grid0.Coords, (k0_t2_loop i).trips = 0 := by decide +kernel

/-- The four pieces of the output. -/
def outPieces (t0 t1 t2 t3 : State F) : List (View.Piece (Elt F) S1x2048x128 .bf16) :=
  [⟨Rect.unit (s := S1x2048x128) ![0, 1536, 0] S1x512x128.size inb_S1x2048x128_S1x512x128_0_1536_0, outRows t3⟩,
    ⟨Rect.unit (s := S1x2048x128) ![0, 1024, 0] S1x512x128.size inb_S1x2048x128_S1x512x128_0_1024_0, outRows t2⟩,
    ⟨Rect.unit (s := S1x2048x128) ![0, 512, 0] S1x512x128.size inb_S1x2048x128_S1x512x128_0_512_0, outRows t1⟩,
    ⟨Rect.unit (s := S1x2048x128) ![0, 0, 0] S1x512x128.size inb_S1x2048x128_S1x512x128_0_0_0, outRows t0⟩]
/-- The four pieces of the logarithms. -/
def linePieces (t0 t1 t2 t3 : State F) : List (View.Piece (Elt F) S1x4x1x512 .f32) :=
  [⟨Rect.unit (s := S1x4x1x512) ![0, 3, 0, 0] S1x1x1x512.size inb_S1x4x1x512_S1x1x1x512_0_3_0_0, outLine t3⟩,
    ⟨Rect.unit (s := S1x4x1x512) ![0, 2, 0, 0] S1x1x1x512.size inb_S1x4x1x512_S1x1x1x512_0_2_0_0, outLine t2⟩,
    ⟨Rect.unit (s := S1x4x1x512) ![0, 1, 0, 0] S1x1x1x512.size inb_S1x4x1x512_S1x1x1x512_0_1_0_0, outLine t1⟩,
    ⟨Rect.unit (s := S1x4x1x512) ![0, 0, 0, 0] S1x1x1x512.size inb_S1x4x1x512_S1x1x1x512_0_0_0_0, outLine t0⟩]

section Tails
variable (i : grid0.Coords) (arg3 : Memref sig .tc .vmem S1x16384x128 .bf16) (arg4 : Memref sig .tc .vmem S1x16384x128 .bf16)
  (f3 : arg3.view.ty.Contents (Elt F)) (f4 : arg4.view.ty.Contents (Elt F))

/-- Key tile `u` of the four that the query tiles are themselves in. -/
abbrev keysTail (u : Fin 4) : Vec F S1x512x128 .bf16 :=
  arg3.view.readAt (Elt F) (Rect.unit (s := S1x16384x128) (k0_off3 i (BitVec.ofNat 32 u.val)) S1x512x128.size (k0_off3_inb i u)).toLoadRect f3
/-- Value tile `u` of the same four. -/
abbrev valuesTail (u : Fin 4) : Vec F S1x512x128 .bf16 :=
  arg4.view.readAt (Elt F) (Rect.unit (s := S1x16384x128) (k0_off3 i (BitVec.ofNat 32 u.val)) S1x512x128.size (k0_off3_inb i u)).toLoadRect f4
/-- A step with a tail tile before the queries. -/
def before (q : Vec F S1x512x128 .bf16) (u : Fin 4) (t : State F) : State F :=
  add (raw q (keysTail i arg3 f3 u)) (valuesTail i arg4 f4 u) t
/-- The step with the queries' own tile. -/
def own (q : Vec F S1x512x128 .bf16) (u : Fin 4) (t : State F) : State F :=
  add (masked (raw q (keysTail i arg3 f3 u))) (valuesTail i arg4 f4 u) t

theorem keysTail_eq (u : Fin 4) : keysTail i arg3 f3 u = rowsAt (arg3.view.read (Elt F) f3) (4 * (i 1).val + u.val) :=
  readAt_rows arg3 f3 (by rw [k0_off3_eq]; congr 2; omega) (k0_off3_inb i u)
theorem valuesTail_eq (u : Fin 4) : valuesTail i arg4 f4 u = rowsAt (arg4.view.read (Elt F) f4) (4 * (i 1).val + u.val) :=
  readAt_rows arg4 f4 (by rw [k0_off3_eq]; congr 2; omega) (k0_off3_inb i u)

theorem before_eq (q : Vec F S1x512x128 .bf16) (u : Fin 4) :
    before i arg3 arg4 f3 f4 q u (runFrom q (arg3.view.read (Elt F) f3) (arg4.view.read (Elt F) f4) 0 (4 * (i 1).val + u.val) start)
      = runFrom q (arg3.view.read (Elt F) f3) (arg4.view.read (Elt F) f4) 0 (4 * (i 1).val + u.val + 1) start := by
  unfold before
  rw [keysTail_eq, valuesTail_eq, runFrom, Nat.zero_add]
theorem own_eq (q : Vec F S1x512x128 .bf16) (u : Fin 4) :
    own i arg3 arg4 f3 f4 q u (runFrom q (arg3.view.read (Elt F) f3) (arg4.view.read (Elt F) f4) 0 (4 * (i 1).val + u.val) start)
      = finish q (arg3.view.read (Elt F) f3) (arg4.view.read (Elt F) f4) (4 * (i 1).val + u.val) := by
  unfold own finish
  rw [keysTail_eq, valuesTail_eq]
end Tails

variable (c : Dev nD) (i : grid0.Coords)
  (arg2 : Memref sig .tc .vmem S1x2048x128 .bf16) (harg2 : arg2.IsWhole) (arg3 : Memref sig .tc .vmem S1x16384x128 .bf16) (harg3 : arg3.IsWhole)
  (arg4 : Memref sig .tc .vmem S1x16384x128 .bf16) (harg4 : arg4.IsWhole) (arg5 : Memref sig .tc .vmem S1x2048x128 .bf16) (harg5 : arg5.IsWhole)
  (arg6 : Memref sig .tc .vmem S1x4x1x512 .f32) (harg6 : arg6.IsWhole)
  (x0 : Vec F S1x2048x128 .bf16) (x1 x2 : Vec F S1x16384x128 .bf16)

/-- Query tile `u` as the body reads it. -/
abbrev queries (off : Fin 3 → ℕ) (inb : ∀ a, off a + S1x512x128.size a ≤ S1x2048x128.size a) : Vec F S1x512x128 .bf16 :=
  arg2.view.readAt (Elt F) (Rect.unit (s := S1x2048x128) off S1x512x128.size inb).toLoadRect (harg2.unread x0)

/-- The states after both loops. -/
def looped : Flat F :=
  let q0 := queries arg2 harg2 x0 ![0, 0, 0] inb_S1x2048x128_S1x512x128_0_0_0
  let q1 := queries arg2 harg2 x0 ![0, 512, 0] inb_S1x2048x128_S1x512x128_0_512_0
  let q2 := queries arg2 harg2 x0 ![0, 1024, 0] inb_S1x2048x128_S1x512x128_0_1024_0
  let q3 := queries arg2 harg2 x0 ![0, 1536, 0] inb_S1x2048x128_S1x512x128_0_1536_0
  st_k0_t2 Variants.none c none i arg2 harg2 arg3 harg3 arg4 harg4 arg5 harg5 arg6 harg6 q0 q1 q2 q3
    (Scalar.addi 0#32 (Scalar.muli (Scalar.divsi (Scalar.subi (BitVec.ofNat 32 (i 1).val) 0#32) 1#32) 1#32))
    (harg3.unread x1) (harg4.unread x2)
    (st_k0_t1 Variants.none c none i arg2 harg2 arg3 harg3 arg4 harg4 arg5 harg5 arg6 harg6 q0 q1 q2 q3
      (harg3.unread x1) (harg4.unread x2) (join start start start start) (k0_t1_loop i).trips) (k0_t2_loop i).trips

theorem looped_eq : looped c i arg2 harg2 arg3 harg3 arg4 harg4 arg5 harg5 arg6 harg6 x0 x1 x2
    = join (runFrom (partAt x0 0) x1 x2 0 (4 * (i 1).val) start) (runFrom (partAt x0 1) x1 x2 0 (4 * (i 1).val) start)
        (runFrom (partAt x0 2) x1 x2 0 (4 * (i 1).val) start) (runFrom (partAt x0 3) x1 x2 0 (4 * (i 1).val) start) := by
  unfold looped queries
  simp only [trips_second, st_k0_t2_zero]
  rw [states_eq _ _ _ _ _ _ _ _ _ _ _ _ _ _ _ _ _ _ _ _ _ le_rfl, trips_first, harg3.read_unread, harg4.read_unread,
    readAt_part arg2 (j := 0) _ rfl, readAt_part arg2 (j := 1) _ rfl, readAt_part arg2 (j := 2) _ rfl,
    readAt_part arg2 (j := 3) _ rfl, harg2.read_unread]

end Cert.ForwardIdeal.Hand
end
-- ==== Proof.FI.Pieces.lean ====
/-
  The body's run leaves these pieces.
-/
module

public import proofs.«01_k».proof.Proof.FI.Body

@[expose] public section

set_option maxRecDepth 16384

noncomputable section

namespace Cert.ForwardIdeal.Hand

open Cert.ForwardIdeal Cert.ForwardIdeal.Gen
open Idealize.ShloMosaic Idealize.ShloMosaic.TcCoe Idealize.ShloMosaic.ValueIdx

variable {F : FTy → Type} [FloatOps F]

variable (c : Dev nD) (i : grid0.Coords)
  (arg2 : Memref sig .tc .vmem S1x2048x128 .bf16) (harg2 : arg2.IsWhole) (arg3 : Memref sig .tc .vmem S1x16384x128 .bf16) (harg3 : arg3.IsWhole)
  (arg4 : Memref sig .tc .vmem S1x16384x128 .bf16) (harg4 : arg4.IsWhole) (arg5 : Memref sig .tc .vmem S1x2048x128 .bf16) (harg5 : arg5.IsWhole)
  (arg6 : Memref sig .tc .vmem S1x4x1x512 .f32) (harg6 : arg6.IsWhole)
  (x0 : Vec F S1x2048x128 .bf16) (x1 x2 : Vec F S1x16384x128 .bf16)

/-- The state of query tile 0 at its end, as the body reads it. -/
def end0 (s : Flat F) : State F :=
  own i arg3 arg4 (harg3.unread x1) (harg4.unread x2) (queries arg2 harg2 x0 ![0, 0, 0] inb_S1x2048x128_S1x512x128_0_0_0) 0 (s.1, s.2.1)
/-- The state of query tile 1. -/
def end1 (s : Flat F) : State F :=
  let q := queries arg2 harg2 x0 ![0, 512, 0] inb_S1x2048x128_S1x512x128_0_512_0
  own i arg3 arg4 (harg3.unread x1) (harg4.unread x2) q 1 (before i arg3 arg4 (harg3.unread x1) (harg4.unread x2) q 0 (s.2.2.1, s.2.2.2.1))
/-- The state of query tile 2. -/
def end2 (s : Flat F) : State F :=
  let q := queries arg2 harg2 x0 ![0, 1024, 0] inb_S1x2048x128_S1x512x128_0_1024_0
  own i arg3 arg4 (harg3.unread x1) (harg4.unread x2) q 2 (before i arg3 arg4 (harg3.unread x1) (harg4.unread x2) q 1
    (before i arg3 arg4 (harg3.unread x1) (harg4.unread x2) q 0 (s.2.2.2.2.1, s.2.2.2.2.2.1)))
/-- The state of query tile 3. -/
def end3 (s : Flat F) : State F :=
  let q := queries arg2 harg2 x0 ![0, 1536, 0] inb_S1x2048x128_S1x512x128_0_1536_0
  own i arg3 arg4 (harg3.unread x1) (harg4.unread x2) q 3 (before i arg3 arg4 (harg3.unread x1) (harg4.unread x2) q 2
    (before i arg3 arg4 (harg3.unread x1) (harg4.unread x2) q 1
      (before i arg3 arg4 (harg3.unread x1) (harg4.unread x2) q 0 (s.2.2.2.2.2.2.1, s.2.2.2.2.2.2.2))))

set_option maxHeartbeats 4000000 in
theorem pieces_out (s : Flat F) (hs : s = looped c i arg2 harg2 arg3 harg3 arg4 harg4 arg5 harg5 arg6 harg6 x0 x1 x2) :
    (kernelRun0_A c i arg2 harg2 arg3 harg3 arg4 harg4 arg5 harg5 arg6 harg6 x0 x1 x2).1
      = outPieces (end0 i arg2 harg2 arg3 harg3 arg4 harg4 x0 x1 x2 s) (end1 i arg2 harg2 arg3 harg3 arg4 harg4 x0 x1 x2 s)
          (end2 i arg2 harg2 arg3 harg3 arg4 harg4 x0 x1 x2 s) (end3 i arg2 harg2 arg3 harg3 arg4 harg4 x0 x1 x2 s) := by
  subst hs
  unfold kernelRun0_A
  rfl

set_option maxHeartbeats 4000000 in
theorem pieces_line (s : Flat F) (hs : s = looped c i arg2 harg2 arg3 harg3 arg4 harg4 arg5 harg5 arg6 harg6 x0 x1 x2) :
    (kernelRun0_A c i arg2 harg2 arg3 harg3 arg4 harg4 arg5 harg5 arg6 harg6 x0 x1 x2).2.1
      = linePieces (end0 i arg2 harg2 arg3 harg3 arg4 harg4 x0 x1 x2 s) (end1 i arg2 harg2 arg3 harg3 arg4 harg4 x0 x1 x2 s)
          (end2 i arg2 harg2 arg3 harg3 arg4 harg4 x0 x1 x2 s) (end3 i arg2 harg2 arg3 harg3 arg4 harg4 x0 x1 x2 s) := by
  subst hs
  unfold kernelRun0_A
  rfl

end Cert.ForwardIdeal.Hand
end
-- ==== Proof.FI.Out.lean ====
/-
  What the body leaves in its two output blocks, row by row.
-/
module

public import proofs.«01_k».proof.Proof.FI.Pieces

@[expose] public section

set_option maxRecDepth 16384

noncomputable section

namespace Cert.ForwardIdeal.Hand

open Cert.ForwardIdeal Cert.ForwardIdeal.Gen
open Idealize.ShloMosaic Idealize.ShloMosaic.TcCoe Idealize.ShloMosaic.ValueIdx

variable {F : FTy → Type} [FloatOps F]

/-- The state of query tile `u` of block `p` at its end. -/
def ended (x0 : Vec F S1x2048x128 .bf16) (x1 x2 : Vec F S1x16384x128 .bf16) (p : ℕ) (u : Fin 4) : State F :=
  finish (partAt x0 u) x1 x2 (4 * p + u)

theorem read_out {sp : Space} {κ : Kind} (v : View sig κ sp S1x2048x128 .bf16) (f : v.ty.Contents (Elt F)) (s : Fin 4 → State F)
    (u : Fin 4) (r : Fin 512) (x : Fin 128) (w : Fin 2048) (hw : w.val = 512 * u.val + r.val) :
    v.read (Elt F) (v.writes (Elt F) f (outPieces (s 0) (s 1) (s 2) (s 3))) (ix3 0 w x) = outRows (s u) (ix3 0 r x) := by
  have hr := r.isLt
  unfold outPieces
  match u, hw with
  | 0, hw =>
    have hw' : w.val = r.val := hw.trans (Nat.zero_add _)
    refine (View.read_writes_cons_unit_of_not_mem (v := v) (f := f) _ _ _ (ix3 0 w x) rfl 1 (Or.inl (show w.val < 1536 by omega))).trans ?_
    refine (View.read_writes_cons_unit_of_not_mem (v := v) (f := f) _ _ _ (ix3 0 w x) rfl 1 (Or.inl (show w.val < 1024 by omega))).trans ?_
    refine (View.read_writes_cons_unit_of_not_mem (v := v) (f := f) _ _ _ (ix3 0 w x) rfl 1 (Or.inl (show w.val < 512 by omega))).trans ?_
    refine View.read_writes_cons_unit_of_mem (v := v) (f := f) _ _ _ (ix3 0 w x) (ix3 0 r x) rfl fun a => ?_
    match a with
    | ⟨0, _⟩ => rfl
    | ⟨1, _⟩ => exact hw
    | ⟨2, _⟩ => exact (Nat.zero_add _).symm
  | 1, hw =>
    have hw' : w.val = 512 + r.val := hw
    refine (View.read_writes_cons_unit_of_not_mem (v := v) (f := f) _ _ _ (ix3 0 w x) rfl 1 (Or.inl (show w.val < 1536 by omega))).trans ?_
    refine (View.read_writes_cons_unit_of_not_mem (v := v) (f := f) _ _ _ (ix3 0 w x) rfl 1 (Or.inl (show w.val < 1024 by omega))).trans ?_
    refine View.read_writes_cons_unit_of_mem (v := v) (f := f) _ _ _ (ix3 0 w x) (ix3 0 r x) rfl fun a => ?_
    match a with
    | ⟨0, _⟩ => rfl
    | ⟨1, _⟩ => exact hw
    | ⟨2, _⟩ => exact (Nat.zero_add _).symm
  | 2, hw =>
    have hw' : w.val = 1024 + r.val := hw
    refine (View.read_writes_cons_unit_of_not_mem (v := v) (f := f) _ _ _ (ix3 0 w x) rfl 1 (Or.inl (show w.val < 1536 by omega))).trans ?_
    refine View.read_writes_cons_unit_of_mem (v := v) (f := f) _ _ _ (ix3 0 w x) (ix3 0 r x) rfl fun a => ?_
    match a with
    | ⟨0, _⟩ => rfl
    | ⟨1, _⟩ => exact hw
    | ⟨2, _⟩ => exact (Nat.zero_add _).symm
  | 3, hw =>
    refine View.read_writes_cons_unit_of_mem (v := v) (f := f) _ _ _ (ix3 0 w x) (ix3 0 r x) rfl fun a => ?_
    match a with
    | ⟨0, _⟩ => rfl
    | ⟨1, _⟩ => exact hw
    | ⟨2, _⟩ => exact (Nat.zero_add _).symm

theorem read_line {sp : Space} {κ : Kind} (v : View sig κ sp S1x4x1x512 .f32) (f : v.ty.Contents (Elt F)) (s : Fin 4 → State F)
    (u : Fin 4) (r : Fin 512) :
    v.read (Elt F) (v.writes (Elt F) f (linePieces (s 0) (s 1) (s 2) (s 3))) (ix4 0 u 0 r) = outLine (s u) (ix4 0 0 0 r) := by
  unfold linePieces
  match u with
  | 0 =>
    refine (View.read_writes_cons_unit_of_not_mem (v := v) (f := f) _ _ _ (ix4 0 0 0 r) rfl 1 (Or.inl (show 0 < 3 by decide))).trans ?_
    refine (View.read_writes_cons_unit_of_not_mem (v := v) (f := f) _ _ _ (ix4 0 0 0 r) rfl 1 (Or.inl (show 0 < 2 by decide))).trans ?_
    refine (View.read_writes_cons_unit_of_not_mem (v := v) (f := f) _ _ _ (ix4 0 0 0 r) rfl 1 (Or.inl (show 0 < 1 by decide))).trans ?_
    refine View.read_writes_cons_unit_of_mem (v := v) (f := f) _ _ _ (ix4 0 0 0 r) (ix4 0 0 0 r) rfl fun a => ?_
    match a with
    | ⟨0, _⟩ => rfl
    | ⟨1, _⟩ => rfl
    | ⟨2, _⟩ => rfl
    | ⟨3, _⟩ => exact (Nat.zero_add _).symm
  | 1 =>
    refine (View.read_writes_cons_unit_of_not_mem (v := v) (f := f) _ _ _ (ix4 0 1 0 r) rfl 1 (Or.inl (show 1 < 3 by decide))).trans ?_
    refine (View.read_writes_cons_unit_of_not_mem (v := v) (f := f) _ _ _ (ix4 0 1 0 r) rfl 1 (Or.inl (show 1 < 2 by decide))).trans ?_
    refine View.read_writes_cons_unit_of_mem (v := v) (f := f) _ _ _ (ix4 0 1 0 r) (ix4 0 0 0 r) rfl fun a => ?_
    match a with
    | ⟨0, _⟩ => rfl
    | ⟨1, _⟩ => rfl
    | ⟨2, _⟩ => rfl
    | ⟨3, _⟩ => exact (Nat.zero_add _).symm
  | 2 =>
    refine (View.read_writes_cons_unit_of_not_mem (v := v) (f := f) _ _ _ (ix4 0 2 0 r) rfl 1 (Or.inl (show 2 < 3 by decide))).trans ?_
    refine View.read_writes_cons_unit_of_mem (v := v) (f := f) _ _ _ (ix4 0 2 0 r) (ix4 0 0 0 r) rfl fun a => ?_
    match a with
    | ⟨0, _⟩ => rfl
    | ⟨1, _⟩ => rfl
    | ⟨2, _⟩ => rfl
    | ⟨3, _⟩ => exact (Nat.zero_add _).symm
  | 3 =>
    refine View.read_writes_cons_unit_of_mem (v := v) (f := f) _ _ _ (ix4 0 3 0 r) (ix4 0 0 0 r) rfl fun a => ?_
    match a with
    | ⟨0, _⟩ => rfl
    | ⟨1, _⟩ => rfl
    | ⟨2, _⟩ => rfl
    | ⟨3, _⟩ => exact (Nat.zero_add _).symm

variable (c : Dev nD) (i : grid0.Coords)
  (arg2 : Memref sig .tc .vmem S1x2048x128 .bf16) (harg2 : arg2.IsWhole) (arg3 : Memref sig .tc .vmem S1x16384x128 .bf16) (harg3 : arg3.IsWhole)
  (arg4 : Memref sig .tc .vmem S1x16384x128 .bf16) (harg4 : arg4.IsWhole) (arg5 : Memref sig .tc .vmem S1x2048x128 .bf16) (harg5 : arg5.IsWhole)
  (arg6 : Memref sig .tc .vmem S1x4x1x512 .f32) (harg6 : arg6.IsWhole)
  (x0 : Vec F S1x2048x128 .bf16) (x1 x2 : Vec F S1x16384x128 .bf16)

theorem queries_eq {off : Fin 3 → ℕ} (j : ℕ) (hoff : off = ![0, 512 * j, 0]) (inb : ∀ a, off a + S1x512x128.size a ≤ S1x2048x128.size a) :
    queries arg2 harg2 x0 off inb = partAt x0 j := by
  unfold queries
  rw [readAt_part arg2 _ hoff, harg2.read_unread]

/-- The four states at their end. -/
theorem ends_eq (s : Flat F) (hs : s = looped c i arg2 harg2 arg3 harg3 arg4 harg4 arg5 harg5 arg6 harg6 x0 x1 x2) :
    end0 i arg2 harg2 arg3 harg3 arg4 harg4 x0 x1 x2 s = ended x0 x1 x2 (i 1).val 0
    ∧ end1 i arg2 harg2 arg3 harg3 arg4 harg4 x0 x1 x2 s = ended x0 x1 x2 (i 1).val 1
    ∧ end2 i arg2 harg2 arg3 harg3 arg4 harg4 x0 x1 x2 s = ended x0 x1 x2 (i 1).val 2
    ∧ end3 i arg2 harg2 arg3 harg3 arg4 harg4 x0 x1 x2 s = ended x0 x1 x2 (i 1).val 3 := by
  rw [looped_eq] at hs
  subst hs
  have ho : ∀ (q : Vec F S1x512x128 .bf16) (u : Fin 4),
      own i arg3 arg4 (harg3.unread x1) (harg4.unread x2) q u (runFrom q x1 x2 0 (4 * (i 1).val + u.val) start)
        = finish q x1 x2 (4 * (i 1).val + u.val) := fun q u => by
    have h := own_eq i arg3 arg4 (harg3.unread x1) (harg4.unread x2) q u
    rwa [harg3.read_unread, harg4.read_unread] at h
  have hb : ∀ (q : Vec F S1x512x128 .bf16) (u : Fin 4),
      before i arg3 arg4 (harg3.unread x1) (harg4.unread x2) q u (runFrom q x1 x2 0 (4 * (i 1).val + u.val) start)
        = runFrom q x1 x2 0 (4 * (i 1).val + u.val + 1) start := fun q u => by
    have h := before_eq i arg3 arg4 (harg3.unread x1) (harg4.unread x2) q u
    rwa [harg3.read_unread, harg4.read_unread] at h
  refine ⟨?_, ?_, ?_, ?_⟩
  · unfold end0
    rw [queries_eq _ _ _ 0 rfl]
    exact ho _ 0
  · unfold end1
    rw [queries_eq _ _ _ 1 rfl]
    exact (congrArg (own i arg3 arg4 (harg3.unread x1) (harg4.unread x2) (partAt x0 1) 1) (hb _ 0)).trans (ho _ 1)
  · unfold end2
    rw [queries_eq _ _ _ 2 rfl]
    exact (congrArg (own i arg3 arg4 (harg3.unread x1) (harg4.unread x2) (partAt x0 2) 2)
      ((congrArg (before i arg3 arg4 (harg3.unread x1) (harg4.unread x2) (partAt x0 2) 1) (hb _ 0)).trans (hb _ 1))).trans (ho _ 2)
  · unfold end3
    rw [queries_eq _ _ _ 3 rfl]
    exact (congrArg (own i arg3 arg4 (harg3.unread x1) (harg4.unread x2) (partAt x0 3) 3)
      ((congrArg (before i arg3 arg4 (harg3.unread x1) (harg4.unread x2) (partAt x0 3) 2)
        ((congrArg (before i arg3 arg4 (harg3.unread x1) (harg4.unread x2) (partAt x0 3) 1) (hb _ 0)).trans (hb _ 1))).trans (hb _ 2))).trans (ho _ 3)

/-- A row of the output block. -/
theorem out_at (u : Fin 4) (r : Fin 512) (x : Fin 128) (w : Fin 2048) (hw : w.val = 512 * u.val + r.val) :
    out0_A_3 c i arg2 harg2 arg3 harg3 arg4 harg4 arg5 harg5 arg6 harg6 x0 x1 x2 (ix3 0 w x)
      = outRows (ended x0 x1 x2 (i 1).val u) (ix3 0 r x) := by
  obtain ⟨h0, h1, h2, h3⟩ := ends_eq c i arg2 harg2 arg3 harg3 arg4 harg4 arg5 harg5 arg6 harg6 x0 x1 x2 _ rfl
  unfold out0_A_3
  rw [pieces_out c i arg2 harg2 arg3 harg3 arg4 harg4 arg5 harg5 arg6 harg6 x0 x1 x2 _ rfl, h0, h1, h2, h3]
  exact read_out VO0_3 _ (ended x0 x1 x2 (i 1).val) u r x w hw

/-- A line of the logarithms' block. -/
theorem line_at (u : Fin 4) (r : Fin 512) :
    out0_A_4 c i arg2 harg2 arg3 harg3 arg4 harg4 arg5 harg5 arg6 harg6 x0 x1 x2 (ix4 0 u 0 r)
      = outLine (ended x0 x1 x2 (i 1).val u) (ix4 0 0 0 r) := by
  obtain ⟨h0, h1, h2, h3⟩ := ends_eq c i arg2 harg2 arg3 harg3 arg4 harg4 arg5 harg5 arg6 harg6 x0 x1 x2 _ rfl
  unfold out0_A_4
  rw [pieces_line c i arg2 harg2 arg3 harg3 arg4 harg4 arg5 harg5 arg6 harg6 x0 x1 x2 _ rfl, h0, h1, h2, h3]
  exact read_line VO0_4 _ (ended x0 x1 x2 (i 1).val) u r

end Cert.ForwardIdeal.Hand
end
-- ==== Proof.FI.Apply.lean ====
/-
  The body's operations over the real numbers, read at an index.
-/
module

public import proofs.«01_k».proof.Proof.FI.Tile
public import proofs.«01_k».proof.Proof.V.Sums
public import Idealize.ShloMosaic.PureOps.Ideal
public import Idealize.ShloMosaic.PureOps.Ideal.Laws
public import Idealize.ShloMosaic.Lib.Pipeline.Value
public import Idealize.ShloMosaic.Lib.ValueIdx

@[expose] public section

noncomputable section

namespace Cert.ForwardIdeal.Hand

open Cert.ForwardIdeal Cert.ForwardIdeal.Gen
open Idealize.ShloMosaic Idealize.ShloMosaic.TcCoe Idealize.ShloMosaic.ValueIdx

theorem rows_apply (x : Vec Ideal S1x512x128 .bf16) (r : Fin 512) (y : Fin 128) : rows x (ix2 r y) = x (ix3 0 r y) := by
  unfold rows
  refine shapeCast_apply x _ (ix2 r y) (ix3 0 r y) ?_
  rw [Shape.rowMajor_val_three, Shape.rowMajor_val_two]
  show (0 * 512 + r.val) * 128 + y.val = r.val * 128 + y.val
  omega

/-- The product of a query row with a key row. -/
theorem raw_apply (q k : Vec Ideal S1x512x128 .bf16) (r s : Fin 512) :
    raw q k (ix2 r s) = ∑ y : Fin 128, q (ix3 0 r y) * k (ix3 0 s y) := by
  unfold raw
  simp only [Ideal.matmul_constant_zero_apply]
  rw [← Equiv.sum_comp (contrEquiv1 dot_S512x128_S512x128_S512x512_1_1_0_0_n_n 128 rfl rfl).symm]
  refine Finset.sum_congr rfl fun j _ => ?_
  have hk := contrEquiv1_symm_val dot_S512x128_S512x128_S512x512_1_1_0_0_n_n 128 rfl rfl j
  have el : dot_S512x128_S512x128_S512x512_1_1_0_0_n_n.lhsIdx (ix2 r s) ((contrEquiv1 dot_S512x128_S512x128_S512x512_1_1_0_0_n_n 128 rfl rfl).symm j) = ix2 r j :=
    funext fun a => Fin.ext (match a with
      | ⟨0, _⟩ => rfl
      | ⟨1, _⟩ => hk)
  have er : dot_S512x128_S512x128_S512x512_1_1_0_0_n_n.rhsIdx (ix2 r s) ((contrEquiv1 dot_S512x128_S512x128_S512x512_1_1_0_0_n_n 128 rfl rfl).symm j) = ix2 s j :=
    funext fun a => Fin.ext (match a with
      | ⟨0, _⟩ => rfl
      | ⟨1, _⟩ => hk)
  rw [el, er, rows_apply, rows_apply]

/-- The mask keeps the keys at or before the query. -/
theorem masked_apply (p : FVec Ideal S512x512 .f32) (r s : Fin 512) :
    masked p (ix2 r s) = if s.val ≤ r.val then p (ix2 r s) else Ideal.ofBits .f32 0xFF800000#32 := by
  unfold masked
  rw [select_apply]
  have hc : cmpi .sle (iota .tc S512x512 32 [1] iota_S512x512_d1_w32) (iota .tc S512x512 32 [0] iota_S512x512_d0_w32) (ix2 r s)
      = if s.val ≤ r.val then 1#1 else 0#1 := by
    show IntOp.cmpi .sle _ _ = _
    rw [iota_single_apply, iota_single_apply]
    have hr := r.isLt
    have hs := s.isLt
    show IntOp.cmpi .sle (BitVec.ofNat 32 s.val) (BitVec.ofNat 32 r.val) = _
    unfold IntOp.cmpi
    have : (BitVec.ofNat 32 s.val).sle (BitVec.ofNat 32 r.val) = decide (s.val ≤ r.val) := by
      rw [BitVec.sle_eq_decide, BitVec.toInt_eq_toNat_of_lt, BitVec.toInt_eq_toNat_of_lt] <;> simp only [BitVec.toNat_ofNat]
      · simp only [decide_eq_decide]; omega
      · omega
      · omega
    simp only [this]
    by_cases h : s.val ≤ r.val <;> simp [h]
  rw [hc]
  by_cases h : s.val ≤ r.val
  · rw [if_pos h, if_pos h]; rfl
  · rw [if_neg h, if_neg h]; rfl

/-- A number per query, laid across the keys. -/
theorem across_apply (m : FVec Ideal S512x1 .f32) (r s : Fin 512) :
    broadcastTo S512x512 m broadcasts_S512x1_S512x512 (ix2 r s) = m (ix2 r 0) :=
  broadcastTo_apply _ _ (ix2 r s) (ix2 r 0) fun a => by
    match a with
    | ⟨0, _⟩ => rfl
    | ⟨1, _⟩ => rfl
theorem lanes_apply (m : FVec Ideal S512x1 .f32) (r : Fin 512) (x : Fin 128) :
    broadcastTo S512x128 m broadcasts_S512x1_S512x128 (ix2 r x) = m (ix2 r 0) :=
  broadcastTo_apply _ _ (ix2 r x) (ix2 r 0) fun a => by
    match a with
    | ⟨0, _⟩ => rfl
    | ⟨1, _⟩ => rfl

theorem exp2_at {s : Shape} {φ : FTy} (x : FVec Ideal s φ) (i : s.Idx) : exp2 x i = Ideal.exp2 (x i) := rfl
theorem log_at {s : Shape} {φ : FTy} (x : FVec Ideal s φ) (i : s.Idx) : log x i = Ideal.log (x i) := rfl
theorem greater_at {s : Shape} {φ : FTy} (x y : FVec Ideal s φ) (i : s.Idx) : maximumf x y i = max (x i) (y i) := rfl

theorem lift_row (r k : Fin 512) : reduces_S512x512_S512.lift (ix1 r) k = ix2 r k :=
  funext fun a => Fin.ext (match a with
    | ⟨0, _⟩ => rfl
    | ⟨1, _⟩ => rfl)

/-- The maximum of a query. -/
theorem top_apply (m : FVec Ideal S512x1 .f32) (s : FVec Ideal S512x512 .f32) (r : Fin 512) :
    top m s (ix2 r 0) = max (m (ix2 r 0)) ((Finset.univ : Finset (Fin 512)).fold max (Ideal.ofBits .f32 0xFF800000#32) fun k => s (ix2 r k)) := by
  unfold top
  rw [greater_at]
  refine congrArg (max (m (ix2 r 0))) ?_
  rw [shapeCast_apply _ _ (ix2 r 0) (ix1 r) ?_]
  · refine (Ideal.multiReduction_maximumf_single (a := 1) s 0xFF800000#32 reduces_S512x512_S512 (.inl rfl) rfl (ix1 r)).trans ?_
    exact congrArg (fun f => Finset.univ.fold max (Ideal.ofBits .f32 0xFF800000#32) f) (funext fun k => congrArg s (lift_row r k))
  · rw [Shape.rowMajor_val_one, Shape.rowMajor_val_two]
    show r.val = r.val * 1 + 0
    omega

theorem weights_apply (m : FVec Ideal S512x1 .f32) (s : FVec Ideal S512x512 .f32) (r k : Fin 512) :
    weights m s (ix2 r k) = Ideal.exp2 (s (ix2 r k) - m (ix2 r 0)) := by
  unfold weights
  rw [exp2_at, truncf_apply, subf_apply, across_apply]

theorem add_fst (s : FVec Ideal S512x512 .f32) (v : Vec Ideal S1x512x128 .bf16) (t : State Ideal) : (add s v t).1 = top t.1 s := rfl

theorem add_snd (s : FVec Ideal S512x512 .f32) (v : Vec Ideal S1x512x128 .bf16) (t : State Ideal) (r : Fin 512) (x : Fin 128) :
    (add s v t).2 (ix2 r x) = Ideal.exp2 (t.1 (ix2 r 0) - top t.1 s (ix2 r 0)) * t.2 (ix2 r x)
      + ∑ k : Fin 512, weights (top t.1 s) s (ix2 r k) * v (ix3 0 k x) := by
  unfold add
  dsimp only
  rw [addf_apply, mulf_apply, lanes_apply, exp2_at, subf_apply]
  simp only [Ideal.matmul_constant_zero_apply]
  rw [← Equiv.sum_comp (contrEquiv1 dot_S512x512_S512x128_S512x128_1_0_0_1_n_n 512 rfl rfl).symm]
  refine congrArg₂ (· + ·) rfl (Finset.sum_congr rfl fun k _ => ?_)
  have hk := contrEquiv1_symm_val dot_S512x512_S512x128_S512x128_1_0_0_1_n_n 512 rfl rfl k
  have el : dot_S512x512_S512x128_S512x128_1_0_0_1_n_n.lhsIdx (ix2 r x) ((contrEquiv1 dot_S512x512_S512x128_S512x128_1_0_0_1_n_n 512 rfl rfl).symm k) = ix2 r k :=
    funext fun a => Fin.ext (match a with
      | ⟨0, _⟩ => rfl
      | ⟨1, _⟩ => hk)
  have er : dot_S512x512_S512x128_S512x128_1_0_0_1_n_n.rhsIdx (ix2 r x) ((contrEquiv1 dot_S512x512_S512x128_S512x128_1_0_0_1_n_n 512 rfl rfl).symm k) = ix2 k x :=
    funext fun a => Fin.ext (match a with
      | ⟨0, _⟩ => hk
      | ⟨1, _⟩ => rfl)
  rw [el, er, rows_apply]

theorem norm_apply (a : FVec Ideal S512x128 .f32) (r : Fin 512) : norm a (ix2 r 0) = a (ix2 r 64) := by
  unfold norm
  refine extractStridedSlice_apply _ _ _ (ix2 r 0) (ix2 r 64) fun b => ?_
  match b with
  | ⟨0, _⟩ => exact (Nat.zero_add _).symm
  | ⟨1, _⟩ => rfl

theorem outRows_apply (t : State Ideal) (r : Fin 512) (x : Fin 128) :
    outRows t (ix3 0 r x) = Ideal.div (t.2 (ix2 r x)) (t.2 (ix2 r 64)) := by
  unfold outRows
  rw [shapeCast_apply _ _ (ix3 0 r x) (ix2 r x) ?_]
  · rw [truncf_apply, divf_apply, lanes_apply, norm_apply]
  · rw [Shape.rowMajor_val_three, Shape.rowMajor_val_two]
    show r.val * 128 + x.val = (0 * 512 + r.val) * 128 + x.val
    omega

theorem logs_apply (t : State Ideal) (r : Fin 512) :
    logs t (ix2 r 0) = t.1 (ix2 r 0) + Ideal.div (Ideal.log (t.2 (ix2 r 64))) (Ideal.log (Ideal.ofBits .f32 0x40000000#32)) := by
  unfold logs
  rw [addf_apply, divf_apply, log_at, norm_apply]
  rfl

theorem outLine_apply (t : State Ideal) (r : Fin 512) : outLine t (ix4 0 0 0 r) = logs t (ix2 r 0) := by
  unfold outLine
  rw [shapeCast_apply _ _ (ix4 0 0 0 r) (ix2 0 r) ?_]
  · rw [extractStridedSlice_apply _ _ _ (ix2 0 r) (ix2 0 r) ?_]
    · rw [transpose_apply _ _ _ (ix2 0 r) (ix2 r 0) ?_]
      · rw [lanes_apply, shapeCast_apply _ _ (ix2 r 0) (ix2 r 0) rfl]
      · intro b
        match b with
        | ⟨0, _⟩ => rfl
        | ⟨1, _⟩ => rfl
    · intro b
      match b with
      | ⟨0, _⟩ => rfl
      | ⟨1, _⟩ => exact (Nat.zero_add _).symm
  · rw [Shape.rowMajor_val_four, Shape.rowMajor_val_two]
    show 0 * 512 + r.val = ((0 * 1 + 0) * 1 + 0) * 512 + r.val
    omega

end Cert.ForwardIdeal.Hand
end
-- ==== Proof.FI.Value.lean ====
/-
  What a tile of queries holds at its end, over the real numbers: a number per query, and the value rows of the keys at or
  before the query, each weighted by two to the (score less that number).
-/
module

public import proofs.«01_k».proof.Proof.FI.Apply
public import proofs.«01_k».proof.Proof.V.Real
public import proofs.«01_k».proof.Proof.V.Finite

@[expose] public section

noncomputable section

namespace Cert.ForwardIdeal.Hand

open Cert.ForwardIdeal Cert.ForwardIdeal.Gen Cert.Attn Finset
open Idealize.ShloMosaic Idealize.ShloMosaic.TcCoe Idealize.ShloMosaic.ValueIdx

/-- The weight of key `j` for query `i` at the number `μ`; none for a later key. -/
def weight (sc : ℕ → ℝ) (i : ℕ) (μ : ℝ) (j : ℕ) : ℝ := if j ≤ i then (2 : ℝ) ^ (sc j - μ) else 0

theorem weight_shift (sc : ℕ → ℝ) (i : ℕ) (μ ν : ℝ) (j : ℕ) : (2 : ℝ) ^ (μ - ν) * weight sc i μ j = weight sc i ν j := by
  unfold weight
  split
  · rw [← Real.rpow_add (by norm_num)]
    congr 1
    ring
  · rw [mul_zero]

/-- Row `r` of the state after the keys below `a`: nothing yet, or a number and the weighted sums. -/
def Holds (sc : ℕ → ℝ) (w : ℕ → ℕ → ℝ) (i a : ℕ) (r : Fin 512) (t : State Ideal) : Prop :=
  (a = 0 ∧ t.1 (ix2 r 0) = ⊥ ∧ ∀ x : Fin 128, t.2 (ix2 r x) = 0)
  ∨ ∃ μ : ℝ, t.1 (ix2 r 0) = (μ : EReal) ∧ ∀ x : Fin 128, t.2 (ix2 r x) = ((∑ j ∈ range a, weight sc i μ j * w j x : ℝ) : EReal)

variable {sc : ℕ → ℝ} {w : ℕ → ℕ → ℝ} {i a : ℕ} {r : Fin 512} {t : State Ideal}

theorem Holds.start : Holds sc w i 0 r Hand.start := by
  refine Or.inl ⟨rfl, ?_, fun x => ?_⟩
  · exact bits_bot
  · exact Ideal.ofBits_zero_f32

theorem Holds.add (h : Holds sc w i a r t) (ha : a ≤ i) {s : FVec Ideal S512x512 .f32} {v : Vec Ideal S1x512x128 .bf16}
    (hs : ∀ k : Fin 512, s (ix2 r k) = if a + k.val ≤ i then ((sc (a + k) : ℝ) : EReal) else ⊥)
    (hv : ∀ (k : Fin 512) (x : Fin 128), v (ix3 0 k x) = ((w (a + k) x : ℝ) : EReal)) :
    Holds sc w i (a + 512) r (Hand.add s v t) := by
  -- the maximum is a real number
  have hm : t.1 (ix2 r 0) ≠ ⊤ := by
    rcases h with ⟨_, h, _⟩ | ⟨μ, h, _⟩ <;> rw [h]
    · exact bot_ne_top
    · exact EReal.coe_ne_top μ
  have h0 : s (ix2 r 0) = ((sc a : ℝ) : EReal) := by
    rw [hs, if_pos (show a + (0 : Fin 512).val ≤ i by exact ha)]
    rfl
  have htop : top t.1 s (ix2 r 0) ≠ ⊤ := by
    rw [top_apply, ← lt_top_iff_ne_top, max_lt_iff, fold_max_lt, bits_bot]
    refine ⟨lt_top_iff_ne_top.mpr hm, bot_lt_top, fun k _ => lt_top_iff_ne_top.mpr ?_⟩
    rw [hs]
    split
    · exact EReal.coe_ne_top _
    · exact bot_ne_top
  have hbot : top t.1 s (ix2 r 0) ≠ ⊥ := by
    rw [top_apply, ← bot_lt_iff_ne_bot]
    refine lt_of_lt_of_le (EReal.bot_lt_coe (sc a)) (le_trans ?_ (le_max_right _ _))
    exact (le_fold_max _).mpr (Or.inr ⟨0, mem_univ _, h0.ge⟩)
  obtain ⟨ν, hν⟩ : ∃ ν : ℝ, top t.1 s (ix2 r 0) = (ν : EReal) := ⟨_, (EReal.coe_toReal htop hbot).symm⟩
  refine Or.inr ⟨ν, hν, fun x => ?_⟩
  rw [add_snd, hν]
  -- the tile's part
  have hsum : ∑ k : Fin 512, weights (top t.1 s) s (ix2 r k) * v (ix3 0 k x)
      = ((∑ k ∈ range 512, weight sc i ν (a + k) * w (a + k) x : ℝ) : EReal) := by
    rw [← coe_sum_fin 512 fun k => weight sc i ν (a + k) * w (a + k) x]
    refine sum_congr rfl fun k _ => ?_
    rw [weights_apply, hν, hs, hv, EReal.coe_mul]
    refine congrArg (· * _) ?_
    unfold weight
    split
    · rw [← EReal.coe_sub, Ideal.exp2_coe]; rfl
    · rw [EReal.bot_sub, Ideal.exp2_bot, EReal.coe_zero]
  rw [hsum, sum_range_add, EReal.coe_add]
  refine congrArg (· + _) ?_
  rcases h with ⟨rfl, h1, h2⟩ | ⟨μ, h1, h2⟩
  · rw [h2, mul_zero, range_zero, sum_empty, EReal.coe_zero]
  · rw [h1, h2, ← EReal.coe_sub, Ideal.exp2_coe, ← EReal.coe_mul, mul_sum]
    refine congrArg _ (sum_congr rfl fun j _ => ?_)
    rw [← weight_shift sc i μ ν j, ← mul_assoc]
    rfl

variable {R : Rows} {q : Vec Ideal S1x512x128 .bf16} {K V : Vec Ideal S1x16384x128 .bf16} {n : ℕ}

/-- The score of key `j` for query `i`. -/
def scoreOf (R : Rows) (i j : ℕ) : ℝ := ∑ x ∈ range 128, R.k j x * R.q i x

theorem rowsAt_at {f : ℕ → ℕ → ℝ} (hK : ∀ (j : Fin 16384) (x : Fin 128), K (ix3 0 j x) = ((f j x : ℝ) : EReal)) {j : ℕ} (hj : j < 32)
    (k : Fin 512) (x : Fin 128) : rowsAt K j (ix3 0 k x) = ((f (512 * j + k) x : ℝ) : EReal) := by
  have h := k.isLt
  refine (hK ⟨(512 * j + k.val) % 16384, Nat.mod_lt _ (by decide)⟩ x).trans ?_
  simp only [Nat.mod_eq_of_lt (show 512 * j + k.val < 16384 by omega)]

theorem raw_at (hq : ∀ (s : Fin 512) (x : Fin 128), q (ix3 0 s x) = ((R.q (512 * n + s) x : ℝ) : EReal))
    (hK : ∀ (j : Fin 16384) (x : Fin 128), K (ix3 0 j x) = ((R.k j x : ℝ) : EReal)) {j : ℕ} (hj : j < 32) (r k : Fin 512) :
    raw q (rowsAt K j) (ix2 r k) = ((scoreOf R (512 * n + r) (512 * j + k) : ℝ) : EReal) := by
  unfold scoreOf
  rw [raw_apply, ← coe_sum_fin 128 fun x => R.k (512 * j + k) x * R.q (512 * n + r) x]
  refine sum_congr rfl fun x _ => ?_
  rw [hq, rowsAt_at hK hj, ← EReal.coe_mul, mul_comm]

variable (hn : n < 32) (hq : ∀ (s : Fin 512) (x : Fin 128), q (ix3 0 s x) = ((R.q (512 * n + s) x : ℝ) : EReal))
  (hK : ∀ (j : Fin 16384) (x : Fin 128), K (ix3 0 j x) = ((R.k j x : ℝ) : EReal))
  (hV : ∀ (j : Fin 16384) (x : Fin 128), V (ix3 0 j x) = ((R.v j x : ℝ) : EReal))
include hn hq hK hV

/-- After the key tiles below `j`. -/
theorem run_holds (r : Fin 512) (j : ℕ) (hj : j ≤ n) :
    Holds (scoreOf R (512 * n + r)) R.v (512 * n + r) (512 * j) r (runFrom q K V 0 j start) := by
  induction j with
  | zero => exact Holds.start
  | succ j ih =>
    rw [runFrom, Nat.zero_add]
    refine Holds.add (ih (Nat.le_of_succ_le hj)) (by omega) (fun k => ?_) (rowsAt_at hV (by omega))
    have hk := k.isLt
    rw [raw_at hq hK (by omega), if_pos (by omega)]

/-- At the end. -/
theorem finish_holds (r : Fin 512) :
    Holds (scoreOf R (512 * n + r)) R.v (512 * n + r) (512 * n + 512) r (finish q K V n) := by
  unfold finish
  refine Holds.add (run_holds hn hq hK hV r n le_rfl) (by omega) (fun k => ?_) (rowsAt_at hV hn)
  rw [masked_apply, raw_at hq hK hn, bits_bot]
  by_cases h : k.val ≤ r.val
  · rw [if_pos h, if_pos (by omega)]
  · rw [if_neg h, if_neg (by omega)]

/-- The number and the sums over all the keys. -/
theorem finish_at (r : Fin 512) : ∃ μ : ℝ, (finish q K V n).1 (ix2 r 0) = (μ : EReal) ∧ ∀ x : Fin 128,
    (finish q K V n).2 (ix2 r x)
      = ((∑ j ∈ range 16384, weight (scoreOf R (512 * n + r)) (512 * n + r) μ j * R.v j x : ℝ) : EReal) := by
  rcases finish_holds hn hq hK hV r with ⟨h, _⟩ | ⟨μ, h1, h2⟩
  · omega
  · refine ⟨μ, h1, fun x => (h2 x).trans ?_⟩
    have hr := r.isLt
    refine congrArg Real.toEReal ?_
    refine sum_subset (fun j hj => ?_) fun j _ hj => ?_
    · rw [mem_range] at hj ⊢; omega
    · rw [mem_range] at hj
      rw [weight, if_neg (by omega), zero_mul]

end Cert.ForwardIdeal.Hand
end
-- ==== Proof.FI.Real.lean ====
/-
  What a tile of queries holds at its end, against the attention the reference writes: the quotients of the sums are the output
  rows, and the number and the logarithm of the sum make the logarithm of the reference's sum of exponentials.
-/
module

public import proofs.«01_k».proof.Proof.FI.Value
public import proofs.«01_k».proof.Proof.V.Entry

@[expose] public section

noncomputable section

namespace Cert.Attn.Data

open Finset

variable (D : Data)

/-- The output rows over all 128 lanes. -/
def lanes (h i x : ℕ) : ℝ := (∑ j ∈ range 16384, D.e h i j * (D.rows h).v j x) / D.l h i

/-- The first 64 lanes are the attention's output. -/
theorem lanes_out (h i x : ℕ) (hx : x < 64) : D.lanes h i x = D.out h i x := by
  unfold lanes out P
  rw [sum_div]
  refine sum_congr rfl fun j _ => ?_
  simp only [rows, if_pos hx]
  ring

end Cert.Attn.Data

namespace Cert.ForwardIdeal.Hand

open Cert.ForwardIdeal Cert.ForwardIdeal.Gen Cert.Attn Finset
open Idealize.ShloMosaic hiding ix2 ix3 ix4 eq_ix3 eq_ix4
open Idealize.ShloMosaic.TcCoe Idealize.ShloMosaic.ValueIdx

variable {D : Data} {h : ℕ}

/-- A weight is the reference's exponential, times what the number makes of the reference's shift. -/
theorem weight_eq (i : ℕ) (μ : ℝ) (j : ℕ) :
    weight (scoreOf (D.rows h) i) i μ j = Real.exp (D.M h i - μ * Real.log 2) * D.e h i j := by
  unfold weight Data.e
  split
  · rw [scoreOf, D.rows_score, Real.rpow_def_of_pos (by norm_num), ← Real.exp_add]
    refine congrArg Real.exp ?_
    have := Data.log_two_ne
    field_simp
    ring
  · rw [mul_zero]

theorem sum_weight (i : ℕ) (μ : ℝ) (f : ℕ → ℝ) : ∑ j ∈ range 16384, weight (scoreOf (D.rows h) i) i μ j * f j
    = Real.exp (D.M h i - μ * Real.log 2) * ∑ j ∈ range 16384, D.e h i j * f j := by
  rw [mul_sum]
  exact sum_congr rfl fun j _ => by rw [weight_eq, mul_assoc]

/-- The lane of ones sums the exponentials. -/
theorem sum_ones (i : ℕ) : ∑ j ∈ range 16384, D.e h i j * (D.rows h).v j 64 = D.l h i :=
  sum_congr rfl fun j _ => by
    show D.e h i j * (if 64 < 64 then D.v h j 64 else if 64 < 65 then 1 else 0) = _
    rw [if_neg (by decide), if_pos (by decide), mul_one]

variable {n : ℕ} {q : Vec Ideal S1x512x128 .bf16} {K V : Vec Ideal S1x16384x128 .bf16}
  (hn : n < 32) (hq : ∀ (s : Fin 512) (x : Fin 128), q (ix3 0 s x) = (((D.rows h).q (512 * n + s) x : ℝ) : EReal))
  (hK : ∀ (j : Fin 16384) (x : Fin 128), K (ix3 0 j x) = (((D.rows h).k j x : ℝ) : EReal))
  (hV : ∀ (j : Fin 16384) (x : Fin 128), V (ix3 0 j x) = (((D.rows h).v j x : ℝ) : EReal))
include hn hq hK hV

/-- The output rows. -/
theorem finish_rows (r : Fin 512) (x : Fin 128) :
    outRows (finish q K V n) (ix3 0 r x) = ((D.lanes h (512 * n + r) x : ℝ) : EReal) := by
  obtain ⟨μ, -, h2⟩ := finish_at hn hq hK hV r
  have e64 := h2 64
  rw [sum_weight, show ((64 : Fin 128) : ℕ) = 64 from rfl, sum_ones] at e64
  have hx := h2 x
  rw [sum_weight] at hx
  have hC := (Real.exp_pos (D.M h (512 * n + r) - μ * Real.log 2)).ne'
  rw [outRows_apply, hx, e64, div_real _ (mul_ne_zero hC (D.l_pos h _).ne'), mul_div_mul_left _ _ hC]
  rfl

/-- The line of logarithms. -/
theorem finish_logs (r : Fin 512) :
    outLine (finish q K V n) (ix4 0 0 0 r) = (((D.rows h).ls (512 * n + r) : ℝ) : EReal) := by
  obtain ⟨μ, h1, h2⟩ := finish_at hn hq hK hV r
  have e64 := h2 64
  rw [sum_weight, show ((64 : Fin 128) : ℕ) = 64 from rfl, sum_ones] at e64
  have hC := Real.exp_pos (D.M h (512 * n + r) - μ * Real.log 2)
  have hl := D.l_pos h (512 * n + r)
  rw [outLine_apply, logs_apply, h1, e64, Cert.KernelIdeal.Hand.log_real (mul_pos hC hl),
    show Ideal.log (Ideal.ofBits .f32 0x40000000#32) = _ from Cert.KernelIdeal.Hand.log_bits, div_real _ Data.log_two_ne,
    ← EReal.coe_add, Real.log_mul hC.ne' hl.ne', Real.log_exp]
  refine congrArg Real.toEReal ?_
  show _ = (D.M h (512 * n + r) + Real.log (D.l h (512 * n + r))) / Real.log 2
  have := Data.log_two_ne
  field_simp
  ring

end Cert.ForwardIdeal.Hand
end
-- ==== Proof.FI.Grid.lean ====
/-
  What the forward call leaves over the real numbers: point `t` works on head `t / 8` and on the 2048 queries from
  `2048 (t % 8)` on.
-/
module

public import proofs.«01_k».proof.Proof.FI.Out
public import proofs.«01_k».proof.Proof.FI.Real
public import Idealize.ShloMosaic.Lib.Pipeline.ValueKit

@[expose] public section

set_option maxRecDepth 16384

noncomputable section

namespace Cert.ForwardIdeal.Hand

open Cert.ForwardIdeal Cert.ForwardIdeal.Gen Cert.Attn
open Cert.KernelIdeal.Hand (at_zero at_head at_block)
open Idealize.ShloMosaic hiding ix2 ix3 ix4 eq_ix3 eq_ix4
open Idealize.ShloMosaic.TcCoe Idealize.ShloMosaic.ValueIdx
open Idealize.ShloMosaic.Pipeline (Dat)

variable (m : (ℓ : Loc nD τ sig) → Buf (Elt Ideal) ℓ)

/-- Where every window's block begins. -/
theorem idx_at : ∀ t : Fin cfg0.N,
    win0_0.index t = ![t.val / 8, t.val % 8, 0] ∧ win0_1.index t = ![t.val / 8, 0, 0] ∧ win0_2.index t = ![t.val / 8, 0, 0]
      ∧ win0_3.index t = ![t.val / 8, t.val % 8, 0] ∧ win0_4.index t = ![t.val / 8, t.val % 8, 0, 0]
      ∧ (grid0.coords t 1).val = t.val % 8 :=
  (by decide +kernel : ∀ t : Fin grid0.N, _)

/-- The head of a grid point. -/
def headNo (t : Fin cfg0.N) : Fin 8 := ⟨t.val / 8, by have h : t.val < 64 := t.isLt; omega⟩
theorem headNo_val (t : Fin cfg0.N) : (headNo t).val = t.val / 8 := rfl

theorem iblk_0 (c : Dev nD) (t : Fin cfg0.N) (r : Fin 2048) (x : Fin 128) : iblk m c 0 t (ix3 0 r x)
    = V m c main_v8 (ix3 (headNo t) ⟨2048 * (t.val % 8) + r.val, by omega⟩ x) := by
  have e := (idx_at t).1
  blk_simp [iblk]
  refine congrArg _ (funext fun d => Fin.ext ?_)
  match d with
  | ⟨0, _⟩ => refine (Pipeline.Window.rect_emb_val win0_0 t _ 0).trans ?_; rw [e]; exact at_head rfl rfl rfl
  | ⟨1, _⟩ => refine (Pipeline.Window.rect_emb_val win0_0 t _ 1).trans ?_; rw [e]; exact at_block rfl rfl rfl
  | ⟨2, _⟩ => refine (Pipeline.Window.rect_emb_val win0_0 t _ 2).trans ?_; rw [e]; exact at_zero rfl rfl
theorem iblk_1 (c : Dev nD) (t : Fin cfg0.N) (i : Fin 16384) (x : Fin 128) : iblk m c 1 t (ix3 0 i x)
    = V m c main_v15 (ix3 (headNo t) i x) := by
  have e := (idx_at t).2.1
  blk_simp [iblk]
  refine congrArg _ (funext fun d => Fin.ext ?_)
  match d with
  | ⟨0, _⟩ => refine (Pipeline.Window.rect_emb_val win0_1 t _ 0).trans ?_; rw [e]; exact at_head rfl rfl rfl
  | ⟨1, _⟩ => refine (Pipeline.Window.rect_emb_val win0_1 t _ 1).trans ?_; rw [e]; exact at_zero rfl rfl
  | ⟨2, _⟩ => refine (Pipeline.Window.rect_emb_val win0_1 t _ 2).trans ?_; rw [e]; exact at_zero rfl rfl
theorem iblk_2 (c : Dev nD) (t : Fin cfg0.N) (i : Fin 16384) (x : Fin 128) : iblk m c 2 t (ix3 0 i x)
    = V m c main_v21 (ix3 (headNo t) i x) := by
  have e := (idx_at t).2.2.1
  blk_simp [iblk]
  refine congrArg _ (funext fun d => Fin.ext ?_)
  match d with
  | ⟨0, _⟩ => refine (Pipeline.Window.rect_emb_val win0_2 t _ 0).trans ?_; rw [e]; exact at_head rfl rfl rfl
  | ⟨1, _⟩ => refine (Pipeline.Window.rect_emb_val win0_2 t _ 1).trans ?_; rw [e]; exact at_zero rfl rfl
  | ⟨2, _⟩ => refine (Pipeline.Window.rect_emb_val win0_2 t _ 2).trans ?_; rw [e]; exact at_zero rfl rfl

/-- The call's arrays hold the heads' rows when it begins. -/
structure Entry (c : Dev nD) (D : Data) : Prop where
  q : ∀ (h : Fin 8) (i : Fin 16384) (x : Fin 128), V m c main_v8 (ix3 h i x) = (((D.rows h).q i x : ℝ) : EReal)
  k : ∀ (h : Fin 8) (i : Fin 16384) (x : Fin 128), V m c main_v15 (ix3 h i x) = (((D.rows h).k i x : ℝ) : EReal)
  v : ∀ (h : Fin 8) (i : Fin 16384) (x : Fin 128), V m c main_v21 (ix3 h i x) = (((D.rows h).v i x : ℝ) : EReal)

variable {m} {c : Dev nD} {D : Data}

/-- A tile of the point's queries. -/
theorem part_at {f : ℕ → ℕ → ℝ} {p : ℕ} {X : Vec Ideal S1x2048x128 .bf16} (u : ℕ) (hu : u < 4)
    (h : ∀ (r : Fin 2048) (x : Fin 128), X (ix3 0 r x) = ((f (2048 * p + r) x : ℝ) : EReal)) (s : Fin 512) (x : Fin 128) :
    partAt X u (ix3 0 s x) = ((f (512 * (4 * p + u) + s) x : ℝ) : EReal) := by
  have hs := s.isLt
  refine (h ⟨(512 * u + s.val) % 2048, Nat.mod_lt _ (by decide)⟩ x).trans ?_
  simp only [Nat.mod_eq_of_lt (show 512 * u + s.val < 2048 by omega)]
  rw [show 2048 * p + (512 * u + s.val) = 512 * (4 * p + u) + s.val by omega]

/-- The point's queries. -/
def blockQ (m : (ℓ : Loc nD τ sig) → Buf (Elt Ideal) ℓ) (c : Dev nD) (t : Fin cfg0.N) : Vec Ideal S1x2048x128 .bf16 := iblk m c 0 t
/-- The head's keys and values. -/
def headK (m : (ℓ : Loc nD τ sig) → Buf (Elt Ideal) ℓ) (c : Dev nD) (t : Fin cfg0.N) : Vec Ideal S1x16384x128 .bf16 := iblk m c 1 t
def headV (m : (ℓ : Loc nD τ sig) → Buf (Elt Ideal) ℓ) (c : Dev nD) (t : Fin cfg0.N) : Vec Ideal S1x16384x128 .bf16 := iblk m c 2 t

theorem blockQ_at (hE : Entry m c D) (t : Fin cfg0.N) (r : Fin 2048) (x : Fin 128) :
    blockQ m c t (ix3 0 r x) = (((D.rows (t.val / 8)).q (2048 * (t.val % 8) + r) x : ℝ) : EReal) :=
  (iblk_0 m c t r x).trans (hE.q _ _ _)
theorem headK_at (hE : Entry m c D) (t : Fin cfg0.N) (i : Fin 16384) (x : Fin 128) :
    headK m c t (ix3 0 i x) = (((D.rows (t.val / 8)).k i x : ℝ) : EReal) := (iblk_1 m c t i x).trans (hE.k _ _ _)
theorem headV_at (hE : Entry m c D) (t : Fin cfg0.N) (i : Fin 16384) (x : Fin 128) :
    headV m c t (ix3 0 i x) = (((D.rows (t.val / 8)).v i x : ℝ) : EReal) := (iblk_2 m c t i x).trans (hE.v _ _ _)

section Point

variable (i : grid0.Coords)
  (arg2 : Memref sig .tc .vmem S1x2048x128 .bf16) (harg2 : arg2.IsWhole) (arg3 : Memref sig .tc .vmem S1x16384x128 .bf16)
  (harg3 : arg3.IsWhole) (arg4 : Memref sig .tc .vmem S1x16384x128 .bf16) (harg4 : arg4.IsWhole)
  (arg5 : Memref sig .tc .vmem S1x2048x128 .bf16) (harg5 : arg5.IsWhole) (arg6 : Memref sig .tc .vmem S1x4x1x512 .f32)
  (harg6 : arg6.IsWhole) {x0 : Vec Ideal S1x2048x128 .bf16} {x1 x2 : Vec Ideal S1x16384x128 .bf16} {h p : ℕ}
  (hi : (i 1).val = p) (hp : p < 8)
  (h0 : ∀ (r : Fin 2048) (x : Fin 128), x0 (ix3 0 r x) = (((D.rows h).q (2048 * p + r) x : ℝ) : EReal))
  (h1 : ∀ (j : Fin 16384) (x : Fin 128), x1 (ix3 0 j x) = (((D.rows h).k j x : ℝ) : EReal))
  (h2 : ∀ (j : Fin 16384) (x : Fin 128), x2 (ix3 0 j x) = (((D.rows h).v j x : ℝ) : EReal))
include hi hp h0 h1 h2

/-- A row of the output, whatever buffers the program works in. -/
theorem row_of (w : Fin 2048) (x : Fin 128) :
    out0_A_3 c i arg2 harg2 arg3 harg3 arg4 harg4 arg5 harg5 arg6 harg6 x0 x1 x2 (ix3 0 w x)
      = ((D.lanes h (2048 * p + w) x : ℝ) : EReal) := by
  have hw := w.isLt
  rw [out_at c i arg2 harg2 arg3 harg3 arg4 harg4 arg5 harg5 arg6 harg6 x0 x1 x2 ⟨w.val / 512, by omega⟩ ⟨w.val % 512, by omega⟩ x w
    (by show w.val = 512 * (w.val / 512) + w.val % 512; omega), hi]
  unfold ended
  rw [finish_rows (by show 4 * p + w.val / 512 < 32; omega) (part_at (w.val / 512) (by omega) h0) h1 h2]
  refine congrArg (fun n => ((D.lanes h n x : ℝ) : EReal)) ?_
  show 512 * (4 * p + w.val / 512) + w.val % 512 = 2048 * p + w.val
  omega

/-- A line of logarithms. -/
theorem line_of (u : Fin 4) (r : Fin 512) :
    out0_A_4 c i arg2 harg2 arg3 harg3 arg4 harg4 arg5 harg5 arg6 harg6 x0 x1 x2 (ix4 0 u 0 r)
      = (((D.rows h).ls (512 * (4 * p + u) + r) : ℝ) : EReal) := by
  have hu := u.isLt
  rw [line_at c i arg2 harg2 arg3 harg3 arg4 harg4 arg5 harg5 arg6 harg6 x0 x1 x2 u r, hi]
  unfold ended
  rw [finish_logs (by omega) (part_at u hu h0) h1 h2]

end Point

theorem outs_fst (t : Fin cfg0.N) : (outsAt0 m c t).1 = out0_A_3 c (grid0.coords t) (ms0_0 t) (hs0_0 t) (ms0_1 t) (hs0_1 t) (ms0_2 t) (hs0_2 t) (ms0_3 t)
    (hs0_3 t) (ms0_4 t) (hs0_4 t) (iblk m c 0 t) (iblk m c 1 t) (iblk m c 2 t) := by
  unfold outsAt0
  dsimp only
theorem outs_snd (t : Fin cfg0.N) : (outsAt0 m c t).2 = out0_A_4 c (grid0.coords t) (ms0_0 t) (hs0_0 t) (ms0_1 t) (hs0_1 t) (ms0_2 t) (hs0_2 t) (ms0_3 t)
    (hs0_3 t) (ms0_4 t) (hs0_4 t) (iblk m c 0 t) (iblk m c 1 t) (iblk m c 2 t) := by
  unfold outsAt0
  dsimp only

/-- A row a point leaves in the output. -/
theorem point_out (hE : Entry m c D) (t : Fin cfg0.N) (w : Fin 2048) (x : Fin 128) :
    (outsAt0 m c t).1 (ix3 0 w x) = ((D.lanes (t.val / 8) (2048 * (t.val % 8) + w) x : ℝ) : EReal) := by
  rw [outs_fst]
  exact row_of (grid0.coords t) _ _ _ _ _ _ _ _ _ _ (idx_at t).2.2.2.2.2 (Nat.mod_lt _ (by decide)) (blockQ_at hE t) (headK_at hE t)
    (headV_at hE t) w x

/-- A line a point leaves in the logarithms. -/
theorem point_line (hE : Entry m c D) (t : Fin cfg0.N) (u : Fin 4) (r : Fin 512) :
    (outsAt0 m c t).2 (ix4 0 u 0 r) = (((D.rows (t.val / 8)).ls (512 * (4 * (t.val % 8) + u) + r) : ℝ) : EReal) := by
  rw [outs_snd]
  exact line_of (grid0.coords t) _ _ _ _ _ _ _ _ _ _ (idx_at t).2.2.2.2.2 (Nat.mod_lt _ (by decide)) (blockQ_at hE t) (headK_at hE t)
    (headV_at hE t) u r

/-- The output, lane by lane. -/
def outO (D : Data) : Vec Ideal S8x16384x128 .bf16 := fun y => ((D.lanes (y 0).val (y 1).val (y 2).val : ℝ) : EReal)
/-- The logarithms, tile by tile. -/
def outL (D : Data) : Vec Ideal S8x32x1x512 .f32 := fun y => (((D.rows (y 0).val).ls (512 * (y 1).val + (y 3).val) : ℝ) : EReal)

theorem outO_of {y : S8x16384x128.Idx} {h i : ℕ} (x : Fin 128) (h0 : (y 0).val = h) (h1 : (y 1).val = i) (h2 : (y 2).val = x.val) :
    outO D y = ((D.lanes h i x : ℝ) : EReal) := by
  unfold outO; rw [h0, h1, h2]
theorem outL_of {y : S8x32x1x512.Idx} {h a : ℕ} (b : Fin 512) (h0 : (y 0).val = h) (h1 : (y 1).val = a) (h3 : (y 3).val = b.val) :
    outL D y = (((D.rows h).ls (512 * a + b) : ℝ) : EReal) := by
  unfold outL; rw [h0, h1, h3]

theorem final_3 (hE : Entry m c D) : (dats m 0 c).arrAt 3 cfg0.N = outO D := by
  refine Dat.arrAt_eq_of_covers (dats m 0 c) 3 (outO D) (by decide +kernel) fun t ht y => ?_
  have e := (idx_at t).2.2.2.1
  blk_simp
  rw [after0_3]
  have hy : y = ix3 0 (y 1) (y 2) := by
    funext d
    match d with
    | ⟨0, _⟩ => exact Subsingleton.elim (α := Fin 1) _ _
    | ⟨1, _⟩ => rfl
    | ⟨2, _⟩ => rfl
  refine Eq.trans ?_ ((point_out hE t (y 1) (y 2)).trans ?_)
  · exact congrArg _ hy
  · refine (outO_of (y 2) ?_ ?_ ?_).symm
    · refine (Pipeline.Window.rect_emb_val win0_3 t _ 0).trans ?_; rw [e]
      exact at_head rfl rfl (congrArg Fin.val (Subsingleton.elim (α := Fin 1) (y 0) 0))
    · refine (Pipeline.Window.rect_emb_val win0_3 t _ 1).trans ?_; rw [e]; exact at_block rfl rfl rfl
    · refine (Pipeline.Window.rect_emb_val win0_3 t _ 2).trans ?_; rw [e]; exact at_zero rfl rfl

theorem final_4 (hE : Entry m c D) : (dats m 0 c).arrAt 4 cfg0.N = outL D := by
  refine Dat.arrAt_eq_of_covers (dats m 0 c) 4 (outL D) (by decide +kernel) fun t ht y => ?_
  have e := (idx_at t).2.2.2.2.1
  blk_simp
  rw [after0_4]
  have hy : y = ix4 0 (y 1) 0 (y 3) := by
    funext d
    match d with
    | ⟨0, _⟩ => exact Subsingleton.elim (α := Fin 1) _ _
    | ⟨1, _⟩ => rfl
    | ⟨2, _⟩ => exact Subsingleton.elim (α := Fin 1) _ _
    | ⟨3, _⟩ => rfl
  refine Eq.trans ?_ ((point_line hE t (y 1) (y 3)).trans ?_)
  · exact congrArg _ hy
  · refine (outL_of (y 3) ?_ ?_ ?_).symm
    · refine (Pipeline.Window.rect_emb_val win0_4 t _ 0).trans ?_; rw [e]
      exact at_head rfl rfl (congrArg Fin.val (Subsingleton.elim (α := Fin 1) (y 0) 0))
    · refine (Pipeline.Window.rect_emb_val win0_4 t _ 1).trans ?_; rw [e]; exact at_block rfl rfl rfl
    · refine (Pipeline.Window.rect_emb_val win0_4 t _ 3).trans ?_; rw [e]; exact at_zero rfl rfl

end Cert.ForwardIdeal.Hand
end
-- ==== Proof.FI.Host.lean ====
/-
  What the host computes around the forward call: the query, key and value rows it is given, and the two results made of the
  arrays it leaves.
-/
module

public import proofs.«01_k».proof.Proof.FI.Grid
public import proofs.«01_k».proof.Proof.V.Tail

@[expose] public section

set_option maxRecDepth 16384

noncomputable section

namespace Cert.ForwardIdeal.Hand

open Cert.ForwardIdeal Cert.ForwardIdeal.Gen Cert.Attn
open Cert.KernelIdeal.Hand (byHead joinQ joinK joinV factor keyGrad first64 byHead_apply joinQ_at joinK_at joinV_at factor_apply
  narrow_byHead)
open Idealize.ShloMosaic hiding ix2 ix3 ix4 eq_ix3 eq_ix4
open Idealize.ShloMosaic.TcCoe Idealize.ShloMosaic.ValueIdx

section Before

variable (m : (ℓ : Loc nD τ sig) → Buf (Elt Ideal) ℓ) (c : Dev nD)

/-- The five arguments. -/
abbrev arg0 : FVec Ideal S1x16384x8x64 .f32 := m (c.tc.loc main_arg0)
abbrev arg1 : FVec Ideal S1x16384x8x32 .f32 := m (c.tc.loc main_arg1)
abbrev arg2 : FVec Ideal S1x16384x8x64 .f32 := m (c.tc.loc main_arg2)
abbrev arg3 : FVec Ideal S1x16384x32 .f32 := m (c.tc.loc main_arg3)
abbrev arg4 : FVec Ideal S1x16384x8x64 .f32 := m (c.tc.loc main_arg4)

theorem read_q : V m c main_v8
    = truncf (F := Ideal) .bf16 (mulf (byHead (joinQ (arg0 m c) (arg1 m c)))
        (broadcastInDim S8x16384x128 ![] bcast_S_S8x16384x128 factor)) bitsLt_bf16_f32 := by
  show StableHlo.after (List.flatten [hostOps0]) (fun b => m (c, b)) _ = _
  simp only [hostOps0, List.flatten_cons, List.flatten_nil, List.append_nil, List.cons_append, List.nil_append,
    StableHlo.TRef.unary, StableHlo.TRef.ternary, StableHlo.TRef.toBuf, StableHlo.TRef.ofBuf, cast_eq]
  after_results_simp
  dsimp only [Matrix.cons_val]
  simp only [↓ StableHlo.readResult, ↓ StableHlo.readPieces]
  rfl

theorem read_k : V m c main_v15 = truncf (F := Ideal) .bf16 (byHead (joinK (arg2 m c) (arg3 m c))) bitsLt_bf16_f32 := by
  show StableHlo.after (List.flatten [hostOps0]) (fun b => m (c, b)) _ = _
  simp only [hostOps0, List.flatten_cons, List.flatten_nil, List.append_nil, List.cons_append, List.nil_append,
    StableHlo.TRef.unary, StableHlo.TRef.ternary, StableHlo.TRef.toBuf, StableHlo.TRef.ofBuf, cast_eq]
  after_results_simp
  dsimp only [Matrix.cons_val]
  simp only [↓ StableHlo.readResult, ↓ StableHlo.readPieces]
  rfl

theorem read_v : V m c main_v21 = truncf (F := Ideal) .bf16 (byHead (joinV (arg4 m c))) bitsLt_bf16_f32 := by
  show StableHlo.after (List.flatten [hostOps0]) (fun b => m (c, b)) _ = _
  simp only [hostOps0, List.flatten_cons, List.flatten_nil, List.append_nil, List.cons_append, List.nil_append,
    StableHlo.TRef.unary, StableHlo.TRef.ternary, StableHlo.TRef.toBuf, StableHlo.TRef.ofBuf, cast_eq]
  after_results_simp
  dsimp only [Matrix.cons_val]
  simp only [↓ StableHlo.readResult, ↓ StableHlo.readPieces]
  rfl

end Before

variable {m : (ℓ : Loc nD τ sig) → Buf (Elt Ideal) ℓ} {c : Dev nD} {x5 : FVec Ideal S1x16384x8x64 .f32} {D : Data}

/-- Given arguments that are reals, so are the rows of the call. -/
theorem entry_of (A : Args (arg0 m c) (arg1 m c) (arg2 m c) (arg3 m c) (arg4 m c) x5 D) : Entry m c D where
  q h i x := by
    rw [read_q]
    show byHead _ (ix3 h i x) * factor _ = _
    rw [byHead_apply, joinQ_at A, factor_apply, ← EReal.coe_mul]
    show _ = (((if x.val < 64 then D.qn h i x else if x.val < 96 then D.qr h i (x - 64) else 0) * (D.c / Real.log 2) : ℝ) : EReal)
    rw [A.c]
  k h i x := by
    rw [read_k]
    exact (narrow_byHead _ h i x).trans (joinK_at A i h x)
  v h i x := by
    rw [read_v]
    exact (narrow_byHead _ h i x).trans (joinV_at A i h x)

/-- The logarithms by head and position. -/
def byRow (X : FVec Ideal S8x32x1x512 .f32) : FVec Ideal S1x8x16384 .f32 :=
  shapeCast S1x8x16384 X shapeCasts_S8x32x1x512_S1x8x16384

theorem byRow_apply (X : FVec Ideal S8x32x1x512 .f32) (h : Fin 8) (i : Fin 16384) :
    byRow X (ix3 0 h i) = X (ix4 h ⟨i.val / 512, by omega⟩ 0 ⟨i.val % 512, by omega⟩) := by
  refine shapeCast_apply X shapeCasts_S8x32x1x512_S1x8x16384 (ix3 0 h i) _ ?_
  rw [Shape.rowMajor_val_three, Shape.rowMajor_val_four]
  show ((h.val * 32 + i.val / 512) * 1 + 0) * 512 + i.val % 512 = (0 * 8 + h.val) * 16384 + i.val
  omega

section Lines

variable (W : Valuation τ sig (Elt Ideal))

theorem line_26 : StableHlo.after (List.flatten [hostOps1]) W (Proc.devRef .tc main_v26)
    = first64 (keyGrad (W (Proc.devRef .tc main_v22_0))) := by
  simp only [hostOps1, List.flatten_cons, List.flatten_nil, List.append_nil, List.cons_append,
    List.nil_append, StableHlo.TRef.unary, StableHlo.TRef.ternary, StableHlo.TRef.toBuf, StableHlo.TRef.ofBuf, cast_eq]
  after_results_simp
  rfl

theorem line_27 : StableHlo.after (List.flatten [hostOps1]) W (Proc.devRef .tc main_v27)
    = byRow (W (Proc.devRef .tc main_v22_1)) := by
  simp only [hostOps1, List.flatten_cons, List.flatten_nil, List.append_nil, List.cons_append,
    List.nil_append, StableHlo.TRef.unary, StableHlo.TRef.ternary, StableHlo.TRef.toBuf, StableHlo.TRef.ofBuf, cast_eq]
  after_results_simp
  rfl

end Lines

/-- The output's first 64 lanes. -/
theorem result_out (i : Fin 16384) (h : Fin 8) (x : Fin 64) :
    first64 (keyGrad (outO D)) (ix4 0 i h x) = ((D.out h i x : ℝ) : EReal) := by
  rw [Cert.KernelIdeal.Hand.first64_apply, Cert.KernelIdeal.Hand.keyGrad_apply]
  show ((D.lanes h i x : ℝ) : EReal) = _
  rw [D.lanes_out h i x x.isLt]

theorem result_log (h : Fin 8) (i : Fin 16384) :
    byRow (outL D) (ix3 0 h i) = (((D.rows h).ls i : ℝ) : EReal) := by
  rw [byRow_apply]
  show (((D.rows h).ls (512 * (i.val / 512) + i.val % 512) : ℝ) : EReal) = _
  rw [Nat.div_add_mod]

/-- The buffers as the call leaves them. -/
abbrev left (m : (ℓ : Loc nD τ sig) → Buf (Elt Ideal) ℓ) (c : Dev nD) : Valuation τ sig (Elt Ideal) :=
  Pipeline.withArrays spec0 c (V0 m c) fun w => (dats m 0 c).arrAt w cfg0.N

theorem arrays_injective : Function.Injective (Pipeline.arrRef spec0) := by decide

variable (A : Args (arg0 m c) (arg1 m c) (arg2 m c) (arg3 m c) (arg4 m c) x5 D)
include A

theorem left_out : left m c (Proc.devRef .tc main_v22_0) = outO D :=
  (Pipeline.withArrays_arr spec0 arrays_injective c (V0 m c) (fun w => (dats m 0 c).arrAt w cfg0.N) 3).trans (final_3 (entry_of A))
theorem left_log : left m c (Proc.devRef .tc main_v22_1) = outL D :=
  (Pipeline.withArrays_arr spec0 arrays_injective c (V0 m c) (fun w => (dats m 0 c).arrAt w cfg0.N) 4).trans (final_4 (entry_of A))

theorem end_26 : Pipeline.afterTail₀ cfgs (dats m) 0 (V0 m) [hostOps1] c main_v26 = first64 (keyGrad (outO D)) :=
  (line_26 (left m c)).trans (congrArg (fun X => first64 (keyGrad X)) (left_out A))
theorem end_27 : Pipeline.afterTail₀ cfgs (dats m) 0 (V0 m) [hostOps1] c main_v27 = byRow (outL D) :=
  (line_27 (left m c)).trans (congrArg byRow (left_log A))

end Cert.ForwardIdeal.Hand
end
-- ==== Proof.FI.Ref.lean ====
/-
  The forward reference read on real numbers. It computes the scores, the mask and the exponentials of the gradient's reference,
  so its output is the attention's output and its second result the logarithm of the sum of exponentials, over that of two.
-/
module

public import proofs.«01_k».proof.Proof.Gen.ForwardReferenceIdeal.Read
public import proofs.«01_k».proof.Proof.Gen.Pre_finite_fwd
public import proofs.«01_k».proof.Proof.V.Entry

@[expose] public section

noncomputable section

namespace Cert.Pre_finite_fwd

open Idealize.ShloMosaic Cert.Attn

instance : Subsingleton S_.Idx := ⟨fun a b => funext fun k => k.elim0⟩

/-- The precondition says that every element of every argument is a real number. -/
theorem real {x0 : FVec Ideal S1x16384x8x64 .f32} {x1 : FVec Ideal S1x16384x8x32 .f32} {x2 : FVec Ideal S1x16384x8x64 .f32}
    {x3 : FVec Ideal S1x16384x32 .f32} {x4 : FVec Ideal S1x16384x8x64 .f32}
    (h : fn (F := Ideal) x0 x1 x2 x3 x4 = fun _ => 1#1) :
    (∀ i, (((x0 i).toReal : ℝ) : EReal) = x0 i) ∧ (∀ i, (((x1 i).toReal : ℝ) : EReal) = x1 i)
      ∧ (∀ i, (((x2 i).toReal : ℝ) : EReal) = x2 i) ∧ (∀ i, (((x3 i).toReal : ℝ) : EReal) = x3 i)
      ∧ (∀ i, (((x4 i).toReal : ℝ) : EReal) = x4 i) := by
  have h0 := congrFun h (Shape.Idx.first Facts.h_S_)
  obtain ⟨h0, h4⟩ := andi_one h0
  obtain ⟨h0, h3⟩ := andi_one h0
  obtain ⟨h0, h2⟩ := andi_one h0
  obtain ⟨h0, h1⟩ := andi_one h0
  exact ⟨all_real _ _ _ _ _ _ h0, all_real _ _ _ _ _ _ h1, all_real _ _ _ _ _ _ h2, all_real _ _ _ _ _ _ h3,
    all_real _ _ _ _ _ _ h4⟩

end Cert.Pre_finite_fwd

namespace Cert.Attn.Forward

open Cert.ForwardReferenceIdeal Cert.ForwardReferenceIdeal.Gen Cert.ForwardReferenceIdeal.Read
open Idealize.ShloMosaic hiding ix2 ix3 ix4 eq_ix3 eq_ix4
open Idealize.ShloMosaic.ValueIdx
open Finset (range)

/-- Where there is no gradient of the output, zeros. -/
def noGrad : FVec Ideal S1x16384x8x64 .f32 := fun _ => 0

variable {x0 : FVec Ideal S1x16384x8x64 .f32} {x1 : FVec Ideal S1x16384x8x32 .f32} {x2 : FVec Ideal S1x16384x8x64 .f32}
  {x3 : FVec Ideal S1x16384x32 .f32} {x4 : FVec Ideal S1x16384x8x64 .f32} {D : Data}

/-- Arguments that satisfy the precondition hold real numbers. -/
theorem args_of (h : Cert.Pre_finite_fwd.fn (F := Ideal) x0 x1 x2 x3 x4 = fun _ => 1#1) :
    Args x0 x1 x2 x3 x4 noGrad (dataOf x0 x1 x2 x3 x4 noGrad) := by
  obtain ⟨h0, h1, h2, h3, h4⟩ := Cert.Pre_finite_fwd.real h
  exact args_real h0 h1 h2 h3 h4 fun i => by
    show (((0 : EReal).toReal : ℝ) : EReal) = 0
    rw [EReal.toReal_zero, EReal.coe_zero]

/-- The scaled scores are the gradient's reference's. -/
theorem scores_eq : val_main_v11 (F := Ideal) x0 x1 x2 x3 = Cert.ReferenceIdeal.Read.val_main_v11 (F := Ideal) x0 x1 x2 x3 := rfl

/-- So are the masked scores. -/
theorem masked_eq : val_main_v12 (F := Ideal) x0 x1 x2 x3 = Cert.ReferenceIdeal.Read.val_main_v12_0 (F := Ideal) x0 x1 x2 x3 := rfl

/-- And the greatest of them, both times it is taken. -/
theorem max_eq : val_main_v13 (F := Ideal) x0 x1 x2 x3 = Cert.ReferenceIdeal.Read.val_main_v13 (F := Ideal) x0 x1 x2 x3 := rfl
theorem max_eq' : val_main_v21 (F := Ideal) x0 x1 x2 x3 = Cert.ReferenceIdeal.Read.val_main_v13 (F := Ideal) x0 x1 x2 x3 := rfl

variable (A : Args x0 x1 x2 x3 x4 noGrad D)
include A

theorem at_v17 (h : Fin 8) (i j : Fin 16384) :
    val_main_v17 (F := Ideal) x0 x1 x2 x3 (ix4 0 h i j) = ((D.e h i j : ℝ) : EReal) := by
  rw [← exp_at A, val_main_v17_apply, val_main_v16_apply, val_main_v15_apply,
    show idx_main_v15 (ix4 0 h i j) = ix4 0 h i 0 from eq_ix4 _, val_main_v14_apply,
    show idx_main_v14 (ix4 0 h i 0) = ix3 0 h i from eq_ix3 _, max_eq, A.M, masked_eq]
  rfl

theorem at_v18 (h : Fin 8) (i : Fin 16384) :
    val_main_v18 (F := Ideal) x0 x1 x2 x3 (ix3 0 h i) = ((D.l h i : ℝ) : EReal) := by
  rw [val_main_v18_apply, show val_main_cst_2 (F := Ideal) (Shape.Idx.first h_S_) = 0 from Ideal.ofBits_zero_f32, zero_add]
  unfold Data.l
  rw [← coe_sum_fin]
  refine Finset.sum_congr rfl fun j _ => ?_
  rw [show idx_main_v18 (ix3 0 h i) j = ix4 0 h i j from eq_ix4 _, at_v17 A]

/-- The second result. -/
theorem at_v36 (h : Fin 8) (i : Fin 16384) :
    val_main_v36 (F := Ideal) x0 x1 x2 x3 (ix3 0 h i) = (((D.rows h).ls i : ℝ) : EReal) := by
  rw [val_main_v36_apply, val_main_v20_apply, val_main_v19_apply, max_eq, A.M, at_v18 A, val_main_v35_apply, val_main_v34_apply,
    val_main_cst_6_apply]
  show Ideal.div (((D.M h i : ℝ) : EReal) + Ideal.log ((D.l h i : ℝ) : EReal)) (Ideal.log (Ideal.ofBits .f32 0x40000000#32)) = _
  rw [Cert.KernelIdeal.Hand.log_real (D.l_pos h i),
    show Ideal.log (Ideal.ofBits .f32 0x40000000#32) = _ from Cert.KernelIdeal.Hand.log_bits, ← EReal.coe_add]
  exact div_real _ Data.log_two_ne

theorem at_v27 (h : Fin 8) (i j : Fin 16384) :
    val_main_v27 (F := Ideal) x0 x1 x2 x3 (ix4 0 h i j) = ((D.e h i j : ℝ) : EReal) := by
  rw [← exp_at A, val_main_v27_apply, val_main_v26_apply, val_main_v25_apply,
    show idx_main_v25 (ix4 0 h i j) = ix4 0 h i 0 from eq_ix4 _, val_main_v24_apply,
    show idx_main_v24 (ix4 0 h i 0) = ix3 0 h i from eq_ix3 _, val_main_v23_apply, max_eq', A.M, masked_eq, val_main_v22_apply]
  show Ideal.exp (_ - max (Ideal.ofBits .f32 0xFF800000#32) _) = _
  rw [bits_bot, max_eq_right bot_le]

theorem at_v28 (h : Fin 8) (i : Fin 16384) :
    val_main_v28 (F := Ideal) x0 x1 x2 x3 (ix3 0 h i) = ((D.l h i : ℝ) : EReal) := by
  rw [val_main_v28_apply, show val_main_cst_5 (F := Ideal) (Shape.Idx.first h_S_) = 0 from Ideal.ofBits_zero_f32, zero_add]
  unfold Data.l
  rw [← coe_sum_fin]
  refine Finset.sum_congr rfl fun j _ => ?_
  rw [show idx_main_v28 (ix3 0 h i) j = ix4 0 h i j from eq_ix4 _, at_v27 A]

theorem at_v31 (h : Fin 8) (i j : Fin 16384) :
    val_main_v31 (F := Ideal) x0 x1 x2 x3 (ix4 0 h i j) = ((D.P h i j : ℝ) : EReal) := by
  rw [val_main_v31_apply, val_main_v30_apply, show idx_main_v30 (ix4 0 h i j) = ix4 0 h i 0 from eq_ix4 _, val_main_v29_apply,
    show idx_main_v29 (ix4 0 h i 0) = ix3 0 h i from eq_ix3 _, at_v28 A, at_v27 A, Ideal.hostDivf_def]
  exact div_real _ (D.l_pos h i).ne'

/-- The first result. -/
theorem at_v33 (i : Fin 16384) (h : Fin 8) (x : Fin 64) :
    val_main_v33 (F := Ideal) x0 x1 x2 x3 x4 (ix4 0 i h x) = ((D.out h i x : ℝ) : EReal) := by
  rw [val_main_v33_apply, show idx_main_v33 (ix4 0 i h x) = ix4 0 h x i from eq_ix4 _, val_main_v32_apply]
  unfold Data.out
  rw [← coe_sum_fin]
  refine Finset.sum_congr rfl fun j _ => ?_
  rw [show lidx_main_v32 (ix4 0 h x i) j = ix4 0 j h x from eq_ix4 _, show ridx_main_v32 (ix4 0 h x i) j = ix4 0 h i j from eq_ix4 _, A.v,
    at_v31 A, ← EReal.coe_mul]

end Cert.Attn.Forward

end
-- ==== Proof.FI.Same.lean ====
/-
  The forward call's results are the forward reference's.
-/
module

public import proofs.«01_k».proof.Proof.FI.Host
public import proofs.«01_k».proof.Proof.FI.Ref

@[expose] public section

noncomputable section

namespace Cert.ForwardIdeal.Hand

open Cert.ForwardIdeal Cert.ForwardIdeal.Gen Cert.Attn Cert.Attn.Forward
open Cert.KernelIdeal.Hand (keyGrad first64 only_three only_four)
open Cert.ForwardReferenceIdeal.Read (val_main_v33 val_main_v36)
open Idealize.ShloMosaic hiding ix2 ix3 ix4 eq_ix3 eq_ix4
open Idealize.ShloMosaic.ValueIdx

variable {x0 : FVec Ideal S1x16384x8x64 .f32} {x1 : FVec Ideal S1x16384x8x32 .f32} {x2 : FVec Ideal S1x16384x8x64 .f32}
  {x3 : FVec Ideal S1x16384x32 .f32} {x4 : FVec Ideal S1x16384x8x64 .f32} {D : Data}

/-- The output. -/
theorem same_out (A : Args x0 x1 x2 x3 x4 noGrad D) : first64 (keyGrad (outO D)) = val_main_v33 (F := Ideal) x0 x1 x2 x3 x4 := by
  funext j
  obtain ⟨i, h, x, rfl⟩ : ∃ (i : Fin 16384) (h : Fin 8) (x : Fin 64), j = ix4 0 i h x := ⟨j 1, j 2, j 3, only_four j⟩
  exact (result_out i h x).trans (at_v33 A i h x).symm

/-- The logarithms. -/
theorem same_log (A : Args x0 x1 x2 x3 x4 noGrad D) : byRow (outL D) = val_main_v36 (F := Ideal) x0 x1 x2 x3 := by
  funext j
  obtain ⟨h, i, rfl⟩ : ∃ (h : Fin 8) (i : Fin 16384), j = ix3 0 h i := ⟨j 1, j 2, only_three j⟩
  exact (result_log h i).trans (at_v36 A h i).symm

end Cert.ForwardIdeal.Hand
end
-- ==== Proof.WG.Sum.lean ====
/-
  A sum over 16384 rows, taken 2048 rows at a time.
-/
module

public import Idealize.ShloMosaic.PureOps.Ideal.Laws
public import Mathlib.Algebra.BigOperators.Fin

@[expose] public section

namespace Cert.WeightGrad

open Finset

variable (f : ℕ → EReal)

/-- The first 2048 rows, added to zero. -/
theorem first_rows : (0 : EReal) + ∑ k : Fin 2048, f (2048 * 0 + k) = ∑ k ∈ range (2048 * (0 + 1)), f k := by
  rw [zero_add, Fin.sum_univ_eq_sum_range (fun k => f (2048 * 0 + k))]
  simp only [Nat.mul_zero, Nat.zero_add, Nat.mul_one]

/-- The next 2048 rows. -/
theorem more_rows (n : ℕ) :
    ∑ k ∈ range (2048 * n), f k + ∑ k : Fin 2048, f (2048 * n + k) = ∑ k ∈ range (2048 * (n + 1)), f k := by
  rw [Fin.sum_univ_eq_sum_range (fun k => f (2048 * n + k)), Nat.mul_succ, sum_range_add]

/-- All the rows. -/
theorem all_rows : ∑ k ∈ range (2048 * (7 + 1)), f k = ∑ k : Fin 16384, f k :=
  (Fin.sum_univ_eq_sum_range f 16384).symm

end Cert.WeightGrad
-- ==== Proof.WG.Second.lean ====
/-
  The gradient of the second MLP weight: every point of the grid adds 2048 rows of a product, and after the eighth the block is
  the product over all the rows, in both of the result's types.
-/
module

public import proofs.«01_k».proof.Proof.WG.Sum
public import proofs.«01_k».proof.Proof.V.Blocks
public import proofs.«01_k».proof.Proof.Gen.GradFf2Ideal.Value
public import Idealize.ShloMosaic.Lib.Pipeline.ValueKit
public import Idealize.ShloMosaic.Lib.ValueIdx

@[expose] public section

set_option maxRecDepth 16384

noncomputable section

namespace Cert.GradFf2Ideal.Hand

open Cert.GradFf2Ideal Cert.GradFf2Ideal.Gen Cert.WeightGrad Finset
open Cert.KernelIdeal.Hand (at_zero at_block)
open Idealize.ShloMosaic hiding ix2 ix3 ix4 eq_ix3 eq_ix4
open Idealize.ShloMosaic.TcCoe Idealize.ShloMosaic.ValueIdx
open Idealize.ShloMosaic.Pipeline (Dat)

theorem origin : (![0, 0] : Fin 2 → Nat) = fun _ => 0 := funext fun a => by fin_cases a <;> rfl

section Body

variable (c : Dev nD) (i : grid0.Coords) (a3 : Memref sig .tc .vmem S2048x1024 .bf16) (h3 : a3.IsWhole)
  (a4 : Memref sig .tc .vmem S2048x1024 .bf16) (h4 : a4.IsWhole) (a5 : Memref sig .tc .vmem S1024x1024 .f32) (h5 : a5.IsWhole)
  (a6 : Memref sig .tc .vmem S1024x1024 .bf16) (h6 : a6.IsWhole) (x0 x1 : Vec Ideal S2048x1024 .bf16) (xo : Vec Ideal S1024x1024 .f32)

/-- A later point adds its rows to what the block holds. -/
theorem out_later (hc0 : ¬cond0_0 i) (hc1 : ¬cond0_1 i) :
    out0_B_2 c i a3 h3 a4 h4 a5 h5 a6 h6 hc0 hc1 x0 x1 xo = k0_pay2 x0 x1 xo := by
  unfold out0_B_2
  rw [View.read_writes_eq_canon _ _ _ (cover0_B_2 c i a3 h3 a4 h4 a5 h5 a6 h6 hc0 hc1 x0 x1 xo)]
  unfold kernelRun0_B
  dsimp only
  rw [View.canon_unit_zero origin]
  simp only [View.readAt_eq_ld, h3.read_unread, h4.read_unread, h5.read_unread, View.ld_unit_zero (S := S2048x1024) origin,
    View.ld_unit_zero (S := S1024x1024) origin]

/-- So does the last. -/
theorem out_last (hc0 : ¬cond0_0 i) (hc1 : cond0_1 i) :
    out0_C_2 c i a3 h3 a4 h4 a5 h5 a6 h6 hc0 hc1 x0 x1 xo = k0_pay2 x0 x1 xo := by
  unfold out0_C_2
  rw [View.read_writes_eq_canon _ _ _ (cover0_C_2 c i a3 h3 a4 h4 a5 h5 a6 h6 hc0 hc1 x0 x1 xo)]
  unfold kernelRun0_C
  dsimp only
  sl_unfold_words
  rw [View.canon_unit_zero origin]
  simp only [View.readAt_eq_ld, h3.read_unread, h4.read_unread, h5.read_unread, View.ld_unit_zero (S := S2048x1024) origin,
    View.ld_unit_zero (S := S1024x1024) origin]

/-- The last also leaves the sum in the narrow type. -/
theorem narrow_last (hc0 : ¬cond0_0 i) (hc1 : cond0_1 i) :
    out0_C_3 c i a3 h3 a4 h4 a5 h5 a6 h6 hc0 hc1 x0 x1 xo = k0_pay3 (k0_pay2 x0 x1 xo) := by
  unfold out0_C_3
  rw [View.read_writes_eq_canon _ _ _ (cover0_C_3 c i a3 h3 a4 h4 a5 h5 a6 h6 hc0 hc1 x0 x1 xo)]
  unfold kernelRun0_C
  dsimp only
  sl_unfold_words
  rw [View.canon_unit_zero origin, View.readCov_unit_zero (S := S1024x1024) _ origin]
  simp only [View.readAt_eq_ld, h3.read_unread, h4.read_unread, h5.read_unread, View.ld_unit_zero (S := S2048x1024) origin,
    View.ld_unit_zero (S := S1024x1024) origin]

/-- The first adds its rows to zero. -/
theorem out_first (hc0 : cond0_0 i) (hc1 : ¬cond0_1 i) :
    out0_A_2 c i a3 h3 a4 h4 a5 h5 a6 h6 hc0 hc1 x0 x1 = k0_pay2 x0 x1 (k0_pay1 (F := Ideal)) := by
  unfold out0_A_2
  rw [View.read_writes_eq_canon _ _ _ (cover0_A_2 c i a3 h3 a4 h4 a5 h5 a6 h6 hc0 hc1 x0 x1)]
  unfold kernelRun0_A
  dsimp only
  sl_unfold_words
  rw [View.canon_cons_unit_zero (S := S1024x1024) origin, View.readCov_unit_zero (S := S1024x1024) _ origin]
  simp only [View.readAt_eq_ld, h3.read_unread, h4.read_unread, View.ld_unit_zero (S := S2048x1024) origin]

theorem pay1_apply (r s : Fin 1024) : k0_pay1 (F := Ideal) (ix2 r s) = 0 := Ideal.ofBits_zero_f32

/-- An element of the sum. -/
theorem pay2_apply (r s : Fin 1024) :
    k0_pay2 x0 x1 xo (ix2 r s) = xo (ix2 r s) + ∑ k : Fin 2048, x0 (ix2 k r) * x0 (ix2 k r) * x1 (ix2 k s) := by
  unfold k0_pay2
  simp only [shapeCast_self, addf_apply, Ideal.matmul_constant_zero_apply]
  rw [← Equiv.sum_comp (contrEquiv1 dot_S2048x1024_S2048x1024_S1024x1024_0_0_1_1_n_n 2048 rfl rfl).symm]
  refine congrArg₂ (· + ·) rfl (Finset.sum_congr rfl fun k _ => ?_)
  have hk := contrEquiv1_symm_val dot_S2048x1024_S2048x1024_S1024x1024_0_0_1_1_n_n 2048 rfl rfl k
  have el : dot_S2048x1024_S2048x1024_S1024x1024_0_0_1_1_n_n.lhsIdx (ix2 r s)
      ((contrEquiv1 dot_S2048x1024_S2048x1024_S1024x1024_0_0_1_1_n_n 2048 rfl rfl).symm k) = ix2 k r :=
    funext fun a => Fin.ext (match a with
      | ⟨0, _⟩ => hk
      | ⟨1, _⟩ => rfl)
  have er : dot_S2048x1024_S2048x1024_S1024x1024_0_0_1_1_n_n.rhsIdx (ix2 r s)
      ((contrEquiv1 dot_S2048x1024_S2048x1024_S1024x1024_0_0_1_1_n_n 2048 rfl rfl).symm k) = ix2 k s :=
    funext fun a => Fin.ext (match a with
      | ⟨0, _⟩ => hk
      | ⟨1, _⟩ => rfl)
  rw [el, er]
  rfl

end Body

variable (m : (ℓ : Loc nD τ sig) → Buf (Elt Ideal) ℓ) (c : Dev nD)

/-- Where every window's block begins. -/
theorem idx_at : ∀ t : Fin cfg0.N,
    win0_0.index t = ![t.val % 8, t.val / 8] ∧ win0_1.index t = ![t.val % 8, 0]
      ∧ win0_2.index t = ![t.val / 8, 0] ∧ win0_3.index t = ![t.val / 8, 0] :=
  (by decide +kernel : ∀ t : Fin grid0.N, _)

/-- The two operands, by row and column. -/
def left (k i : ℕ) : EReal := (V m c main_v2 : Vec Ideal S16384x4096 .bf16) (ix2 ⟨k % 16384, Nat.mod_lt _ (by decide)⟩ ⟨i % 4096, Nat.mod_lt _ (by decide)⟩)
def right (k s : ℕ) : EReal := (V m c main_v3 : Vec Ideal S16384x1024 .bf16) (ix2 ⟨k % 16384, Nat.mod_lt _ (by decide)⟩ ⟨s % 1024, Nat.mod_lt _ (by decide)⟩)

/-- What row `k` adds to an element of the gradient. -/
def term (i s k : ℕ) : EReal := left m c k i * left m c k i * right m c k s

/-- The point's rows of the first operand, and of the second. -/
def block0 (t : Fin cfg0.N) : Vec Ideal S2048x1024 .bf16 := iblk m c 0 t
def block1 (t : Fin cfg0.N) : Vec Ideal S2048x1024 .bf16 := iblk m c 1 t

theorem block0_at (t : Fin cfg0.N) (k : Fin 2048) (r : Fin 1024) :
    block0 m c t (ix2 k r) = left m c (2048 * (t.val % 8) + k) (1024 * (t.val / 8) + r) := by
  have e := (idx_at t).1
  have ht : t.val < 32 := t.isLt
  have hk := k.isLt
  have hr := r.isLt
  unfold block0 left
  blk_simp [iblk]
  refine congrArg _ (funext fun d => Fin.ext ?_)
  match d with
  | ⟨0, _⟩ =>
    refine (Pipeline.Window.rect_emb_val win0_0 t _ 0).trans ?_; rw [e]
    refine (at_block rfl rfl rfl).trans (Nat.mod_eq_of_lt (show 2048 * (t.val % 8) + k.val < 16384 by omega)).symm
  | ⟨1, _⟩ =>
    refine (Pipeline.Window.rect_emb_val win0_0 t _ 1).trans ?_; rw [e]
    refine (at_block rfl rfl rfl).trans (Nat.mod_eq_of_lt (show 1024 * (t.val / 8) + r.val < 4096 by omega)).symm

theorem block1_at (t : Fin cfg0.N) (k : Fin 2048) (s : Fin 1024) :
    block1 m c t (ix2 k s) = right m c (2048 * (t.val % 8) + k) s := by
  have e := (idx_at t).2.1
  have ht : t.val < 32 := t.isLt
  have hk := k.isLt
  unfold block1 right
  blk_simp [iblk]
  refine congrArg _ (funext fun d => Fin.ext ?_)
  match d with
  | ⟨0, _⟩ =>
    refine (Pipeline.Window.rect_emb_val win0_1 t _ 0).trans ?_; rw [e]
    refine (at_block rfl rfl rfl).trans (Nat.mod_eq_of_lt (show 2048 * (t.val % 8) + k.val < 16384 by omega)).symm
  | ⟨1, _⟩ =>
    refine (Pipeline.Window.rect_emb_val win0_1 t _ 1).trans ?_; rw [e]
    exact (at_zero rfl rfl).trans (Nat.mod_eq_of_lt s.isLt).symm

/-- A point's rows, added. -/
theorem point_sum (t : Fin cfg0.N) (xo : Vec Ideal S1024x1024 .f32) (r s : Fin 1024) :
    k0_pay2 (block0 m c t) (block1 m c t) xo (ix2 r s)
      = xo (ix2 r s) + ∑ k : Fin 2048, term m c (1024 * (t.val / 8) + r) s (2048 * (t.val % 8) + k) := by
  rw [pay2_apply]
  refine congrArg₂ (· + ·) rfl (Finset.sum_congr rfl fun k _ => ?_)
  rw [block0_at, block1_at, term]

/-- What the block holds after a point: the rows of its points so far. -/
theorem held (n : ℕ) : ∀ (t : Fin cfg0.N), t.val = n → ∀ r s : Fin 1024,
    (outsAt0 m c t.val t.isLt).1 (ix2 r s) = ∑ k ∈ range (2048 * (t.val % 8 + 1)), term m c (1024 * (t.val / 8) + r) s k := by
  induction n with
  | zero =>
    intro t ht r s
    rw [outsAt0_A m c t (by omega) (by omega)]
    dsimp only
    rw [out_first]
    refine (point_sum m c t _ r s).trans ?_
    rw [pay1_apply, show t.val % 8 = 0 by omega]
    exact first_rows _
  | succ n ih =>
    intro t ht r s
    by_cases h0 : t.val % 8 = 0
    · rw [outsAt0_A m c t h0 (by omega)]
      dsimp only
      rw [out_first]
      refine (point_sum m c t _ r s).trans ?_
      rw [pay1_apply, h0]
      exact first_rows _
    · have before := ih ⟨t.val - 1, Nat.lt_of_le_of_lt (Nat.sub_le _ _) t.isLt⟩ (by show t.val - 1 = n; omega) r s
      dsimp only at before
      rw [show (t.val - 1) % 8 + 1 = t.val % 8 by omega, show (t.val - 1) / 8 = t.val / 8 by omega] at before
      have step : k0_pay2 (block0 m c t) (block1 m c t) (outsAt0 m c (t.val - 1) (Nat.lt_of_le_of_lt (Nat.sub_le _ _) t.isLt)).1 (ix2 r s)
          = ∑ k ∈ range (2048 * (t.val % 8 + 1)), term m c (1024 * (t.val / 8) + r) s k := by
        rw [point_sum, before]
        exact more_rows _ _
      by_cases h1 : t.val % 8 = 7
      · rw [outsAt0_C m c t h0 h1]
        dsimp only
        rw [out_last]
        exact step
      · rw [outsAt0_B m c t h0 h1]
        dsimp only
        rw [out_later]
        exact step

/-- At the last of a block's points the narrow block holds the same. -/
theorem held_narrow (t : Fin cfg0.N) (h1 : t.val % 8 = 7) (r s : Fin 1024) :
    (outsAt0 m c t.val t.isLt).2 (ix2 r s) = (outsAt0 m c t.val t.isLt).1 (ix2 r s) := by
  rw [outsAt0_C m c t (by omega) h1]
  dsimp only
  rw [out_last, narrow_last]
  unfold k0_pay3
  rw [shapeCast_self]
  rfl

/-- The gradient. -/
def grad : Vec Ideal S4096x1024 .f32 := fun y => ∑ k : Fin 16384, term m c (y 0).val (y 1).val k

theorem grad_of {y : S4096x1024.Idx} {i s : ℕ} (h0 : (y 0).val = i) (h1 : (y 1).val = s) :
    grad m c y = ∑ k ∈ range (2048 * (7 + 1)), term m c i s k := by
  unfold grad
  rw [h0, h1, all_rows]

theorem final_wide : (dats m 0 c).arrAt 2 cfg0.N = grad m c := by
  refine Dat.arrAt_eq_of_covers (dats m 0 c) 2 (grad m c) (by decide +kernel) fun t ht y => ?_
  have h7 := (flush0_2 t).mp ht
  have e := (idx_at t).2.2.1
  blk_simp
  rw [after0_2]
  have hy : y = ix2 (y 0) (y 1) := by
    funext d
    match d with
    | ⟨0, _⟩ => rfl
    | ⟨1, _⟩ => rfl
  refine Eq.trans ?_ ((held m c t.val t rfl (y 0) (y 1)).trans ?_)
  · exact congrArg _ hy
  · rw [h7]
    refine (grad_of m c ?_ ?_).symm
    · refine (Pipeline.Window.rect_emb_val win0_2 t _ 0).trans ?_; rw [e]; exact at_block rfl rfl rfl
    · refine (Pipeline.Window.rect_emb_val win0_2 t _ 1).trans ?_; rw [e]; exact at_zero rfl rfl

theorem final_narrow : (dats m 0 c).arrAt 3 cfg0.N = grad m c := by
  refine Dat.arrAt_eq_of_covers (dats m 0 c) 3 (grad m c) (by decide +kernel) fun t ht y => ?_
  have h7 := (flush0_3 t).mp ht
  have e := (idx_at t).2.2.2
  blk_simp
  rw [after0_3]
  have hy : y = ix2 (y 0) (y 1) := by
    funext d
    match d with
    | ⟨0, _⟩ => rfl
    | ⟨1, _⟩ => rfl
  refine Eq.trans ?_ ((held_narrow m c t h7 (y 0) (y 1)).trans ((held m c t.val t rfl (y 0) (y 1)).trans ?_))
  · exact congrArg _ hy
  · rw [h7]
    refine (grad_of m c ?_ ?_).symm
    · refine (Pipeline.Window.rect_emb_val win0_3 t _ 0).trans ?_; rw [e]; exact at_block rfl rfl rfl
    · refine (Pipeline.Window.rect_emb_val win0_3 t _ 1).trans ?_; rw [e]; exact at_zero rfl rfl

end Cert.GradFf2Ideal.Hand
end
-- ==== Proof.WG.SecondSame.lean ====
/-
  The second weight's gradient is the reference's.
-/
module

public import proofs.«01_k».proof.Proof.WG.Second
public import proofs.«01_k».proof.Proof.Gen.Ff2ReferenceIdeal.Read

@[expose] public section

set_option maxRecDepth 16384

noncomputable section

namespace Cert.GradFf2Ideal.Hand

open Cert.GradFf2Ideal Cert.GradFf2Ideal.Gen
open Cert.Ff2ReferenceIdeal.Read
open Idealize.ShloMosaic hiding ix2 ix3 ix4 eq_ix3 eq_ix4
open Idealize.ShloMosaic.TcCoe Idealize.ShloMosaic.ValueIdx

variable (m : (ℓ : Loc nD τ sig) → Buf (Elt Ideal) ℓ) (c : Dev nD)

/-- The first product of the MLP, and the cotangents of its result. -/
abbrev product : FVec Ideal S16384x4096 .f32 := m (c.tc.loc main_arg0)
abbrev cotangents : FVec Ideal S16384x1024 .f32 := m (c.tc.loc main_arg1)

theorem read_left : V m c main_v2 = truncf (F := Ideal) .bf16 (maximumf (product m c)
    (broadcastInDim S16384x4096 ![] bcast_S_S16384x4096 (constant S_ .f32 0x00000000#32))) bitsLt_bf16_f32 := by
  show StableHlo.after (List.flatten [hostOps0]) (fun b => m (c, b)) _ = _
  simp only [hostOps0, List.flatten_cons, List.flatten_nil, List.append_nil]
  after_results_simp

theorem read_right : V m c main_v3 = truncf (F := Ideal) .bf16 (cotangents m c) bitsLt_bf16_f32 := by
  show StableHlo.after (List.flatten [hostOps0]) (fun b => m (c, b)) _ = _
  simp only [hostOps0, List.flatten_cons, List.flatten_nil, List.append_nil]
  after_results_simp

/-- The first operand's square is the reference's. -/
theorem left_sq (i : S16384x4096.Idx) :
    left m c (i 0).val (i 1).val * left m c (i 0).val (i 1).val = val_main_v2 (F := Ideal) (product m c) i := by
  have e : left m c (i 0).val (i 1).val = val_main_v1 (F := Ideal) (product m c) i := by
    unfold left
    rw [read_left]
    refine congrArg (maximumf (product m c) (broadcastInDim S16384x4096 ![] bcast_S_S16384x4096 (constant S_ .f32 0x00000000#32))) ?_
    funext d
    match d with
    | ⟨0, _⟩ => exact Fin.ext (Nat.mod_eq_of_lt (i 0).isLt)
    | ⟨1, _⟩ => exact Fin.ext (Nat.mod_eq_of_lt (i 1).isLt)
  rw [e]
  rfl

theorem right_at (i : S16384x1024.Idx) : right m c (i 0).val (i 1).val = cotangents m c i := by
  unfold right
  rw [read_right]
  refine congrArg (cotangents m c) ?_
  funext d
  match d with
  | ⟨0, _⟩ => exact Fin.ext (Nat.mod_eq_of_lt (i 0).isLt)
  | ⟨1, _⟩ => exact Fin.ext (Nat.mod_eq_of_lt (i 1).isLt)

theorem same : grad m c = val_main_v5 (F := Ideal) (product m c) (cotangents m c) := by
  funext y
  rw [val_main_v5_apply, val_main_v4_apply]
  refine Finset.sum_congr rfl fun k _ => ?_
  rw [← left_sq, ← right_at]
  exact mul_comm _ _

theorem end_wide : (dats m 0 c).arrAt 2 cfg0.N = val_main_v5 (F := Ideal) (product m c) (cotangents m c) :=
  (final_wide m c).trans (same m c)

theorem end_narrow : (dats m 0 c).arrAt 3 cfg0.N = val_main_v6 (F := Ideal) (product m c) (cotangents m c) :=
  (final_narrow m c).trans (same m c)

end Cert.GradFf2Ideal.Hand
end
-- ==== Proof.WG.First.lean ====
/-
  The gradient of the first MLP weight, laid out by device: every point of the grid adds 2048 rows of a product to two planes of
  512 columns each, and after the eighth the planes hold the product over all the rows, in both of the result's types.
-/
module

public import proofs.«01_k».proof.Proof.WG.Sum
public import proofs.«01_k».proof.Proof.V.Blocks
public import proofs.«01_k».proof.Proof.Gen.GradFf1Ideal.Value
public import Idealize.ShloMosaic.Lib.Pipeline.ValueKit
public import Idealize.ShloMosaic.Lib.ValueIdx
public import Idealize.ShloMosaic.Lib.WritesUnit

@[expose] public section

set_option maxRecDepth 16384

noncomputable section

namespace Cert.GradFf1Ideal.Hand

open Cert.GradFf1Ideal Cert.GradFf1Ideal.Gen Cert.WeightGrad Finset
open Cert.KernelIdeal.Hand (at_zero at_block)
open Idealize.ShloMosaic hiding ix2 ix3 ix4 eq_ix3 eq_ix4
open Idealize.ShloMosaic.TcCoe Idealize.ShloMosaic.ValueIdx
open Idealize.ShloMosaic.Pipeline (Dat)

theorem origin : (![0, 0] : Fin 2 → Nat) = fun _ => 0 := funext fun a => by fin_cases a <;> rfl

theorem origin3 : (![0, 0, 0] : Fin 3 → Nat) = fun _ => 0 := funext fun a => by fin_cases a <;> rfl

/-- The product's column that goes to column `s` of plane `d`. -/
def column (d : Fin 2) (s : Fin 512) : Fin 1024 := ⟨512 * d.val + s.val, by have := d.isLt; have := s.isLt; omega⟩

section Planes

variable {sp : Space} {κ : Kind} (v : View sig κ sp S2x1024x512 .f32) (f : v.ty.Contents (Elt Ideal))
  (w0 w1 : Vec Ideal S1x1024x512 .f32) (L : List (View.Piece (Elt Ideal) S2x1024x512 .f32)) (r : Fin 1024) (s : Fin 512)
  (inb0 : ∀ a, (![0, 0, 0] : Fin 3 → Nat) a + S1x1024x512.size a ≤ S2x1024x512.size a)
  (inb1 : ∀ a, (![1, 0, 0] : Fin 3 → Nat) a + S1x1024x512.size a ≤ S2x1024x512.size a)

/-- The second plane holds what was last stored in it. -/
theorem read_one : v.read (Elt Ideal) (v.writes (Elt Ideal) f (⟨Rect.unit ![1, 0, 0] S1x1024x512.size inb1, w1⟩ :: L)) (ix3 1 r s) = w1 (ix3 0 r s) := by
  refine View.read_writes_cons_unit_of_mem (v := v) (f := f) _ _ _ (ix3 1 r s) (ix3 0 r s) rfl fun a => ?_
  match a with
  | ⟨0, _⟩ => rfl
  | ⟨1, _⟩ => exact (Nat.zero_add _).symm
  | ⟨2, _⟩ => exact (Nat.zero_add _).symm

/-- So does the first. -/
theorem read_zero : v.read (Elt Ideal) (v.writes (Elt Ideal) f (⟨Rect.unit ![0, 0, 0] S1x1024x512.size inb0, w0⟩ :: L)) (ix3 0 r s) = w0 (ix3 0 r s) := by
  refine View.read_writes_cons_unit_of_mem (v := v) (f := f) _ _ _ (ix3 0 r s) (ix3 0 r s) rfl fun a => ?_
  match a with
  | ⟨0, _⟩ => rfl
  | ⟨1, _⟩ => exact (Nat.zero_add _).symm
  | ⟨2, _⟩ => exact (Nat.zero_add _).symm

/-- A store to one plane leaves the other. -/
theorem pass_one : v.read (Elt Ideal) (v.writes (Elt Ideal) f (⟨Rect.unit ![1, 0, 0] S1x1024x512.size inb1, w1⟩ :: L)) (ix3 0 r s)
    = v.read (Elt Ideal) (v.writes (Elt Ideal) f L) (ix3 0 r s) :=
  View.read_writes_cons_unit_of_not_mem (v := v) (f := f) _ _ _ (ix3 0 r s) rfl 0 (Or.inl (show 0 < 1 by decide))

theorem pass_zero : v.read (Elt Ideal) (v.writes (Elt Ideal) f (⟨Rect.unit ![0, 0, 0] S1x1024x512.size inb0, w0⟩ :: L)) (ix3 1 r s)
    = v.read (Elt Ideal) (v.writes (Elt Ideal) f L) (ix3 1 r s) :=
  View.read_writes_cons_unit_of_not_mem (v := v) (f := f) _ _ _ (ix3 1 r s) rfl 0 (Or.inr (show 0 + 1 ≤ 1 by decide))

/-- A plane loaded. -/
theorem load_zero : v.readAt (Elt Ideal) (Rect.unit (s := S2x1024x512) ![0, 0, 0] S1x1024x512.size inb0).toLoadRect f (ix3 0 r s)
    = v.read (Elt Ideal) f (ix3 0 r s) := by
  refine congrArg (v.read (Elt Ideal) f) (funext fun a => Fin.ext ?_)
  match a with
  | ⟨0, _⟩ => rfl
  | ⟨1, _⟩ => show 0 + 1 * r.val = r.val; omega
  | ⟨2, _⟩ => show 0 + 1 * s.val = s.val; omega

theorem load_one : v.readAt (Elt Ideal) (Rect.unit (s := S2x1024x512) ![1, 0, 0] S1x1024x512.size inb1).toLoadRect f (ix3 0 r s)
    = v.read (Elt Ideal) f (ix3 1 r s) := by
  refine congrArg (v.read (Elt Ideal) f) (funext fun a => Fin.ext ?_)
  match a with
  | ⟨0, _⟩ => rfl
  | ⟨1, _⟩ => show 0 + 1 * r.val = r.val; omega
  | ⟨2, _⟩ => show 0 + 1 * s.val = s.val; omega

end Planes

section Payloads

variable (x0 x1 : Vec Ideal S2048x1024 .bf16) (w : Vec Ideal S1x1024x512 .f32) (r : Fin 1024) (s : Fin 512)

theorem flat_plane (X : FVec Ideal S1x1024x512 .f32) :
    shapeCast S1024x512 X shapeCasts_S1x1024x512_S1024x512 (ix2 r s) = X (ix3 0 r s) := by
  refine shapeCast_apply X _ (ix2 r s) (ix3 0 r s) ?_
  rw [Shape.rowMajor_val_three, Shape.rowMajor_val_two]
  show (0 * 1024 + r.val) * 512 + s.val = r.val * 512 + s.val
  omega

theorem plane_flat (X : FVec Ideal S1024x512 .f32) :
    shapeCast S1x1024x512 X shapeCasts_S1024x512_S1x1024x512 (ix3 0 r s) = X (ix2 r s) := by
  refine shapeCast_apply X _ (ix3 0 r s) (ix2 r s) ?_
  rw [Shape.rowMajor_val_three, Shape.rowMajor_val_two]
  show r.val * 512 + s.val = (0 * 1024 + r.val) * 512 + s.val
  omega

theorem pay3_apply : k0_pay3 x0 x1 w (ix3 0 r s) = w (ix3 0 r s) + k0_pay2 x0 x1 (ix2 r (column 0 s)) := by
  unfold k0_pay3
  rw [plane_flat, addf_apply, flat_plane]
  refine congrArg₂ (· + ·) rfl (extractStridedSlice_apply _ _ _ (ix2 r s) (ix2 r (column 0 s)) fun b => ?_)
  match b with
  | ⟨0, _⟩ => exact (Nat.zero_add _).symm
  | ⟨1, _⟩ => rfl

theorem pay4_apply : k0_pay4 x0 x1 w (ix3 0 r s) = w (ix3 0 r s) + k0_pay2 x0 x1 (ix2 r (column 1 s)) := by
  unfold k0_pay4
  rw [plane_flat, addf_apply, flat_plane]
  refine congrArg₂ (· + ·) rfl (extractStridedSlice_apply _ _ _ (ix2 r s) (ix2 r (column 1 s)) fun b => ?_)
  match b with
  | ⟨0, _⟩ => exact (Nat.zero_add _).symm
  | ⟨1, _⟩ => rfl

theorem pay1_apply (y : S2x1024x512.Idx) : k0_pay1 (F := Ideal) y = 0 := Ideal.ofBits_zero_f32

/-- The narrow type holds the same numbers. -/
theorem pay5_apply (X : Vec Ideal S2x1024x512 .f32) (y : S2x1024x512.Idx) : k0_pay5 X y = X y := by
  unfold k0_pay5
  rw [shapeCast_self]
  rfl

/-- An element of the product. -/
theorem pay2_apply (q : Fin 1024) : k0_pay2 x0 x1 (ix2 r q) = ∑ k : Fin 2048, x0 (ix2 k r) * x1 (ix2 k q) := by
  unfold k0_pay2
  simp only [shapeCast_self, Ideal.matmul_constant_zero_apply]
  rw [← Equiv.sum_comp (contrEquiv1 dot_S2048x1024_S2048x1024_S1024x1024_0_0_1_1_n_n 2048 rfl rfl).symm]
  refine Finset.sum_congr rfl fun k _ => ?_
  have hk := contrEquiv1_symm_val dot_S2048x1024_S2048x1024_S1024x1024_0_0_1_1_n_n 2048 rfl rfl k
  have el : dot_S2048x1024_S2048x1024_S1024x1024_0_0_1_1_n_n.lhsIdx (ix2 r q)
      ((contrEquiv1 dot_S2048x1024_S2048x1024_S1024x1024_0_0_1_1_n_n 2048 rfl rfl).symm k) = ix2 k r :=
    funext fun a => Fin.ext (match a with
      | ⟨0, _⟩ => hk
      | ⟨1, _⟩ => rfl)
  have er : dot_S2048x1024_S2048x1024_S1024x1024_0_0_1_1_n_n.rhsIdx (ix2 r q)
      ((contrEquiv1 dot_S2048x1024_S2048x1024_S1024x1024_0_0_1_1_n_n 2048 rfl rfl).symm k) = ix2 k q :=
    funext fun a => Fin.ext (match a with
      | ⟨0, _⟩ => hk
      | ⟨1, _⟩ => rfl)
  rw [el, er]

end Payloads

section Body

variable (c : Dev nD) (i : grid0.Coords) (a3 : Memref sig .tc .vmem S2048x1024 .bf16) (h3 : a3.IsWhole)
  (a4 : Memref sig .tc .vmem S2048x1024 .bf16) (h4 : a4.IsWhole) (a5 : Memref sig .tc .vmem S2x1024x512 .f32) (h5 : a5.IsWhole)
  (a6 : Memref sig .tc .vmem S2x1024x512 .bf16) (h6 : a6.IsWhole) (x0 x1 : Vec Ideal S2048x1024 .bf16) (xo : Vec Ideal S2x1024x512 .f32)
  (d : Fin 2) (r : Fin 1024) (s : Fin 512)

/-- The point's operands loaded. -/
theorem load_left : View.readAt (Elt Ideal) a3.view (Rect.unit (s := S2048x1024) ![0, 0] S2048x1024.size inb_S2048x1024_S2048x1024_0_0).toLoadRect (h3.unread x0) = x0 := by
  simp only [View.readAt_eq_ld, h3.read_unread, View.ld_unit_zero (S := S2048x1024) origin]

/-- What two added stores leave, whatever the view, the contents before and the stores under them. -/
theorem read_added {sp : Space} {κ : Kind} (v : View sig κ sp S2x1024x512 .f32) (f : v.ty.Contents (Elt Ideal))
    (L : List (View.Piece (Elt Ideal) S2x1024x512 .f32)) (w0 w1 : Vec Ideal S1x1024x512 .f32)
    (e0 : w0 (ix3 0 r s) = xo (ix3 0 r s)) (e1 : w1 (ix3 0 r s) = xo (ix3 1 r s)) :
    v.read (Elt Ideal) (v.writes (Elt Ideal) f
      (⟨Rect.unit ![1, 0, 0] S1x1024x512.size inb_S2x1024x512_S1x1024x512_1_0_0, k0_pay4 x0 x1 w1⟩
        :: ⟨Rect.unit ![0, 0, 0] S1x1024x512.size inb_S2x1024x512_S1x1024x512_0_0_0, k0_pay3 x0 x1 w0⟩ :: L)) (ix3 d r s)
      = xo (ix3 d r s) + k0_pay2 x0 x1 (ix2 r (column d s)) := by
  match d with
  | 0 => rw [pass_one, read_zero, pay3_apply, e0]
  | 1 => rw [read_one, pay4_apply, e1]

/-- The two stores a point adds, over what its loads of the block read. -/
def stores (w0 w1 : Vec Ideal S1x1024x512 .f32) (L : List (View.Piece (Elt Ideal) S2x1024x512 .f32)) :
    List (View.Piece (Elt Ideal) S2x1024x512 .f32) :=
  ⟨Rect.unit ![1, 0, 0] S1x1024x512.size inb_S2x1024x512_S1x1024x512_1_0_0,
      k0_pay4 (View.readAt (Elt Ideal) a3.view (Rect.unit (s := S2048x1024) ![0, 0] S2048x1024.size inb_S2048x1024_S2048x1024_0_0).toLoadRect (h3.unread x0))
        (View.readAt (Elt Ideal) a4.view (Rect.unit (s := S2048x1024) ![0, 0] S2048x1024.size inb_S2048x1024_S2048x1024_0_0).toLoadRect (h4.unread x1)) w1⟩
    :: ⟨Rect.unit ![0, 0, 0] S1x1024x512.size inb_S2x1024x512_S1x1024x512_0_0_0,
      k0_pay3 (View.readAt (Elt Ideal) a3.view (Rect.unit (s := S2048x1024) ![0, 0] S2048x1024.size inb_S2048x1024_S2048x1024_0_0).toLoadRect (h3.unread x0))
        (View.readAt (Elt Ideal) a4.view (Rect.unit (s := S2048x1024) ![0, 0] S2048x1024.size inb_S2048x1024_S2048x1024_0_0).toLoadRect (h4.unread x1)) w0⟩ :: L

/-- What they leave. -/
theorem read_stores {sp : Space} {κ : Kind} (v : View sig κ sp S2x1024x512 .f32) (f : v.ty.Contents (Elt Ideal))
    (L : List (View.Piece (Elt Ideal) S2x1024x512 .f32)) (w0 w1 : Vec Ideal S1x1024x512 .f32)
    (e0 : w0 (ix3 0 r s) = xo (ix3 0 r s)) (e1 : w1 (ix3 0 r s) = xo (ix3 1 r s)) :
    v.read (Elt Ideal) (v.writes (Elt Ideal) f (stores a3 h3 a4 h4 x0 x1 w0 w1 L)) (ix3 d r s)
      = xo (ix3 d r s) + k0_pay2 x0 x1 (ix2 r (column d s)) := by
  unfold stores
  rw [load_left a3 h3, load_left a4 h4]
  exact read_added x0 x1 xo d r s v f L w0 w1 e0 e1

/-- The planes of the block, loaded after the stores `L`, or from what it held. -/
abbrev plane0 (L : List (View.Piece (Elt Ideal) S2x1024x512 .f32)) : Vec Ideal S1x1024x512 .f32 :=
  a5.view.readCov L (Rect.unit (s := S2x1024x512) ![0, 0, 0] S1x1024x512.size inb_S2x1024x512_S1x1024x512_0_0_0).toLoadRect
abbrev plane1 (L : List (View.Piece (Elt Ideal) S2x1024x512 .f32)) : Vec Ideal S1x1024x512 .f32 :=
  a5.view.readCov L (Rect.unit (s := S2x1024x512) ![1, 0, 0] S1x1024x512.size inb_S2x1024x512_S1x1024x512_1_0_0).toLoadRect
abbrev held0 : Vec Ideal S1x1024x512 .f32 :=
  a5.view.readAt (Elt Ideal) (Rect.unit (s := S2x1024x512) ![0, 0, 0] S1x1024x512.size inb_S2x1024x512_S1x1024x512_0_0_0).toLoadRect (h5.unread xo)
abbrev held1 : Vec Ideal S1x1024x512 .f32 :=
  a5.view.readAt (Elt Ideal) (Rect.unit (s := S2x1024x512) ![1, 0, 0] S1x1024x512.size inb_S2x1024x512_S1x1024x512_1_0_0).toLoadRect (h5.unread xo)

theorem held0_at : held0 a5 h5 xo (ix3 0 r s) = xo (ix3 0 r s) :=
  (load_zero a5.view _ r s _).trans (congrFun (h5.read_unread xo) _)
theorem held1_at : held1 a5 h5 xo (ix3 0 r s) = xo (ix3 1 r s) :=
  (load_one a5.view _ r s _).trans (congrFun (h5.read_unread xo) _)

/-- A later point's stores. -/
theorem pieces_later (hc0 : ¬cond0_0 i) (hc1 : ¬cond0_1 i) :
    (kernelRun0_B c i a3 h3 a4 h4 a5 h5 a6 h6 hc0 hc1 x0 x1 xo).1 = stores a3 h3 a4 h4 x0 x1 (held0 a5 h5 xo) (held1 a5 h5 xo) [] := rfl

/-- The last's. -/
theorem pieces_last (hc0 : ¬cond0_0 i) (hc1 : cond0_1 i) :
    (kernelRun0_C c i a3 h3 a4 h4 a5 h5 a6 h6 hc0 hc1 x0 x1 xo).1 = stores a3 h3 a4 h4 x0 x1 (held0 a5 h5 xo) (held1 a5 h5 xo) [] := rfl

theorem pieces_narrow (hc0 : ¬cond0_0 i) (hc1 : cond0_1 i) :
    (kernelRun0_C c i a3 h3 a4 h4 a5 h5 a6 h6 hc0 hc1 x0 x1 xo).2.1
      = [⟨Rect.unit ![0, 0, 0] S2x1024x512.size inb_S2x1024x512_S2x1024x512_0_0_0,
          k0_pay5 (a5.view.readCov (stores a3 h3 a4 h4 x0 x1 (held0 a5 h5 xo) (held1 a5 h5 xo) [])
            (Rect.unit (s := S2x1024x512) ![0, 0, 0] S2x1024x512.size inb_S2x1024x512_S2x1024x512_0_0_0).toLoadRect)⟩] := rfl

/-- The first point's store of zeros. -/
abbrev zeros : List (View.Piece (Elt Ideal) S2x1024x512 .f32) :=
  [⟨Rect.unit ![0, 0, 0] S2x1024x512.size inb_S2x1024x512_S2x1024x512_0_0_0, k0_pay1 (F := Ideal)⟩]

/-- And its stores after it. -/
theorem pieces_first (hc0 : cond0_0 i) (hc1 : ¬cond0_1 i) :
    (kernelRun0_A c i a3 h3 a4 h4 a5 h5 a6 h6 hc0 hc1 x0 x1).1
      = stores a3 h3 a4 h4 x0 x1 (plane0 a5 zeros)
          (plane1 a5 (⟨Rect.unit ![0, 0, 0] S1x1024x512.size inb_S2x1024x512_S1x1024x512_0_0_0,
            k0_pay3 (View.readAt (Elt Ideal) a3.view (Rect.unit (s := S2048x1024) ![0, 0] S2048x1024.size inb_S2048x1024_S2048x1024_0_0).toLoadRect (h3.unread x0))
              (View.readAt (Elt Ideal) a4.view (Rect.unit (s := S2048x1024) ![0, 0] S2048x1024.size inb_S2048x1024_S2048x1024_0_0).toLoadRect (h4.unread x1))
              (plane0 a5 zeros)⟩ :: zeros)) zeros := rfl

/-- A later point adds its product to what the block holds. -/
theorem out_later (hc0 : ¬cond0_0 i) (hc1 : ¬cond0_1 i) :
    out0_B_2 c i a3 h3 a4 h4 a5 h5 a6 h6 hc0 hc1 x0 x1 xo (ix3 d r s) = xo (ix3 d r s) + k0_pay2 x0 x1 (ix2 r (column d s)) := by
  unfold out0_B_2
  rw [pieces_later]
  exact read_stores a3 h3 a4 h4 x0 x1 xo d r s VO0_2 _ _ _ _ (held0_at a5 h5 xo r s) (held1_at a5 h5 xo r s)

/-- So does the last. -/
theorem out_last (hc0 : ¬cond0_0 i) (hc1 : cond0_1 i) :
    out0_C_2 c i a3 h3 a4 h4 a5 h5 a6 h6 hc0 hc1 x0 x1 xo (ix3 d r s) = xo (ix3 d r s) + k0_pay2 x0 x1 (ix2 r (column d s)) := by
  unfold out0_C_2
  rw [pieces_last]
  exact read_stores a3 h3 a4 h4 x0 x1 xo d r s VO0_2 _ _ _ _ (held0_at a5 h5 xo r s) (held1_at a5 h5 xo r s)

/-- The last also leaves the sum in the narrow type. -/
theorem narrow_last (hc0 : ¬cond0_0 i) (hc1 : cond0_1 i) :
    out0_C_3 c i a3 h3 a4 h4 a5 h5 a6 h6 hc0 hc1 x0 x1 xo (ix3 d r s) = xo (ix3 d r s) + k0_pay2 x0 x1 (ix2 r (column d s)) := by
  unfold out0_C_3
  rw [pieces_narrow]
  refine (congrFun (View.read_writes_full VO0_3 VO0_3.junk _ _ []) _).trans ?_
  rw [pay5_apply]
  unfold View.readCov
  rw [View.readAt_full]
  exact read_stores a3 h3 a4 h4 x0 x1 xo d r s a5.view _ _ _ _ (held0_at a5 h5 xo r s) (held1_at a5 h5 xo r s)

/-- The first adds its product to zero. -/
theorem out_first (hc0 : cond0_0 i) (hc1 : ¬cond0_1 i) :
    out0_A_2 c i a3 h3 a4 h4 a5 h5 a6 h6 hc0 hc1 x0 x1 (ix3 d r s) = 0 + k0_pay2 x0 x1 (ix2 r (column d s)) := by
  unfold out0_A_2
  rw [pieces_first]
  refine (read_stores a3 h3 a4 h4 x0 x1 (k0_pay1 (F := Ideal)) d r s VO0_2 _ _ _ _ ?_ ?_).trans ?_
  · exact (load_zero a5.view _ r s _).trans (congrFun (View.read_writes_full a5.view _ _ _ _) (ix3 0 r s))
  · exact (load_one a5.view _ r s _).trans ((pass_zero a5.view _ _ _ r s _).trans
      (congrFun (View.read_writes_full a5.view _ _ _ _) (ix3 1 r s)))
  · rw [pay1_apply]

end Body

variable (m : (ℓ : Loc nD τ sig) → Buf (Elt Ideal) ℓ) (c : Dev nD)

/-- Where every window's block begins. -/
theorem idx_at : ∀ t : Fin cfg0.N,
    win0_0.index t = ![t.val % 8, 0] ∧ win0_1.index t = ![t.val % 8, t.val / 8]
      ∧ win0_2.index t = ![t.val / 8, 0, 0] ∧ win0_3.index t = ![t.val / 8, 0, 0] :=
  (by decide +kernel : ∀ t : Fin grid0.N, _)

/-- The two operands, by row and column. -/
def left (k i : ℕ) : EReal := (V m c main_v0 : Vec Ideal S16384x1024 .bf16) (ix2 ⟨k % 16384, Nat.mod_lt _ (by decide)⟩ ⟨i % 1024, Nat.mod_lt _ (by decide)⟩)
def right (k q : ℕ) : EReal := (V m c main_v1 : Vec Ideal S16384x4096 .bf16) (ix2 ⟨k % 16384, Nat.mod_lt _ (by decide)⟩ ⟨q % 4096, Nat.mod_lt _ (by decide)⟩)

/-- What row `k` adds to an element of the gradient. -/
def term (i q k : ℕ) : EReal := left m c k i * right m c k q

/-- The point's rows of the first operand, and of the second. -/
def block0 (t : Fin cfg0.N) : Vec Ideal S2048x1024 .bf16 := iblk m c 0 t
def block1 (t : Fin cfg0.N) : Vec Ideal S2048x1024 .bf16 := iblk m c 1 t

theorem block0_at (t : Fin cfg0.N) (k : Fin 2048) (r : Fin 1024) :
    block0 m c t (ix2 k r) = left m c (2048 * (t.val % 8) + k) r := by
  have e := (idx_at t).1
  have ht : t.val < 32 := t.isLt
  have hk := k.isLt
  unfold block0 left
  blk_simp [iblk]
  refine congrArg _ (funext fun d => Fin.ext ?_)
  match d with
  | ⟨0, _⟩ =>
    refine (Pipeline.Window.rect_emb_val win0_0 t _ 0).trans ?_; rw [e]
    refine (at_block rfl rfl rfl).trans (Nat.mod_eq_of_lt (show 2048 * (t.val % 8) + k.val < 16384 by omega)).symm
  | ⟨1, _⟩ =>
    refine (Pipeline.Window.rect_emb_val win0_0 t _ 1).trans ?_; rw [e]
    exact (at_zero rfl rfl).trans (Nat.mod_eq_of_lt r.isLt).symm

theorem block1_at (t : Fin cfg0.N) (k : Fin 2048) (q : Fin 1024) :
    block1 m c t (ix2 k q) = right m c (2048 * (t.val % 8) + k) (1024 * (t.val / 8) + q) := by
  have e := (idx_at t).2.1
  have ht : t.val < 32 := t.isLt
  have hk := k.isLt
  have hq := q.isLt
  unfold block1 right
  blk_simp [iblk]
  refine congrArg _ (funext fun d => Fin.ext ?_)
  match d with
  | ⟨0, _⟩ =>
    refine (Pipeline.Window.rect_emb_val win0_1 t _ 0).trans ?_; rw [e]
    refine (at_block rfl rfl rfl).trans (Nat.mod_eq_of_lt (show 2048 * (t.val % 8) + k.val < 16384 by omega)).symm
  | ⟨1, _⟩ =>
    refine (Pipeline.Window.rect_emb_val win0_1 t _ 1).trans ?_; rw [e]
    refine (at_block rfl rfl rfl).trans (Nat.mod_eq_of_lt (show 1024 * (t.val / 8) + q.val < 4096 by omega)).symm

/-- A point's product. -/
theorem point_sum (t : Fin cfg0.N) (d : Fin 2) (r : Fin 1024) (s : Fin 512) :
    k0_pay2 (block0 m c t) (block1 m c t) (ix2 r (column d s))
      = ∑ k : Fin 2048, term m c r (512 * (2 * (t.val / 8) + d.val) + s) (2048 * (t.val % 8) + k) := by
  rw [pay2_apply]
  refine Finset.sum_congr rfl fun k _ => ?_
  rw [block0_at, block1_at, term, show 512 * (2 * (t.val / 8) + d.val) + s.val = 1024 * (t.val / 8) + (column d s).val by
    show _ = 1024 * (t.val / 8) + (512 * d.val + s.val); omega]

/-- What the block holds after a point: the rows of its points so far. -/
theorem held (n : ℕ) : ∀ (t : Fin cfg0.N), t.val = n → ∀ (d : Fin 2) (r : Fin 1024) (s : Fin 512),
    (outsAt0 m c t.val t.isLt).1 (ix3 d r s)
      = ∑ k ∈ range (2048 * (t.val % 8 + 1)), term m c r (512 * (2 * (t.val / 8) + d.val) + s) k := by
  induction n with
  | zero =>
    intro t ht d r s
    rw [outsAt0_A m c t (by omega) (by omega)]
    dsimp only
    rw [out_first]
    refine (congrArg (0 + ·) (point_sum m c t d r s)).trans ?_
    rw [show t.val % 8 = 0 by omega]
    exact first_rows _
  | succ n ih =>
    intro t ht d r s
    by_cases h0 : t.val % 8 = 0
    · rw [outsAt0_A m c t h0 (by omega)]
      dsimp only
      rw [out_first]
      refine (congrArg (0 + ·) (point_sum m c t d r s)).trans ?_
      rw [h0]
      exact first_rows _
    · have before := ih ⟨t.val - 1, Nat.lt_of_le_of_lt (Nat.sub_le _ _) t.isLt⟩ (by show t.val - 1 = n; omega) d r s
      dsimp only at before
      rw [show (t.val - 1) % 8 + 1 = t.val % 8 by omega, show (t.val - 1) / 8 = t.val / 8 by omega] at before
      have step : (outsAt0 m c (t.val - 1) (Nat.lt_of_le_of_lt (Nat.sub_le _ _) t.isLt)).1 (ix3 d r s)
            + k0_pay2 (block0 m c t) (block1 m c t) (ix2 r (column d s))
          = ∑ k ∈ range (2048 * (t.val % 8 + 1)), term m c r (512 * (2 * (t.val / 8) + d.val) + s) k := by
        rw [point_sum, before]
        exact more_rows _ _
      by_cases h1 : t.val % 8 = 7
      · rw [outsAt0_C m c t h0 h1]
        dsimp only
        rw [out_last]
        exact step
      · rw [outsAt0_B m c t h0 h1]
        dsimp only
        rw [out_later]
        exact step

/-- At the last of a block's points the narrow block holds the same. -/
theorem held_narrow (t : Fin cfg0.N) (h1 : t.val % 8 = 7) (d : Fin 2) (r : Fin 1024) (s : Fin 512) :
    (outsAt0 m c t.val t.isLt).2 (ix3 d r s) = (outsAt0 m c t.val t.isLt).1 (ix3 d r s) := by
  rw [outsAt0_C m c t (by omega) h1]
  dsimp only
  rw [out_last, narrow_last]

/-- The gradient, a plane for each device. -/
def grad : Vec Ideal S8x1024x512 .f32 := fun y => ∑ k : Fin 16384, term m c (y 1).val (512 * (y 0).val + (y 2).val) k

theorem grad_of {y : S8x1024x512.Idx} {p i s : ℕ} (h0 : (y 0).val = p) (h1 : (y 1).val = i) (h2 : (y 2).val = s) :
    grad m c y = ∑ k ∈ range (2048 * (7 + 1)), term m c i (512 * p + s) k := by
  unfold grad
  rw [h0, h1, h2, all_rows]

theorem only_planes (y : S2x1024x512.Idx) : y = ix3 (y 0) (y 1) (y 2) := by
  funext d
  match d with
  | ⟨0, _⟩ => rfl
  | ⟨1, _⟩ => rfl
  | ⟨2, _⟩ => rfl

theorem final_wide : (dats m 0 c).arrAt 2 cfg0.N = grad m c := by
  refine Dat.arrAt_eq_of_covers (dats m 0 c) 2 (grad m c) (by decide +kernel) fun t ht y => ?_
  have h7 := (flush0_2 t).mp ht
  have e := (idx_at t).2.2.1
  blk_simp
  rw [after0_2]
  refine Eq.trans ?_ ((held m c t.val t rfl (y 0) (y 1) (y 2)).trans ?_)
  · exact congrArg _ (only_planes y)
  · rw [h7]
    refine (grad_of m c ?_ ?_ ?_).symm
    · refine (Pipeline.Window.rect_emb_val win0_2 t _ 0).trans ?_; rw [e]; exact at_block rfl rfl rfl
    · refine (Pipeline.Window.rect_emb_val win0_2 t _ 1).trans ?_; rw [e]; exact at_zero rfl rfl
    · refine (Pipeline.Window.rect_emb_val win0_2 t _ 2).trans ?_; rw [e]; exact at_zero rfl rfl

theorem final_narrow : (dats m 0 c).arrAt 3 cfg0.N = grad m c := by
  refine Dat.arrAt_eq_of_covers (dats m 0 c) 3 (grad m c) (by decide +kernel) fun t ht y => ?_
  have h7 := (flush0_3 t).mp ht
  have e := (idx_at t).2.2.2
  blk_simp
  rw [after0_3]
  refine Eq.trans ?_ ((held_narrow m c t h7 (y 0) (y 1) (y 2)).trans ((held m c t.val t rfl (y 0) (y 1) (y 2)).trans ?_))
  · exact congrArg _ (only_planes y)
  · rw [h7]
    refine (grad_of m c ?_ ?_ ?_).symm
    · refine (Pipeline.Window.rect_emb_val win0_3 t _ 0).trans ?_; rw [e]; exact at_block rfl rfl rfl
    · refine (Pipeline.Window.rect_emb_val win0_3 t _ 1).trans ?_; rw [e]; exact at_zero rfl rfl
    · refine (Pipeline.Window.rect_emb_val win0_3 t _ 2).trans ?_; rw [e]; exact at_zero rfl rfl

end Cert.GradFf1Ideal.Hand
end
-- ==== Proof.WG.FirstSame.lean ====
/-
  The first weight's gradient is the reference's, in the layout by device.
-/
module

public import proofs.«01_k».proof.Proof.WG.First
public import proofs.«01_k».proof.Proof.Gen.Ff1ReferenceIdeal.Read

@[expose] public section

set_option maxRecDepth 16384

noncomputable section

namespace Cert.GradFf1Ideal.Hand

open Cert.GradFf1Ideal Cert.GradFf1Ideal.Gen
open Cert.Ff1ReferenceIdeal.Read
open Idealize.ShloMosaic hiding ix2 ix3 ix4 eq_ix3 eq_ix4
open Idealize.ShloMosaic.TcCoe Idealize.ShloMosaic.ValueIdx

variable (m : (ℓ : Loc nD τ sig) → Buf (Elt Ideal) ℓ) (c : Dev nD)

/-- The MLP's input, and the cotangents of its first product. -/
abbrev input : FVec Ideal S16384x1024 .f32 := m (c.tc.loc main_arg0)
abbrev cotangents : FVec Ideal S16384x4096 .f32 := m (c.tc.loc main_arg1)

theorem read_left : V m c main_v0 = truncf (F := Ideal) .bf16 (input m c) bitsLt_bf16_f32 := by
  show StableHlo.after (List.flatten [hostOps0]) (fun b => m (c, b)) _ = _
  simp only [hostOps0, List.flatten_cons, List.flatten_nil, List.append_nil]
  after_results_simp

theorem read_right : V m c main_v1 = truncf (F := Ideal) .bf16 (cotangents m c) bitsLt_bf16_f32 := by
  show StableHlo.after (List.flatten [hostOps0]) (fun b => m (c, b)) _ = _
  simp only [hostOps0, List.flatten_cons, List.flatten_nil, List.append_nil]
  after_results_simp

theorem left_at (i : S16384x1024.Idx) {k a : ℕ} (h0 : k = (i 0).val) (h1 : a = (i 1).val) : left m c k a = input m c i := by
  subst h0; subst h1
  unfold left
  rw [read_left]
  refine congrArg (input m c) ?_
  funext d
  match d with
  | ⟨0, _⟩ => exact Fin.ext (Nat.mod_eq_of_lt (i 0).isLt)
  | ⟨1, _⟩ => exact Fin.ext (Nat.mod_eq_of_lt (i 1).isLt)

theorem right_at (i : S16384x4096.Idx) {k a : ℕ} (h0 : k = (i 0).val) (h1 : a = (i 1).val) : right m c k a = cotangents m c i := by
  subst h0; subst h1
  unfold right
  rw [read_right]
  refine congrArg (cotangents m c) ?_
  funext d
  match d with
  | ⟨0, _⟩ => exact Fin.ext (Nat.mod_eq_of_lt (i 0).isLt)
  | ⟨1, _⟩ => exact Fin.ext (Nat.mod_eq_of_lt (i 1).isLt)

theorem same : grad m c = val_main_v5 (F := Ideal) (input m c) (cotangents m c) := by
  funext y
  have h0 : (y 0).val < 8 := (y 0).isLt
  have h1 : (y 1).val < 1024 := (y 1).isLt
  have h2 : (y 2).val < 512 := (y 2).isLt
  rw [val_main_v5_apply, val_main_v4_apply, val_main_v3_apply, val_main_v2_apply]
  refine Finset.sum_congr rfl fun k _ => ?_
  unfold term
  rw [left_at m c (ridx_main_v2 (idx_main_v3 (idx_main_v4 (idx_main_v5 y))) k) rfl
      (by show (y 1).val = (((y 1).val * 8 + (y 0).val) * 512 + (y 2).val) / 4096; omega),
    right_at m c (lidx_main_v2 (idx_main_v3 (idx_main_v4 (idx_main_v5 y))) k) rfl
      (by show 512 * (y 0).val + (y 2).val = (((y 1).val * 8 + (y 0).val) * 512 + (y 2).val) % 4096; omega)]
  exact mul_comm _ _

theorem end_wide : (dats m 0 c).arrAt 2 cfg0.N = val_main_v5 (F := Ideal) (input m c) (cotangents m c) :=
  (final_wide m c).trans (same m c)

theorem end_narrow : (dats m 0 c).arrAt 3 cfg0.N = val_main_v6 (F := Ideal) (input m c) (cotangents m c) :=
  (final_narrow m c).trans (same m c)

end Cert.GradFf1Ideal.Hand
end
-- ==== Proof.WG.In.lean ====
/-
  The gradient of the projections' joint weight: every point of the grid adds 2048 rows of a product, and after the eighth the
  block is the product over all the rows, which is the reference's gradient.
-/
module

public import proofs.«01_k».proof.Proof.WG.Sum
public import proofs.«01_k».proof.Proof.V.Blocks
public import proofs.«01_k».proof.Proof.Gen.GradInIdeal.Value
public import proofs.«01_k».proof.Proof.Gen.InReferenceIdeal.Read
public import Idealize.ShloMosaic.Lib.Pipeline.ValueKit
public import Idealize.ShloMosaic.Lib.ValueIdx

@[expose] public section

set_option maxRecDepth 16384

noncomputable section

namespace Cert.GradInIdeal.Hand

open Cert.GradInIdeal Cert.GradInIdeal.Gen Cert.WeightGrad Finset
open Cert.InReferenceIdeal.Read
open Cert.KernelIdeal.Hand (at_zero at_block)
open Idealize.ShloMosaic hiding ix2 ix3 ix4 eq_ix3 eq_ix4
open Idealize.ShloMosaic.TcCoe Idealize.ShloMosaic.ValueIdx
open Idealize.ShloMosaic.Pipeline (Dat)

theorem pay1_apply (r : Fin 1024) (s : Fin 1664) : k0_pay1 (F := Ideal) (ix2 r s) = 0 := Ideal.ofBits_zero_f32

/-- An element of the sum. -/
theorem pay2_apply (x0 : Vec Ideal S2048x1024 .bf16) (x1 : Vec Ideal S2048x1664 .bf16) (xo : Vec Ideal S1024x1664 .f32)
    (r : Fin 1024) (s : Fin 1664) :
    k0_pay2 x0 x1 xo (ix2 r s) = xo (ix2 r s) + ∑ k : Fin 2048, x0 (ix2 k r) * x1 (ix2 k s) := by
  unfold k0_pay2
  simp only [shapeCast_self, addf_apply, Ideal.matmul_constant_zero_apply]
  rw [← Equiv.sum_comp (contrEquiv1 dot_S2048x1024_S2048x1664_S1024x1664_0_0_1_1_n_n 2048 rfl rfl).symm]
  refine congrArg₂ (· + ·) rfl (Finset.sum_congr rfl fun k _ => ?_)
  have hk := contrEquiv1_symm_val dot_S2048x1024_S2048x1664_S1024x1664_0_0_1_1_n_n 2048 rfl rfl k
  have el : dot_S2048x1024_S2048x1664_S1024x1664_0_0_1_1_n_n.lhsIdx (ix2 r s)
      ((contrEquiv1 dot_S2048x1024_S2048x1664_S1024x1664_0_0_1_1_n_n 2048 rfl rfl).symm k) = ix2 k r :=
    funext fun a => Fin.ext (match a with
      | ⟨0, _⟩ => hk
      | ⟨1, _⟩ => rfl)
  have er : dot_S2048x1024_S2048x1664_S1024x1664_0_0_1_1_n_n.rhsIdx (ix2 r s)
      ((contrEquiv1 dot_S2048x1024_S2048x1664_S1024x1664_0_0_1_1_n_n 2048 rfl rfl).symm k) = ix2 k s :=
    funext fun a => Fin.ext (match a with
      | ⟨0, _⟩ => hk
      | ⟨1, _⟩ => rfl)
  rw [el, er]

variable (m : (ℓ : Loc nD τ sig) → Buf (Elt Ideal) ℓ) (c : Dev nD)

/-- Where every window's block begins. -/
theorem idx_at : ∀ t : Fin cfg0.N,
    win0_0.index t = ![t.val % 8, 0] ∧ win0_1.index t = ![t.val % 8, t.val / 8] ∧ win0_2.index t = ![0, t.val / 8] :=
  (by decide +kernel : ∀ t : Fin grid0.N, _)

/-- The two operands, by row and column. -/
def left (k i : ℕ) : EReal := (V m c main_v0 : Vec Ideal S16384x1024 .bf16) (ix2 ⟨k % 16384, Nat.mod_lt _ (by decide)⟩ ⟨i % 1024, Nat.mod_lt _ (by decide)⟩)
def right (k s : ℕ) : EReal := (V m c main_v1 : Vec Ideal S16384x3328 .bf16) (ix2 ⟨k % 16384, Nat.mod_lt _ (by decide)⟩ ⟨s % 3328, Nat.mod_lt _ (by decide)⟩)

/-- What row `k` adds to an element of the gradient. -/
def term (i s k : ℕ) : EReal := left m c k i * right m c k s

/-- The point's rows of the first operand, and of the second. -/
def block0 (t : Fin cfg0.N) : Vec Ideal S2048x1024 .bf16 := iblk m c 0 t
def block1 (t : Fin cfg0.N) : Vec Ideal S2048x1664 .bf16 := iblk m c 1 t

theorem block0_at (t : Fin cfg0.N) (k : Fin 2048) (r : Fin 1024) :
    block0 m c t (ix2 k r) = left m c (2048 * (t.val % 8) + k) r := by
  have e := (idx_at t).1
  have ht : t.val < 16 := t.isLt
  have hk := k.isLt
  unfold block0 left
  blk_simp [iblk]
  refine congrArg _ (funext fun d => Fin.ext ?_)
  match d with
  | ⟨0, _⟩ =>
    refine (Pipeline.Window.rect_emb_val win0_0 t _ 0).trans ?_; rw [e]
    refine (at_block rfl rfl rfl).trans (Nat.mod_eq_of_lt (show 2048 * (t.val % 8) + k.val < 16384 by omega)).symm
  | ⟨1, _⟩ =>
    refine (Pipeline.Window.rect_emb_val win0_0 t _ 1).trans ?_; rw [e]
    exact (at_zero rfl rfl).trans (Nat.mod_eq_of_lt r.isLt).symm

theorem block1_at (t : Fin cfg0.N) (k : Fin 2048) (s : Fin 1664) :
    block1 m c t (ix2 k s) = right m c (2048 * (t.val % 8) + k) (1664 * (t.val / 8) + s) := by
  have e := (idx_at t).2.1
  have ht : t.val < 16 := t.isLt
  have hk := k.isLt
  have hs := s.isLt
  unfold block1 right
  blk_simp [iblk]
  refine congrArg _ (funext fun d => Fin.ext ?_)
  match d with
  | ⟨0, _⟩ =>
    refine (Pipeline.Window.rect_emb_val win0_1 t _ 0).trans ?_; rw [e]
    refine (at_block rfl rfl rfl).trans (Nat.mod_eq_of_lt (show 2048 * (t.val % 8) + k.val < 16384 by omega)).symm
  | ⟨1, _⟩ =>
    refine (Pipeline.Window.rect_emb_val win0_1 t _ 1).trans ?_; rw [e]
    refine (at_block rfl rfl rfl).trans (Nat.mod_eq_of_lt (show 1664 * (t.val / 8) + s.val < 3328 by omega)).symm

/-- A point's rows, added. -/
theorem point_sum (t : Fin cfg0.N) (xo : Vec Ideal S1024x1664 .f32) (r : Fin 1024) (s : Fin 1664) :
    k0_pay2 (block0 m c t) (block1 m c t) xo (ix2 r s)
      = xo (ix2 r s) + ∑ k : Fin 2048, term m c r (1664 * (t.val / 8) + s) (2048 * (t.val % 8) + k) := by
  rw [pay2_apply]
  refine congrArg₂ (· + ·) rfl (Finset.sum_congr rfl fun k _ => ?_)
  rw [block0_at, block1_at, term]

/-- What the block holds after a point: the rows of its points so far. -/
theorem held (n : ℕ) : ∀ (t : Fin cfg0.N), t.val = n → ∀ (r : Fin 1024) (s : Fin 1664),
    outsAt0 m c t.val t.isLt (ix2 r s) = ∑ k ∈ range (2048 * (t.val % 8 + 1)), term m c r (1664 * (t.val / 8) + s) k := by
  induction n with
  | zero =>
    intro t ht r s
    rw [outsAt0_A m c t (by omega), Value.out_A_2_eq]
    refine (point_sum m c t _ r s).trans ?_
    rw [pay1_apply, show t.val % 8 = 0 by omega]
    exact first_rows _
  | succ n ih =>
    intro t ht r s
    by_cases h0 : t.val % 8 = 0
    · rw [outsAt0_A m c t h0, Value.out_A_2_eq]
      refine (point_sum m c t _ r s).trans ?_
      rw [pay1_apply, h0]
      exact first_rows _
    · have before := ih ⟨t.val - 1, Nat.lt_of_le_of_lt (Nat.sub_le _ _) t.isLt⟩ (by show t.val - 1 = n; omega) r s
      dsimp only at before
      rw [show (t.val - 1) % 8 + 1 = t.val % 8 by omega, show (t.val - 1) / 8 = t.val / 8 by omega] at before
      rw [outsAt0_B m c t h0, Value.out_B_2_eq]
      refine (point_sum m c t _ r s).trans ?_
      rw [before]
      exact more_rows _ _

/-- The gradient. -/
def grad : Vec Ideal S1024x3328 .f32 := fun y => ∑ k : Fin 16384, term m c (y 0).val (y 1).val k

theorem grad_of {y : S1024x3328.Idx} {i s : ℕ} (h0 : (y 0).val = i) (h1 : (y 1).val = s) :
    grad m c y = ∑ k ∈ range (2048 * (7 + 1)), term m c i s k := by
  unfold grad
  rw [h0, h1, all_rows]

theorem final_grad : (dats m 0 c).arrAt 2 cfg0.N = grad m c := by
  refine Dat.arrAt_eq_of_covers (dats m 0 c) 2 (grad m c) (by decide +kernel) fun t ht y => ?_
  have h7 := (flush0_2 t).mp ht
  have e := (idx_at t).2.2
  blk_simp
  rw [after0_2]
  have hy : y = ix2 (y 0) (y 1) := by
    funext d
    match d with
    | ⟨0, _⟩ => rfl
    | ⟨1, _⟩ => rfl
  refine Eq.trans ?_ ((held m c t.val t rfl (y 0) (y 1)).trans ?_)
  · exact congrArg _ hy
  · rw [h7]
    refine (grad_of m c ?_ ?_).symm
    · refine (Pipeline.Window.rect_emb_val win0_2 t _ 0).trans ?_; rw [e]; exact at_zero rfl rfl
    · refine (Pipeline.Window.rect_emb_val win0_2 t _ 1).trans ?_; rw [e]; exact at_block rfl rfl rfl

/-- The normalised input, and the cotangents of the projections. -/
abbrev input : FVec Ideal S16384x1024 .f32 := m (c.tc.loc main_arg0)
abbrev cotangents : FVec Ideal S16384x3328 .f32 := m (c.tc.loc main_arg1)

theorem read_left : V m c main_v0 = truncf (F := Ideal) .bf16 (input m c) bitsLt_bf16_f32 := by
  show StableHlo.after (List.flatten [hostOps0]) (fun b => m (c, b)) _ = _
  simp only [hostOps0, List.flatten_cons, List.flatten_nil, List.append_nil]
  after_results_simp

theorem read_right : V m c main_v1 = truncf (F := Ideal) .bf16 (cotangents m c) bitsLt_bf16_f32 := by
  show StableHlo.after (List.flatten [hostOps0]) (fun b => m (c, b)) _ = _
  simp only [hostOps0, List.flatten_cons, List.flatten_nil, List.append_nil]
  after_results_simp

theorem left_at (i : S16384x1024.Idx) : left m c (i 0).val (i 1).val = input m c i := by
  unfold left
  rw [read_left]
  refine congrArg (input m c) ?_
  funext d
  match d with
  | ⟨0, _⟩ => exact Fin.ext (Nat.mod_eq_of_lt (i 0).isLt)
  | ⟨1, _⟩ => exact Fin.ext (Nat.mod_eq_of_lt (i 1).isLt)

theorem right_at (i : S16384x3328.Idx) : right m c (i 0).val (i 1).val = cotangents m c i := by
  unfold right
  rw [read_right]
  refine congrArg (cotangents m c) ?_
  funext d
  match d with
  | ⟨0, _⟩ => exact Fin.ext (Nat.mod_eq_of_lt (i 0).isLt)
  | ⟨1, _⟩ => exact Fin.ext (Nat.mod_eq_of_lt (i 1).isLt)

/-- The array ends as the reference's gradient. -/
theorem end_grad : (dats m 0 c).arrAt 2 cfg0.N = val_main_v3 (F := Ideal) (input m c) (cotangents m c) := by
  rw [final_grad]
  funext y
  rw [val_main_v3_apply, val_main_v2_apply]
  refine Finset.sum_congr rfl fun k _ => ?_
  rw [← left_at, ← right_at]
  exact mul_comm _ _

end Cert.GradInIdeal.Hand
end
-- ==== Proof.MG.Half.lean ====
/-
  The merge of the two branches, at one point of the grid. A point's 512 rows are worked as two halves of 256 rows by the same text;
  what each half leaves in a row is stated of the rows the point is given.
-/
module

public import proofs.«01_k».proof.Proof.Gen.MergeIdeal.Value
public import Idealize.ShloMosaic.Lib.Pipeline.ValueKit
public import Idealize.ShloMosaic.Lib.ValueIdx

@[expose] public section

set_option maxRecDepth 16384

noncomputable section

namespace Cert.MergeIdeal.Hand

open Cert.MergeIdeal Cert.MergeIdeal.Gen
open Idealize.ShloMosaic hiding ix1 ix2 ix3 ix4 eq_ix3 eq_ix4
open Idealize.ShloMosaic.TcCoe Idealize.ShloMosaic.ValueIdx

/-! ## A product of rows -/

/-- A row of 1024 numbers through a square matrix. -/
theorem square_apply (v : FVec Ideal S256x1024 .bf16) (w : FVec Ideal S1024x1024 .bf16) (r : Fin 256) (s : Fin 1024) :
    matmul dot_S256x1024_S1024x1024_S256x1024_1_0_0_1_n_n none v w (constant (F := Ideal) S256x1024 .f32 0x00000000#32) (ix2 r s)
      = ∑ k : Fin 1024, v (ix2 r k) * w (ix2 k s) := by
  simp only [Ideal.matmul_constant_zero_apply]
  rw [← Equiv.sum_comp (contrEquiv1 dot_S256x1024_S1024x1024_S256x1024_1_0_0_1_n_n 1024 rfl rfl).symm]
  refine Finset.sum_congr rfl fun k _ => ?_
  have hk := contrEquiv1_symm_val dot_S256x1024_S1024x1024_S256x1024_1_0_0_1_n_n 1024 rfl rfl k
  have el : dot_S256x1024_S1024x1024_S256x1024_1_0_0_1_n_n.lhsIdx (ix2 r s)
      ((contrEquiv1 dot_S256x1024_S1024x1024_S256x1024_1_0_0_1_n_n 1024 rfl rfl).symm k) = ix2 r k :=
    funext fun a => Fin.ext (match a with
      | ⟨0, _⟩ => rfl
      | ⟨1, _⟩ => hk)
  have er : dot_S256x1024_S1024x1024_S256x1024_1_0_0_1_n_n.rhsIdx (ix2 r s)
      ((contrEquiv1 dot_S256x1024_S1024x1024_S256x1024_1_0_0_1_n_n 1024 rfl rfl).symm k) = ix2 k s :=
    funext fun a => Fin.ext (match a with
      | ⟨0, _⟩ => hk
      | ⟨1, _⟩ => rfl)
  rw [el, er]

/-- A row of 512 numbers through a matrix. -/
theorem wide_apply (v : FVec Ideal S256x512 .bf16) (w : FVec Ideal S512x1024 .bf16) (r : Fin 256) (s : Fin 1024) :
    matmul dot_S256x512_S512x1024_S256x1024_1_0_0_1_n_n none v w (constant (F := Ideal) S256x1024 .f32 0x00000000#32) (ix2 r s)
      = ∑ k : Fin 512, v (ix2 r k) * w (ix2 k s) := by
  simp only [Ideal.matmul_constant_zero_apply]
  rw [← Equiv.sum_comp (contrEquiv1 dot_S256x512_S512x1024_S256x1024_1_0_0_1_n_n 512 rfl rfl).symm]
  refine Finset.sum_congr rfl fun k _ => ?_
  have hk := contrEquiv1_symm_val dot_S256x512_S512x1024_S256x1024_1_0_0_1_n_n 512 rfl rfl k
  have el : dot_S256x512_S512x1024_S256x1024_1_0_0_1_n_n.lhsIdx (ix2 r s)
      ((contrEquiv1 dot_S256x512_S512x1024_S256x1024_1_0_0_1_n_n 512 rfl rfl).symm k) = ix2 r k :=
    funext fun a => Fin.ext (match a with
      | ⟨0, _⟩ => rfl
      | ⟨1, _⟩ => hk)
  have er : dot_S256x512_S512x1024_S256x1024_1_0_0_1_n_n.rhsIdx (ix2 r s)
      ((contrEquiv1 dot_S256x512_S512x1024_S256x1024_1_0_0_1_n_n 512 rfl rfl).symm k) = ix2 k s :=
    funext fun a => Fin.ext (match a with
      | ⟨0, _⟩ => hk
      | ⟨1, _⟩ => rfl)
  rw [el, er]

/-! ## One half, of what it is given -/

/-- Eight heads set side by side. -/
theorem joined_apply (f : Fin 8 → FVec Ideal S256x128 .bf16) (r : Fin 256) (k : Fin 1024) :
    concatenate S256x1024 1 [⟨S256x128, f 0⟩, ⟨S256x128, f 1⟩, ⟨S256x128, f 2⟩, ⟨S256x128, f 3⟩, ⟨S256x128, f 4⟩, ⟨S256x128, f 5⟩, ⟨S256x128, f 6⟩, ⟨S256x128, f 7⟩]
      concatenates_S256x128_S256x128_S256x128_S256x128_S256x128_S256x128_S256x128_S256x128_S256x1024_d1 (ix2 r k)
      = f ⟨k.val / 128, by omega⟩ (ix2 r ⟨k.val % 128, by omega⟩) :=
  concatenate_ofFn_apply (t := S256x1024) (s₁ := S256x128) 1 f
    concatenates_S256x128_S256x128_S256x128_S256x128_S256x128_S256x128_S256x128_S256x128_S256x1024_d1 rfl 128 rfl (ix2 r k) ⟨k.val / 128, by omega⟩ rfl
    (ix2 r ⟨k.val % 128, by omega⟩) rfl fun b hb => match b with
      | ⟨0, _⟩ => rfl
      | ⟨1, _⟩ => absurd rfl hb

theorem flat_apply (v : Vec Ideal S1x256x128 .bf16) (r : Fin 256) (l : Fin 128) :
    shapeCast S256x128 v shapeCasts_S1x256x128_S256x128 (ix2 r l) = v (ix3 0 r l) := by
  refine shapeCast_apply v shapeCasts_S1x256x128_S256x128 (ix2 r l) (ix3 0 r l) ?_
  rw [Shape.rowMajor_val_two, Shape.rowMajor_val_three]
  show (0 * 256 + r.val) * 128 + l.val = r.val * 128 + l.val
  omega

/-- The first branch's product. -/
theorem pay2_apply (v : Fin 8 → Vec Ideal S1x256x128 .bf16) (w : Vec Ideal S1024x1024 .bf16) (r : Fin 256) (s : Fin 1024) :
    k0_pay2 (v 0) (v 1) (v 2) (v 3) (v 4) (v 5) (v 6) (v 7) w (ix2 r s)
      = ∑ k : Fin 1024, v ⟨k.val / 128, by omega⟩ (ix3 0 r ⟨k.val % 128, by omega⟩) * w (ix2 k s) := by
  unfold k0_pay2
  rw [square_apply]
  refine Finset.sum_congr rfl fun k _ => ?_
  rw [shapeCast_self]
  refine congrArg (· * _) ?_
  exact (joined_apply (fun h => shapeCast S256x128 (v h) shapeCasts_S1x256x128_S256x128) r k).trans (flat_apply _ _ _)

/-- The second branch's product. -/
theorem pay3_apply (v : Vec Ideal S256x512 .bf16) (w : Vec Ideal S512x1024 .bf16) (r : Fin 256) (s : Fin 1024) :
    k0_pay3 v w (ix2 r s) = ∑ k : Fin 512, v (ix2 r k) * w (ix2 k s) := by
  unfold k0_pay3
  rw [wide_apply, shapeCast_self, shapeCast_self]

/-- The two, each by its gate. -/
theorem pay6_apply (a b : FVec Ideal S256x1024 .f32) (g g' : Vec Ideal S256x1024 .bf16) (i : S256x1024.Idx) :
    k0_pay6 a b g g' i = g i * a i + g' i * b i := by
  unfold k0_pay6
  simp only [shapeCast_self]
  rfl

/-- Their product with the output's weight. -/
theorem pay7_apply (a b : FVec Ideal S256x1024 .f32) (g g' : Vec Ideal S256x1024 .bf16) (w : Vec Ideal S1024x1024 .bf16) (r : Fin 256) (s : Fin 1024) :
    k0_pay7 a b g g' w (ix2 r s) = ∑ k : Fin 1024, (g (ix2 r k) * a (ix2 r k) + g' (ix2 r k) * b (ix2 r k)) * w (ix2 k s) := by
  unfold k0_pay7
  rw [square_apply]
  refine Finset.sum_congr rfl fun k _ => ?_
  rw [shapeCast_self, pay6_apply]

theorem lift_row (r : Fin 256) (k : Fin 1024) : reduces_S256x1024_S256.lift (ix1 r) k = ix2 r k :=
  funext fun a => Fin.ext (match a with
    | ⟨0, _⟩ => rfl
    | ⟨1, _⟩ => rfl)

/-- The reciprocal root of a row's mean square, from the sum of its squares. -/
def scale (q : EReal) : EReal := Ideal.rsqrt (Ideal.div q (Ideal.ofBits .f32 0x44800000#32) + Ideal.ofBits .f32 0x358637BD#32)

/-- The residual's next value. -/
theorem pay8_apply (a b : FVec Ideal S256x1024 .f32) (g g' : Vec Ideal S256x1024 .bf16) (w : Vec Ideal S1024x1024 .bf16)
    (x : Vec Ideal S256x1024 .f32) (u : Vec Ideal S1x1024 .f32) (r : Fin 256) (s : Fin 1024) :
    k0_pay8 a b g g' w x u (ix2 r s)
      = x (ix2 r s) + k0_pay7 a b g g' w (ix2 r s)
          * scale (∑ k : Fin 1024, k0_pay7 a b g g' w (ix2 r k) * k0_pay7 a b g g' w (ix2 r k)) * u (ix2 0 s) := by
  unfold k0_pay8
  generalize k0_pay7 a b g g' w = y
  dsimp only
  rw [addf_apply, mulf_apply, mulf_apply, shapeCast_self]
  have hs : broadcastTo S256x1024 u broadcasts_S1x1024_S256x1024 (ix2 r s) = u (ix2 0 s) :=
    broadcastTo_apply _ _ (ix2 r s) (ix2 0 s) fun a => by
      match a with
      | ⟨0, _⟩ => rfl
      | ⟨1, _⟩ => rfl
  rw [hs, broadcastTo_apply _ broadcasts_S256x1_S256x1024 (ix2 r s) (ix2 r 0) (fun a => by
    match a with
    | ⟨0, _⟩ => rfl
    | ⟨1, _⟩ => rfl)]
  refine congrArg (fun z => x (ix2 r s) + y (ix2 r s) * z * u (ix2 0 s)) ?_
  refine Eq.trans (b := scale (shapeCast S256x1 (multiReduction .add [1] S256 (mulf y y) 0x00000000#32 reduces_S256x1024_S256 (.inl rfl) rfl)
    shapeCasts_S256_S256x1 (ix2 r 0))) rfl (congrArg scale ?_)
  rw [shapeCast_apply _ _ (ix2 r 0) (ix1 r) ?_]
  · refine (Ideal.multiReduction_add_single (a := 1) _ 0x00000000#32 reduces_S256x1024_S256 (.inl rfl) rfl (ix1 r)).trans ?_
    refine Finset.sum_congr rfl fun k _ => ?_
    exact congrArg (fun i => y i * y i) (lift_row r k)
  · rw [Shape.rowMajor_val_one, Shape.rowMajor_val_two]
    show r.val = r.val * 1 + 0
    omega

/-- The second half's text is the first's. -/
theorem pay9_eq : @k0_pay9 Ideal _ = @k0_pay2 Ideal _ := rfl
theorem pay10_eq : @k0_pay10 Ideal _ = @k0_pay3 Ideal _ := rfl
theorem pay13_eq : @k0_pay13 Ideal _ = @k0_pay6 Ideal _ := rfl
theorem pay14_eq : @k0_pay14 Ideal _ = @k0_pay7 Ideal _ := rfl
theorem pay15_eq (a b : FVec Ideal S256x1024 .f32) (g g' : Vec Ideal S256x1024 .bf16) (w : Vec Ideal S1024x1024 .bf16)
    (x : Vec Ideal S256x1024 .f32) (u : Vec Ideal S1x1024 .f32) : k0_pay1 x (k0_pay15 a b g g' w u) = k0_pay8 a b g g' w x u := rfl

end Cert.MergeIdeal.Hand
end
-- ==== Proof.MG.Point.lean ====
/-
  The merge of the two branches, at one point of the grid: each of its five blocks, row by row, of the blocks it is given.
-/
module

public import proofs.«01_k».proof.Proof.MG.Half

@[expose] public section

set_option maxRecDepth 16384

noncomputable section

namespace Cert.MergeIdeal.Hand

open Cert.MergeIdeal Cert.MergeIdeal.Gen
open Idealize.ShloMosaic hiding ix1 ix2 ix3 ix4 eq_ix3 eq_ix4
open Idealize.ShloMosaic.TcCoe Idealize.ShloMosaic.ValueIdx

variable (x0 : Vec Ideal S8x512x128 .bf16) (x1 : Vec Ideal S512x512 .bf16) (x2 : Vec Ideal S512x2048 .bf16) (x3 : Vec Ideal S512x1024 .f32)
  (x4 : Vec Ideal S1x1024 .f32) (x5 : Vec Ideal S1024x1024 .bf16) (x6 : Vec Ideal S512x1024 .bf16) (x7 : Vec Ideal S1024x1024 .bf16)

/-! ## The rows -/

/-- A row of the first branch, its heads side by side, through the branch's weight. -/
def first (p : Fin 512) (s : Fin 1024) : EReal :=
  ∑ k : Fin 1024, x0 (ix3 ⟨k.val / 128, by omega⟩ p ⟨k.val % 128, by omega⟩) * x5 (ix2 k s)

/-- A row of the second branch through its weight. -/
def second (p : Fin 512) (s : Fin 1024) : EReal := ∑ k : Fin 512, x1 (ix2 p k) * x6 (ix2 k s)

/-- The two, each by its gate. -/
def merged (p : Fin 512) (s : Fin 1024) : EReal :=
  x2 (ix2 p ⟨s.val, by omega⟩) * first x0 x5 p s + x2 (ix2 p ⟨1024 + s.val, by omega⟩) * second x1 x6 p s

/-- The merged row through the output's weight. -/
def mixed (p : Fin 512) (s : Fin 1024) : EReal := ∑ k : Fin 1024, merged x0 x1 x2 x5 x6 p k * x7 (ix2 k s)

/-- The residual's next value. -/
def next (p : Fin 512) (s : Fin 1024) : EReal :=
  x3 (ix2 p s) + mixed x0 x1 x2 x5 x6 x7 p s
    * scale (∑ k : Fin 1024, mixed x0 x1 x2 x5 x6 x7 p k * mixed x0 x1 x2 x5 x6 x7 p k) * x4 (ix2 0 s)

/-! ## What a half reads: the rows from `o` on -/

section Reads

variable (o : ℕ) (ho : o + 256 ≤ 512)
include ho

theorem fits0 (h : Fin 8) (a : Fin 3) : (![h.val, o, 0] : Fin 3 → ℕ) a + S1x256x128.size a ≤ S8x512x128.size a := by
  have := h.isLt
  match a with
  | ⟨0, _⟩ => show h.val + 1 ≤ 8; omega
  | ⟨1, _⟩ => exact ho
  | ⟨2, _⟩ => show 0 + 128 ≤ 128; omega

theorem fits1 (a : Fin 2) : (![o, 0] : Fin 2 → ℕ) a + S256x512.size a ≤ S512x512.size a :=
  match a with
  | ⟨0, _⟩ => ho
  | ⟨1, _⟩ => Nat.le_refl 512

theorem fits2 (q : ℕ) (hq : q + 1024 ≤ 2048) (a : Fin 2) : (![o, q] : Fin 2 → ℕ) a + S256x1024.size a ≤ S512x2048.size a :=
  match a with
  | ⟨0, _⟩ => ho
  | ⟨1, _⟩ => hq

theorem fits3 (a : Fin 2) : (![o, 0] : Fin 2 → ℕ) a + S256x1024.size a ≤ S512x1024.size a :=
  match a with
  | ⟨0, _⟩ => ho
  | ⟨1, _⟩ => Nat.le_refl 1024

/-- Its row, of the point's. -/
abbrev row (r : Fin 256) : Fin 512 := ⟨o + r.val, by omega⟩

abbrev ld0 (h : Fin 8) : Vec Ideal S1x256x128 .bf16 := View.ld x0 (Rect.unit (s := S8x512x128) ![h.val, o, 0] S1x256x128.size (fits0 o ho h))
abbrev ld1 : Vec Ideal S256x512 .bf16 := View.ld x1 (Rect.unit (s := S512x512) ![o, 0] S256x512.size (fits1 o ho))
abbrev ld2 : Vec Ideal S256x1024 .bf16 := View.ld x2 (Rect.unit (s := S512x2048) ![o, 0] S256x1024.size (fits2 o ho 0 (by decide)))
abbrev ld2' : Vec Ideal S256x1024 .bf16 := View.ld x2 (Rect.unit (s := S512x2048) ![o, 1024] S256x1024.size (fits2 o ho 1024 (by decide)))
abbrev ld3 : Vec Ideal S256x1024 .f32 := View.ld x3 (Rect.unit (s := S512x1024) ![o, 0] S256x1024.size (fits3 o ho))

theorem ld0_at (h : Fin 8) (r : Fin 256) (l : Fin 128) : ld0 x0 o ho h (ix3 0 r l) = x0 (ix3 h (row o ho r) l) :=
  View.ld_unit_apply_of x0 _ _ _ (ix3 0 r l) (ix3 h (row o ho r) l) fun a => match a with
    | ⟨0, _⟩ => rfl
    | ⟨1, _⟩ => rfl
    | ⟨2, _⟩ => (Nat.zero_add l.val).symm

theorem ld1_at (r : Fin 256) (k : Fin 512) : ld1 x1 o ho (ix2 r k) = x1 (ix2 (row o ho r) k) :=
  View.ld_unit_apply_of x1 _ _ _ (ix2 r k) (ix2 (row o ho r) k) fun a => match a with
    | ⟨0, _⟩ => rfl
    | ⟨1, _⟩ => (Nat.zero_add k.val).symm

theorem ld2_at (r : Fin 256) (s : Fin 1024) : ld2 x2 o ho (ix2 r s) = x2 (ix2 (row o ho r) ⟨s.val, by omega⟩) :=
  View.ld_unit_apply_of x2 _ _ _ (ix2 r s) (ix2 (row o ho r) ⟨s.val, by omega⟩) fun a => match a with
    | ⟨0, _⟩ => rfl
    | ⟨1, _⟩ => (Nat.zero_add s.val).symm

theorem ld2'_at (r : Fin 256) (s : Fin 1024) : ld2' x2 o ho (ix2 r s) = x2 (ix2 (row o ho r) ⟨1024 + s.val, by omega⟩) :=
  View.ld_unit_apply_of x2 _ _ _ (ix2 r s) (ix2 (row o ho r) ⟨1024 + s.val, by omega⟩) fun a => match a with
    | ⟨0, _⟩ => rfl
    | ⟨1, _⟩ => rfl

theorem ld3_at (r : Fin 256) (s : Fin 1024) : ld3 x3 o ho (ix2 r s) = x3 (ix2 (row o ho r) s) :=
  View.ld_unit_apply_of x3 _ _ _ (ix2 r s) (ix2 (row o ho r) s) fun a => match a with
    | ⟨0, _⟩ => rfl
    | ⟨1, _⟩ => (Nat.zero_add s.val).symm

omit ho in
theorem origin : (![0, 0] : Fin 2 → Nat) = fun _ => 0 := funext fun a => by fin_cases a <;> rfl

omit ho in
theorem whole_square (x : Vec Ideal S1024x1024 .bf16) : View.ld x r0_8 = x := View.ld_unit_zero (S := S1024x1024) origin _ x
omit ho in
theorem whole_wide (x : Vec Ideal S512x1024 .bf16) : View.ld x r0_10 = x := View.ld_unit_zero (S := S512x1024) origin _ x
omit ho in
theorem whole_line (x : Vec Ideal S1x1024 .f32) : View.ld x r0_14 = x := View.ld_unit_zero (S := S1x1024) origin _ x

/-! ## What a half leaves -/

/-- The two branches' products. -/
abbrev halfA : FVec Ideal S256x1024 .f32 :=
  k0_pay2 (ld0 x0 o ho 0) (ld0 x0 o ho 1) (ld0 x0 o ho 2) (ld0 x0 o ho 3) (ld0 x0 o ho 4) (ld0 x0 o ho 5) (ld0 x0 o ho 6) (ld0 x0 o ho 7) (View.ld x5 r0_8)
abbrev halfB : FVec Ideal S256x1024 .f32 := k0_pay3 (ld1 x1 o ho) (View.ld x6 r0_10)

theorem half_first (r : Fin 256) (s : Fin 1024) : halfA x0 x5 o ho (ix2 r s) = first x0 x5 (row o ho r) s := by
  refine (pay2_apply (ld0 x0 o ho) (View.ld x5 r0_8) r s).trans (Finset.sum_congr rfl fun k _ => ?_)
  rw [ld0_at, whole_square]

theorem half_second (r : Fin 256) (s : Fin 1024) : halfB x1 x6 o ho (ix2 r s) = second x1 x6 (row o ho r) s := by
  refine (pay3_apply (ld1 x1 o ho) (View.ld x6 r0_10) r s).trans (Finset.sum_congr rfl fun k _ => ?_)
  rw [ld1_at, whole_wide]

theorem half_merged (r : Fin 256) (s : Fin 1024) :
    k0_pay6 (halfA x0 x5 o ho) (halfB x1 x6 o ho) (ld2 x2 o ho) (ld2' x2 o ho) (ix2 r s) = merged x0 x1 x2 x5 x6 (row o ho r) s := by
  rw [pay6_apply, half_first, half_second, ld2_at, ld2'_at, merged]

theorem half_mixed (r : Fin 256) (s : Fin 1024) :
    k0_pay7 (halfA x0 x5 o ho) (halfB x1 x6 o ho) (ld2 x2 o ho) (ld2' x2 o ho) (View.ld x7 r0_8) (ix2 r s)
      = mixed x0 x1 x2 x5 x6 x7 (row o ho r) s := by
  rw [pay7_apply]
  refine Finset.sum_congr rfl fun k _ => ?_
  rw [half_first, half_second, ld2_at, ld2'_at, whole_square, merged]

theorem half_next (r : Fin 256) (s : Fin 1024) :
    k0_pay8 (halfA x0 x5 o ho) (halfB x1 x6 o ho) (ld2 x2 o ho) (ld2' x2 o ho) (View.ld x7 r0_8) (ld3 x3 o ho) (View.ld x4 r0_14) (ix2 r s)
      = next x0 x1 x2 x3 x4 x5 x6 x7 (row o ho r) s := by
  rw [pay8_apply, ld3_at, whole_line]
  simp only [half_mixed]
  rw [next]

omit ho in
/-- A half's piece of a block, at a row it holds. -/
theorem piece {e : EltTy} {w : (⟨2, ![256, 1024]⟩ : Shape).Idx → Elt Ideal e} {f : Fin 512 → Fin 1024 → Elt Ideal e} (ho : o + 256 ≤ 512)
    (h : ∀ (r : Fin 256) (s : Fin 1024), w (ix2 r s) = f (row o ho r) s) (p : Fin 512) (s : Fin 1024) :
    View.TileAt (Val := Elt Ideal) (S := S512x1024) (ix2 p s) ![o, 0] S256x1024.size w (f p s) := by
  intro x hx
  have h0 : p.val = o + (x 0).val := hx 0
  have h1 : s.val = 0 + (x 1).val := hx 1
  have ex : x = ix2 (x 0) (x 1) := funext fun d => match d with
    | ⟨0, _⟩ => rfl
    | ⟨1, _⟩ => rfl
  rw [ex]
  refine (h (x 0) (x 1)).trans (congrArg₂ f (Fin.ext h0.symm) (Fin.ext ?_))
  show (x 1).val = s.val
  omega

end Reads

/-! ## The five blocks -/

section Blocks

variable (p : Fin 512) (s : Fin 1024)

theorem out8_at : out0_8 x0 x1 x2 x3 x4 x5 x6 x7 (ix2 p s) = merged x0 x1 x2 x5 x6 p s :=
  View.canon_eq_of_allAt _ _ _ (cover0_8 _ _ _)
    (View.allAt_cons_unit _ _ _ _ _ (piece 256 (by decide) (half_merged x0 x1 x2 x5 x6 256 (by decide)) p s)
      (View.allAt_cons_unit _ _ _ _ _ (piece 0 (by decide) (half_merged x0 x1 x2 x5 x6 0 (by decide)) p s) (View.allAt_nil _ _)))

theorem out9_at : out0_9 x0 x1 x2 x3 x4 x5 x6 x7 (ix2 p s) = first x0 x5 p s :=
  View.canon_eq_of_allAt _ _ _ (cover0_9 _ _ _)
    (View.allAt_cons_unit _ _ _ _ _ (piece 256 (by decide) (half_first x0 x5 256 (by decide)) p s)
      (View.allAt_cons_unit _ _ _ _ _ (piece 0 (by decide) (half_first x0 x5 0 (by decide)) p s) (View.allAt_nil _ _)))

theorem out10_at : out0_10 x0 x1 x2 x3 x4 x5 x6 x7 (ix2 p s) = second x1 x6 p s :=
  View.canon_eq_of_allAt _ _ _ (cover0_10 _ _ _)
    (View.allAt_cons_unit _ _ _ _ _ (piece 256 (by decide) (half_second x1 x6 256 (by decide)) p s)
      (View.allAt_cons_unit _ _ _ _ _ (piece 0 (by decide) (half_second x1 x6 0 (by decide)) p s) (View.allAt_nil _ _)))

theorem out11_at : out0_11 x0 x1 x2 x3 x4 x5 x6 x7 (ix2 p s) = mixed x0 x1 x2 x5 x6 x7 p s :=
  View.canon_eq_of_allAt _ _ _ (cover0_11 _ _ _)
    (View.allAt_cons_unit _ _ _ _ _ (piece 256 (by decide) (half_mixed x0 x1 x2 x5 x6 x7 256 (by decide)) p s)
      (View.allAt_cons_unit _ _ _ _ _ (piece 0 (by decide) (half_mixed x0 x1 x2 x5 x6 x7 0 (by decide)) p s) (View.allAt_nil _ _)))

theorem out12_at : out0_12 x0 x1 x2 x3 x4 x5 x6 x7 (ix2 p s) = next x0 x1 x2 x3 x4 x5 x6 x7 p s :=
  View.canon_eq_of_allAt _ _ _ (cover0_12 _ _ _)
    (View.allAt_cons_unit _ _ _ _ _ (piece 256 (by decide) (half_next x0 x1 x2 x3 x4 x5 x6 x7 256 (by decide)) p s)
      (View.allAt_cons_unit _ _ _ _ _ (piece 0 (by decide) (half_next x0 x1 x2 x3 x4 x5 x6 x7 0 (by decide)) p s) (View.allAt_nil _ _)))

end Blocks

end Cert.MergeIdeal.Hand
end
-- ==== Proof.MG.Same.lean ====
/-
  The merge of the two branches: what the host lays out for the call, where a point's blocks lie in the arrays, and that the five
  arrays end as the reference's. The heads are padded from 64 to 128 numbers with zeros; a padded number meets a padded row of the
  weight, adding zero times zero, so no value of the arguments matters to it.
-/
module

public import proofs.«01_k».proof.Proof.MG.Point
public import proofs.«01_k».proof.Proof.V.Blocks
public import proofs.«01_k».proof.Proof.Gen.MergeReferenceIdeal.Read

@[expose] public section

set_option maxRecDepth 16384

noncomputable section

namespace Cert.MergeIdeal.Hand

open Cert.MergeIdeal Cert.MergeIdeal.Gen Finset
open Cert.MergeReferenceIdeal.Read
open Cert.KernelIdeal.Hand (at_zero at_block)
open Idealize.ShloMosaic hiding ix1 ix2 ix3 ix4 eq_ix3 eq_ix4
open Idealize.ShloMosaic.TcCoe Idealize.ShloMosaic.ValueIdx
open Idealize.ShloMosaic.Pipeline (Dat)

/-! ## The padded sum -/

/-- A sum over heads of 128 numbers whose second 64 are zero is the sum over heads of 64. -/
theorem sum_range_heads (f g : ℕ → EReal) (n : ℕ) (hl : ∀ h < n, ∀ l < 64, f (128 * h + l) = g (64 * h + l))
    (hz : ∀ h < n, ∀ l < 64, f (128 * h + (64 + l)) = 0) : ∑ k ∈ range (128 * n), f k = ∑ k ∈ range (64 * n), g k := by
  induction n with
  | zero => rfl
  | succ n ih =>
    rw [show 128 * (n + 1) = 128 * n + (64 + 64) by omega, show 64 * (n + 1) = 64 * n + 64 by omega, sum_range_add, sum_range_add,
      sum_range_add, ih (fun h hh => hl h (by omega)) (fun h hh => hz h (by omega)),
      sum_eq_zero (s := range 64) (f := fun l => f (128 * n + (64 + l))) fun l hm => hz n (by omega) l (mem_range.mp hm), add_zero]
    exact congrArg _ (sum_congr rfl fun l hm => hl n (by omega) l (mem_range.mp hm))

theorem sum_heads (f : Fin 1024 → EReal) (g : Fin 512 → EReal)
    (hl : ∀ (h : Fin 8) (l : Fin 64), f ⟨128 * h.val + l.val, by omega⟩ = g ⟨64 * h.val + l.val, by omega⟩)
    (hz : ∀ (h : Fin 8) (l : Fin 64), f ⟨128 * h.val + (64 + l.val), by omega⟩ = 0) : ∑ k, f k = ∑ k, g k := by
  have e := sum_range_heads (fun k => if hk : k < 1024 then f ⟨k, hk⟩ else 0) (fun k => if hk : k < 512 then g ⟨k, hk⟩ else 0) 8
    (fun h hh l hl' => by
      rw [dif_pos (show 128 * h + l < 1024 by omega), dif_pos (show 64 * h + l < 512 by omega)]
      exact hl ⟨h, hh⟩ ⟨l, hl'⟩)
    (fun h hh l hl' => by
      rw [dif_pos (show 128 * h + (64 + l) < 1024 by omega)]
      exact hz ⟨h, hh⟩ ⟨l, hl'⟩)
  rw [sum_range, sum_range] at e
  refine Eq.trans (sum_congr rfl fun k _ => ?_) (e.trans (sum_congr rfl fun k _ => ?_))
  · show f k = dite (k.val < 1024) _ _
    rw [dif_pos k.isLt]
  · show dite (k.val < 512) _ _ = g k
    rw [dif_pos k.isLt]

variable (m : (ℓ : Loc nD τ sig) → Buf (Elt Ideal) ℓ) (c : Dev nD)

/-! ## What the host lays out -/

/-- The eight arguments. -/
abbrev attn : FVec Ideal S16384x512 .f32 := m (c.tc.loc main_arg0)
abbrev pooled : FVec Ideal S16384x512 .f32 := m (c.tc.loc main_arg1)
abbrev gates : FVec Ideal S16384x2048 .f32 := m (c.tc.loc main_arg2)
abbrev resid : FVec Ideal S16384x1024 .f32 := m (c.tc.loc main_arg3)
abbrev gain : FVec Ideal S1024 .f32 := m (c.tc.loc main_arg4)
abbrev wAttn : FVec Ideal S512x1024 .f32 := m (c.tc.loc main_arg5)
abbrev wPool : FVec Ideal S512x1024 .f32 := m (c.tc.loc main_arg6)
abbrev wOut : FVec Ideal S1024x1024 .f32 := m (c.tc.loc main_arg7)

/-- The heads, padded. -/
def padded : FVec Ideal S16384x8x128 .f32 :=
  concatenate S16384x8x128 2 [⟨S16384x8x64, shapeCast S16384x8x64 (attn m c) shapeCasts_S16384x512_S16384x8x64⟩,
    ⟨S16384x8x64, broadcastInDim S16384x8x64 ![] bcast_S_S16384x8x64 (constant (F := Ideal) S_ .f32 0x00000000#32)⟩]
    concatenates_S16384x8x64_S16384x8x64_S16384x8x128_d2

/-- The first branch's weight, padded. -/
def paddedW : FVec Ideal S8x128x1024 .f32 :=
  concatenate S8x128x1024 1 [⟨S8x64x1024, shapeCast S8x64x1024 (wAttn m c) shapeCasts_S512x1024_S8x64x1024⟩,
    ⟨S8x64x1024, broadcastInDim S8x64x1024 ![] bcast_S_S8x64x1024 (constant (F := Ideal) S_ .f32 0x00000000#32)⟩]
    concatenates_S8x64x1024_S8x64x1024_S8x128x1024_d1

theorem read_heads : V m c main_v7
    = truncf (F := Ideal) .bf16 (transpose S8x16384x128 [1, 0, 2] (padded m c) transposes_S16384x8x128_S8x16384x128_1_0_2) bitsLt_bf16_f32 := by
  show StableHlo.after (List.flatten [hostOps0]) (fun b => m (c, b)) _ = _
  simp only [hostOps0, List.flatten_cons, List.flatten_nil, List.append_nil, List.cons_append, List.nil_append]
  after_results_simp
  rfl

theorem read_pooled : V m c main_v8 = truncf (F := Ideal) .bf16 (pooled m c) bitsLt_bf16_f32 := by
  show StableHlo.after (List.flatten [hostOps0]) (fun b => m (c, b)) _ = _
  simp only [hostOps0, List.flatten_cons, List.flatten_nil, List.append_nil, List.cons_append, List.nil_append]
  after_results_simp

theorem read_gates : V m c main_v9 = truncf (F := Ideal) .bf16 (gates m c) bitsLt_bf16_f32 := by
  show StableHlo.after (List.flatten [hostOps0]) (fun b => m (c, b)) _ = _
  simp only [hostOps0, List.flatten_cons, List.flatten_nil, List.append_nil, List.cons_append, List.nil_append]
  after_results_simp

theorem read_resid : V m c main_arg3 = resid m c := by
  show StableHlo.after (List.flatten [hostOps0]) (fun b => m (c, b)) _ = _
  simp only [hostOps0, List.flatten_cons, List.flatten_nil, List.append_nil, List.cons_append, List.nil_append]
  after_results_simp

theorem read_gain : V m c main_v10 = shapeCast S1x1024 (gain m c) shapeCasts_S1024_S1x1024 := by
  show StableHlo.after (List.flatten [hostOps0]) (fun b => m (c, b)) _ = _
  simp only [hostOps0, List.flatten_cons, List.flatten_nil, List.append_nil, List.cons_append, List.nil_append]
  after_results_simp
  rfl

theorem read_wAttn : V m c main_v12
    = truncf (F := Ideal) .bf16 (shapeCast S1024x1024 (paddedW m c) shapeCasts_S8x128x1024_S1024x1024) bitsLt_bf16_f32 := by
  show StableHlo.after (List.flatten [hostOps0]) (fun b => m (c, b)) _ = _
  simp only [hostOps0, List.flatten_cons, List.flatten_nil, List.append_nil, List.cons_append, List.nil_append]
  after_results_simp
  rfl

theorem read_wPool : V m c main_v13 = truncf (F := Ideal) .bf16 (wPool m c) bitsLt_bf16_f32 := by
  show StableHlo.after (List.flatten [hostOps0]) (fun b => m (c, b)) _ = _
  simp only [hostOps0, List.flatten_cons, List.flatten_nil, List.append_nil, List.cons_append, List.nil_append]
  after_results_simp

theorem read_wOut : V m c main_v14 = truncf (F := Ideal) .bf16 (wOut m c) bitsLt_bf16_f32 := by
  show StableHlo.after (List.flatten [hostOps0]) (fun b => m (c, b)) _ = _
  simp only [hostOps0, List.flatten_cons, List.flatten_nil, List.append_nil, List.cons_append, List.nil_append]
  after_results_simp

/-- A number of the padded heads, and of the padded weight. -/
def headAt (h : Fin 8) (i : Fin 16384) (x : Fin 128) : EReal := (V m c main_v7 : Vec Ideal S8x16384x128 .bf16) (ix3 h i x)
def weightAt (k s : Fin 1024) : EReal := (V m c main_v12 : Vec Ideal S1024x1024 .bf16) (ix2 k s)

/-- A number of a head, and a padded one. -/
theorem heads_at (h : Fin 8) (i : Fin 16384) (l : Fin 64) :
    headAt m c h i ⟨l.val, by omega⟩ = attn m c (ix2 i ⟨64 * h.val + l.val, by omega⟩) := by
  unfold headAt
  rw [read_heads, ValueIdx.truncf_apply, transpose_apply [1, 0, 2] _ transposes_S16384x8x128_S8x16384x128_1_0_2 (ix3 h i ⟨l.val, by omega⟩)
    (ix3 i h ⟨l.val, by omega⟩) (fun b => match b with
      | ⟨0, _⟩ => rfl
      | ⟨1, _⟩ => rfl
      | ⟨2, _⟩ => rfl)]
  unfold padded
  refine (concatenate_pair_apply_left (t := S16384x8x128) (s₁ := S16384x8x64) (s₂ := S16384x8x64) 2 _ _ _ (ix3 i h ⟨l.val, by omega⟩) rfl (ix3 i h l) (fun k => match k with
    | ⟨0, _⟩ => rfl
    | ⟨1, _⟩ => rfl
    | ⟨2, _⟩ => rfl)).trans ?_
  refine shapeCast_apply _ _ (ix3 i h l) (ix2 i ⟨64 * h.val + l.val, by omega⟩) ?_
  rw [Shape.rowMajor_val_two, Shape.rowMajor_val_three]
  show i.val * 512 + (64 * h.val + l.val) = (i.val * 8 + h.val) * 64 + l.val
  omega

theorem heads_zero (h : Fin 8) (i : Fin 16384) (l : Fin 64) :
    headAt m c h i ⟨64 + l.val, by omega⟩ = 0 := by
  unfold headAt
  rw [read_heads, ValueIdx.truncf_apply, transpose_apply [1, 0, 2] _ transposes_S16384x8x128_S8x16384x128_1_0_2 (ix3 h i ⟨64 + l.val, by omega⟩)
    (ix3 i h ⟨64 + l.val, by omega⟩) (fun b => match b with
      | ⟨0, _⟩ => rfl
      | ⟨1, _⟩ => rfl
      | ⟨2, _⟩ => rfl)]
  unfold padded
  refine (concatenate_pair_apply_right (t := S16384x8x128) (s₁ := S16384x8x64) (s₂ := S16384x8x64) 2 _ _ _ (ix3 i h ⟨64 + l.val, by omega⟩) rfl rfl (ix3 i h l)
    (fun k hk => match k with
      | ⟨0, _⟩ => rfl
      | ⟨1, _⟩ => rfl
      | ⟨2, _⟩ => absurd rfl hk) ?_).trans Ideal.ofBits_zero_f32
  show l.val + 64 = 64 + l.val
  omega

/-- A row of the padded weight. -/
theorem wAttn_at (h : Fin 8) (l : Fin 64) (s : Fin 1024) :
    weightAt m c ⟨128 * h.val + l.val, by omega⟩ s = wAttn m c (ix2 ⟨64 * h.val + l.val, by omega⟩ s) := by
  unfold weightAt
  rw [read_wAttn, ValueIdx.truncf_apply, shapeCast_apply (paddedW m c) _ (ix2 ⟨128 * h.val + l.val, by omega⟩ s) (ix3 h ⟨l.val, by omega⟩ s) ?_]
  · unfold paddedW
    refine (concatenate_pair_apply_left (t := S8x128x1024) (s₁ := S8x64x1024) (s₂ := S8x64x1024) 1 _ _ _ (ix3 h ⟨l.val, by omega⟩ s) rfl (ix3 h l s) (fun k => match k with
      | ⟨0, _⟩ => rfl
      | ⟨1, _⟩ => rfl
      | ⟨2, _⟩ => rfl)).trans ?_
    refine shapeCast_apply _ _ (ix3 h l s) (ix2 ⟨64 * h.val + l.val, by omega⟩ s) ?_
    rw [Shape.rowMajor_val_two, Shape.rowMajor_val_three]
    show (64 * h.val + l.val) * 1024 + s.val = (h.val * 64 + l.val) * 1024 + s.val
    omega
  · rw [Shape.rowMajor_val_two, Shape.rowMajor_val_three]
    show (h.val * 128 + l.val) * 1024 + s.val = (128 * h.val + l.val) * 1024 + s.val
    omega

theorem wAttn_zero (h : Fin 8) (l : Fin 64) (s : Fin 1024) : weightAt m c ⟨128 * h.val + (64 + l.val), by omega⟩ s = 0 := by
  unfold weightAt
  rw [read_wAttn, ValueIdx.truncf_apply,
    shapeCast_apply (paddedW m c) _ (ix2 ⟨128 * h.val + (64 + l.val), by omega⟩ s) (ix3 h ⟨64 + l.val, by omega⟩ s) ?_]
  · unfold paddedW
    refine (concatenate_pair_apply_right (t := S8x128x1024) (s₁ := S8x64x1024) (s₂ := S8x64x1024) 1 _ _ _ (ix3 h ⟨64 + l.val, by omega⟩ s) rfl rfl (ix3 h l s)
      (fun k hk => match k with
        | ⟨0, _⟩ => rfl
        | ⟨1, _⟩ => absurd rfl hk
        | ⟨2, _⟩ => rfl) ?_).trans Ideal.ofBits_zero_f32
    show l.val + 64 = 64 + l.val
    omega
  · rw [Shape.rowMajor_val_two, Shape.rowMajor_val_three]
    show (h.val * 128 + (64 + l.val)) * 1024 + s.val = (128 * h.val + (64 + l.val)) * 1024 + s.val
    omega

theorem gain_at (s : Fin 1024) : (V m c main_v10 : Vec Ideal S1x1024 .f32) (ix2 0 s) = gain m c (ix1 s) := by
  rw [read_gain]
  refine shapeCast_apply (gain m c) _ (ix2 0 s) (ix1 s) ?_
  rw [Shape.rowMajor_val_one, Shape.rowMajor_val_two]
  show s.val = 0 * 1024 + s.val
  omega

/-! ## Where a point's blocks lie -/

theorem idx_at : ∀ t : Fin cfg0.N,
    (win0_0.index t = ![0, t.val, 0] ∧ win0_1.index t = ![t.val, 0] ∧ win0_2.index t = ![t.val, 0] ∧ win0_3.index t = ![t.val, 0])
    ∧ (win0_4.index t = ![0, 0] ∧ win0_5.index t = ![0, 0] ∧ win0_6.index t = ![0, 0] ∧ win0_7.index t = ![0, 0])
    ∧ (win0_8.index t = ![t.val, 0] ∧ win0_9.index t = ![t.val, 0] ∧ win0_10.index t = ![t.val, 0] ∧ win0_11.index t = ![t.val, 0]
      ∧ win0_12.index t = ![t.val, 0]) :=
  (by decide +kernel : ∀ t : Fin grid0.N, _)

variable (t : Fin cfg0.N)

/-- A point's row, of the array's. -/
def at' (p : Fin 512) : Fin 16384 := ⟨512 * t.val + p.val, by have h : t.val < 32 := t.isLt; omega⟩
theorem at'_val (p : Fin 512) : (at' t p).val = 512 * t.val + p.val := rfl

theorem block0 (h : Fin 8) (p : Fin 512) (l : Fin 128) :
    (iblk m c 0 t : Vec Ideal S8x512x128 .bf16) (ix3 h p l) = headAt m c h (at' t p) l := by
  unfold headAt
  have e := (idx_at t).1.1
  blk_simp [iblk]
  refine congrArg _ (funext fun d => Fin.ext ?_)
  match d with
  | ⟨0, _⟩ => refine (Pipeline.Window.rect_emb_val win0_0 t _ 0).trans ?_; rw [e]; exact at_zero rfl rfl
  | ⟨1, _⟩ => refine (Pipeline.Window.rect_emb_val win0_0 t _ 1).trans ?_; rw [e]; exact at_block rfl rfl rfl
  | ⟨2, _⟩ => refine (Pipeline.Window.rect_emb_val win0_0 t _ 2).trans ?_; rw [e]; exact at_zero rfl rfl

theorem block1 (p : Fin 512) (k : Fin 512) : (iblk m c 1 t : Vec Ideal S512x512 .bf16) (ix2 p k) = pooled m c (ix2 (at' t p) k) := by
  have e := (idx_at t).1.2.1
  refine Eq.trans (b := (V m c main_v8 : Vec Ideal S16384x512 .bf16) (ix2 (at' t p) k)) ?_ (by rw [read_pooled]; rfl)
  blk_simp [iblk]
  refine congrArg _ (funext fun d => Fin.ext ?_)
  match d with
  | ⟨0, _⟩ => refine (Pipeline.Window.rect_emb_val win0_1 t _ 0).trans ?_; rw [e]; exact at_block rfl rfl rfl
  | ⟨1, _⟩ => refine (Pipeline.Window.rect_emb_val win0_1 t _ 1).trans ?_; rw [e]; exact at_zero rfl rfl

theorem block2 (p : Fin 512) (k : Fin 2048) : (iblk m c 2 t : Vec Ideal S512x2048 .bf16) (ix2 p k) = gates m c (ix2 (at' t p) k) := by
  have e := (idx_at t).1.2.2.1
  refine Eq.trans (b := (V m c main_v9 : Vec Ideal S16384x2048 .bf16) (ix2 (at' t p) k)) ?_ (by rw [read_gates]; rfl)
  blk_simp [iblk]
  refine congrArg _ (funext fun d => Fin.ext ?_)
  match d with
  | ⟨0, _⟩ => refine (Pipeline.Window.rect_emb_val win0_2 t _ 0).trans ?_; rw [e]; exact at_block rfl rfl rfl
  | ⟨1, _⟩ => refine (Pipeline.Window.rect_emb_val win0_2 t _ 1).trans ?_; rw [e]; exact at_zero rfl rfl

theorem block3 (p : Fin 512) (s : Fin 1024) : (iblk m c 3 t : Vec Ideal S512x1024 .f32) (ix2 p s) = resid m c (ix2 (at' t p) s) := by
  have e := (idx_at t).1.2.2.2
  refine Eq.trans (b := (V m c main_arg3 : Vec Ideal S16384x1024 .f32) (ix2 (at' t p) s)) ?_ (by rw [read_resid])
  blk_simp [iblk]
  refine congrArg _ (funext fun d => Fin.ext ?_)
  match d with
  | ⟨0, _⟩ => refine (Pipeline.Window.rect_emb_val win0_3 t _ 0).trans ?_; rw [e]; exact at_block rfl rfl rfl
  | ⟨1, _⟩ => refine (Pipeline.Window.rect_emb_val win0_3 t _ 1).trans ?_; rw [e]; exact at_zero rfl rfl

theorem block4 (s : Fin 1024) : (iblk m c 4 t : Vec Ideal S1x1024 .f32) (ix2 0 s) = gain m c (ix1 s) := by
  have e := (idx_at t).2.1.1
  refine Eq.trans ?_ (gain_at m c s)
  blk_simp [iblk]
  refine congrArg _ (funext fun d => Fin.ext ?_)
  match d with
  | ⟨0, _⟩ => refine (Pipeline.Window.rect_emb_val win0_4 t _ 0).trans ?_; rw [e]; exact at_zero rfl rfl
  | ⟨1, _⟩ => refine (Pipeline.Window.rect_emb_val win0_4 t _ 1).trans ?_; rw [e]; exact at_zero rfl rfl

theorem block5 (k s : Fin 1024) : (iblk m c 5 t : Vec Ideal S1024x1024 .bf16) (ix2 k s) = weightAt m c k s := by
  unfold weightAt
  have e := (idx_at t).2.1.2.1
  blk_simp [iblk]
  refine congrArg _ (funext fun d => Fin.ext ?_)
  match d with
  | ⟨0, _⟩ => refine (Pipeline.Window.rect_emb_val win0_5 t _ 0).trans ?_; rw [e]; exact at_zero rfl rfl
  | ⟨1, _⟩ => refine (Pipeline.Window.rect_emb_val win0_5 t _ 1).trans ?_; rw [e]; exact at_zero rfl rfl

theorem block6 (k : Fin 512) (s : Fin 1024) : (iblk m c 6 t : Vec Ideal S512x1024 .bf16) (ix2 k s) = wPool m c (ix2 k s) := by
  have e := (idx_at t).2.1.2.2.1
  refine Eq.trans (b := (V m c main_v13 : Vec Ideal S512x1024 .bf16) (ix2 k s)) ?_ (by rw [read_wPool]; rfl)
  blk_simp [iblk]
  refine congrArg _ (funext fun d => Fin.ext ?_)
  match d with
  | ⟨0, _⟩ => refine (Pipeline.Window.rect_emb_val win0_6 t _ 0).trans ?_; rw [e]; exact at_zero rfl rfl
  | ⟨1, _⟩ => refine (Pipeline.Window.rect_emb_val win0_6 t _ 1).trans ?_; rw [e]; exact at_zero rfl rfl

theorem block7 (k s : Fin 1024) : (iblk m c 7 t : Vec Ideal S1024x1024 .bf16) (ix2 k s) = wOut m c (ix2 k s) := by
  have e := (idx_at t).2.1.2.2.2
  refine Eq.trans (b := (V m c main_v14 : Vec Ideal S1024x1024 .bf16) (ix2 k s)) ?_ (by rw [read_wOut]; rfl)
  blk_simp [iblk]
  refine congrArg _ (funext fun d => Fin.ext ?_)
  match d with
  | ⟨0, _⟩ => refine (Pipeline.Window.rect_emb_val win0_7 t _ 0).trans ?_; rw [e]; exact at_zero rfl rfl
  | ⟨1, _⟩ => refine (Pipeline.Window.rect_emb_val win0_7 t _ 1).trans ?_; rw [e]; exact at_zero rfl rfl

/-! ## The five values, at a point's row -/

section Values

variable (p : Fin 512) (s : Fin 1024)

theorem same_first : first (iblk m c 0 t) (iblk m c 5 t) p s
    = val_main_v0 (F := Ideal) (attn m c) (wAttn m c) (ix2 (at' t p) s) := by
  rw [val_main_v0_apply]
  unfold first
  simp only [block0, block5]
  refine sum_heads _ _ (fun h l => ?_) fun h l => ?_
  · have e : (128 * h.val + l.val) / 128 = h.val := by omega
    have e' : (128 * h.val + l.val) % 128 = l.val := by omega
    simp only [e, e']
    refine congrArg₂ (· * ·) ((heads_at m c h (at' t p) l).trans (congrArg (attn m c) ?_)) ((wAttn_at m c h l s).trans (congrArg (wAttn m c) ?_))
    · exact funext fun d => match d with
        | ⟨0, _⟩ => rfl
        | ⟨1, _⟩ => rfl
    · exact funext fun d => match d with
        | ⟨0, _⟩ => rfl
        | ⟨1, _⟩ => rfl
  · have e : (128 * h.val + (64 + l.val)) / 128 = h.val := by omega
    have e' : (128 * h.val + (64 + l.val)) % 128 = 64 + l.val := by omega
    simp only [e, e']
    exact (congrArg₂ (· * ·) (heads_zero m c h (at' t p) l) (wAttn_zero m c h l s)).trans (mul_zero _)

theorem same_second : second (iblk m c 1 t) (iblk m c 6 t) p s
    = val_main_v1 (F := Ideal) (pooled m c) (wPool m c) (ix2 (at' t p) s) := by
  rw [val_main_v1_apply]
  unfold second
  refine sum_congr rfl fun k _ => ?_
  rw [block1, block6]
  refine congrArg₂ (· * ·) (congrArg (pooled m c) ?_) (congrArg (wPool m c) ?_)
  · exact funext fun d => match d with
      | ⟨0, _⟩ => rfl
      | ⟨1, _⟩ => rfl
  · exact funext fun d => match d with
      | ⟨0, _⟩ => rfl
      | ⟨1, _⟩ => rfl

theorem same_merged : merged (iblk m c 0 t) (iblk m c 1 t) (iblk m c 2 t) (iblk m c 5 t) (iblk m c 6 t) p s
    = val_main_v6 (F := Ideal) (attn m c) (pooled m c) (gates m c) (wAttn m c) (wPool m c) (ix2 (at' t p) s) := by
  rw [val_main_v6_apply, val_main_v3_apply, val_main_v5_apply, val_main_v2_apply, val_main_v4_apply]
  unfold merged
  rw [same_first, same_second, block2, block2]
  refine congrArg₂ (· + ·) (congrArg (· * _) (congrArg (gates m c) ?_)) (congrArg (· * _) (congrArg (gates m c) ?_))
  · exact funext fun d => match d with
      | ⟨0, _⟩ => rfl
      | ⟨1, _⟩ => rfl
  · exact funext fun d => match d with
      | ⟨0, _⟩ => rfl
      | ⟨1, _⟩ => Fin.ext (by show 1024 + s.val = _; rfl)

theorem same_mixed : mixed (iblk m c 0 t) (iblk m c 1 t) (iblk m c 2 t) (iblk m c 5 t) (iblk m c 6 t) (iblk m c 7 t) p s
    = val_main_v7 (F := Ideal) (attn m c) (pooled m c) (gates m c) (wAttn m c) (wPool m c) (wOut m c) (ix2 (at' t p) s) := by
  rw [val_main_v7_apply]
  unfold mixed
  refine sum_congr rfl fun k _ => ?_
  rw [same_merged, block7]
  refine congrArg₂ (· * ·) (congrArg (val_main_v6 (F := Ideal) (attn m c) (pooled m c) (gates m c) (wAttn m c) (wPool m c)) ?_) (congrArg (wOut m c) ?_)
  · exact funext fun d => match d with
      | ⟨0, _⟩ => rfl
      | ⟨1, _⟩ => rfl
  · exact funext fun d => match d with
      | ⟨0, _⟩ => rfl
      | ⟨1, _⟩ => rfl

theorem same_next : next (iblk m c 0 t) (iblk m c 1 t) (iblk m c 2 t) (iblk m c 3 t) (iblk m c 4 t) (iblk m c 5 t) (iblk m c 6 t) (iblk m c 7 t) p s
    = val_main_v21 (F := Ideal) (attn m c) (pooled m c) (gates m c) (resid m c) (gain m c) (wAttn m c) (wPool m c) (wOut m c) (ix2 (at' t p) s) := by
  rw [val_main_v21_apply, val_main_v20_apply, val_main_v17_apply, val_main_v19_apply, val_main_v18_apply, val_main_v16_apply,
    val_main_v15_apply, val_main_v14_apply, val_main_v12_apply, val_main_v10_apply, val_main_v9_apply, val_main_v11_apply, val_main_v13_apply,
    val_main_cst_apply, val_main_cst_0_apply, val_main_cst_1_apply]
  unfold next
  simp only [same_mixed]
  rw [block3, block4]
  refine congrArg (resid m c (ix2 (at' t p) s) + ·) (congrArg₂ (· * ·) (congrArg (_ * ·) (congrArg scale ?_)) (congrArg (gain m c) ?_))
  · refine Eq.trans (sum_congr rfl fun k _ => ?_) ((congrArg (· + _) Ideal.ofBits_zero_f32).trans (zero_add _)).symm
    rw [val_main_v8_apply]
    refine congrArg (fun i => val_main_v7 (F := Ideal) (attn m c) (pooled m c) (gates m c) (wAttn m c) (wPool m c) (wOut m c) i
      * val_main_v7 (F := Ideal) (attn m c) (pooled m c) (gates m c) (wAttn m c) (wPool m c) (wOut m c) i) ?_
    exact funext fun d => match d with
      | ⟨0, _⟩ => rfl
      | ⟨1, _⟩ => rfl
  · exact funext fun d => match d with
      | ⟨0, _⟩ => rfl

end Values

/-! ## The five arrays -/

/-- A row of a block, in the array. -/
theorem in_array {i : S16384x1024.Idx} {p : Fin 512} {s : Fin 1024} (h0 : (i 0).val = 512 * t.val + p.val) (h1 : (i 1).val = s.val) :
    ix2 (at' t p) s = i :=
  funext fun d => Fin.ext (match d with
    | ⟨0, _⟩ => h0.symm
    | ⟨1, _⟩ => h1.symm)

theorem by_row (y : S512x1024.Idx) : y = ix2 (y 0) (y 1) := funext fun d => match d with
  | ⟨0, _⟩ => rfl
  | ⟨1, _⟩ => rfl

theorem end_merged : (dats m 0 c).arrAt 8 cfg0.N
    = val_main_v22 (F := Ideal) (attn m c) (pooled m c) (gates m c) (wAttn m c) (wPool m c) := by
  refine Dat.arrAt_eq_of_covers (dats m 0 c) 8
    (val_main_v6 (F := Ideal) (attn m c) (pooled m c) (gates m c) (wAttn m c) (wPool m c)) (by decide +kernel) fun t _ y => ?_
  have e := (idx_at t).2.2.1
  blk_simp
  rw [after0_8]
  refine (congrArg _ (by_row y)).trans ((out8_at _ _ _ _ _ _ _ _ (y 0) (y 1)).trans ((same_merged m c t (y 0) (y 1)).trans (congrArg _ (in_array t ?_ ?_))))
  · refine (Pipeline.Window.rect_emb_val win0_8 t _ 0).trans ?_; rw [e]; exact at_block rfl rfl rfl
  · refine (Pipeline.Window.rect_emb_val win0_8 t _ 1).trans ?_; rw [e]; exact at_zero rfl rfl

theorem end_first : (dats m 0 c).arrAt 9 cfg0.N = val_main_v23 (F := Ideal) (attn m c) (wAttn m c) := by
  refine Dat.arrAt_eq_of_covers (dats m 0 c) 9 (val_main_v0 (F := Ideal) (attn m c) (wAttn m c)) (by decide +kernel) fun t _ y => ?_
  have e := (idx_at t).2.2.2.1
  blk_simp
  rw [after0_9]
  refine (congrArg _ (by_row y)).trans ((out9_at _ _ _ _ _ _ _ _ (y 0) (y 1)).trans ((same_first m c t (y 0) (y 1)).trans (congrArg _ (in_array t ?_ ?_))))
  · refine (Pipeline.Window.rect_emb_val win0_9 t _ 0).trans ?_; rw [e]; exact at_block rfl rfl rfl
  · refine (Pipeline.Window.rect_emb_val win0_9 t _ 1).trans ?_; rw [e]; exact at_zero rfl rfl

theorem end_second : (dats m 0 c).arrAt 10 cfg0.N = val_main_v24 (F := Ideal) (pooled m c) (wPool m c) := by
  refine Dat.arrAt_eq_of_covers (dats m 0 c) 10 (val_main_v1 (F := Ideal) (pooled m c) (wPool m c)) (by decide +kernel) fun t _ y => ?_
  have e := (idx_at t).2.2.2.2.1
  blk_simp
  rw [after0_10]
  refine (congrArg _ (by_row y)).trans ((out10_at _ _ _ _ _ _ _ _ (y 0) (y 1)).trans ((same_second m c t (y 0) (y 1)).trans (congrArg _ (in_array t ?_ ?_))))
  · refine (Pipeline.Window.rect_emb_val win0_10 t _ 0).trans ?_; rw [e]; exact at_block rfl rfl rfl
  · refine (Pipeline.Window.rect_emb_val win0_10 t _ 1).trans ?_; rw [e]; exact at_zero rfl rfl

theorem end_mixed : (dats m 0 c).arrAt 11 cfg0.N
    = val_main_v7 (F := Ideal) (attn m c) (pooled m c) (gates m c) (wAttn m c) (wPool m c) (wOut m c) := by
  refine Dat.arrAt_eq_of_covers (dats m 0 c) 11 _ (by decide +kernel) fun t _ y => ?_
  have e := (idx_at t).2.2.2.2.2.1
  blk_simp
  rw [after0_11]
  refine (congrArg _ (by_row y)).trans ((out11_at _ _ _ _ _ _ _ _ (y 0) (y 1)).trans ((same_mixed m c t (y 0) (y 1)).trans (congrArg _ (in_array t ?_ ?_))))
  · refine (Pipeline.Window.rect_emb_val win0_11 t _ 0).trans ?_; rw [e]; exact at_block rfl rfl rfl
  · refine (Pipeline.Window.rect_emb_val win0_11 t _ 1).trans ?_; rw [e]; exact at_zero rfl rfl

theorem end_next : (dats m 0 c).arrAt 12 cfg0.N
    = val_main_v21 (F := Ideal) (attn m c) (pooled m c) (gates m c) (resid m c) (gain m c) (wAttn m c) (wPool m c) (wOut m c) := by
  refine Dat.arrAt_eq_of_covers (dats m 0 c) 12 _ (by decide +kernel) fun t _ y => ?_
  have e := (idx_at t).2.2.2.2.2.2
  blk_simp
  rw [after0_12]
  refine (congrArg _ (by_row y)).trans ((out12_at _ _ _ _ _ _ _ _ (y 0) (y 1)).trans ((same_next m c t (y 0) (y 1)).trans (congrArg _ (in_array t ?_ ?_))))
  · refine (Pipeline.Window.rect_emb_val win0_12 t _ 0).trans ?_; rw [e]; exact at_block rfl rfl rfl
  · refine (Pipeline.Window.rect_emb_val win0_12 t _ 1).trans ?_; rw [e]; exact at_zero rfl rfl

end Cert.MergeIdeal.Hand
end
-- ==== Proof.WG.Out.lean ====
/-
  The gradient of `w_out`: every point of the grid adds 2048 rows of a product to the one block, which after the eighth is the
  product over all the rows, in both of the result's types: the reference's gradient.
-/
module

public import proofs.«01_k».proof.Proof.WG.Sum
public import proofs.«01_k».proof.Proof.V.Blocks
public import proofs.«01_k».proof.Proof.Gen.GradOutIdeal.Value
public import proofs.«01_k».proof.Proof.Gen.OutReferenceIdeal.Read
public import Idealize.ShloMosaic.Lib.Pipeline.ValueKit
public import Idealize.ShloMosaic.Lib.ValueIdx

@[expose] public section

set_option maxRecDepth 16384

noncomputable section

namespace Cert.GradOutIdeal.Hand

open Cert.GradOutIdeal Cert.GradOutIdeal.Gen Cert.WeightGrad Finset
open Cert.OutReferenceIdeal.Read
open Cert.KernelIdeal.Hand (at_zero at_block)
open Idealize.ShloMosaic hiding ix2 ix3 ix4 eq_ix3 eq_ix4
open Idealize.ShloMosaic.TcCoe Idealize.ShloMosaic.ValueIdx
open Idealize.ShloMosaic.Pipeline (Dat)

theorem origin : (![0, 0] : Fin 2 → Nat) = fun _ => 0 := funext fun a => by fin_cases a <;> rfl

section Body

variable (c : Dev nD) (i : grid0.Coords) (a3 : Memref sig .tc .vmem S2048x1024 .bf16) (h3 : a3.IsWhole)
  (a4 : Memref sig .tc .vmem S2048x1024 .bf16) (h4 : a4.IsWhole) (a5 : Memref sig .tc .vmem S1024x1024 .f32) (h5 : a5.IsWhole)
  (a6 : Memref sig .tc .vmem S1024x1024 .bf16) (h6 : a6.IsWhole) (x0 x1 : Vec Ideal S2048x1024 .bf16) (xo : Vec Ideal S1024x1024 .f32)

/-- A later point adds its rows to what the block holds. -/
theorem out_later (hc0 : ¬cond0_0 i) (hc1 : ¬cond0_1 i) :
    out0_B_2 c i a3 h3 a4 h4 a5 h5 a6 h6 hc0 hc1 x0 x1 xo = k0_pay2 x0 x1 xo := by
  unfold out0_B_2
  rw [View.read_writes_eq_canon _ _ _ (cover0_B_2 c i a3 h3 a4 h4 a5 h5 a6 h6 hc0 hc1 x0 x1 xo)]
  unfold kernelRun0_B
  dsimp only
  rw [View.canon_unit_zero origin]
  simp only [View.readAt_eq_ld, h3.read_unread, h4.read_unread, h5.read_unread, View.ld_unit_zero (S := S2048x1024) origin,
    View.ld_unit_zero (S := S1024x1024) origin]

/-- So does the last. -/
theorem out_last (hc0 : ¬cond0_0 i) (hc1 : cond0_1 i) :
    out0_C_2 c i a3 h3 a4 h4 a5 h5 a6 h6 hc0 hc1 x0 x1 xo = k0_pay2 x0 x1 xo := by
  unfold out0_C_2
  rw [View.read_writes_eq_canon _ _ _ (cover0_C_2 c i a3 h3 a4 h4 a5 h5 a6 h6 hc0 hc1 x0 x1 xo)]
  unfold kernelRun0_C
  dsimp only
  sl_unfold_words
  rw [View.canon_unit_zero origin]
  simp only [View.readAt_eq_ld, h3.read_unread, h4.read_unread, h5.read_unread, View.ld_unit_zero (S := S2048x1024) origin,
    View.ld_unit_zero (S := S1024x1024) origin]

/-- The last also leaves the sum in the narrow type. -/
theorem narrow_last (hc0 : ¬cond0_0 i) (hc1 : cond0_1 i) :
    out0_C_3 c i a3 h3 a4 h4 a5 h5 a6 h6 hc0 hc1 x0 x1 xo = k0_pay3 (k0_pay2 x0 x1 xo) := by
  unfold out0_C_3
  rw [View.read_writes_eq_canon _ _ _ (cover0_C_3 c i a3 h3 a4 h4 a5 h5 a6 h6 hc0 hc1 x0 x1 xo)]
  unfold kernelRun0_C
  dsimp only
  sl_unfold_words
  rw [View.canon_unit_zero origin, View.readCov_unit_zero (S := S1024x1024) _ origin]
  simp only [View.readAt_eq_ld, h3.read_unread, h4.read_unread, h5.read_unread, View.ld_unit_zero (S := S2048x1024) origin,
    View.ld_unit_zero (S := S1024x1024) origin]

/-- The first adds its rows to zero. -/
theorem out_first (hc0 : cond0_0 i) (hc1 : ¬cond0_1 i) :
    out0_A_2 c i a3 h3 a4 h4 a5 h5 a6 h6 hc0 hc1 x0 x1 = k0_pay2 x0 x1 (k0_pay1 (F := Ideal)) := by
  unfold out0_A_2
  rw [View.read_writes_eq_canon _ _ _ (cover0_A_2 c i a3 h3 a4 h4 a5 h5 a6 h6 hc0 hc1 x0 x1)]
  unfold kernelRun0_A
  dsimp only
  sl_unfold_words
  rw [View.canon_cons_unit_zero (S := S1024x1024) origin, View.readCov_unit_zero (S := S1024x1024) _ origin]
  simp only [View.readAt_eq_ld, h3.read_unread, h4.read_unread, View.ld_unit_zero (S := S2048x1024) origin]

theorem pay1_apply (r s : Fin 1024) : k0_pay1 (F := Ideal) (ix2 r s) = 0 := Ideal.ofBits_zero_f32

/-- An element of the sum. -/
theorem pay2_apply (r s : Fin 1024) :
    k0_pay2 x0 x1 xo (ix2 r s) = xo (ix2 r s) + ∑ k : Fin 2048, x0 (ix2 k r) * x1 (ix2 k s) := by
  unfold k0_pay2
  simp only [shapeCast_self, addf_apply, Ideal.matmul_constant_zero_apply]
  rw [← Equiv.sum_comp (contrEquiv1 dot_S2048x1024_S2048x1024_S1024x1024_0_0_1_1_n_n 2048 rfl rfl).symm]
  refine congrArg₂ (· + ·) rfl (Finset.sum_congr rfl fun k _ => ?_)
  have hk := contrEquiv1_symm_val dot_S2048x1024_S2048x1024_S1024x1024_0_0_1_1_n_n 2048 rfl rfl k
  have el : dot_S2048x1024_S2048x1024_S1024x1024_0_0_1_1_n_n.lhsIdx (ix2 r s)
      ((contrEquiv1 dot_S2048x1024_S2048x1024_S1024x1024_0_0_1_1_n_n 2048 rfl rfl).symm k) = ix2 k r :=
    funext fun a => Fin.ext (match a with
      | ⟨0, _⟩ => hk
      | ⟨1, _⟩ => rfl)
  have er : dot_S2048x1024_S2048x1024_S1024x1024_0_0_1_1_n_n.rhsIdx (ix2 r s)
      ((contrEquiv1 dot_S2048x1024_S2048x1024_S1024x1024_0_0_1_1_n_n 2048 rfl rfl).symm k) = ix2 k s :=
    funext fun a => Fin.ext (match a with
      | ⟨0, _⟩ => hk
      | ⟨1, _⟩ => rfl)
  rw [el, er]

end Body

variable (m : (ℓ : Loc nD τ sig) → Buf (Elt Ideal) ℓ) (c : Dev nD)

/-- Where every window's block begins. -/
theorem idx_at : ∀ t : Fin cfg0.N,
    win0_0.index t = ![t.val % 8, 0] ∧ win0_1.index t = ![t.val % 8, 0] ∧ win0_2.index t = ![0, 0] ∧ win0_3.index t = ![0, 0] :=
  (by decide +kernel : ∀ t : Fin grid0.N, _)

/-- The two operands, by row and column. -/
def left (k i : ℕ) : EReal := (V m c main_v0 : Vec Ideal S16384x1024 .bf16) (ix2 ⟨k % 16384, Nat.mod_lt _ (by decide)⟩ ⟨i % 1024, Nat.mod_lt _ (by decide)⟩)
def right (k s : ℕ) : EReal := (V m c main_v1 : Vec Ideal S16384x1024 .bf16) (ix2 ⟨k % 16384, Nat.mod_lt _ (by decide)⟩ ⟨s % 1024, Nat.mod_lt _ (by decide)⟩)

/-- What row `k` adds to an element of the gradient. -/
def term (i s k : ℕ) : EReal := left m c k i * right m c k s

/-- The point's rows of the first operand, and of the second. -/
def block0 (t : Fin cfg0.N) : Vec Ideal S2048x1024 .bf16 := iblk m c 0 t
def block1 (t : Fin cfg0.N) : Vec Ideal S2048x1024 .bf16 := iblk m c 1 t

theorem block0_at (t : Fin cfg0.N) (k : Fin 2048) (r : Fin 1024) :
    block0 m c t (ix2 k r) = left m c (2048 * (t.val % 8) + k) r := by
  have e := (idx_at t).1
  have ht : t.val < 8 := t.isLt
  have hk := k.isLt
  unfold block0 left
  blk_simp [iblk]
  refine congrArg _ (funext fun d => Fin.ext ?_)
  match d with
  | ⟨0, _⟩ =>
    refine (Pipeline.Window.rect_emb_val win0_0 t _ 0).trans ?_; rw [e]
    refine (at_block rfl rfl rfl).trans (Nat.mod_eq_of_lt (show 2048 * (t.val % 8) + k.val < 16384 by omega)).symm
  | ⟨1, _⟩ =>
    refine (Pipeline.Window.rect_emb_val win0_0 t _ 1).trans ?_; rw [e]
    exact (at_zero rfl rfl).trans (Nat.mod_eq_of_lt r.isLt).symm

theorem block1_at (t : Fin cfg0.N) (k : Fin 2048) (s : Fin 1024) :
    block1 m c t (ix2 k s) = right m c (2048 * (t.val % 8) + k) s := by
  have e := (idx_at t).2.1
  have ht : t.val < 8 := t.isLt
  have hk := k.isLt
  unfold block1 right
  blk_simp [iblk]
  refine congrArg _ (funext fun d => Fin.ext ?_)
  match d with
  | ⟨0, _⟩ =>
    refine (Pipeline.Window.rect_emb_val win0_1 t _ 0).trans ?_; rw [e]
    refine (at_block rfl rfl rfl).trans (Nat.mod_eq_of_lt (show 2048 * (t.val % 8) + k.val < 16384 by omega)).symm
  | ⟨1, _⟩ =>
    refine (Pipeline.Window.rect_emb_val win0_1 t _ 1).trans ?_; rw [e]
    exact (at_zero rfl rfl).trans (Nat.mod_eq_of_lt s.isLt).symm

/-- A point's rows, added. -/
theorem point_sum (t : Fin cfg0.N) (xo : Vec Ideal S1024x1024 .f32) (r s : Fin 1024) :
    k0_pay2 (block0 m c t) (block1 m c t) xo (ix2 r s)
      = xo (ix2 r s) + ∑ k : Fin 2048, term m c r s (2048 * (t.val % 8) + k) := by
  rw [pay2_apply]
  refine congrArg₂ (· + ·) rfl (Finset.sum_congr rfl fun k _ => ?_)
  rw [block0_at, block1_at, term]

/-- What the block holds after a point: the rows of its points so far. -/
theorem held (n : ℕ) : ∀ (t : Fin cfg0.N), t.val = n → ∀ r s : Fin 1024,
    (outsAt0 m c t.val t.isLt).1 (ix2 r s) = ∑ k ∈ range (2048 * (t.val % 8 + 1)), term m c r s k := by
  induction n with
  | zero =>
    intro t ht r s
    rw [outsAt0_A m c t (by omega) (by omega)]
    dsimp only
    rw [out_first]
    refine (point_sum m c t _ r s).trans ?_
    rw [pay1_apply, show t.val % 8 = 0 by omega]
    exact first_rows _
  | succ n ih =>
    intro t ht r s
    by_cases h0 : t.val % 8 = 0
    · rw [outsAt0_A m c t h0 (by omega)]
      dsimp only
      rw [out_first]
      refine (point_sum m c t _ r s).trans ?_
      rw [pay1_apply, h0]
      exact first_rows _
    · have before := ih ⟨t.val - 1, Nat.lt_of_le_of_lt (Nat.sub_le _ _) t.isLt⟩ (by show t.val - 1 = n; omega) r s
      dsimp only at before
      rw [show (t.val - 1) % 8 + 1 = t.val % 8 by omega] at before
      have step : k0_pay2 (block0 m c t) (block1 m c t) (outsAt0 m c (t.val - 1) (Nat.lt_of_le_of_lt (Nat.sub_le _ _) t.isLt)).1 (ix2 r s)
          = ∑ k ∈ range (2048 * (t.val % 8 + 1)), term m c r s k := by
        rw [point_sum, before]
        exact more_rows _ _
      by_cases h1 : t.val % 8 = 7
      · rw [outsAt0_C m c t h0 h1]
        dsimp only
        rw [out_last]
        exact step
      · rw [outsAt0_B m c t h0 h1]
        dsimp only
        rw [out_later]
        exact step

/-- At the last of a block's points the narrow block holds the same. -/
theorem held_narrow (t : Fin cfg0.N) (h1 : t.val % 8 = 7) (r s : Fin 1024) :
    (outsAt0 m c t.val t.isLt).2 (ix2 r s) = (outsAt0 m c t.val t.isLt).1 (ix2 r s) := by
  rw [outsAt0_C m c t (by omega) h1]
  dsimp only
  rw [out_last, narrow_last]
  unfold k0_pay3
  rw [shapeCast_self]
  rfl

/-- The gradient. -/
def grad : Vec Ideal S1024x1024 .f32 := fun y => ∑ k : Fin 16384, term m c (y 0).val (y 1).val k

theorem grad_of {y : S1024x1024.Idx} {i s : ℕ} (h0 : (y 0).val = i) (h1 : (y 1).val = s) :
    grad m c y = ∑ k ∈ range (2048 * (7 + 1)), term m c i s k := by
  unfold grad
  rw [h0, h1, all_rows]

theorem final_wide : (dats m 0 c).arrAt 2 cfg0.N = grad m c := by
  refine Dat.arrAt_eq_of_covers (dats m 0 c) 2 (grad m c) (by decide +kernel) fun t ht y => ?_
  have h7 := (flush0_2 t).mp ht
  have e := (idx_at t).2.2.1
  blk_simp
  rw [after0_2]
  have hy : y = ix2 (y 0) (y 1) := by
    funext d
    match d with
    | ⟨0, _⟩ => rfl
    | ⟨1, _⟩ => rfl
  refine Eq.trans ?_ ((held m c t.val t rfl (y 0) (y 1)).trans ?_)
  · exact congrArg _ hy
  · rw [h7]
    refine (grad_of m c ?_ ?_).symm
    · refine (Pipeline.Window.rect_emb_val win0_2 t _ 0).trans ?_; rw [e]; exact at_zero rfl rfl
    · refine (Pipeline.Window.rect_emb_val win0_2 t _ 1).trans ?_; rw [e]; exact at_zero rfl rfl

theorem final_narrow : (dats m 0 c).arrAt 3 cfg0.N = grad m c := by
  refine Dat.arrAt_eq_of_covers (dats m 0 c) 3 (grad m c) (by decide +kernel) fun t ht y => ?_
  have h7 := (flush0_3 t).mp ht
  have e := (idx_at t).2.2.2
  blk_simp
  rw [after0_3]
  have hy : y = ix2 (y 0) (y 1) := by
    funext d
    match d with
    | ⟨0, _⟩ => rfl
    | ⟨1, _⟩ => rfl
  refine Eq.trans ?_ ((held_narrow m c t h7 (y 0) (y 1)).trans ((held m c t.val t rfl (y 0) (y 1)).trans ?_))
  · exact congrArg _ hy
  · rw [h7]
    refine (grad_of m c ?_ ?_).symm
    · refine (Pipeline.Window.rect_emb_val win0_3 t _ 0).trans ?_; rw [e]; exact at_zero rfl rfl
    · refine (Pipeline.Window.rect_emb_val win0_3 t _ 1).trans ?_; rw [e]; exact at_zero rfl rfl

/-- The merged branches, and the cotangents of their product. -/
abbrev merged : FVec Ideal S16384x1024 .f32 := m (c.tc.loc main_arg0)
abbrev cotangents : FVec Ideal S16384x1024 .f32 := m (c.tc.loc main_arg1)

theorem read_left : V m c main_v0 = truncf (F := Ideal) .bf16 (merged m c) bitsLt_bf16_f32 := by
  show StableHlo.after (List.flatten [hostOps0]) (fun b => m (c, b)) _ = _
  simp only [hostOps0, List.flatten_cons, List.flatten_nil, List.append_nil]
  after_results_simp

theorem read_right : V m c main_v1 = truncf (F := Ideal) .bf16 (cotangents m c) bitsLt_bf16_f32 := by
  show StableHlo.after (List.flatten [hostOps0]) (fun b => m (c, b)) _ = _
  simp only [hostOps0, List.flatten_cons, List.flatten_nil, List.append_nil]
  after_results_simp

theorem left_at (i : S16384x1024.Idx) : left m c (i 0).val (i 1).val = merged m c i := by
  unfold left
  rw [read_left]
  refine congrArg (merged m c) ?_
  funext d
  match d with
  | ⟨0, _⟩ => exact Fin.ext (Nat.mod_eq_of_lt (i 0).isLt)
  | ⟨1, _⟩ => exact Fin.ext (Nat.mod_eq_of_lt (i 1).isLt)

theorem right_at (i : S16384x1024.Idx) : right m c (i 0).val (i 1).val = cotangents m c i := by
  unfold right
  rw [read_right]
  refine congrArg (cotangents m c) ?_
  funext d
  match d with
  | ⟨0, _⟩ => exact Fin.ext (Nat.mod_eq_of_lt (i 0).isLt)
  | ⟨1, _⟩ => exact Fin.ext (Nat.mod_eq_of_lt (i 1).isLt)

theorem same : grad m c = val_main_v3 (F := Ideal) (merged m c) (cotangents m c) := by
  funext y
  rw [val_main_v3_apply, val_main_v2_apply]
  refine Finset.sum_congr rfl fun k _ => ?_
  rw [← left_at, ← right_at]
  exact mul_comm _ _

/-- Both arrays end as the reference's gradient. -/
theorem end_wide : (dats m 0 c).arrAt 2 cfg0.N = val_main_v3 (F := Ideal) (merged m c) (cotangents m c) :=
  (final_wide m c).trans (same m c)

theorem end_narrow : (dats m 0 c).arrAt 3 cfg0.N = val_main_v4 (F := Ideal) (merged m c) (cotangents m c) :=
  (final_narrow m c).trans (same m c)

end Cert.GradOutIdeal.Hand
end
-- ==== Proof.WG.Gate.lean ====
/-
  The gradient of `w_ple_gate`: its call is, but for the names, the call for `w_out`'s gradient, on operands of the same shapes,
  and its reference is that one's, so the runs and the values are taken from there.
-/
module

public import proofs.«01_k».proof.Defs
public import proofs.«01_k».proof.Proof.Gen.GradGate
public import proofs.«01_k».proof.Proof.Gen.GradGateIdeal
public import proofs.«01_k».proof.Proof.Gen.GateReferenceIdeal
public import proofs.«01_k».proof.Proof.Gen.GradOutIdeal.Value
public import proofs.«01_k».proof.Proof.Gen.OutReferenceIdeal.Run
public import proofs.«01_k».proof.Proof.WG.Out

@[expose] public section

noncomputable section

namespace Cert.Gate

open Idealize.ShloMosaic Idealize.SL.Sem

variable {F : FTy → Type} [FloatOps F]

/-- The idealized call's body is the body of the call for `w_out`. -/
theorem body_ideal : Cert.GradGateIdeal.defs₀ (F := F) = Cert.GradOutIdeal.defs₀ := by
  refine congrArg Defs.onTc ?_
  funext l a
  match l, a with
  | 0, (t, s) => rfl
  | ⟨_ + 1, h⟩, _ => exact absurd h (Nat.not_lt.2 (Nat.le_add_left _ _))

/-- So are all the functions it runs. -/
theorem defs_ideal : Cert.GradGateIdeal.defs (F := F) = Cert.GradOutIdeal.defs :=
  congrArg (Pipeline.defs _) body_ideal

/-- The same of the call before it is idealized, which has the same text. -/
theorem body_kernel : Cert.GradGate.defs₀ (F := F) = Cert.GradOutIdeal.defs₀ := by
  refine congrArg Defs.onTc ?_
  funext l a
  match l, a with
  | 0, (t, s) => rfl
  | ⟨_ + 1, h⟩, _ => exact absurd h (Nat.not_lt.2 (Nat.le_add_left _ _))

theorem defs_kernel : Cert.GradGate.defs (F := F) = Cert.GradOutIdeal.defs :=
  congrArg (Pipeline.defs _) body_kernel

/-- The call ends with its arguments as they were and every semaphore at zero. -/
theorem frame_kernel : @Cert.quiescent_GradGate Cert.GradGate.Gen.facts := by
  intro m ρ _
  rw [defs_kernel]
  exact Cert.GradOutIdeal.Gen.frame (F := Bits) m ρ

/-- So does the idealized call. -/
theorem frame_ideal : @Cert.quiescent_GradGateIdeal Cert.GradGateIdeal.Gen.facts := by
  intro m ρ _
  rw [defs_ideal]
  exact Cert.GradOutIdeal.Gen.frame (F := Ideal) m ρ

/-- And the reference, which has no semaphores. -/
theorem frame_reference : @Cert.quiescent_GateReferenceIdeal Cert.GateReferenceIdeal.Gen.facts :=
  fun m ρ _ => (θ_run Cert.OutReferenceIdeal.defs _ _).mono
    (fun r h => ⟨fun c => (h c).2.2, Idealize.ShloMosaic.sem_eq_zero_of_no_sems (by decide) r.2⟩)
    (Cert.OutReferenceIdeal.Value.run (F := Ideal) m ρ)

/-- What is claimed of `w_out`'s gradient and its reference, claimed of these. -/
theorem same_of_out (h : @Cert.algebraic_GradOutIdeal_OutReferenceIdeal Cert.GradOutIdeal.Gen.facts Cert.OutReferenceIdeal.Gen.facts) :
    @Cert.algebraic_GradGateIdeal_GateReferenceIdeal Cert.GradGateIdeal.Gen.facts Cert.GateReferenceIdeal.Gen.facts := by
  intro m g m' g' _ hArgs
  rw [defs_ideal]
  exact h m g m' g' trivial hArgs

end Cert.Gate

end
-- ==== Proof.lean ====
/- The assembly of the certificate of the attention, its gradient and the MLP weight gradients: each program's run, and the named constant. -/
module

public import proofs.«01_k».proof.Defs
public import proofs.«01_k».proof.Proof.K.Run
public import proofs.«01_k».proof.Proof.KI.Run
public import proofs.«01_k».proof.Proof.V.Tail
public import proofs.«01_k».proof.Proof.FI.Same
public import proofs.«01_k».proof.Proof.WG.SecondSame
public import proofs.«01_k».proof.Proof.WG.FirstSame
public import proofs.«01_k».proof.Proof.Gen.GradIn.Frame
public import proofs.«01_k».proof.Proof.Gen.InReferenceIdeal.Run
public import proofs.«01_k».proof.Proof.WG.In
public import proofs.«01_k».proof.Proof.Gen.Merge.Frame
public import proofs.«01_k».proof.Proof.Gen.MergeIdeal.Value
public import proofs.«01_k».proof.Proof.Gen.MergeReferenceIdeal.Run
public import proofs.«01_k».proof.Proof.Gen.MergeReferenceIdeal.Read
public import proofs.«01_k».proof.Proof.MG.Same
public import proofs.«01_k».proof.Proof.Gen.GradOut.Frame
public import proofs.«01_k».proof.Proof.Gen.OutReferenceIdeal.Run
public import proofs.«01_k».proof.Proof.WG.Out
public import proofs.«01_k».proof.Proof.Gen.GradGate
public import proofs.«01_k».proof.Proof.Gen.GradGateIdeal
public import proofs.«01_k».proof.Proof.Gen.GateReferenceIdeal
public import proofs.«01_k».proof.Proof.WG.Gate
public import proofs.«01_k».proof.Proof.Gen.GradFf2.Frame
public import proofs.«01_k».proof.Proof.Gen.GradFf2Ideal.Value
public import proofs.«01_k».proof.Proof.Gen.Ff2ReferenceIdeal.Run
public import proofs.«01_k».proof.Proof.Gen.Ff2ReferenceIdeal.Read
public import proofs.«01_k».proof.Proof.Gen.GradFf1.Frame
public import proofs.«01_k».proof.Proof.Gen.GradFf1Ideal.Value
public import proofs.«01_k».proof.Proof.Gen.Ff1ReferenceIdeal.Run
public import proofs.«01_k».proof.Proof.Gen.Ff1ReferenceIdeal.Read
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Gen.Forward
public import proofs.«01_k».proof.Proof.Gen.Forward.Skeleton
public import proofs.«01_k».proof.Proof.Gen.Forward.Loops
public import proofs.«01_k».proof.Proof.Gen.Forward.Launch
public import proofs.«01_k».proof.Proof.Gen.Forward.Points
public import proofs.«01_k».proof.Proof.Gen.Forward.Frame
public import proofs.«01_k».proof.Proof.Gen.ForwardIdeal
public import proofs.«01_k».proof.Proof.Gen.ForwardIdeal.Skeleton
public import proofs.«01_k».proof.Proof.Gen.ForwardIdeal.Loops
public import proofs.«01_k».proof.Proof.Gen.ForwardIdeal.Launch
public import proofs.«01_k».proof.Proof.Gen.ForwardIdeal.Points
public import proofs.«01_k».proof.Proof.Gen.ForwardIdeal.Frame
public import proofs.«01_k».proof.Proof.Gen.ForwardReferenceIdeal
public import proofs.«01_k».proof.Proof.Gen.ForwardReferenceIdeal.Run
public import proofs.«01_k».proof.Proof.Gen.ForwardReferenceIdeal.Read
public import proofs.«01_k».proof.Proof.Gen.Pre_finite_fwd

@[expose] public section

noncomputable section

namespace Cert.Proof

open Idealize.ShloMosaic Idealize.SL.Sem

/-- The kernel ends with its arguments as they were and every semaphore at zero. -/
theorem frame_kernel [Cert.Kernel.Facts] : Cert.quiescent_Kernel :=
  fun m ρ _ => Cert.Kernel.Hand.frame m ρ

/-- So does the idealized kernel. -/
theorem frame_ideal [Cert.KernelIdeal.Facts] : Cert.quiescent_KernelIdeal :=
  fun m ρ _ => Cert.KernelIdeal.Hand.frame m ρ

/-- And the reference, which has no semaphores. -/
theorem frame_reference : @Cert.quiescent_ReferenceIdeal Cert.ReferenceIdeal.Gen.facts :=
  fun m ρ _ => (θ_run Cert.ReferenceIdeal.defs _ _).mono
    (fun r h => ⟨fun c => (h c).2.2.2.2.2, Idealize.ShloMosaic.sem_eq_zero_of_no_sems (by decide) r.2⟩)
    (Cert.ReferenceIdeal.Value.run (F := Ideal) m ρ)

/-- The kernel's one named constant is the natural logarithm of two. -/
theorem constant_named : Cert.preserves_Kernel_KernelIdeal :=
  IdealRules.named_const.statement Cert.KernelIdeal.κ "ln_2" .f32 0x3F317218#32 ((Real.log 2 : ℝ) : EReal) rfl

/-- Of finite arguments, the idealized kernel and the reference end with the same five gradients. -/
theorem same_gradients : @Cert.algebraic_KernelIdeal_ReferenceIdeal_pre_finite Cert.KernelIdeal.Gen.facts Cert.ReferenceIdeal.Gen.facts
    Cert.Pre_finite.Gen.facts := by
  intro m g m' g' hPre hArgs
  have A := fun c : Dev Cert.KernelIdeal.nD => Cert.Attn.args_of (hPre c)
  refine ⟨fun c => Cert.ReferenceIdeal.Read.val_main_v69 (F := Ideal) (m (c.tc.loc Cert.KernelIdeal.main_arg0)) (m (c.tc.loc Cert.KernelIdeal.main_arg1))
      (m (c.tc.loc Cert.KernelIdeal.main_arg2)) (m (c.tc.loc Cert.KernelIdeal.main_arg3)) (m (c.tc.loc Cert.KernelIdeal.main_arg4)) (m (c.tc.loc Cert.KernelIdeal.main_arg5)),
    fun c => Cert.ReferenceIdeal.Read.val_main_v64 (F := Ideal) (m (c.tc.loc Cert.KernelIdeal.main_arg0)) (m (c.tc.loc Cert.KernelIdeal.main_arg1))
      (m (c.tc.loc Cert.KernelIdeal.main_arg2)) (m (c.tc.loc Cert.KernelIdeal.main_arg3)) (m (c.tc.loc Cert.KernelIdeal.main_arg4)) (m (c.tc.loc Cert.KernelIdeal.main_arg5)),
    fun c => Cert.ReferenceIdeal.Read.val_main_v67 (F := Ideal) (m (c.tc.loc Cert.KernelIdeal.main_arg0)) (m (c.tc.loc Cert.KernelIdeal.main_arg1))
      (m (c.tc.loc Cert.KernelIdeal.main_arg2)) (m (c.tc.loc Cert.KernelIdeal.main_arg3)) (m (c.tc.loc Cert.KernelIdeal.main_arg4)) (m (c.tc.loc Cert.KernelIdeal.main_arg5)),
    fun c => Cert.ReferenceIdeal.Read.val_main_v65 (F := Ideal) (m (c.tc.loc Cert.KernelIdeal.main_arg0)) (m (c.tc.loc Cert.KernelIdeal.main_arg1))
      (m (c.tc.loc Cert.KernelIdeal.main_arg2)) (m (c.tc.loc Cert.KernelIdeal.main_arg3)) (m (c.tc.loc Cert.KernelIdeal.main_arg4)) (m (c.tc.loc Cert.KernelIdeal.main_arg5)),
    fun c => Cert.ReferenceIdeal.Read.val_main_v46 (F := Ideal) (m (c.tc.loc Cert.KernelIdeal.main_arg0)) (m (c.tc.loc Cert.KernelIdeal.main_arg1))
      (m (c.tc.loc Cert.KernelIdeal.main_arg2)) (m (c.tc.loc Cert.KernelIdeal.main_arg3)) (m (c.tc.loc Cert.KernelIdeal.main_arg5)),
    (θ_run Cert.KernelIdeal.defs _ _).mono (fun r h c => ?_) (Cert.KernelIdeal.Hand.run_main m g),
    (θ_run Cert.ReferenceIdeal.defs _ _).mono (fun r h c => ?_) (Cert.ReferenceIdeal.Value.run (F := Ideal) m' g')⟩
  · exact ⟨((h.1 c).2 Cert.KernelIdeal.main_v74 (Pipeline.mem_restRefs_of _ (by decide) (by decide))).trans (Cert.KernelIdeal.Hand.end_74 (A c)),
      ((h.1 c).2 Cert.KernelIdeal.main_v75 (Pipeline.mem_restRefs_of _ (by decide) (by decide))).trans (Cert.KernelIdeal.Hand.end_75 (A c)),
      ((h.1 c).2 Cert.KernelIdeal.main_v76 (Pipeline.mem_restRefs_of _ (by decide) (by decide))).trans (Cert.KernelIdeal.Hand.end_76 (A c)),
      ((h.1 c).2 Cert.KernelIdeal.main_v78 (Pipeline.mem_restRefs_of _ (by decide) (by decide))).trans (Cert.KernelIdeal.Hand.end_78 (A c)),
      ((h.1 c).2 Cert.KernelIdeal.main_v79 (Pipeline.mem_restRefs_of _ (by decide) (by decide))).trans (Cert.KernelIdeal.Hand.end_79 (A c)),
      ((h.1 c).2 Cert.KernelIdeal.main_arg0 (Pipeline.mem_restRefs_of _ (by decide) (by decide))).trans (Cert.KernelIdeal.Gen.W_main_arg0 m (Cert.KernelIdeal.Hand.dats m) c),
      ((h.1 c).2 Cert.KernelIdeal.main_arg1 (Pipeline.mem_restRefs_of _ (by decide) (by decide))).trans (Cert.KernelIdeal.Gen.W_main_arg1 m (Cert.KernelIdeal.Hand.dats m) c),
      ((h.1 c).2 Cert.KernelIdeal.main_arg2 (Pipeline.mem_restRefs_of _ (by decide) (by decide))).trans (Cert.KernelIdeal.Gen.W_main_arg2 m (Cert.KernelIdeal.Hand.dats m) c),
      ((h.1 c).2 Cert.KernelIdeal.main_arg3 (Pipeline.mem_restRefs_of _ (by decide) (by decide))).trans (Cert.KernelIdeal.Gen.W_main_arg3 m (Cert.KernelIdeal.Hand.dats m) c),
      ((h.1 c).2 Cert.KernelIdeal.main_arg4 (Pipeline.mem_restRefs_of _ (by decide) (by decide))).trans (Cert.KernelIdeal.Gen.W_main_arg4 m (Cert.KernelIdeal.Hand.dats m) c),
      ((h.1 c).2 Cert.KernelIdeal.main_arg5 (Pipeline.mem_restRefs_of _ (by decide) (by decide))).trans (Cert.KernelIdeal.Gen.W_main_arg5 m (Cert.KernelIdeal.Hand.dats m) c)⟩
  · obtain ⟨e69, e64, e67, e65, e46, hrest⟩ := h c
    obtain ⟨a0, a1, a2, a3, a4, a5⟩ := hArgs c
    rw [Cert.ReferenceIdeal.Read.val_main_v69_eq, a0, a1, a2, a3, a4, a5] at e69
    rw [Cert.ReferenceIdeal.Read.val_main_v64_eq, a0, a1, a2, a3, a4, a5] at e64
    rw [Cert.ReferenceIdeal.Read.val_main_v67_eq, a0, a1, a2, a3, a4, a5] at e67
    rw [Cert.ReferenceIdeal.Read.val_main_v65_eq, a0, a1, a2, a3, a4, a5] at e65
    rw [Cert.ReferenceIdeal.Read.val_main_v46_eq, a0, a1, a2, a3, a5] at e46
    exact ⟨e69, e64, e67, e65, e46, hrest⟩

/-- The forward reference ends with its arguments as they were. -/
theorem frame_forward_reference : @Cert.quiescent_ForwardReferenceIdeal Cert.ForwardReferenceIdeal.Gen.facts :=
  fun m ρ _ => (θ_run Cert.ForwardReferenceIdeal.defs _ _).mono
    (fun r h => ⟨fun c => (h c).2.2, Idealize.ShloMosaic.sem_eq_zero_of_no_sems (by decide) r.2⟩)
    (Cert.ForwardReferenceIdeal.Value.run (F := Ideal) m ρ)

/-- Of finite arguments, the idealized forward call and its reference end with the same output and the same logarithms. -/
theorem same_attention : @Cert.algebraic_ForwardIdeal_ForwardReferenceIdeal_pre_finite_fwd Cert.ForwardIdeal.Gen.facts Cert.ForwardReferenceIdeal.Gen.facts
    Cert.Pre_finite_fwd.Gen.facts := by
  intro m g m' g' hPre hArgs
  have A := fun c : Dev Cert.ForwardIdeal.nD => Cert.Attn.Forward.args_of (hPre c)
  refine ⟨fun c => Cert.ForwardReferenceIdeal.Read.val_main_v33 (F := Ideal) (m (c.tc.loc Cert.ForwardIdeal.main_arg0)) (m (c.tc.loc Cert.ForwardIdeal.main_arg1)) (m (c.tc.loc Cert.ForwardIdeal.main_arg2)) (m (c.tc.loc Cert.ForwardIdeal.main_arg3)) (m (c.tc.loc Cert.ForwardIdeal.main_arg4)),
    fun c => Cert.ForwardReferenceIdeal.Read.val_main_v36 (F := Ideal) (m (c.tc.loc Cert.ForwardIdeal.main_arg0)) (m (c.tc.loc Cert.ForwardIdeal.main_arg1)) (m (c.tc.loc Cert.ForwardIdeal.main_arg2)) (m (c.tc.loc Cert.ForwardIdeal.main_arg3)),
    (θ_run Cert.ForwardIdeal.defs _ _).mono (fun r h c => ?_) (Cert.ForwardIdeal.Gen.run_main m g),
    (θ_run Cert.ForwardReferenceIdeal.defs _ _).mono (fun r h c => ?_) (Cert.ForwardReferenceIdeal.Value.run (F := Ideal) m' g')⟩
  · exact ⟨((h c).2 Cert.ForwardIdeal.main_v26 (Pipeline.mem_restRefs_of _ (by decide) (by decide))).trans
        ((Cert.ForwardIdeal.Hand.end_26 (A c)).trans (Cert.ForwardIdeal.Hand.same_out (A c))),
      ((h c).2 Cert.ForwardIdeal.main_v27 (Pipeline.mem_restRefs_of _ (by decide) (by decide))).trans
        ((Cert.ForwardIdeal.Hand.end_27 (A c)).trans (Cert.ForwardIdeal.Hand.same_log (A c))),
      ((h c).2 Cert.ForwardIdeal.main_arg0 (Pipeline.mem_restRefs_of _ (by decide) (by decide))).trans (Cert.ForwardIdeal.Gen.W_main_arg0 m (Cert.ForwardIdeal.Gen.dats m) c),
      ((h c).2 Cert.ForwardIdeal.main_arg1 (Pipeline.mem_restRefs_of _ (by decide) (by decide))).trans (Cert.ForwardIdeal.Gen.W_main_arg1 m (Cert.ForwardIdeal.Gen.dats m) c),
      ((h c).2 Cert.ForwardIdeal.main_arg2 (Pipeline.mem_restRefs_of _ (by decide) (by decide))).trans (Cert.ForwardIdeal.Gen.W_main_arg2 m (Cert.ForwardIdeal.Gen.dats m) c),
      ((h c).2 Cert.ForwardIdeal.main_arg3 (Pipeline.mem_restRefs_of _ (by decide) (by decide))).trans (Cert.ForwardIdeal.Gen.W_main_arg3 m (Cert.ForwardIdeal.Gen.dats m) c),
      ((h c).2 Cert.ForwardIdeal.main_arg4 (Pipeline.mem_restRefs_of _ (by decide) (by decide))).trans (Cert.ForwardIdeal.Gen.W_main_arg4 m (Cert.ForwardIdeal.Gen.dats m) c)⟩
  · obtain ⟨e33, e36, hrest⟩ := h c
    obtain ⟨a0, a1, a2, a3, a4⟩ := hArgs c
    rw [Cert.ForwardReferenceIdeal.Read.val_main_v33_eq, a0, a1, a2, a3, a4] at e33
    rw [Cert.ForwardReferenceIdeal.Read.val_main_v36_eq, a0, a1, a2, a3] at e36
    exact ⟨e33, e36, hrest⟩

/-- The reference of the second weight's gradient ends with its arguments as they were. -/
theorem frame_second_reference : @Cert.quiescent_Ff2ReferenceIdeal Cert.Ff2ReferenceIdeal.Gen.facts :=
  fun m ρ _ => (θ_run Cert.Ff2ReferenceIdeal.defs _ _).mono
    (fun r h => ⟨fun c => (h c).2.2, Idealize.ShloMosaic.sem_eq_zero_of_no_sems (by decide) r.2⟩)
    (Cert.Ff2ReferenceIdeal.Value.run (F := Ideal) m ρ)

/-- Of any arguments, the idealized call for the second weight's gradient and its reference end with the same gradient, in both types. -/
theorem same_second : @Cert.algebraic_GradFf2Ideal_Ff2ReferenceIdeal Cert.GradFf2Ideal.Gen.facts Cert.Ff2ReferenceIdeal.Gen.facts := by
  intro m g m' g' _ hArgs
  refine ⟨fun c => Cert.Ff2ReferenceIdeal.Read.val_main_v5 (F := Ideal) (m (c.tc.loc Cert.GradFf2Ideal.main_arg0)) (m (c.tc.loc Cert.GradFf2Ideal.main_arg1)),
    fun c => Cert.Ff2ReferenceIdeal.Read.val_main_v6 (F := Ideal) (m (c.tc.loc Cert.GradFf2Ideal.main_arg0)) (m (c.tc.loc Cert.GradFf2Ideal.main_arg1)),
    (θ_run Cert.GradFf2Ideal.defs _ _).mono (fun r h c => ?_) (Cert.GradFf2Ideal.Value.run_blocks m g),
    (θ_run Cert.Ff2ReferenceIdeal.defs _ _).mono (fun r h c => ?_) (Cert.Ff2ReferenceIdeal.Value.run (F := Ideal) m' g')⟩
  · obtain ⟨e0, e1, hrest⟩ := h c
    exact ⟨e0.trans (Cert.GradFf2Ideal.Hand.end_wide m c), e1.trans (Cert.GradFf2Ideal.Hand.end_narrow m c), hrest⟩
  · obtain ⟨e5, e6, hrest⟩ := h c
    obtain ⟨a0, a1⟩ := hArgs c
    rw [Cert.Ff2ReferenceIdeal.Read.val_main_v5_eq, a0, a1] at e5
    rw [Cert.Ff2ReferenceIdeal.Read.val_main_v6_eq, a0, a1] at e6
    exact ⟨e5, e6, hrest⟩

/-- The reference of the first weight's gradient ends with its arguments as they were. -/
theorem frame_first_reference : @Cert.quiescent_Ff1ReferenceIdeal Cert.Ff1ReferenceIdeal.Gen.facts :=
  fun m ρ _ => (θ_run Cert.Ff1ReferenceIdeal.defs _ _).mono
    (fun r h => ⟨fun c => (h c).2.2, Idealize.ShloMosaic.sem_eq_zero_of_no_sems (by decide) r.2⟩)
    (Cert.Ff1ReferenceIdeal.Value.run (F := Ideal) m ρ)

/-- Of any arguments, the idealized call for the first weight's gradient and its reference end with the same gradient, in both types. -/
theorem same_first : @Cert.algebraic_GradFf1Ideal_Ff1ReferenceIdeal Cert.GradFf1Ideal.Gen.facts Cert.Ff1ReferenceIdeal.Gen.facts := by
  intro m g m' g' _ hArgs
  refine ⟨fun c => Cert.Ff1ReferenceIdeal.Read.val_main_v5 (F := Ideal) (m (c.tc.loc Cert.GradFf1Ideal.main_arg0)) (m (c.tc.loc Cert.GradFf1Ideal.main_arg1)),
    fun c => Cert.Ff1ReferenceIdeal.Read.val_main_v6 (F := Ideal) (m (c.tc.loc Cert.GradFf1Ideal.main_arg0)) (m (c.tc.loc Cert.GradFf1Ideal.main_arg1)),
    (θ_run Cert.GradFf1Ideal.defs _ _).mono (fun r h c => ?_) (Cert.GradFf1Ideal.Value.run_blocks m g),
    (θ_run Cert.Ff1ReferenceIdeal.defs _ _).mono (fun r h c => ?_) (Cert.Ff1ReferenceIdeal.Value.run (F := Ideal) m' g')⟩
  · obtain ⟨e0, e1, hrest⟩ := h c
    exact ⟨e0.trans (Cert.GradFf1Ideal.Hand.end_wide m c), e1.trans (Cert.GradFf1Ideal.Hand.end_narrow m c), hrest⟩
  · obtain ⟨e5, e6, hrest⟩ := h c
    obtain ⟨a0, a1⟩ := hArgs c
    rw [Cert.Ff1ReferenceIdeal.Read.val_main_v5_eq, a0, a1] at e5
    rw [Cert.Ff1ReferenceIdeal.Read.val_main_v6_eq, a0, a1] at e6
    exact ⟨e5, e6, hrest⟩

/-- The reference of the joint weight's gradient ends with its arguments as they were. -/
theorem frame_in_reference : @Cert.quiescent_InReferenceIdeal Cert.InReferenceIdeal.Gen.facts :=
  fun m ρ _ => (θ_run Cert.InReferenceIdeal.defs _ _).mono
    (fun r h => ⟨fun c => (h c).2, Idealize.ShloMosaic.sem_eq_zero_of_no_sems (by decide) r.2⟩)
    (Cert.InReferenceIdeal.Value.run (F := Ideal) m ρ)

/-- Of any arguments, the idealized call for the projections' joint weight and its reference end with the same gradient. -/
theorem same_in : @Cert.algebraic_GradInIdeal_InReferenceIdeal Cert.GradInIdeal.Gen.facts Cert.InReferenceIdeal.Gen.facts := by
  intro m g m' g' _ hArgs
  refine ⟨fun c => Cert.InReferenceIdeal.Read.val_main_v3 (F := Ideal) (m (c.tc.loc Cert.GradInIdeal.main_arg0)) (m (c.tc.loc Cert.GradInIdeal.main_arg1)),
    (θ_run Cert.GradInIdeal.defs _ _).mono (fun r h c => ?_) (Cert.GradInIdeal.Value.run_blocks m g),
    (θ_run Cert.InReferenceIdeal.defs _ _).mono (fun r h c => ?_) (Cert.InReferenceIdeal.Value.run (F := Ideal) m' g')⟩
  · obtain ⟨e0, hrest⟩ := h c
    exact ⟨e0.trans (Cert.GradInIdeal.Hand.end_grad m c), hrest⟩
  · obtain ⟨e3, hrest⟩ := h c
    obtain ⟨a0, a1⟩ := hArgs c
    rw [Cert.InReferenceIdeal.Read.val_main_v3_eq, a0, a1] at e3
    exact ⟨e3, hrest⟩

/-- The reference of `w_out`'s gradient ends with its arguments as they were. -/
theorem frame_out_reference : @Cert.quiescent_OutReferenceIdeal Cert.OutReferenceIdeal.Gen.facts :=
  fun m ρ _ => (θ_run Cert.OutReferenceIdeal.defs _ _).mono
    (fun r h => ⟨fun c => (h c).2.2, Idealize.ShloMosaic.sem_eq_zero_of_no_sems (by decide) r.2⟩)
    (Cert.OutReferenceIdeal.Value.run (F := Ideal) m ρ)

/-- Of any arguments, the idealized call for `w_out` and its reference end with the same gradient, in both types. -/
theorem same_out : @Cert.algebraic_GradOutIdeal_OutReferenceIdeal Cert.GradOutIdeal.Gen.facts Cert.OutReferenceIdeal.Gen.facts := by
  intro m g m' g' _ hArgs
  refine ⟨fun c => Cert.OutReferenceIdeal.Read.val_main_v3 (F := Ideal) (m (c.tc.loc Cert.GradOutIdeal.main_arg0)) (m (c.tc.loc Cert.GradOutIdeal.main_arg1)),
    fun c => Cert.OutReferenceIdeal.Read.val_main_v4 (F := Ideal) (m (c.tc.loc Cert.GradOutIdeal.main_arg0)) (m (c.tc.loc Cert.GradOutIdeal.main_arg1)),
    (θ_run Cert.GradOutIdeal.defs _ _).mono (fun r h c => ?_) (Cert.GradOutIdeal.Value.run_blocks m g),
    (θ_run Cert.OutReferenceIdeal.defs _ _).mono (fun r h c => ?_) (Cert.OutReferenceIdeal.Value.run (F := Ideal) m' g')⟩
  · obtain ⟨e0, e1, hrest⟩ := h c
    exact ⟨e0.trans (Cert.GradOutIdeal.Hand.end_wide m c), e1.trans (Cert.GradOutIdeal.Hand.end_narrow m c), hrest⟩
  · obtain ⟨e3, e4, hrest⟩ := h c
    obtain ⟨a0, a1⟩ := hArgs c
    rw [Cert.OutReferenceIdeal.Read.val_main_v3_eq, a0, a1] at e3
    rw [Cert.OutReferenceIdeal.Read.val_main_v4_eq, a0, a1] at e4
    exact ⟨e3, e4, hrest⟩

/-- The reference of the merge ends with its arguments as they were. -/
theorem frame_merge_reference : @Cert.quiescent_MergeReferenceIdeal Cert.MergeReferenceIdeal.Gen.facts :=
  fun m ρ _ => (θ_run Cert.MergeReferenceIdeal.defs _ _).mono
    (fun r h => ⟨fun c => (h c).2.2.2.2.2, Idealize.ShloMosaic.sem_eq_zero_of_no_sems (by decide) r.2⟩)
    (Cert.MergeReferenceIdeal.Value.run (F := Ideal) m ρ)

/-- Of any arguments, the idealized merge of the two branches and its reference end with the same five results. -/
theorem same_merge : @Cert.algebraic_MergeIdeal_MergeReferenceIdeal Cert.MergeIdeal.Gen.facts Cert.MergeReferenceIdeal.Gen.facts := by
  intro m g m' g' _ hArgs
  refine ⟨fun c => Cert.MergeReferenceIdeal.Read.val_main_v22 (F := Ideal) (m (c.tc.loc Cert.MergeIdeal.main_arg0)) (m (c.tc.loc Cert.MergeIdeal.main_arg1)) (m (c.tc.loc Cert.MergeIdeal.main_arg2)) (m (c.tc.loc Cert.MergeIdeal.main_arg5)) (m (c.tc.loc Cert.MergeIdeal.main_arg6)),
    fun c => Cert.MergeReferenceIdeal.Read.val_main_v23 (F := Ideal) (m (c.tc.loc Cert.MergeIdeal.main_arg0)) (m (c.tc.loc Cert.MergeIdeal.main_arg5)),
    fun c => Cert.MergeReferenceIdeal.Read.val_main_v24 (F := Ideal) (m (c.tc.loc Cert.MergeIdeal.main_arg1)) (m (c.tc.loc Cert.MergeIdeal.main_arg6)),
    fun c => Cert.MergeReferenceIdeal.Read.val_main_v7 (F := Ideal) (m (c.tc.loc Cert.MergeIdeal.main_arg0)) (m (c.tc.loc Cert.MergeIdeal.main_arg1)) (m (c.tc.loc Cert.MergeIdeal.main_arg2)) (m (c.tc.loc Cert.MergeIdeal.main_arg5)) (m (c.tc.loc Cert.MergeIdeal.main_arg6)) (m (c.tc.loc Cert.MergeIdeal.main_arg7)),
    fun c => Cert.MergeReferenceIdeal.Read.val_main_v21 (F := Ideal) (m (c.tc.loc Cert.MergeIdeal.main_arg0)) (m (c.tc.loc Cert.MergeIdeal.main_arg1)) (m (c.tc.loc Cert.MergeIdeal.main_arg2)) (m (c.tc.loc Cert.MergeIdeal.main_arg3)) (m (c.tc.loc Cert.MergeIdeal.main_arg4)) (m (c.tc.loc Cert.MergeIdeal.main_arg5)) (m (c.tc.loc Cert.MergeIdeal.main_arg6)) (m (c.tc.loc Cert.MergeIdeal.main_arg7)),
    (θ_run Cert.MergeIdeal.defs _ _).mono (fun r h c => ?_) (Cert.MergeIdeal.Value.run_blocks m g),
    (θ_run Cert.MergeReferenceIdeal.defs _ _).mono (fun r h c => ?_) (Cert.MergeReferenceIdeal.Value.run (F := Ideal) m' g')⟩
  · obtain ⟨e0, e1, e2, e3, e4, hrest⟩ := h c
    exact ⟨e0.trans (Cert.MergeIdeal.Hand.end_merged m c), e1.trans (Cert.MergeIdeal.Hand.end_first m c),
      e2.trans (Cert.MergeIdeal.Hand.end_second m c), e3.trans (Cert.MergeIdeal.Hand.end_mixed m c),
      e4.trans (Cert.MergeIdeal.Hand.end_next m c), hrest⟩
  · obtain ⟨e22, e23, e24, e7, e21, hrest⟩ := h c
    obtain ⟨a0, a1, a2, a3, a4, a5, a6, a7⟩ := hArgs c
    rw [Cert.MergeReferenceIdeal.Read.val_main_v22_eq, a0, a1, a2, a5, a6] at e22
    rw [Cert.MergeReferenceIdeal.Read.val_main_v23_eq, a0, a5] at e23
    rw [Cert.MergeReferenceIdeal.Read.val_main_v24_eq, a1, a6] at e24
    rw [Cert.MergeReferenceIdeal.Read.val_main_v7_eq, a0, a1, a2, a5, a6, a7] at e7
    rw [Cert.MergeReferenceIdeal.Read.val_main_v21_eq, a0, a1, a2, a3, a4, a5, a6, a7] at e21
    exact ⟨e22, e23, e24, e7, e21, hrest⟩

theorem claim : Cert.Claim :=
  ⟨Cert.Kernel.Gen.facts, Cert.KernelIdeal.Gen.facts, Cert.ReferenceIdeal.Gen.facts, Cert.Forward.Gen.facts, Cert.ForwardIdeal.Gen.facts,
    Cert.ForwardReferenceIdeal.Gen.facts, Cert.GradFf2.Gen.facts, Cert.GradFf2Ideal.Gen.facts, Cert.Ff2ReferenceIdeal.Gen.facts,
    Cert.GradFf1.Gen.facts, Cert.GradFf1Ideal.Gen.facts, Cert.Ff1ReferenceIdeal.Gen.facts,
    Cert.GradIn.Gen.facts, Cert.GradInIdeal.Gen.facts, Cert.InReferenceIdeal.Gen.facts,
    Cert.GradOut.Gen.facts, Cert.GradOutIdeal.Gen.facts, Cert.OutReferenceIdeal.Gen.facts,
    Cert.Merge.Gen.facts, Cert.MergeIdeal.Gen.facts, Cert.MergeReferenceIdeal.Gen.facts,
    Cert.GradGate.Gen.facts, Cert.GradGateIdeal.Gen.facts, Cert.GateReferenceIdeal.Gen.facts, Cert.Pre_finite.Gen.facts, Cert.Pre_finite_fwd.Gen.facts,
    @frame_kernel Cert.Kernel.Gen.facts, @frame_ideal Cert.KernelIdeal.Gen.facts,
    fun m ρ _ => Cert.KernelIdeal.Hand.frame m ρ, frame_reference,
    fun m ρ _ => frame_reference m ρ trivial,
    fun m ρ _ => Cert.Forward.Gen.frame m ρ, fun m ρ _ => Cert.ForwardIdeal.Gen.frame m ρ, fun m ρ _ => Cert.ForwardIdeal.Gen.frame m ρ,
    frame_forward_reference, fun m ρ _ => frame_forward_reference m ρ trivial,
    fun m ρ _ => Cert.GradFf2.Gen.frame m ρ, fun m ρ _ => Cert.GradFf2Ideal.Gen.frame m ρ, frame_second_reference,
    fun m ρ _ => Cert.GradFf1.Gen.frame m ρ, fun m ρ _ => Cert.GradFf1Ideal.Gen.frame m ρ, frame_first_reference,
    fun m ρ _ => Cert.GradIn.Gen.frame m ρ, fun m ρ _ => Cert.GradInIdeal.Gen.frame m ρ, frame_in_reference,
    fun m ρ _ => Cert.GradOut.Gen.frame m ρ, fun m ρ _ => Cert.GradOutIdeal.Gen.frame m ρ, frame_out_reference,
    fun m ρ _ => Cert.Merge.Gen.frame m ρ, fun m ρ _ => Cert.MergeIdeal.Gen.frame m ρ, frame_merge_reference,
    Cert.Gate.frame_kernel, Cert.Gate.frame_ideal, Cert.Gate.frame_reference,
    constant_named, same_gradients, trivial, same_attention, trivial, same_second, trivial, same_first, trivial, same_in, trivial, same_out,
    trivial, same_merge, trivial, Cert.Gate.same_of_out same_out⟩

end Cert.Proof

end
